-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "sm_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_v160) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16384x4096 : Shape := ⟨3, ![2, 16384, 4096]⟩
abbrev S2x16384x1024 : Shape := ⟨3, ![2, 16384, 1024]⟩
abbrev S2x8 : Shape := ⟨2, ![2, 8]⟩
abbrev S32 : Shape := ⟨1, ![32]⟩
abbrev S_ : Shape := ⟨0, ![]⟩

class Facts : Prop where
  bitsLt_bf16_f32 : FTy.bits .bf16 < FTy.bits .f32
  bcast_S_S2x16384x4096 : S_.BroadcastsInDim S2x16384x4096 (![] : Fin 0 → Fin S2x16384x4096.rank)
  reducesTo_S2x16384x4096_S_d0_1_2 : S2x16384x4096.ReducesTo [0, 1, 2] S_
  h_S_ : 0 < S_.numel
  bcast_S_S2x16384x1024 : S_.BroadcastsInDim S2x16384x1024 (![] : Fin 0 → Fin S2x16384x1024.rank)
  reducesTo_S2x16384x1024_S_d0_1_2 : S2x16384x1024.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2x16384x4096 .bf16) (main_arg1 : FVec F S2x16384x1024 .bf16) (main_arg2 : FVec F S2x16384x1024 .bf16) (main_arg3 : FVec F S2x8 .f32) (main_arg4 : FVec F S32 .f32) : IVec S_ 1 :=
  let main_v0 : FVec F S2x16384x4096 .f32 := (extf .f32 · bitsLt_bf16_f32) main_arg0
  let main_v1 : FVec F S2x16384x4096 .f32 := Host.absf main_v0
  let main_cst : FVec F S_ .f32 := constant S_ .f32 0x7F7F0000#32
  let main_v2 : FVec F S2x16384x4096 .f32 := broadcastInDim S2x16384x4096 ![] bcast_S_S2x16384x4096 main_cst
  let main_v3 : IVec S2x16384x4096 1 := cmpf .ole main_v1 main_v2
  let main_c : IVec S_ 1 := constantI S_ 1 1#1
  let main_v4 : IVec S_ 1 := (fun x v => Host.reduce IntOp.andi x v reducesTo_S2x16384x4096_S_d0_1_2 h_S_) main_v3 main_c
  let main_v5 : FVec F S2x16384x1024 .f32 := (extf .f32 · bitsLt_bf16_f32) main_arg1
  let main_v6 : FVec F S2x16384x1024 .f32 := Host.absf main_v5
  let main_cst_0 : FVec F S_ .f32 := constant S_ .f32 0x7F7F0000#32
  let main_v7 : FVec F S2x16384x1024 .f32 := broadcastInDim S2x16384x1024 ![] bcast_S_S2x16384x1024 main_cst_0
  let main_v8 : IVec S2x16384x1024 1 := cmpf .ole main_v6 main_v7
  let main_c_1 : IVec S_ 1 := constantI S_ 1 1#1
  let main_v9 : IVec S_ 1 := (fun x v => Host.reduce IntOp.andi x v reducesTo_S2x16384x1024_S_d0_1_2 h_S_) main_v8 main_c_1
  let main_v10 : IVec S_ 1 := andi main_v4 main_v9
  let main_cst_2 : FVec F S_ .f32 := constant S_ .f32 0x7F800000#32
  let main_v11 : FVec F S32 .f32 := broadcastInDim S32 ![] bcast_S_S32 main_cst_2
  let main_v12 : IVec S32 1 := cmpf .olt main_arg4 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v10 main_v13
  main_v14
-- ==== Kernel.lean ====
abbrev S2x16384x4096 : Shape := ⟨3, ![2, 16384, 4096]⟩
abbrev S2x16384x1024 : Shape := ⟨3, ![2, 16384, 1024]⟩
abbrev S2x8 : Shape := ⟨2, ![2, 8]⟩
abbrev S32 : Shape := ⟨1, ![32]⟩
abbrev S2x8x1x1 : Shape := ⟨4, ![2, 8, 1, 1]⟩
abbrev S2x8x8x128 : Shape := ⟨4, ![2, 8, 8, 128]⟩
abbrev S8x4 : Shape := ⟨2, ![8, 4]⟩
abbrev S8x4x128 : Shape := ⟨3, ![8, 4, 128]⟩
abbrev S8x512 : Shape := ⟨2, ![8, 512]⟩
abbrev S8x1x512 : Shape := ⟨3, ![8, 1, 512]⟩
abbrev S8x8x512 : Shape := ⟨3, ![8, 8, 512]⟩
abbrev S2x16384x32 : Shape := ⟨3, ![2, 16384, 32]⟩
abbrev S2x16384x8 : Shape := ⟨3, ![2, 16384, 8]⟩
abbrev S1x256x4096 : Shape := ⟨3, ![1, 256, 4096]⟩
abbrev S1x256x1024 : Shape := ⟨3, ![1, 256, 1024]⟩
abbrev S1x8x8x128 : Shape := ⟨4, ![1, 8, 8, 128]⟩
abbrev S1x256x32 : Shape := ⟨3, ![1, 256, 32]⟩
abbrev S1x256x8 : Shape := ⟨3, ![1, 256, 8]⟩
abbrev S8x1280x128 : Shape := ⟨3, ![8, 1280, 128]⟩
abbrev S8x5x128x256 : Shape := ⟨4, ![8, 5, 128, 256]⟩
abbrev S2x8x8x512 : Shape := ⟨4, ![2, 8, 8, 512]⟩
abbrev S5x256x512 : Shape := ⟨3, ![5, 256, 512]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1x256 : Shape := ⟨3, ![256, 1, 256]⟩
abbrev S256x1x1 : Shape := ⟨3, ![256, 1, 1]⟩
abbrev S1x256x1 : Shape := ⟨3, ![1, 256, 1]⟩
abbrev S1x1x1x128 : Shape := ⟨4, ![1, 1, 1, 128]⟩
abbrev S1x128 : Shape := ⟨2, ![1, 128]⟩
abbrev S128x256 : Shape := ⟨2, ![128, 256]⟩
abbrev S1x128x256 : Shape := ⟨3, ![1, 128, 256]⟩
abbrev S1x1x128x256 : Shape := ⟨4, ![1, 1, 128, 256]⟩
abbrev S256x32 : Shape := ⟨2, ![256, 32]⟩
abbrev S32x256 : Shape := ⟨2, ![32, 256]⟩
abbrev S8x128 : Shape := ⟨2, ![8, 128]⟩
abbrev S1x1x8x128 : Shape := ⟨4, ![1, 1, 8, 128]⟩
abbrev S128x512 : Shape := ⟨2, ![128, 512]⟩
abbrev S1x128x128 : Shape := ⟨3, ![1, 128, 128]⟩
abbrev S128x128 : Shape := ⟨2, ![128, 128]⟩
abbrev S512x128 : Shape := ⟨2, ![512, 128]⟩
abbrev S1x1x8x512 : Shape := ⟨4, ![1, 1, 8, 512]⟩
abbrev S16x8x512 : Shape := ⟨3, ![16, 8, 512]⟩
abbrev S1x128x512 : Shape := ⟨3, ![1, 128, 512]⟩
abbrev S256x512 : Shape := ⟨2, ![256, 512]⟩
abbrev S1x256x512 : Shape := ⟨3, ![1, 256, 512]⟩
abbrev S32x8x512 : Shape := ⟨3, ![32, 8, 512]⟩
abbrev S512 : Shape := ⟨1, ![512]⟩
abbrev S1x512 : Shape := ⟨2, ![1, 512]⟩
abbrev S1x8x512 : Shape := ⟨3, ![1, 8, 512]⟩
abbrev S8x512x256 : Shape := ⟨3, ![8, 512, 256]⟩
abbrev S8x512x1 : Shape := ⟨3, ![8, 512, 1]⟩
abbrev S128x1280 : Shape := ⟨2, ![128, 1280]⟩
abbrev S1280x512 : Shape := ⟨2, ![1280, 512]⟩

abbrev nBuf : Space → Nat
  | .hbm => 18
  | .vmem => 27
  | .smem => 0
  | _ => 0

abbrev bufTy : (tb : Table) → Fin (tcTables nBuf tb) → BufTy
  | .hbm, ⟨0, _⟩ => ⟨S2x16384x4096, .bf16⟩
  | .hbm, ⟨1, _⟩ => ⟨S2x16384x1024, .bf16⟩
  | .hbm, ⟨2, _⟩ => ⟨S2x16384x1024, .bf16⟩
  | .hbm, ⟨3, _⟩ => ⟨S2x8, .f32⟩
  | .hbm, ⟨4, _⟩ => ⟨S32, .f32⟩
  | .hbm, ⟨5, _⟩ => ⟨S2x8x1x1, .f32⟩
  | .hbm, ⟨6, _⟩ => ⟨S2x8x8x128, .f32⟩
  | .hbm, ⟨7, _⟩ => ⟨S8x4, .f32⟩
  | .hbm, ⟨8, _⟩ => ⟨S8x4x128, .f32⟩
  | .hbm, ⟨9, _⟩ => ⟨S8x512, .f32⟩
  | .hbm, ⟨10, _⟩ => ⟨S8x1x512, .f32⟩
  | .hbm, ⟨11, _⟩ => ⟨S8x8x512, .f32⟩
  | .hbm, ⟨12, _⟩ => ⟨S2x16384x4096, .bf16⟩
  | .hbm, ⟨13, _⟩ => ⟨S2x16384x4096, .fp8e4m3⟩
  | .hbm, ⟨14, _⟩ => ⟨S2x16384x32, .f32⟩
  | .hbm, ⟨15, _⟩ => ⟨S2x16384x1024, .fp8e4m3⟩
  | .hbm, ⟨16, _⟩ => ⟨S2x16384x8, .f32⟩
  | .hbm, ⟨17, _⟩ => ⟨S2x16384x1024, .fp8e4m3⟩
  | .local _ .vmem, ⟨0, _⟩ => ⟨S1x256x4096, .bf16⟩
  | .local _ .vmem, ⟨1, _⟩ => ⟨S1x256x4096, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x8x8x128, .f32⟩
  | .local _ .vmem, ⟨7, _⟩ => ⟨S1x8x8x128, .f32⟩
  | .local _ .vmem, ⟨8, _⟩ => ⟨S8x8x512, .f32⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .fp8e4m3⟩
  | .local _ .vmem, ⟨12, _⟩ => ⟨S1x256x4096, .fp8e4m3⟩
  | .local _ .vmem, ⟨13, _⟩ => ⟨S1x256x32, .f32⟩
  | .local _ .vmem, ⟨14, _⟩ => ⟨S1x256x32, .f32⟩
  | .local _ .vmem, ⟨15, _⟩ => ⟨S1x256x1024, .fp8e4m3⟩
  | .local _ .vmem, ⟨16, _⟩ => ⟨S1x256x1024, .fp8e4m3⟩
  | .local _ .vmem, ⟨17, _⟩ => ⟨S1x256x8, .f32⟩
  | .local _ .vmem, ⟨18, _⟩ => ⟨S1x256x8, .f32⟩
  | .local _ .vmem, ⟨19, _⟩ => ⟨S1x256x1024, .fp8e4m3⟩
  | .local _ .vmem, ⟨20, _⟩ => ⟨S1x256x1024, .fp8e4m3⟩
  | .local _ .vmem, ⟨21, _⟩ => ⟨S8x1280x128, .fp8e4m3⟩
  | .local _ .vmem, ⟨22, _⟩ => ⟨S8x1280x128, .f32⟩
  | .local _ .vmem, ⟨23, _⟩ => ⟨S8x5x128x256, .fp8e4m3⟩
  | .local _ .vmem, ⟨24, _⟩ => ⟨S2x8x8x512, .f32⟩
  | .local _ .vmem, ⟨25, _⟩ => ⟨S5x256x512, .f32⟩
  | .local _ .vmem, ⟨26, _⟩ => ⟨S5x256x512, .fp8e4m3⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def k0_off1 (i : grid0.Coords) : Fin 3 → Nat :=
  let c0_13 : Index := 0#32
  let arg1 : BitVec 32 := BitVec.ofNat 32 (i 1).val
  let c5_i32 : BitVec 32 := 5#32
  let v0 : BitVec 32 := Scalar.remsi arg1 c5_i32
  let c256_i32 : BitVec 32 := 256#32
  let v47 : BitVec 32 := Scalar.muli v0 c256_i32
  let v48 : Index := Scalar.indexCast v47
  let c0_14 : Index := 0#32
  ![0, v48.toNat, 0]
def k0_off2 (i : grid0.Coords) : Fin 4 → Nat :=
  let c0_37 : Index := 0#32
  let arg1 : BitVec 32 := BitVec.ofNat 32 (i 1).val
  let c5_i32 : BitVec 32 := 5#32
  let v0 : BitVec 32 := Scalar.remsi arg1 c5_i32
  let v86 : Index := Scalar.indexCast v0
  let c0_38 : Index := 0#32
  let c0_39 : Index := 0#32
  ![0, v86.toNat, 0, 0]
def k0_off3 (i : grid0.Coords) : Fin 3 → Nat :=
  let c1 : Index := 1#32
  let arg1 : BitVec 32 := BitVec.ofNat 32 (i 1).val
  let c5_i32 : BitVec 32 := 5#32
  let v0 : BitVec 32 := Scalar.remsi arg1 c5_i32
  let c256_i32_56 : BitVec 32 := 256#32
  let v133 : BitVec 32 := Scalar.muli v0 c256_i32_56
  let v134 : Index := Scalar.indexCast v133
  let c0_57 : Index := 0#32
  ![1, v134.toNat, 0]
def k0_off4 (i : grid0.Coords) : Fin 4 → Nat :=
  let c1_80 : Index := 1#32
  let arg1 : BitVec 32 := BitVec.ofNat 32 (i 1).val
  let c5_i32 : BitVec 32 := 5#32
  let v0 : BitVec 32 := Scalar.remsi arg1 c5_i32
  let v172 : Index := Scalar.indexCast v0
  let c0_81 : Index := 0#32
  let c0_82 : Index := 0#32
  ![1, v172.toNat, 0, 0]
def k0_off5 (i : grid0.Coords) : Fin 3 → Nat :=
  let c2 : Index := 2#32
  let arg1 : BitVec 32 := BitVec.ofNat 32 (i 1).val
  let c5_i32 : BitVec 32 := 5#32
  let v0 : BitVec 32 := Scalar.remsi arg1 c5_i32
  let c256_i32_99 : BitVec 32 := 256#32
  let v219 : BitVec 32 := Scalar.muli v0 c256_i32_99
  let v220 : Index := Scalar.indexCast v219
  let c0_100 : Index := 0#32
  ![2, v220.toNat, 0]
def k0_off6 (i : grid0.Coords) : Fin 4 → Nat :=
  let c2_123 : Index := 2#32
  let arg1 : BitVec 32 := BitVec.ofNat 32 (i 1).val
  let c5_i32 : BitVec 32 := 5#32
  let v0 : BitVec 32 := Scalar.remsi arg1 c5_i32
  let v258 : Index := Scalar.indexCast v0
  let c0_124 : Index := 0#32
  let c0_125 : Index := 0#32
  ![2, v258.toNat, 0, 0]
def k0_off7 (i : grid0.Coords) : Fin 3 → Nat :=
  let c3 : Index := 3#32
  let arg1 : BitVec 32 := BitVec.ofNat 32 (i 1).val
  let c5_i32 : BitVec 32 := 5#32
  let v0 : BitVec 32 := Scalar.remsi arg1 c5_i32
  let c256_i32_142 : BitVec 32 := 256#32
  let v305 : BitVec 32 := Scalar.muli v0 c256_i32_142
  let v306 : Index := Scalar.indexCast v305
  let c0_143 : Index := 0#32
  ![3, v306.toNat, 0]
def k0_off8 (i : grid0.Coords) : Fin 4 → Nat :=
  let c3_166 : Index := 3#32
  let arg1 : BitVec 32 := BitVec.ofNat 32 (i 1).val
  let c5_i32 : BitVec 32 := 5#32
  let v0 : BitVec 32 := Scalar.remsi arg1 c5_i32
  let v344 : Index := Scalar.indexCast v0
  let c0_167 : Index := 0#32
  let c0_168 : Index := 0#32
  ![3, v344.toNat, 0, 0]
def k0_off9 (i : grid0.Coords) : Fin 3 → Nat :=
  let c4 : Index := 4#32
  let arg1 : BitVec 32 := BitVec.ofNat 32 (i 1).val
  let c5_i32 : BitVec 32 := 5#32
  let v0 : BitVec 32 := Scalar.remsi arg1 c5_i32
  let c256_i32_185 : BitVec 32 := 256#32
  let v391 : BitVec 32 := Scalar.muli v0 c256_i32_185
  let v392 : Index := Scalar.indexCast v391
  let c0_186 : Index := 0#32
  ![4, v392.toNat, 0]
def k0_off10 (i : grid0.Coords) : Fin 4 → Nat :=
  let c4_209 : Index := 4#32
  let arg1 : BitVec 32 := BitVec.ofNat 32 (i 1).val
  let c5_i32 : BitVec 32 := 5#32
  let v0 : BitVec 32 := Scalar.remsi arg1 c5_i32
  let v430 : Index := Scalar.indexCast v0
  let c0_210 : Index := 0#32
  let c0_211 : Index := 0#32
  ![4, v430.toNat, 0, 0]
def k0_off11 (i : grid0.Coords) : Fin 3 → Nat :=
  let c5 : Index := 5#32
  let arg1 : BitVec 32 := BitVec.ofNat 32 (i 1).val
  let c5_i32 : BitVec 32 := 5#32
  let v0 : BitVec 32 := Scalar.remsi arg1 c5_i32
  let c256_i32_228 : BitVec 32 := 256#32
  let v477 : BitVec 32 := Scalar.muli v0 c256_i32_228
  let v478 : Index := Scalar.indexCast v477
  let c0_229 : Index := 0#32
  ![5, v478.toNat, 0]
def k0_off12 (i : grid0.Coords) : Fin 4 → Nat :=
  let c5_252 : Index := 5#32
  let arg1 : BitVec 32 := BitVec.ofNat 32 (i 1).val
  let c5_i32 : BitVec 32 := 5#32
  let v0 : BitVec 32 := Scalar.remsi arg1 c5_i32
  let v516 : Index := Scalar.indexCast v0
  let c0_253 : Index := 0#32
  let c0_254 : Index := 0#32
  ![5, v516.toNat, 0, 0]
def k0_off13 (i : grid0.Coords) : Fin 3 → Nat :=
  let c6 : Index := 6#32
  let arg1 : BitVec 32 := BitVec.ofNat 32 (i 1).val
  let c5_i32 : BitVec 32 := 5#32
  let v0 : BitVec 32 := Scalar.remsi arg1 c5_i32
  let c256_i32_271 : BitVec 32 := 256#32
  let v563 : BitVec 32 := Scalar.muli v0 c256_i32_271
  let v564 : Index := Scalar.indexCast v563
  let c0_272 : Index := 0#32
  ![6, v564.toNat, 0]
def k0_off14 (i : grid0.Coords) : Fin 4 → Nat :=
  let c6_295 : Index := 6#32
  let arg1 : BitVec 32 := BitVec.ofNat 32 (i 1).val
  let c5_i32 : BitVec 32 := 5#32
  let v0 : BitVec 32 := Scalar.remsi arg1 c5_i32
  let v602 : Index := Scalar.indexCast v0
  let c0_296 : Index := 0#32
  let c0_297 : Index := 0#32
  ![6, v602.toNat, 0, 0]
def k0_off15 (i : grid0.Coords) : Fin 3 → Nat :=
  let c7 : Index := 7#32
  let arg1 : BitVec 32 := BitVec.ofNat 32 (i 1).val
  let c5_i32 : BitVec 32 := 5#32
  let v0 : BitVec 32 := Scalar.remsi arg1 c5_i32
  let c256_i32_314 : BitVec 32 := 256#32
  let v649 : BitVec 32 := Scalar.muli v0 c256_i32_314
  let v650 : Index := Scalar.indexCast v649
  let c0_315 : Index := 0#32
  ![7, v650.toNat, 0]
def k0_off16 (i : grid0.Coords) : Fin 4 → Nat :=
  let c7_338 : Index := 7#32
  let arg1 : BitVec 32 := BitVec.ofNat 32 (i 1).val
  let c5_i32 : BitVec 32 := 5#32
  let v0 : BitVec 32 := Scalar.remsi arg1 c5_i32
  let v688 : Index := Scalar.indexCast v0
  let c0_339 : Index := 0#32
  let c0_340 : Index := 0#32
  ![7, v688.toNat, 0, 0]
def k0_cond2 (i : grid0.Coords) : BitVec 1 :=
  let arg1 : BitVec 32 := BitVec.ofNat 32 (i 1).val
  let c4_i32 : BitVec 32 := 4#32
  let v2654 : BitVec 1 := Scalar.cmpi .slt arg1 c4_i32
  let v2655 : BitVec 32 := Scalar.extui v2654
  let c0_i32_1290 : BitVec 32 := 0#32
  let v2656 : BitVec 1 := Scalar.cmpi .ne v2655 c0_i32_1290
  v2656

@[reducible] def k0_t1_loop : Scf.Loop 32 :=
  let c0_i32_1293 : BitVec 32 := 0#32
  let c8_i32 : BitVec 32 := 8#32
  let v2660 : BitVec 32 := Scalar.addi c0_i32_1293 c8_i32
  let c1_i32 : BitVec 32 := 1#32
  ⟨c0_i32_1293, v2660, c1_i32⟩
def k0_mult1 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1295 : BitVec 32 := 4#32
  let v2661 : BitVec 32 := Scalar.muli arg19 c4_i32_1295
  let c0_i32_1296 : BitVec 32 := 0#32
  let v2662 : BitVec 32 := Scalar.addi v2661 c0_i32_1296
  let c128_i32 : BitVec 32 := 128#32
  let v2663 : BitVec 32 := Scalar.muli v2662 c128_i32
  v2663
def k0_off17 (k0_t1 : Fin k0_t1_loop.trips) (c0_i32_1296 : BitVec 32) : Fin 3 → Nat :=
  let c0_1297 : Index := 0#32
  let c0_1298 : Index := 0#32
  let c0_i32_1293 : BitVec 32 := 0#32
  let c1_i32 : BitVec 32 := 1#32
  let arg19 : BitVec 32 := Scf.iv c0_i32_1293 c1_i32 k0_t1
  let c4_i32_1295 : BitVec 32 := 4#32
  let v2661 : BitVec 32 := Scalar.muli arg19 c4_i32_1295
  let v2662 : BitVec 32 := Scalar.addi v2661 c0_i32_1296
  let c128_i32 : BitVec 32 := 128#32
  let v2663 : BitVec 32 := Scalar.muli v2662 c128_i32
  let v2664 : BitVec 32 := v2663
  let v2665 : Index := Scalar.indexCast v2664
  ![0, 0, v2665.toNat]
def k0_mult2 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1299 : BitVec 32 := 4#32
  let v2668 : BitVec 32 := Scalar.muli arg19 c4_i32_1299
  let c1_i32_1300 : BitVec 32 := 1#32
  let v2669 : BitVec 32 := Scalar.addi v2668 c1_i32_1300
  let c128_i32_1301 : BitVec 32 := 128#32
  let v2670 : BitVec 32 := Scalar.muli v2669 c128_i32_1301
  v2670
def k0_mult3 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1304 : BitVec 32 := 4#32
  let v2675 : BitVec 32 := Scalar.muli arg19 c4_i32_1304
  let c2_i32 : BitVec 32 := 2#32
  let v2676 : BitVec 32 := Scalar.addi v2675 c2_i32
  let c128_i32_1305 : BitVec 32 := 128#32
  let v2677 : BitVec 32 := Scalar.muli v2676 c128_i32_1305
  v2677
def k0_mult4 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1308 : BitVec 32 := 4#32
  let v2682 : BitVec 32 := Scalar.muli arg19 c4_i32_1308
  let c3_i32 : BitVec 32 := 3#32
  let v2683 : BitVec 32 := Scalar.addi v2682 c3_i32
  let c128_i32_1309 : BitVec 32 := 128#32
  let v2684 : BitVec 32 := Scalar.muli v2683 c128_i32_1309
  v2684
def k0_off18 (k0_t1 : Fin k0_t1_loop.trips) : Fin 4 → Nat :=
  let c0_1312 : Index := 0#32
  let c0_i32_1293 : BitVec 32 := 0#32
  let c1_i32 : BitVec 32 := 1#32
  let arg19 : BitVec 32 := Scf.iv c0_i32_1293 c1_i32 k0_t1
  let v2690 : Index := Scalar.indexCast arg19
  let c0_1313 : Index := 0#32
  let c0_1314 : Index := 0#32
  ![0, v2690.toNat, 0, 0]
def k0_mult5 (i : grid0.Coords) : BitVec 32 :=
  let arg1 : BitVec 32 := BitVec.ofNat 32 (i 1).val
  let c1_i32_1315 : BitVec 32 := 1#32
  let v2693 : BitVec 32 := Scalar.addi arg1 c1_i32_1315
  let c4_i32_1316 : BitVec 32 := 4#32
  let v2694 : BitVec 32 := Scalar.addi v2693 c4_i32_1316
  let c5_i32_1317 : BitVec 32 := 5#32
  let v2695 : BitVec 32 := Scalar.remsi v2694 c5_i32_1317
  let c256_i32_1318 : BitVec 32 := 256#32
  let v2696 : BitVec 32 := Scalar.muli v2695 c256_i32_1318
  v2696
def k0_off19 (i : grid0.Coords) (k0_t1 : Fin k0_t1_loop.trips) (c4_i32_1316 : BitVec 32) (c0_i32_1319 : BitVec 32) : Fin 3 → Nat :=
  let c0_i32_1293 : BitVec 32 := 0#32
  let c1_i32 : BitVec 32 := 1#32
  let arg19 : BitVec 32 := Scf.iv c0_i32_1293 c1_i32 k0_t1
  let v2699 : Index := Scalar.indexCast arg19
  let arg1 : BitVec 32 := BitVec.ofNat 32 (i 1).val
  let c1_i32_1315 : BitVec 32 := 1#32
  let v2693 : BitVec 32 := Scalar.addi arg1 c1_i32_1315
  let v2694 : BitVec 32 := Scalar.addi v2693 c4_i32_1316
  let c5_i32_1317 : BitVec 32 := 5#32
  let v2695 : BitVec 32 := Scalar.remsi v2694 c5_i32_1317
  let c256_i32_1318 : BitVec 32 := 256#32
  let v2696 : BitVec 32 := Scalar.muli v2695 c256_i32_1318
  let v2697 : BitVec 32 := v2696
  let v2698 : BitVec 32 := Scalar.addi v2697 c0_i32_1319
  let v2700 : Index := Scalar.indexCast v2698
  let c0_1320 : Index := 0#32
  ![v2699.toNat, v2700.toNat, 0]
def k0_mult6 (i : grid0.Coords) : BitVec 32 :=
  let arg1 : BitVec 32 := BitVec.ofNat 32 (i 1).val
  let c1_i32_1324 : BitVec 32 := 1#32
  let v2711 : BitVec 32 := Scalar.addi arg1 c1_i32_1324
  let c0_i32_1325 : BitVec 32 := 0#32
  let v2712 : BitVec 32 := Scalar.addi v2711 c0_i32_1325
  let c5_i32_1326 : BitVec 32 := 5#32
  let v2713 : BitVec 32 := Scalar.remsi v2712 c5_i32_1326
  let c256_i32_1327 : BitVec 32 := 256#32
  let v2714 : BitVec 32 := Scalar.muli v2713 c256_i32_1327
  v2714
def k0_mult7 (i : grid0.Coords) : BitVec 32 :=
  let arg1 : BitVec 32 := BitVec.ofNat 32 (i 1).val
  let c1_i32_1340 : BitVec 32 := 1#32
  let v2739 : BitVec 32 := Scalar.addi arg1 c1_i32_1340
  let c0_i32_1341 : BitVec 32 := 0#32
  let v2740 : BitVec 32 := Scalar.addi v2739 c0_i32_1341
  let c5_i32_1342 : BitVec 32 := 5#32
  let v2741 : BitVec 32 := Scalar.remsi v2740 c5_i32_1342
  let c256_i32_1343 : BitVec 32 := 256#32
  let v2742 : BitVec 32 := Scalar.muli v2741 c256_i32_1343
  v2742
def k0_mult8 (i : grid0.Coords) : BitVec 32 :=
  let arg1 : BitVec 32 := BitVec.ofNat 32 (i 1).val
  let c1_i32_1356 : BitVec 32 := 1#32
  let v2767 : BitVec 32 := Scalar.addi arg1 c1_i32_1356
  let c1_i32_1357 : BitVec 32 := 1#32
  let v2768 : BitVec 32 := Scalar.addi v2767 c1_i32_1357
  let c5_i32_1358 : BitVec 32 := 5#32
  let v2769 : BitVec 32 := Scalar.remsi v2768 c5_i32_1358
  let c256_i32_1359 : BitVec 32 := 256#32
  let v2770 : BitVec 32 := Scalar.muli v2769 c256_i32_1359
  v2770
def k0_off20 (i : grid0.Coords) (k0_t1 : Fin k0_t1_loop.trips) (c1_i32_1357 : BitVec 32) : Fin 3 → Nat :=
  let c0_i32_1293 : BitVec 32 := 0#32
  let c1_i32 : BitVec 32 := 1#32
  let arg19 : BitVec 32 := Scf.iv c0_i32_1293 c1_i32 k0_t1
  let v2773 : Index := Scalar.indexCast arg19
  let arg1 : BitVec 32 := BitVec.ofNat 32 (i 1).val
  let c1_i32_1356 : BitVec 32 := 1#32
  let v2767 : BitVec 32 := Scalar.addi arg1 c1_i32_1356
  let v2768 : BitVec 32 := Scalar.addi v2767 c1_i32_1357
  let c5_i32_1358 : BitVec 32 := 5#32
  let v2769 : BitVec 32 := Scalar.remsi v2768 c5_i32_1358
  let c256_i32_1359 : BitVec 32 := 256#32
  let v2770 : BitVec 32 := Scalar.muli v2769 c256_i32_1359
  let v2771 : BitVec 32 := v2770
  let c0_i32_1360 : BitVec 32 := 0#32
  let v2772 : BitVec 32 := Scalar.addi v2771 c0_i32_1360
  let v2774 : Index := Scalar.indexCast v2772
  let c0_1361 : Index := 0#32
  ![v2773.toNat, v2774.toNat, 0]
def k0_mult9 (i : grid0.Coords) : BitVec 32 :=
  let arg1 : BitVec 32 := BitVec.ofNat 32 (i 1).val
  let c1_i32_1372 : BitVec 32 := 1#32
  let v2795 : BitVec 32 := Scalar.addi arg1 c1_i32_1372
  let c2_i32_1373 : BitVec 32 := 2#32
  let v2796 : BitVec 32 := Scalar.addi v2795 c2_i32_1373
  let c5_i32_1374 : BitVec 32 := 5#32
  let v2797 : BitVec 32 := Scalar.remsi v2796 c5_i32_1374
  let c256_i32_1375 : BitVec 32 := 256#32
  let v2798 : BitVec 32 := Scalar.muli v2797 c256_i32_1375
  v2798
def k0_mult10 (i : grid0.Coords) : BitVec 32 :=
  let arg1 : BitVec 32 := BitVec.ofNat 32 (i 1).val
  let c1_i32_1388 : BitVec 32 := 1#32
  let v2823 : BitVec 32 := Scalar.addi arg1 c1_i32_1388
  let c3_i32_1389 : BitVec 32 := 3#32
  let v2824 : BitVec 32 := Scalar.addi v2823 c3_i32_1389
  let c5_i32_1390 : BitVec 32 := 5#32
  let v2825 : BitVec 32 := Scalar.remsi v2824 c5_i32_1390
  let c256_i32_1391 : BitVec 32 := 256#32
  let v2826 : BitVec 32 := Scalar.muli v2825 c256_i32_1391
  v2826
def k0_off21 (k0_t1 : Fin k0_t1_loop.trips) : Fin 3 → Nat :=
  let c0_i32_1293 : BitVec 32 := 0#32
  let c1_i32 : BitVec 32 := 1#32
  let arg19 : BitVec 32 := Scf.iv c0_i32_1293 c1_i32 k0_t1
  let v2855 : Index := Scalar.indexCast arg19
  let c0_1405 : Index := 0#32
  let c0_1406 : Index := 0#32
  ![v2855.toNat, 0, 0]
def k0_off22 (k0_t1 : Fin k0_t1_loop.trips) : Fin 4 → Nat :=
  let c0_1467 : Index := 0#32
  let c0_i32_1293 : BitVec 32 := 0#32
  let c1_i32 : BitVec 32 := 1#32
  let arg19 : BitVec 32 := Scf.iv c0_i32_1293 c1_i32 k0_t1
  let v3005 : Index := Scalar.indexCast arg19
  let c0_1468 : Index := 0#32
  let c0_1469 : Index := 0#32
  ![0, v3005.toNat, 0, 0]
def k0_off23 (i : grid0.Coords) (k0_t1 : Fin k0_t1_loop.trips) (c0_i32_1471 : BitVec 32) : Fin 4 → Nat :=
  let c0_i32_1293 : BitVec 32 := 0#32
  let c1_i32 : BitVec 32 := 1#32
  let arg19 : BitVec 32 := Scf.iv c0_i32_1293 c1_i32 k0_t1
  let v3014 : Index := Scalar.indexCast arg19
  let arg1 : BitVec 32 := BitVec.ofNat 32 (i 1).val
  let c1_i32_1470 : BitVec 32 := 1#32
  let v3011 : BitVec 32 := Scalar.addi arg1 c1_i32_1470
  let v3012 : BitVec 32 := Scalar.addi v3011 c0_i32_1471
  let c5_i32_1472 : BitVec 32 := 5#32
  let v3013 : BitVec 32 := Scalar.remsi v3012 c5_i32_1472
  let v3015 : Index := Scalar.indexCast v3013
  let c0_1473 : Index := 0#32
  let c0_1474 : Index := 0#32
  ![v3014.toNat, v3015.toNat, 0, 0]
def k0_mult11 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1499 : BitVec 32 := 4#32
  let v3055 : BitVec 32 := Scalar.muli arg19 c4_i32_1499
  let c0_i32_1500 : BitVec 32 := 0#32
  let v3056 : BitVec 32 := Scalar.addi v3055 c0_i32_1500
  let c128_i32_1501 : BitVec 32 := 128#32
  let v3057 : BitVec 32 := Scalar.muli v3056 c128_i32_1501
  v3057
def k0_mult12 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1504 : BitVec 32 := 4#32
  let v3066 : BitVec 32 := Scalar.muli arg19 c4_i32_1504
  let c1_i32_1505 : BitVec 32 := 1#32
  let v3067 : BitVec 32 := Scalar.addi v3066 c1_i32_1505
  let c128_i32_1506 : BitVec 32 := 128#32
  let v3068 : BitVec 32 := Scalar.muli v3067 c128_i32_1506
  v3068
def k0_mult13 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1509 : BitVec 32 := 4#32
  let v3077 : BitVec 32 := Scalar.muli arg19 c4_i32_1509
  let c2_i32_1510 : BitVec 32 := 2#32
  let v3078 : BitVec 32 := Scalar.addi v3077 c2_i32_1510
  let c128_i32_1511 : BitVec 32 := 128#32
  let v3079 : BitVec 32 := Scalar.muli v3078 c128_i32_1511
  v3079
def k0_mult14 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1514 : BitVec 32 := 4#32
  let v3088 : BitVec 32 := Scalar.muli arg19 c4_i32_1514
  let c3_i32_1515 : BitVec 32 := 3#32
  let v3089 : BitVec 32 := Scalar.addi v3088 c3_i32_1515
  let c128_i32_1516 : BitVec 32 := 128#32
  let v3090 : BitVec 32 := Scalar.muli v3089 c128_i32_1516
  v3090
def k0_mult15 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1519 : BitVec 32 := 4#32
  let v3099 : BitVec 32 := Scalar.muli arg19 c4_i32_1519
  let c0_i32_1520 : BitVec 32 := 0#32
  let v3100 : BitVec 32 := Scalar.addi v3099 c0_i32_1520
  let c128_i32_1521 : BitVec 32 := 128#32
  let v3101 : BitVec 32 := Scalar.muli v3100 c128_i32_1521
  v3101
def k0_off24 (k0_t1 : Fin k0_t1_loop.trips) (c0_i32_1520 : BitVec 32) : Fin 3 → Nat :=
  let c0_1522 : Index := 0#32
  let c128_1523 : Index := 128#32
  let c0_i32_1293 : BitVec 32 := 0#32
  let c1_i32 : BitVec 32 := 1#32
  let arg19 : BitVec 32 := Scf.iv c0_i32_1293 c1_i32 k0_t1
  let c4_i32_1519 : BitVec 32 := 4#32
  let v3099 : BitVec 32 := Scalar.muli arg19 c4_i32_1519
  let v3100 : BitVec 32 := Scalar.addi v3099 c0_i32_1520
  let c128_i32_1521 : BitVec 32 := 128#32
  let v3101 : BitVec 32 := Scalar.muli v3100 c128_i32_1521
  let v3102 : BitVec 32 := v3101
  let v3103 : Index := Scalar.indexCast v3102
  ![0, 128, v3103.toNat]
def k0_mult16 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1524 : BitVec 32 := 4#32
  let v3106 : BitVec 32 := Scalar.muli arg19 c4_i32_1524
  let c1_i32_1525 : BitVec 32 := 1#32
  let v3107 : BitVec 32 := Scalar.addi v3106 c1_i32_1525
  let c128_i32_1526 : BitVec 32 := 128#32
  let v3108 : BitVec 32 := Scalar.muli v3107 c128_i32_1526
  v3108
def k0_mult17 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1529 : BitVec 32 := 4#32
  let v3113 : BitVec 32 := Scalar.muli arg19 c4_i32_1529
  let c2_i32_1530 : BitVec 32 := 2#32
  let v3114 : BitVec 32 := Scalar.addi v3113 c2_i32_1530
  let c128_i32_1531 : BitVec 32 := 128#32
  let v3115 : BitVec 32 := Scalar.muli v3114 c128_i32_1531
  v3115
def k0_mult18 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1534 : BitVec 32 := 4#32
  let v3120 : BitVec 32 := Scalar.muli arg19 c4_i32_1534
  let c3_i32_1535 : BitVec 32 := 3#32
  let v3121 : BitVec 32 := Scalar.addi v3120 c3_i32_1535
  let c128_i32_1536 : BitVec 32 := 128#32
  let v3122 : BitVec 32 := Scalar.muli v3121 c128_i32_1536
  v3122
def k0_off25 (k0_t1 : Fin k0_t1_loop.trips) : Fin 4 → Nat :=
  let c1_1539 : Index := 1#32
  let c0_i32_1293 : BitVec 32 := 0#32
  let c1_i32 : BitVec 32 := 1#32
  let arg19 : BitVec 32 := Scf.iv c0_i32_1293 c1_i32 k0_t1
  let v3128 : Index := Scalar.indexCast arg19
  let c0_1540 : Index := 0#32
  let c0_1541 : Index := 0#32
  ![1, v3128.toNat, 0, 0]
def k0_mult19 (i : grid0.Coords) : BitVec 32 :=
  let arg1 : BitVec 32 := BitVec.ofNat 32 (i 1).val
  let c1_i32_1542 : BitVec 32 := 1#32
  let v3131 : BitVec 32 := Scalar.addi arg1 c1_i32_1542
  let c4_i32_1543 : BitVec 32 := 4#32
  let v3132 : BitVec 32 := Scalar.addi v3131 c4_i32_1543
  let c5_i32_1544 : BitVec 32 := 5#32
  let v3133 : BitVec 32 := Scalar.remsi v3132 c5_i32_1544
  let c256_i32_1545 : BitVec 32 := 256#32
  let v3134 : BitVec 32 := Scalar.muli v3133 c256_i32_1545
  v3134
def k0_mult20 (i : grid0.Coords) : BitVec 32 :=
  let arg1 : BitVec 32 := BitVec.ofNat 32 (i 1).val
  let c1_i32_1551 : BitVec 32 := 1#32
  let v3149 : BitVec 32 := Scalar.addi arg1 c1_i32_1551
  let c0_i32_1552 : BitVec 32 := 0#32
  let v3150 : BitVec 32 := Scalar.addi v3149 c0_i32_1552
  let c5_i32_1553 : BitVec 32 := 5#32
  let v3151 : BitVec 32 := Scalar.remsi v3150 c5_i32_1553
  let c256_i32_1554 : BitVec 32 := 256#32
  let v3152 : BitVec 32 := Scalar.muli v3151 c256_i32_1554
  v3152
def k0_mult21 (i : grid0.Coords) : BitVec 32 :=
  let arg1 : BitVec 32 := BitVec.ofNat 32 (i 1).val
  let c1_i32_1567 : BitVec 32 := 1#32
  let v3177 : BitVec 32 := Scalar.addi arg1 c1_i32_1567
  let c1_i32_1568 : BitVec 32 := 1#32
  let v3178 : BitVec 32 := Scalar.addi v3177 c1_i32_1568
  let c5_i32_1569 : BitVec 32 := 5#32
  let v3179 : BitVec 32 := Scalar.remsi v3178 c5_i32_1569
  let c256_i32_1570 : BitVec 32 := 256#32
  let v3180 : BitVec 32 := Scalar.muli v3179 c256_i32_1570
  v3180
def k0_mult22 (i : grid0.Coords) : BitVec 32 :=
  let arg1 : BitVec 32 := BitVec.ofNat 32 (i 1).val
  let c1_i32_1583 : BitVec 32 := 1#32
  let v3205 : BitVec 32 := Scalar.addi arg1 c1_i32_1583
  let c2_i32_1584 : BitVec 32 := 2#32
  let v3206 : BitVec 32 := Scalar.addi v3205 c2_i32_1584
  let c5_i32_1585 : BitVec 32 := 5#32
  let v3207 : BitVec 32 := Scalar.remsi v3206 c5_i32_1585
  let c256_i32_1586 : BitVec 32 := 256#32
  let v3208 : BitVec 32 := Scalar.muli v3207 c256_i32_1586
  v3208
def k0_mult23 (i : grid0.Coords) : BitVec 32 :=
  let arg1 : BitVec 32 := BitVec.ofNat 32 (i 1).val
  let c1_i32_1599 : BitVec 32 := 1#32
  let v3233 : BitVec 32 := Scalar.addi arg1 c1_i32_1599
  let c3_i32_1600 : BitVec 32 := 3#32
  let v3234 : BitVec 32 := Scalar.addi v3233 c3_i32_1600
  let c5_i32_1601 : BitVec 32 := 5#32
  let v3235 : BitVec 32 := Scalar.remsi v3234 c5_i32_1601
  let c256_i32_1602 : BitVec 32 := 256#32
  let v3236 : BitVec 32 := Scalar.muli v3235 c256_i32_1602
  v3236
def k0_mult24 (i : grid0.Coords) : BitVec 32 :=
  let arg1 : BitVec 32 := BitVec.ofNat 32 (i 1).val
  let c1_i32_1615 : BitVec 32 := 1#32
  let v3261 : BitVec 32 := Scalar.addi arg1 c1_i32_1615
  let c4_i32_1616 : BitVec 32 := 4#32
  let v3262 : BitVec 32 := Scalar.addi v3261 c4_i32_1616
  let c5_i32_1617 : BitVec 32 := 5#32
  let v3263 : BitVec 32 := Scalar.remsi v3262 c5_i32_1617
  let c256_i32_1618 : BitVec 32 := 256#32
  let v3264 : BitVec 32 := Scalar.muli v3263 c256_i32_1618
  v3264
def k0_mult25 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1723 : BitVec 32 := 4#32
  let v3489 : BitVec 32 := Scalar.muli arg19 c4_i32_1723
  let c0_i32_1724 : BitVec 32 := 0#32
  let v3490 : BitVec 32 := Scalar.addi v3489 c0_i32_1724
  let c128_i32_1725 : BitVec 32 := 128#32
  let v3491 : BitVec 32 := Scalar.muli v3490 c128_i32_1725
  v3491
def k0_mult26 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1728 : BitVec 32 := 4#32
  let v3500 : BitVec 32 := Scalar.muli arg19 c4_i32_1728
  let c1_i32_1729 : BitVec 32 := 1#32
  let v3501 : BitVec 32 := Scalar.addi v3500 c1_i32_1729
  let c128_i32_1730 : BitVec 32 := 128#32
  let v3502 : BitVec 32 := Scalar.muli v3501 c128_i32_1730
  v3502
def k0_mult27 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1733 : BitVec 32 := 4#32
  let v3511 : BitVec 32 := Scalar.muli arg19 c4_i32_1733
  let c2_i32_1734 : BitVec 32 := 2#32
  let v3512 : BitVec 32 := Scalar.addi v3511 c2_i32_1734
  let c128_i32_1735 : BitVec 32 := 128#32
  let v3513 : BitVec 32 := Scalar.muli v3512 c128_i32_1735
  v3513
def k0_mult28 (k0_t1 : Fin k0_t1_loop.trips) : BitVec 32 :=
  let c0_i32_1293 : BitVec 32 := 0#32
  let c1_i32 : BitVec 32 := 1#32
  let arg19 : BitVec 32 := Scf.iv c0_i32_1293 c1_i32 k0_t1
  let c4_i32_1738 : BitVec 32 := 4#32
  let v3522 : BitVec 32 := Scalar.muli arg19 c4_i32_1738
  let c3_i32_1739 : BitVec 32 := 3#32
  let v3523 : BitVec 32 := Scalar.addi v3522 c3_i32_1739
  let c128_i32_1740 : BitVec 32 := 128#32
  let v3524 : BitVec 32 := Scalar.muli v3523 c128_i32_1740
  v3524
def k0_cond3 (i : grid0.Coords) : BitVec 1 :=
  let arg1 : BitVec 32 := BitVec.ofNat 32 (i 1).val
  let c4_i32_1291 : BitVec 32 := 4#32
  let v2657 : BitVec 1 := Scalar.cmpi .sge arg1 c4_i32_1291
  let v2658 : BitVec 32 := Scalar.extui v2657
  let c0_i32_1292 : BitVec 32 := 0#32
  let v2659 : BitVec 1 := Scalar.cmpi .ne v2658 c0_i32_1292
  v2659

@[reducible] def k0_t2_loop : Scf.Loop 32 :=
  let c0_i32_1293 : BitVec 32 := 0#32
  let c8_i32 : BitVec 32 := 8#32
  let v2660 : BitVec 32 := Scalar.addi c0_i32_1293 c8_i32
  let c1_i32 : BitVec 32 := 1#32
  ⟨c0_i32_1293, v2660, c1_i32⟩
def k0_mult29 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1295 : BitVec 32 := 4#32
  let v2661 : BitVec 32 := Scalar.muli arg19 c4_i32_1295
  let c0_i32_1296 : BitVec 32 := 0#32
  let v2662 : BitVec 32 := Scalar.addi v2661 c0_i32_1296
  let c128_i32 : BitVec 32 := 128#32
  let v2663 : BitVec 32 := Scalar.muli v2662 c128_i32
  v2663
def k0_off26 (k0_t2 : Fin k0_t2_loop.trips) (c0_i32_1296 : BitVec 32) : Fin 3 → Nat :=
  let c0_1297 : Index := 0#32
  let c0_1298 : Index := 0#32
  let c0_i32_1293 : BitVec 32 := 0#32
  let c1_i32 : BitVec 32 := 1#32
  let arg19 : BitVec 32 := Scf.iv c0_i32_1293 c1_i32 k0_t2
  let c4_i32_1295 : BitVec 32 := 4#32
  let v2661 : BitVec 32 := Scalar.muli arg19 c4_i32_1295
  let v2662 : BitVec 32 := Scalar.addi v2661 c0_i32_1296
  let c128_i32 : BitVec 32 := 128#32
  let v2663 : BitVec 32 := Scalar.muli v2662 c128_i32
  let v2664 : BitVec 32 := v2663
  let v2665 : Index := Scalar.indexCast v2664
  ![0, 0, v2665.toNat]
def k0_mult30 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1299 : BitVec 32 := 4#32
  let v2668 : BitVec 32 := Scalar.muli arg19 c4_i32_1299
  let c1_i32_1300 : BitVec 32 := 1#32
  let v2669 : BitVec 32 := Scalar.addi v2668 c1_i32_1300
  let c128_i32_1301 : BitVec 32 := 128#32
  let v2670 : BitVec 32 := Scalar.muli v2669 c128_i32_1301
  v2670
def k0_mult31 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1304 : BitVec 32 := 4#32
  let v2675 : BitVec 32 := Scalar.muli arg19 c4_i32_1304
  let c2_i32 : BitVec 32 := 2#32
  let v2676 : BitVec 32 := Scalar.addi v2675 c2_i32
  let c128_i32_1305 : BitVec 32 := 128#32
  let v2677 : BitVec 32 := Scalar.muli v2676 c128_i32_1305
  v2677
def k0_mult32 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1308 : BitVec 32 := 4#32
  let v2682 : BitVec 32 := Scalar.muli arg19 c4_i32_1308
  let c3_i32 : BitVec 32 := 3#32
  let v2683 : BitVec 32 := Scalar.addi v2682 c3_i32
  let c128_i32_1309 : BitVec 32 := 128#32
  let v2684 : BitVec 32 := Scalar.muli v2683 c128_i32_1309
  v2684
def k0_off27 (k0_t2 : Fin k0_t2_loop.trips) : Fin 4 → Nat :=
  let c0_1312 : Index := 0#32
  let c0_i32_1293 : BitVec 32 := 0#32
  let c1_i32 : BitVec 32 := 1#32
  let arg19 : BitVec 32 := Scf.iv c0_i32_1293 c1_i32 k0_t2
  let v2690 : Index := Scalar.indexCast arg19
  let c0_1313 : Index := 0#32
  let c0_1314 : Index := 0#32
  ![0, v2690.toNat, 0, 0]
def k0_mult33 (i : grid0.Coords) : BitVec 32 :=
  let arg1 : BitVec 32 := BitVec.ofNat 32 (i 1).val
  let c1_i32_1315 : BitVec 32 := 1#32
  let v2693 : BitVec 32 := Scalar.addi arg1 c1_i32_1315
  let c4_i32_1316 : BitVec 32 := 4#32
  let v2694 : BitVec 32 := Scalar.addi v2693 c4_i32_1316
  let c5_i32_1317 : BitVec 32 := 5#32
  let v2695 : BitVec 32 := Scalar.remsi v2694 c5_i32_1317
  let c256_i32_1318 : BitVec 32 := 256#32
  let v2696 : BitVec 32 := Scalar.muli v2695 c256_i32_1318
  v2696
def k0_off28 (i : grid0.Coords) (k0_t2 : Fin k0_t2_loop.trips) (c4_i32_1316 : BitVec 32) (c0_i32_1319 : BitVec 32) : Fin 3 → Nat :=
  let c0_i32_1293 : BitVec 32 := 0#32
  let c1_i32 : BitVec 32 := 1#32
  let arg19 : BitVec 32 := Scf.iv c0_i32_1293 c1_i32 k0_t2
  let v2699 : Index := Scalar.indexCast arg19
  let arg1 : BitVec 32 := BitVec.ofNat 32 (i 1).val
  let c1_i32_1315 : BitVec 32 := 1#32
  let v2693 : BitVec 32 := Scalar.addi arg1 c1_i32_1315
  let v2694 : BitVec 32 := Scalar.addi v2693 c4_i32_1316
  let c5_i32_1317 : BitVec 32 := 5#32
  let v2695 : BitVec 32 := Scalar.remsi v2694 c5_i32_1317
  let c256_i32_1318 : BitVec 32 := 256#32
  let v2696 : BitVec 32 := Scalar.muli v2695 c256_i32_1318
  let v2697 : BitVec 32 := v2696
  let v2698 : BitVec 32 := Scalar.addi v2697 c0_i32_1319
  let v2700 : Index := Scalar.indexCast v2698
  let c0_1320 : Index := 0#32
  ![v2699.toNat, v2700.toNat, 0]
def k0_mult34 (i : grid0.Coords) : BitVec 32 :=
  let arg1 : BitVec 32 := BitVec.ofNat 32 (i 1).val
  let c1_i32_1324 : BitVec 32 := 1#32
  let v2711 : BitVec 32 := Scalar.addi arg1 c1_i32_1324
  let c0_i32_1325 : BitVec 32 := 0#32
  let v2712 : BitVec 32 := Scalar.addi v2711 c0_i32_1325
  let c5_i32_1326 : BitVec 32 := 5#32
  let v2713 : BitVec 32 := Scalar.remsi v2712 c5_i32_1326
  let c256_i32_1327 : BitVec 32 := 256#32
  let v2714 : BitVec 32 := Scalar.muli v2713 c256_i32_1327
  v2714
def k0_mult35 (i : grid0.Coords) : BitVec 32 :=
  let arg1 : BitVec 32 := BitVec.ofNat 32 (i 1).val
  let c1_i32_1337 : BitVec 32 := 1#32
  let v2735 : BitVec 32 := Scalar.addi arg1 c1_i32_1337
  let c0_i32_1338 : BitVec 32 := 0#32
  let v2736 : BitVec 32 := Scalar.addi v2735 c0_i32_1338
  let c5_i32_1339 : BitVec 32 := 5#32
  let v2737 : BitVec 32 := Scalar.remsi v2736 c5_i32_1339
  let c256_i32_1340 : BitVec 32 := 256#32
  let v2738 : BitVec 32 := Scalar.muli v2737 c256_i32_1340
  v2738
def k0_mult36 (i : grid0.Coords) : BitVec 32 :=
  let arg1 : BitVec 32 := BitVec.ofNat 32 (i 1).val
  let c1_i32_1350 : BitVec 32 := 1#32
  let v2759 : BitVec 32 := Scalar.addi arg1 c1_i32_1350
  let c1_i32_1351 : BitVec 32 := 1#32
  let v2760 : BitVec 32 := Scalar.addi v2759 c1_i32_1351
  let c5_i32_1352 : BitVec 32 := 5#32
  let v2761 : BitVec 32 := Scalar.remsi v2760 c5_i32_1352
  let c256_i32_1353 : BitVec 32 := 256#32
  let v2762 : BitVec 32 := Scalar.muli v2761 c256_i32_1353
  v2762
def k0_off29 (i : grid0.Coords) (k0_t2 : Fin k0_t2_loop.trips) (c1_i32_1351 : BitVec 32) : Fin 3 → Nat :=
  let c0_i32_1293 : BitVec 32 := 0#32
  let c1_i32 : BitVec 32 := 1#32
  let arg19 : BitVec 32 := Scf.iv c0_i32_1293 c1_i32 k0_t2
  let v2765 : Index := Scalar.indexCast arg19
  let arg1 : BitVec 32 := BitVec.ofNat 32 (i 1).val
  let c1_i32_1350 : BitVec 32 := 1#32
  let v2759 : BitVec 32 := Scalar.addi arg1 c1_i32_1350
  let v2760 : BitVec 32 := Scalar.addi v2759 c1_i32_1351
  let c5_i32_1352 : BitVec 32 := 5#32
  let v2761 : BitVec 32 := Scalar.remsi v2760 c5_i32_1352
  let c256_i32_1353 : BitVec 32 := 256#32
  let v2762 : BitVec 32 := Scalar.muli v2761 c256_i32_1353
  let v2763 : BitVec 32 := v2762
  let c0_i32_1354 : BitVec 32 := 0#32
  let v2764 : BitVec 32 := Scalar.addi v2763 c0_i32_1354
  let v2766 : Index := Scalar.indexCast v2764
  let c0_1355 : Index := 0#32
  ![v2765.toNat, v2766.toNat, 0]
def k0_mult37 (i : grid0.Coords) : BitVec 32 :=
  let arg1 : BitVec 32 := BitVec.ofNat 32 (i 1).val
  let c1_i32_1363 : BitVec 32 := 1#32
  let v2783 : BitVec 32 := Scalar.addi arg1 c1_i32_1363
  let c2_i32_1364 : BitVec 32 := 2#32
  let v2784 : BitVec 32 := Scalar.addi v2783 c2_i32_1364
  let c5_i32_1365 : BitVec 32 := 5#32
  let v2785 : BitVec 32 := Scalar.remsi v2784 c5_i32_1365
  let c256_i32_1366 : BitVec 32 := 256#32
  let v2786 : BitVec 32 := Scalar.muli v2785 c256_i32_1366
  v2786
def k0_mult38 (i : grid0.Coords) : BitVec 32 :=
  let arg1 : BitVec 32 := BitVec.ofNat 32 (i 1).val
  let c1_i32_1376 : BitVec 32 := 1#32
  let v2807 : BitVec 32 := Scalar.addi arg1 c1_i32_1376
  let c3_i32_1377 : BitVec 32 := 3#32
  let v2808 : BitVec 32 := Scalar.addi v2807 c3_i32_1377
  let c5_i32_1378 : BitVec 32 := 5#32
  let v2809 : BitVec 32 := Scalar.remsi v2808 c5_i32_1378
  let c256_i32_1379 : BitVec 32 := 256#32
  let v2810 : BitVec 32 := Scalar.muli v2809 c256_i32_1379
  v2810
def k0_off30 (k0_t2 : Fin k0_t2_loop.trips) : Fin 3 → Nat :=
  let c0_i32_1293 : BitVec 32 := 0#32
  let c1_i32 : BitVec 32 := 1#32
  let arg19 : BitVec 32 := Scf.iv c0_i32_1293 c1_i32 k0_t2
  let v2835 : Index := Scalar.indexCast arg19
  let c0_1390 : Index := 0#32
  let c0_1391 : Index := 0#32
  ![v2835.toNat, 0, 0]
def k0_off31 (k0_t2 : Fin k0_t2_loop.trips) : Fin 4 → Nat :=
  let c0_1452 : Index := 0#32
  let c0_i32_1293 : BitVec 32 := 0#32
  let c1_i32 : BitVec 32 := 1#32
  let arg19 : BitVec 32 := Scf.iv c0_i32_1293 c1_i32 k0_t2
  let v2985 : Index := Scalar.indexCast arg19
  let c0_1453 : Index := 0#32
  let c0_1454 : Index := 0#32
  ![0, v2985.toNat, 0, 0]
def k0_off32 (i : grid0.Coords) (k0_t2 : Fin k0_t2_loop.trips) (c0_i32_1456 : BitVec 32) : Fin 4 → Nat :=
  let c0_i32_1293 : BitVec 32 := 0#32
  let c1_i32 : BitVec 32 := 1#32
  let arg19 : BitVec 32 := Scf.iv c0_i32_1293 c1_i32 k0_t2
  let v2994 : Index := Scalar.indexCast arg19
  let arg1 : BitVec 32 := BitVec.ofNat 32 (i 1).val
  let c1_i32_1455 : BitVec 32 := 1#32
  let v2991 : BitVec 32 := Scalar.addi arg1 c1_i32_1455
  let v2992 : BitVec 32 := Scalar.addi v2991 c0_i32_1456
  let c5_i32_1457 : BitVec 32 := 5#32
  let v2993 : BitVec 32 := Scalar.remsi v2992 c5_i32_1457
  let v2995 : Index := Scalar.indexCast v2993
  let c0_1458 : Index := 0#32
  let c0_1459 : Index := 0#32
  ![v2994.toNat, v2995.toNat, 0, 0]
def k0_mult39 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1484 : BitVec 32 := 4#32
  let v3035 : BitVec 32 := Scalar.muli arg19 c4_i32_1484
  let c0_i32_1485 : BitVec 32 := 0#32
  let v3036 : BitVec 32 := Scalar.addi v3035 c0_i32_1485
  let c128_i32_1486 : BitVec 32 := 128#32
  let v3037 : BitVec 32 := Scalar.muli v3036 c128_i32_1486
  v3037
def k0_mult40 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1489 : BitVec 32 := 4#32
  let v3046 : BitVec 32 := Scalar.muli arg19 c4_i32_1489
  let c1_i32_1490 : BitVec 32 := 1#32
  let v3047 : BitVec 32 := Scalar.addi v3046 c1_i32_1490
  let c128_i32_1491 : BitVec 32 := 128#32
  let v3048 : BitVec 32 := Scalar.muli v3047 c128_i32_1491
  v3048
def k0_mult41 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1494 : BitVec 32 := 4#32
  let v3057 : BitVec 32 := Scalar.muli arg19 c4_i32_1494
  let c2_i32_1495 : BitVec 32 := 2#32
  let v3058 : BitVec 32 := Scalar.addi v3057 c2_i32_1495
  let c128_i32_1496 : BitVec 32 := 128#32
  let v3059 : BitVec 32 := Scalar.muli v3058 c128_i32_1496
  v3059
def k0_mult42 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1499 : BitVec 32 := 4#32
  let v3068 : BitVec 32 := Scalar.muli arg19 c4_i32_1499
  let c3_i32_1500 : BitVec 32 := 3#32
  let v3069 : BitVec 32 := Scalar.addi v3068 c3_i32_1500
  let c128_i32_1501 : BitVec 32 := 128#32
  let v3070 : BitVec 32 := Scalar.muli v3069 c128_i32_1501
  v3070
def k0_mult43 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1504 : BitVec 32 := 4#32
  let v3079 : BitVec 32 := Scalar.muli arg19 c4_i32_1504
  let c0_i32_1505 : BitVec 32 := 0#32
  let v3080 : BitVec 32 := Scalar.addi v3079 c0_i32_1505
  let c128_i32_1506 : BitVec 32 := 128#32
  let v3081 : BitVec 32 := Scalar.muli v3080 c128_i32_1506
  v3081
def k0_off33 (k0_t2 : Fin k0_t2_loop.trips) (c0_i32_1505 : BitVec 32) : Fin 3 → Nat :=
  let c0_1507 : Index := 0#32
  let c128_1508 : Index := 128#32
  let c0_i32_1293 : BitVec 32 := 0#32
  let c1_i32 : BitVec 32 := 1#32
  let arg19 : BitVec 32 := Scf.iv c0_i32_1293 c1_i32 k0_t2
  let c4_i32_1504 : BitVec 32 := 4#32
  let v3079 : BitVec 32 := Scalar.muli arg19 c4_i32_1504
  let v3080 : BitVec 32 := Scalar.addi v3079 c0_i32_1505
  let c128_i32_1506 : BitVec 32 := 128#32
  let v3081 : BitVec 32 := Scalar.muli v3080 c128_i32_1506
  let v3082 : BitVec 32 := v3081
  let v3083 : Index := Scalar.indexCast v3082
  ![0, 128, v3083.toNat]
def k0_mult44 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1509 : BitVec 32 := 4#32
  let v3086 : BitVec 32 := Scalar.muli arg19 c4_i32_1509
  let c1_i32_1510 : BitVec 32 := 1#32
  let v3087 : BitVec 32 := Scalar.addi v3086 c1_i32_1510
  let c128_i32_1511 : BitVec 32 := 128#32
  let v3088 : BitVec 32 := Scalar.muli v3087 c128_i32_1511
  v3088
def k0_mult45 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1514 : BitVec 32 := 4#32
  let v3093 : BitVec 32 := Scalar.muli arg19 c4_i32_1514
  let c2_i32_1515 : BitVec 32 := 2#32
  let v3094 : BitVec 32 := Scalar.addi v3093 c2_i32_1515
  let c128_i32_1516 : BitVec 32 := 128#32
  let v3095 : BitVec 32 := Scalar.muli v3094 c128_i32_1516
  v3095
def k0_mult46 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1519 : BitVec 32 := 4#32
  let v3100 : BitVec 32 := Scalar.muli arg19 c4_i32_1519
  let c3_i32_1520 : BitVec 32 := 3#32
  let v3101 : BitVec 32 := Scalar.addi v3100 c3_i32_1520
  let c128_i32_1521 : BitVec 32 := 128#32
  let v3102 : BitVec 32 := Scalar.muli v3101 c128_i32_1521
  v3102
def k0_off34 (k0_t2 : Fin k0_t2_loop.trips) : Fin 4 → Nat :=
  let c1_1524 : Index := 1#32
  let c0_i32_1293 : BitVec 32 := 0#32
  let c1_i32 : BitVec 32 := 1#32
  let arg19 : BitVec 32 := Scf.iv c0_i32_1293 c1_i32 k0_t2
  let v3108 : Index := Scalar.indexCast arg19
  let c0_1525 : Index := 0#32
  let c0_1526 : Index := 0#32
  ![1, v3108.toNat, 0, 0]
def k0_mult47 (i : grid0.Coords) : BitVec 32 :=
  let arg1 : BitVec 32 := BitVec.ofNat 32 (i 1).val
  let c1_i32_1527 : BitVec 32 := 1#32
  let v3111 : BitVec 32 := Scalar.addi arg1 c1_i32_1527
  let c4_i32_1528 : BitVec 32 := 4#32
  let v3112 : BitVec 32 := Scalar.addi v3111 c4_i32_1528
  let c5_i32_1529 : BitVec 32 := 5#32
  let v3113 : BitVec 32 := Scalar.remsi v3112 c5_i32_1529
  let c256_i32_1530 : BitVec 32 := 256#32
  let v3114 : BitVec 32 := Scalar.muli v3113 c256_i32_1530
  v3114
def k0_mult48 (i : grid0.Coords) : BitVec 32 :=
  let arg1 : BitVec 32 := BitVec.ofNat 32 (i 1).val
  let c1_i32_1536 : BitVec 32 := 1#32
  let v3129 : BitVec 32 := Scalar.addi arg1 c1_i32_1536
  let c0_i32_1537 : BitVec 32 := 0#32
  let v3130 : BitVec 32 := Scalar.addi v3129 c0_i32_1537
  let c5_i32_1538 : BitVec 32 := 5#32
  let v3131 : BitVec 32 := Scalar.remsi v3130 c5_i32_1538
  let c256_i32_1539 : BitVec 32 := 256#32
  let v3132 : BitVec 32 := Scalar.muli v3131 c256_i32_1539
  v3132
def k0_mult49 (i : grid0.Coords) : BitVec 32 :=
  let arg1 : BitVec 32 := BitVec.ofNat 32 (i 1).val
  let c1_i32_1549 : BitVec 32 := 1#32
  let v3153 : BitVec 32 := Scalar.addi arg1 c1_i32_1549
  let c1_i32_1550 : BitVec 32 := 1#32
  let v3154 : BitVec 32 := Scalar.addi v3153 c1_i32_1550
  let c5_i32_1551 : BitVec 32 := 5#32
  let v3155 : BitVec 32 := Scalar.remsi v3154 c5_i32_1551
  let c256_i32_1552 : BitVec 32 := 256#32
  let v3156 : BitVec 32 := Scalar.muli v3155 c256_i32_1552
  v3156
def k0_mult50 (i : grid0.Coords) : BitVec 32 :=
  let arg1 : BitVec 32 := BitVec.ofNat 32 (i 1).val
  let c1_i32_1562 : BitVec 32 := 1#32
  let v3177 : BitVec 32 := Scalar.addi arg1 c1_i32_1562
  let c2_i32_1563 : BitVec 32 := 2#32
  let v3178 : BitVec 32 := Scalar.addi v3177 c2_i32_1563
  let c5_i32_1564 : BitVec 32 := 5#32
  let v3179 : BitVec 32 := Scalar.remsi v3178 c5_i32_1564
  let c256_i32_1565 : BitVec 32 := 256#32
  let v3180 : BitVec 32 := Scalar.muli v3179 c256_i32_1565
  v3180
def k0_mult51 (i : grid0.Coords) : BitVec 32 :=
  let arg1 : BitVec 32 := BitVec.ofNat 32 (i 1).val
  let c1_i32_1575 : BitVec 32 := 1#32
  let v3201 : BitVec 32 := Scalar.addi arg1 c1_i32_1575
  let c3_i32_1576 : BitVec 32 := 3#32
  let v3202 : BitVec 32 := Scalar.addi v3201 c3_i32_1576
  let c5_i32_1577 : BitVec 32 := 5#32
  let v3203 : BitVec 32 := Scalar.remsi v3202 c5_i32_1577
  let c256_i32_1578 : BitVec 32 := 256#32
  let v3204 : BitVec 32 := Scalar.muli v3203 c256_i32_1578
  v3204
def k0_mult52 (i : grid0.Coords) : BitVec 32 :=
  let arg1 : BitVec 32 := BitVec.ofNat 32 (i 1).val
  let c1_i32_1588 : BitVec 32 := 1#32
  let v3225 : BitVec 32 := Scalar.addi arg1 c1_i32_1588
  let c4_i32_1589 : BitVec 32 := 4#32
  let v3226 : BitVec 32 := Scalar.addi v3225 c4_i32_1589
  let c5_i32_1590 : BitVec 32 := 5#32
  let v3227 : BitVec 32 := Scalar.remsi v3226 c5_i32_1590
  let c256_i32_1591 : BitVec 32 := 256#32
  let v3228 : BitVec 32 := Scalar.muli v3227 c256_i32_1591
  v3228
def k0_mult53 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1696 : BitVec 32 := 4#32
  let v3453 : BitVec 32 := Scalar.muli arg19 c4_i32_1696
  let c0_i32_1697 : BitVec 32 := 0#32
  let v3454 : BitVec 32 := Scalar.addi v3453 c0_i32_1697
  let c128_i32_1698 : BitVec 32 := 128#32
  let v3455 : BitVec 32 := Scalar.muli v3454 c128_i32_1698
  v3455
def k0_mult54 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1701 : BitVec 32 := 4#32
  let v3464 : BitVec 32 := Scalar.muli arg19 c4_i32_1701
  let c1_i32_1702 : BitVec 32 := 1#32
  let v3465 : BitVec 32 := Scalar.addi v3464 c1_i32_1702
  let c128_i32_1703 : BitVec 32 := 128#32
  let v3466 : BitVec 32 := Scalar.muli v3465 c128_i32_1703
  v3466
def k0_mult55 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1706 : BitVec 32 := 4#32
  let v3475 : BitVec 32 := Scalar.muli arg19 c4_i32_1706
  let c2_i32_1707 : BitVec 32 := 2#32
  let v3476 : BitVec 32 := Scalar.addi v3475 c2_i32_1707
  let c128_i32_1708 : BitVec 32 := 128#32
  let v3477 : BitVec 32 := Scalar.muli v3476 c128_i32_1708
  v3477
def k0_mult56 (k0_t2 : Fin k0_t2_loop.trips) : BitVec 32 :=
  let c0_i32_1293 : BitVec 32 := 0#32
  let c1_i32 : BitVec 32 := 1#32
  let arg19 : BitVec 32 := Scf.iv c0_i32_1293 c1_i32 k0_t2
  let c4_i32_1711 : BitVec 32 := 4#32
  let v3486 : BitVec 32 := Scalar.muli arg19 c4_i32_1711
  let c3_i32_1712 : BitVec 32 := 3#32
  let v3487 : BitVec 32 := Scalar.addi v3486 c3_i32_1712
  let c128_i32_1713 : BitVec 32 := 128#32
  let v3488 : BitVec 32 := Scalar.muli v3487 c128_i32_1713
  v3488
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "sm_log2e" => some (((Real.sqrt 128)⁻¹ * (Real.log 2)⁻¹ : ℝ) : EReal)
  | _ => none
-- ==== ReferenceIdeal.lean ====
abbrev S2x16384x4096 : Shape := ⟨3, ![2, 16384, 4096]⟩
abbrev S2x16384x1024 : Shape := ⟨3, ![2, 16384, 1024]⟩
abbrev S2x8 : Shape := ⟨2, ![2, 8]⟩
abbrev S32 : Shape := ⟨1, ![32]⟩
abbrev S2x16384x32x128 : Shape := ⟨4, ![2, 16384, 32, 128]⟩
abbrev S_ : Shape := ⟨0, ![]⟩
abbrev S2x16384x32 : Shape := ⟨3, ![2, 16384, 32]⟩
abbrev S2x16384x32x1 : Shape := ⟨4, ![2, 16384, 32, 1]⟩
abbrev S2x16384x8x128 : Shape := ⟨4, ![2, 16384, 8, 128]⟩
abbrev S2x16384x8 : Shape := ⟨3, ![2, 16384, 8]⟩
abbrev S2x16384x8x1 : Shape := ⟨4, ![2, 16384, 8, 1]⟩
abbrev S2x1x8x1 : Shape := ⟨4, ![2, 1, 8, 1]⟩
abbrev S2x16384x8x4x128 : Shape := ⟨5, ![2, 16384, 8, 4, 128]⟩
abbrev S2x8x16384x16384x4 : Shape := ⟨5, ![2, 8, 16384, 16384, 4]⟩
abbrev S2x8x4x16384x16384 : Shape := ⟨5, ![2, 8, 4, 16384, 16384]⟩
abbrev S2x16384x8x4 : Shape := ⟨4, ![2, 16384, 8, 4]⟩
abbrev S2x8x4x16384 : Shape := ⟨4, ![2, 8, 4, 16384]⟩
abbrev S2x8x4x16384x1 : Shape := ⟨5, ![2, 8, 4, 16384, 1]⟩
abbrev S2x8x16384 : Shape := ⟨3, ![2, 8, 16384]⟩
abbrev S2x8x1x1x16384 : Shape := ⟨5, ![2, 8, 1, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x4 : Shape := ⟨2, ![8, 4]⟩
abbrev S1x8x4x1x1 : Shape := ⟨5, ![1, 8, 4, 1, 1]⟩
abbrev S2x8x4x16384x128 : Shape := ⟨5, ![2, 8, 4, 16384, 128]⟩
abbrev S2x8x1x1x1 : Shape := ⟨5, ![2, 8, 1, 1, 1]⟩

abbrev nBuf : Space → Nat
  | .hbm => 227
  | .vmem => 0
  | .smem => 0
  | _ => 0

abbrev hbmTy0_0 (i : Nat) : BufTy := match i % 128 with
  | 0 => ⟨S2x16384x4096, .bf16⟩
  | 1 => ⟨S2x16384x1024, .bf16⟩
  | 2 => ⟨S2x16384x1024, .bf16⟩
  | 3 => ⟨S2x8, .f32⟩
  | 4 => ⟨S32, .f32⟩
  | 5 => ⟨S2x16384x4096, .f32⟩
  | 6 => ⟨S2x16384x32x128, .f32⟩
  | 7 => ⟨S2x16384x32x128, .f32⟩
  | 8 => ⟨S_, .f32⟩
  | 9 => ⟨S2x16384x32, .f32⟩
  | 10 => ⟨S2x16384x32x1, .f32⟩
  | 11 => ⟨S_, .f32⟩
  | 12 => ⟨S2x16384x32x1, .f32⟩
  | 13 => ⟨S2x16384x32x1, .f32⟩
  | 14 => ⟨S2x16384x32x1, .f32⟩
  | 15 => ⟨S_, .f32⟩
  | 16 => ⟨S2x16384x32x1, .f32⟩
  | 17 => ⟨S2x16384x32x1, .f32⟩
  | 18 => ⟨S2x16384x32x1, .f32⟩
  | 19 => ⟨S2x16384x32x1, .f32⟩
  | 20 => ⟨S_, .f32⟩
  | 21 => ⟨S2x16384x32x1, .f32⟩
  | 22 => ⟨S2x16384x32x1, .f32⟩
  | 23 => ⟨S_, .f32⟩
  | 24 => ⟨S2x16384x32x1, .f32⟩
  | 25 => ⟨S2x16384x32x1, .i1⟩
  | 26 => ⟨S_, .f32⟩
  | 27 => ⟨S2x16384x32x1, .f32⟩
  | 28 => ⟨S2x16384x32x1, .f32⟩
  | 29 => ⟨S2x16384x32x1, .f32⟩
  | 30 => ⟨S_, .f32⟩
  | 31 => ⟨S2x16384x32x1, .f32⟩
  | 32 => ⟨S2x16384x32x1, .f32⟩
  | 33 => ⟨S2x16384x32x1, .f32⟩
  | 34 => ⟨S2x16384x32x1, .f32⟩
  | 35 => ⟨S2x16384x32x128, .f32⟩
  | 36 => ⟨S2x16384x32x128, .f32⟩
  | 37 => ⟨S_, .f32⟩
  | 38 => ⟨S_, .f32⟩
  | 39 => ⟨S_, .f32⟩
  | 40 => ⟨S2x16384x32x128, .f32⟩
  | 41 => ⟨S2x16384x32x128, .f32⟩
  | 42 => ⟨S_, .f32⟩
  | 43 => ⟨S2x16384x32x128, .f32⟩
  | 44 => ⟨S2x16384x32x128, .f32⟩
  | 45 => ⟨S_, .f32⟩
  | 46 => ⟨S2x16384x32x1, .f32⟩
  | 47 => ⟨S2x16384x32x1, .f32⟩
  | 48 => ⟨S2x16384x32x1, .f32⟩
  | 49 => ⟨S2x16384x32x1, .f32⟩
  | 50 => ⟨S2x16384x32, .f32⟩
  | 51 => ⟨S2x16384x1024, .f32⟩
  | 52 => ⟨S2x16384x8x128, .f32⟩
  | 53 => ⟨S2x16384x8x128, .f32⟩
  | 54 => ⟨S_, .f32⟩
  | 55 => ⟨S2x16384x8, .f32⟩
  | 56 => ⟨S2x16384x8x1, .f32⟩
  | 57 => ⟨S_, .f32⟩
  | 58 => ⟨S2x16384x8x1, .f32⟩
  | 59 => ⟨S2x16384x8x1, .f32⟩
  | 60 => ⟨S2x16384x8x1, .f32⟩
  | 61 => ⟨S_, .f32⟩
  | 62 => ⟨S2x16384x8x1, .f32⟩
  | 63 => ⟨S2x16384x8x1, .f32⟩
  | 64 => ⟨S2x16384x8x1, .f32⟩
  | 65 => ⟨S2x16384x8x1, .f32⟩
  | 66 => ⟨S_, .f32⟩
  | 67 => ⟨S2x16384x8x1, .f32⟩
  | 68 => ⟨S2x16384x8x1, .f32⟩
  | 69 => ⟨S_, .f32⟩
  | 70 => ⟨S2x16384x8x1, .f32⟩
  | 71 => ⟨S2x16384x8x1, .i1⟩
  | 72 => ⟨S_, .f32⟩
  | 73 => ⟨S2x16384x8x1, .f32⟩
  | 74 => ⟨S2x16384x8x1, .f32⟩
  | 75 => ⟨S2x16384x8x1, .f32⟩
  | 76 => ⟨S_, .f32⟩
  | 77 => ⟨S2x16384x8x1, .f32⟩
  | 78 => ⟨S2x16384x8x1, .f32⟩
  | 79 => ⟨S2x16384x8x1, .f32⟩
  | 80 => ⟨S2x16384x8x1, .f32⟩
  | 81 => ⟨S2x16384x8x128, .f32⟩
  | 82 => ⟨S2x16384x8x128, .f32⟩
  | 83 => ⟨S_, .f32⟩
  | 84 => ⟨S_, .f32⟩
  | 85 => ⟨S_, .f32⟩
  | 86 => ⟨S2x16384x8x128, .f32⟩
  | 87 => ⟨S2x16384x8x128, .f32⟩
  | 88 => ⟨S_, .f32⟩
  | 89 => ⟨S2x16384x8x128, .f32⟩
  | 90 => ⟨S2x16384x8x128, .f32⟩
  | 91 => ⟨S_, .f32⟩
  | 92 => ⟨S2x16384x8x1, .f32⟩
  | 93 => ⟨S2x16384x8x1, .f32⟩
  | 94 => ⟨S2x16384x8x1, .f32⟩
  | 95 => ⟨S2x16384x8x1, .f32⟩
  | 96 => ⟨S2x16384x8, .f32⟩
  | 97 => ⟨S2x16384x1024, .f32⟩
  | 98 => ⟨S2x16384x8x128, .f32⟩
  | 99 => ⟨S_, .f32⟩
  | 100 => ⟨S2x8, .f32⟩
  | 101 => ⟨S2x8, .f32⟩
  | 102 => ⟨S2x1x8x1, .f32⟩
  | 103 => ⟨S2x16384x8x128, .f32⟩
  | 104 => ⟨S2x16384x8x128, .f32⟩
  | 105 => ⟨S_, .f32⟩
  | 106 => ⟨S_, .f32⟩
  | 107 => ⟨S_, .f32⟩
  | 108 => ⟨S2x16384x8x128, .f32⟩
  | 109 => ⟨S2x16384x8x128, .f32⟩
  | 110 => ⟨S_, .f32⟩
  | 111 => ⟨S2x16384x8x128, .f32⟩
  | 112 => ⟨S2x16384x8x128, .f32⟩
  | 113 => ⟨S2x16384x8x4x128, .f32⟩
  | 114 => ⟨S2x8x16384x16384x4, .f32⟩
  | 115 => ⟨S2x8x4x16384x16384, .f32⟩
  | 116 => ⟨S2x16384x8x4, .f32⟩
  | 117 => ⟨S2x8x4x16384, .f32⟩
  | 118 => ⟨S2x8x4x16384x1, .f32⟩
  | 119 => ⟨S2x8x16384, .f32⟩
  | 120 => ⟨S2x8x1x1x16384, .f32⟩
  | 121 => ⟨S_, .f32⟩
  | 122 => ⟨S2x8x4x16384x1, .f32⟩
  | 123 => ⟨S2x8x4x16384x1, .f32⟩
  | 124 => ⟨S2x8x4x16384x1, .f32⟩
  | 125 => ⟨S2x8x4x16384x16384, .f32⟩
  | 126 => ⟨S2x8x4x16384x16384, .f32⟩
  | 127 => ⟨S2x8x4x16384x16384, .f32⟩
  | _ => ⟨S2x16384x4096, .bf16⟩

abbrev hbmTy0_1 (i : Nat) : BufTy := match i % 128 with
  | 0 => ⟨S2x8x4x16384x16384, .f32⟩
  | 1 => ⟨S16384, .i32⟩
  | 2 => ⟨S16384x1, .i32⟩
  | 3 => ⟨S16384, .i32⟩
  | 4 => ⟨S1x16384, .i32⟩
  | 5 => ⟨S16384x16384, .i32⟩
  | 6 => ⟨S16384x16384, .i32⟩
  | 7 => ⟨S16384x16384, .i1⟩
  | 8 => ⟨S_, .i32⟩
  | 9 => ⟨S16384x1, .i32⟩
  | 10 => ⟨S16384x1, .i32⟩
  | 11 => ⟨S16384x16384, .i32⟩
  | 12 => ⟨S16384x16384, .i32⟩
  | 13 => ⟨S16384x16384, .i1⟩
  | 14 => ⟨S16384x16384, .i1⟩
  | 15 => ⟨S_, .f32⟩
  | 16 => ⟨S_, .f32⟩
  | 17 => ⟨S2x8x4x16384x16384, .i1⟩
  | 18 => ⟨S2x8x4x16384x16384, .f32⟩
  | 19 => ⟨S2x8x4x16384x16384, .f32⟩
  | 20 => ⟨S8x4, .f32⟩
  | 21 => ⟨S1x8x4x1x1, .f32⟩
  | 22 => ⟨S_, .f32⟩
  | 23 => ⟨S2x8x4x16384, .f32⟩
  | 24 => ⟨S2x8x4x16384x1, .f32⟩
  | 25 => ⟨S2x8x4x16384x1, .f32⟩
  | 26 => ⟨S2x8x4x16384x1, .f32⟩
  | 27 => ⟨S2x8x4x16384x16384, .f32⟩
  | 28 => ⟨S2x8x4x16384x16384, .f32⟩
  | 29 => ⟨S2x8x4x16384x16384, .f32⟩
  | 30 => ⟨S_, .f32⟩
  | 31 => ⟨S2x8x4x16384, .f32⟩
  | 32 => ⟨S2x8x4x16384x1, .f32⟩
  | 33 => ⟨S2x8x4x16384x1, .f32⟩
  | 34 => ⟨S2x8x4x16384x1, .f32⟩
  | 35 => ⟨S2x8x4x16384x1, .f32⟩
  | 36 => ⟨S2x8x4x16384x1, .f32⟩
  | 37 => ⟨S2x8x4x16384x16384, .f32⟩
  | 38 => ⟨S_, .f32⟩
  | 39 => ⟨S2x8x4x16384, .f32⟩
  | 40 => ⟨S2x8x4x16384x1, .f32⟩
  | 41 => ⟨S_, .f32⟩
  | 42 => ⟨S2x8x4x16384x1, .f32⟩
  | 43 => ⟨S2x8x4x16384x1, .f32⟩
  | 44 => ⟨S2x8x4x16384x1, .f32⟩
  | 45 => ⟨S_, .f32⟩
  | 46 => ⟨S2x8x4x16384x1, .f32⟩
  | 47 => ⟨S2x8x4x16384x1, .f32⟩
  | 48 => ⟨S2x8x4x16384x1, .f32⟩
  | 49 => ⟨S2x8x4x16384x1, .f32⟩
  | 50 => ⟨S_, .f32⟩
  | 51 => ⟨S2x8x4x16384x1, .f32⟩
  | 52 => ⟨S2x8x4x16384x1, .f32⟩
  | 53 => ⟨S_, .f32⟩
  | 54 => ⟨S2x8x4x16384x1, .f32⟩
  | 55 => ⟨S2x8x4x16384x1, .i1⟩
  | 56 => ⟨S_, .f32⟩
  | 57 => ⟨S2x8x4x16384x1, .f32⟩
  | 58 => ⟨S2x8x4x16384x1, .f32⟩
  | 59 => ⟨S2x8x4x16384x1, .f32⟩
  | 60 => ⟨S_, .f32⟩
  | 61 => ⟨S2x8x4x16384x1, .f32⟩
  | 62 => ⟨S2x8x4x16384x1, .f32⟩
  | 63 => ⟨S2x8x4x16384x1, .f32⟩
  | 64 => ⟨S2x8x4x16384x1, .f32⟩
  | 65 => ⟨S2x8x4x16384x16384, .f32⟩
  | 66 => ⟨S2x8x4x16384x16384, .f32⟩
  | 67 => ⟨S_, .f32⟩
  | 68 => ⟨S_, .f32⟩
  | 69 => ⟨S_, .f32⟩
  | 70 => ⟨S2x8x4x16384x16384, .f32⟩
  | 71 => ⟨S2x8x4x16384x16384, .f32⟩
  | 72 => ⟨S_, .f32⟩
  | 73 => ⟨S2x8x4x16384x16384, .f32⟩
  | 74 => ⟨S2x8x4x16384x16384, .f32⟩
  | 75 => ⟨S_, .f32⟩
  | 76 => ⟨S2x8x4x16384x1, .f32⟩
  | 77 => ⟨S2x8x4x16384x1, .f32⟩
  | 78 => ⟨S2x8x4x16384x1, .f32⟩
  | 79 => ⟨S2x8x4x16384x1, .f32⟩
  | 80 => ⟨S2x8x4x16384, .f32⟩
  | 81 => ⟨S2x8x4x16384x128, .f32⟩
  | 82 => ⟨S2x8x4x16384x1, .f32⟩
  | 83 => ⟨S2x8x4x16384x128, .f32⟩
  | 84 => ⟨S2x8x4x16384x128, .f32⟩
  | 85 => ⟨S2x8x1x1x1, .f32⟩
  | 86 => ⟨S2x8x4x16384x128, .f32⟩
  | 87 => ⟨S2x8x4x16384x128, .f32⟩
  | 88 => ⟨S2x8x4x16384x128, .f32⟩
  | 89 => ⟨S2x8x4x16384x128, .f32⟩
  | 90 => ⟨S2x16384x8x4x128, .f32⟩
  | 91 => ⟨S2x16384x4096, .f32⟩
  | 92 => ⟨S2x16384x4096, .bf16⟩
  | 93 => ⟨S2x16384x4096, .f32⟩
  | 94 => ⟨S2x16384x4096, .fp8e4m3⟩
  | 95 => ⟨S2x16384x1024, .f32⟩
  | 96 => ⟨S2x16384x1024, .fp8e4m3⟩
  | 97 => ⟨S2x16384x1024, .f32⟩
  | 98 => ⟨S2x16384x1024, .fp8e4m3⟩
  | _ => ⟨S2x16384x4096, .bf16⟩

abbrev hbmTy (i : Nat) : BufTy := match i / 128 with
  | 0 => hbmTy0_0 i
  | 1 => hbmTy0_1 i
  | _ => ⟨S2x16384x4096, .bf16⟩

abbrev bufTy : (tb : Table) → Fin (tcTables nBuf tb) → BufTy
  | .hbm, ⟨i, _⟩ => hbmTy i
  | _, _ => ⟨S2x16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_cst_17 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v56 : Ref sig .tc := ⟨.hbm, 90, rfl⟩
abbrev main_cst_18 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_19 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_20 : Ref sig .tc := ⟨.hbm, 105, rfl⟩
abbrev main_cst_21 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_22 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_c : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_cst_23 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_24 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_25 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_26 : Ref sig .tc := ⟨.hbm, 166, rfl⟩
abbrev main_v115 : Ref sig .tc := ⟨.hbm, 167, rfl⟩
abbrev main_v116 : Ref sig .tc := ⟨.hbm, 168, rfl⟩
abbrev main_cst_27 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_28 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_29 : Ref sig .tc := ⟨.hbm, 178, rfl⟩
abbrev main_v124 : Ref sig .tc := ⟨.hbm, 179, rfl⟩
abbrev main_v125 : Ref sig .tc := ⟨.hbm, 180, rfl⟩
abbrev main_cst_30 : Ref sig .tc := ⟨.hbm, 181, rfl⟩
abbrev main_v126 : Ref sig .tc := ⟨.hbm, 182, rfl⟩
abbrev main_v127 : Ref sig .tc := ⟨.hbm, 183, rfl⟩
abbrev main_cst_31 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_cst_32 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_33 : Ref sig .tc := ⟨.hbm, 195, rfl⟩
abbrev main_cst_34 : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_v137 : Ref sig .tc := ⟨.hbm, 202, rfl⟩
abbrev main_cst_35 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩

abbrev nD : Nat := 1
abbrev τ : Topo := Topo.v7x

variable {F : FTy → Type} [FloatOps F]
-- ==== Proof.P.State.lean ====
/-
  The state the kernel's body works on, as plain arrays: the blocks it reads (`In`), the blocks and scratch buffers it
  writes (`St`), the memrefs they are held through (`Mem`), and the assertion that a core holds them (`Own`). A
  computation on the state is a function (`PM`); `Runs` says that a program does what such a function says. The rules at
  the end are one load and one store per buffer, the sequence, and the counted loop.
-/
module

public import proofs.«01_k».proof.Proof.Gen.Kernel.Skeleton
public import proofs.«01_k».proof.Proof.Gen.Kernel.Frame
public import Idealize.ShloMosaic.Lib.VecWindow
public import Idealize.ShloMosaic.Lib.Scf
public import Idealize.ShloMosaic.Lib.Tactic

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The memrefs the body is called with. -/
structure Mem where
  a2 : Memref sig .tc .vmem S1x256x4096 .bf16
  a3 : Memref sig .tc .vmem S1x256x1024 .bf16
  a4 : Memref sig .tc .vmem S1x256x1024 .bf16
  a5 : Memref sig .tc .vmem S1x8x8x128 .f32
  a6 : Memref sig .tc .vmem S8x8x512 .f32
  a7 : Memref sig .tc .vmem S1x256x4096 .bf16
  a8 : Memref sig .tc .vmem S1x256x4096 .fp8e4m3
  a9 : Memref sig .tc .vmem S1x256x32 .f32
  a10 : Memref sig .tc .vmem S1x256x1024 .fp8e4m3
  a11 : Memref sig .tc .vmem S1x256x8 .f32
  a12 : Memref sig .tc .vmem S1x256x1024 .fp8e4m3
  a13 : Memref sig .tc .vmem S8x1280x128 .fp8e4m3
  a14 : Memref sig .tc .vmem S8x1280x128 .f32
  a15 : Memref sig .tc .vmem S8x5x128x256 .fp8e4m3
  a16 : Memref sig .tc .vmem S2x8x8x512 .f32
  a17 : Memref sig .tc .vmem S5x256x512 .f32
  a18 : Memref sig .tc .vmem S5x256x512 .fp8e4m3

/-- Each of them is a whole buffer. -/
structure Mem.Whole (M : Mem) : Prop where
  h2 : M.a2.IsWhole
  h3 : M.a3.IsWhole
  h4 : M.a4.IsWhole
  h5 : M.a5.IsWhole
  h6 : M.a6.IsWhole
  h7 : M.a7.IsWhole
  h8 : M.a8.IsWhole
  h9 : M.a9.IsWhole
  h10 : M.a10.IsWhole
  h11 : M.a11.IsWhole
  h12 : M.a12.IsWhole
  h13 : M.a13.IsWhole
  h14 : M.a14.IsWhole
  h15 : M.a15.IsWhole
  h16 : M.a16.IsWhole
  h17 : M.a17.IsWhole
  h18 : M.a18.IsWhole

/-- The blocks the body reads. -/
structure In (F : FTy → Type) where
  a2 : S1x256x4096.Idx → Elt F .bf16
  a3 : S1x256x1024.Idx → Elt F .bf16
  a4 : S1x256x1024.Idx → Elt F .bf16
  a5 : S1x8x8x128.Idx → Elt F .f32
  a6 : S8x8x512.Idx → Elt F .f32

/-- The blocks and scratch buffers the body writes. -/
structure St (F : FTy → Type) where
  a7 : S1x256x4096.Idx → Elt F .bf16
  a8 : S1x256x4096.Idx → Elt F .fp8e4m3
  a9 : S1x256x32.Idx → Elt F .f32
  a10 : S1x256x1024.Idx → Elt F .fp8e4m3
  a11 : S1x256x8.Idx → Elt F .f32
  a12 : S1x256x1024.Idx → Elt F .fp8e4m3
  a13 : S8x1280x128.Idx → Elt F .fp8e4m3
  a14 : S8x1280x128.Idx → Elt F .f32
  a15 : S8x5x128x256.Idx → Elt F .fp8e4m3
  a16 : S2x8x8x512.Idx → Elt F .f32
  a17 : S5x256x512.Idx → Elt F .f32
  a18 : S5x256x512.Idx → Elt F .fp8e4m3

/-- A computation on the state. -/
def PM (F : FTy → Type) (α : Type) : Type := St F → α × St F

instance : Monad (PM F) where
  pure a := fun s => (a, s)
  bind f g := fun s => g (f s).1 (f s).2

theorem PM.pure_apply {α : Type} (a : α) (s : St F) : (pure a : PM F α) s = (a, s) := rfl
theorem PM.bind_apply {α β : Type} (f : PM F α) (g : α → PM F β) (s : St F) : (f >>= g) s = g (f s).1 (f s).2 := rfl

/-- A list of computations in order. -/
def PM.seq {n : ℕ} (b : Fin n → PM F Unit) : List (Fin n) → PM F Unit
  | [] => pure ⟨⟩
  | k :: ks => b k >>= fun _ => PM.seq b ks

/-- A counted loop. -/
def PM.loop (n : ℕ) (b : Fin n → PM F Unit) : PM F Unit := PM.seq b (List.finRange n)

/-- A load from `a2`. -/
def ld2 (I : In F) (off size : Fin (S1x256x4096).rank → ℕ) (inb : ∀ a, off a + size a ≤ (S1x256x4096).size a) :
    PM F ((Rect.unit (s := S1x256x4096) off size inb).toLoadRect.shape.Idx → Elt F .bf16) :=
  fun s => (VecWindow.window I.a2 off size inb, s)
/-- A load from `a3`. -/
def ld3 (I : In F) (off size : Fin (S1x256x1024).rank → ℕ) (inb : ∀ a, off a + size a ≤ (S1x256x1024).size a) :
    PM F ((Rect.unit (s := S1x256x1024) off size inb).toLoadRect.shape.Idx → Elt F .bf16) :=
  fun s => (VecWindow.window I.a3 off size inb, s)
/-- A load from `a4`. -/
def ld4 (I : In F) (off size : Fin (S1x256x1024).rank → ℕ) (inb : ∀ a, off a + size a ≤ (S1x256x1024).size a) :
    PM F ((Rect.unit (s := S1x256x1024) off size inb).toLoadRect.shape.Idx → Elt F .bf16) :=
  fun s => (VecWindow.window I.a4 off size inb, s)
/-- A load from `a5`. -/
def ld5 (I : In F) (off size : Fin (S1x8x8x128).rank → ℕ) (inb : ∀ a, off a + size a ≤ (S1x8x8x128).size a) :
    PM F ((Rect.unit (s := S1x8x8x128) off size inb).toLoadRect.shape.Idx → Elt F .f32) :=
  fun s => (VecWindow.window I.a5 off size inb, s)
/-- A load from `a6`. -/
def ld6 (I : In F) (off size : Fin (S8x8x512).rank → ℕ) (inb : ∀ a, off a + size a ≤ (S8x8x512).size a) :
    PM F ((Rect.unit (s := S8x8x512) off size inb).toLoadRect.shape.Idx → Elt F .f32) :=
  fun s => (VecWindow.window I.a6 off size inb, s)
/-- A load from `a7`. -/
def ld7 (off size : Fin (S1x256x4096).rank → ℕ) (inb : ∀ a, off a + size a ≤ (S1x256x4096).size a) :
    PM F ((Rect.unit (s := S1x256x4096) off size inb).toLoadRect.shape.Idx → Elt F .bf16) :=
  fun s => (VecWindow.window s.a7 off size inb, s)
/-- A store to `a7`. -/
def st7 (off size : Fin (S1x256x4096).rank → ℕ) (inb : ∀ a, off a + size a ≤ (S1x256x4096).size a)
    (w : (Rect.unit (s := S1x256x4096) off size inb).shape.Idx → Elt F .bf16) : PM F PUnit :=
  fun s => (⟨⟩, { s with a7 := VecWindow.put s.a7 off size w })
/-- A load from `a8`. -/
def ld8 (off size : Fin (S1x256x4096).rank → ℕ) (inb : ∀ a, off a + size a ≤ (S1x256x4096).size a) :
    PM F ((Rect.unit (s := S1x256x4096) off size inb).toLoadRect.shape.Idx → Elt F .fp8e4m3) :=
  fun s => (VecWindow.window s.a8 off size inb, s)
/-- A store to `a8`. -/
def st8 (off size : Fin (S1x256x4096).rank → ℕ) (inb : ∀ a, off a + size a ≤ (S1x256x4096).size a)
    (w : (Rect.unit (s := S1x256x4096) off size inb).shape.Idx → Elt F .fp8e4m3) : PM F PUnit :=
  fun s => (⟨⟩, { s with a8 := VecWindow.put s.a8 off size w })
/-- A load from `a9`. -/
def ld9 (off size : Fin (S1x256x32).rank → ℕ) (inb : ∀ a, off a + size a ≤ (S1x256x32).size a) :
    PM F ((Rect.unit (s := S1x256x32) off size inb).toLoadRect.shape.Idx → Elt F .f32) :=
  fun s => (VecWindow.window s.a9 off size inb, s)
/-- A store to `a9`. -/
def st9 (off size : Fin (S1x256x32).rank → ℕ) (inb : ∀ a, off a + size a ≤ (S1x256x32).size a)
    (w : (Rect.unit (s := S1x256x32) off size inb).shape.Idx → Elt F .f32) : PM F PUnit :=
  fun s => (⟨⟩, { s with a9 := VecWindow.put s.a9 off size w })
/-- A load from `a10`. -/
def ld10 (off size : Fin (S1x256x1024).rank → ℕ) (inb : ∀ a, off a + size a ≤ (S1x256x1024).size a) :
    PM F ((Rect.unit (s := S1x256x1024) off size inb).toLoadRect.shape.Idx → Elt F .fp8e4m3) :=
  fun s => (VecWindow.window s.a10 off size inb, s)
/-- A store to `a10`. -/
def st10 (off size : Fin (S1x256x1024).rank → ℕ) (inb : ∀ a, off a + size a ≤ (S1x256x1024).size a)
    (w : (Rect.unit (s := S1x256x1024) off size inb).shape.Idx → Elt F .fp8e4m3) : PM F PUnit :=
  fun s => (⟨⟩, { s with a10 := VecWindow.put s.a10 off size w })
/-- A load from `a11`. -/
def ld11 (off size : Fin (S1x256x8).rank → ℕ) (inb : ∀ a, off a + size a ≤ (S1x256x8).size a) :
    PM F ((Rect.unit (s := S1x256x8) off size inb).toLoadRect.shape.Idx → Elt F .f32) :=
  fun s => (VecWindow.window s.a11 off size inb, s)
/-- A store to `a11`. -/
def st11 (off size : Fin (S1x256x8).rank → ℕ) (inb : ∀ a, off a + size a ≤ (S1x256x8).size a)
    (w : (Rect.unit (s := S1x256x8) off size inb).shape.Idx → Elt F .f32) : PM F PUnit :=
  fun s => (⟨⟩, { s with a11 := VecWindow.put s.a11 off size w })
/-- A load from `a12`. -/
def ld12 (off size : Fin (S1x256x1024).rank → ℕ) (inb : ∀ a, off a + size a ≤ (S1x256x1024).size a) :
    PM F ((Rect.unit (s := S1x256x1024) off size inb).toLoadRect.shape.Idx → Elt F .fp8e4m3) :=
  fun s => (VecWindow.window s.a12 off size inb, s)
/-- A store to `a12`. -/
def st12 (off size : Fin (S1x256x1024).rank → ℕ) (inb : ∀ a, off a + size a ≤ (S1x256x1024).size a)
    (w : (Rect.unit (s := S1x256x1024) off size inb).shape.Idx → Elt F .fp8e4m3) : PM F PUnit :=
  fun s => (⟨⟩, { s with a12 := VecWindow.put s.a12 off size w })
/-- A load from `a13`. -/
def ld13 (off size : Fin (S8x1280x128).rank → ℕ) (inb : ∀ a, off a + size a ≤ (S8x1280x128).size a) :
    PM F ((Rect.unit (s := S8x1280x128) off size inb).toLoadRect.shape.Idx → Elt F .fp8e4m3) :=
  fun s => (VecWindow.window s.a13 off size inb, s)
/-- A store to `a13`. -/
def st13 (off size : Fin (S8x1280x128).rank → ℕ) (inb : ∀ a, off a + size a ≤ (S8x1280x128).size a)
    (w : (Rect.unit (s := S8x1280x128) off size inb).shape.Idx → Elt F .fp8e4m3) : PM F PUnit :=
  fun s => (⟨⟩, { s with a13 := VecWindow.put s.a13 off size w })
/-- A load from `a14`. -/
def ld14 (off size : Fin (S8x1280x128).rank → ℕ) (inb : ∀ a, off a + size a ≤ (S8x1280x128).size a) :
    PM F ((Rect.unit (s := S8x1280x128) off size inb).toLoadRect.shape.Idx → Elt F .f32) :=
  fun s => (VecWindow.window s.a14 off size inb, s)
/-- A store to `a14`. -/
def st14 (off size : Fin (S8x1280x128).rank → ℕ) (inb : ∀ a, off a + size a ≤ (S8x1280x128).size a)
    (w : (Rect.unit (s := S8x1280x128) off size inb).shape.Idx → Elt F .f32) : PM F PUnit :=
  fun s => (⟨⟩, { s with a14 := VecWindow.put s.a14 off size w })
/-- A load from `a15`. -/
def ld15 (off size : Fin (S8x5x128x256).rank → ℕ) (inb : ∀ a, off a + size a ≤ (S8x5x128x256).size a) :
    PM F ((Rect.unit (s := S8x5x128x256) off size inb).toLoadRect.shape.Idx → Elt F .fp8e4m3) :=
  fun s => (VecWindow.window s.a15 off size inb, s)
/-- A store to `a15`. -/
def st15 (off size : Fin (S8x5x128x256).rank → ℕ) (inb : ∀ a, off a + size a ≤ (S8x5x128x256).size a)
    (w : (Rect.unit (s := S8x5x128x256) off size inb).shape.Idx → Elt F .fp8e4m3) : PM F PUnit :=
  fun s => (⟨⟩, { s with a15 := VecWindow.put s.a15 off size w })
/-- A load from `a16`. -/
def ld16 (off size : Fin (S2x8x8x512).rank → ℕ) (inb : ∀ a, off a + size a ≤ (S2x8x8x512).size a) :
    PM F ((Rect.unit (s := S2x8x8x512) off size inb).toLoadRect.shape.Idx → Elt F .f32) :=
  fun s => (VecWindow.window s.a16 off size inb, s)
/-- A store to `a16`. -/
def st16 (off size : Fin (S2x8x8x512).rank → ℕ) (inb : ∀ a, off a + size a ≤ (S2x8x8x512).size a)
    (w : (Rect.unit (s := S2x8x8x512) off size inb).shape.Idx → Elt F .f32) : PM F PUnit :=
  fun s => (⟨⟩, { s with a16 := VecWindow.put s.a16 off size w })
/-- A load from `a17`. -/
def ld17 (off size : Fin (S5x256x512).rank → ℕ) (inb : ∀ a, off a + size a ≤ (S5x256x512).size a) :
    PM F ((Rect.unit (s := S5x256x512) off size inb).toLoadRect.shape.Idx → Elt F .f32) :=
  fun s => (VecWindow.window s.a17 off size inb, s)
/-- A store to `a17`. -/
def st17 (off size : Fin (S5x256x512).rank → ℕ) (inb : ∀ a, off a + size a ≤ (S5x256x512).size a)
    (w : (Rect.unit (s := S5x256x512) off size inb).shape.Idx → Elt F .f32) : PM F PUnit :=
  fun s => (⟨⟩, { s with a17 := VecWindow.put s.a17 off size w })
/-- A load from `a18`. -/
def ld18 (off size : Fin (S5x256x512).rank → ℕ) (inb : ∀ a, off a + size a ≤ (S5x256x512).size a) :
    PM F ((Rect.unit (s := S5x256x512) off size inb).toLoadRect.shape.Idx → Elt F .fp8e4m3) :=
  fun s => (VecWindow.window s.a18 off size inb, s)
/-- A store to `a18`. -/
def st18 (off size : Fin (S5x256x512).rank → ℕ) (inb : ∀ a, off a + size a ≤ (S5x256x512).size a)
    (w : (Rect.unit (s := S5x256x512) off size inb).shape.Idx → Elt F .fp8e4m3) : PM F PUnit :=
  fun s => (⟨⟩, { s with a18 := VecWindow.put s.a18 off size w })

/-- Core `c` holds the blocks and buffers at the state. -/
def Own (c : Dev nD) (M : Mem) (I : In F) (s : St F) : sProp 𝕄 :=
  iprop(owns (c : Thread nD τ) M.a2 fullShare I.a2
    ∗ owns (c : Thread nD τ) M.a3 fullShare I.a3
    ∗ owns (c : Thread nD τ) M.a4 fullShare I.a4
    ∗ owns (c : Thread nD τ) M.a5 fullShare I.a5
    ∗ owns (c : Thread nD τ) M.a6 fullShare I.a6
    ∗ owns (c : Thread nD τ) M.a7 fullShare s.a7
    ∗ owns (c : Thread nD τ) M.a8 fullShare s.a8
    ∗ owns (c : Thread nD τ) M.a9 fullShare s.a9
    ∗ owns (c : Thread nD τ) M.a10 fullShare s.a10
    ∗ owns (c : Thread nD τ) M.a11 fullShare s.a11
    ∗ owns (c : Thread nD τ) M.a12 fullShare s.a12
    ∗ owns (c : Thread nD τ) M.a13 fullShare s.a13
    ∗ owns (c : Thread nD τ) M.a14 fullShare s.a14
    ∗ owns (c : Thread nD τ) M.a15 fullShare s.a15
    ∗ owns (c : Thread nD τ) M.a16 fullShare s.a16
    ∗ owns (c : Thread nD τ) M.a17 fullShare s.a17
    ∗ owns (c : Thread nD τ) M.a18 fullShare s.a18)

theorem focus_here (A B : sProp 𝕄) : iprop(A ∗ B) ⊢ iprop(A ∗ (A -∗ iprop(A ∗ B))) := by
  iintro ⟨HA, HB⟩; isplitl [HA]; · iexact HA
  iintro HA; isplitl [HA] <;> iassumption
theorem focus_put {X : Type} (A : sProp 𝕄) (P : X → sProp 𝕄) (B : sProp 𝕄) :
    iprop(A ∗ B) ⊢ iprop(A ∗ (∀ x, P x -∗ iprop(P x ∗ B))) := by
  iintro ⟨HA, HB⟩; isplitl [HA]; · iexact HA
  iintro %x HA; isplitl [HA] <;> iassumption
theorem focus_last {X : Type} (A : sProp 𝕄) (P : X → sProp 𝕄) : A ⊢ iprop(A ∗ (∀ x, P x -∗ P x)) := by
  iintro HA; isplitl [HA]; · iexact HA
  iintro %x HA; iexact HA
theorem put_back {X : Type} {D E : X → sProp 𝕄} (x : X) : iprop(D x ∗ (∀ x, D x -∗ E x)) ⊢ E x := by
  iintro ⟨H, HW⟩; iapply HW; iexact H
theorem focus_there {A B C D E : sProp 𝕄} (h : B ⊢ iprop(C ∗ (D -∗ E))) : iprop(A ∗ B) ⊢ iprop(C ∗ (D -∗ iprop(A ∗ E))) := by
  iintro ⟨HA, HB⟩
  ihave H := h $$ HB
  icases H with ⟨HC, HW⟩
  isplitl [HC]; · iexact HC
  iintro HD; isplitl [HA]; · iexact HA
  iapply HW; iexact HD
theorem focus_there' {X : Type} {A B C : sProp 𝕄} {D E : X → sProp 𝕄} (h : B ⊢ iprop(C ∗ (∀ x, D x -∗ E x))) :
    iprop(A ∗ B) ⊢ iprop(C ∗ (∀ x, D x -∗ iprop(A ∗ E x))) := by
  iintro ⟨HA, HB⟩
  ihave H := h $$ HB
  icases H with ⟨HC, HW⟩
  isplitl [HC]; · iexact HC
  iintro %x HD; isplitl [HA]; · iexact HA
  iapply HW; iexact HD

variable (c : Dev nD) (M : Mem) (I : In F)

theorem focus_2 (s : St F) : Own c M I s ⊢ iprop(owns (c : Thread nD τ) M.a2 fullShare I.a2 ∗ (owns (c : Thread nD τ) M.a2 fullShare I.a2 -∗ Own c M I s)) :=
  focus_here _ _
theorem focus_3 (s : St F) : Own c M I s ⊢ iprop(owns (c : Thread nD τ) M.a3 fullShare I.a3 ∗ (owns (c : Thread nD τ) M.a3 fullShare I.a3 -∗ Own c M I s)) :=
  focus_there (focus_here _ _)
theorem focus_4 (s : St F) : Own c M I s ⊢ iprop(owns (c : Thread nD τ) M.a4 fullShare I.a4 ∗ (owns (c : Thread nD τ) M.a4 fullShare I.a4 -∗ Own c M I s)) :=
  focus_there (focus_there (focus_here _ _))
theorem focus_5 (s : St F) : Own c M I s ⊢ iprop(owns (c : Thread nD τ) M.a5 fullShare I.a5 ∗ (owns (c : Thread nD τ) M.a5 fullShare I.a5 -∗ Own c M I s)) :=
  focus_there (focus_there (focus_there (focus_here _ _)))
theorem focus_6 (s : St F) : Own c M I s ⊢ iprop(owns (c : Thread nD τ) M.a6 fullShare I.a6 ∗ (owns (c : Thread nD τ) M.a6 fullShare I.a6 -∗ Own c M I s)) :=
  focus_there (focus_there (focus_there (focus_there (focus_here _ _))))
theorem focus_7 (s : St F) : Own c M I s ⊢ iprop(owns (c : Thread nD τ) M.a7 fullShare s.a7
      ∗ (∀ x, owns (c : Thread nD τ) M.a7 fullShare x -∗ Own c M I { s with a7 := x })) :=
  focus_there' (focus_there' (focus_there' (focus_there' (focus_there' (focus_put _ (fun x => owns (c : Thread nD τ) M.a7 fullShare x) _)))))
theorem focus_8 (s : St F) : Own c M I s ⊢ iprop(owns (c : Thread nD τ) M.a8 fullShare s.a8
      ∗ (∀ x, owns (c : Thread nD τ) M.a8 fullShare x -∗ Own c M I { s with a8 := x })) :=
  focus_there' (focus_there' (focus_there' (focus_there' (focus_there' (focus_there' (focus_put _ (fun x => owns (c : Thread nD τ) M.a8 fullShare x) _))))))
theorem focus_9 (s : St F) : Own c M I s ⊢ iprop(owns (c : Thread nD τ) M.a9 fullShare s.a9
      ∗ (∀ x, owns (c : Thread nD τ) M.a9 fullShare x -∗ Own c M I { s with a9 := x })) :=
  focus_there' (focus_there' (focus_there' (focus_there' (focus_there' (focus_there' (focus_there' (focus_put _ (fun x => owns (c : Thread nD τ) M.a9 fullShare x) _)))))))
theorem focus_10 (s : St F) : Own c M I s ⊢ iprop(owns (c : Thread nD τ) M.a10 fullShare s.a10
      ∗ (∀ x, owns (c : Thread nD τ) M.a10 fullShare x -∗ Own c M I { s with a10 := x })) :=
  focus_there' (focus_there' (focus_there' (focus_there' (focus_there' (focus_there' (focus_there' (focus_there' (focus_put _ (fun x => owns (c : Thread nD τ) M.a10 fullShare x) _))))))))
theorem focus_11 (s : St F) : Own c M I s ⊢ iprop(owns (c : Thread nD τ) M.a11 fullShare s.a11
      ∗ (∀ x, owns (c : Thread nD τ) M.a11 fullShare x -∗ Own c M I { s with a11 := x })) :=
  focus_there' (focus_there' (focus_there' (focus_there' (focus_there' (focus_there' (focus_there' (focus_there' (focus_there' (focus_put _ (fun x => owns (c : Thread nD τ) M.a11 fullShare x) _)))))))))
theorem focus_12 (s : St F) : Own c M I s ⊢ iprop(owns (c : Thread nD τ) M.a12 fullShare s.a12
      ∗ (∀ x, owns (c : Thread nD τ) M.a12 fullShare x -∗ Own c M I { s with a12 := x })) :=
  focus_there' (focus_there' (focus_there' (focus_there' (focus_there' (focus_there' (focus_there' (focus_there' (focus_there' (focus_there' (focus_put _ (fun x => owns (c : Thread nD τ) M.a12 fullShare x) _))))))))))
theorem focus_13 (s : St F) : Own c M I s ⊢ iprop(owns (c : Thread nD τ) M.a13 fullShare s.a13
      ∗ (∀ x, owns (c : Thread nD τ) M.a13 fullShare x -∗ Own c M I { s with a13 := x })) :=
  focus_there' (focus_there' (focus_there' (focus_there' (focus_there' (focus_there' (focus_there' (focus_there' (focus_there' (focus_there' (focus_there' (focus_put _ (fun x => owns (c : Thread nD τ) M.a13 fullShare x) _)))))))))))
theorem focus_14 (s : St F) : Own c M I s ⊢ iprop(owns (c : Thread nD τ) M.a14 fullShare s.a14
      ∗ (∀ x, owns (c : Thread nD τ) M.a14 fullShare x -∗ Own c M I { s with a14 := x })) :=
  focus_there' (focus_there' (focus_there' (focus_there' (focus_there' (focus_there' (focus_there' (focus_there' (focus_there' (focus_there' (focus_there' (focus_there' (focus_put _ (fun x => owns (c : Thread nD τ) M.a14 fullShare x) _))))))))))))
theorem focus_15 (s : St F) : Own c M I s ⊢ iprop(owns (c : Thread nD τ) M.a15 fullShare s.a15
      ∗ (∀ x, owns (c : Thread nD τ) M.a15 fullShare x -∗ Own c M I { s with a15 := x })) :=
  focus_there' (focus_there' (focus_there' (focus_there' (focus_there' (focus_there' (focus_there' (focus_there' (focus_there' (focus_there' (focus_there' (focus_there' (focus_there' (focus_put _ (fun x => owns (c : Thread nD τ) M.a15 fullShare x) _)))))))))))))
theorem focus_16 (s : St F) : Own c M I s ⊢ iprop(owns (c : Thread nD τ) M.a16 fullShare s.a16
      ∗ (∀ x, owns (c : Thread nD τ) M.a16 fullShare x -∗ Own c M I { s with a16 := x })) :=
  focus_there' (focus_there' (focus_there' (focus_there' (focus_there' (focus_there' (focus_there' (focus_there' (focus_there' (focus_there' (focus_there' (focus_there' (focus_there' (focus_there' (focus_put _ (fun x => owns (c : Thread nD τ) M.a16 fullShare x) _))))))))))))))
theorem focus_17 (s : St F) : Own c M I s ⊢ iprop(owns (c : Thread nD τ) M.a17 fullShare s.a17
      ∗ (∀ x, owns (c : Thread nD τ) M.a17 fullShare x -∗ Own c M I { s with a17 := x })) :=
  focus_there' (focus_there' (focus_there' (focus_there' (focus_there' (focus_there' (focus_there' (focus_there' (focus_there' (focus_there' (focus_there' (focus_there' (focus_there' (focus_there' (focus_there' (focus_put _ (fun x => owns (c : Thread nD τ) M.a17 fullShare x) _)))))))))))))))
theorem focus_18 (s : St F) : Own c M I s ⊢ iprop(owns (c : Thread nD τ) M.a18 fullShare s.a18
      ∗ (∀ x, owns (c : Thread nD τ) M.a18 fullShare x -∗ Own c M I { s with a18 := x })) :=
  focus_there' (focus_there' (focus_there' (focus_there' (focus_there' (focus_there' (focus_there' (focus_there' (focus_there' (focus_there' (focus_there' (focus_there' (focus_there' (focus_there' (focus_there' (focus_there' (focus_last _ (fun x => owns (c : Thread nD τ) M.a18 fullShare x)))))))))))))))))

/-- The weakest precondition of a program of the kernel's body on core `c`. -/
abbrev wpB {α : Type} (p : Prog (TpuEff nD τ sig (Elt F) Λ₀ .tc) α) (Q : α → sProp 𝕄) : sProp 𝕄 :=
  wp frame (wpE (defs₀ (F := F)) Variants.none c none) Set.univ p Q

/-- The program does to the state what the computation says, and returns what it says. -/
def Runs {α : Type} (p : Prog (TpuEff nD τ sig (Elt F) Λ₀ .tc) α) (f : PM F α) : Prop :=
  ∀ (s : St F) (Q : α → sProp 𝕄), (Own c M I (f s).2 ⊢ Q (f s).1) → (Own c M I s ⊢ wpB c p Q)

variable {c M I}

theorem Runs.pure {α : Type} (a : α) : Runs c M I (Prog.ret a) (Pure.pure a) := by
  intro s Q h
  show Own c M I s ⊢ wp frame (wpE (defs₀ (F := F)) Variants.none c none) Set.univ (Prog.ret a) Q
  rw [wp_ret]
  iintro H; imodintro
  iapply h; iexact H

theorem Runs.bind {α β : Type} {p : Prog (TpuEff nD τ sig (Elt F) Λ₀ .tc) α} {f : PM F α}
    {k : α → Prog (TpuEff nD τ sig (Elt F) Λ₀ .tc) β} {g : α → PM F β} (hp : Runs c M I p f)
    (hk : ∀ a, Runs c M I (k a) (g a)) : Runs c M I (p >>= k) (f >>= g) := by
  intro s Q h
  show Own c M I s ⊢ wp frame (wpE (defs₀ (F := F)) Variants.none c none) Set.univ (p >>= k) Q
  rw [wp_bind]
  exact hp s _ (hk _ _ Q h)

theorem Runs.dite {α : Type} {p : Prop} [Decidable p] {A : p → Prog (TpuEff nD τ sig (Elt F) Λ₀ .tc) α} {B : ¬ p → Prog (TpuEff nD τ sig (Elt F) Λ₀ .tc) α}
    {A' : p → PM F α} {B' : ¬ p → PM F α} (h₁ : ∀ h, Runs c M I (A h) (A' h)) (h₂ : ∀ h, Runs c M I (B h) (B' h)) :
    Runs c M I (_root_.dite p A B) (_root_.dite p A' B') := by
  by_cases h : p
  · rw [dif_pos h, dif_pos h]; exact h₁ h
  · rw [dif_neg h, dif_neg h]; exact h₂ h

theorem Runs.seq {n : ℕ} {p : Fin n → Unit → Prog (TpuEff nD τ sig (Elt F) Λ₀ .tc) Unit} {b : Fin n → PM F Unit}
    (h : ∀ k u, Runs c M I (p k u) (b k)) (l : List (Fin n)) (u : Unit) :
    Runs c M I (Scf.forFrom p l u) (PM.seq b l) := by
  induction l generalizing u with
  | nil => exact Runs.pure _
  | cons k ks ih => exact Runs.bind (h k u) fun u' => ih u'

theorem Runs.loop {w : ℕ} (l : Scf.Loop w) (hok : l.OK)
    {p : Fin l.trips → Unit → Prog (TpuEff nD τ sig (Elt F) Λ₀ .tc) Unit} {b : Fin l.trips → PM F Unit}
    (h : ∀ k u, Runs c M I (p k u) (b k)) : Runs c M I (Scf.Loop.for l hok ⟨⟩ p) (PM.loop l.trips b) := by
  unfold Scf.Loop.for
  rw [Scf.for_eq]
  exact Runs.seq h _ _

variable (c M I)

theorem load_own {S : Shape} {e : EltTy} (m : Memref sig .tc .vmem S e) (X : S.Idx → Elt F e) {off size : Fin S.rank → ℕ}
    {inb : ∀ a, off a + size a ≤ S.size a} {hl : m.view.LoadsAt (Rect.unit off size inb).toLoadRect} (R : sProp 𝕄)
    (Q : ((Rect.unit off size inb).toLoadRect.shape.Idx → Elt F e) → sProp 𝕄)
    (h : iprop(owns (c : Thread nD τ) m fullShare X ∗ R) ⊢ Q (VecWindow.window X off size inb)) :
    iprop(owns (c : Thread nD τ) m fullShare X ∗ R)
      ⊢ wpB c (Prog.lift (.load m (Rect.unit off size inb).toLoadRect hl)) Q := by
  unfold owns
  iintro ⟨⟨%f, %hf, H⟩, HR⟩
  iapply (wp_load (defs := defs₀ (F := F)) Variants.none (c : Thread nD τ) none Set.univ (m := m) (k := Prog.ret) (Q := Q) (hl := hl) (f := f) (q := fullShare) (S := m.view.set) (View.setOn_subset_set _ _)) $$ H
  iintro H
  rw [wp_ret]; imodintro
  rw [View.readAt_unit m.view f inb rfl inb, hf]
  iapply h
  unfold owns
  isplitl [H]
  · iexists f; isplitr; · ipureintro; exact hf
    iexact H
  · iexact HR

theorem store_own {S : Shape} {e : EltTy} (m : Memref sig .tc .vmem S e) (X : S.Idx → Elt F e) {off size : Fin S.rank → ℕ}
    {inb : ∀ a, off a + size a ≤ S.size a} {w : (Rect.unit off size inb).shape.Idx → Elt F e}
    {hx : (m.access (Rect.unit off size inb)).Stores Finset.univ} {hm}
    (R : sProp 𝕄) (Q : PUnit → sProp 𝕄)
    (h : iprop(owns (c : Thread nD τ) m fullShare (VecWindow.put X off size w) ∗ R) ⊢ Q ⟨⟩) :
    iprop(owns (c : Thread nD τ) m fullShare X ∗ R)
      ⊢ wpB c (Prog.lift (.store m (Rect.unit off size inb) w Finset.univ hx hm)) Q := by
  unfold owns
  iintro ⟨⟨%f, %hf, H⟩, HR⟩
  iapply (wp_store (defs := defs₀ (F := F)) Variants.none (c : Thread nD τ) none Set.univ (m := m) (r := Rect.unit off size inb) (w := w) (k := Prog.ret) (Q := Q) (hx := hx) (hm := hm) (f := f) (S := m.view.set) ((View.setOn_subset_set _ _).trans (View.set_slice_subset _ _))) $$ H
  iintro H
  rw [wp_ret]; imodintro
  iapply h
  unfold owns
  isplitl [H]
  · iexists _; isplitr; swap; · iexact H
    ipureintro
    have := View.read_writes_cons_put m.view f inb w [] rfl
    rw [View.writes_nil, hf] at this
    exact this
  · iexact HR

theorem load_2 {off size : Fin (S1x256x4096).rank → ℕ} {inb hl} :
    Runs c M I (Prog.lift (.load M.a2 (Rect.unit (s := S1x256x4096) off size inb).toLoadRect hl)) (ld2 I off size inb) := by
  intro s Q h
  refine (focus_2 c M I s).trans (load_own c M.a2 I.a2 _ Q (BIBase.Entails.trans ?_ h))
  iintro ⟨H, HW⟩; iapply HW; iexact H
theorem load_3 {off size : Fin (S1x256x1024).rank → ℕ} {inb hl} :
    Runs c M I (Prog.lift (.load M.a3 (Rect.unit (s := S1x256x1024) off size inb).toLoadRect hl)) (ld3 I off size inb) := by
  intro s Q h
  refine (focus_3 c M I s).trans (load_own c M.a3 I.a3 _ Q (BIBase.Entails.trans ?_ h))
  iintro ⟨H, HW⟩; iapply HW; iexact H
theorem load_4 {off size : Fin (S1x256x1024).rank → ℕ} {inb hl} :
    Runs c M I (Prog.lift (.load M.a4 (Rect.unit (s := S1x256x1024) off size inb).toLoadRect hl)) (ld4 I off size inb) := by
  intro s Q h
  refine (focus_4 c M I s).trans (load_own c M.a4 I.a4 _ Q (BIBase.Entails.trans ?_ h))
  iintro ⟨H, HW⟩; iapply HW; iexact H
theorem load_5 {off size : Fin (S1x8x8x128).rank → ℕ} {inb hl} :
    Runs c M I (Prog.lift (.load M.a5 (Rect.unit (s := S1x8x8x128) off size inb).toLoadRect hl)) (ld5 I off size inb) := by
  intro s Q h
  refine (focus_5 c M I s).trans (load_own c M.a5 I.a5 _ Q (BIBase.Entails.trans ?_ h))
  iintro ⟨H, HW⟩; iapply HW; iexact H
theorem load_6 {off size : Fin (S8x8x512).rank → ℕ} {inb hl} :
    Runs c M I (Prog.lift (.load M.a6 (Rect.unit (s := S8x8x512) off size inb).toLoadRect hl)) (ld6 I off size inb) := by
  intro s Q h
  refine (focus_6 c M I s).trans (load_own c M.a6 I.a6 _ Q (BIBase.Entails.trans ?_ h))
  iintro ⟨H, HW⟩; iapply HW; iexact H
theorem load_7 {off size : Fin (S1x256x4096).rank → ℕ} {inb hl} :
    Runs c M I (Prog.lift (.load M.a7 (Rect.unit (s := S1x256x4096) off size inb).toLoadRect hl)) (ld7 off size inb) := by
  intro s Q h
  exact (focus_7 c M I s).trans (load_own c M.a7 s.a7 _ Q (BIBase.Entails.trans (put_back s.a7) h))
theorem store_7 {off size : Fin (S1x256x4096).rank → ℕ} {inb w hx hm} :
    Runs c M I (Prog.lift (.store M.a7 (Rect.unit (s := S1x256x4096) off size inb) w Finset.univ hx hm)) (st7 off size inb w) := by
  intro s Q h
  exact (focus_7 c M I s).trans (store_own c M.a7 s.a7 _ Q (BIBase.Entails.trans (put_back (VecWindow.put s.a7 off size w)) h))
theorem load_8 {off size : Fin (S1x256x4096).rank → ℕ} {inb hl} :
    Runs c M I (Prog.lift (.load M.a8 (Rect.unit (s := S1x256x4096) off size inb).toLoadRect hl)) (ld8 off size inb) := by
  intro s Q h
  exact (focus_8 c M I s).trans (load_own c M.a8 s.a8 _ Q (BIBase.Entails.trans (put_back s.a8) h))
theorem store_8 {off size : Fin (S1x256x4096).rank → ℕ} {inb w hx hm} :
    Runs c M I (Prog.lift (.store M.a8 (Rect.unit (s := S1x256x4096) off size inb) w Finset.univ hx hm)) (st8 off size inb w) := by
  intro s Q h
  exact (focus_8 c M I s).trans (store_own c M.a8 s.a8 _ Q (BIBase.Entails.trans (put_back (VecWindow.put s.a8 off size w)) h))
theorem load_9 {off size : Fin (S1x256x32).rank → ℕ} {inb hl} :
    Runs c M I (Prog.lift (.load M.a9 (Rect.unit (s := S1x256x32) off size inb).toLoadRect hl)) (ld9 off size inb) := by
  intro s Q h
  exact (focus_9 c M I s).trans (load_own c M.a9 s.a9 _ Q (BIBase.Entails.trans (put_back s.a9) h))
theorem store_9 {off size : Fin (S1x256x32).rank → ℕ} {inb w hx hm} :
    Runs c M I (Prog.lift (.store M.a9 (Rect.unit (s := S1x256x32) off size inb) w Finset.univ hx hm)) (st9 off size inb w) := by
  intro s Q h
  exact (focus_9 c M I s).trans (store_own c M.a9 s.a9 _ Q (BIBase.Entails.trans (put_back (VecWindow.put s.a9 off size w)) h))
theorem load_10 {off size : Fin (S1x256x1024).rank → ℕ} {inb hl} :
    Runs c M I (Prog.lift (.load M.a10 (Rect.unit (s := S1x256x1024) off size inb).toLoadRect hl)) (ld10 off size inb) := by
  intro s Q h
  exact (focus_10 c M I s).trans (load_own c M.a10 s.a10 _ Q (BIBase.Entails.trans (put_back s.a10) h))
theorem store_10 {off size : Fin (S1x256x1024).rank → ℕ} {inb w hx hm} :
    Runs c M I (Prog.lift (.store M.a10 (Rect.unit (s := S1x256x1024) off size inb) w Finset.univ hx hm)) (st10 off size inb w) := by
  intro s Q h
  exact (focus_10 c M I s).trans (store_own c M.a10 s.a10 _ Q (BIBase.Entails.trans (put_back (VecWindow.put s.a10 off size w)) h))
theorem load_11 {off size : Fin (S1x256x8).rank → ℕ} {inb hl} :
    Runs c M I (Prog.lift (.load M.a11 (Rect.unit (s := S1x256x8) off size inb).toLoadRect hl)) (ld11 off size inb) := by
  intro s Q h
  exact (focus_11 c M I s).trans (load_own c M.a11 s.a11 _ Q (BIBase.Entails.trans (put_back s.a11) h))
theorem store_11 {off size : Fin (S1x256x8).rank → ℕ} {inb w hx hm} :
    Runs c M I (Prog.lift (.store M.a11 (Rect.unit (s := S1x256x8) off size inb) w Finset.univ hx hm)) (st11 off size inb w) := by
  intro s Q h
  exact (focus_11 c M I s).trans (store_own c M.a11 s.a11 _ Q (BIBase.Entails.trans (put_back (VecWindow.put s.a11 off size w)) h))
theorem load_12 {off size : Fin (S1x256x1024).rank → ℕ} {inb hl} :
    Runs c M I (Prog.lift (.load M.a12 (Rect.unit (s := S1x256x1024) off size inb).toLoadRect hl)) (ld12 off size inb) := by
  intro s Q h
  exact (focus_12 c M I s).trans (load_own c M.a12 s.a12 _ Q (BIBase.Entails.trans (put_back s.a12) h))
theorem store_12 {off size : Fin (S1x256x1024).rank → ℕ} {inb w hx hm} :
    Runs c M I (Prog.lift (.store M.a12 (Rect.unit (s := S1x256x1024) off size inb) w Finset.univ hx hm)) (st12 off size inb w) := by
  intro s Q h
  exact (focus_12 c M I s).trans (store_own c M.a12 s.a12 _ Q (BIBase.Entails.trans (put_back (VecWindow.put s.a12 off size w)) h))
theorem load_13 {off size : Fin (S8x1280x128).rank → ℕ} {inb hl} :
    Runs c M I (Prog.lift (.load M.a13 (Rect.unit (s := S8x1280x128) off size inb).toLoadRect hl)) (ld13 off size inb) := by
  intro s Q h
  exact (focus_13 c M I s).trans (load_own c M.a13 s.a13 _ Q (BIBase.Entails.trans (put_back s.a13) h))
theorem store_13 {off size : Fin (S8x1280x128).rank → ℕ} {inb w hx hm} :
    Runs c M I (Prog.lift (.store M.a13 (Rect.unit (s := S8x1280x128) off size inb) w Finset.univ hx hm)) (st13 off size inb w) := by
  intro s Q h
  exact (focus_13 c M I s).trans (store_own c M.a13 s.a13 _ Q (BIBase.Entails.trans (put_back (VecWindow.put s.a13 off size w)) h))
theorem load_14 {off size : Fin (S8x1280x128).rank → ℕ} {inb hl} :
    Runs c M I (Prog.lift (.load M.a14 (Rect.unit (s := S8x1280x128) off size inb).toLoadRect hl)) (ld14 off size inb) := by
  intro s Q h
  exact (focus_14 c M I s).trans (load_own c M.a14 s.a14 _ Q (BIBase.Entails.trans (put_back s.a14) h))
theorem store_14 {off size : Fin (S8x1280x128).rank → ℕ} {inb w hx hm} :
    Runs c M I (Prog.lift (.store M.a14 (Rect.unit (s := S8x1280x128) off size inb) w Finset.univ hx hm)) (st14 off size inb w) := by
  intro s Q h
  exact (focus_14 c M I s).trans (store_own c M.a14 s.a14 _ Q (BIBase.Entails.trans (put_back (VecWindow.put s.a14 off size w)) h))
theorem load_15 {off size : Fin (S8x5x128x256).rank → ℕ} {inb hl} :
    Runs c M I (Prog.lift (.load M.a15 (Rect.unit (s := S8x5x128x256) off size inb).toLoadRect hl)) (ld15 off size inb) := by
  intro s Q h
  exact (focus_15 c M I s).trans (load_own c M.a15 s.a15 _ Q (BIBase.Entails.trans (put_back s.a15) h))
theorem store_15 {off size : Fin (S8x5x128x256).rank → ℕ} {inb w hx hm} :
    Runs c M I (Prog.lift (.store M.a15 (Rect.unit (s := S8x5x128x256) off size inb) w Finset.univ hx hm)) (st15 off size inb w) := by
  intro s Q h
  exact (focus_15 c M I s).trans (store_own c M.a15 s.a15 _ Q (BIBase.Entails.trans (put_back (VecWindow.put s.a15 off size w)) h))
theorem load_16 {off size : Fin (S2x8x8x512).rank → ℕ} {inb hl} :
    Runs c M I (Prog.lift (.load M.a16 (Rect.unit (s := S2x8x8x512) off size inb).toLoadRect hl)) (ld16 off size inb) := by
  intro s Q h
  exact (focus_16 c M I s).trans (load_own c M.a16 s.a16 _ Q (BIBase.Entails.trans (put_back s.a16) h))
theorem store_16 {off size : Fin (S2x8x8x512).rank → ℕ} {inb w hx hm} :
    Runs c M I (Prog.lift (.store M.a16 (Rect.unit (s := S2x8x8x512) off size inb) w Finset.univ hx hm)) (st16 off size inb w) := by
  intro s Q h
  exact (focus_16 c M I s).trans (store_own c M.a16 s.a16 _ Q (BIBase.Entails.trans (put_back (VecWindow.put s.a16 off size w)) h))
theorem load_17 {off size : Fin (S5x256x512).rank → ℕ} {inb hl} :
    Runs c M I (Prog.lift (.load M.a17 (Rect.unit (s := S5x256x512) off size inb).toLoadRect hl)) (ld17 off size inb) := by
  intro s Q h
  exact (focus_17 c M I s).trans (load_own c M.a17 s.a17 _ Q (BIBase.Entails.trans (put_back s.a17) h))
theorem store_17 {off size : Fin (S5x256x512).rank → ℕ} {inb w hx hm} :
    Runs c M I (Prog.lift (.store M.a17 (Rect.unit (s := S5x256x512) off size inb) w Finset.univ hx hm)) (st17 off size inb w) := by
  intro s Q h
  exact (focus_17 c M I s).trans (store_own c M.a17 s.a17 _ Q (BIBase.Entails.trans (put_back (VecWindow.put s.a17 off size w)) h))
theorem load_18 {off size : Fin (S5x256x512).rank → ℕ} {inb hl} :
    Runs c M I (Prog.lift (.load M.a18 (Rect.unit (s := S5x256x512) off size inb).toLoadRect hl)) (ld18 off size inb) := by
  intro s Q h
  exact (focus_18 c M I s).trans (load_own c M.a18 s.a18 _ Q (BIBase.Entails.trans (put_back s.a18) h))
theorem store_18 {off size : Fin (S5x256x512).rank → ℕ} {inb w hx hm} :
    Runs c M I (Prog.lift (.store M.a18 (Rect.unit (s := S5x256x512) off size inb) w Finset.univ hx hm)) (st18 off size inb w) := by
  intro s Q h
  exact (focus_18 c M I s).trans (store_own c M.a18 s.a18 _ Q (BIBase.Entails.trans (put_back (VecWindow.put s.a18 off size w)) h))

end Cert.Kernel.Run

end
-- ==== Proof.P.Steps.lean ====
/-
  What each part of the kernel's body does to the state, statement by statement: the same loads, stores, loops and
  conditionals over the same named payloads, as computations on `St`. `s_attn` is the whole body.
-/
module

public import proofs.«01_k».proof.Proof.P.State

@[expose] public section

set_option synthInstance.maxSize 4096

noncomputable section

namespace Cert.Kernel.Run

open Cert.Kernel Cert.Kernel.Gen
open Idealize.ShloMosaic Idealize.SL.Sem

variable {F : FTy → Type} [FloatOps F]

def s_part44 (I : In F) (i : grid0.Coords)  : PM F (Σ' (arg1 : BitVec 32) (v0 : BitVec 32) (v6 : FVec F S256x128 .f32) (v34 : FVec F S256x1 .f32), IVec S256x1 32) := do
  let arg1 : BitVec 32 := BitVec.ofNat 32 (i 1).val
  let v0 : BitVec 32 := Scalar.remsi arg1 5#32
  let v1 : BitVec 1 := Scalar.cmpi .eq arg1 0#32
  let v2 : BitVec 32 := Scalar.extui v1
  let v3 : BitVec 1 := Scalar.cmpi .ne v2 0#32
  if k0_h1 : v3 = 1#1 then do
    let v2661 : Vec F S8x1280x128 .fp8e4m3 ← ld13 ![0, 0, 0] S8x1280x128.size inb_S8x1280x128_S8x1280x128_0_0_0
    st13 ![0, 0, 0] S8x1280x128.size inb_S8x1280x128_S8x1280x128_0_0_0 (k0_pay219 (F := F))
    let v2665 : Vec F S8x5x128x256 .fp8e4m3 ← ld15 ![0, 0, 0, 0] S8x5x128x256.size inb_S8x5x128x256_S8x5x128x256_0_0_0_0
    st15 ![0, 0, 0, 0] S8x5x128x256.size inb_S8x5x128x256_S8x5x128x256_0_0_0_0 (k0_pay220 (F := F))
    pure ⟨⟩
  else do
    pure ⟨⟩
  let v4 : Vec F S1x256x128 .bf16 ← ld3 I ![0, 0, 0] S1x256x128.size inb_S1x256x1024_S1x256x128_0_0_0
  pure ⟨arg1, v0, k0_pay221 v4, k0_pay223 v4, k0_pay224 v4⟩

def s_part45 (I : In F) (i : grid0.Coords) (v0 : BitVec 32) (v6 : FVec F S256x128 .f32) (v34 : FVec F S256x1 .f32) (v38 : IVec S256x1 32) : PM F (Σ' (v71 : FVec F S256x128 .f32), FVec F S256x128 .f32) := do
  let v49 : Vec F S1x256x128 .fp8e4m3 ← ld13 (k0_off1 i) S1x256x128.size (k0_off1_inb i)
  st13 (k0_off1 i) S1x256x128.size (k0_off1_inb i) (k0_pay226 v6 v38)
  let v56 : Vec F S1x256x128 .f32 ← ld14 (k0_off1 i) S1x256x128.size (k0_off1_inb i)
  st14 (k0_off1 i) S1x256x128.size (k0_off1_inb i) (k0_pay227 v34)
  let v59 : Vec F S1x256x128 .fp8e4m3 ← ld10 ![0, 0, 0] S1x256x128.size inb_S1x256x1024_S1x256x128_0_0_0
  st10 ![0, 0, 0] S1x256x128.size inb_S1x256x1024_S1x256x128_0_0_0 (k0_pay228 v6 v38)
  let v62 : Vec F S1x256x1 .f32 ← ld11 ![0, 0, 0] S1x256x1.size inb_S1x256x8_S1x256x1_0_0_0
  st11 ![0, 0, 0] S1x256x1.size inb_S1x256x8_S1x256x1_0_0_0 (k0_pay229 v34)
  let v65 : Vec F S1x1x1x128 .f32 ← ld5 I ![0, 0, 0, 0] S1x1x1x128.size inb_S1x8x8x128_S1x1x1x128_0_0_0_0
  let v69 : Vec F S1x256x128 .bf16 ← ld4 I ![0, 0, 0] S1x256x128.size inb_S1x256x1024_S1x256x128_0_0_0
  pure ⟨k0_pay230 v69, k0_pay231 v65⟩

def s_part46 (I : In F) (i : grid0.Coords) (v0 : BitVec 32) (v71 : FVec F S256x128 .f32) (v72 : FVec F S256x128 .f32) : PM F (Σ' (v92 : FVec F S256x128 .f32) (v109 : IVec S256x1 32) (v111 : IVec S256x1 1), IVec S256x1 32) := do
  let v79 : Vec F S1x256x128 .fp8e4m3 ← ld12 ![0, 0, 0] S1x256x128.size inb_S1x256x1024_S1x256x128_0_0_0
  st12 ![0, 0, 0] S1x256x128.size inb_S1x256x1024_S1x256x128_0_0_0 (k0_pay233 v71 v72)
  let v87 : Vec F S1x1x128x256 .fp8e4m3 ← ld15 (k0_off2 i) S1x1x128x256.size (k0_off2_inb i)
  st15 (k0_off2 i) S1x1x128x256.size (k0_off2_inb i) (k0_pay234 v71 v72)
  let v90 : Vec F S1x256x128 .bf16 ← ld3 I ![0, 0, 128] S1x256x128.size inb_S1x256x1024_S1x256x128_0_0_128
  pure ⟨k0_pay235 v90, k0_pay236 v90, k0_pay237 v90, k0_pay238⟩

def s_part47 (I : In F) (i : grid0.Coords) (v0 : BitVec 32) (v92 : FVec F S256x128 .f32) (v109 : IVec S256x1 32) (v111 : IVec S256x1 1) (v112 : IVec S256x1 32) : PM F (FVec F S1x256x1 .f32) := do
  let v135 : Vec F S1x256x128 .fp8e4m3 ← ld13 (k0_off3 i) S1x256x128.size (k0_off3_inb i)
  st13 (k0_off3 i) S1x256x128.size (k0_off3_inb i) (k0_pay242 v92 v109 v111 v112)
  let v142 : Vec F S1x256x128 .f32 ← ld14 (k0_off3 i) S1x256x128.size (k0_off3_inb i)
  st14 (k0_off3 i) S1x256x128.size (k0_off3_inb i) (k0_pay243 (F := F) v109 v111 v112)
  let v145 : Vec F S1x256x128 .fp8e4m3 ← ld10 ![0, 0, 128] S1x256x128.size inb_S1x256x1024_S1x256x128_0_0_128
  st10 ![0, 0, 128] S1x256x128.size inb_S1x256x1024_S1x256x128_0_0_128 (k0_pay244 v92 v109 v111 v112)
  let v148 : Vec F S1x256x1 .f32 ← ld11 ![0, 0, 1] S1x256x1.size inb_S1x256x8_S1x256x1_0_0_1
  pure (k0_pay245 (F := F) v109 v111 v112)

def s_part48 (I : In F) (i : grid0.Coords) (v0 : BitVec 32) (v150 : FVec F S1x256x1 .f32) : PM F (Σ' (v178 : FVec F S256x128 .f32) (v183 : FVec F S256x1 .f32) (v184 : IVec S256x1x256 32), IVec S256x1x256 32) := do
  st11 ![0, 0, 1] S1x256x1.size inb_S1x256x8_S1x256x1_0_0_1 v150
  let v151 : Vec F S1x1x1x128 .f32 ← ld5 I ![0, 1, 0, 0] S1x1x1x128.size inb_S1x8x8x128_S1x1x1x128_0_1_0_0
  let v155 : Vec F S1x256x128 .bf16 ← ld4 I ![0, 0, 128] S1x256x128.size inb_S1x256x1024_S1x256x128_0_0_128
  let v165 : Vec F S1x256x128 .fp8e4m3 ← ld12 ![0, 0, 128] S1x256x128.size inb_S1x256x1024_S1x256x128_0_0_128
  st12 ![0, 0, 128] S1x256x128.size inb_S1x256x1024_S1x256x128_0_0_128 (k0_pay247 v151 v155)
  let v173 : Vec F S1x1x128x256 .fp8e4m3 ← ld15 (k0_off4 i) S1x1x128x256.size (k0_off4_inb i)
  st15 (k0_off4 i) S1x1x128x256.size (k0_off4_inb i) (k0_pay248 v151 v155)
  let v176 : Vec F S1x256x128 .bf16 ← ld3 I ![0, 0, 256] S1x256x128.size inb_S1x256x1024_S1x256x128_0_0_256
  have v184 : IVec S256x1x256 32 := iota .tc S256x1x256 32 [2] iota_S256x1x256_d2_w32
  pure ⟨k0_pay249 v176, k0_pay250 v176, v184, k0_pay251⟩

def s_part49 (I : In F) (i : grid0.Coords) (v0 : BitVec 32) (v178 : FVec F S256x128 .f32) (v183 : FVec F S256x1 .f32) (v184 : IVec S256x1x256 32) (v185 : IVec S256x1x256 32) : PM F (Σ' (v206 : FVec F S256x1 .f32) (v218 : FVec F S256x128 .fp8e4m3), FVec F S256x128 .f32) := do
  let v221 : Vec F S1x256x128 .fp8e4m3 ← ld13 (k0_off5 i) S1x256x128.size (k0_off5_inb i)
  st13 (k0_off5 i) S1x256x128.size (k0_off5_inb i) (k0_pay255 v178 v183 v184 v185)
  pure ⟨k0_pay253 v183 v184 v185, k0_pay254 v178 v183 v184 v185, k0_pay256 v183 v184 v185⟩

def s_part50 (I : In F) (i : grid0.Coords) (v0 : BitVec 32) (v206 : FVec F S256x1 .f32) (v218 : FVec F S256x128 .fp8e4m3) (v225 : FVec F S256x128 .f32) : PM F (FVec F S1x1x128x256 .fp8e4m3) := do
  let v228 : Vec F S1x256x128 .f32 ← ld14 (k0_off5 i) S1x256x128.size (k0_off5_inb i)
  st14 (k0_off5 i) S1x256x128.size (k0_off5_inb i) (k0_pay257 v225)
  let v231 : Vec F S1x256x128 .fp8e4m3 ← ld10 ![0, 0, 256] S1x256x128.size inb_S1x256x1024_S1x256x128_0_0_256
  st10 ![0, 0, 256] S1x256x128.size inb_S1x256x1024_S1x256x128_0_0_256 (k0_pay258 v218)
  let v234 : Vec F S1x256x1 .f32 ← ld11 ![0, 0, 2] S1x256x1.size inb_S1x256x8_S1x256x1_0_0_2
  st11 ![0, 0, 2] S1x256x1.size inb_S1x256x8_S1x256x1_0_0_2 (k0_pay259 v206)
  let v237 : Vec F S1x1x1x128 .f32 ← ld5 I ![0, 2, 0, 0] S1x1x1x128.size inb_S1x8x8x128_S1x1x1x128_0_2_0_0
  let v241 : Vec F S1x256x128 .bf16 ← ld4 I ![0, 0, 256] S1x256x128.size inb_S1x256x1024_S1x256x128_0_0_256
  let v251 : Vec F S1x256x128 .fp8e4m3 ← ld12 ![0, 0, 256] S1x256x128.size inb_S1x256x1024_S1x256x128_0_0_256
  st12 ![0, 0, 256] S1x256x128.size inb_S1x256x1024_S1x256x128_0_0_256 (k0_pay261 v237 v241)
  let v259 : Vec F S1x1x128x256 .fp8e4m3 ← ld15 (k0_off6 i) S1x1x128x256.size (k0_off6_inb i)
  pure (k0_pay262 v237 v241)

def s_part51 (I : In F) (i : grid0.Coords) (v261 : FVec F S1x1x128x256 .fp8e4m3) : PM F (Σ' (v292 : FVec F S256x1 .f32), FVec F S256x128 .f32) := do
  st15 (k0_off6 i) S1x1x128x256.size (k0_off6_inb i) v261
  let v262 : Vec F S1x256x128 .bf16 ← ld3 I ![0, 0, 384] S1x256x128.size inb_S1x256x1024_S1x256x128_0_0_384
  pure ⟨k0_pay265 v262, k0_pay266 v262⟩

def s_part52 (I : In F) (i : grid0.Coords) (v0 : BitVec 32) (v292 : FVec F S256x1 .f32) (v303 : FVec F S256x128 .f32) : PM F (FVec F S256x128 .fp8e4m3) := do
  let v307 : Vec F S1x256x128 .fp8e4m3 ← ld13 (k0_off7 i) S1x256x128.size (k0_off7_inb i)
  st13 (k0_off7 i) S1x256x128.size (k0_off7_inb i) (k0_pay268 v303)
  let v314 : Vec F S1x256x128 .f32 ← ld14 (k0_off7 i) S1x256x128.size (k0_off7_inb i)
  st14 (k0_off7 i) S1x256x128.size (k0_off7_inb i) (k0_pay269 v292)
  let v317 : Vec F S1x256x128 .fp8e4m3 ← ld10 ![0, 0, 384] S1x256x128.size inb_S1x256x1024_S1x256x128_0_0_384
  st10 ![0, 0, 384] S1x256x128.size inb_S1x256x1024_S1x256x128_0_0_384 (k0_pay270 v303)
  let v320 : Vec F S1x256x1 .f32 ← ld11 ![0, 0, 3] S1x256x1.size inb_S1x256x8_S1x256x1_0_0_3
  st11 ![0, 0, 3] S1x256x1.size inb_S1x256x8_S1x256x1_0_0_3 (k0_pay271 v292)
  let v323 : Vec F S1x1x1x128 .f32 ← ld5 I ![0, 3, 0, 0] S1x1x1x128.size inb_S1x8x8x128_S1x1x1x128_0_3_0_0
  let v327 : Vec F S1x256x128 .bf16 ← ld4 I ![0, 0, 384] S1x256x128.size inb_S1x256x1024_S1x256x128_0_0_384
  pure (k0_pay272 v323 v327)

def s_part53 (I : In F) (i : grid0.Coords) (v0 : BitVec 32) (v336 : FVec F S256x128 .fp8e4m3) : PM F (Σ' (v350 : FVec F S256x128 .f32) (v373 : IVec S256x1 32) (v375 : IVec S256x1 32), IVec S256x1 32) := do
  let v337 : Vec F S1x256x128 .fp8e4m3 ← ld12 ![0, 0, 384] S1x256x128.size inb_S1x256x1024_S1x256x128_0_0_384
  st12 ![0, 0, 384] S1x256x128.size inb_S1x256x1024_S1x256x128_0_0_384 (k0_pay273 v336)
  let v345 : Vec F S1x1x128x256 .fp8e4m3 ← ld15 (k0_off8 i) S1x1x128x256.size (k0_off8_inb i)
  st15 (k0_off8 i) S1x1x128x256.size (k0_off8_inb i) (k0_pay274 v336)
  let v348 : Vec F S1x256x128 .bf16 ← ld3 I ![0, 0, 512] S1x256x128.size inb_S1x256x1024_S1x256x128_0_0_512
  pure ⟨k0_pay275 v348, k0_pay276 v348, k0_pay277 v348, k0_pay278⟩

def s_part54 (I : In F) (i : grid0.Coords) (v0 : BitVec 32) (v350 : FVec F S256x128 .f32) (v373 : IVec S256x1 32) (v375 : IVec S256x1 32) (v376 : IVec S256x1 32) : PM F (Σ' (v410 : FVec F S1x128 .f32), FVec F S1x128 .f32) := do
  let v393 : Vec F S1x256x128 .fp8e4m3 ← ld13 (k0_off9 i) S1x256x128.size (k0_off9_inb i)
  st13 (k0_off9 i) S1x256x128.size (k0_off9_inb i) (k0_pay281 v350 v373)
  let v400 : Vec F S1x256x128 .f32 ← ld14 (k0_off9 i) S1x256x128.size (k0_off9_inb i)
  st14 (k0_off9 i) S1x256x128.size (k0_off9_inb i) (k0_pay282 (F := F) v375 v376)
  let v403 : Vec F S1x256x128 .fp8e4m3 ← ld10 ![0, 0, 512] S1x256x128.size inb_S1x256x1024_S1x256x128_0_0_512
  st10 ![0, 0, 512] S1x256x128.size inb_S1x256x1024_S1x256x128_0_0_512 (k0_pay283 v350 v373)
  let v406 : Vec F S1x256x1 .f32 ← ld11 ![0, 0, 4] S1x256x1.size inb_S1x256x8_S1x256x1_0_0_4
  st11 ![0, 0, 4] S1x256x1.size inb_S1x256x8_S1x256x1_0_0_4 (k0_pay284 (F := F) v375 v376)
  let v409 : Vec F S1x1x1x128 .f32 ← ld5 I ![0, 4, 0, 0] S1x1x1x128.size inb_S1x8x8x128_S1x1x1x128_0_4_0_0
  pure ⟨k0_pay285 v409, k0_pay286 (F := F)⟩

def s_part55 (I : In F) (i : grid0.Coords) (v0 : BitVec 32) (v410 : FVec F S1x128 .f32) (v411 : FVec F S1x128 .f32) : PM F (Σ' (v436 : FVec F S256x128 .f32), IVec S256x1x256 1) := do
  let v413 : Vec F S1x256x128 .bf16 ← ld4 I ![0, 0, 512] S1x256x128.size inb_S1x256x1024_S1x256x128_0_0_512
  let v423 : Vec F S1x256x128 .fp8e4m3 ← ld12 ![0, 0, 512] S1x256x128.size inb_S1x256x1024_S1x256x128_0_0_512
  st12 ![0, 0, 512] S1x256x128.size inb_S1x256x1024_S1x256x128_0_0_512 (k0_pay288 v410 v411 v413)
  let v431 : Vec F S1x1x128x256 .fp8e4m3 ← ld15 (k0_off10 i) S1x1x128x256.size (k0_off10_inb i)
  st15 (k0_off10 i) S1x1x128x256.size (k0_off10_inb i) (k0_pay289 v410 v411 v413)
  let v434 : Vec F S1x256x128 .bf16 ← ld3 I ![0, 0, 640] S1x256x128.size inb_S1x256x1024_S1x256x128_0_0_640
  pure ⟨k0_pay290 v434, k0_pay291 v434⟩

def s_part56 (I : In F) (i : grid0.Coords) (v0 : BitVec 32) (v436 : FVec F S256x128 .f32) (v451 : IVec S256x1x256 1) : PM F (Σ' (v464 : FVec F S256x1 .f32), FVec F S256x128 .fp8e4m3) := do
  let v479 : Vec F S1x256x128 .fp8e4m3 ← ld13 (k0_off11 i) S1x256x128.size (k0_off11_inb i)
  st13 (k0_off11 i) S1x256x128.size (k0_off11_inb i) (k0_pay295 v436 v451)
  let v486 : Vec F S1x256x128 .f32 ← ld14 (k0_off11 i) S1x256x128.size (k0_off11_inb i)
  st14 (k0_off11 i) S1x256x128.size (k0_off11_inb i) (k0_pay296 (F := F) v451)
  let v489 : Vec F S1x256x128 .fp8e4m3 ← ld10 ![0, 0, 640] S1x256x128.size inb_S1x256x1024_S1x256x128_0_0_640
  pure ⟨k0_pay293 (F := F) v451, k0_pay294 v436 v451⟩

def s_part57 (I : In F) (i : grid0.Coords) (v0 : BitVec 32) (v464 : FVec F S256x1 .f32) (v476 : FVec F S256x128 .fp8e4m3) : PM F (Σ' (v522 : FVec F S256x128 .f32), FVec F S256x128 .f32) := do
  st10 ![0, 0, 640] S1x256x128.size inb_S1x256x1024_S1x256x128_0_0_640 (k0_pay297 v476)
  let v492 : Vec F S1x256x1 .f32 ← ld11 ![0, 0, 5] S1x256x1.size inb_S1x256x8_S1x256x1_0_0_5
  st11 ![0, 0, 5] S1x256x1.size inb_S1x256x8_S1x256x1_0_0_5 (k0_pay298 v464)
  let v495 : Vec F S1x1x1x128 .f32 ← ld5 I ![0, 5, 0, 0] S1x1x1x128.size inb_S1x8x8x128_S1x1x1x128_0_5_0_0
  let v499 : Vec F S1x256x128 .bf16 ← ld4 I ![0, 0, 640] S1x256x128.size inb_S1x256x1024_S1x256x128_0_0_640
  let v509 : Vec F S1x256x128 .fp8e4m3 ← ld12 ![0, 0, 640] S1x256x128.size inb_S1x256x1024_S1x256x128_0_0_640
  st12 ![0, 0, 640] S1x256x128.size inb_S1x256x1024_S1x256x128_0_0_640 (k0_pay300 v495 v499)
  let v517 : Vec F S1x1x128x256 .fp8e4m3 ← ld15 (k0_off12 i) S1x1x128x256.size (k0_off12_inb i)
  st15 (k0_off12 i) S1x1x128x256.size (k0_off12_inb i) (k0_pay301 v495 v499)
  let v520 : Vec F S1x256x128 .bf16 ← ld3 I ![0, 0, 768] S1x256x128.size inb_S1x256x1024_S1x256x128_0_0_768
  pure ⟨k0_pay302 v520, k0_pay303 v520⟩

def s_part58 (I : In F) (i : grid0.Coords) (v0 : BitVec 32) (v522 : FVec F S256x128 .f32) (v523 : FVec F S256x128 .f32) : PM F (Σ' (v550 : FVec F S256x1 .f32) (v562 : FVec F S256x128 .fp8e4m3), FVec F S1x256x128 .fp8e4m3) := do
  let v565 : Vec F S1x256x128 .fp8e4m3 ← ld13 (k0_off13 i) S1x256x128.size (k0_off13_inb i)
  pure ⟨k0_pay305 v523, k0_pay306 v522 v523, k0_pay307 v522 v523⟩

def s_part59 (I : In F) (i : grid0.Coords) (v0 : BitVec 32) (v550 : FVec F S256x1 .f32) (v562 : FVec F S256x128 .fp8e4m3) (v567 : FVec F S1x256x128 .fp8e4m3) : PM F (FVec F S128x256 .fp8e4m3) := do
  st13 (k0_off13 i) S1x256x128.size (k0_off13_inb i) v567
  let v572 : Vec F S1x256x128 .f32 ← ld14 (k0_off13 i) S1x256x128.size (k0_off13_inb i)
  st14 (k0_off13 i) S1x256x128.size (k0_off13_inb i) (k0_pay308 v550)
  let v575 : Vec F S1x256x128 .fp8e4m3 ← ld10 ![0, 0, 768] S1x256x128.size inb_S1x256x1024_S1x256x128_0_0_768
  st10 ![0, 0, 768] S1x256x128.size inb_S1x256x1024_S1x256x128_0_0_768 (k0_pay309 v562)
  let v578 : Vec F S1x256x1 .f32 ← ld11 ![0, 0, 6] S1x256x1.size inb_S1x256x8_S1x256x1_0_0_6
  st11 ![0, 0, 6] S1x256x1.size inb_S1x256x8_S1x256x1_0_0_6 (k0_pay310 v550)
  let v581 : Vec F S1x1x1x128 .f32 ← ld5 I ![0, 6, 0, 0] S1x1x1x128.size inb_S1x8x8x128_S1x1x1x128_0_6_0_0
  let v585 : Vec F S1x256x128 .bf16 ← ld4 I ![0, 0, 768] S1x256x128.size inb_S1x256x1024_S1x256x128_0_0_768
  let v595 : Vec F S1x256x128 .fp8e4m3 ← ld12 ![0, 0, 768] S1x256x128.size inb_S1x256x1024_S1x256x128_0_0_768
  st12 ![0, 0, 768] S1x256x128.size inb_S1x256x1024_S1x256x128_0_0_768 (k0_pay312 v581 v585)
  pure (k0_pay313 v581 v585)

def s_part60 (I : In F) (i : grid0.Coords) (v0 : BitVec 32) (v600 : FVec F S128x256 .fp8e4m3) : PM F (Σ' (v608 : FVec F S256x128 .f32) (v636 : FVec F S256x1 .f32), FVec F S256x1 .f32) := do
  let v603 : Vec F S1x1x128x256 .fp8e4m3 ← ld15 (k0_off14 i) S1x1x128x256.size (k0_off14_inb i)
  st15 (k0_off14 i) S1x1x128x256.size (k0_off14_inb i) (k0_pay314 v600)
  let v606 : Vec F S1x256x128 .bf16 ← ld3 I ![0, 0, 896] S1x256x128.size inb_S1x256x1024_S1x256x128_0_0_896
  pure ⟨k0_pay315 v606, k0_pay317 v606, k0_pay318 v606⟩

def s_part61 (I : In F) (i : grid0.Coords) (v0 : BitVec 32) (v608 : FVec F S256x128 .f32) (v636 : FVec F S256x1 .f32) (v641 : FVec F S256x1 .f32) : PM F (FVec F S256x128 .f32) := do
  let v651 : Vec F S1x256x128 .fp8e4m3 ← ld13 (k0_off15 i) S1x256x128.size (k0_off15_inb i)
  st13 (k0_off15 i) S1x256x128.size (k0_off15_inb i) (k0_pay320 v608 v641)
  let v658 : Vec F S1x256x128 .f32 ← ld14 (k0_off15 i) S1x256x128.size (k0_off15_inb i)
  st14 (k0_off15 i) S1x256x128.size (k0_off15_inb i) (k0_pay321 v636)
  let v661 : Vec F S1x256x128 .fp8e4m3 ← ld10 ![0, 0, 896] S1x256x128.size inb_S1x256x1024_S1x256x128_0_0_896
  st10 ![0, 0, 896] S1x256x128.size inb_S1x256x1024_S1x256x128_0_0_896 (k0_pay322 v608 v641)
  let v664 : Vec F S1x256x1 .f32 ← ld11 ![0, 0, 7] S1x256x1.size inb_S1x256x8_S1x256x1_0_0_7
  st11 ![0, 0, 7] S1x256x1.size inb_S1x256x8_S1x256x1_0_0_7 (k0_pay323 v636)
  let v667 : Vec F S1x1x1x128 .f32 ← ld5 I ![0, 7, 0, 0] S1x1x1x128.size inb_S1x8x8x128_S1x1x1x128_0_7_0_0
  let v671 : Vec F S1x256x128 .bf16 ← ld4 I ![0, 0, 896] S1x256x128.size inb_S1x256x1024_S1x256x128_0_0_896
  pure (k0_pay324 v667 v671)

def s_part62 (I : In F) (i : grid0.Coords) (v0 : BitVec 32) (v675 : FVec F S256x128 .f32) : PM F (Σ' (v694 : FVec F S256x128 .f32) (v713 : IVec S256x1 1), IVec S256x1 32) := do
  let v681 : Vec F S1x256x128 .fp8e4m3 ← ld12 ![0, 0, 896] S1x256x128.size inb_S1x256x1024_S1x256x128_0_0_896
  st12 ![0, 0, 896] S1x256x128.size inb_S1x256x1024_S1x256x128_0_0_896 (k0_pay326 v675)
  let v689 : Vec F S1x1x128x256 .fp8e4m3 ← ld15 (k0_off16 i) S1x1x128x256.size (k0_off16_inb i)
  st15 (k0_off16 i) S1x1x128x256.size (k0_off16_inb i) (k0_pay327 v675)
  let v692 : Vec F S1x256x128 .bf16 ← ld2 I ![0, 0, 0] S1x256x128.size inb_S1x256x4096_S1x256x128_0_0_0
  pure ⟨k0_pay328 v692, k0_pay330 v692, k0_pay331 v692⟩

def s_part63 (I : In F) (i : grid0.Coords) (v694 : FVec F S256x128 .f32) (v713 : IVec S256x1 1) (v715 : IVec S256x1 32) : PM F (Σ' (v743 : FVec F S256x128 .f32) (v748 : FVec F S256x1 .f32) (v749 : IVec S256x1x256 32) (v752 : FVec F S256x1x256 .f32), IVec S256x1x256 32) := do
  let v735 : Vec F S1x256x128 .fp8e4m3 ← ld8 ![0, 0, 0] S1x256x128.size inb_S1x256x4096_S1x256x128_0_0_0
  st8 ![0, 0, 0] S1x256x128.size inb_S1x256x4096_S1x256x128_0_0_0 (k0_pay333 v694 v713 v715)
  let v738 : Vec F S1x256x1 .f32 ← ld9 ![0, 0, 0] S1x256x1.size inb_S1x256x32_S1x256x1_0_0_0
  st9 ![0, 0, 0] S1x256x1.size inb_S1x256x32_S1x256x1_0_0_0 (k0_pay334 (F := F) v713 v715)
  let v741 : Vec F S1x256x128 .bf16 ← ld2 I ![0, 0, 128] S1x256x128.size inb_S1x256x4096_S1x256x128_0_0_128
  have v749 : IVec S256x1x256 32 := iota .tc S256x1x256 32 [2] iota_S256x1x256_d2_w32
  pure ⟨k0_pay335 v741, k0_pay336 v741, v749, k0_pay337 (F := F), k0_pay338⟩

def s_part64 (I : In F) (i : grid0.Coords) (v743 : FVec F S256x128 .f32) (v748 : FVec F S256x1 .f32) (v749 : IVec S256x1x256 32) (v752 : FVec F S256x1x256 .f32) (v753 : IVec S256x1x256 32) : PM F (FVec F S256x128 .f32) := do
  let v784 : Vec F S1x256x128 .fp8e4m3 ← ld8 ![0, 0, 128] S1x256x128.size inb_S1x256x4096_S1x256x128_0_0_128
  st8 ![0, 0, 128] S1x256x128.size inb_S1x256x4096_S1x256x128_0_0_128 (k0_pay340 v743 v748 v749 v752 v753)
  let v787 : Vec F S1x256x1 .f32 ← ld9 ![0, 0, 1] S1x256x1.size inb_S1x256x32_S1x256x1_0_0_1
  st9 ![0, 0, 1] S1x256x1.size inb_S1x256x32_S1x256x1_0_0_1 (k0_pay341 v748 v749 v752 v753)
  let v790 : Vec F S1x256x128 .bf16 ← ld2 I ![0, 0, 256] S1x256x128.size inb_S1x256x4096_S1x256x128_0_0_256
  pure (k0_pay342 v790)

def s_part65 (I : In F) (i : grid0.Coords) (v792 : FVec F S256x128 .f32) : PM F (Σ' (v820 : FVec F S256x1 .f32), FVec F S1x256x128 .fp8e4m3) := do
  let v833 : Vec F S1x256x128 .fp8e4m3 ← ld8 ![0, 0, 256] S1x256x128.size inb_S1x256x4096_S1x256x128_0_0_256
  pure ⟨k0_pay344 v792, k0_pay345 v792⟩

def s_part66 (I : In F) (i : grid0.Coords) (v820 : FVec F S256x1 .f32) (v835 : FVec F S1x256x128 .fp8e4m3) : PM F (Σ' (v841 : FVec F S256x128 .f32) (v869 : FVec F S256x1 .f32), FVec F S256x128 .f32) := do
  st8 ![0, 0, 256] S1x256x128.size inb_S1x256x4096_S1x256x128_0_0_256 v835
  let v836 : Vec F S1x256x1 .f32 ← ld9 ![0, 0, 2] S1x256x1.size inb_S1x256x32_S1x256x1_0_0_2
  st9 ![0, 0, 2] S1x256x1.size inb_S1x256x32_S1x256x1_0_0_2 (k0_pay346 v820)
  let v839 : Vec F S1x256x128 .bf16 ← ld2 I ![0, 0, 384] S1x256x128.size inb_S1x256x4096_S1x256x128_0_0_384
  pure ⟨k0_pay347 v839, k0_pay349 v839, k0_pay350 v839⟩

def s_part67 (I : In F) (i : grid0.Coords) (v841 : FVec F S256x128 .f32) (v869 : FVec F S256x1 .f32) (v875 : FVec F S256x128 .f32) : PM F (Σ' (v890 : FVec F S256x128 .f32) (v913 : IVec S256x1 32), BitVec 32) := do
  let v882 : Vec F S1x256x128 .fp8e4m3 ← ld8 ![0, 0, 384] S1x256x128.size inb_S1x256x4096_S1x256x128_0_0_384
  st8 ![0, 0, 384] S1x256x128.size inb_S1x256x4096_S1x256x128_0_0_384 (k0_pay351 v841 v875)
  let v885 : Vec F S1x256x1 .f32 ← ld9 ![0, 0, 3] S1x256x1.size inb_S1x256x32_S1x256x1_0_0_3
  st9 ![0, 0, 3] S1x256x1.size inb_S1x256x32_S1x256x1_0_0_3 (k0_pay352 v869)
  let v888 : Vec F S1x256x128 .bf16 ← ld2 I ![0, 0, 512] S1x256x128.size inb_S1x256x4096_S1x256x128_0_0_512
  pure ⟨k0_pay353 v888, k0_pay354 v888, 127#32⟩

def s_part68 (I : In F) (i : grid0.Coords) (v890 : FVec F S256x128 .f32) (v913 : IVec S256x1 32) (c127_i32_444 : BitVec 32) : PM F (Σ' (v939 : FVec F S256x128 .f32) (v950 : IVec S256x1x256 1), IVec S256x1x256 1) := do
  let v931 : Vec F S1x256x128 .fp8e4m3 ← ld8 ![0, 0, 512] S1x256x128.size inb_S1x256x4096_S1x256x128_0_0_512
  st8 ![0, 0, 512] S1x256x128.size inb_S1x256x4096_S1x256x128_0_0_512 (k0_pay355 v890 v913)
  let v934 : Vec F S1x256x1 .f32 ← ld9 ![0, 0, 4] S1x256x1.size inb_S1x256x32_S1x256x1_0_0_4
  st9 ![0, 0, 4] S1x256x1.size inb_S1x256x32_S1x256x1_0_0_4 (k0_pay356 (F := F) v913 c127_i32_444)
  let v937 : Vec F S1x256x128 .bf16 ← ld2 I ![0, 0, 640] S1x256x128.size inb_S1x256x4096_S1x256x128_0_0_640
  pure ⟨k0_pay357 v937, k0_pay358, k0_pay359 v937⟩

def s_part69 (I : In F) (i : grid0.Coords) (v939 : FVec F S256x128 .f32) (v950 : IVec S256x1x256 1) (v953 : IVec S256x1x256 1) : PM F (Σ' (v988 : FVec F S256x128 .f32), FVec F S256x1 .f32) := do
  let v980 : Vec F S1x256x128 .fp8e4m3 ← ld8 ![0, 0, 640] S1x256x128.size inb_S1x256x4096_S1x256x128_0_0_640
  st8 ![0, 0, 640] S1x256x128.size inb_S1x256x4096_S1x256x128_0_0_640 (k0_pay361 v939 v950 v953)
  let v983 : Vec F S1x256x1 .f32 ← ld9 ![0, 0, 5] S1x256x1.size inb_S1x256x32_S1x256x1_0_0_5
  st9 ![0, 0, 5] S1x256x1.size inb_S1x256x32_S1x256x1_0_0_5 (k0_pay362 (F := F) v950 v953)
  let v986 : Vec F S1x256x128 .bf16 ← ld2 I ![0, 0, 768] S1x256x128.size inb_S1x256x4096_S1x256x128_0_0_768
  pure ⟨k0_pay363 v986, k0_pay364 v986⟩

def s_part70 (I : In F) (i : grid0.Coords) (v988 : FVec F S256x128 .f32) (v991 : FVec F S256x1 .f32) : PM F (FVec F S256x1 .f32) := do
  let v1029 : Vec F S1x256x128 .fp8e4m3 ← ld8 ![0, 0, 768] S1x256x128.size inb_S1x256x4096_S1x256x128_0_0_768
  st8 ![0, 0, 768] S1x256x128.size inb_S1x256x4096_S1x256x128_0_0_768 (k0_pay367 v988 v991)
  pure (k0_pay366 v991)

def s_part71 (I : In F) (i : grid0.Coords) (v1016 : FVec F S256x1 .f32) : PM F (Σ' (v1065 : FVec F S256x1 .f32) (v1072 : FVec F S256x128 .f32) (cst_518 : F .f32), FVec F S256x128 .f32) := do
  let v1032 : Vec F S1x256x1 .f32 ← ld9 ![0, 0, 6] S1x256x1.size inb_S1x256x32_S1x256x1_0_0_6
  st9 ![0, 0, 6] S1x256x1.size inb_S1x256x32_S1x256x1_0_0_6 (k0_pay368 v1016)
  let v1035 : Vec F S1x256x128 .bf16 ← ld2 I ![0, 0, 896] S1x256x128.size inb_S1x256x4096_S1x256x128_0_0_896
  have cst_518 : F .f32 := Scalar.ofBits .f32 0x43E00000#32
  pure ⟨k0_pay371 v1035, k0_pay372 v1035, cst_518, k0_pay373 (F := F)⟩

def s_part72 (I : In F) (i : grid0.Coords) (v1065 : FVec F S256x1 .f32) (v1072 : FVec F S256x128 .f32) (cst_518 : F .f32) (v1073 : FVec F S256x128 .f32) : PM F (Σ' (v1086 : FVec F S256x128 .f32) (v1109 : IVec S256x1 32) (v1111 : IVec S256x1 32), IVec S256x1 32) := do
  let v1078 : Vec F S1x256x128 .fp8e4m3 ← ld8 ![0, 0, 896] S1x256x128.size inb_S1x256x4096_S1x256x128_0_0_896
  st8 ![0, 0, 896] S1x256x128.size inb_S1x256x4096_S1x256x128_0_0_896 (k0_pay374 v1072 cst_518 v1073)
  let v1081 : Vec F S1x256x1 .f32 ← ld9 ![0, 0, 7] S1x256x1.size inb_S1x256x32_S1x256x1_0_0_7
  st9 ![0, 0, 7] S1x256x1.size inb_S1x256x32_S1x256x1_0_0_7 (k0_pay375 v1065)
  let v1084 : Vec F S1x256x128 .bf16 ← ld2 I ![0, 0, 1024] S1x256x128.size inb_S1x256x4096_S1x256x128_0_0_1024
  pure ⟨k0_pay376 v1084, k0_pay377 v1084, k0_pay378 v1084, k0_pay379⟩

def s_part73 (I : In F) (i : grid0.Coords) (v1086 : FVec F S256x128 .f32) (v1109 : IVec S256x1 32) (v1111 : IVec S256x1 32) (v1112 : IVec S256x1 32) : PM F (Σ' (v1135 : FVec F S256x128 .f32), IVec S256x1 32) := do
  let v1127 : Vec F S1x256x128 .fp8e4m3 ← ld8 ![0, 0, 1024] S1x256x128.size inb_S1x256x4096_S1x256x128_0_0_1024
  st8 ![0, 0, 1024] S1x256x128.size inb_S1x256x4096_S1x256x128_0_0_1024 (k0_pay380 v1086 v1109)
  let v1130 : Vec F S1x256x1 .f32 ← ld9 ![0, 0, 8] S1x256x1.size inb_S1x256x32_S1x256x1_0_0_8
  st9 ![0, 0, 8] S1x256x1.size inb_S1x256x32_S1x256x1_0_0_8 (k0_pay381 (F := F) v1111 v1112)
  let v1133 : Vec F S1x256x128 .bf16 ← ld2 I ![0, 0, 1152] S1x256x128.size inb_S1x256x4096_S1x256x128_0_0_1152
  pure ⟨k0_pay382 v1133, k0_pay383 v1133⟩

def s_part74 (I : In F) (i : grid0.Coords) (v1135 : FVec F S256x128 .f32) (v1152 : IVec S256x1 32) : PM F (Σ' (v1184 : FVec F S256x128 .f32) (v1189 : FVec F S256x1 .f32), IVec S256x1x256 32) := do
  let v1176 : Vec F S1x256x128 .fp8e4m3 ← ld8 ![0, 0, 1152] S1x256x128.size inb_S1x256x4096_S1x256x128_0_0_1152
  st8 ![0, 0, 1152] S1x256x128.size inb_S1x256x4096_S1x256x128_0_0_1152 (k0_pay385 v1135 v1152)
  let v1179 : Vec F S1x256x1 .f32 ← ld9 ![0, 0, 9] S1x256x1.size inb_S1x256x32_S1x256x1_0_0_9
  st9 ![0, 0, 9] S1x256x1.size inb_S1x256x32_S1x256x1_0_0_9 (k0_pay386 (F := F) v1152)
  let v1182 : Vec F S1x256x128 .bf16 ← ld2 I ![0, 0, 1280] S1x256x128.size inb_S1x256x4096_S1x256x128_0_0_1280
  have v1190 : IVec S256x1x256 32 := iota .tc S256x1x256 32 [2] iota_S256x1x256_d2_w32
  pure ⟨k0_pay387 v1182, k0_pay388 v1182, v1190⟩

def s_part75 (I : In F) (i : grid0.Coords) (v1184 : FVec F S256x128 .f32) (v1189 : FVec F S256x1 .f32) (v1190 : IVec S256x1x256 32) : PM F (PUnit) := do
  let v1225 : Vec F S1x256x128 .fp8e4m3 ← ld8 ![0, 0, 1280] S1x256x128.size inb_S1x256x4096_S1x256x128_0_0_1280
  st8 ![0, 0, 1280] S1x256x128.size inb_S1x256x4096_S1x256x128_0_0_1280 (k0_pay390 v1184 v1189 v1190)
  let v1228 : Vec F S1x256x1 .f32 ← ld9 ![0, 0, 10] S1x256x1.size inb_S1x256x32_S1x256x1_0_0_10
  st9 ![0, 0, 10] S1x256x1.size inb_S1x256x32_S1x256x1_0_0_10 (k0_pay391 v1189 v1190)
  pure ⟨⟩

def s_part76 (I : In F) (i : grid0.Coords)  : PM F (Σ' (v1261 : FVec F S256x1 .f32), FVec F S256x128 .fp8e4m3) := do
  let v1231 : Vec F S1x256x128 .bf16 ← ld2 I ![0, 0, 1408] S1x256x128.size inb_S1x256x4096_S1x256x128_0_0_1408
  pure ⟨k0_pay394 v1231, k0_pay395 v1231⟩

def s_part77 (I : In F) (i : grid0.Coords) (v1261 : FVec F S256x1 .f32) (v1273 : FVec F S256x128 .fp8e4m3) : PM F (Σ' (v1282 : FVec F S256x128 .f32) (v1305 : IVec S256x1 32) (v1310 : FVec F S256x1 .f32), IVec S256x1 32) := do
  let v1274 : Vec F S1x256x128 .fp8e4m3 ← ld8 ![0, 0, 1408] S1x256x128.size inb_S1x256x4096_S1x256x128_0_0_1408
  st8 ![0, 0, 1408] S1x256x128.size inb_S1x256x4096_S1x256x128_0_0_1408 (k0_pay396 v1273)
  let v1277 : Vec F S1x256x1 .f32 ← ld9 ![0, 0, 11] S1x256x1.size inb_S1x256x32_S1x256x1_0_0_11
  st9 ![0, 0, 11] S1x256x1.size inb_S1x256x32_S1x256x1_0_0_11 (k0_pay397 v1261)
  let v1280 : Vec F S1x256x128 .bf16 ← ld2 I ![0, 0, 1536] S1x256x128.size inb_S1x256x4096_S1x256x128_0_0_1536
  pure ⟨k0_pay398 v1280, k0_pay399 v1280, k0_pay400 v1280, k0_pay401⟩

def s_part78 (I : In F) (i : grid0.Coords) (v1282 : FVec F S256x128 .f32) (v1305 : IVec S256x1 32) (v1310 : FVec F S256x1 .f32) (v1311 : IVec S256x1 32) : PM F (Σ' (v1331 : FVec F S256x128 .f32) (v1348 : IVec S256x1 32) (v1350 : IVec S256x1 1), BitVec 32) := do
  let v1323 : Vec F S1x256x128 .fp8e4m3 ← ld8 ![0, 0, 1536] S1x256x128.size inb_S1x256x4096_S1x256x128_0_0_1536
  st8 ![0, 0, 1536] S1x256x128.size inb_S1x256x4096_S1x256x128_0_0_1536 (k0_pay402 v1282 v1305 v1311)
  let v1326 : Vec F S1x256x1 .f32 ← ld9 ![0, 0, 12] S1x256x1.size inb_S1x256x32_S1x256x1_0_0_12
  st9 ![0, 0, 12] S1x256x1.size inb_S1x256x32_S1x256x1_0_0_12 (k0_pay403 v1310)
  let v1329 : Vec F S1x256x128 .bf16 ← ld2 I ![0, 0, 1664] S1x256x128.size inb_S1x256x4096_S1x256x128_0_0_1664
  pure ⟨k0_pay404 v1329, k0_pay405 v1329, k0_pay406 v1329, 126#32⟩

def s_part79 (I : In F) (i : grid0.Coords) (v1331 : FVec F S256x128 .f32) (v1348 : IVec S256x1 32) (v1350 : IVec S256x1 1) (c126_i32_638 : BitVec 32) : PM F (Σ' (v1380 : FVec F S256x128 .f32) (v1385 : FVec F S256x1 .f32) (v1386 : IVec S256x1x256 32), FVec F S256x1x256 .f32) := do
  let v1372 : Vec F S1x256x128 .fp8e4m3 ← ld8 ![0, 0, 1664] S1x256x128.size inb_S1x256x4096_S1x256x128_0_0_1664
  st8 ![0, 0, 1664] S1x256x128.size inb_S1x256x4096_S1x256x128_0_0_1664 (k0_pay408 v1331 v1348 v1350 c126_i32_638)
  let v1375 : Vec F S1x256x1 .f32 ← ld9 ![0, 0, 13] S1x256x1.size inb_S1x256x32_S1x256x1_0_0_13
  st9 ![0, 0, 13] S1x256x1.size inb_S1x256x32_S1x256x1_0_0_13 (k0_pay409 (F := F) v1348 v1350 c126_i32_638)
  let v1378 : Vec F S1x256x128 .bf16 ← ld2 I ![0, 0, 1792] S1x256x128.size inb_S1x256x4096_S1x256x128_0_0_1792
  have v1386 : IVec S256x1x256 32 := iota .tc S256x1x256 32 [2] iota_S256x1x256_d2_w32
  pure ⟨k0_pay410 v1378, k0_pay411 v1378, v1386, k0_pay412 (F := F)⟩

def s_part80 (I : In F) (i : grid0.Coords) (v1380 : FVec F S256x128 .f32) (v1385 : FVec F S256x1 .f32) (v1386 : IVec S256x1x256 32) (v1389 : FVec F S256x1x256 .f32) : PM F (Vec F S1x256x128 .bf16) := do
  let v1421 : Vec F S1x256x128 .fp8e4m3 ← ld8 ![0, 0, 1792] S1x256x128.size inb_S1x256x4096_S1x256x128_0_0_1792
  st8 ![0, 0, 1792] S1x256x128.size inb_S1x256x4096_S1x256x128_0_0_1792 (k0_pay414 v1380 v1385 v1386 v1389)
  let v1424 : Vec F S1x256x1 .f32 ← ld9 ![0, 0, 14] S1x256x1.size inb_S1x256x32_S1x256x1_0_0_14
  st9 ![0, 0, 14] S1x256x1.size inb_S1x256x32_S1x256x1_0_0_14 (k0_pay415 v1385 v1386 v1389)
  let v1427 : Vec F S1x256x128 .bf16 ← ld2 I ![0, 0, 1920] S1x256x128.size inb_S1x256x4096_S1x256x128_0_0_1920
  pure v1427

def s_part81 (I : In F) (i : grid0.Coords) (v1427 : Vec F S1x256x128 .bf16) : PM F (Σ' (v1457 : FVec F S256x1 .f32) (v1469 : FVec F S256x128 .fp8e4m3), Vec F S1x256x128 .fp8e4m3) := do
  let v1470 : Vec F S1x256x128 .fp8e4m3 ← ld8 ![0, 0, 1920] S1x256x128.size inb_S1x256x4096_S1x256x128_0_0_1920
  pure ⟨k0_pay418 v1427, k0_pay419 v1427, v1470⟩

def s_part82 (I : In F) (i : grid0.Coords) (v1457 : FVec F S256x1 .f32) (v1469 : FVec F S256x128 .fp8e4m3) (v1470 : Vec F S1x256x128 .fp8e4m3) : PM F (Σ' (v1478 : FVec F S256x128 .f32) (v1506 : FVec F S256x1 .f32), IVec S256x1 32) := do
  st8 ![0, 0, 1920] S1x256x128.size inb_S1x256x4096_S1x256x128_0_0_1920 (k0_pay420 v1469)
  let v1473 : Vec F S1x256x1 .f32 ← ld9 ![0, 0, 15] S1x256x1.size inb_S1x256x32_S1x256x1_0_0_15
  st9 ![0, 0, 15] S1x256x1.size inb_S1x256x32_S1x256x1_0_0_15 (k0_pay421 v1457)
  let v1476 : Vec F S1x256x128 .bf16 ← ld2 I ![0, 0, 2048] S1x256x128.size inb_S1x256x4096_S1x256x128_0_0_2048
  pure ⟨k0_pay422 v1476, k0_pay424 v1476, k0_pay425 v1476⟩

def s_part83 (I : In F) (i : grid0.Coords) (v1478 : FVec F S256x128 .f32) (v1506 : FVec F S256x1 .f32) (v1510 : IVec S256x1 32) : PM F (Σ' (v1527 : FVec F S256x128 .f32) (v1546 : IVec S256x1 1) (v1548 : IVec S256x1 32), IVec S256x1 32) := do
  let v1519 : Vec F S1x256x128 .fp8e4m3 ← ld8 ![0, 0, 2048] S1x256x128.size inb_S1x256x4096_S1x256x128_0_0_2048
  st8 ![0, 0, 2048] S1x256x128.size inb_S1x256x4096_S1x256x128_0_0_2048 (k0_pay426 v1478 v1510)
  let v1522 : Vec F S1x256x1 .f32 ← ld9 ![0, 0, 16] S1x256x1.size inb_S1x256x32_S1x256x1_0_0_16
  st9 ![0, 0, 16] S1x256x1.size inb_S1x256x32_S1x256x1_0_0_16 (k0_pay427 v1506)
  let v1525 : Vec F S1x256x128 .bf16 ← ld2 I ![0, 0, 2176] S1x256x128.size inb_S1x256x4096_S1x256x128_0_0_2176
  pure ⟨k0_pay428 v1525, k0_pay430 v1525, k0_pay431 v1525, k0_pay432⟩

def s_part84 (I : In F) (i : grid0.Coords) (v1527 : FVec F S256x128 .f32) (v1546 : IVec S256x1 1) (v1548 : IVec S256x1 32) (v1549 : IVec S256x1 32) : PM F (Σ' (v1576 : FVec F S256x128 .f32) (v1585 : FVec F S256x1x256 .f32) (v1587 : IVec S256x1x256 1), FVec F S256x1x1 .f32) := do
  let v1568 : Vec F S1x256x128 .fp8e4m3 ← ld8 ![0, 0, 2176] S1x256x128.size inb_S1x256x4096_S1x256x128_0_0_2176
  st8 ![0, 0, 2176] S1x256x128.size inb_S1x256x4096_S1x256x128_0_0_2176 (k0_pay434 v1527 v1546 v1548 v1549)
  let v1571 : Vec F S1x256x1 .f32 ← ld9 ![0, 0, 17] S1x256x1.size inb_S1x256x32_S1x256x1_0_0_17
  st9 ![0, 0, 17] S1x256x1.size inb_S1x256x32_S1x256x1_0_0_17 (k0_pay435 (F := F) v1546 v1548 v1549)
  let v1574 : Vec F S1x256x128 .bf16 ← ld2 I ![0, 0, 2304] S1x256x128.size inb_S1x256x4096_S1x256x128_0_0_2304
  pure ⟨k0_pay436 v1574, k0_pay437 (F := F), k0_pay438, k0_pay439 v1574⟩

def s_part85 (I : In F) (i : grid0.Coords) (v1576 : FVec F S256x128 .f32) (v1585 : FVec F S256x1x256 .f32) (v1587 : IVec S256x1x256 1) (v1588 : FVec F S256x1x1 .f32) : PM F (Σ' (v1625 : FVec F S256x128 .f32), FVec F S256x128 .f32) := do
  let v1617 : Vec F S1x256x128 .fp8e4m3 ← ld8 ![0, 0, 2304] S1x256x128.size inb_S1x256x4096_S1x256x128_0_0_2304
  st8 ![0, 0, 2304] S1x256x128.size inb_S1x256x4096_S1x256x128_0_0_2304 (k0_pay441 v1576 v1585 v1587 v1588)
  let v1620 : Vec F S1x256x1 .f32 ← ld9 ![0, 0, 18] S1x256x1.size inb_S1x256x32_S1x256x1_0_0_18
  st9 ![0, 0, 18] S1x256x1.size inb_S1x256x32_S1x256x1_0_0_18 (k0_pay442 v1585 v1587 v1588)
  let v1623 : Vec F S1x256x128 .bf16 ← ld2 I ![0, 0, 2432] S1x256x128.size inb_S1x256x4096_S1x256x128_0_0_2432
  pure ⟨k0_pay443 v1623, k0_pay444 v1623⟩

def s_part86 (I : In F) (i : grid0.Coords) (v1625 : FVec F S256x128 .f32) (v1626 : FVec F S256x128 .f32) : PM F (FVec F S256x1 .f32) := do
  let v1666 : Vec F S1x256x128 .fp8e4m3 ← ld8 ![0, 0, 2432] S1x256x128.size inb_S1x256x4096_S1x256x128_0_0_2432
  st8 ![0, 0, 2432] S1x256x128.size inb_S1x256x4096_S1x256x128_0_0_2432 (k0_pay447 v1625 v1626)
  pure (k0_pay446 v1626)

def s_part87 (I : In F) (i : grid0.Coords) (v1653 : FVec F S256x1 .f32) : PM F (Σ' (v1702 : FVec F S256x1 .f32) (v1709 : FVec F S256x128 .f32), F .f32) := do
  let v1669 : Vec F S1x256x1 .f32 ← ld9 ![0, 0, 19] S1x256x1.size inb_S1x256x32_S1x256x1_0_0_19
  st9 ![0, 0, 19] S1x256x1.size inb_S1x256x32_S1x256x1_0_0_19 (k0_pay448 v1653)
  let v1672 : Vec F S1x256x128 .bf16 ← ld2 I ![0, 0, 2560] S1x256x128.size inb_S1x256x4096_S1x256x128_0_0_2560
  have cst_791 : F .f32 := Scalar.ofBits .f32 0xC3E00000#32
  pure ⟨k0_pay451 v1672, k0_pay452 v1672, cst_791⟩

def s_part88 (I : In F) (i : grid0.Coords) (v1702 : FVec F S256x1 .f32) (v1709 : FVec F S256x128 .f32) (cst_791 : F .f32) : PM F (Σ' (v1723 : FVec F S256x128 .f32) (v1746 : IVec S256x1 32), IVec S256x1 32) := do
  let v1715 : Vec F S1x256x128 .fp8e4m3 ← ld8 ![0, 0, 2560] S1x256x128.size inb_S1x256x4096_S1x256x128_0_0_2560
  st8 ![0, 0, 2560] S1x256x128.size inb_S1x256x4096_S1x256x128_0_0_2560 (k0_pay453 v1709 cst_791)
  let v1718 : Vec F S1x256x1 .f32 ← ld9 ![0, 0, 20] S1x256x1.size inb_S1x256x32_S1x256x1_0_0_20
  st9 ![0, 0, 20] S1x256x1.size inb_S1x256x32_S1x256x1_0_0_20 (k0_pay454 v1702)
  let v1721 : Vec F S1x256x128 .bf16 ← ld2 I ![0, 0, 2688] S1x256x128.size inb_S1x256x4096_S1x256x128_0_0_2688
  pure ⟨k0_pay455 v1721, k0_pay456 v1721, k0_pay457 v1721⟩

def s_part89 (I : In F) (i : grid0.Coords) (v1723 : FVec F S256x128 .f32) (v1746 : IVec S256x1 32) (v1748 : IVec S256x1 32) : PM F (Σ' (v1772 : FVec F S256x128 .f32), IVec S256x1x256 32) := do
  let v1764 : Vec F S1x256x128 .fp8e4m3 ← ld8 ![0, 0, 2688] S1x256x128.size inb_S1x256x4096_S1x256x128_0_0_2688
  st8 ![0, 0, 2688] S1x256x128.size inb_S1x256x4096_S1x256x128_0_0_2688 (k0_pay458 v1723 v1746)
  let v1767 : Vec F S1x256x1 .f32 ← ld9 ![0, 0, 21] S1x256x1.size inb_S1x256x32_S1x256x1_0_0_21
  st9 ![0, 0, 21] S1x256x1.size inb_S1x256x32_S1x256x1_0_0_21 (k0_pay459 (F := F) v1748)
  let v1770 : Vec F S1x256x128 .bf16 ← ld2 I ![0, 0, 2816] S1x256x128.size inb_S1x256x4096_S1x256x128_0_0_2816
  pure ⟨k0_pay460 v1770, k0_pay461 v1770⟩

def s_part90 (I : In F) (i : grid0.Coords) (v1772 : FVec F S256x128 .f32) (v1788 : IVec S256x1x256 32) : PM F (Σ' (v1821 : FVec F S256x128 .f32) (v1824 : FVec F S256x1 .f32), FVec F S256x1 .f32) := do
  let v1813 : Vec F S1x256x128 .fp8e4m3 ← ld8 ![0, 0, 2816] S1x256x128.size inb_S1x256x4096_S1x256x128_0_0_2816
  st8 ![0, 0, 2816] S1x256x128.size inb_S1x256x4096_S1x256x128_0_0_2816 (k0_pay463 v1772 v1788)
  let v1816 : Vec F S1x256x1 .f32 ← ld9 ![0, 0, 22] S1x256x1.size inb_S1x256x32_S1x256x1_0_0_22
  st9 ![0, 0, 22] S1x256x1.size inb_S1x256x32_S1x256x1_0_0_22 (k0_pay464 (F := F) v1788)
  let v1819 : Vec F S1x256x128 .bf16 ← ld2 I ![0, 0, 2944] S1x256x128.size inb_S1x256x4096_S1x256x128_0_0_2944
  pure ⟨k0_pay465 v1819, k0_pay466 v1819, k0_pay467 (F := F)⟩

def s_part91 (I : In F) (i : grid0.Coords) (v1821 : FVec F S256x128 .f32) (v1824 : FVec F S256x1 .f32) (v1825 : FVec F S256x1 .f32) : PM F (FVec F S256x1 .f32) := do
  let v1862 : Vec F S1x256x128 .fp8e4m3 ← ld8 ![0, 0, 2944] S1x256x128.size inb_S1x256x4096_S1x256x128_0_0_2944
  st8 ![0, 0, 2944] S1x256x128.size inb_S1x256x4096_S1x256x128_0_0_2944 (k0_pay470 v1821 v1824 v1825)
  let v1865 : Vec F S1x256x1 .f32 ← ld9 ![0, 0, 23] S1x256x1.size inb_S1x256x32_S1x256x1_0_0_23
  pure (k0_pay469 v1824 v1825)

def s_part92 (I : In F) (i : grid0.Coords) (v1849 : FVec F S256x1 .f32) : PM F (Σ' (v1898 : FVec F S256x1 .f32) (v1907 : FVec F S256x128 .f32), FVec F S256x128 .f32) := do
  st9 ![0, 0, 23] S1x256x1.size inb_S1x256x32_S1x256x1_0_0_23 (k0_pay471 v1849)
  let v1868 : Vec F S1x256x128 .bf16 ← ld2 I ![0, 0, 3072] S1x256x128.size inb_S1x256x4096_S1x256x128_0_0_3072
  pure ⟨k0_pay474 v1868, k0_pay475 v1868, k0_pay476 (F := F)⟩

def s_part93 (I : In F) (i : grid0.Coords) (v1898 : FVec F S256x1 .f32) (v1907 : FVec F S256x128 .f32) (v1908 : FVec F S256x128 .f32) : PM F (Σ' (v1919 : FVec F S256x128 .f32) (v1942 : IVec S256x1 32), FVec F S256x1 .f32) := do
  let v1911 : Vec F S1x256x128 .fp8e4m3 ← ld8 ![0, 0, 3072] S1x256x128.size inb_S1x256x4096_S1x256x128_0_0_3072
  st8 ![0, 0, 3072] S1x256x128.size inb_S1x256x4096_S1x256x128_0_0_3072 (k0_pay477 v1907 v1908)
  let v1914 : Vec F S1x256x1 .f32 ← ld9 ![0, 0, 24] S1x256x1.size inb_S1x256x32_S1x256x1_0_0_24
  st9 ![0, 0, 24] S1x256x1.size inb_S1x256x32_S1x256x1_0_0_24 (k0_pay478 v1898)
  let v1917 : Vec F S1x256x128 .bf16 ← ld2 I ![0, 0, 3200] S1x256x128.size inb_S1x256x4096_S1x256x128_0_0_3200
  pure ⟨k0_pay479 v1917, k0_pay480 v1917, k0_pay481 v1917⟩

def s_part94 (I : In F) (i : grid0.Coords) (v1919 : FVec F S256x128 .f32) (v1942 : IVec S256x1 32) (v1947 : FVec F S256x1 .f32) : PM F (Σ' (v1968 : FVec F S256x128 .f32) (v1985 : IVec S256x1 32), IVec S256x1 32) := do
  let v1960 : Vec F S1x256x128 .fp8e4m3 ← ld8 ![0, 0, 3200] S1x256x128.size inb_S1x256x4096_S1x256x128_0_0_3200
  st8 ![0, 0, 3200] S1x256x128.size inb_S1x256x4096_S1x256x128_0_0_3200 (k0_pay482 v1919 v1942)
  let v1963 : Vec F S1x256x1 .f32 ← ld9 ![0, 0, 25] S1x256x1.size inb_S1x256x32_S1x256x1_0_0_25
  st9 ![0, 0, 25] S1x256x1.size inb_S1x256x32_S1x256x1_0_0_25 (k0_pay483 v1947)
  let v1966 : Vec F S1x256x128 .bf16 ← ld2 I ![0, 0, 3328] S1x256x128.size inb_S1x256x4096_S1x256x128_0_0_3328
  pure ⟨k0_pay484 v1966, k0_pay485 v1966, k0_pay486⟩

def s_part95 (I : In F) (i : grid0.Coords) (v1968 : FVec F S256x128 .f32) (v1985 : IVec S256x1 32) (v1986 : IVec S256x1 32) : PM F (Σ' (v2017 : FVec F S256x128 .f32) (v2022 : FVec F S256x1 .f32) (v2023 : IVec S256x1x256 32), IVec S256x1x256 32) := do
  let v2009 : Vec F S1x256x128 .fp8e4m3 ← ld8 ![0, 0, 3328] S1x256x128.size inb_S1x256x4096_S1x256x128_0_0_3328
  st8 ![0, 0, 3328] S1x256x128.size inb_S1x256x4096_S1x256x128_0_0_3328 (k0_pay488 v1968 v1985 v1986)
  let v2012 : Vec F S1x256x1 .f32 ← ld9 ![0, 0, 26] S1x256x1.size inb_S1x256x32_S1x256x1_0_0_26
  st9 ![0, 0, 26] S1x256x1.size inb_S1x256x32_S1x256x1_0_0_26 (k0_pay489 (F := F) v1985 v1986)
  let v2015 : Vec F S1x256x128 .bf16 ← ld2 I ![0, 0, 3456] S1x256x128.size inb_S1x256x4096_S1x256x128_0_0_3456
  have v2023 : IVec S256x1x256 32 := iota .tc S256x1x256 32 [2] iota_S256x1x256_d2_w32
  pure ⟨k0_pay490 v2015, k0_pay491 v2015, v2023, k0_pay492⟩

def s_part96 (I : In F) (i : grid0.Coords) (v2017 : FVec F S256x128 .f32) (v2022 : FVec F S256x1 .f32) (v2023 : IVec S256x1x256 32) (v2024 : IVec S256x1x256 32) : PM F (PUnit) := do
  let v2058 : Vec F S1x256x128 .fp8e4m3 ← ld8 ![0, 0, 3456] S1x256x128.size inb_S1x256x4096_S1x256x128_0_0_3456
  st8 ![0, 0, 3456] S1x256x128.size inb_S1x256x4096_S1x256x128_0_0_3456 (k0_pay494 v2017 v2022 v2023 v2024)
  let v2061 : Vec F S1x256x1 .f32 ← ld9 ![0, 0, 27] S1x256x1.size inb_S1x256x32_S1x256x1_0_0_27
  st9 ![0, 0, 27] S1x256x1.size inb_S1x256x32_S1x256x1_0_0_27 (k0_pay495 v2022 v2023 v2024)
  pure ⟨⟩

def s_part97 (I : In F) (i : grid0.Coords)  : PM F (Σ' (v2094 : FVec F S256x1 .f32), FVec F S256x128 .fp8e4m3) := do
  let v2064 : Vec F S1x256x128 .bf16 ← ld2 I ![0, 0, 3584] S1x256x128.size inb_S1x256x4096_S1x256x128_0_0_3584
  pure ⟨k0_pay498 v2064, k0_pay499 v2064⟩

def s_part98 (I : In F) (i : grid0.Coords) (v2094 : FVec F S256x1 .f32) (v2106 : FVec F S256x128 .fp8e4m3) : PM F (Σ' (v2115 : FVec F S256x128 .f32) (v2143 : FVec F S256x1 .f32) (v2145 : IVec S256x1 32), BitVec 32) := do
  let v2107 : Vec F S1x256x128 .fp8e4m3 ← ld8 ![0, 0, 3584] S1x256x128.size inb_S1x256x4096_S1x256x128_0_0_3584
  st8 ![0, 0, 3584] S1x256x128.size inb_S1x256x4096_S1x256x128_0_0_3584 (k0_pay500 v2106)
  let v2110 : Vec F S1x256x1 .f32 ← ld9 ![0, 0, 28] S1x256x1.size inb_S1x256x32_S1x256x1_0_0_28
  st9 ![0, 0, 28] S1x256x1.size inb_S1x256x32_S1x256x1_0_0_28 (k0_pay501 v2094)
  let v2113 : Vec F S1x256x128 .bf16 ← ld2 I ![0, 0, 3712] S1x256x128.size inb_S1x256x4096_S1x256x128_0_0_3712
  pure ⟨k0_pay502 v2113, k0_pay504 v2113, k0_pay505 v2113, 23#32⟩

def s_part99 (I : In F) (i : grid0.Coords) (v2115 : FVec F S256x128 .f32) (v2143 : FVec F S256x1 .f32) (v2145 : IVec S256x1 32) (c23_i32_979 : BitVec 32) : PM F (Σ' (v2164 : FVec F S256x128 .f32) (v2183 : IVec S256x1 1), IVec S256x1 32) := do
  let v2156 : Vec F S1x256x128 .fp8e4m3 ← ld8 ![0, 0, 3712] S1x256x128.size inb_S1x256x4096_S1x256x128_0_0_3712
  st8 ![0, 0, 3712] S1x256x128.size inb_S1x256x4096_S1x256x128_0_0_3712 (k0_pay506 v2115 v2145 c23_i32_979)
  let v2159 : Vec F S1x256x1 .f32 ← ld9 ![0, 0, 29] S1x256x1.size inb_S1x256x32_S1x256x1_0_0_29
  st9 ![0, 0, 29] S1x256x1.size inb_S1x256x32_S1x256x1_0_0_29 (k0_pay507 v2143)
  let v2162 : Vec F S1x256x128 .bf16 ← ld2 I ![0, 0, 3840] S1x256x128.size inb_S1x256x4096_S1x256x128_0_0_3840
  pure ⟨k0_pay508 v2162, k0_pay510 v2162, k0_pay511 v2162⟩

def s_part100 (I : In F) (i : grid0.Coords) (v2164 : FVec F S256x128 .f32) (v2183 : IVec S256x1 1) (v2185 : IVec S256x1 32) : PM F (Σ' (v2213 : FVec F S256x128 .f32) (v2218 : FVec F S256x1 .f32) (v2219 : IVec S256x1x256 32) (v2222 : FVec F S256x1x256 .f32), IVec S256x1x256 32) := do
  let v2205 : Vec F S1x256x128 .fp8e4m3 ← ld8 ![0, 0, 3840] S1x256x128.size inb_S1x256x4096_S1x256x128_0_0_3840
  st8 ![0, 0, 3840] S1x256x128.size inb_S1x256x4096_S1x256x128_0_0_3840 (k0_pay513 v2164 v2183 v2185)
  let v2208 : Vec F S1x256x1 .f32 ← ld9 ![0, 0, 30] S1x256x1.size inb_S1x256x32_S1x256x1_0_0_30
  st9 ![0, 0, 30] S1x256x1.size inb_S1x256x32_S1x256x1_0_0_30 (k0_pay514 (F := F) v2183 v2185)
  let v2211 : Vec F S1x256x128 .bf16 ← ld2 I ![0, 0, 3968] S1x256x128.size inb_S1x256x4096_S1x256x128_0_0_3968
  have v2219 : IVec S256x1x256 32 := iota .tc S256x1x256 32 [2] iota_S256x1x256_d2_w32
  pure ⟨k0_pay515 v2211, k0_pay516 v2211, v2219, k0_pay517 (F := F), k0_pay518⟩

def s_part101 (I : In F) (i : grid0.Coords) (v2213 : FVec F S256x128 .f32) (v2218 : FVec F S256x1 .f32) (v2219 : IVec S256x1x256 32) (v2222 : FVec F S256x1x256 .f32) (v2223 : IVec S256x1x256 32) : PM F (FVec F S32x256 .f32) := do
  let v2254 : Vec F S1x256x128 .fp8e4m3 ← ld8 ![0, 0, 3968] S1x256x128.size inb_S1x256x4096_S1x256x128_0_0_3968
  st8 ![0, 0, 3968] S1x256x128.size inb_S1x256x4096_S1x256x128_0_0_3968 (k0_pay520 v2213 v2218 v2219 v2222 v2223)
  let v2257 : Vec F S1x256x1 .f32 ← ld9 ![0, 0, 31] S1x256x1.size inb_S1x256x32_S1x256x1_0_0_31
  st9 ![0, 0, 31] S1x256x1.size inb_S1x256x32_S1x256x1_0_0_31 (k0_pay521 v2218 v2219 v2222 v2223)
  let v2260 : Vec F S1x256x32 .f32 ← ld9 ![0, 0, 0] S1x256x32.size inb_S1x256x32_S1x256x32_0_0_0
  pure (k0_pay522 v2260)

def s_part102 (I : In F) (i : grid0.Coords) (v2262 : FVec F S32x256 .f32) : PM F (Σ' (v2264 : FVec F S32x256 .f32), FVec F S1x128 .f32) := do
  let v2268 : Vec F S1x1x8x128 .f32 ← ld16 ![0, 0, 0, 0] S1x1x8x128.size inb_S2x8x8x512_S1x1x8x128_0_0_0_0
  st16 ![0, 0, 0, 0] S1x1x8x128.size inb_S2x8x8x512_S1x1x8x128_0_0_0_0 (k0_pay524 v2262)
  let v2274 : Vec F S1x1x8x128 .f32 ← ld16 ![1, 0, 0, 0] S1x1x8x128.size inb_S2x8x8x512_S1x1x8x128_1_0_0_0
  st16 ![1, 0, 0, 0] S1x1x8x128.size inb_S2x8x8x512_S1x1x8x128_1_0_0_0 (k0_pay525 v2262)
  let v2280 : Vec F S1x1x8x128 .f32 ← ld16 ![0, 0, 0, 128] S1x1x8x128.size inb_S2x8x8x512_S1x1x8x128_0_0_0_128
  st16 ![0, 0, 0, 128] S1x1x8x128.size inb_S2x8x8x512_S1x1x8x128_0_0_0_128 (k0_pay526 v2262)
  let v2286 : Vec F S1x1x8x128 .f32 ← ld16 ![1, 0, 0, 128] S1x1x8x128.size inb_S2x8x8x512_S1x1x8x128_1_0_0_128
  st16 ![1, 0, 0, 128] S1x1x8x128.size inb_S2x8x8x512_S1x1x8x128_1_0_0_128 (k0_pay527 v2262)
  let v2292 : Vec F S1x1x8x128 .f32 ← ld16 ![0, 0, 0, 256] S1x1x8x128.size inb_S2x8x8x512_S1x1x8x128_0_0_0_256
  st16 ![0, 0, 0, 256] S1x1x8x128.size inb_S2x8x8x512_S1x1x8x128_0_0_0_256 (k0_pay528 v2262)
  pure ⟨k0_pay523 v2262, k0_pay529 v2262⟩

def s_part103 (I : In F) (i : grid0.Coords) (v2264 : FVec F S32x256 .f32) (v2296 : FVec F S1x128 .f32) : PM F (FVec F S8x128 .f32) := do
  let v2298 : Vec F S1x1x8x128 .f32 ← ld16 ![1, 0, 0, 256] S1x1x8x128.size inb_S2x8x8x512_S1x1x8x128_1_0_0_256
  st16 ![1, 0, 0, 256] S1x1x8x128.size inb_S2x8x8x512_S1x1x8x128_1_0_0_256 (k0_pay530 v2296)
  let v2304 : Vec F S1x1x8x128 .f32 ← ld16 ![0, 0, 0, 384] S1x1x8x128.size inb_S2x8x8x512_S1x1x8x128_0_0_0_384
  st16 ![0, 0, 0, 384] S1x1x8x128.size inb_S2x8x8x512_S1x1x8x128_0_0_0_384 (k0_pay531 v2264)
  let v2310 : Vec F S1x1x8x128 .f32 ← ld16 ![1, 0, 0, 384] S1x1x8x128.size inb_S2x8x8x512_S1x1x8x128_1_0_0_384
  st16 ![1, 0, 0, 384] S1x1x8x128.size inb_S2x8x8x512_S1x1x8x128_1_0_0_384 (k0_pay532 v2264)
  let v2316 : Vec F S1x1x8x128 .f32 ← ld16 ![0, 1, 0, 0] S1x1x8x128.size inb_S2x8x8x512_S1x1x8x128_0_1_0_0
  st16 ![0, 1, 0, 0] S1x1x8x128.size inb_S2x8x8x512_S1x1x8x128_0_1_0_0 (k0_pay533 v2264)
  let v2322 : Vec F S1x1x8x128 .f32 ← ld16 ![1, 1, 0, 0] S1x1x8x128.size inb_S2x8x8x512_S1x1x8x128_1_1_0_0
  st16 ![1, 1, 0, 0] S1x1x8x128.size inb_S2x8x8x512_S1x1x8x128_1_1_0_0 (k0_pay534 v2264)
  pure (k0_pay535 v2264)

def s_part114 (I : In F) (i : grid0.Coords)  : PM F (Σ' (arg1 : BitVec 32) (v2264 : FVec F S32x256 .f32), FVec F S8x128 .f32) := do
  let ⟨arg1, v0, v6, v34, v38⟩ : Σ' (arg1 : BitVec 32) (v0 : BitVec 32) (v6 : FVec F S256x128 .f32) (v34 : FVec F S256x1 .f32), IVec S256x1 32 ← s_part44 I i
  let ⟨v71, v72⟩ : Σ' (v71 : FVec F S256x128 .f32), FVec F S256x128 .f32 ← s_part45 I i v0 v6 v34 v38
  let ⟨v92, v109, v111, v112⟩ : Σ' (v92 : FVec F S256x128 .f32) (v109 : IVec S256x1 32) (v111 : IVec S256x1 1), IVec S256x1 32 ← s_part46 I i v0 v71 v72
  let v150 : FVec F S1x256x1 .f32 ← s_part47 I i v0 v92 v109 v111 v112
  let ⟨v178, v183, v184, v185⟩ : Σ' (v178 : FVec F S256x128 .f32) (v183 : FVec F S256x1 .f32) (v184 : IVec S256x1x256 32), IVec S256x1x256 32 ← s_part48 I i v0 v150
  let ⟨v206, v218, v225⟩ : Σ' (v206 : FVec F S256x1 .f32) (v218 : FVec F S256x128 .fp8e4m3), FVec F S256x128 .f32 ← s_part49 I i v0 v178 v183 v184 v185
  let v261 : FVec F S1x1x128x256 .fp8e4m3 ← s_part50 I i v0 v206 v218 v225
  let ⟨v292, v303⟩ : Σ' (v292 : FVec F S256x1 .f32), FVec F S256x128 .f32 ← s_part51 I i v261
  let v336 : FVec F S256x128 .fp8e4m3 ← s_part52 I i v0 v292 v303
  let ⟨v350, v373, v375, v376⟩ : Σ' (v350 : FVec F S256x128 .f32) (v373 : IVec S256x1 32) (v375 : IVec S256x1 32), IVec S256x1 32 ← s_part53 I i v0 v336
  let ⟨v410, v411⟩ : Σ' (v410 : FVec F S1x128 .f32), FVec F S1x128 .f32 ← s_part54 I i v0 v350 v373 v375 v376
  let ⟨v436, v451⟩ : Σ' (v436 : FVec F S256x128 .f32), IVec S256x1x256 1 ← s_part55 I i v0 v410 v411
  let ⟨v464, v476⟩ : Σ' (v464 : FVec F S256x1 .f32), FVec F S256x128 .fp8e4m3 ← s_part56 I i v0 v436 v451
  let ⟨v522, v523⟩ : Σ' (v522 : FVec F S256x128 .f32), FVec F S256x128 .f32 ← s_part57 I i v0 v464 v476
  let ⟨v550, v562, v567⟩ : Σ' (v550 : FVec F S256x1 .f32) (v562 : FVec F S256x128 .fp8e4m3), FVec F S1x256x128 .fp8e4m3 ← s_part58 I i v0 v522 v523
  let v600 : FVec F S128x256 .fp8e4m3 ← s_part59 I i v0 v550 v562 v567
  let ⟨v608, v636, v641⟩ : Σ' (v608 : FVec F S256x128 .f32) (v636 : FVec F S256x1 .f32), FVec F S256x1 .f32 ← s_part60 I i v0 v600
  let v675 : FVec F S256x128 .f32 ← s_part61 I i v0 v608 v636 v641
  let ⟨v694, v713, v715⟩ : Σ' (v694 : FVec F S256x128 .f32) (v713 : IVec S256x1 1), IVec S256x1 32 ← s_part62 I i v0 v675
  let ⟨v743, v748, v749, v752, v753⟩ : Σ' (v743 : FVec F S256x128 .f32) (v748 : FVec F S256x1 .f32) (v749 : IVec S256x1x256 32) (v752 : FVec F S256x1x256 .f32), IVec S256x1x256 32 ← s_part63 I i v694 v713 v715
  let v792 : FVec F S256x128 .f32 ← s_part64 I i v743 v748 v749 v752 v753
  let ⟨v820, v835⟩ : Σ' (v820 : FVec F S256x1 .f32), FVec F S1x256x128 .fp8e4m3 ← s_part65 I i v792
  let ⟨v841, v869, v875⟩ : Σ' (v841 : FVec F S256x128 .f32) (v869 : FVec F S256x1 .f32), FVec F S256x128 .f32 ← s_part66 I i v820 v835
  let ⟨v890, v913, c127_i32_444⟩ : Σ' (v890 : FVec F S256x128 .f32) (v913 : IVec S256x1 32), BitVec 32 ← s_part67 I i v841 v869 v875
  let ⟨v939, v950, v953⟩ : Σ' (v939 : FVec F S256x128 .f32) (v950 : IVec S256x1x256 1), IVec S256x1x256 1 ← s_part68 I i v890 v913 c127_i32_444
  let ⟨v988, v991⟩ : Σ' (v988 : FVec F S256x128 .f32), FVec F S256x1 .f32 ← s_part69 I i v939 v950 v953
  let v1016 : FVec F S256x1 .f32 ← s_part70 I i v988 v991
  let ⟨v1065, v1072, cst_518, v1073⟩ : Σ' (v1065 : FVec F S256x1 .f32) (v1072 : FVec F S256x128 .f32) (cst_518 : F .f32), FVec F S256x128 .f32 ← s_part71 I i v1016
  let ⟨v1086, v1109, v1111, v1112⟩ : Σ' (v1086 : FVec F S256x128 .f32) (v1109 : IVec S256x1 32) (v1111 : IVec S256x1 32), IVec S256x1 32 ← s_part72 I i v1065 v1072 cst_518 v1073
  let ⟨v1135, v1152⟩ : Σ' (v1135 : FVec F S256x128 .f32), IVec S256x1 32 ← s_part73 I i v1086 v1109 v1111 v1112
  let ⟨v1184, v1189, v1190⟩ : Σ' (v1184 : FVec F S256x128 .f32) (v1189 : FVec F S256x1 .f32), IVec S256x1x256 32 ← s_part74 I i v1135 v1152
  s_part75 I i v1184 v1189 v1190
  let ⟨v1261, v1273⟩ : Σ' (v1261 : FVec F S256x1 .f32), FVec F S256x128 .fp8e4m3 ← s_part76 I i
  let ⟨v1282, v1305, v1310, v1311⟩ : Σ' (v1282 : FVec F S256x128 .f32) (v1305 : IVec S256x1 32) (v1310 : FVec F S256x1 .f32), IVec S256x1 32 ← s_part77 I i v1261 v1273
  let ⟨v1331, v1348, v1350, c126_i32_638⟩ : Σ' (v1331 : FVec F S256x128 .f32) (v1348 : IVec S256x1 32) (v1350 : IVec S256x1 1), BitVec 32 ← s_part78 I i v1282 v1305 v1310 v1311
  let ⟨v1380, v1385, v1386, v1389⟩ : Σ' (v1380 : FVec F S256x128 .f32) (v1385 : FVec F S256x1 .f32) (v1386 : IVec S256x1x256 32), FVec F S256x1x256 .f32 ← s_part79 I i v1331 v1348 v1350 c126_i32_638
  let v1427 : Vec F S1x256x128 .bf16 ← s_part80 I i v1380 v1385 v1386 v1389
  let ⟨v1457, v1469, v1470⟩ : Σ' (v1457 : FVec F S256x1 .f32) (v1469 : FVec F S256x128 .fp8e4m3), Vec F S1x256x128 .fp8e4m3 ← s_part81 I i v1427
  let ⟨v1478, v1506, v1510⟩ : Σ' (v1478 : FVec F S256x128 .f32) (v1506 : FVec F S256x1 .f32), IVec S256x1 32 ← s_part82 I i v1457 v1469 v1470
  let ⟨v1527, v1546, v1548, v1549⟩ : Σ' (v1527 : FVec F S256x128 .f32) (v1546 : IVec S256x1 1) (v1548 : IVec S256x1 32), IVec S256x1 32 ← s_part83 I i v1478 v1506 v1510
  let ⟨v1576, v1585, v1587, v1588⟩ : Σ' (v1576 : FVec F S256x128 .f32) (v1585 : FVec F S256x1x256 .f32) (v1587 : IVec S256x1x256 1), FVec F S256x1x1 .f32 ← s_part84 I i v1527 v1546 v1548 v1549
  let ⟨v1625, v1626⟩ : Σ' (v1625 : FVec F S256x128 .f32), FVec F S256x128 .f32 ← s_part85 I i v1576 v1585 v1587 v1588
  let v1653 : FVec F S256x1 .f32 ← s_part86 I i v1625 v1626
  let ⟨v1702, v1709, cst_791⟩ : Σ' (v1702 : FVec F S256x1 .f32) (v1709 : FVec F S256x128 .f32), F .f32 ← s_part87 I i v1653
  let ⟨v1723, v1746, v1748⟩ : Σ' (v1723 : FVec F S256x128 .f32) (v1746 : IVec S256x1 32), IVec S256x1 32 ← s_part88 I i v1702 v1709 cst_791
  let ⟨v1772, v1788⟩ : Σ' (v1772 : FVec F S256x128 .f32), IVec S256x1x256 32 ← s_part89 I i v1723 v1746 v1748
  let ⟨v1821, v1824, v1825⟩ : Σ' (v1821 : FVec F S256x128 .f32) (v1824 : FVec F S256x1 .f32), FVec F S256x1 .f32 ← s_part90 I i v1772 v1788
  let v1849 : FVec F S256x1 .f32 ← s_part91 I i v1821 v1824 v1825
  let ⟨v1898, v1907, v1908⟩ : Σ' (v1898 : FVec F S256x1 .f32) (v1907 : FVec F S256x128 .f32), FVec F S256x128 .f32 ← s_part92 I i v1849
  let ⟨v1919, v1942, v1947⟩ : Σ' (v1919 : FVec F S256x128 .f32) (v1942 : IVec S256x1 32), FVec F S256x1 .f32 ← s_part93 I i v1898 v1907 v1908
  let ⟨v1968, v1985, v1986⟩ : Σ' (v1968 : FVec F S256x128 .f32) (v1985 : IVec S256x1 32), IVec S256x1 32 ← s_part94 I i v1919 v1942 v1947
  let ⟨v2017, v2022, v2023, v2024⟩ : Σ' (v2017 : FVec F S256x128 .f32) (v2022 : FVec F S256x1 .f32) (v2023 : IVec S256x1x256 32), IVec S256x1x256 32 ← s_part95 I i v1968 v1985 v1986
  s_part96 I i v2017 v2022 v2023 v2024
  let ⟨v2094, v2106⟩ : Σ' (v2094 : FVec F S256x1 .f32), FVec F S256x128 .fp8e4m3 ← s_part97 I i
  let ⟨v2115, v2143, v2145, c23_i32_979⟩ : Σ' (v2115 : FVec F S256x128 .f32) (v2143 : FVec F S256x1 .f32) (v2145 : IVec S256x1 32), BitVec 32 ← s_part98 I i v2094 v2106
  let ⟨v2164, v2183, v2185⟩ : Σ' (v2164 : FVec F S256x128 .f32) (v2183 : IVec S256x1 1), IVec S256x1 32 ← s_part99 I i v2115 v2143 v2145 c23_i32_979
  let ⟨v2213, v2218, v2219, v2222, v2223⟩ : Σ' (v2213 : FVec F S256x128 .f32) (v2218 : FVec F S256x1 .f32) (v2219 : IVec S256x1x256 32) (v2222 : FVec F S256x1x256 .f32), IVec S256x1x256 32 ← s_part100 I i v2164 v2183 v2185
  let v2262 : FVec F S32x256 .f32 ← s_part101 I i v2213 v2218 v2219 v2222 v2223
  let ⟨v2264, v2296⟩ : Σ' (v2264 : FVec F S32x256 .f32), FVec F S1x128 .f32 ← s_part102 I i v2262
  let v2327 : FVec F S8x128 .f32 ← s_part103 I i v2264 v2296
  pure ⟨arg1, v2264, v2327⟩

def s_part104 (I : In F) (i : grid0.Coords) (v2264 : FVec F S32x256 .f32) (v2327 : FVec F S8x128 .f32) : PM F (FVec F S1x128 .f32) := do
  let v2328 : Vec F S1x1x8x128 .f32 ← ld16 ![0, 1, 0, 128] S1x1x8x128.size inb_S2x8x8x512_S1x1x8x128_0_1_0_128
  st16 ![0, 1, 0, 128] S1x1x8x128.size inb_S2x8x8x512_S1x1x8x128_0_1_0_128 (k0_pay536 v2327)
  let v2334 : Vec F S1x1x8x128 .f32 ← ld16 ![1, 1, 0, 128] S1x1x8x128.size inb_S2x8x8x512_S1x1x8x128_1_1_0_128
  st16 ![1, 1, 0, 128] S1x1x8x128.size inb_S2x8x8x512_S1x1x8x128_1_1_0_128 (k0_pay537 v2264)
  let v2340 : Vec F S1x1x8x128 .f32 ← ld16 ![0, 1, 0, 256] S1x1x8x128.size inb_S2x8x8x512_S1x1x8x128_0_1_0_256
  st16 ![0, 1, 0, 256] S1x1x8x128.size inb_S2x8x8x512_S1x1x8x128_0_1_0_256 (k0_pay538 v2264)
  let v2346 : Vec F S1x1x8x128 .f32 ← ld16 ![1, 1, 0, 256] S1x1x8x128.size inb_S2x8x8x512_S1x1x8x128_1_1_0_256
  st16 ![1, 1, 0, 256] S1x1x8x128.size inb_S2x8x8x512_S1x1x8x128_1_1_0_256 (k0_pay539 v2264)
  let v2352 : Vec F S1x1x8x128 .f32 ← ld16 ![0, 1, 0, 384] S1x1x8x128.size inb_S2x8x8x512_S1x1x8x128_0_1_0_384
  st16 ![0, 1, 0, 384] S1x1x8x128.size inb_S2x8x8x512_S1x1x8x128_0_1_0_384 (k0_pay540 v2264)
  let v2358 : Vec F S1x1x8x128 .f32 ← ld16 ![1, 1, 0, 384] S1x1x8x128.size inb_S2x8x8x512_S1x1x8x128_1_1_0_384
  st16 ![1, 1, 0, 384] S1x1x8x128.size inb_S2x8x8x512_S1x1x8x128_1_1_0_384 (k0_pay541 v2264)
  pure (k0_pay542 v2264)

def s_part105 (I : In F) (i : grid0.Coords) (v2264 : FVec F S32x256 .f32) (v2361 : FVec F S1x128 .f32) : PM F (FVec F S8x128 .f32) := do
  let v2364 : Vec F S1x1x8x128 .f32 ← ld16 ![0, 2, 0, 0] S1x1x8x128.size inb_S2x8x8x512_S1x1x8x128_0_2_0_0
  st16 ![0, 2, 0, 0] S1x1x8x128.size inb_S2x8x8x512_S1x1x8x128_0_2_0_0 (k0_pay543 v2361)
  let v2370 : Vec F S1x1x8x128 .f32 ← ld16 ![1, 2, 0, 0] S1x1x8x128.size inb_S2x8x8x512_S1x1x8x128_1_2_0_0
  st16 ![1, 2, 0, 0] S1x1x8x128.size inb_S2x8x8x512_S1x1x8x128_1_2_0_0 (k0_pay544 v2264)
  let v2376 : Vec F S1x1x8x128 .f32 ← ld16 ![0, 2, 0, 128] S1x1x8x128.size inb_S2x8x8x512_S1x1x8x128_0_2_0_128
  st16 ![0, 2, 0, 128] S1x1x8x128.size inb_S2x8x8x512_S1x1x8x128_0_2_0_128 (k0_pay545 v2264)
  let v2382 : Vec F S1x1x8x128 .f32 ← ld16 ![1, 2, 0, 128] S1x1x8x128.size inb_S2x8x8x512_S1x1x8x128_1_2_0_128
  st16 ![1, 2, 0, 128] S1x1x8x128.size inb_S2x8x8x512_S1x1x8x128_1_2_0_128 (k0_pay546 v2264)
  let v2388 : Vec F S1x1x8x128 .f32 ← ld16 ![0, 2, 0, 256] S1x1x8x128.size inb_S2x8x8x512_S1x1x8x128_0_2_0_256
  st16 ![0, 2, 0, 256] S1x1x8x128.size inb_S2x8x8x512_S1x1x8x128_0_2_0_256 (k0_pay547 v2264)
  pure (k0_pay548 v2264)

def s_part106 (I : In F) (i : grid0.Coords) (v2264 : FVec F S32x256 .f32) (v2393 : FVec F S8x128 .f32) : PM F (PUnit) := do
  let v2394 : Vec F S1x1x8x128 .f32 ← ld16 ![1, 2, 0, 256] S1x1x8x128.size inb_S2x8x8x512_S1x1x8x128_1_2_0_256
  st16 ![1, 2, 0, 256] S1x1x8x128.size inb_S2x8x8x512_S1x1x8x128_1_2_0_256 (k0_pay549 v2393)
  let v2400 : Vec F S1x1x8x128 .f32 ← ld16 ![0, 2, 0, 384] S1x1x8x128.size inb_S2x8x8x512_S1x1x8x128_0_2_0_384
  st16 ![0, 2, 0, 384] S1x1x8x128.size inb_S2x8x8x512_S1x1x8x128_0_2_0_384 (k0_pay550 v2264)
  let v2406 : Vec F S1x1x8x128 .f32 ← ld16 ![1, 2, 0, 384] S1x1x8x128.size inb_S2x8x8x512_S1x1x8x128_1_2_0_384
  st16 ![1, 2, 0, 384] S1x1x8x128.size inb_S2x8x8x512_S1x1x8x128_1_2_0_384 (k0_pay551 v2264)
  let v2412 : Vec F S1x1x8x128 .f32 ← ld16 ![0, 3, 0, 0] S1x1x8x128.size inb_S2x8x8x512_S1x1x8x128_0_3_0_0
  st16 ![0, 3, 0, 0] S1x1x8x128.size inb_S2x8x8x512_S1x1x8x128_0_3_0_0 (k0_pay552 v2264)
  let v2418 : Vec F S1x1x8x128 .f32 ← ld16 ![1, 3, 0, 0] S1x1x8x128.size inb_S2x8x8x512_S1x1x8x128_1_3_0_0
  st16 ![1, 3, 0, 0] S1x1x8x128.size inb_S2x8x8x512_S1x1x8x128_1_3_0_0 (k0_pay553 v2264)
  let v2424 : Vec F S1x1x8x128 .f32 ← ld16 ![0, 3, 0, 128] S1x1x8x128.size inb_S2x8x8x512_S1x1x8x128_0_3_0_128
  st16 ![0, 3, 0, 128] S1x1x8x128.size inb_S2x8x8x512_S1x1x8x128_0_3_0_128 (k0_pay554 v2264)
  pure ⟨⟩

def s_part107 (I : In F) (i : grid0.Coords) (v2264 : FVec F S32x256 .f32) : PM F (FVec F S8x128 .f32) := do
  let v2430 : Vec F S1x1x8x128 .f32 ← ld16 ![1, 3, 0, 128] S1x1x8x128.size inb_S2x8x8x512_S1x1x8x128_1_3_0_128
  st16 ![1, 3, 0, 128] S1x1x8x128.size inb_S2x8x8x512_S1x1x8x128_1_3_0_128 (k0_pay555 v2264)
  let v2436 : Vec F S1x1x8x128 .f32 ← ld16 ![0, 3, 0, 256] S1x1x8x128.size inb_S2x8x8x512_S1x1x8x128_0_3_0_256
  st16 ![0, 3, 0, 256] S1x1x8x128.size inb_S2x8x8x512_S1x1x8x128_0_3_0_256 (k0_pay556 v2264)
  let v2442 : Vec F S1x1x8x128 .f32 ← ld16 ![1, 3, 0, 256] S1x1x8x128.size inb_S2x8x8x512_S1x1x8x128_1_3_0_256
  st16 ![1, 3, 0, 256] S1x1x8x128.size inb_S2x8x8x512_S1x1x8x128_1_3_0_256 (k0_pay557 v2264)
  let v2448 : Vec F S1x1x8x128 .f32 ← ld16 ![0, 3, 0, 384] S1x1x8x128.size inb_S2x8x8x512_S1x1x8x128_0_3_0_384
  st16 ![0, 3, 0, 384] S1x1x8x128.size inb_S2x8x8x512_S1x1x8x128_0_3_0_384 (k0_pay558 v2264)
  let v2454 : Vec F S1x1x8x128 .f32 ← ld16 ![1, 3, 0, 384] S1x1x8x128.size inb_S2x8x8x512_S1x1x8x128_1_3_0_384
  st16 ![1, 3, 0, 384] S1x1x8x128.size inb_S2x8x8x512_S1x1x8x128_1_3_0_384 (k0_pay559 v2264)
  pure (k0_pay560 v2264)

def s_part108 (I : In F) (i : grid0.Coords) (v2264 : FVec F S32x256 .f32) (v2459 : FVec F S8x128 .f32) : PM F (FVec F S1x1x8x128 .f32) := do
  let v2460 : Vec F S1x1x8x128 .f32 ← ld16 ![0, 4, 0, 0] S1x1x8x128.size inb_S2x8x8x512_S1x1x8x128_0_4_0_0
  st16 ![0, 4, 0, 0] S1x1x8x128.size inb_S2x8x8x512_S1x1x8x128_0_4_0_0 (k0_pay561 v2459)
  let v2466 : Vec F S1x1x8x128 .f32 ← ld16 ![1, 4, 0, 0] S1x1x8x128.size inb_S2x8x8x512_S1x1x8x128_1_4_0_0
  st16 ![1, 4, 0, 0] S1x1x8x128.size inb_S2x8x8x512_S1x1x8x128_1_4_0_0 (k0_pay562 v2264)
  let v2472 : Vec F S1x1x8x128 .f32 ← ld16 ![0, 4, 0, 128] S1x1x8x128.size inb_S2x8x8x512_S1x1x8x128_0_4_0_128
  st16 ![0, 4, 0, 128] S1x1x8x128.size inb_S2x8x8x512_S1x1x8x128_0_4_0_128 (k0_pay563 v2264)
  let v2478 : Vec F S1x1x8x128 .f32 ← ld16 ![1, 4, 0, 128] S1x1x8x128.size inb_S2x8x8x512_S1x1x8x128_1_4_0_128
  st16 ![1, 4, 0, 128] S1x1x8x128.size inb_S2x8x8x512_S1x1x8x128_1_4_0_128 (k0_pay564 v2264)
  let v2484 : Vec F S1x1x8x128 .f32 ← ld16 ![0, 4, 0, 256] S1x1x8x128.size inb_S2x8x8x512_S1x1x8x128_0_4_0_256
  st16 ![0, 4, 0, 256] S1x1x8x128.size inb_S2x8x8x512_S1x1x8x128_0_4_0_256 (k0_pay565 v2264)
  let v2490 : Vec F S1x1x8x128 .f32 ← ld16 ![1, 4, 0, 256] S1x1x8x128.size inb_S2x8x8x512_S1x1x8x128_1_4_0_256
  pure (k0_pay566 v2264)

def s_part109 (I : In F) (i : grid0.Coords) (v2264 : FVec F S32x256 .f32) (v2492 : FVec F S1x1x8x128 .f32) : PM F (FVec F S8x128 .f32) := do
  st16 ![1, 4, 0, 256] S1x1x8x128.size inb_S2x8x8x512_S1x1x8x128_1_4_0_256 v2492
  let v2496 : Vec F S1x1x8x128 .f32 ← ld16 ![0, 4, 0, 384] S1x1x8x128.size inb_S2x8x8x512_S1x1x8x128_0_4_0_384
  st16 ![0, 4, 0, 384] S1x1x8x128.size inb_S2x8x8x512_S1x1x8x128_0_4_0_384 (k0_pay567 v2264)
  let v2502 : Vec F S1x1x8x128 .f32 ← ld16 ![1, 4, 0, 384] S1x1x8x128.size inb_S2x8x8x512_S1x1x8x128_1_4_0_384
  st16 ![1, 4, 0, 384] S1x1x8x128.size inb_S2x8x8x512_S1x1x8x128_1_4_0_384 (k0_pay568 v2264)
  let v2508 : Vec F S1x1x8x128 .f32 ← ld16 ![0, 5, 0, 0] S1x1x8x128.size inb_S2x8x8x512_S1x1x8x128_0_5_0_0
  st16 ![0, 5, 0, 0] S1x1x8x128.size inb_S2x8x8x512_S1x1x8x128_0_5_0_0 (k0_pay569 v2264)
  let v2514 : Vec F S1x1x8x128 .f32 ← ld16 ![1, 5, 0, 0] S1x1x8x128.size inb_S2x8x8x512_S1x1x8x128_1_5_0_0
  st16 ![1, 5, 0, 0] S1x1x8x128.size inb_S2x8x8x512_S1x1x8x128_1_5_0_0 (k0_pay570 v2264)
  let v2520 : Vec F S1x1x8x128 .f32 ← ld16 ![0, 5, 0, 128] S1x1x8x128.size inb_S2x8x8x512_S1x1x8x128_0_5_0_128
  st16 ![0, 5, 0, 128] S1x1x8x128.size inb_S2x8x8x512_S1x1x8x128_0_5_0_128 (k0_pay571 v2264)
  pure (k0_pay572 v2264)

def s_part110 (I : In F) (i : grid0.Coords) (v2264 : FVec F S32x256 .f32) (v2525 : FVec F S8x128 .f32) : PM F (FVec F S8x128 .f32) := do
  let v2526 : Vec F S1x1x8x128 .f32 ← ld16 ![1, 5, 0, 128] S1x1x8x128.size inb_S2x8x8x512_S1x1x8x128_1_5_0_128
  st16 ![1, 5, 0, 128] S1x1x8x128.size inb_S2x8x8x512_S1x1x8x128_1_5_0_128 (k0_pay573 v2525)
  let v2532 : Vec F S1x1x8x128 .f32 ← ld16 ![0, 5, 0, 256] S1x1x8x128.size inb_S2x8x8x512_S1x1x8x128_0_5_0_256
  st16 ![0, 5, 0, 256] S1x1x8x128.size inb_S2x8x8x512_S1x1x8x128_0_5_0_256 (k0_pay574 v2264)
  let v2538 : Vec F S1x1x8x128 .f32 ← ld16 ![1, 5, 0, 256] S1x1x8x128.size inb_S2x8x8x512_S1x1x8x128_1_5_0_256
  st16 ![1, 5, 0, 256] S1x1x8x128.size inb_S2x8x8x512_S1x1x8x128_1_5_0_256 (k0_pay575 v2264)
  let v2544 : Vec F S1x1x8x128 .f32 ← ld16 ![0, 5, 0, 384] S1x1x8x128.size inb_S2x8x8x512_S1x1x8x128_0_5_0_384
  st16 ![0, 5, 0, 384] S1x1x8x128.size inb_S2x8x8x512_S1x1x8x128_0_5_0_384 (k0_pay576 v2264)
  let v2550 : Vec F S1x1x8x128 .f32 ← ld16 ![1, 5, 0, 384] S1x1x8x128.size inb_S2x8x8x512_S1x1x8x128_1_5_0_384
  st16 ![1, 5, 0, 384] S1x1x8x128.size inb_S2x8x8x512_S1x1x8x128_1_5_0_384 (k0_pay577 v2264)
  let v2556 : Vec F S1x1x8x128 .f32 ← ld16 ![0, 6, 0, 0] S1x1x8x128.size inb_S2x8x8x512_S1x1x8x128_0_6_0_0
  pure (k0_pay578 v2264)

def s_part111 (I : In F) (i : grid0.Coords) (v2264 : FVec F S32x256 .f32) (v2555 : FVec F S8x128 .f32) : PM F (FVec F S8x128 .f32) := do
  st16 ![0, 6, 0, 0] S1x1x8x128.size inb_S2x8x8x512_S1x1x8x128_0_6_0_0 (k0_pay579 v2555)
  let v2562 : Vec F S1x1x8x128 .f32 ← ld16 ![1, 6, 0, 0] S1x1x8x128.size inb_S2x8x8x512_S1x1x8x128_1_6_0_0
  st16 ![1, 6, 0, 0] S1x1x8x128.size inb_S2x8x8x512_S1x1x8x128_1_6_0_0 (k0_pay580 v2264)
  let v2568 : Vec F S1x1x8x128 .f32 ← ld16 ![0, 6, 0, 128] S1x1x8x128.size inb_S2x8x8x512_S1x1x8x128_0_6_0_128
  st16 ![0, 6, 0, 128] S1x1x8x128.size inb_S2x8x8x512_S1x1x8x128_0_6_0_128 (k0_pay581 v2264)
  let v2574 : Vec F S1x1x8x128 .f32 ← ld16 ![1, 6, 0, 128] S1x1x8x128.size inb_S2x8x8x512_S1x1x8x128_1_6_0_128
  st16 ![1, 6, 0, 128] S1x1x8x128.size inb_S2x8x8x512_S1x1x8x128_1_6_0_128 (k0_pay582 v2264)
  let v2580 : Vec F S1x1x8x128 .f32 ← ld16 ![0, 6, 0, 256] S1x1x8x128.size inb_S2x8x8x512_S1x1x8x128_0_6_0_256
  st16 ![0, 6, 0, 256] S1x1x8x128.size inb_S2x8x8x512_S1x1x8x128_0_6_0_256 (k0_pay583 v2264)
  let v2586 : Vec F S1x1x8x128 .f32 ← ld16 ![1, 6, 0, 256] S1x1x8x128.size inb_S2x8x8x512_S1x1x8x128_1_6_0_256
  st16 ![1, 6, 0, 256] S1x1x8x128.size inb_S2x8x8x512_S1x1x8x128_1_6_0_256 (k0_pay584 v2264)
  pure (k0_pay585 v2264)

def s_part112 (I : In F) (i : grid0.Coords) (v2264 : FVec F S32x256 .f32) (v2591 : FVec F S8x128 .f32) : PM F (Σ' (v2621 : FVec F S8x128 .f32), Vec F S1x1x8x128 .f32) := do
  let v2592 : Vec F S1x1x8x128 .f32 ← ld16 ![0, 6, 0, 384] S1x1x8x128.size inb_S2x8x8x512_S1x1x8x128_0_6_0_384
  st16 ![0, 6, 0, 384] S1x1x8x128.size inb_S2x8x8x512_S1x1x8x128_0_6_0_384 (k0_pay586 v2591)
  let v2598 : Vec F S1x1x8x128 .f32 ← ld16 ![1, 6, 0, 384] S1x1x8x128.size inb_S2x8x8x512_S1x1x8x128_1_6_0_384
  st16 ![1, 6, 0, 384] S1x1x8x128.size inb_S2x8x8x512_S1x1x8x128_1_6_0_384 (k0_pay587 v2264)
  let v2604 : Vec F S1x1x8x128 .f32 ← ld16 ![0, 7, 0, 0] S1x1x8x128.size inb_S2x8x8x512_S1x1x8x128_0_7_0_0
  st16 ![0, 7, 0, 0] S1x1x8x128.size inb_S2x8x8x512_S1x1x8x128_0_7_0_0 (k0_pay588 v2264)
  let v2610 : Vec F S1x1x8x128 .f32 ← ld16 ![1, 7, 0, 0] S1x1x8x128.size inb_S2x8x8x512_S1x1x8x128_1_7_0_0
  st16 ![1, 7, 0, 0] S1x1x8x128.size inb_S2x8x8x512_S1x1x8x128_1_7_0_0 (k0_pay589 v2264)
  let v2616 : Vec F S1x1x8x128 .f32 ← ld16 ![0, 7, 0, 128] S1x1x8x128.size inb_S2x8x8x512_S1x1x8x128_0_7_0_128
  st16 ![0, 7, 0, 128] S1x1x8x128.size inb_S2x8x8x512_S1x1x8x128_0_7_0_128 (k0_pay590 v2264)
  let v2622 : Vec F S1x1x8x128 .f32 ← ld16 ![1, 7, 0, 128] S1x1x8x128.size inb_S2x8x8x512_S1x1x8x128_1_7_0_128
  pure ⟨k0_pay591 v2264, v2622⟩

def s_part1 (I : In F) (i : grid0.Coords) (arg1 : BitVec 32) (k0_h2 : k0_cond2 i = 1#1) (c0_i32_1293 : BitVec 32) (c1_i32 : BitVec 32) (k0_t1 : Fin k0_t1_loop.trips) : PM F (Σ' (arg19 : BitVec 32) (v2689 : FVec F S512x128 .fp8e4m3) (v2692 : FVec F S8x512 .f32), BitVec 32) := do
  let arg19 : BitVec 32 := Scf.iv c0_i32_1293 c1_i32 k0_t1
  let v2666 : Vec F S1x128x128 .fp8e4m3 ← ld8 (k0_off17 k0_t1 0#32) S1x128x128.size (k0_off17_inb i k0_t1 k0_h2 0)
  let v2673 : Vec F S1x128x128 .fp8e4m3 ← ld8 (k0_off17 k0_t1 1#32) S1x128x128.size (k0_off17_inb i k0_t1 k0_h2 1)
  let v2680 : Vec F S1x128x128 .fp8e4m3 ← ld8 (k0_off17 k0_t1 2#32) S1x128x128.size (k0_off17_inb i k0_t1 k0_h2 2)
  let v2687 : Vec F S1x128x128 .fp8e4m3 ← ld8 (k0_off17 k0_t1 3#32) S1x128x128.size (k0_off17_inb i k0_t1 k0_h2 3)
  let v2691 : Vec F S1x1x8x512 .f32 ← ld16 (k0_off18 k0_t1) S1x1x8x512.size (k0_off18_inb i k0_t1 k0_h2)
  let v2693 : BitVec 32 := Scalar.addi arg1 1#32
  let v2694 : BitVec 32 := Scalar.addi v2693 4#32
  pure ⟨arg19, k0_pay3 v2666 v2673 v2680 v2687, k0_pay4 v2691, v2694⟩

def s_part2 (I : In F) (i : grid0.Coords) (arg1 : BitVec 32) (v2653 : IVec S128x512 1) (k0_h2 : k0_cond2 i = 1#1) (k0_t1 : Fin k0_t1_loop.trips) (arg19 : BitVec 32) (v2689 : FVec F S512x128 .fp8e4m3) (v2694 : BitVec 32) : PM F (Σ' (v2733 : FVec F S128x512 .f32), FVec F S16x8x512 .f32) := do
  let v2701 : Vec F S1x128x128 .fp8e4m3 ← ld13 (k0_off19 i k0_t1 4#32 0#32) S1x128x128.size (k0_off19_inb i k0_t1 k0_h2 1 0)
  let v2707 : Vec F S1x128x128 .f32 ← ld14 (k0_off19 i k0_t1 4#32 0#32) S1x128x128.size (k0_off19_inb i k0_t1 k0_h2 1 0)
  let v2719 : Vec F S1x128x128 .fp8e4m3 ← ld13 (k0_off19 i k0_t1 0#32 0#32) S1x128x128.size (k0_off19_inb i k0_t1 k0_h2 0 0)
  let v2725 : Vec F S1x128x128 .f32 ← ld14 (k0_off19 i k0_t1 0#32 0#32) S1x128x128.size (k0_off19_inb i k0_t1 k0_h2 0 0)
  pure ⟨k0_pay5 arg1 v2653 v2689 v2701 v2707 v2719 v2725, k0_pay6 arg1 v2653 v2689 v2701 v2707 v2719 v2725⟩

def s_part3 (I : In F) (i : grid0.Coords) (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) : PM F (Σ' (v2766 : FVec F S8x512 .f32) (v2769 : BitVec 32), BitVec 32) := do
  let v2736 : Vec F S1x128x512 .f32 ← ld17 ![0, 0, 0] S1x128x512.size inb_S5x256x512_S1x128x512_0_0_0
  st17 ![0, 0, 0] S1x128x512.size inb_S5x256x512_S1x128x512_0_0_0 (k0_pay7 v2733)
  let v2747 : Vec F S1x128x128 .fp8e4m3 ← ld13 (k0_off19 i k0_t1 0#32 128#32) S1x128x128.size (k0_off19_inb i k0_t1 k0_h2 0 1)
  let v2753 : Vec F S1x128x128 .f32 ← ld14 (k0_off19 i k0_t1 0#32 128#32) S1x128x128.size (k0_off19_inb i k0_t1 k0_h2 0 1)
  let v2761 : Vec F S1x128x512 .f32 ← ld17 ![0, 128, 0] S1x128x512.size inb_S5x256x512_S1x128x512_0_128_0
  st17 ![0, 128, 0] S1x128x512.size inb_S5x256x512_S1x128x512_0_128_0 (k0_pay9 arg1 v2689 v2747 v2753)
  let v2767 : BitVec 32 := Scalar.addi arg1 1#32
  let v2768 : BitVec 32 := Scalar.addi v2767 1#32
  let v2769 : BitVec 32 := Scalar.remsi v2768 5#32
  pure ⟨k0_pay10 arg1 v2689 v2734 v2747 v2753, v2769, 256#32⟩

def s_part4 (I : In F) (i : grid0.Coords) (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) : PM F (Σ' (v2794 : FVec F S8x512 .f32), FVec F S256x512 .f32) := do
  let v2775 : Vec F S1x256x128 .fp8e4m3 ← ld13 (k0_off20 i k0_t1 1#32) S1x256x128.size (k0_off20_inb i k0_t1 k0_h2 0)
  let v2781 : Vec F S1x256x128 .f32 ← ld14 (k0_off20 i k0_t1 1#32) S1x256x128.size (k0_off20_inb i k0_t1 k0_h2 0)
  let v2789 : Vec F S1x256x512 .f32 ← ld17 ![1, 0, 0] S1x256x512.size inb_S5x256x512_S1x256x512_1_0_0
  st17 ![1, 0, 0] S1x256x512.size inb_S5x256x512_S1x256x512_1_0_0 (k0_pay12 arg1 v2689 v2775 v2781)
  let v2803 : Vec F S1x256x128 .fp8e4m3 ← ld13 (k0_off20 i k0_t1 2#32) S1x256x128.size (k0_off20_inb i k0_t1 k0_h2 1)
  pure ⟨k0_pay13 arg1 v2689 v2766 v2775 v2781, k0_pay14 v2689 v2803⟩

def s_part5 (I : In F) (i : grid0.Coords) (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) : PM F (Σ' (v2822 : FVec F S8x512 .f32), FVec F S256x512 .f32) := do
  let v2809 : Vec F S1x256x128 .f32 ← ld14 (k0_off20 i k0_t1 2#32) S1x256x128.size (k0_off20_inb i k0_t1 k0_h2 1)
  let v2817 : Vec F S1x256x512 .f32 ← ld17 ![2, 0, 0] S1x256x512.size inb_S5x256x512_S1x256x512_2_0_0
  st17 ![2, 0, 0] S1x256x512.size inb_S5x256x512_S1x256x512_2_0_0 (k0_pay16 arg1 v2805 v2809)
  let v2831 : Vec F S1x256x128 .fp8e4m3 ← ld13 (k0_off20 i k0_t1 3#32) S1x256x128.size (k0_off20_inb i k0_t1 k0_h2 2)
  let v2837 : Vec F S1x256x128 .f32 ← ld14 (k0_off20 i k0_t1 3#32) S1x256x128.size (k0_off20_inb i k0_t1 k0_h2 2)
  pure ⟨k0_pay17 arg1 v2794 v2805 v2809, k0_pay18 arg1 v2689 v2831 v2837⟩

def s_part6 (I : In F) (i : grid0.Coords) (k0_h2 : k0_cond2 i = 1#1) (k0_t1 : Fin k0_t1_loop.trips) (arg19 : BitVec 32) (v2692 : FVec F S8x512 .f32) (v2822 : FVec F S8x512 .f32) (v2844 : FVec F S256x512 .f32) : PM F (Σ' (v2859 : FVec F S8x512 .f32) (v2861 : FVec F S8x512 .f32) (v2888 : FVec F S8x512 .f32), FVec F S8x512 .f32) := do
  let v2845 : Vec F S1x256x512 .f32 ← ld17 ![3, 0, 0] S1x256x512.size inb_S5x256x512_S1x256x512_3_0_0
  st17 ![3, 0, 0] S1x256x512.size inb_S5x256x512_S1x256x512_3_0_0 (k0_pay19 v2844)
  let v2856 : Vec F S1x8x512 .f32 ← ld6 I (k0_off21 k0_t1) S1x8x512.size (k0_off21_inb i k0_t1 k0_h2)
  pure ⟨k0_pay20 v2856, k0_pay22 v2692 v2822 v2844 v2856, k0_pay24 v2692 v2822 v2844 v2856, k0_pay25 v2692 v2822 v2844 v2856⟩

def s_part7 (I : In F) (i : grid0.Coords) (v2653 : IVec S128x512 1) (v2692 : FVec F S8x512 .f32) (v2861 : FVec F S8x512 .f32) (v2889 : FVec F S8x512 .f32) : PM F (Σ' (v2890 : FVec F S8x512 .f32) (v2903 : FVec F S8x512 .f32) (v2928 : FVec F S16x8x512 .f32), FVec F S8x512 .f32) := do
  let v2891 : Vec F S1x128x512 .f32 ← ld17 ![0, 0, 0] S1x128x512.size inb_S5x256x512_S1x128x512_0_0_0
  let v2908 : Vec F S1x128x512 .fp8e4m3 ← ld18 ![0, 0, 0] S1x128x512.size inb_S5x256x512_S1x128x512_0_0_0
  st18 ![0, 0, 0] S1x128x512.size inb_S5x256x512_S1x128x512_0_0_0 (k0_pay30 v2653 v2692 v2861 v2889 v2891)
  let v2914 : Vec F S1x128x512 .fp8e4m3 ← ld18 ![4, 0, 0] S1x128x512.size inb_S5x256x512_S1x128x512_4_0_0
  st18 ![4, 0, 0] S1x128x512.size inb_S5x256x512_S1x128x512_4_0_0 (k0_pay31 v2653 v2692 v2861 v2889 v2891)
  let v2917 : Vec F S1x128x512 .f32 ← ld17 ![0, 128, 0] S1x128x512.size inb_S5x256x512_S1x128x512_0_128_0
  pure ⟨k0_pay26 v2861 v2889, k0_pay28 v2692 v2861 v2889 v2891, k0_pay32 v2692 v2861 v2889 v2917, k0_pay33 v2692 v2861 v2889 v2917⟩

def s_part8 (I : In F) (i : grid0.Coords) (v2692 : FVec F S8x512 .f32) (v2890 : FVec F S8x512 .f32) (v2903 : FVec F S8x512 .f32) (v2928 : FVec F S16x8x512 .f32) (v2929 : FVec F S8x512 .f32) : PM F (Σ' (v2968 : FVec F S8x512 .f32), FVec F S256x512 .fp8e4m3) := do
  let v2933 : Vec F S1x128x512 .fp8e4m3 ← ld18 ![0, 128, 0] S1x128x512.size inb_S5x256x512_S1x128x512_0_128_0
  st18 ![0, 128, 0] S1x128x512.size inb_S5x256x512_S1x128x512_0_128_0 (k0_pay34 v2928)
  let v2936 : Vec F S1x256x512 .f32 ← ld17 ![1, 0, 0] S1x256x512.size inb_S5x256x512_S1x256x512_1_0_0
  let v2952 : Vec F S1x256x512 .fp8e4m3 ← ld18 ![1, 0, 0] S1x256x512.size inb_S5x256x512_S1x256x512_1_0_0
  st18 ![1, 0, 0] S1x256x512.size inb_S5x256x512_S1x256x512_1_0_0 (k0_pay36 v2692 v2890 v2936)
  let v2955 : Vec F S1x256x512 .f32 ← ld17 ![2, 0, 0] S1x256x512.size inb_S5x256x512_S1x256x512_2_0_0
  pure ⟨k0_pay38 v2692 v2890 v2903 v2929 v2936 v2955, k0_pay39 v2692 v2890 v2955⟩

def s_part9 (I : In F) (i : grid0.Coords) (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) : PM F (Σ' (v3004 : FVec F S8x512 .f32), FVec F S8x512 .f32) := do
  let v2971 : Vec F S1x256x512 .fp8e4m3 ← ld18 ![2, 0, 0] S1x256x512.size inb_S5x256x512_S1x256x512_2_0_0
  st18 ![2, 0, 0] S1x256x512.size inb_S5x256x512_S1x256x512_2_0_0 (k0_pay40 v2970)
  let v2974 : Vec F S1x256x512 .f32 ← ld17 ![3, 0, 0] S1x256x512.size inb_S5x256x512_S1x256x512_3_0_0
  let v2990 : Vec F S1x256x512 .fp8e4m3 ← ld18 ![3, 0, 0] S1x256x512.size inb_S5x256x512_S1x256x512_3_0_0
  st18 ![3, 0, 0] S1x256x512.size inb_S5x256x512_S1x256x512_3_0_0 (k0_pay42 v2692 v2890 v2974)
  let v2994 : Vec F S1x128x512 .fp8e4m3 ← ld18 ![4, 128, 0] S1x128x512.size inb_S5x256x512_S1x128x512_4_128_0
  st18 ![4, 128, 0] S1x128x512.size inb_S5x256x512_S1x128x512_4_128_0 (k0_pay43 (F := F))
  let v3006 : Vec F S1x1x8x128 .f32 ← ld5 I (k0_off22 k0_t1) S1x1x8x128.size (k0_off22_inb i k0_t1 k0_h2)
  pure ⟨k0_pay44 v2692 v2859 v2861 v2888 v2890 v2968 v2974, k0_pay45 v2888 v3006⟩

def s_part10 (I : In F) (i : grid0.Coords) (arg1 : BitVec 32) (k0_h2 : k0_cond2 i = 1#1) (k0_t1 : Fin k0_t1_loop.trips) (arg19 : BitVec 32) (v3004 : FVec F S8x512 .f32) (v3009 : FVec F S8x512 .f32) : PM F (Σ' (v3010 : FVec F S8x512 .f32) (v3017 : FVec F S128x256 .fp8e4m3) (v3024 : FVec F S128x256 .fp8e4m3) (v3031 : FVec F S128x256 .fp8e4m3) (v3038 : FVec F S128x256 .fp8e4m3), Vec F S1x1x128x256 .fp8e4m3) := do
  let v3016 : Vec F S1x1x128x256 .fp8e4m3 ← ld15 (k0_off23 i k0_t1 0#32) S1x1x128x256.size (k0_off23_inb i k0_t1 k0_h2 0)
  let v3023 : Vec F S1x1x128x256 .fp8e4m3 ← ld15 (k0_off23 i k0_t1 1#32) S1x1x128x256.size (k0_off23_inb i k0_t1 k0_h2 1)
  let v3030 : Vec F S1x1x128x256 .fp8e4m3 ← ld15 (k0_off23 i k0_t1 2#32) S1x1x128x256.size (k0_off23_inb i k0_t1 k0_h2 2)
  let v3037 : Vec F S1x1x128x256 .fp8e4m3 ← ld15 (k0_off23 i k0_t1 3#32) S1x1x128x256.size (k0_off23_inb i k0_t1 k0_h2 3)
  let v3044 : Vec F S1x1x128x256 .fp8e4m3 ← ld15 (k0_off23 i k0_t1 4#32) S1x1x128x256.size (k0_off23_inb i k0_t1 k0_h2 4)
  pure ⟨k0_pay46 v3004 v3009, k0_pay47 v3016, k0_pay48 v3023, k0_pay49 v3030, k0_pay50 v3037, v3044⟩

def s_part11 (I : In F) (i : grid0.Coords) (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) : PM F (Σ' (v3054 : FVec F S128x512 .f32) (v3080 : BitVec 32), FVec F S128x128 .bf16) := do
  let v3047 : Vec F S5x256x512 .fp8e4m3 ← ld18 ![0, 0, 0] S5x256x512.size inb_S5x256x512_S5x256x512_0_0_0
  let v3063 : Vec F S1x128x128 .bf16 ← ld7 (k0_off17 k0_t1 0#32) S1x128x128.size (k0_off17_inb i k0_t1 k0_h2 0)
  st7 (k0_off17 k0_t1 0#32) S1x128x128.size (k0_off17_inb i k0_t1 k0_h2 0) (k0_pay52 v3010 v3017 v3024 v3031 v3038 v3044 v3047)
  let v3074 : Vec F S1x128x128 .bf16 ← ld7 (k0_off17 k0_t1 1#32) S1x128x128.size (k0_off17_inb i k0_t1 k0_h2 1)
  st7 (k0_off17 k0_t1 1#32) S1x128x128.size (k0_off17_inb i k0_t1 k0_h2 1) (k0_pay53 v3010 v3017 v3024 v3031 v3038 v3044 v3047)
  let v3077 : BitVec 32 := Scalar.muli arg19 4#32
  let v3078 : BitVec 32 := Scalar.addi v3077 2#32
  let v3079 : BitVec 32 := Scalar.muli v3078 128#32
  let v3080 : BitVec 32 := v3079
  pure ⟨k0_pay51 v3010 v3017 v3024 v3031 v3038 v3044 v3047, v3080, k0_pay54 v3010 v3017 v3024 v3031 v3038 v3044 v3047⟩

def s_part12 (I : In F) (i : grid0.Coords) (k0_h2 : k0_cond2 i = 1#1) (k0_t1 : Fin k0_t1_loop.trips) (arg19 : BitVec 32) (v3054 : FVec F S128x512 .f32) (v3080 : BitVec 32) (v3083 : FVec F S128x128 .bf16) : PM F (Σ' (v3105 : FVec F S128x128 .fp8e4m3) (v3112 : FVec F S128x128 .fp8e4m3) (v3119 : FVec F S128x128 .fp8e4m3), BitVec 32) := do
  let v3085 : Vec F S1x128x128 .bf16 ← ld7 (k0_off17 k0_t1 2#32) S1x128x128.size (k0_off17_inb i k0_t1 k0_h2 2)
  st7 (k0_off17 k0_t1 2#32) S1x128x128.size (k0_off17_inb i k0_t1 k0_h2 2) (k0_pay55 v3083)
  let v3096 : Vec F S1x128x128 .bf16 ← ld7 (k0_off17 k0_t1 3#32) S1x128x128.size (k0_off17_inb i k0_t1 k0_h2 3)
  st7 (k0_off17 k0_t1 3#32) S1x128x128.size (k0_off17_inb i k0_t1 k0_h2 3) (k0_pay56 v3054)
  let v3104 : Vec F S1x128x128 .fp8e4m3 ← ld8 (k0_off24 k0_t1 0#32) S1x128x128.size (k0_off24_inb i k0_t1 k0_h2 0)
  let v3111 : Vec F S1x128x128 .fp8e4m3 ← ld8 (k0_off24 k0_t1 1#32) S1x128x128.size (k0_off24_inb i k0_t1 k0_h2 1)
  let v3118 : Vec F S1x128x128 .fp8e4m3 ← ld8 (k0_off24 k0_t1 2#32) S1x128x128.size (k0_off24_inb i k0_t1 k0_h2 2)
  let v3120 : BitVec 32 := Scalar.muli arg19 4#32
  pure ⟨k0_pay57 v3104, k0_pay58 v3111, k0_pay59 v3118, v3120⟩

def s_part13 (I : In F) (i : grid0.Coords) (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) : PM F (Σ' (v3127 : FVec F S512x128 .fp8e4m3) (v3130 : FVec F S8x512 .f32) (v3148 : FVec F S128x512 .f32) (v3153 : BitVec 32), FVec F S128x128 .fp8e4m3) := do
  let v3125 : Vec F S1x128x128 .fp8e4m3 ← ld8 (k0_off24 k0_t1 3#32) S1x128x128.size (k0_off24_inb i k0_t1 k0_h2 3)
  let v3129 : Vec F S1x1x8x512 .f32 ← ld16 (k0_off25 k0_t1) S1x1x8x512.size (k0_off25_inb i k0_t1 k0_h2)
  let v3139 : Vec F S1x128x128 .fp8e4m3 ← ld13 (k0_off19 i k0_t1 4#32 128#32) S1x128x128.size (k0_off19_inb i k0_t1 k0_h2 1 1)
  let v3145 : Vec F S1x128x128 .f32 ← ld14 (k0_off19 i k0_t1 4#32 128#32) S1x128x128.size (k0_off19_inb i k0_t1 k0_h2 1 1)
  let v3149 : BitVec 32 := Scalar.addi arg1 1#32
  let v3150 : BitVec 32 := Scalar.addi v3149 0#32
  let v3151 : BitVec 32 := Scalar.remsi v3150 5#32
  let v3152 : BitVec 32 := Scalar.muli v3151 256#32
  let v3153 : BitVec 32 := v3152
  let v3157 : Vec F S1x128x128 .fp8e4m3 ← ld13 (k0_off19 i k0_t1 0#32 128#32) S1x128x128.size (k0_off19_inb i k0_t1 k0_h2 0 1)
  pure ⟨k0_pay60 v3105 v3112 v3119 v3125, k0_pay61 v3129, k0_pay62 v3105 v3112 v3119 v3125 v3139 v3145, v3153, k0_pay63 v3157⟩

def s_part14 (I : In F) (i : grid0.Coords) (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) : PM F (Σ' (v3173 : FVec F S8x512 .f32) (v3194 : FVec F S256x512 .f32), BitVec 1) := do
  let v3163 : Vec F S1x128x128 .f32 ← ld14 (k0_off19 i k0_t1 0#32 128#32) S1x128x128.size (k0_off19_inb i k0_t1 k0_h2 0 1)
  let v3174 : Vec F S1x128x512 .f32 ← ld17 ![0, 128, 0] S1x128x512.size inb_S5x256x512_S1x128x512_0_128_0
  st17 ![0, 128, 0] S1x128x512.size inb_S5x256x512_S1x128x512_0_128_0 (k0_pay66 arg1 v2653 v3127 v3148 v3158 v3163)
  let v3185 : Vec F S1x256x128 .fp8e4m3 ← ld13 (k0_off20 i k0_t1 1#32) S1x256x128.size (k0_off20_inb i k0_t1 k0_h2 0)
  let v3191 : Vec F S1x256x128 .f32 ← ld14 (k0_off20 i k0_t1 1#32) S1x256x128.size (k0_off20_inb i k0_t1 k0_h2 0)
  let v3195 : BitVec 32 := Scalar.addi arg1 1#32
  let v3196 : BitVec 1 := Scalar.cmpi .sge v3195 4#32
  pure ⟨k0_pay65 arg1 v2653 v3127 v3148 v3158 v3163, k0_pay67 v3127 v3185 v3191, v3196⟩

def s_part15 (I : In F) (i : grid0.Coords) (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) : PM F (Σ' (v3232 : FVec F S8x512 .f32), BitVec 32) := do
  let v3199 : Vec F S1x256x512 .f32 ← ld17 ![1, 0, 0] S1x256x512.size inb_S5x256x512_S1x256x512_1_0_0
  st17 ![1, 0, 0] S1x256x512.size inb_S5x256x512_S1x256x512_1_0_0 (k0_pay69 v3194 v3196)
  let v3213 : Vec F S1x256x128 .fp8e4m3 ← ld13 (k0_off20 i k0_t1 2#32) S1x256x128.size (k0_off20_inb i k0_t1 k0_h2 1)
  let v3219 : Vec F S1x256x128 .f32 ← ld14 (k0_off20 i k0_t1 2#32) S1x256x128.size (k0_off20_inb i k0_t1 k0_h2 1)
  let v3227 : Vec F S1x256x512 .f32 ← ld17 ![2, 0, 0] S1x256x512.size inb_S5x256x512_S1x256x512_2_0_0
  st17 ![2, 0, 0] S1x256x512.size inb_S5x256x512_S1x256x512_2_0_0 (k0_pay71 arg1 v3127 v3213 v3219)
  pure ⟨k0_pay72 arg1 v3127 v3173 v3194 v3196 v3213 v3219, 1#32⟩

def s_part16 (I : In F) (i : grid0.Coords) (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) : PM F (Σ' (v3260 : FVec F S8x512 .f32) (v3265 : BitVec 32), FVec F S128x128 .fp8e4m3) := do
  let v3241 : Vec F S1x256x128 .fp8e4m3 ← ld13 (k0_off20 i k0_t1 3#32) S1x256x128.size (k0_off20_inb i k0_t1 k0_h2 2)
  let v3247 : Vec F S1x256x128 .f32 ← ld14 (k0_off20 i k0_t1 3#32) S1x256x128.size (k0_off20_inb i k0_t1 k0_h2 2)
  let v3255 : Vec F S1x256x512 .f32 ← ld17 ![3, 0, 0] S1x256x512.size inb_S5x256x512_S1x256x512_3_0_0
  st17 ![3, 0, 0] S1x256x512.size inb_S5x256x512_S1x256x512_3_0_0 (k0_pay74 arg1 v3127 v3241 v3247)
  let v3261 : BitVec 32 := Scalar.addi arg1 1#32
  let v3262 : BitVec 32 := Scalar.addi v3261 4#32
  let v3263 : BitVec 32 := Scalar.remsi v3262 5#32
  let v3264 : BitVec 32 := Scalar.muli v3263 256#32
  let v3265 : BitVec 32 := v3264
  let v3269 : Vec F S1x128x128 .fp8e4m3 ← ld13 (k0_off19 i k0_t1 4#32 0#32) S1x128x128.size (k0_off19_inb i k0_t1 k0_h2 1 0)
  pure ⟨k0_pay75 arg1 v3127 v3232 v3241 v3247, v3265, k0_pay76 v3269⟩

def s_part17 (I : In F) (i : grid0.Coords) (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) : PM F (Σ' (v3293 : FVec F S8x512 .f32) (v3295 : FVec F S8x512 .f32) (v3311 : IVec S8x512 32), IVec S8x512 1) := do
  let v3275 : Vec F S1x128x128 .f32 ← ld14 (k0_off19 i k0_t1 4#32 0#32) S1x128x128.size (k0_off19_inb i k0_t1 k0_h2 1 0)
  let v3279 : Vec F S1x128x512 .f32 ← ld17 ![4, 0, 0] S1x128x512.size inb_S5x256x512_S1x128x512_4_0_0
  st17 ![4, 0, 0] S1x128x512.size inb_S5x256x512_S1x128x512_4_0_0 (k0_pay78 v3127 v3270 v3275)
  let v3290 : Vec F S1x8x512 .f32 ← ld6 I (k0_off21 k0_t1) S1x8x512.size (k0_off21_inb i k0_t1 k0_h2)
  pure ⟨k0_pay79 v3290, k0_pay81 v3127 v3130 v3260 v3270 v3275 v3290, k0_pay82 v3127 v3130 v3260 v3270 v3275 v3290, k0_pay83 v3127 v3130 v3260 v3270 v3275 v3290⟩

def s_part18 (I : In F) (i : grid0.Coords) (v2653 : IVec S128x512 1) (v3130 : FVec F S8x512 .f32) (v3295 : FVec F S8x512 .f32) (v3311 : IVec S8x512 32) (v3313 : IVec S8x512 1) : PM F (Σ' (v3322 : FVec F S8x512 .f32) (v3324 : FVec F S8x512 .f32) (v3337 : FVec F S8x512 .f32), Vec F S1x256x512 .f32) := do
  let v3325 : Vec F S1x128x512 .f32 ← ld17 ![0, 128, 0] S1x128x512.size inb_S5x256x512_S1x128x512_0_128_0
  let v3342 : Vec F S1x128x512 .fp8e4m3 ← ld18 ![0, 128, 0] S1x128x512.size inb_S5x256x512_S1x128x512_0_128_0
  st18 ![0, 128, 0] S1x128x512.size inb_S5x256x512_S1x128x512_0_128_0 (k0_pay90 v2653 v3130 v3295 v3311 v3313 v3325)
  let v3348 : Vec F S1x128x512 .fp8e4m3 ← ld18 ![4, 128, 0] S1x128x512.size inb_S5x256x512_S1x128x512_4_128_0
  st18 ![4, 128, 0] S1x128x512.size inb_S5x256x512_S1x128x512_4_128_0 (k0_pay91 v2653 v3130 v3295 v3311 v3313 v3325)
  let v3351 : Vec F S1x256x512 .f32 ← ld17 ![1, 0, 0] S1x256x512.size inb_S5x256x512_S1x256x512_1_0_0
  pure ⟨k0_pay85 (F := F) v3311 v3313, k0_pay86 v3295 v3311 v3313, k0_pay88 v3130 v3295 v3311 v3313 v3325, v3351⟩

def s_part19 (I : In F) (i : grid0.Coords) (v3130 : FVec F S8x512 .f32) (v3324 : FVec F S8x512 .f32) (v3337 : FVec F S8x512 .f32) (v3351 : Vec F S1x256x512 .f32) : PM F (Σ' (v3383 : FVec F S8x512 .f32) (v3391 : FVec F S32x8x512 .f32), FVec F S32x8x512 .f32) := do
  let v3367 : Vec F S1x256x512 .fp8e4m3 ← ld18 ![1, 0, 0] S1x256x512.size inb_S5x256x512_S1x256x512_1_0_0
  st18 ![1, 0, 0] S1x256x512.size inb_S5x256x512_S1x256x512_1_0_0 (k0_pay93 v3130 v3324 v3351)
  let v3370 : Vec F S1x256x512 .f32 ← ld17 ![2, 0, 0] S1x256x512.size inb_S5x256x512_S1x256x512_2_0_0
  let v3386 : Vec F S1x256x512 .fp8e4m3 ← ld18 ![2, 0, 0] S1x256x512.size inb_S5x256x512_S1x256x512_2_0_0
  st18 ![2, 0, 0] S1x256x512.size inb_S5x256x512_S1x256x512_2_0_0 (k0_pay96 v3130 v3324 v3370)
  let v3389 : Vec F S1x256x512 .f32 ← ld17 ![3, 0, 0] S1x256x512.size inb_S5x256x512_S1x256x512_3_0_0
  pure ⟨k0_pay95 v3130 v3324 v3337 v3351 v3370, k0_pay97 v3389, k0_pay98 v3130⟩

def s_part20 (I : In F) (i : grid0.Coords) (v3130 : FVec F S8x512 .f32) (v3324 : FVec F S8x512 .f32) (v3383 : FVec F S8x512 .f32) (v3391 : FVec F S32x8x512 .f32) (v3393 : FVec F S32x8x512 .f32) : PM F (FVec F S1x512 .f32) := do
  let v3405 : Vec F S1x256x512 .fp8e4m3 ← ld18 ![3, 0, 0] S1x256x512.size inb_S5x256x512_S1x256x512_3_0_0
  st18 ![3, 0, 0] S1x256x512.size inb_S5x256x512_S1x256x512_3_0_0 (k0_pay100 v3324 v3391 v3393)
  let v3408 : Vec F S1x128x512 .f32 ← ld17 ![4, 0, 0] S1x128x512.size inb_S5x256x512_S1x128x512_4_0_0
  let v3424 : Vec F S1x128x512 .fp8e4m3 ← ld18 ![4, 0, 0] S1x128x512.size inb_S5x256x512_S1x128x512_4_0_0
  st18 ![4, 0, 0] S1x128x512.size inb_S5x256x512_S1x128x512_4_0_0 (k0_pay102 v3130 v3324 v3408)
  let v3428 : Vec F S1x128x512 .fp8e4m3 ← ld18 ![0, 0, 0] S1x128x512.size inb_S5x256x512_S1x128x512_0_0_0
  st18 ![0, 0, 0] S1x128x512.size inb_S5x256x512_S1x128x512_0_0_0 (k0_pay103 (F := F))
  pure (k0_pay104 v3130 v3324 v3383 v3391 v3393 v3408)

def s_part21 (I : In F) (i : grid0.Coords) (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) : PM F (Σ' (v3444 : FVec F S8x512 .f32) (v3451 : FVec F S128x256 .fp8e4m3) (v3458 : FVec F S128x256 .fp8e4m3), FVec F S128x256 .fp8e4m3) := do
  let v3440 : Vec F S1x1x8x128 .f32 ← ld5 I (k0_off22 k0_t1) S1x1x8x128.size (k0_off22_inb i k0_t1 k0_h2)
  let v3450 : Vec F S1x1x128x256 .fp8e4m3 ← ld15 (k0_off23 i k0_t1 0#32) S1x1x128x256.size (k0_off23_inb i k0_t1 k0_h2 0)
  let v3457 : Vec F S1x1x128x256 .fp8e4m3 ← ld15 (k0_off23 i k0_t1 1#32) S1x1x128x256.size (k0_off23_inb i k0_t1 k0_h2 1)
  let v3464 : Vec F S1x1x128x256 .fp8e4m3 ← ld15 (k0_off23 i k0_t1 2#32) S1x1x128x256.size (k0_off23_inb i k0_t1 k0_h2 2)
  pure ⟨k0_pay105 v3293 v3295 v3322 v3432 v3440, k0_pay106 v3450, k0_pay107 v3457, k0_pay108 v3464⟩

def s_part22 (I : In F) (i : grid0.Coords) (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) : PM F (Σ' (v3488 : FVec F S128x512 .f32), FVec F S128x128 .bf16) := do
  let v3471 : Vec F S1x1x128x256 .fp8e4m3 ← ld15 (k0_off23 i k0_t1 3#32) S1x1x128x256.size (k0_off23_inb i k0_t1 k0_h2 3)
  let v3478 : Vec F S1x1x128x256 .fp8e4m3 ← ld15 (k0_off23 i k0_t1 4#32) S1x1x128x256.size (k0_off23_inb i k0_t1 k0_h2 4)
  let v3481 : Vec F S5x256x512 .fp8e4m3 ← ld18 ![0, 0, 0] S5x256x512.size inb_S5x256x512_S5x256x512_0_0_0
  let v3497 : Vec F S1x128x128 .bf16 ← ld7 (k0_off24 k0_t1 0#32) S1x128x128.size (k0_off24_inb i k0_t1 k0_h2 0)
  st7 (k0_off24 k0_t1 0#32) S1x128x128.size (k0_off24_inb i k0_t1 k0_h2 0) (k0_pay110 v3444 v3451 v3458 v3465 v3471 v3478 v3481)
  let v3508 : Vec F S1x128x128 .bf16 ← ld7 (k0_off24 k0_t1 1#32) S1x128x128.size (k0_off24_inb i k0_t1 k0_h2 1)
  pure ⟨k0_pay109 v3444 v3451 v3458 v3465 v3471 v3478 v3481, k0_pay111 v3444 v3451 v3458 v3465 v3471 v3478 v3481⟩

def s_t1_body (I : In F) (i : grid0.Coords) (arg1 : BitVec 32) (v2264 : FVec F S32x256 .f32) (v2621 : FVec F S8x128 .f32) (v2622 : Vec F S1x1x8x128 .f32) (k0_h2 : k0_cond2 i = 1#1) (k0_t1 : Fin k0_t1_loop.trips) : PM F Unit := do
  let ⟨arg19, v2689, v2692, v2694⟩ : Σ' (arg19 : BitVec 32) (v2689 : FVec F S512x128 .fp8e4m3) (v2692 : FVec F S8x512 .f32), BitVec 32 ← s_part1 I i arg1 k0_h2 0#32 1#32 k0_t1
  let ⟨v2733, v2734⟩ : Σ' (v2733 : FVec F S128x512 .f32), FVec F S16x8x512 .f32 ← s_part2 I i arg1 k0_pay597 k0_h2 k0_t1 arg19 v2689 v2694
  let ⟨v2766, v2769, c256_i32_1359⟩ : Σ' (v2766 : FVec F S8x512 .f32) (v2769 : BitVec 32), BitVec 32 ← s_part3 I i arg1 k0_h2 k0_t1 arg19 v2689 v2733 v2734
  let ⟨v2794, v2805⟩ : Σ' (v2794 : FVec F S8x512 .f32), FVec F S256x512 .f32 ← s_part4 I i arg1 k0_h2 k0_t1 arg19 v2689 v2766 v2769 c256_i32_1359
  let ⟨v2822, v2844⟩ : Σ' (v2822 : FVec F S8x512 .f32), FVec F S256x512 .f32 ← s_part5 I i arg1 k0_h2 k0_t1 arg19 v2689 v2794 v2805
  let ⟨v2859, v2861, v2888, v2889⟩ : Σ' (v2859 : FVec F S8x512 .f32) (v2861 : FVec F S8x512 .f32) (v2888 : FVec F S8x512 .f32), FVec F S8x512 .f32 ← s_part6 I i k0_h2 k0_t1 arg19 v2692 v2822 v2844
  let ⟨v2890, v2903, v2928, v2929⟩ : Σ' (v2890 : FVec F S8x512 .f32) (v2903 : FVec F S8x512 .f32) (v2928 : FVec F S16x8x512 .f32), FVec F S8x512 .f32 ← s_part7 I i k0_pay597 v2692 v2861 v2889
  let ⟨v2968, v2970⟩ : Σ' (v2968 : FVec F S8x512 .f32), FVec F S256x512 .fp8e4m3 ← s_part8 I i v2692 v2890 v2903 v2928 v2929
  let ⟨v3004, v3009⟩ : Σ' (v3004 : FVec F S8x512 .f32), FVec F S8x512 .f32 ← s_part9 I i k0_h2 k0_t1 arg19 v2692 v2859 v2861 v2888 v2890 v2968 v2970
  let ⟨v3010, v3017, v3024, v3031, v3038, v3044⟩ : Σ' (v3010 : FVec F S8x512 .f32) (v3017 : FVec F S128x256 .fp8e4m3) (v3024 : FVec F S128x256 .fp8e4m3) (v3031 : FVec F S128x256 .fp8e4m3) (v3038 : FVec F S128x256 .fp8e4m3), Vec F S1x1x128x256 .fp8e4m3 ← s_part10 I i arg1 k0_h2 k0_t1 arg19 v3004 v3009
  let ⟨v3054, v3080, v3083⟩ : Σ' (v3054 : FVec F S128x512 .f32) (v3080 : BitVec 32), FVec F S128x128 .bf16 ← s_part11 I i k0_h2 k0_t1 arg19 v3010 v3017 v3024 v3031 v3038 v3044
  let ⟨v3105, v3112, v3119, v3120⟩ : Σ' (v3105 : FVec F S128x128 .fp8e4m3) (v3112 : FVec F S128x128 .fp8e4m3) (v3119 : FVec F S128x128 .fp8e4m3), BitVec 32 ← s_part12 I i k0_h2 k0_t1 arg19 v3054 v3080 v3083
  let ⟨v3127, v3130, v3148, v3153, v3158⟩ : Σ' (v3127 : FVec F S512x128 .fp8e4m3) (v3130 : FVec F S8x512 .f32) (v3148 : FVec F S128x512 .f32) (v3153 : BitVec 32), FVec F S128x128 .fp8e4m3 ← s_part13 I i arg1 k0_h2 k0_t1 arg19 v3105 v3112 v3119 v3120
  let ⟨v3173, v3194, v3196⟩ : Σ' (v3173 : FVec F S8x512 .f32) (v3194 : FVec F S256x512 .f32), BitVec 1 ← s_part14 I i arg1 k0_pay597 k0_h2 k0_t1 arg19 v3127 v3148 v3153 v3158
  let ⟨v3232, c1_i32_1599⟩ : Σ' (v3232 : FVec F S8x512 .f32), BitVec 32 ← s_part15 I i arg1 k0_h2 k0_t1 arg19 v3127 v3173 v3194 v3196
  let ⟨v3260, v3265, v3270⟩ : Σ' (v3260 : FVec F S8x512 .f32) (v3265 : BitVec 32), FVec F S128x128 .fp8e4m3 ← s_part16 I i arg1 k0_h2 k0_t1 arg19 v3127 v3232 c1_i32_1599
  let ⟨v3293, v3295, v3311, v3313⟩ : Σ' (v3293 : FVec F S8x512 .f32) (v3295 : FVec F S8x512 .f32) (v3311 : IVec S8x512 32), IVec S8x512 1 ← s_part17 I i k0_h2 k0_t1 arg19 v3127 v3130 v3260 v3265 v3270
  let ⟨v3322, v3324, v3337, v3351⟩ : Σ' (v3322 : FVec F S8x512 .f32) (v3324 : FVec F S8x512 .f32) (v3337 : FVec F S8x512 .f32), Vec F S1x256x512 .f32 ← s_part18 I i k0_pay597 v3130 v3295 v3311 v3313
  let ⟨v3383, v3391, v3393⟩ : Σ' (v3383 : FVec F S8x512 .f32) (v3391 : FVec F S32x8x512 .f32), FVec F S32x8x512 .f32 ← s_part19 I i v3130 v3324 v3337 v3351
  let v3432 : FVec F S1x512 .f32 ← s_part20 I i v3130 v3324 v3383 v3391 v3393
  let ⟨v3444, v3451, v3458, v3465⟩ : Σ' (v3444 : FVec F S8x512 .f32) (v3451 : FVec F S128x256 .fp8e4m3) (v3458 : FVec F S128x256 .fp8e4m3), FVec F S128x256 .fp8e4m3 ← s_part21 I i arg1 k0_h2 k0_t1 arg19 v3293 v3295 v3322 v3432
  let ⟨v3488, v3506⟩ : Σ' (v3488 : FVec F S128x512 .f32), FVec F S128x128 .bf16 ← s_part22 I i arg1 k0_h2 k0_t1 arg19 v3444 v3451 v3458 v3465
  st7 (k0_off24 k0_t1 1#32) S1x128x128.size (k0_off24_inb i k0_t1 k0_h2 1) (k0_pay598 v3506)
  let v3519 : Vec F S1x128x128 .bf16 ← ld7 (k0_off24 k0_t1 2#32) S1x128x128.size (k0_off24_inb i k0_t1 k0_h2 2)
  st7 (k0_off24 k0_t1 2#32) S1x128x128.size (k0_off24_inb i k0_t1 k0_h2 2) (k0_pay599 v3488)
  let v3530 : Vec F S1x128x128 .bf16 ← ld7 (k0_off24 k0_t1 3#32) S1x128x128.size (k0_off24_inb i k0_t1 k0_h2 3)
  st7 (k0_off24 k0_t1 3#32) S1x128x128.size (k0_off24_inb i k0_t1 k0_h2 3) (k0_pay600 v3488)
  pure ⟨⟩

def s_part113 (I : In F) (i : grid0.Coords) (arg1 : BitVec 32) (v2264 : FVec F S32x256 .f32) (v2621 : FVec F S8x128 .f32) (v2622 : Vec F S1x1x8x128 .f32) : PM F (Σ' (v2653 : IVec S128x512 1), BitVec 32) := do
  st16 ![1, 7, 0, 128] S1x1x8x128.size inb_S2x8x8x512_S1x1x8x128_1_7_0_128 (k0_pay592 v2621)
  let v2628 : Vec F S1x1x8x128 .f32 ← ld16 ![0, 7, 0, 256] S1x1x8x128.size inb_S2x8x8x512_S1x1x8x128_0_7_0_256
  st16 ![0, 7, 0, 256] S1x1x8x128.size inb_S2x8x8x512_S1x1x8x128_0_7_0_256 (k0_pay593 v2264)
  let v2634 : Vec F S1x1x8x128 .f32 ← ld16 ![1, 7, 0, 256] S1x1x8x128.size inb_S2x8x8x512_S1x1x8x128_1_7_0_256
  st16 ![1, 7, 0, 256] S1x1x8x128.size inb_S2x8x8x512_S1x1x8x128_1_7_0_256 (k0_pay594 v2264)
  let v2640 : Vec F S1x1x8x128 .f32 ← ld16 ![0, 7, 0, 384] S1x1x8x128.size inb_S2x8x8x512_S1x1x8x128_0_7_0_384
  st16 ![0, 7, 0, 384] S1x1x8x128.size inb_S2x8x8x512_S1x1x8x128_0_7_0_384 (k0_pay595 v2264)
  let v2646 : Vec F S1x1x8x128 .f32 ← ld16 ![1, 7, 0, 384] S1x1x8x128.size inb_S2x8x8x512_S1x1x8x128_1_7_0_384
  st16 ![1, 7, 0, 384] S1x1x8x128.size inb_S2x8x8x512_S1x1x8x128_1_7_0_384 (k0_pay596 v2264)
  if k0_h2 : k0_cond2 i = 1#1 then do
    PM.loop k0_t1_loop.trips (s_t1_body I i arg1 v2264 v2621 v2622 k0_h2)
    pure ⟨⟩
  else do
    pure ⟨⟩
  pure ⟨k0_pay597, 4#32⟩

def s_part23 (I : In F) (i : grid0.Coords) (arg1 : BitVec 32) (k0_h3 : k0_cond3 i = 1#1) (c0_i32_1293 : BitVec 32) (c1_i32 : BitVec 32) (k0_t2 : Fin k0_t2_loop.trips) : PM F (Σ' (arg19 : BitVec 32) (v2689 : FVec F S512x128 .fp8e4m3) (v2692 : FVec F S8x512 .f32), BitVec 32) := do
  let arg19 : BitVec 32 := Scf.iv c0_i32_1293 c1_i32 k0_t2
  let v2666 : Vec F S1x128x128 .fp8e4m3 ← ld8 (k0_off26 k0_t2 0#32) S1x128x128.size (k0_off26_inb i k0_t2 k0_h3 0)
  let v2673 : Vec F S1x128x128 .fp8e4m3 ← ld8 (k0_off26 k0_t2 1#32) S1x128x128.size (k0_off26_inb i k0_t2 k0_h3 1)
  let v2680 : Vec F S1x128x128 .fp8e4m3 ← ld8 (k0_off26 k0_t2 2#32) S1x128x128.size (k0_off26_inb i k0_t2 k0_h3 2)
  let v2687 : Vec F S1x128x128 .fp8e4m3 ← ld8 (k0_off26 k0_t2 3#32) S1x128x128.size (k0_off26_inb i k0_t2 k0_h3 3)
  let v2691 : Vec F S1x1x8x512 .f32 ← ld16 (k0_off27 k0_t2) S1x1x8x512.size (k0_off27_inb i k0_t2 k0_h3)
  let v2693 : BitVec 32 := Scalar.addi arg1 1#32
  let v2694 : BitVec 32 := Scalar.addi v2693 4#32
  pure ⟨arg19, k0_pay112 v2666 v2673 v2680 v2687, k0_pay113 v2691, v2694⟩

def s_part24 (I : In F) (i : grid0.Coords) (arg1 : BitVec 32) (v2653 : IVec S128x512 1) (k0_h3 : k0_cond3 i = 1#1) (k0_t2 : Fin k0_t2_loop.trips) (arg19 : BitVec 32) (v2689 : FVec F S512x128 .fp8e4m3) (v2694 : BitVec 32) : PM F (Σ' (v2731 : FVec F S8x512 .f32), FVec F S1x128x512 .f32) := do
  let v2701 : Vec F S1x128x128 .fp8e4m3 ← ld13 (k0_off28 i k0_t2 4#32 0#32) S1x128x128.size (k0_off28_inb i k0_t2 k0_h3 1 0)
  let v2707 : Vec F S1x128x128 .f32 ← ld14 (k0_off28 i k0_t2 4#32 0#32) S1x128x128.size (k0_off28_inb i k0_t2 k0_h3 1 0)
  let v2719 : Vec F S1x128x128 .fp8e4m3 ← ld13 (k0_off28 i k0_t2 0#32 0#32) S1x128x128.size (k0_off28_inb i k0_t2 k0_h3 0 0)
  let v2725 : Vec F S1x128x128 .f32 ← ld14 (k0_off28 i k0_t2 0#32 0#32) S1x128x128.size (k0_off28_inb i k0_t2 k0_h3 0 0)
  let v2732 : Vec F S1x128x512 .f32 ← ld17 ![0, 0, 0] S1x128x512.size inb_S5x256x512_S1x128x512_0_0_0
  pure ⟨k0_pay115 v2653 v2689 v2701 v2707 v2719 v2725, k0_pay116 v2653 v2689 v2701 v2707 v2719 v2725⟩

def s_part25 (I : In F) (i : grid0.Coords) (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) : PM F (Σ' (v2758 : FVec F S8x512 .f32) (v2769 : FVec F S256x512 .f32), BitVec 32) := do
  st17 ![0, 0, 0] S1x128x512.size inb_S5x256x512_S1x128x512_0_0_0 v2734
  let v2743 : Vec F S1x128x128 .fp8e4m3 ← ld13 (k0_off28 i k0_t2 0#32 128#32) S1x128x128.size (k0_off28_inb i k0_t2 k0_h3 0 1)
  let v2749 : Vec F S1x128x128 .f32 ← ld14 (k0_off28 i k0_t2 0#32 128#32) S1x128x128.size (k0_off28_inb i k0_t2 k0_h3 0 1)
  let v2753 : Vec F S1x128x512 .f32 ← ld17 ![0, 128, 0] S1x128x512.size inb_S5x256x512_S1x128x512_0_128_0
  st17 ![0, 128, 0] S1x128x512.size inb_S5x256x512_S1x128x512_0_128_0 (k0_pay118 v2689 v2743 v2749)
  let v2759 : BitVec 32 := Scalar.addi arg1 1#32
  let v2760 : BitVec 32 := Scalar.addi v2759 1#32
  let v2761 : BitVec 32 := Scalar.remsi v2760 5#32
  let v2762 : BitVec 32 := Scalar.muli v2761 256#32
  let v2763 : BitVec 32 := v2762
  let v2767 : Vec F S1x256x128 .fp8e4m3 ← ld13 (k0_off29 i k0_t2 1#32) S1x256x128.size (k0_off29_inb i k0_t2 k0_h3 0)
  let v2770 : BitVec 32 := Scalar.addi v2763 0#32
  pure ⟨k0_pay119 v2689 v2731 v2743 v2749, k0_pay120 v2689 v2767, v2770⟩

def s_part26 (I : In F) (i : grid0.Coords) (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) : PM F (Σ' (v2806 : FVec F S8x512 .f32) (v2808 : BitVec 32), BitVec 32) := do
  let v2773 : Vec F S1x256x128 .f32 ← ld14 (k0_off29 i k0_t2 1#32) S1x256x128.size (k0_off29_inb i k0_t2 k0_h3 0)
  let v2777 : Vec F S1x256x512 .f32 ← ld17 ![1, 0, 0] S1x256x512.size inb_S5x256x512_S1x256x512_1_0_0
  st17 ![1, 0, 0] S1x256x512.size inb_S5x256x512_S1x256x512_1_0_0 (k0_pay122 v2769 v2773)
  let v2791 : Vec F S1x256x128 .fp8e4m3 ← ld13 (k0_off29 i k0_t2 2#32) S1x256x128.size (k0_off29_inb i k0_t2 k0_h3 1)
  let v2797 : Vec F S1x256x128 .f32 ← ld14 (k0_off29 i k0_t2 2#32) S1x256x128.size (k0_off29_inb i k0_t2 k0_h3 1)
  let v2801 : Vec F S1x256x512 .f32 ← ld17 ![2, 0, 0] S1x256x512.size inb_S5x256x512_S1x256x512_2_0_0
  st17 ![2, 0, 0] S1x256x512.size inb_S5x256x512_S1x256x512_2_0_0 (k0_pay124 v2689 v2791 v2797)
  let v2807 : BitVec 32 := Scalar.addi arg1 1#32
  let v2808 : BitVec 32 := Scalar.addi v2807 3#32
  pure ⟨k0_pay125 v2689 v2758 v2769 v2773 v2791 v2797, v2808, 5#32⟩

def s_part27 (I : In F) (i : grid0.Coords) (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) : PM F (Σ' (v2839 : FVec F S8x512 .f32) (v2841 : FVec F S8x512 .f32) (v2845 : FVec F S8x512 .f32) (v2846 : IVec S8x512x256 32) (v2849 : FVec F S8x512x256 .f32), IVec S8x512x256 32) := do
  let v2815 : Vec F S1x256x128 .fp8e4m3 ← ld13 (k0_off29 i k0_t2 3#32) S1x256x128.size (k0_off29_inb i k0_t2 k0_h3 2)
  let v2821 : Vec F S1x256x128 .f32 ← ld14 (k0_off29 i k0_t2 3#32) S1x256x128.size (k0_off29_inb i k0_t2 k0_h3 2)
  let v2825 : Vec F S1x256x512 .f32 ← ld17 ![3, 0, 0] S1x256x512.size inb_S5x256x512_S1x256x512_3_0_0
  st17 ![3, 0, 0] S1x256x512.size inb_S5x256x512_S1x256x512_3_0_0 (k0_pay127 v2689 v2815 v2821)
  let v2836 : Vec F S1x8x512 .f32 ← ld6 I (k0_off30 k0_t2) S1x8x512.size (k0_off30_inb i k0_t2 k0_h3)
  have v2846 : IVec S8x512x256 32 := iota .tc S8x512x256 32 [2] iota_S8x512x256_d2_w32
  pure ⟨k0_pay128 v2836, k0_pay130 v2689 v2692 v2806 v2815 v2821 v2836, k0_pay131 v2689 v2692 v2806 v2815 v2821 v2836, v2846, k0_pay132 (F := F), k0_pay133⟩

def s_part28 (I : In F) (i : grid0.Coords) (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) : PM F (Σ' (v2868 : FVec F S8x512 .f32) (v2870 : FVec F S8x512 .f32) (v2883 : FVec F S8x512 .f32), FVec F S128x512 .fp8e4m3) := do
  let v2871 : Vec F S1x128x512 .f32 ← ld17 ![0, 0, 0] S1x128x512.size inb_S5x256x512_S1x128x512_0_0_0
  let v2888 : Vec F S1x128x512 .fp8e4m3 ← ld18 ![0, 0, 0] S1x128x512.size inb_S5x256x512_S1x128x512_0_0_0
  st18 ![0, 0, 0] S1x128x512.size inb_S5x256x512_S1x128x512_0_0_0 (k0_pay140 v2653 v2692 v2841 v2845 v2846 v2849 v2850 v2871)
  pure ⟨k0_pay135 v2845 v2846 v2849 v2850, k0_pay136 v2841 v2845 v2846 v2849 v2850, k0_pay138 v2692 v2841 v2845 v2846 v2849 v2850 v2871, k0_pay141 v2653 v2692 v2841 v2845 v2846 v2849 v2850 v2871⟩

def s_part29 (I : In F) (i : grid0.Coords) (v2692 : FVec F S8x512 .f32) (v2870 : FVec F S8x512 .f32) (v2883 : FVec F S8x512 .f32) (v2893 : FVec F S128x512 .fp8e4m3) : PM F (Σ' (v2929 : FVec F S8x512 .f32) (v2931 : FVec F S256x512 .fp8e4m3), Vec F S1x256x512 .fp8e4m3) := do
  let v2894 : Vec F S1x128x512 .fp8e4m3 ← ld18 ![4, 0, 0] S1x128x512.size inb_S5x256x512_S1x128x512_4_0_0
  st18 ![4, 0, 0] S1x128x512.size inb_S5x256x512_S1x128x512_4_0_0 (k0_pay142 v2893)
  let v2897 : Vec F S1x128x512 .f32 ← ld17 ![0, 128, 0] S1x128x512.size inb_S5x256x512_S1x128x512_0_128_0
  let v2913 : Vec F S1x128x512 .fp8e4m3 ← ld18 ![0, 128, 0] S1x128x512.size inb_S5x256x512_S1x128x512_0_128_0
  st18 ![0, 128, 0] S1x128x512.size inb_S5x256x512_S1x128x512_0_128_0 (k0_pay144 v2692 v2870 v2897)
  let v2916 : Vec F S1x256x512 .f32 ← ld17 ![1, 0, 0] S1x256x512.size inb_S5x256x512_S1x256x512_1_0_0
  let v2932 : Vec F S1x256x512 .fp8e4m3 ← ld18 ![1, 0, 0] S1x256x512.size inb_S5x256x512_S1x256x512_1_0_0
  pure ⟨k0_pay146 v2692 v2870 v2883 v2897 v2916, k0_pay147 v2692 v2870 v2916, v2932⟩

def s_part30 (I : In F) (i : grid0.Coords) (v2692 : FVec F S8x512 .f32) (v2870 : FVec F S8x512 .f32) (v2929 : FVec F S8x512 .f32) (v2931 : FVec F S256x512 .fp8e4m3) (v2932 : Vec F S1x256x512 .fp8e4m3) : PM F (Σ' (v2967 : FVec F S8x512 .f32), F .fp8e4m3) := do
  st18 ![1, 0, 0] S1x256x512.size inb_S5x256x512_S1x256x512_1_0_0 (k0_pay148 v2931)
  let v2935 : Vec F S1x256x512 .f32 ← ld17 ![2, 0, 0] S1x256x512.size inb_S5x256x512_S1x256x512_2_0_0
  let v2951 : Vec F S1x256x512 .fp8e4m3 ← ld18 ![2, 0, 0] S1x256x512.size inb_S5x256x512_S1x256x512_2_0_0
  st18 ![2, 0, 0] S1x256x512.size inb_S5x256x512_S1x256x512_2_0_0 (k0_pay150 v2692 v2870 v2935)
  let v2954 : Vec F S1x256x512 .f32 ← ld17 ![3, 0, 0] S1x256x512.size inb_S5x256x512_S1x256x512_3_0_0
  let v2970 : Vec F S1x256x512 .fp8e4m3 ← ld18 ![3, 0, 0] S1x256x512.size inb_S5x256x512_S1x256x512_3_0_0
  st18 ![3, 0, 0] S1x256x512.size inb_S5x256x512_S1x256x512_3_0_0 (k0_pay153 v2692 v2870 v2954)
  have cst_1447 : F .fp8e4m3 := Scalar.ofBits .fp8e4m3 0x00#8
  pure ⟨k0_pay152 v2692 v2870 v2929 v2935 v2954, cst_1447⟩

def s_part31 (I : In F) (i : grid0.Coords) (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) : PM F (Σ' (v2990 : FVec F S8x512 .f32) (v2997 : FVec F S128x256 .fp8e4m3), FVec F S128x256 .fp8e4m3) := do
  let v2974 : Vec F S1x128x512 .fp8e4m3 ← ld18 ![4, 128, 0] S1x128x512.size inb_S5x256x512_S1x128x512_4_128_0
  st18 ![4, 128, 0] S1x128x512.size inb_S5x256x512_S1x128x512_4_128_0 (k0_pay154 cst_1447)
  let v2986 : Vec F S1x1x8x128 .f32 ← ld5 I (k0_off31 k0_t2) S1x1x8x128.size (k0_off31_inb i k0_t2 k0_h3)
  let v2996 : Vec F S1x1x128x256 .fp8e4m3 ← ld15 (k0_off32 i k0_t2 0#32) S1x1x128x256.size (k0_off32_inb i k0_t2 k0_h3 0)
  let v3003 : Vec F S1x1x128x256 .fp8e4m3 ← ld15 (k0_off32 i k0_t2 1#32) S1x1x128x256.size (k0_off32_inb i k0_t2 k0_h3 1)
  pure ⟨k0_pay155 v2839 v2841 v2868 v2967 v2986, k0_pay156 v2996, k0_pay157 v3003⟩

def s_part32 (I : In F) (i : grid0.Coords) (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) : PM F (Σ' (v3034 : FVec F S128x512 .f32), BitVec 32) := do
  let v3010 : Vec F S1x1x128x256 .fp8e4m3 ← ld15 (k0_off32 i k0_t2 2#32) S1x1x128x256.size (k0_off32_inb i k0_t2 k0_h3 2)
  let v3017 : Vec F S1x1x128x256 .fp8e4m3 ← ld15 (k0_off32 i k0_t2 3#32) S1x1x128x256.size (k0_off32_inb i k0_t2 k0_h3 3)
  let v3024 : Vec F S1x1x128x256 .fp8e4m3 ← ld15 (k0_off32 i k0_t2 4#32) S1x1x128x256.size (k0_off32_inb i k0_t2 k0_h3 4)
  let v3027 : Vec F S5x256x512 .fp8e4m3 ← ld18 ![0, 0, 0] S5x256x512.size inb_S5x256x512_S5x256x512_0_0_0
  let v3043 : Vec F S1x128x128 .bf16 ← ld7 (k0_off26 k0_t2 0#32) S1x128x128.size (k0_off26_inb i k0_t2 k0_h3 0)
  st7 (k0_off26 k0_t2 0#32) S1x128x128.size (k0_off26_inb i k0_t2 k0_h3 0) (k0_pay159 v2990 v2997 v3004 v3010 v3017 v3024 v3027)
  let v3046 : BitVec 32 := Scalar.muli arg19 4#32
  let v3047 : BitVec 32 := Scalar.addi v3046 1#32
  pure ⟨k0_pay158 v2990 v2997 v3004 v3010 v3017 v3024 v3027, v3047⟩

def s_part33 (I : In F) (i : grid0.Coords) (k0_h3 : k0_cond3 i = 1#1) (k0_t2 : Fin k0_t2_loop.trips) (arg19 : BitVec 32) (v3034 : FVec F S128x512 .f32) (v3047 : BitVec 32) : PM F (Σ' (v3085 : FVec F S128x128 .fp8e4m3), BitVec 32) := do
  let v3054 : Vec F S1x128x128 .bf16 ← ld7 (k0_off26 k0_t2 1#32) S1x128x128.size (k0_off26_inb i k0_t2 k0_h3 1)
  st7 (k0_off26 k0_t2 1#32) S1x128x128.size (k0_off26_inb i k0_t2 k0_h3 1) (k0_pay160 v3034)
  let v3065 : Vec F S1x128x128 .bf16 ← ld7 (k0_off26 k0_t2 2#32) S1x128x128.size (k0_off26_inb i k0_t2 k0_h3 2)
  st7 (k0_off26 k0_t2 2#32) S1x128x128.size (k0_off26_inb i k0_t2 k0_h3 2) (k0_pay161 v3034)
  let v3076 : Vec F S1x128x128 .bf16 ← ld7 (k0_off26 k0_t2 3#32) S1x128x128.size (k0_off26_inb i k0_t2 k0_h3 3)
  st7 (k0_off26 k0_t2 3#32) S1x128x128.size (k0_off26_inb i k0_t2 k0_h3 3) (k0_pay162 v3034)
  let v3084 : Vec F S1x128x128 .fp8e4m3 ← ld8 (k0_off33 k0_t2 0#32) S1x128x128.size (k0_off33_inb i k0_t2 k0_h3 0)
  pure ⟨k0_pay163 v3084, 4#32⟩

def s_part34 (I : In F) (i : grid0.Coords) (arg1 : BitVec 32) (k0_h3 : k0_cond3 i = 1#1) (k0_t2 : Fin k0_t2_loop.trips) (arg19 : BitVec 32) (v3085 : FVec F S128x128 .fp8e4m3) (c4_i32_1509 : BitVec 32) : PM F (Σ' (v3107 : FVec F S512x128 .fp8e4m3) (v3110 : FVec F S8x512 .f32) (v3115 : BitVec 32), FVec F S128x512 .f32) := do
  let v3091 : Vec F S1x128x128 .fp8e4m3 ← ld8 (k0_off33 k0_t2 1#32) S1x128x128.size (k0_off33_inb i k0_t2 k0_h3 1)
  let v3098 : Vec F S1x128x128 .fp8e4m3 ← ld8 (k0_off33 k0_t2 2#32) S1x128x128.size (k0_off33_inb i k0_t2 k0_h3 2)
  let v3105 : Vec F S1x128x128 .fp8e4m3 ← ld8 (k0_off33 k0_t2 3#32) S1x128x128.size (k0_off33_inb i k0_t2 k0_h3 3)
  let v3109 : Vec F S1x1x8x512 .f32 ← ld16 (k0_off34 k0_t2) S1x1x8x512.size (k0_off34_inb i k0_t2 k0_h3)
  let v3111 : BitVec 32 := Scalar.addi arg1 1#32
  let v3112 : BitVec 32 := Scalar.addi v3111 4#32
  let v3113 : BitVec 32 := Scalar.remsi v3112 5#32
  let v3114 : BitVec 32 := Scalar.muli v3113 256#32
  let v3115 : BitVec 32 := v3114
  let v3119 : Vec F S1x128x128 .fp8e4m3 ← ld13 (k0_off28 i k0_t2 4#32 128#32) S1x128x128.size (k0_off28_inb i k0_t2 k0_h3 1 1)
  pure ⟨k0_pay164 v3085 v3091 v3098 v3105, k0_pay165 v3109, v3115, k0_pay166 v3085 v3091 v3098 v3105 v3119⟩

def s_part35 (I : In F) (i : grid0.Coords) (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) : PM F (Σ' (v3149 : FVec F S8x512 .f32), BitVec 32) := do
  let v3125 : Vec F S1x128x128 .f32 ← ld14 (k0_off28 i k0_t2 4#32 128#32) S1x128x128.size (k0_off28_inb i k0_t2 k0_h3 1 1)
  let v3137 : Vec F S1x128x128 .fp8e4m3 ← ld13 (k0_off28 i k0_t2 0#32 128#32) S1x128x128.size (k0_off28_inb i k0_t2 k0_h3 0 1)
  let v3143 : Vec F S1x128x128 .f32 ← ld14 (k0_off28 i k0_t2 0#32 128#32) S1x128x128.size (k0_off28_inb i k0_t2 k0_h3 0 1)
  let v3150 : Vec F S1x128x512 .f32 ← ld17 ![0, 128, 0] S1x128x512.size inb_S5x256x512_S1x128x512_0_128_0
  st17 ![0, 128, 0] S1x128x512.size inb_S5x256x512_S1x128x512_0_128_0 (k0_pay169 v2653 v3107 v3121 v3125 v3137 v3143)
  let v3153 : BitVec 32 := Scalar.addi arg1 1#32
  let v3154 : BitVec 32 := Scalar.addi v3153 1#32
  let v3155 : BitVec 32 := Scalar.remsi v3154 5#32
  let v3156 : BitVec 32 := Scalar.muli v3155 256#32
  let v3157 : BitVec 32 := v3156
  pure ⟨k0_pay168 v2653 v3107 v3121 v3125 v3137 v3143, v3157⟩

def s_part36 (I : In F) (i : grid0.Coords) (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) : PM F (Σ' (v3176 : FVec F S8x512 .f32), FVec F S32x8x512 .f32) := do
  let v3161 : Vec F S1x256x128 .fp8e4m3 ← ld13 (k0_off29 i k0_t2 1#32) S1x256x128.size (k0_off29_inb i k0_t2 k0_h3 0)
  let v3167 : Vec F S1x256x128 .f32 ← ld14 (k0_off29 i k0_t2 1#32) S1x256x128.size (k0_off29_inb i k0_t2 k0_h3 0)
  let v3171 : Vec F S1x256x512 .f32 ← ld17 ![1, 0, 0] S1x256x512.size inb_S5x256x512_S1x256x512_1_0_0
  st17 ![1, 0, 0] S1x256x512.size inb_S5x256x512_S1x256x512_1_0_0 (k0_pay171 v3107 v3161 v3167)
  let v3185 : Vec F S1x256x128 .fp8e4m3 ← ld13 (k0_off29 i k0_t2 2#32) S1x256x128.size (k0_off29_inb i k0_t2 k0_h3 1)
  let v3191 : Vec F S1x256x128 .f32 ← ld14 (k0_off29 i k0_t2 2#32) S1x256x128.size (k0_off29_inb i k0_t2 k0_h3 1)
  let v3195 : Vec F S1x256x512 .f32 ← ld17 ![2, 0, 0] S1x256x512.size inb_S5x256x512_S1x256x512_2_0_0
  st17 ![2, 0, 0] S1x256x512.size inb_S5x256x512_S1x256x512_2_0_0 (k0_pay174 v3107 v3185 v3191)
  pure ⟨k0_pay172 v3107 v3149 v3161 v3167, k0_pay175 v3107 v3185 v3191⟩

def s_part37 (I : In F) (i : grid0.Coords) (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) : PM F (Σ' (v3224 : FVec F S8x512 .f32) (v3229 : BitVec 32) (v3235 : FVec F S128x512 .f32), BitVec 32) := do
  let v3209 : Vec F S1x256x128 .fp8e4m3 ← ld13 (k0_off29 i k0_t2 3#32) S1x256x128.size (k0_off29_inb i k0_t2 k0_h3 2)
  let v3215 : Vec F S1x256x128 .f32 ← ld14 (k0_off29 i k0_t2 3#32) S1x256x128.size (k0_off29_inb i k0_t2 k0_h3 2)
  let v3219 : Vec F S1x256x512 .f32 ← ld17 ![3, 0, 0] S1x256x512.size inb_S5x256x512_S1x256x512_3_0_0
  st17 ![3, 0, 0] S1x256x512.size inb_S5x256x512_S1x256x512_3_0_0 (k0_pay177 v3107 v3209 v3215)
  let v3225 : BitVec 32 := Scalar.addi arg1 1#32
  let v3226 : BitVec 32 := Scalar.addi v3225 4#32
  let v3227 : BitVec 32 := Scalar.remsi v3226 5#32
  let v3228 : BitVec 32 := Scalar.muli v3227 256#32
  let v3229 : BitVec 32 := v3228
  let v3233 : Vec F S1x128x128 .fp8e4m3 ← ld13 (k0_off28 i k0_t2 4#32 0#32) S1x128x128.size (k0_off28_inb i k0_t2 k0_h3 1 0)
  pure ⟨k0_pay178 v3107 v3176 v3198 v3209 v3215, v3229, k0_pay179 v3107 v3233, 0#32⟩

def s_part38 (I : In F) (i : grid0.Coords) (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) : PM F (Σ' (v3257 : FVec F S8x512 .f32) (v3259 : FVec F S8x512 .f32) (v3277 : IVec S8x512 1), IVec S8x512 32) := do
  let v3239 : Vec F S1x128x128 .f32 ← ld14 (k0_off28 i k0_t2 4#32 0#32) S1x128x128.size (k0_off28_inb i k0_t2 k0_h3 1 0)
  let v3243 : Vec F S1x128x512 .f32 ← ld17 ![4, 0, 0] S1x128x512.size inb_S5x256x512_S1x128x512_4_0_0
  st17 ![4, 0, 0] S1x128x512.size inb_S5x256x512_S1x128x512_4_0_0 (k0_pay181 v3235 v3239)
  let v3254 : Vec F S1x8x512 .f32 ← ld6 I (k0_off30 k0_t2) S1x8x512.size (k0_off30_inb i k0_t2 k0_h3)
  pure ⟨k0_pay182 v3254, k0_pay184 v3110 v3224 v3235 v3239 v3254, k0_pay186 v3110 v3224 v3235 v3239 v3254, k0_pay187 v3110 v3224 v3235 v3239 v3254⟩

def s_part39 (I : In F) (i : grid0.Coords) (v2653 : IVec S128x512 1) (v3110 : FVec F S8x512 .f32) (v3259 : FVec F S8x512 .f32) (v3277 : IVec S8x512 1) (v3279 : IVec S8x512 32) : PM F (Σ' (v3286 : FVec F S8x512 .f32) (v3288 : FVec F S8x512 .f32) (v3301 : FVec F S8x512 .f32) (v3317 : FVec F S32x8x512 .f32), FVec F S1x8x512 .f32) := do
  let v3289 : Vec F S1x128x512 .f32 ← ld17 ![0, 128, 0] S1x128x512.size inb_S5x256x512_S1x128x512_0_128_0
  let v3306 : Vec F S1x128x512 .fp8e4m3 ← ld18 ![0, 128, 0] S1x128x512.size inb_S5x256x512_S1x128x512_0_128_0
  st18 ![0, 128, 0] S1x128x512.size inb_S5x256x512_S1x128x512_0_128_0 (k0_pay194 v2653 v3110 v3259 v3277 v3279 v3289)
  let v3312 : Vec F S1x128x512 .fp8e4m3 ← ld18 ![4, 128, 0] S1x128x512.size inb_S5x256x512_S1x128x512_4_128_0
  st18 ![4, 128, 0] S1x128x512.size inb_S5x256x512_S1x128x512_4_128_0 (k0_pay195 v2653 v3110 v3259 v3277 v3279 v3289)
  let v3315 : Vec F S1x256x512 .f32 ← ld17 ![1, 0, 0] S1x256x512.size inb_S5x256x512_S1x256x512_1_0_0
  pure ⟨k0_pay189 (F := F) v3277 v3279, k0_pay190 v3259 v3277 v3279, k0_pay192 v3110 v3259 v3277 v3279 v3289, k0_pay196 v3315, k0_pay197 v3110⟩

def s_part40 (I : In F) (i : grid0.Coords) (v3110 : FVec F S8x512 .f32) (v3288 : FVec F S8x512 .f32) (v3301 : FVec F S8x512 .f32) (v3317 : FVec F S32x8x512 .f32) (v3318 : FVec F S1x8x512 .f32) : PM F (Σ' (v3347 : FVec F S8x512 .f32) (v3358 : FVec F S32x8x512 .f32), FVec F S32x8x512 .f32) := do
  let v3331 : Vec F S1x256x512 .fp8e4m3 ← ld18 ![1, 0, 0] S1x256x512.size inb_S5x256x512_S1x256x512_1_0_0
  st18 ![1, 0, 0] S1x256x512.size inb_S5x256x512_S1x256x512_1_0_0 (k0_pay199 v3288 v3317 v3318)
  let v3334 : Vec F S1x256x512 .f32 ← ld17 ![2, 0, 0] S1x256x512.size inb_S5x256x512_S1x256x512_2_0_0
  let v3350 : Vec F S1x256x512 .fp8e4m3 ← ld18 ![2, 0, 0] S1x256x512.size inb_S5x256x512_S1x256x512_2_0_0
  st18 ![2, 0, 0] S1x256x512.size inb_S5x256x512_S1x256x512_2_0_0 (k0_pay202 v3110 v3288 v3334)
  let v3353 : Vec F S1x256x512 .f32 ← ld17 ![3, 0, 0] S1x256x512.size inb_S5x256x512_S1x256x512_3_0_0
  pure ⟨k0_pay201 v3110 v3288 v3301 v3317 v3318 v3334, k0_pay203 v3110 v3353, k0_pay204 v3288⟩

def s_part41 (I : In F) (i : grid0.Coords) (v3110 : FVec F S8x512 .f32) (v3286 : FVec F S8x512 .f32) (v3288 : FVec F S8x512 .f32) (v3347 : FVec F S8x512 .f32) (v3358 : FVec F S32x8x512 .f32) (v3360 : FVec F S32x8x512 .f32) : PM F (FVec F S8x512 .f32) := do
  let v3369 : Vec F S1x256x512 .fp8e4m3 ← ld18 ![3, 0, 0] S1x256x512.size inb_S5x256x512_S1x256x512_3_0_0
  st18 ![3, 0, 0] S1x256x512.size inb_S5x256x512_S1x256x512_3_0_0 (k0_pay206 v3358 v3360)
  let v3372 : Vec F S1x128x512 .f32 ← ld17 ![4, 0, 0] S1x128x512.size inb_S5x256x512_S1x128x512_4_0_0
  let v3388 : Vec F S1x128x512 .fp8e4m3 ← ld18 ![4, 0, 0] S1x128x512.size inb_S5x256x512_S1x128x512_4_0_0
  st18 ![4, 0, 0] S1x128x512.size inb_S5x256x512_S1x128x512_4_0_0 (k0_pay208 v3110 v3288 v3372)
  let v3392 : Vec F S1x128x512 .fp8e4m3 ← ld18 ![0, 0, 0] S1x128x512.size inb_S5x256x512_S1x128x512_0_0_0
  st18 ![0, 0, 0] S1x128x512.size inb_S5x256x512_S1x128x512_0_0_0 (k0_pay209 (F := F))
  pure (k0_pay210 v3110 v3286 v3288 v3347 v3358 v3360 v3372)

def s_part42 (I : In F) (i : grid0.Coords) (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) : PM F (Σ' (v3408 : FVec F S8x512 .f32) (v3415 : FVec F S128x256 .fp8e4m3) (v3422 : FVec F S128x256 .fp8e4m3) (v3429 : FVec F S128x256 .fp8e4m3), FVec F S128x256 .fp8e4m3) := do
  let v3404 : Vec F S1x1x8x128 .f32 ← ld5 I (k0_off31 k0_t2) S1x1x8x128.size (k0_off31_inb i k0_t2 k0_h3)
  let v3414 : Vec F S1x1x128x256 .fp8e4m3 ← ld15 (k0_off32 i k0_t2 0#32) S1x1x128x256.size (k0_off32_inb i k0_t2 k0_h3 0)
  let v3421 : Vec F S1x1x128x256 .fp8e4m3 ← ld15 (k0_off32 i k0_t2 1#32) S1x1x128x256.size (k0_off32_inb i k0_t2 k0_h3 1)
  let v3428 : Vec F S1x1x128x256 .fp8e4m3 ← ld15 (k0_off32 i k0_t2 2#32) S1x1x128x256.size (k0_off32_inb i k0_t2 k0_h3 2)
  let v3435 : Vec F S1x1x128x256 .fp8e4m3 ← ld15 (k0_off32 i k0_t2 3#32) S1x1x128x256.size (k0_off32_inb i k0_t2 k0_h3 3)
  pure ⟨k0_pay211 v3257 v3259 v3286 v3399 v3404, k0_pay212 v3414, k0_pay213 v3421, k0_pay214 v3428, k0_pay215 v3435⟩

def s_part43 (I : In F) (i : grid0.Coords) (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) : PM F (Σ' (v3452 : FVec F S128x512 .f32), BitVec 32) := do
  let v3442 : Vec F S1x1x128x256 .fp8e4m3 ← ld15 (k0_off32 i k0_t2 4#32) S1x1x128x256.size (k0_off32_inb i k0_t2 k0_h3 4)
  let v3445 : Vec F S5x256x512 .fp8e4m3 ← ld18 ![0, 0, 0] S5x256x512.size inb_S5x256x512_S5x256x512_0_0_0
  let v3461 : Vec F S1x128x128 .bf16 ← ld7 (k0_off33 k0_t2 0#32) S1x128x128.size (k0_off33_inb i k0_t2 k0_h3 0)
  st7 (k0_off33 k0_t2 0#32) S1x128x128.size (k0_off33_inb i k0_t2 k0_h3 0) (k0_pay217 v3408 v3415 v3422 v3429 v3436 v3442 v3445)
  let v3472 : Vec F S1x128x128 .bf16 ← ld7 (k0_off33 k0_t2 1#32) S1x128x128.size (k0_off33_inb i k0_t2 k0_h3 1)
  st7 (k0_off33 k0_t2 1#32) S1x128x128.size (k0_off33_inb i k0_t2 k0_h3 1) (k0_pay218 v3408 v3415 v3422 v3429 v3436 v3442 v3445)
  pure ⟨k0_pay216 v3408 v3415 v3422 v3429 v3436 v3442 v3445, 4#32⟩

def s_t2_body (I : In F) (i : grid0.Coords) (arg1 : BitVec 32) (v2653 : IVec S128x512 1) (k0_h3 : k0_cond3 i = 1#1) (k0_t2 : Fin k0_t2_loop.trips) : PM F Unit := do
  let ⟨arg19, v2689, v2692, v2694⟩ : Σ' (arg19 : BitVec 32) (v2689 : FVec F S512x128 .fp8e4m3) (v2692 : FVec F S8x512 .f32), BitVec 32 ← s_part23 I i arg1 k0_h3 0#32 1#32 k0_t2
  let ⟨v2731, v2734⟩ : Σ' (v2731 : FVec F S8x512 .f32), FVec F S1x128x512 .f32 ← s_part24 I i arg1 v2653 k0_h3 k0_t2 arg19 v2689 v2694
  let ⟨v2758, v2769, v2770⟩ : Σ' (v2758 : FVec F S8x512 .f32) (v2769 : FVec F S256x512 .f32), BitVec 32 ← s_part25 I i arg1 k0_h3 k0_t2 arg19 v2689 v2731 v2734
  let ⟨v2806, v2808, c5_i32_1378⟩ : Σ' (v2806 : FVec F S8x512 .f32) (v2808 : BitVec 32), BitVec 32 ← s_part26 I i arg1 k0_h3 k0_t2 arg19 v2689 v2758 v2769 v2770
  let ⟨v2839, v2841, v2845, v2846, v2849, v2850⟩ : Σ' (v2839 : FVec F S8x512 .f32) (v2841 : FVec F S8x512 .f32) (v2845 : FVec F S8x512 .f32) (v2846 : IVec S8x512x256 32) (v2849 : FVec F S8x512x256 .f32), IVec S8x512x256 32 ← s_part27 I i k0_h3 k0_t2 arg19 v2689 v2692 v2806 v2808 c5_i32_1378
  let ⟨v2868, v2870, v2883, v2893⟩ : Σ' (v2868 : FVec F S8x512 .f32) (v2870 : FVec F S8x512 .f32) (v2883 : FVec F S8x512 .f32), FVec F S128x512 .fp8e4m3 ← s_part28 I i v2653 v2692 v2841 v2845 v2846 v2849 v2850
  let ⟨v2929, v2931, v2932⟩ : Σ' (v2929 : FVec F S8x512 .f32) (v2931 : FVec F S256x512 .fp8e4m3), Vec F S1x256x512 .fp8e4m3 ← s_part29 I i v2692 v2870 v2883 v2893
  let ⟨v2967, cst_1447⟩ : Σ' (v2967 : FVec F S8x512 .f32), F .fp8e4m3 ← s_part30 I i v2692 v2870 v2929 v2931 v2932
  let ⟨v2990, v2997, v3004⟩ : Σ' (v2990 : FVec F S8x512 .f32) (v2997 : FVec F S128x256 .fp8e4m3), FVec F S128x256 .fp8e4m3 ← s_part31 I i arg1 k0_h3 k0_t2 arg19 v2839 v2841 v2868 v2967 cst_1447
  let ⟨v3034, v3047⟩ : Σ' (v3034 : FVec F S128x512 .f32), BitVec 32 ← s_part32 I i arg1 k0_h3 k0_t2 arg19 v2990 v2997 v3004
  let ⟨v3085, c4_i32_1509⟩ : Σ' (v3085 : FVec F S128x128 .fp8e4m3), BitVec 32 ← s_part33 I i k0_h3 k0_t2 arg19 v3034 v3047
  let ⟨v3107, v3110, v3115, v3121⟩ : Σ' (v3107 : FVec F S512x128 .fp8e4m3) (v3110 : FVec F S8x512 .f32) (v3115 : BitVec 32), FVec F S128x512 .f32 ← s_part34 I i arg1 k0_h3 k0_t2 arg19 v3085 c4_i32_1509
  let ⟨v3149, v3157⟩ : Σ' (v3149 : FVec F S8x512 .f32), BitVec 32 ← s_part35 I i arg1 v2653 k0_h3 k0_t2 arg19 v3107 v3115 v3121
  let ⟨v3176, v3198⟩ : Σ' (v3176 : FVec F S8x512 .f32), FVec F S32x8x512 .f32 ← s_part36 I i arg1 k0_h3 k0_t2 arg19 v3107 v3149 v3157
  let ⟨v3224, v3229, v3235, c0_i32_1595⟩ : Σ' (v3224 : FVec F S8x512 .f32) (v3229 : BitVec 32) (v3235 : FVec F S128x512 .f32), BitVec 32 ← s_part37 I i arg1 k0_h3 k0_t2 arg19 v3107 v3176 v3198
  let ⟨v3257, v3259, v3277, v3279⟩ : Σ' (v3257 : FVec F S8x512 .f32) (v3259 : FVec F S8x512 .f32) (v3277 : IVec S8x512 1), IVec S8x512 32 ← s_part38 I i k0_h3 k0_t2 arg19 v3110 v3224 v3229 v3235 c0_i32_1595
  let ⟨v3286, v3288, v3301, v3317, v3318⟩ : Σ' (v3286 : FVec F S8x512 .f32) (v3288 : FVec F S8x512 .f32) (v3301 : FVec F S8x512 .f32) (v3317 : FVec F S32x8x512 .f32), FVec F S1x8x512 .f32 ← s_part39 I i v2653 v3110 v3259 v3277 v3279
  let ⟨v3347, v3358, v3360⟩ : Σ' (v3347 : FVec F S8x512 .f32) (v3358 : FVec F S32x8x512 .f32), FVec F S32x8x512 .f32 ← s_part40 I i v3110 v3288 v3301 v3317 v3318
  let v3399 : FVec F S8x512 .f32 ← s_part41 I i v3110 v3286 v3288 v3347 v3358 v3360
  let ⟨v3408, v3415, v3422, v3429, v3436⟩ : Σ' (v3408 : FVec F S8x512 .f32) (v3415 : FVec F S128x256 .fp8e4m3) (v3422 : FVec F S128x256 .fp8e4m3) (v3429 : FVec F S128x256 .fp8e4m3), FVec F S128x256 .fp8e4m3 ← s_part42 I i arg1 k0_h3 k0_t2 arg19 v3257 v3259 v3286 v3399
  let ⟨v3452, c4_i32_1706⟩ : Σ' (v3452 : FVec F S128x512 .f32), BitVec 32 ← s_part43 I i arg1 k0_h3 k0_t2 arg19 v3408 v3415 v3422 v3429 v3436
  let v3483 : Vec F S1x128x128 .bf16 ← ld7 (k0_off33 k0_t2 2#32) S1x128x128.size (k0_off33_inb i k0_t2 k0_h3 2)
  st7 (k0_off33 k0_t2 2#32) S1x128x128.size (k0_off33_inb i k0_t2 k0_h3 2) (k0_pay1 v3452)
  let v3494 : Vec F S1x128x128 .bf16 ← ld7 (k0_off33 k0_t2 3#32) S1x128x128.size (k0_off33_inb i k0_t2 k0_h3 3)
  st7 (k0_off33 k0_t2 3#32) S1x128x128.size (k0_off33_inb i k0_t2 k0_h3 3) (k0_pay2 v3452)
  pure ⟨⟩

def s_attn (I : In F) (i : grid0.Coords)  : PM F PUnit := do
  let ⟨arg1, v2264, v2327⟩ : Σ' (arg1 : BitVec 32) (v2264 : FVec F S32x256 .f32), FVec F S8x128 .f32 ← s_part114 I i
  let v2361 : FVec F S1x128 .f32 ← s_part104 I i v2264 v2327
  let v2393 : FVec F S8x128 .f32 ← s_part105 I i v2264 v2361
  s_part106 I i v2264 v2393
  let v2459 : FVec F S8x128 .f32 ← s_part107 I i v2264
  let v2492 : FVec F S1x1x8x128 .f32 ← s_part108 I i v2264 v2459
  let v2525 : FVec F S8x128 .f32 ← s_part109 I i v2264 v2492
  let v2555 : FVec F S8x128 .f32 ← s_part110 I i v2264 v2525
  let v2591 : FVec F S8x128 .f32 ← s_part111 I i v2264 v2555
  let ⟨v2621, v2622⟩ : Σ' (v2621 : FVec F S8x128 .f32), Vec F S1x1x8x128 .f32 ← s_part112 I i v2264 v2591
  let ⟨v2653, c4_i32_1291⟩ : Σ' (v2653 : IVec S128x512 1), BitVec 32 ← s_part113 I i arg1 v2264 v2621 v2622
  if k0_h3 : k0_cond3 i = 1#1 then do
    PM.loop k0_t2_loop.trips (s_t2_body I i arg1 v2653 k0_h3)
    pure ⟨⟩
  else do
    pure ⟨⟩
  pure ⟨⟩

end Cert.Kernel.Run

end
-- ==== Proof.P.RunsBody.lean ====
/-
  Every part of the kernel's body runs as its computation on the state (`Steps`): one theorem a part, each by the
  rule of each statement in turn.
-/
module

public import proofs.«01_k».proof.Proof.P.Steps

@[expose] public section

set_option synthInstance.maxSize 4096

noncomputable section

namespace Cert.Kernel.Run

open Cert.Kernel Cert.Kernel.Gen
open Idealize.ShloMosaic Idealize.SL.Sem

variable {F : FTy → Type} [FloatOps F]

variable (c : Idealize.ShloMosaic.Dev nD) (M : Mem) (hM : M.Whole) (I : In F) (i : grid0.Coords)

theorem r_part44  :
    Runs c M I (k0_part44 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part44 I i ) := by
  rw [k0_part44_eq_skeleton]; unfold k0_part44_skel s_part44
  dsimp only []
  refine .dite (fun h => ?_) (fun h => ?_)
  ·
    refine .bind (load_13 c M I) fun v2661 => ?_
    refine .bind (store_13 c M I) fun _ => ?_
    refine .bind (load_15 c M I) fun v2665 => ?_
    refine .bind (store_15 c M I) fun _ => ?_
    refine .bind (load_3 c M I) fun v4 => ?_
    exact .pure _
  ·
    refine .bind (load_3 c M I) fun v4 => ?_
    exact .pure _

theorem r_part45 (v0 : BitVec 32) (v6 : FVec F S256x128 .f32) (v34 : FVec F S256x1 .f32) (v38 : IVec S256x1 32) :
    Runs c M I (k0_part45 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v6 v34 v38) (s_part45 I i v0 v6 v34 v38) := by
  rw [k0_part45_eq_skeleton]; unfold k0_part45_skel s_part45
  refine .bind (load_13 c M I) fun v49 => ?_
  refine .bind (store_13 c M I) fun _ => ?_
  refine .bind (load_14 c M I) fun v56 => ?_
  refine .bind (store_14 c M I) fun _ => ?_
  refine .bind (load_10 c M I) fun v59 => ?_
  refine .bind (store_10 c M I) fun _ => ?_
  refine .bind (load_11 c M I) fun v62 => ?_
  refine .bind (store_11 c M I) fun _ => ?_
  refine .bind (load_5 c M I) fun v65 => ?_
  refine .bind (load_4 c M I) fun v69 => ?_
  exact .pure _

theorem r_part46 (v0 : BitVec 32) (v71 : FVec F S256x128 .f32) (v72 : FVec F S256x128 .f32) :
    Runs c M I (k0_part46 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v71 v72) (s_part46 I i v0 v71 v72) := by
  rw [k0_part46_eq_skeleton]; unfold k0_part46_skel s_part46
  refine .bind (load_12 c M I) fun v79 => ?_
  refine .bind (store_12 c M I) fun _ => ?_
  refine .bind (load_15 c M I) fun v87 => ?_
  refine .bind (store_15 c M I) fun _ => ?_
  refine .bind (load_3 c M I) fun v90 => ?_
  exact .pure _

theorem r_part47 (v0 : BitVec 32) (v92 : FVec F S256x128 .f32) (v109 : IVec S256x1 32) (v111 : IVec S256x1 1) (v112 : IVec S256x1 32) :
    Runs c M I (k0_part47 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v92 v109 v111 v112) (s_part47 I i v0 v92 v109 v111 v112) := by
  rw [k0_part47_eq_skeleton]; unfold k0_part47_skel s_part47
  refine .bind (load_13 c M I) fun v135 => ?_
  refine .bind (store_13 c M I) fun _ => ?_
  refine .bind (load_14 c M I) fun v142 => ?_
  refine .bind (store_14 c M I) fun _ => ?_
  refine .bind (load_10 c M I) fun v145 => ?_
  refine .bind (store_10 c M I) fun _ => ?_
  refine .bind (load_11 c M I) fun v148 => ?_
  exact .pure _

theorem r_part48 (v0 : BitVec 32) (v150 : FVec F S1x256x1 .f32) :
    Runs c M I (k0_part48 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v150) (s_part48 I i v0 v150) := by
  rw [k0_part48_eq_skeleton]; unfold k0_part48_skel s_part48
  refine .bind (store_11 c M I) fun _ => ?_
  refine .bind (load_5 c M I) fun v151 => ?_
  refine .bind (load_4 c M I) fun v155 => ?_
  refine .bind (load_12 c M I) fun v165 => ?_
  refine .bind (store_12 c M I) fun _ => ?_
  refine .bind (load_15 c M I) fun v173 => ?_
  refine .bind (store_15 c M I) fun _ => ?_
  refine .bind (load_3 c M I) fun v176 => ?_
  exact .pure _

theorem r_part49 (v0 : BitVec 32) (v178 : FVec F S256x128 .f32) (v183 : FVec F S256x1 .f32) (v184 : IVec S256x1x256 32) (v185 : IVec S256x1x256 32) :
    Runs c M I (k0_part49 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v178 v183 v184 v185) (s_part49 I i v0 v178 v183 v184 v185) := by
  rw [k0_part49_eq_skeleton]; unfold k0_part49_skel s_part49
  refine .bind (load_13 c M I) fun v221 => ?_
  refine .bind (store_13 c M I) fun _ => ?_
  exact .pure _

theorem r_part50 (v0 : BitVec 32) (v206 : FVec F S256x1 .f32) (v218 : FVec F S256x128 .fp8e4m3) (v225 : FVec F S256x128 .f32) :
    Runs c M I (k0_part50 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v206 v218 v225) (s_part50 I i v0 v206 v218 v225) := by
  rw [k0_part50_eq_skeleton]; unfold k0_part50_skel s_part50
  refine .bind (load_14 c M I) fun v228 => ?_
  refine .bind (store_14 c M I) fun _ => ?_
  refine .bind (load_10 c M I) fun v231 => ?_
  refine .bind (store_10 c M I) fun _ => ?_
  refine .bind (load_11 c M I) fun v234 => ?_
  refine .bind (store_11 c M I) fun _ => ?_
  refine .bind (load_5 c M I) fun v237 => ?_
  refine .bind (load_4 c M I) fun v241 => ?_
  refine .bind (load_12 c M I) fun v251 => ?_
  refine .bind (store_12 c M I) fun _ => ?_
  refine .bind (load_15 c M I) fun v259 => ?_
  exact .pure _

theorem r_part51 (v261 : FVec F S1x1x128x256 .fp8e4m3) :
    Runs c M I (k0_part51 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v261) (s_part51 I i v261) := by
  rw [k0_part51_eq_skeleton]; unfold k0_part51_skel s_part51
  refine .bind (store_15 c M I) fun _ => ?_
  refine .bind (load_3 c M I) fun v262 => ?_
  exact .pure _

theorem r_part52 (v0 : BitVec 32) (v292 : FVec F S256x1 .f32) (v303 : FVec F S256x128 .f32) :
    Runs c M I (k0_part52 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v292 v303) (s_part52 I i v0 v292 v303) := by
  rw [k0_part52_eq_skeleton]; unfold k0_part52_skel s_part52
  refine .bind (load_13 c M I) fun v307 => ?_
  refine .bind (store_13 c M I) fun _ => ?_
  refine .bind (load_14 c M I) fun v314 => ?_
  refine .bind (store_14 c M I) fun _ => ?_
  refine .bind (load_10 c M I) fun v317 => ?_
  refine .bind (store_10 c M I) fun _ => ?_
  refine .bind (load_11 c M I) fun v320 => ?_
  refine .bind (store_11 c M I) fun _ => ?_
  refine .bind (load_5 c M I) fun v323 => ?_
  refine .bind (load_4 c M I) fun v327 => ?_
  exact .pure _

theorem r_part53 (v0 : BitVec 32) (v336 : FVec F S256x128 .fp8e4m3) :
    Runs c M I (k0_part53 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v336) (s_part53 I i v0 v336) := by
  rw [k0_part53_eq_skeleton]; unfold k0_part53_skel s_part53
  refine .bind (load_12 c M I) fun v337 => ?_
  refine .bind (store_12 c M I) fun _ => ?_
  refine .bind (load_15 c M I) fun v345 => ?_
  refine .bind (store_15 c M I) fun _ => ?_
  refine .bind (load_3 c M I) fun v348 => ?_
  exact .pure _

theorem r_part54 (v0 : BitVec 32) (v350 : FVec F S256x128 .f32) (v373 : IVec S256x1 32) (v375 : IVec S256x1 32) (v376 : IVec S256x1 32) :
    Runs c M I (k0_part54 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v350 v373 v375 v376) (s_part54 I i v0 v350 v373 v375 v376) := by
  rw [k0_part54_eq_skeleton]; unfold k0_part54_skel s_part54
  refine .bind (load_13 c M I) fun v393 => ?_
  refine .bind (store_13 c M I) fun _ => ?_
  refine .bind (load_14 c M I) fun v400 => ?_
  refine .bind (store_14 c M I) fun _ => ?_
  refine .bind (load_10 c M I) fun v403 => ?_
  refine .bind (store_10 c M I) fun _ => ?_
  refine .bind (load_11 c M I) fun v406 => ?_
  refine .bind (store_11 c M I) fun _ => ?_
  refine .bind (load_5 c M I) fun v409 => ?_
  exact .pure _

theorem r_part55 (v0 : BitVec 32) (v410 : FVec F S1x128 .f32) (v411 : FVec F S1x128 .f32) :
    Runs c M I (k0_part55 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v410 v411) (s_part55 I i v0 v410 v411) := by
  rw [k0_part55_eq_skeleton]; unfold k0_part55_skel s_part55
  refine .bind (load_4 c M I) fun v413 => ?_
  refine .bind (load_12 c M I) fun v423 => ?_
  refine .bind (store_12 c M I) fun _ => ?_
  refine .bind (load_15 c M I) fun v431 => ?_
  refine .bind (store_15 c M I) fun _ => ?_
  refine .bind (load_3 c M I) fun v434 => ?_
  exact .pure _

theorem r_part56 (v0 : BitVec 32) (v436 : FVec F S256x128 .f32) (v451 : IVec S256x1x256 1) :
    Runs c M I (k0_part56 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v436 v451) (s_part56 I i v0 v436 v451) := by
  rw [k0_part56_eq_skeleton]; unfold k0_part56_skel s_part56
  refine .bind (load_13 c M I) fun v479 => ?_
  refine .bind (store_13 c M I) fun _ => ?_
  refine .bind (load_14 c M I) fun v486 => ?_
  refine .bind (store_14 c M I) fun _ => ?_
  refine .bind (load_10 c M I) fun v489 => ?_
  exact .pure _

theorem r_part57 (v0 : BitVec 32) (v464 : FVec F S256x1 .f32) (v476 : FVec F S256x128 .fp8e4m3) :
    Runs c M I (k0_part57 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v464 v476) (s_part57 I i v0 v464 v476) := by
  rw [k0_part57_eq_skeleton]; unfold k0_part57_skel s_part57
  refine .bind (store_10 c M I) fun _ => ?_
  refine .bind (load_11 c M I) fun v492 => ?_
  refine .bind (store_11 c M I) fun _ => ?_
  refine .bind (load_5 c M I) fun v495 => ?_
  refine .bind (load_4 c M I) fun v499 => ?_
  refine .bind (load_12 c M I) fun v509 => ?_
  refine .bind (store_12 c M I) fun _ => ?_
  refine .bind (load_15 c M I) fun v517 => ?_
  refine .bind (store_15 c M I) fun _ => ?_
  refine .bind (load_3 c M I) fun v520 => ?_
  exact .pure _

theorem r_part58 (v0 : BitVec 32) (v522 : FVec F S256x128 .f32) (v523 : FVec F S256x128 .f32) :
    Runs c M I (k0_part58 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v522 v523) (s_part58 I i v0 v522 v523) := by
  rw [k0_part58_eq_skeleton]; unfold k0_part58_skel s_part58
  refine .bind (load_13 c M I) fun v565 => ?_
  exact .pure _

theorem r_part59 (v0 : BitVec 32) (v550 : FVec F S256x1 .f32) (v562 : FVec F S256x128 .fp8e4m3) (v567 : FVec F S1x256x128 .fp8e4m3) :
    Runs c M I (k0_part59 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v550 v562 v567) (s_part59 I i v0 v550 v562 v567) := by
  rw [k0_part59_eq_skeleton]; unfold k0_part59_skel s_part59
  refine .bind (store_13 c M I) fun _ => ?_
  refine .bind (load_14 c M I) fun v572 => ?_
  refine .bind (store_14 c M I) fun _ => ?_
  refine .bind (load_10 c M I) fun v575 => ?_
  refine .bind (store_10 c M I) fun _ => ?_
  refine .bind (load_11 c M I) fun v578 => ?_
  refine .bind (store_11 c M I) fun _ => ?_
  refine .bind (load_5 c M I) fun v581 => ?_
  refine .bind (load_4 c M I) fun v585 => ?_
  refine .bind (load_12 c M I) fun v595 => ?_
  refine .bind (store_12 c M I) fun _ => ?_
  exact .pure _

theorem r_part60 (v0 : BitVec 32) (v600 : FVec F S128x256 .fp8e4m3) :
    Runs c M I (k0_part60 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v600) (s_part60 I i v0 v600) := by
  rw [k0_part60_eq_skeleton]; unfold k0_part60_skel s_part60
  refine .bind (load_15 c M I) fun v603 => ?_
  refine .bind (store_15 c M I) fun _ => ?_
  refine .bind (load_3 c M I) fun v606 => ?_
  exact .pure _

theorem r_part61 (v0 : BitVec 32) (v608 : FVec F S256x128 .f32) (v636 : FVec F S256x1 .f32) (v641 : FVec F S256x1 .f32) :
    Runs c M I (k0_part61 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v608 v636 v641) (s_part61 I i v0 v608 v636 v641) := by
  rw [k0_part61_eq_skeleton]; unfold k0_part61_skel s_part61
  refine .bind (load_13 c M I) fun v651 => ?_
  refine .bind (store_13 c M I) fun _ => ?_
  refine .bind (load_14 c M I) fun v658 => ?_
  refine .bind (store_14 c M I) fun _ => ?_
  refine .bind (load_10 c M I) fun v661 => ?_
  refine .bind (store_10 c M I) fun _ => ?_
  refine .bind (load_11 c M I) fun v664 => ?_
  refine .bind (store_11 c M I) fun _ => ?_
  refine .bind (load_5 c M I) fun v667 => ?_
  refine .bind (load_4 c M I) fun v671 => ?_
  exact .pure _

theorem r_part62 (v0 : BitVec 32) (v675 : FVec F S256x128 .f32) :
    Runs c M I (k0_part62 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v675) (s_part62 I i v0 v675) := by
  rw [k0_part62_eq_skeleton]; unfold k0_part62_skel s_part62
  refine .bind (load_12 c M I) fun v681 => ?_
  refine .bind (store_12 c M I) fun _ => ?_
  refine .bind (load_15 c M I) fun v689 => ?_
  refine .bind (store_15 c M I) fun _ => ?_
  refine .bind (load_2 c M I) fun v692 => ?_
  exact .pure _

theorem r_part63 (v694 : FVec F S256x128 .f32) (v713 : IVec S256x1 1) (v715 : IVec S256x1 32) :
    Runs c M I (k0_part63 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v694 v713 v715) (s_part63 I i v694 v713 v715) := by
  rw [k0_part63_eq_skeleton]; unfold k0_part63_skel s_part63
  refine .bind (load_8 c M I) fun v735 => ?_
  refine .bind (store_8 c M I) fun _ => ?_
  refine .bind (load_9 c M I) fun v738 => ?_
  refine .bind (store_9 c M I) fun _ => ?_
  refine .bind (load_2 c M I) fun v741 => ?_
  exact .pure _

theorem r_part64 (v743 : FVec F S256x128 .f32) (v748 : FVec F S256x1 .f32) (v749 : IVec S256x1x256 32) (v752 : FVec F S256x1x256 .f32) (v753 : IVec S256x1x256 32) :
    Runs c M I (k0_part64 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v743 v748 v749 v752 v753) (s_part64 I i v743 v748 v749 v752 v753) := by
  rw [k0_part64_eq_skeleton]; unfold k0_part64_skel s_part64
  refine .bind (load_8 c M I) fun v784 => ?_
  refine .bind (store_8 c M I) fun _ => ?_
  refine .bind (load_9 c M I) fun v787 => ?_
  refine .bind (store_9 c M I) fun _ => ?_
  refine .bind (load_2 c M I) fun v790 => ?_
  exact .pure _

theorem r_part65 (v792 : FVec F S256x128 .f32) :
    Runs c M I (k0_part65 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v792) (s_part65 I i v792) := by
  rw [k0_part65_eq_skeleton]; unfold k0_part65_skel s_part65
  refine .bind (load_8 c M I) fun v833 => ?_
  exact .pure _

theorem r_part66 (v820 : FVec F S256x1 .f32) (v835 : FVec F S1x256x128 .fp8e4m3) :
    Runs c M I (k0_part66 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v820 v835) (s_part66 I i v820 v835) := by
  rw [k0_part66_eq_skeleton]; unfold k0_part66_skel s_part66
  refine .bind (store_8 c M I) fun _ => ?_
  refine .bind (load_9 c M I) fun v836 => ?_
  refine .bind (store_9 c M I) fun _ => ?_
  refine .bind (load_2 c M I) fun v839 => ?_
  exact .pure _

theorem r_part67 (v841 : FVec F S256x128 .f32) (v869 : FVec F S256x1 .f32) (v875 : FVec F S256x128 .f32) :
    Runs c M I (k0_part67 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v841 v869 v875) (s_part67 I i v841 v869 v875) := by
  rw [k0_part67_eq_skeleton]; unfold k0_part67_skel s_part67
  refine .bind (load_8 c M I) fun v882 => ?_
  refine .bind (store_8 c M I) fun _ => ?_
  refine .bind (load_9 c M I) fun v885 => ?_
  refine .bind (store_9 c M I) fun _ => ?_
  refine .bind (load_2 c M I) fun v888 => ?_
  exact .pure _

theorem r_part68 (v890 : FVec F S256x128 .f32) (v913 : IVec S256x1 32) (c127_i32_444 : BitVec 32) :
    Runs c M I (k0_part68 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v890 v913 c127_i32_444) (s_part68 I i v890 v913 c127_i32_444) := by
  rw [k0_part68_eq_skeleton]; unfold k0_part68_skel s_part68
  refine .bind (load_8 c M I) fun v931 => ?_
  refine .bind (store_8 c M I) fun _ => ?_
  refine .bind (load_9 c M I) fun v934 => ?_
  refine .bind (store_9 c M I) fun _ => ?_
  refine .bind (load_2 c M I) fun v937 => ?_
  exact .pure _

theorem r_part69 (v939 : FVec F S256x128 .f32) (v950 : IVec S256x1x256 1) (v953 : IVec S256x1x256 1) :
    Runs c M I (k0_part69 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v939 v950 v953) (s_part69 I i v939 v950 v953) := by
  rw [k0_part69_eq_skeleton]; unfold k0_part69_skel s_part69
  refine .bind (load_8 c M I) fun v980 => ?_
  refine .bind (store_8 c M I) fun _ => ?_
  refine .bind (load_9 c M I) fun v983 => ?_
  refine .bind (store_9 c M I) fun _ => ?_
  refine .bind (load_2 c M I) fun v986 => ?_
  exact .pure _

theorem r_part70 (v988 : FVec F S256x128 .f32) (v991 : FVec F S256x1 .f32) :
    Runs c M I (k0_part70 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v988 v991) (s_part70 I i v988 v991) := by
  rw [k0_part70_eq_skeleton]; unfold k0_part70_skel s_part70
  refine .bind (load_8 c M I) fun v1029 => ?_
  refine .bind (store_8 c M I) fun _ => ?_
  exact .pure _

theorem r_part71 (v1016 : FVec F S256x1 .f32) :
    Runs c M I (k0_part71 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1016) (s_part71 I i v1016) := by
  rw [k0_part71_eq_skeleton]; unfold k0_part71_skel s_part71
  refine .bind (load_9 c M I) fun v1032 => ?_
  refine .bind (store_9 c M I) fun _ => ?_
  refine .bind (load_2 c M I) fun v1035 => ?_
  exact .pure _

theorem r_part72 (v1065 : FVec F S256x1 .f32) (v1072 : FVec F S256x128 .f32) (cst_518 : F .f32) (v1073 : FVec F S256x128 .f32) :
    Runs c M I (k0_part72 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1065 v1072 cst_518 v1073) (s_part72 I i v1065 v1072 cst_518 v1073) := by
  rw [k0_part72_eq_skeleton]; unfold k0_part72_skel s_part72
  refine .bind (load_8 c M I) fun v1078 => ?_
  refine .bind (store_8 c M I) fun _ => ?_
  refine .bind (load_9 c M I) fun v1081 => ?_
  refine .bind (store_9 c M I) fun _ => ?_
  refine .bind (load_2 c M I) fun v1084 => ?_
  exact .pure _

theorem r_part73 (v1086 : FVec F S256x128 .f32) (v1109 : IVec S256x1 32) (v1111 : IVec S256x1 32) (v1112 : IVec S256x1 32) :
    Runs c M I (k0_part73 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1086 v1109 v1111 v1112) (s_part73 I i v1086 v1109 v1111 v1112) := by
  rw [k0_part73_eq_skeleton]; unfold k0_part73_skel s_part73
  refine .bind (load_8 c M I) fun v1127 => ?_
  refine .bind (store_8 c M I) fun _ => ?_
  refine .bind (load_9 c M I) fun v1130 => ?_
  refine .bind (store_9 c M I) fun _ => ?_
  refine .bind (load_2 c M I) fun v1133 => ?_
  exact .pure _

theorem r_part74 (v1135 : FVec F S256x128 .f32) (v1152 : IVec S256x1 32) :
    Runs c M I (k0_part74 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1135 v1152) (s_part74 I i v1135 v1152) := by
  rw [k0_part74_eq_skeleton]; unfold k0_part74_skel s_part74
  refine .bind (load_8 c M I) fun v1176 => ?_
  refine .bind (store_8 c M I) fun _ => ?_
  refine .bind (load_9 c M I) fun v1179 => ?_
  refine .bind (store_9 c M I) fun _ => ?_
  refine .bind (load_2 c M I) fun v1182 => ?_
  exact .pure _

theorem r_part75 (v1184 : FVec F S256x128 .f32) (v1189 : FVec F S256x1 .f32) (v1190 : IVec S256x1x256 32) :
    Runs c M I (k0_part75 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1184 v1189 v1190) (s_part75 I i v1184 v1189 v1190) := by
  rw [k0_part75_eq_skeleton]; unfold k0_part75_skel s_part75
  refine .bind (load_8 c M I) fun v1225 => ?_
  refine .bind (store_8 c M I) fun _ => ?_
  refine .bind (load_9 c M I) fun v1228 => ?_
  refine .bind (store_9 c M I) fun _ => ?_
  exact .pure _

theorem r_part76  :
    Runs c M I (k0_part76 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part76 I i ) := by
  rw [k0_part76_eq_skeleton]; unfold k0_part76_skel s_part76
  refine .bind (load_2 c M I) fun v1231 => ?_
  exact .pure _

theorem r_part77 (v1261 : FVec F S256x1 .f32) (v1273 : FVec F S256x128 .fp8e4m3) :
    Runs c M I (k0_part77 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1261 v1273) (s_part77 I i v1261 v1273) := by
  rw [k0_part77_eq_skeleton]; unfold k0_part77_skel s_part77
  refine .bind (load_8 c M I) fun v1274 => ?_
  refine .bind (store_8 c M I) fun _ => ?_
  refine .bind (load_9 c M I) fun v1277 => ?_
  refine .bind (store_9 c M I) fun _ => ?_
  refine .bind (load_2 c M I) fun v1280 => ?_
  exact .pure _

theorem r_part78 (v1282 : FVec F S256x128 .f32) (v1305 : IVec S256x1 32) (v1310 : FVec F S256x1 .f32) (v1311 : IVec S256x1 32) :
    Runs c M I (k0_part78 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1282 v1305 v1310 v1311) (s_part78 I i v1282 v1305 v1310 v1311) := by
  rw [k0_part78_eq_skeleton]; unfold k0_part78_skel s_part78
  refine .bind (load_8 c M I) fun v1323 => ?_
  refine .bind (store_8 c M I) fun _ => ?_
  refine .bind (load_9 c M I) fun v1326 => ?_
  refine .bind (store_9 c M I) fun _ => ?_
  refine .bind (load_2 c M I) fun v1329 => ?_
  exact .pure _

theorem r_part79 (v1331 : FVec F S256x128 .f32) (v1348 : IVec S256x1 32) (v1350 : IVec S256x1 1) (c126_i32_638 : BitVec 32) :
    Runs c M I (k0_part79 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1331 v1348 v1350 c126_i32_638) (s_part79 I i v1331 v1348 v1350 c126_i32_638) := by
  rw [k0_part79_eq_skeleton]; unfold k0_part79_skel s_part79
  refine .bind (load_8 c M I) fun v1372 => ?_
  refine .bind (store_8 c M I) fun _ => ?_
  refine .bind (load_9 c M I) fun v1375 => ?_
  refine .bind (store_9 c M I) fun _ => ?_
  refine .bind (load_2 c M I) fun v1378 => ?_
  exact .pure _

theorem r_part80 (v1380 : FVec F S256x128 .f32) (v1385 : FVec F S256x1 .f32) (v1386 : IVec S256x1x256 32) (v1389 : FVec F S256x1x256 .f32) :
    Runs c M I (k0_part80 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1380 v1385 v1386 v1389) (s_part80 I i v1380 v1385 v1386 v1389) := by
  rw [k0_part80_eq_skeleton]; unfold k0_part80_skel s_part80
  refine .bind (load_8 c M I) fun v1421 => ?_
  refine .bind (store_8 c M I) fun _ => ?_
  refine .bind (load_9 c M I) fun v1424 => ?_
  refine .bind (store_9 c M I) fun _ => ?_
  refine load_2 c M I

theorem r_part81 (v1427 : Vec F S1x256x128 .bf16) :
    Runs c M I (k0_part81 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1427) (s_part81 I i v1427) := by
  rw [k0_part81_eq_skeleton]; unfold k0_part81_skel s_part81
  refine .bind (load_8 c M I) fun v1470 => ?_
  exact .pure _

theorem r_part82 (v1457 : FVec F S256x1 .f32) (v1469 : FVec F S256x128 .fp8e4m3) (v1470 : Vec F S1x256x128 .fp8e4m3) :
    Runs c M I (k0_part82 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1457 v1469 v1470) (s_part82 I i v1457 v1469 v1470) := by
  rw [k0_part82_eq_skeleton]; unfold k0_part82_skel s_part82
  refine .bind (store_8 c M I) fun _ => ?_
  refine .bind (load_9 c M I) fun v1473 => ?_
  refine .bind (store_9 c M I) fun _ => ?_
  refine .bind (load_2 c M I) fun v1476 => ?_
  exact .pure _

theorem r_part83 (v1478 : FVec F S256x128 .f32) (v1506 : FVec F S256x1 .f32) (v1510 : IVec S256x1 32) :
    Runs c M I (k0_part83 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1478 v1506 v1510) (s_part83 I i v1478 v1506 v1510) := by
  rw [k0_part83_eq_skeleton]; unfold k0_part83_skel s_part83
  refine .bind (load_8 c M I) fun v1519 => ?_
  refine .bind (store_8 c M I) fun _ => ?_
  refine .bind (load_9 c M I) fun v1522 => ?_
  refine .bind (store_9 c M I) fun _ => ?_
  refine .bind (load_2 c M I) fun v1525 => ?_
  exact .pure _

theorem r_part84 (v1527 : FVec F S256x128 .f32) (v1546 : IVec S256x1 1) (v1548 : IVec S256x1 32) (v1549 : IVec S256x1 32) :
    Runs c M I (k0_part84 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1527 v1546 v1548 v1549) (s_part84 I i v1527 v1546 v1548 v1549) := by
  rw [k0_part84_eq_skeleton]; unfold k0_part84_skel s_part84
  refine .bind (load_8 c M I) fun v1568 => ?_
  refine .bind (store_8 c M I) fun _ => ?_
  refine .bind (load_9 c M I) fun v1571 => ?_
  refine .bind (store_9 c M I) fun _ => ?_
  refine .bind (load_2 c M I) fun v1574 => ?_
  exact .pure _

theorem r_part85 (v1576 : FVec F S256x128 .f32) (v1585 : FVec F S256x1x256 .f32) (v1587 : IVec S256x1x256 1) (v1588 : FVec F S256x1x1 .f32) :
    Runs c M I (k0_part85 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1576 v1585 v1587 v1588) (s_part85 I i v1576 v1585 v1587 v1588) := by
  rw [k0_part85_eq_skeleton]; unfold k0_part85_skel s_part85
  refine .bind (load_8 c M I) fun v1617 => ?_
  refine .bind (store_8 c M I) fun _ => ?_
  refine .bind (load_9 c M I) fun v1620 => ?_
  refine .bind (store_9 c M I) fun _ => ?_
  refine .bind (load_2 c M I) fun v1623 => ?_
  exact .pure _

theorem r_part86 (v1625 : FVec F S256x128 .f32) (v1626 : FVec F S256x128 .f32) :
    Runs c M I (k0_part86 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1625 v1626) (s_part86 I i v1625 v1626) := by
  rw [k0_part86_eq_skeleton]; unfold k0_part86_skel s_part86
  refine .bind (load_8 c M I) fun v1666 => ?_
  refine .bind (store_8 c M I) fun _ => ?_
  exact .pure _

theorem r_part87 (v1653 : FVec F S256x1 .f32) :
    Runs c M I (k0_part87 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1653) (s_part87 I i v1653) := by
  rw [k0_part87_eq_skeleton]; unfold k0_part87_skel s_part87
  refine .bind (load_9 c M I) fun v1669 => ?_
  refine .bind (store_9 c M I) fun _ => ?_
  refine .bind (load_2 c M I) fun v1672 => ?_
  exact .pure _

theorem r_part88 (v1702 : FVec F S256x1 .f32) (v1709 : FVec F S256x128 .f32) (cst_791 : F .f32) :
    Runs c M I (k0_part88 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1702 v1709 cst_791) (s_part88 I i v1702 v1709 cst_791) := by
  rw [k0_part88_eq_skeleton]; unfold k0_part88_skel s_part88
  refine .bind (load_8 c M I) fun v1715 => ?_
  refine .bind (store_8 c M I) fun _ => ?_
  refine .bind (load_9 c M I) fun v1718 => ?_
  refine .bind (store_9 c M I) fun _ => ?_
  refine .bind (load_2 c M I) fun v1721 => ?_
  exact .pure _

theorem r_part89 (v1723 : FVec F S256x128 .f32) (v1746 : IVec S256x1 32) (v1748 : IVec S256x1 32) :
    Runs c M I (k0_part89 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1723 v1746 v1748) (s_part89 I i v1723 v1746 v1748) := by
  rw [k0_part89_eq_skeleton]; unfold k0_part89_skel s_part89
  refine .bind (load_8 c M I) fun v1764 => ?_
  refine .bind (store_8 c M I) fun _ => ?_
  refine .bind (load_9 c M I) fun v1767 => ?_
  refine .bind (store_9 c M I) fun _ => ?_
  refine .bind (load_2 c M I) fun v1770 => ?_
  exact .pure _

theorem r_part90 (v1772 : FVec F S256x128 .f32) (v1788 : IVec S256x1x256 32) :
    Runs c M I (k0_part90 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1772 v1788) (s_part90 I i v1772 v1788) := by
  rw [k0_part90_eq_skeleton]; unfold k0_part90_skel s_part90
  refine .bind (load_8 c M I) fun v1813 => ?_
  refine .bind (store_8 c M I) fun _ => ?_
  refine .bind (load_9 c M I) fun v1816 => ?_
  refine .bind (store_9 c M I) fun _ => ?_
  refine .bind (load_2 c M I) fun v1819 => ?_
  exact .pure _

theorem r_part91 (v1821 : FVec F S256x128 .f32) (v1824 : FVec F S256x1 .f32) (v1825 : FVec F S256x1 .f32) :
    Runs c M I (k0_part91 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1821 v1824 v1825) (s_part91 I i v1821 v1824 v1825) := by
  rw [k0_part91_eq_skeleton]; unfold k0_part91_skel s_part91
  refine .bind (load_8 c M I) fun v1862 => ?_
  refine .bind (store_8 c M I) fun _ => ?_
  refine .bind (load_9 c M I) fun v1865 => ?_
  exact .pure _

theorem r_part92 (v1849 : FVec F S256x1 .f32) :
    Runs c M I (k0_part92 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1849) (s_part92 I i v1849) := by
  rw [k0_part92_eq_skeleton]; unfold k0_part92_skel s_part92
  refine .bind (store_9 c M I) fun _ => ?_
  refine .bind (load_2 c M I) fun v1868 => ?_
  exact .pure _

theorem r_part93 (v1898 : FVec F S256x1 .f32) (v1907 : FVec F S256x128 .f32) (v1908 : FVec F S256x128 .f32) :
    Runs c M I (k0_part93 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1898 v1907 v1908) (s_part93 I i v1898 v1907 v1908) := by
  rw [k0_part93_eq_skeleton]; unfold k0_part93_skel s_part93
  refine .bind (load_8 c M I) fun v1911 => ?_
  refine .bind (store_8 c M I) fun _ => ?_
  refine .bind (load_9 c M I) fun v1914 => ?_
  refine .bind (store_9 c M I) fun _ => ?_
  refine .bind (load_2 c M I) fun v1917 => ?_
  exact .pure _

theorem r_part94 (v1919 : FVec F S256x128 .f32) (v1942 : IVec S256x1 32) (v1947 : FVec F S256x1 .f32) :
    Runs c M I (k0_part94 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1919 v1942 v1947) (s_part94 I i v1919 v1942 v1947) := by
  rw [k0_part94_eq_skeleton]; unfold k0_part94_skel s_part94
  refine .bind (load_8 c M I) fun v1960 => ?_
  refine .bind (store_8 c M I) fun _ => ?_
  refine .bind (load_9 c M I) fun v1963 => ?_
  refine .bind (store_9 c M I) fun _ => ?_
  refine .bind (load_2 c M I) fun v1966 => ?_
  exact .pure _

theorem r_part95 (v1968 : FVec F S256x128 .f32) (v1985 : IVec S256x1 32) (v1986 : IVec S256x1 32) :
    Runs c M I (k0_part95 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1968 v1985 v1986) (s_part95 I i v1968 v1985 v1986) := by
  rw [k0_part95_eq_skeleton]; unfold k0_part95_skel s_part95
  refine .bind (load_8 c M I) fun v2009 => ?_
  refine .bind (store_8 c M I) fun _ => ?_
  refine .bind (load_9 c M I) fun v2012 => ?_
  refine .bind (store_9 c M I) fun _ => ?_
  refine .bind (load_2 c M I) fun v2015 => ?_
  exact .pure _

theorem r_part96 (v2017 : FVec F S256x128 .f32) (v2022 : FVec F S256x1 .f32) (v2023 : IVec S256x1x256 32) (v2024 : IVec S256x1x256 32) :
    Runs c M I (k0_part96 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2017 v2022 v2023 v2024) (s_part96 I i v2017 v2022 v2023 v2024) := by
  rw [k0_part96_eq_skeleton]; unfold k0_part96_skel s_part96
  refine .bind (load_8 c M I) fun v2058 => ?_
  refine .bind (store_8 c M I) fun _ => ?_
  refine .bind (load_9 c M I) fun v2061 => ?_
  refine .bind (store_9 c M I) fun _ => ?_
  exact .pure _

theorem r_part97  :
    Runs c M I (k0_part97 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part97 I i ) := by
  rw [k0_part97_eq_skeleton]; unfold k0_part97_skel s_part97
  refine .bind (load_2 c M I) fun v2064 => ?_
  exact .pure _

theorem r_part98 (v2094 : FVec F S256x1 .f32) (v2106 : FVec F S256x128 .fp8e4m3) :
    Runs c M I (k0_part98 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2094 v2106) (s_part98 I i v2094 v2106) := by
  rw [k0_part98_eq_skeleton]; unfold k0_part98_skel s_part98
  refine .bind (load_8 c M I) fun v2107 => ?_
  refine .bind (store_8 c M I) fun _ => ?_
  refine .bind (load_9 c M I) fun v2110 => ?_
  refine .bind (store_9 c M I) fun _ => ?_
  refine .bind (load_2 c M I) fun v2113 => ?_
  exact .pure _

theorem r_part99 (v2115 : FVec F S256x128 .f32) (v2143 : FVec F S256x1 .f32) (v2145 : IVec S256x1 32) (c23_i32_979 : BitVec 32) :
    Runs c M I (k0_part99 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2115 v2143 v2145 c23_i32_979) (s_part99 I i v2115 v2143 v2145 c23_i32_979) := by
  rw [k0_part99_eq_skeleton]; unfold k0_part99_skel s_part99
  refine .bind (load_8 c M I) fun v2156 => ?_
  refine .bind (store_8 c M I) fun _ => ?_
  refine .bind (load_9 c M I) fun v2159 => ?_
  refine .bind (store_9 c M I) fun _ => ?_
  refine .bind (load_2 c M I) fun v2162 => ?_
  exact .pure _

theorem r_part100 (v2164 : FVec F S256x128 .f32) (v2183 : IVec S256x1 1) (v2185 : IVec S256x1 32) :
    Runs c M I (k0_part100 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2164 v2183 v2185) (s_part100 I i v2164 v2183 v2185) := by
  rw [k0_part100_eq_skeleton]; unfold k0_part100_skel s_part100
  refine .bind (load_8 c M I) fun v2205 => ?_
  refine .bind (store_8 c M I) fun _ => ?_
  refine .bind (load_9 c M I) fun v2208 => ?_
  refine .bind (store_9 c M I) fun _ => ?_
  refine .bind (load_2 c M I) fun v2211 => ?_
  exact .pure _

theorem r_part101 (v2213 : FVec F S256x128 .f32) (v2218 : FVec F S256x1 .f32) (v2219 : IVec S256x1x256 32) (v2222 : FVec F S256x1x256 .f32) (v2223 : IVec S256x1x256 32) :
    Runs c M I (k0_part101 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2213 v2218 v2219 v2222 v2223) (s_part101 I i v2213 v2218 v2219 v2222 v2223) := by
  rw [k0_part101_eq_skeleton]; unfold k0_part101_skel s_part101
  refine .bind (load_8 c M I) fun v2254 => ?_
  refine .bind (store_8 c M I) fun _ => ?_
  refine .bind (load_9 c M I) fun v2257 => ?_
  refine .bind (store_9 c M I) fun _ => ?_
  refine .bind (load_9 c M I) fun v2260 => ?_
  exact .pure _

theorem r_part102 (v2262 : FVec F S32x256 .f32) :
    Runs c M I (k0_part102 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2262) (s_part102 I i v2262) := by
  rw [k0_part102_eq_skeleton]; unfold k0_part102_skel s_part102
  refine .bind (load_16 c M I) fun v2268 => ?_
  refine .bind (store_16 c M I) fun _ => ?_
  refine .bind (load_16 c M I) fun v2274 => ?_
  refine .bind (store_16 c M I) fun _ => ?_
  refine .bind (load_16 c M I) fun v2280 => ?_
  refine .bind (store_16 c M I) fun _ => ?_
  refine .bind (load_16 c M I) fun v2286 => ?_
  refine .bind (store_16 c M I) fun _ => ?_
  refine .bind (load_16 c M I) fun v2292 => ?_
  refine .bind (store_16 c M I) fun _ => ?_
  exact .pure _

theorem r_part103 (v2264 : FVec F S32x256 .f32) (v2296 : FVec F S1x128 .f32) :
    Runs c M I (k0_part103 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2296) (s_part103 I i v2264 v2296) := by
  rw [k0_part103_eq_skeleton]; unfold k0_part103_skel s_part103
  refine .bind (load_16 c M I) fun v2298 => ?_
  refine .bind (store_16 c M I) fun _ => ?_
  refine .bind (load_16 c M I) fun v2304 => ?_
  refine .bind (store_16 c M I) fun _ => ?_
  refine .bind (load_16 c M I) fun v2310 => ?_
  refine .bind (store_16 c M I) fun _ => ?_
  refine .bind (load_16 c M I) fun v2316 => ?_
  refine .bind (store_16 c M I) fun _ => ?_
  refine .bind (load_16 c M I) fun v2322 => ?_
  refine .bind (store_16 c M I) fun _ => ?_
  exact .pure _

theorem r_part114  :
    Runs c M I (k0_part114 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part114 I i ) := by
  rw [k0_part114_eq_skeleton]; unfold k0_part114_skel s_part114
  refine .bind (r_part44 c M hM I i ) fun ⟨arg1, v0, v6, v34, v38⟩ => ?_
  refine .bind (r_part45 c M hM I i _ _ _ _) fun ⟨v71, v72⟩ => ?_
  refine .bind (r_part46 c M hM I i _ _ _) fun ⟨v92, v109, v111, v112⟩ => ?_
  refine .bind (r_part47 c M hM I i _ _ _ _ _) fun v150 => ?_
  refine .bind (r_part48 c M hM I i _ _) fun ⟨v178, v183, v184, v185⟩ => ?_
  refine .bind (r_part49 c M hM I i _ _ _ _ _) fun ⟨v206, v218, v225⟩ => ?_
  refine .bind (r_part50 c M hM I i _ _ _ _) fun v261 => ?_
  refine .bind (r_part51 c M hM I i _) fun ⟨v292, v303⟩ => ?_
  refine .bind (r_part52 c M hM I i _ _ _) fun v336 => ?_
  refine .bind (r_part53 c M hM I i _ _) fun ⟨v350, v373, v375, v376⟩ => ?_
  refine .bind (r_part54 c M hM I i _ _ _ _ _) fun ⟨v410, v411⟩ => ?_
  refine .bind (r_part55 c M hM I i _ _ _) fun ⟨v436, v451⟩ => ?_
  refine .bind (r_part56 c M hM I i _ _ _) fun ⟨v464, v476⟩ => ?_
  refine .bind (r_part57 c M hM I i _ _ _) fun ⟨v522, v523⟩ => ?_
  refine .bind (r_part58 c M hM I i _ _ _) fun ⟨v550, v562, v567⟩ => ?_
  refine .bind (r_part59 c M hM I i _ _ _ _) fun v600 => ?_
  refine .bind (r_part60 c M hM I i _ _) fun ⟨v608, v636, v641⟩ => ?_
  refine .bind (r_part61 c M hM I i _ _ _ _) fun v675 => ?_
  refine .bind (r_part62 c M hM I i _ _) fun ⟨v694, v713, v715⟩ => ?_
  refine .bind (r_part63 c M hM I i _ _ _) fun ⟨v743, v748, v749, v752, v753⟩ => ?_
  refine .bind (r_part64 c M hM I i _ _ _ _ _) fun v792 => ?_
  refine .bind (r_part65 c M hM I i _) fun ⟨v820, v835⟩ => ?_
  refine .bind (r_part66 c M hM I i _ _) fun ⟨v841, v869, v875⟩ => ?_
  refine .bind (r_part67 c M hM I i _ _ _) fun ⟨v890, v913, c127_i32_444⟩ => ?_
  refine .bind (r_part68 c M hM I i _ _ _) fun ⟨v939, v950, v953⟩ => ?_
  refine .bind (r_part69 c M hM I i _ _ _) fun ⟨v988, v991⟩ => ?_
  refine .bind (r_part70 c M hM I i _ _) fun v1016 => ?_
  refine .bind (r_part71 c M hM I i _) fun ⟨v1065, v1072, cst_518, v1073⟩ => ?_
  refine .bind (r_part72 c M hM I i _ _ _ _) fun ⟨v1086, v1109, v1111, v1112⟩ => ?_
  refine .bind (r_part73 c M hM I i _ _ _ _) fun ⟨v1135, v1152⟩ => ?_
  refine .bind (r_part74 c M hM I i _ _) fun ⟨v1184, v1189, v1190⟩ => ?_
  refine .bind (r_part75 c M hM I i _ _ _) fun _ => ?_
  refine .bind (r_part76 c M hM I i ) fun ⟨v1261, v1273⟩ => ?_
  refine .bind (r_part77 c M hM I i _ _) fun ⟨v1282, v1305, v1310, v1311⟩ => ?_
  refine .bind (r_part78 c M hM I i _ _ _ _) fun ⟨v1331, v1348, v1350, c126_i32_638⟩ => ?_
  refine .bind (r_part79 c M hM I i _ _ _ _) fun ⟨v1380, v1385, v1386, v1389⟩ => ?_
  refine .bind (r_part80 c M hM I i _ _ _ _) fun v1427 => ?_
  refine .bind (r_part81 c M hM I i _) fun ⟨v1457, v1469, v1470⟩ => ?_
  refine .bind (r_part82 c M hM I i _ _ _) fun ⟨v1478, v1506, v1510⟩ => ?_
  refine .bind (r_part83 c M hM I i _ _ _) fun ⟨v1527, v1546, v1548, v1549⟩ => ?_
  refine .bind (r_part84 c M hM I i _ _ _ _) fun ⟨v1576, v1585, v1587, v1588⟩ => ?_
  refine .bind (r_part85 c M hM I i _ _ _ _) fun ⟨v1625, v1626⟩ => ?_
  refine .bind (r_part86 c M hM I i _ _) fun v1653 => ?_
  refine .bind (r_part87 c M hM I i _) fun ⟨v1702, v1709, cst_791⟩ => ?_
  refine .bind (r_part88 c M hM I i _ _ _) fun ⟨v1723, v1746, v1748⟩ => ?_
  refine .bind (r_part89 c M hM I i _ _ _) fun ⟨v1772, v1788⟩ => ?_
  refine .bind (r_part90 c M hM I i _ _) fun ⟨v1821, v1824, v1825⟩ => ?_
  refine .bind (r_part91 c M hM I i _ _ _) fun v1849 => ?_
  refine .bind (r_part92 c M hM I i _) fun ⟨v1898, v1907, v1908⟩ => ?_
  refine .bind (r_part93 c M hM I i _ _ _) fun ⟨v1919, v1942, v1947⟩ => ?_
  refine .bind (r_part94 c M hM I i _ _ _) fun ⟨v1968, v1985, v1986⟩ => ?_
  refine .bind (r_part95 c M hM I i _ _ _) fun ⟨v2017, v2022, v2023, v2024⟩ => ?_
  refine .bind (r_part96 c M hM I i _ _ _ _) fun _ => ?_
  refine .bind (r_part97 c M hM I i ) fun ⟨v2094, v2106⟩ => ?_
  refine .bind (r_part98 c M hM I i _ _) fun ⟨v2115, v2143, v2145, c23_i32_979⟩ => ?_
  refine .bind (r_part99 c M hM I i _ _ _ _) fun ⟨v2164, v2183, v2185⟩ => ?_
  refine .bind (r_part100 c M hM I i _ _ _) fun ⟨v2213, v2218, v2219, v2222, v2223⟩ => ?_
  refine .bind (r_part101 c M hM I i _ _ _ _ _) fun v2262 => ?_
  refine .bind (r_part102 c M hM I i _) fun ⟨v2264, v2296⟩ => ?_
  refine .bind (r_part103 c M hM I i _ _) fun v2327 => ?_
  exact .pure _

theorem r_part104 (v2264 : FVec F S32x256 .f32) (v2327 : FVec F S8x128 .f32) :
    Runs c M I (k0_part104 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2327) (s_part104 I i v2264 v2327) := by
  rw [k0_part104_eq_skeleton]; unfold k0_part104_skel s_part104
  refine .bind (load_16 c M I) fun v2328 => ?_
  refine .bind (store_16 c M I) fun _ => ?_
  refine .bind (load_16 c M I) fun v2334 => ?_
  refine .bind (store_16 c M I) fun _ => ?_
  refine .bind (load_16 c M I) fun v2340 => ?_
  refine .bind (store_16 c M I) fun _ => ?_
  refine .bind (load_16 c M I) fun v2346 => ?_
  refine .bind (store_16 c M I) fun _ => ?_
  refine .bind (load_16 c M I) fun v2352 => ?_
  refine .bind (store_16 c M I) fun _ => ?_
  refine .bind (load_16 c M I) fun v2358 => ?_
  refine .bind (store_16 c M I) fun _ => ?_
  exact .pure _

theorem r_part105 (v2264 : FVec F S32x256 .f32) (v2361 : FVec F S1x128 .f32) :
    Runs c M I (k0_part105 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2361) (s_part105 I i v2264 v2361) := by
  rw [k0_part105_eq_skeleton]; unfold k0_part105_skel s_part105
  refine .bind (load_16 c M I) fun v2364 => ?_
  refine .bind (store_16 c M I) fun _ => ?_
  refine .bind (load_16 c M I) fun v2370 => ?_
  refine .bind (store_16 c M I) fun _ => ?_
  refine .bind (load_16 c M I) fun v2376 => ?_
  refine .bind (store_16 c M I) fun _ => ?_
  refine .bind (load_16 c M I) fun v2382 => ?_
  refine .bind (store_16 c M I) fun _ => ?_
  refine .bind (load_16 c M I) fun v2388 => ?_
  refine .bind (store_16 c M I) fun _ => ?_
  exact .pure _

theorem r_part106 (v2264 : FVec F S32x256 .f32) (v2393 : FVec F S8x128 .f32) :
    Runs c M I (k0_part106 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2393) (s_part106 I i v2264 v2393) := by
  rw [k0_part106_eq_skeleton]; unfold k0_part106_skel s_part106
  refine .bind (load_16 c M I) fun v2394 => ?_
  refine .bind (store_16 c M I) fun _ => ?_
  refine .bind (load_16 c M I) fun v2400 => ?_
  refine .bind (store_16 c M I) fun _ => ?_
  refine .bind (load_16 c M I) fun v2406 => ?_
  refine .bind (store_16 c M I) fun _ => ?_
  refine .bind (load_16 c M I) fun v2412 => ?_
  refine .bind (store_16 c M I) fun _ => ?_
  refine .bind (load_16 c M I) fun v2418 => ?_
  refine .bind (store_16 c M I) fun _ => ?_
  refine .bind (load_16 c M I) fun v2424 => ?_
  refine .bind (store_16 c M I) fun _ => ?_
  exact .pure _

theorem r_part107 (v2264 : FVec F S32x256 .f32) :
    Runs c M I (k0_part107 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264) (s_part107 I i v2264) := by
  rw [k0_part107_eq_skeleton]; unfold k0_part107_skel s_part107
  refine .bind (load_16 c M I) fun v2430 => ?_
  refine .bind (store_16 c M I) fun _ => ?_
  refine .bind (load_16 c M I) fun v2436 => ?_
  refine .bind (store_16 c M I) fun _ => ?_
  refine .bind (load_16 c M I) fun v2442 => ?_
  refine .bind (store_16 c M I) fun _ => ?_
  refine .bind (load_16 c M I) fun v2448 => ?_
  refine .bind (store_16 c M I) fun _ => ?_
  refine .bind (load_16 c M I) fun v2454 => ?_
  refine .bind (store_16 c M I) fun _ => ?_
  exact .pure _

theorem r_part108 (v2264 : FVec F S32x256 .f32) (v2459 : FVec F S8x128 .f32) :
    Runs c M I (k0_part108 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2459) (s_part108 I i v2264 v2459) := by
  rw [k0_part108_eq_skeleton]; unfold k0_part108_skel s_part108
  refine .bind (load_16 c M I) fun v2460 => ?_
  refine .bind (store_16 c M I) fun _ => ?_
  refine .bind (load_16 c M I) fun v2466 => ?_
  refine .bind (store_16 c M I) fun _ => ?_
  refine .bind (load_16 c M I) fun v2472 => ?_
  refine .bind (store_16 c M I) fun _ => ?_
  refine .bind (load_16 c M I) fun v2478 => ?_
  refine .bind (store_16 c M I) fun _ => ?_
  refine .bind (load_16 c M I) fun v2484 => ?_
  refine .bind (store_16 c M I) fun _ => ?_
  refine .bind (load_16 c M I) fun v2490 => ?_
  exact .pure _

theorem r_part109 (v2264 : FVec F S32x256 .f32) (v2492 : FVec F S1x1x8x128 .f32) :
    Runs c M I (k0_part109 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2492) (s_part109 I i v2264 v2492) := by
  rw [k0_part109_eq_skeleton]; unfold k0_part109_skel s_part109
  refine .bind (store_16 c M I) fun _ => ?_
  refine .bind (load_16 c M I) fun v2496 => ?_
  refine .bind (store_16 c M I) fun _ => ?_
  refine .bind (load_16 c M I) fun v2502 => ?_
  refine .bind (store_16 c M I) fun _ => ?_
  refine .bind (load_16 c M I) fun v2508 => ?_
  refine .bind (store_16 c M I) fun _ => ?_
  refine .bind (load_16 c M I) fun v2514 => ?_
  refine .bind (store_16 c M I) fun _ => ?_
  refine .bind (load_16 c M I) fun v2520 => ?_
  refine .bind (store_16 c M I) fun _ => ?_
  exact .pure _

theorem r_part110 (v2264 : FVec F S32x256 .f32) (v2525 : FVec F S8x128 .f32) :
    Runs c M I (k0_part110 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2525) (s_part110 I i v2264 v2525) := by
  rw [k0_part110_eq_skeleton]; unfold k0_part110_skel s_part110
  refine .bind (load_16 c M I) fun v2526 => ?_
  refine .bind (store_16 c M I) fun _ => ?_
  refine .bind (load_16 c M I) fun v2532 => ?_
  refine .bind (store_16 c M I) fun _ => ?_
  refine .bind (load_16 c M I) fun v2538 => ?_
  refine .bind (store_16 c M I) fun _ => ?_
  refine .bind (load_16 c M I) fun v2544 => ?_
  refine .bind (store_16 c M I) fun _ => ?_
  refine .bind (load_16 c M I) fun v2550 => ?_
  refine .bind (store_16 c M I) fun _ => ?_
  refine .bind (load_16 c M I) fun v2556 => ?_
  exact .pure _

theorem r_part111 (v2264 : FVec F S32x256 .f32) (v2555 : FVec F S8x128 .f32) :
    Runs c M I (k0_part111 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2555) (s_part111 I i v2264 v2555) := by
  rw [k0_part111_eq_skeleton]; unfold k0_part111_skel s_part111
  refine .bind (store_16 c M I) fun _ => ?_
  refine .bind (load_16 c M I) fun v2562 => ?_
  refine .bind (store_16 c M I) fun _ => ?_
  refine .bind (load_16 c M I) fun v2568 => ?_
  refine .bind (store_16 c M I) fun _ => ?_
  refine .bind (load_16 c M I) fun v2574 => ?_
  refine .bind (store_16 c M I) fun _ => ?_
  refine .bind (load_16 c M I) fun v2580 => ?_
  refine .bind (store_16 c M I) fun _ => ?_
  refine .bind (load_16 c M I) fun v2586 => ?_
  refine .bind (store_16 c M I) fun _ => ?_
  exact .pure _

theorem r_part112 (v2264 : FVec F S32x256 .f32) (v2591 : FVec F S8x128 .f32) :
    Runs c M I (k0_part112 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2591) (s_part112 I i v2264 v2591) := by
  rw [k0_part112_eq_skeleton]; unfold k0_part112_skel s_part112
  refine .bind (load_16 c M I) fun v2592 => ?_
  refine .bind (store_16 c M I) fun _ => ?_
  refine .bind (load_16 c M I) fun v2598 => ?_
  refine .bind (store_16 c M I) fun _ => ?_
  refine .bind (load_16 c M I) fun v2604 => ?_
  refine .bind (store_16 c M I) fun _ => ?_
  refine .bind (load_16 c M I) fun v2610 => ?_
  refine .bind (store_16 c M I) fun _ => ?_
  refine .bind (load_16 c M I) fun v2616 => ?_
  refine .bind (store_16 c M I) fun _ => ?_
  refine .bind (load_16 c M I) fun v2622 => ?_
  exact .pure _

theorem r_part1 (arg1 : BitVec 32) (k0_h2 : k0_cond2 i = 1#1) (c0_i32_1293 : BitVec 32) (c1_i32 : BitVec 32) (k0_t1 : Fin k0_t1_loop.trips) :
    Runs c M I (k0_part1 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 c0_i32_1293 c1_i32 k0_t1) (s_part1 I i arg1 k0_h2 c0_i32_1293 c1_i32 k0_t1) := by
  rw [k0_part1_eq_skeleton]; unfold k0_part1_skel s_part1
  refine .bind (load_8 c M I) fun v2666 => ?_
  refine .bind (load_8 c M I) fun v2673 => ?_
  refine .bind (load_8 c M I) fun v2680 => ?_
  refine .bind (load_8 c M I) fun v2687 => ?_
  refine .bind (load_16 c M I) fun v2691 => ?_
  exact .pure _

theorem r_part2 (arg1 : BitVec 32) (v2653 : IVec S128x512 1) (k0_h2 : k0_cond2 i = 1#1) (k0_t1 : Fin k0_t1_loop.trips) (arg19 : BitVec 32) (v2689 : FVec F S512x128 .fp8e4m3) (v2694 : BitVec 32) :
    Runs c M I (k0_part2 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h2 k0_t1 arg19 v2689 v2694) (s_part2 I i arg1 v2653 k0_h2 k0_t1 arg19 v2689 v2694) := by
  rw [k0_part2_eq_skeleton]; unfold k0_part2_skel s_part2
  refine .bind (load_13 c M I) fun v2701 => ?_
  refine .bind (load_14 c M I) fun v2707 => ?_
  refine .bind (load_13 c M I) fun v2719 => ?_
  refine .bind (load_14 c M I) fun v2725 => ?_
  exact .pure _

theorem r_part3 (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) :
    Runs c M I (k0_part3 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2733 v2734) (s_part3 I i arg1 k0_h2 k0_t1 arg19 v2689 v2733 v2734) := by
  rw [k0_part3_eq_skeleton]; unfold k0_part3_skel s_part3
  refine .bind (load_17 c M I) fun v2736 => ?_
  refine .bind (store_17 c M I) fun _ => ?_
  refine .bind (load_13 c M I) fun v2747 => ?_
  refine .bind (load_14 c M I) fun v2753 => ?_
  refine .bind (load_17 c M I) fun v2761 => ?_
  refine .bind (store_17 c M I) fun _ => ?_
  exact .pure _

theorem r_part4 (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) :
    Runs c M I (k0_part4 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2766 v2769 c256_i32_1359) (s_part4 I i arg1 k0_h2 k0_t1 arg19 v2689 v2766 v2769 c256_i32_1359) := by
  rw [k0_part4_eq_skeleton]; unfold k0_part4_skel s_part4
  refine .bind (load_13 c M I) fun v2775 => ?_
  refine .bind (load_14 c M I) fun v2781 => ?_
  refine .bind (load_17 c M I) fun v2789 => ?_
  refine .bind (store_17 c M I) fun _ => ?_
  refine .bind (load_13 c M I) fun v2803 => ?_
  exact .pure _

theorem r_part5 (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) :
    Runs c M I (k0_part5 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2794 v2805) (s_part5 I i arg1 k0_h2 k0_t1 arg19 v2689 v2794 v2805) := by
  rw [k0_part5_eq_skeleton]; unfold k0_part5_skel s_part5
  refine .bind (load_14 c M I) fun v2809 => ?_
  refine .bind (load_17 c M I) fun v2817 => ?_
  refine .bind (store_17 c M I) fun _ => ?_
  refine .bind (load_13 c M I) fun v2831 => ?_
  refine .bind (load_14 c M I) fun v2837 => ?_
  exact .pure _

theorem r_part6 (k0_h2 : k0_cond2 i = 1#1) (k0_t1 : Fin k0_t1_loop.trips) (arg19 : BitVec 32) (v2692 : FVec F S8x512 .f32) (v2822 : FVec F S8x512 .f32) (v2844 : FVec F S256x512 .f32) :
    Runs c M I (k0_part6 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v2692 v2822 v2844) (s_part6 I i k0_h2 k0_t1 arg19 v2692 v2822 v2844) := by
  rw [k0_part6_eq_skeleton]; unfold k0_part6_skel s_part6
  refine .bind (load_17 c M I) fun v2845 => ?_
  refine .bind (store_17 c M I) fun _ => ?_
  refine .bind (load_6 c M I) fun v2856 => ?_
  exact .pure _

theorem r_part7 (v2653 : IVec S128x512 1) (v2692 : FVec F S8x512 .f32) (v2861 : FVec F S8x512 .f32) (v2889 : FVec F S8x512 .f32) :
    Runs c M I (k0_part7 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v2692 v2861 v2889) (s_part7 I i v2653 v2692 v2861 v2889) := by
  rw [k0_part7_eq_skeleton]; unfold k0_part7_skel s_part7
  refine .bind (load_17 c M I) fun v2891 => ?_
  refine .bind (load_18 c M I) fun v2908 => ?_
  refine .bind (store_18 c M I) fun _ => ?_
  refine .bind (load_18 c M I) fun v2914 => ?_
  refine .bind (store_18 c M I) fun _ => ?_
  refine .bind (load_17 c M I) fun v2917 => ?_
  exact .pure _

theorem r_part8 (v2692 : FVec F S8x512 .f32) (v2890 : FVec F S8x512 .f32) (v2903 : FVec F S8x512 .f32) (v2928 : FVec F S16x8x512 .f32) (v2929 : FVec F S8x512 .f32) :
    Runs c M I (k0_part8 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2890 v2903 v2928 v2929) (s_part8 I i v2692 v2890 v2903 v2928 v2929) := by
  rw [k0_part8_eq_skeleton]; unfold k0_part8_skel s_part8
  refine .bind (load_18 c M I) fun v2933 => ?_
  refine .bind (store_18 c M I) fun _ => ?_
  refine .bind (load_17 c M I) fun v2936 => ?_
  refine .bind (load_18 c M I) fun v2952 => ?_
  refine .bind (store_18 c M I) fun _ => ?_
  refine .bind (load_17 c M I) fun v2955 => ?_
  exact .pure _

theorem r_part9 (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) :
    Runs c M I (k0_part9 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v2692 v2859 v2861 v2888 v2890 v2968 v2970) (s_part9 I i k0_h2 k0_t1 arg19 v2692 v2859 v2861 v2888 v2890 v2968 v2970) := by
  rw [k0_part9_eq_skeleton]; unfold k0_part9_skel s_part9
  refine .bind (load_18 c M I) fun v2971 => ?_
  refine .bind (store_18 c M I) fun _ => ?_
  refine .bind (load_17 c M I) fun v2974 => ?_
  refine .bind (load_18 c M I) fun v2990 => ?_
  refine .bind (store_18 c M I) fun _ => ?_
  refine .bind (load_18 c M I) fun v2994 => ?_
  refine .bind (store_18 c M I) fun _ => ?_
  refine .bind (load_5 c M I) fun v3006 => ?_
  exact .pure _

theorem r_part10 (arg1 : BitVec 32) (k0_h2 : k0_cond2 i = 1#1) (k0_t1 : Fin k0_t1_loop.trips) (arg19 : BitVec 32) (v3004 : FVec F S8x512 .f32) (v3009 : FVec F S8x512 .f32) :
    Runs c M I (k0_part10 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3004 v3009) (s_part10 I i arg1 k0_h2 k0_t1 arg19 v3004 v3009) := by
  rw [k0_part10_eq_skeleton]; unfold k0_part10_skel s_part10
  refine .bind (load_15 c M I) fun v3016 => ?_
  refine .bind (load_15 c M I) fun v3023 => ?_
  refine .bind (load_15 c M I) fun v3030 => ?_
  refine .bind (load_15 c M I) fun v3037 => ?_
  refine .bind (load_15 c M I) fun v3044 => ?_
  exact .pure _

theorem r_part11 (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) :
    Runs c M I (k0_part11 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3010 v3017 v3024 v3031 v3038 v3044) (s_part11 I i k0_h2 k0_t1 arg19 v3010 v3017 v3024 v3031 v3038 v3044) := by
  rw [k0_part11_eq_skeleton]; unfold k0_part11_skel s_part11
  refine .bind (load_18 c M I) fun v3047 => ?_
  refine .bind (load_7 c M I) fun v3063 => ?_
  refine .bind (store_7 c M I) fun _ => ?_
  refine .bind (load_7 c M I) fun v3074 => ?_
  refine .bind (store_7 c M I) fun _ => ?_
  exact .pure _

theorem r_part12 (k0_h2 : k0_cond2 i = 1#1) (k0_t1 : Fin k0_t1_loop.trips) (arg19 : BitVec 32) (v3054 : FVec F S128x512 .f32) (v3080 : BitVec 32) (v3083 : FVec F S128x128 .bf16) :
    Runs c M I (k0_part12 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3054 v3080 v3083) (s_part12 I i k0_h2 k0_t1 arg19 v3054 v3080 v3083) := by
  rw [k0_part12_eq_skeleton]; unfold k0_part12_skel s_part12
  refine .bind (load_7 c M I) fun v3085 => ?_
  refine .bind (store_7 c M I) fun _ => ?_
  refine .bind (load_7 c M I) fun v3096 => ?_
  refine .bind (store_7 c M I) fun _ => ?_
  refine .bind (load_8 c M I) fun v3104 => ?_
  refine .bind (load_8 c M I) fun v3111 => ?_
  refine .bind (load_8 c M I) fun v3118 => ?_
  exact .pure _

theorem r_part13 (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) :
    Runs c M I (k0_part13 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3105 v3112 v3119 v3120) (s_part13 I i arg1 k0_h2 k0_t1 arg19 v3105 v3112 v3119 v3120) := by
  rw [k0_part13_eq_skeleton]; unfold k0_part13_skel s_part13
  refine .bind (load_8 c M I) fun v3125 => ?_
  refine .bind (load_16 c M I) fun v3129 => ?_
  refine .bind (load_13 c M I) fun v3139 => ?_
  refine .bind (load_14 c M I) fun v3145 => ?_
  refine .bind (load_13 c M I) fun v3157 => ?_
  exact .pure _

theorem r_part14 (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) :
    Runs c M I (k0_part14 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h2 k0_t1 arg19 v3127 v3148 v3153 v3158) (s_part14 I i arg1 v2653 k0_h2 k0_t1 arg19 v3127 v3148 v3153 v3158) := by
  rw [k0_part14_eq_skeleton]; unfold k0_part14_skel s_part14
  refine .bind (load_14 c M I) fun v3163 => ?_
  refine .bind (load_17 c M I) fun v3174 => ?_
  refine .bind (store_17 c M I) fun _ => ?_
  refine .bind (load_13 c M I) fun v3185 => ?_
  refine .bind (load_14 c M I) fun v3191 => ?_
  exact .pure _

theorem r_part15 (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) :
    Runs c M I (k0_part15 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3127 v3173 v3194 v3196) (s_part15 I i arg1 k0_h2 k0_t1 arg19 v3127 v3173 v3194 v3196) := by
  rw [k0_part15_eq_skeleton]; unfold k0_part15_skel s_part15
  refine .bind (load_17 c M I) fun v3199 => ?_
  refine .bind (store_17 c M I) fun _ => ?_
  refine .bind (load_13 c M I) fun v3213 => ?_
  refine .bind (load_14 c M I) fun v3219 => ?_
  refine .bind (load_17 c M I) fun v3227 => ?_
  refine .bind (store_17 c M I) fun _ => ?_
  exact .pure _

theorem r_part16 (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) :
    Runs c M I (k0_part16 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3127 v3232 c1_i32_1599) (s_part16 I i arg1 k0_h2 k0_t1 arg19 v3127 v3232 c1_i32_1599) := by
  rw [k0_part16_eq_skeleton]; unfold k0_part16_skel s_part16
  refine .bind (load_13 c M I) fun v3241 => ?_
  refine .bind (load_14 c M I) fun v3247 => ?_
  refine .bind (load_17 c M I) fun v3255 => ?_
  refine .bind (store_17 c M I) fun _ => ?_
  refine .bind (load_13 c M I) fun v3269 => ?_
  exact .pure _

theorem r_part17 (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) :
    Runs c M I (k0_part17 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3127 v3130 v3260 v3265 v3270) (s_part17 I i k0_h2 k0_t1 arg19 v3127 v3130 v3260 v3265 v3270) := by
  rw [k0_part17_eq_skeleton]; unfold k0_part17_skel s_part17
  refine .bind (load_14 c M I) fun v3275 => ?_
  refine .bind (load_17 c M I) fun v3279 => ?_
  refine .bind (store_17 c M I) fun _ => ?_
  refine .bind (load_6 c M I) fun v3290 => ?_
  exact .pure _

theorem r_part18 (v2653 : IVec S128x512 1) (v3130 : FVec F S8x512 .f32) (v3295 : FVec F S8x512 .f32) (v3311 : IVec S8x512 32) (v3313 : IVec S8x512 1) :
    Runs c M I (k0_part18 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v3130 v3295 v3311 v3313) (s_part18 I i v2653 v3130 v3295 v3311 v3313) := by
  rw [k0_part18_eq_skeleton]; unfold k0_part18_skel s_part18
  refine .bind (load_17 c M I) fun v3325 => ?_
  refine .bind (load_18 c M I) fun v3342 => ?_
  refine .bind (store_18 c M I) fun _ => ?_
  refine .bind (load_18 c M I) fun v3348 => ?_
  refine .bind (store_18 c M I) fun _ => ?_
  refine .bind (load_17 c M I) fun v3351 => ?_
  exact .pure _

theorem r_part19 (v3130 : FVec F S8x512 .f32) (v3324 : FVec F S8x512 .f32) (v3337 : FVec F S8x512 .f32) (v3351 : Vec F S1x256x512 .f32) :
    Runs c M I (k0_part19 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3130 v3324 v3337 v3351) (s_part19 I i v3130 v3324 v3337 v3351) := by
  rw [k0_part19_eq_skeleton]; unfold k0_part19_skel s_part19
  refine .bind (load_18 c M I) fun v3367 => ?_
  refine .bind (store_18 c M I) fun _ => ?_
  refine .bind (load_17 c M I) fun v3370 => ?_
  refine .bind (load_18 c M I) fun v3386 => ?_
  refine .bind (store_18 c M I) fun _ => ?_
  refine .bind (load_17 c M I) fun v3389 => ?_
  exact .pure _

theorem r_part20 (v3130 : FVec F S8x512 .f32) (v3324 : FVec F S8x512 .f32) (v3383 : FVec F S8x512 .f32) (v3391 : FVec F S32x8x512 .f32) (v3393 : FVec F S32x8x512 .f32) :
    Runs c M I (k0_part20 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3130 v3324 v3383 v3391 v3393) (s_part20 I i v3130 v3324 v3383 v3391 v3393) := by
  rw [k0_part20_eq_skeleton]; unfold k0_part20_skel s_part20
  refine .bind (load_18 c M I) fun v3405 => ?_
  refine .bind (store_18 c M I) fun _ => ?_
  refine .bind (load_17 c M I) fun v3408 => ?_
  refine .bind (load_18 c M I) fun v3424 => ?_
  refine .bind (store_18 c M I) fun _ => ?_
  refine .bind (load_18 c M I) fun v3428 => ?_
  refine .bind (store_18 c M I) fun _ => ?_
  exact .pure _

theorem r_part21 (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) :
    Runs c M I (k0_part21 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3293 v3295 v3322 v3432) (s_part21 I i arg1 k0_h2 k0_t1 arg19 v3293 v3295 v3322 v3432) := by
  rw [k0_part21_eq_skeleton]; unfold k0_part21_skel s_part21
  refine .bind (load_5 c M I) fun v3440 => ?_
  refine .bind (load_15 c M I) fun v3450 => ?_
  refine .bind (load_15 c M I) fun v3457 => ?_
  refine .bind (load_15 c M I) fun v3464 => ?_
  exact .pure _

theorem r_part22 (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) :
    Runs c M I (k0_part22 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3444 v3451 v3458 v3465) (s_part22 I i arg1 k0_h2 k0_t1 arg19 v3444 v3451 v3458 v3465) := by
  rw [k0_part22_eq_skeleton]; unfold k0_part22_skel s_part22
  refine .bind (load_15 c M I) fun v3471 => ?_
  refine .bind (load_15 c M I) fun v3478 => ?_
  refine .bind (load_18 c M I) fun v3481 => ?_
  refine .bind (load_7 c M I) fun v3497 => ?_
  refine .bind (store_7 c M I) fun _ => ?_
  refine .bind (load_7 c M I) fun v3508 => ?_
  exact .pure _

theorem r_t1_body (arg1 : BitVec 32) (v2264 : FVec F S32x256 .f32) (v2621 : FVec F S8x128 .f32) (v2622 : Vec F S1x1x8x128 .f32) (k0_h2 : k0_cond2 i = 1#1) (k0_t1 : Fin k0_t1_loop.trips) :
    Runs c M I (k0_t1_body i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2264 v2621 v2622 k0_h2 k0_t1 ⟨⟩) (s_t1_body I i arg1 v2264 v2621 v2622 k0_h2 k0_t1) := by
  unfold k0_t1_body s_t1_body
  refine .bind (r_part1 c M hM I i _ _ _ _ _) fun ⟨arg19, v2689, v2692, v2694⟩ => ?_
  refine .bind (r_part2 c M hM I i _ _ _ _ _ _ _) fun ⟨v2733, v2734⟩ => ?_
  refine .bind (r_part3 c M hM I i _ _ _ _ _ _ _) fun ⟨v2766, v2769, c256_i32_1359⟩ => ?_
  refine .bind (r_part4 c M hM I i _ _ _ _ _ _ _ _) fun ⟨v2794, v2805⟩ => ?_
  refine .bind (r_part5 c M hM I i _ _ _ _ _ _ _) fun ⟨v2822, v2844⟩ => ?_
  refine .bind (r_part6 c M hM I i _ _ _ _ _ _) fun ⟨v2859, v2861, v2888, v2889⟩ => ?_
  refine .bind (r_part7 c M hM I i _ _ _ _) fun ⟨v2890, v2903, v2928, v2929⟩ => ?_
  refine .bind (r_part8 c M hM I i _ _ _ _ _) fun ⟨v2968, v2970⟩ => ?_
  refine .bind (r_part9 c M hM I i _ _ _ _ _ _ _ _ _ _) fun ⟨v3004, v3009⟩ => ?_
  refine .bind (r_part10 c M hM I i _ _ _ _ _ _) fun ⟨v3010, v3017, v3024, v3031, v3038, v3044⟩ => ?_
  refine .bind (r_part11 c M hM I i _ _ _ _ _ _ _ _ _) fun ⟨v3054, v3080, v3083⟩ => ?_
  refine .bind (r_part12 c M hM I i _ _ _ _ _ _) fun ⟨v3105, v3112, v3119, v3120⟩ => ?_
  refine .bind (r_part13 c M hM I i _ _ _ _ _ _ _ _) fun ⟨v3127, v3130, v3148, v3153, v3158⟩ => ?_
  refine .bind (r_part14 c M hM I i _ _ _ _ _ _ _ _ _) fun ⟨v3173, v3194, v3196⟩ => ?_
  refine .bind (r_part15 c M hM I i _ _ _ _ _ _ _ _) fun ⟨v3232, c1_i32_1599⟩ => ?_
  refine .bind (r_part16 c M hM I i _ _ _ _ _ _ _) fun ⟨v3260, v3265, v3270⟩ => ?_
  refine .bind (r_part17 c M hM I i _ _ _ _ _ _ _ _) fun ⟨v3293, v3295, v3311, v3313⟩ => ?_
  refine .bind (r_part18 c M hM I i _ _ _ _ _) fun ⟨v3322, v3324, v3337, v3351⟩ => ?_
  refine .bind (r_part19 c M hM I i _ _ _ _) fun ⟨v3383, v3391, v3393⟩ => ?_
  refine .bind (r_part20 c M hM I i _ _ _ _ _) fun v3432 => ?_
  refine .bind (r_part21 c M hM I i _ _ _ _ _ _ _ _) fun ⟨v3444, v3451, v3458, v3465⟩ => ?_
  refine .bind (r_part22 c M hM I i _ _ _ _ _ _ _ _) fun ⟨v3488, v3506⟩ => ?_
  refine .bind (store_7 c M I) fun _ => ?_
  refine .bind (load_7 c M I) fun v3519 => ?_
  refine .bind (store_7 c M I) fun _ => ?_
  refine .bind (load_7 c M I) fun v3530 => ?_
  refine .bind (store_7 c M I) fun _ => ?_
  exact .pure _

theorem r_part113 (arg1 : BitVec 32) (v2264 : FVec F S32x256 .f32) (v2621 : FVec F S8x128 .f32) (v2622 : Vec F S1x1x8x128 .f32) :
    Runs c M I (k0_part113 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2264 v2621 v2622) (s_part113 I i arg1 v2264 v2621 v2622) := by
  rw [k0_part113_eq_skeleton]; unfold k0_part113_skel s_part113
  dsimp only []
  refine .bind (store_16 c M I) fun _ => ?_
  refine .bind (load_16 c M I) fun v2628 => ?_
  refine .bind (store_16 c M I) fun _ => ?_
  refine .bind (load_16 c M I) fun v2634 => ?_
  refine .bind (store_16 c M I) fun _ => ?_
  refine .bind (load_16 c M I) fun v2640 => ?_
  refine .bind (store_16 c M I) fun _ => ?_
  refine .bind (load_16 c M I) fun v2646 => ?_
  refine .bind (store_16 c M I) fun _ => ?_
  refine .dite (fun h => ?_) (fun h => ?_)
  ·
    refine .bind (.loop _ _ fun k _ => r_t1_body c M hM I i _ _ _ _ _ k) fun _ => ?_
    exact .pure _
  ·
    exact .pure _

theorem r_part23 (arg1 : BitVec 32) (k0_h3 : k0_cond3 i = 1#1) (c0_i32_1293 : BitVec 32) (c1_i32 : BitVec 32) (k0_t2 : Fin k0_t2_loop.trips) :
    Runs c M I (k0_part23 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 c0_i32_1293 c1_i32 k0_t2) (s_part23 I i arg1 k0_h3 c0_i32_1293 c1_i32 k0_t2) := by
  rw [k0_part23_eq_skeleton]; unfold k0_part23_skel s_part23
  refine .bind (load_8 c M I) fun v2666 => ?_
  refine .bind (load_8 c M I) fun v2673 => ?_
  refine .bind (load_8 c M I) fun v2680 => ?_
  refine .bind (load_8 c M I) fun v2687 => ?_
  refine .bind (load_16 c M I) fun v2691 => ?_
  exact .pure _

theorem r_part24 (arg1 : BitVec 32) (v2653 : IVec S128x512 1) (k0_h3 : k0_cond3 i = 1#1) (k0_t2 : Fin k0_t2_loop.trips) (arg19 : BitVec 32) (v2689 : FVec F S512x128 .fp8e4m3) (v2694 : BitVec 32) :
    Runs c M I (k0_part24 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 arg19 v2689 v2694) (s_part24 I i arg1 v2653 k0_h3 k0_t2 arg19 v2689 v2694) := by
  rw [k0_part24_eq_skeleton]; unfold k0_part24_skel s_part24
  refine .bind (load_13 c M I) fun v2701 => ?_
  refine .bind (load_14 c M I) fun v2707 => ?_
  refine .bind (load_13 c M I) fun v2719 => ?_
  refine .bind (load_14 c M I) fun v2725 => ?_
  refine .bind (load_17 c M I) fun v2732 => ?_
  exact .pure _

theorem r_part25 (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) :
    Runs c M I (k0_part25 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2689 v2731 v2734) (s_part25 I i arg1 k0_h3 k0_t2 arg19 v2689 v2731 v2734) := by
  rw [k0_part25_eq_skeleton]; unfold k0_part25_skel s_part25
  refine .bind (store_17 c M I) fun _ => ?_
  refine .bind (load_13 c M I) fun v2743 => ?_
  refine .bind (load_14 c M I) fun v2749 => ?_
  refine .bind (load_17 c M I) fun v2753 => ?_
  refine .bind (store_17 c M I) fun _ => ?_
  refine .bind (load_13 c M I) fun v2767 => ?_
  exact .pure _

theorem r_part26 (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) :
    Runs c M I (k0_part26 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2689 v2758 v2769 v2770) (s_part26 I i arg1 k0_h3 k0_t2 arg19 v2689 v2758 v2769 v2770) := by
  rw [k0_part26_eq_skeleton]; unfold k0_part26_skel s_part26
  refine .bind (load_14 c M I) fun v2773 => ?_
  refine .bind (load_17 c M I) fun v2777 => ?_
  refine .bind (store_17 c M I) fun _ => ?_
  refine .bind (load_13 c M I) fun v2791 => ?_
  refine .bind (load_14 c M I) fun v2797 => ?_
  refine .bind (load_17 c M I) fun v2801 => ?_
  refine .bind (store_17 c M I) fun _ => ?_
  exact .pure _

theorem r_part27 (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) :
    Runs c M I (k0_part27 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v2689 v2692 v2806 v2808 c5_i32_1378) (s_part27 I i k0_h3 k0_t2 arg19 v2689 v2692 v2806 v2808 c5_i32_1378) := by
  rw [k0_part27_eq_skeleton]; unfold k0_part27_skel s_part27
  refine .bind (load_13 c M I) fun v2815 => ?_
  refine .bind (load_14 c M I) fun v2821 => ?_
  refine .bind (load_17 c M I) fun v2825 => ?_
  refine .bind (store_17 c M I) fun _ => ?_
  refine .bind (load_6 c M I) fun v2836 => ?_
  exact .pure _

theorem r_part28 (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) :
    Runs c M I (k0_part28 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v2692 v2841 v2845 v2846 v2849 v2850) (s_part28 I i v2653 v2692 v2841 v2845 v2846 v2849 v2850) := by
  rw [k0_part28_eq_skeleton]; unfold k0_part28_skel s_part28
  refine .bind (load_17 c M I) fun v2871 => ?_
  refine .bind (load_18 c M I) fun v2888 => ?_
  refine .bind (store_18 c M I) fun _ => ?_
  exact .pure _

theorem r_part29 (v2692 : FVec F S8x512 .f32) (v2870 : FVec F S8x512 .f32) (v2883 : FVec F S8x512 .f32) (v2893 : FVec F S128x512 .fp8e4m3) :
    Runs c M I (k0_part29 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2870 v2883 v2893) (s_part29 I i v2692 v2870 v2883 v2893) := by
  rw [k0_part29_eq_skeleton]; unfold k0_part29_skel s_part29
  refine .bind (load_18 c M I) fun v2894 => ?_
  refine .bind (store_18 c M I) fun _ => ?_
  refine .bind (load_17 c M I) fun v2897 => ?_
  refine .bind (load_18 c M I) fun v2913 => ?_
  refine .bind (store_18 c M I) fun _ => ?_
  refine .bind (load_17 c M I) fun v2916 => ?_
  refine .bind (load_18 c M I) fun v2932 => ?_
  exact .pure _

theorem r_part30 (v2692 : FVec F S8x512 .f32) (v2870 : FVec F S8x512 .f32) (v2929 : FVec F S8x512 .f32) (v2931 : FVec F S256x512 .fp8e4m3) (v2932 : Vec F S1x256x512 .fp8e4m3) :
    Runs c M I (k0_part30 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2870 v2929 v2931 v2932) (s_part30 I i v2692 v2870 v2929 v2931 v2932) := by
  rw [k0_part30_eq_skeleton]; unfold k0_part30_skel s_part30
  refine .bind (store_18 c M I) fun _ => ?_
  refine .bind (load_17 c M I) fun v2935 => ?_
  refine .bind (load_18 c M I) fun v2951 => ?_
  refine .bind (store_18 c M I) fun _ => ?_
  refine .bind (load_17 c M I) fun v2954 => ?_
  refine .bind (load_18 c M I) fun v2970 => ?_
  refine .bind (store_18 c M I) fun _ => ?_
  exact .pure _

theorem r_part31 (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) :
    Runs c M I (k0_part31 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2839 v2841 v2868 v2967 cst_1447) (s_part31 I i arg1 k0_h3 k0_t2 arg19 v2839 v2841 v2868 v2967 cst_1447) := by
  rw [k0_part31_eq_skeleton]; unfold k0_part31_skel s_part31
  refine .bind (load_18 c M I) fun v2974 => ?_
  refine .bind (store_18 c M I) fun _ => ?_
  refine .bind (load_5 c M I) fun v2986 => ?_
  refine .bind (load_15 c M I) fun v2996 => ?_
  refine .bind (load_15 c M I) fun v3003 => ?_
  exact .pure _

theorem r_part32 (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) :
    Runs c M I (k0_part32 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2990 v2997 v3004) (s_part32 I i arg1 k0_h3 k0_t2 arg19 v2990 v2997 v3004) := by
  rw [k0_part32_eq_skeleton]; unfold k0_part32_skel s_part32
  refine .bind (load_15 c M I) fun v3010 => ?_
  refine .bind (load_15 c M I) fun v3017 => ?_
  refine .bind (load_15 c M I) fun v3024 => ?_
  refine .bind (load_18 c M I) fun v3027 => ?_
  refine .bind (load_7 c M I) fun v3043 => ?_
  refine .bind (store_7 c M I) fun _ => ?_
  exact .pure _

theorem r_part33 (k0_h3 : k0_cond3 i = 1#1) (k0_t2 : Fin k0_t2_loop.trips) (arg19 : BitVec 32) (v3034 : FVec F S128x512 .f32) (v3047 : BitVec 32) :
    Runs c M I (k0_part33 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v3034 v3047) (s_part33 I i k0_h3 k0_t2 arg19 v3034 v3047) := by
  rw [k0_part33_eq_skeleton]; unfold k0_part33_skel s_part33
  refine .bind (load_7 c M I) fun v3054 => ?_
  refine .bind (store_7 c M I) fun _ => ?_
  refine .bind (load_7 c M I) fun v3065 => ?_
  refine .bind (store_7 c M I) fun _ => ?_
  refine .bind (load_7 c M I) fun v3076 => ?_
  refine .bind (store_7 c M I) fun _ => ?_
  refine .bind (load_8 c M I) fun v3084 => ?_
  exact .pure _

theorem r_part34 (arg1 : BitVec 32) (k0_h3 : k0_cond3 i = 1#1) (k0_t2 : Fin k0_t2_loop.trips) (arg19 : BitVec 32) (v3085 : FVec F S128x128 .fp8e4m3) (c4_i32_1509 : BitVec 32) :
    Runs c M I (k0_part34 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3085 c4_i32_1509) (s_part34 I i arg1 k0_h3 k0_t2 arg19 v3085 c4_i32_1509) := by
  rw [k0_part34_eq_skeleton]; unfold k0_part34_skel s_part34
  refine .bind (load_8 c M I) fun v3091 => ?_
  refine .bind (load_8 c M I) fun v3098 => ?_
  refine .bind (load_8 c M I) fun v3105 => ?_
  refine .bind (load_16 c M I) fun v3109 => ?_
  refine .bind (load_13 c M I) fun v3119 => ?_
  exact .pure _

theorem r_part35 (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) :
    Runs c M I (k0_part35 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 arg19 v3107 v3115 v3121) (s_part35 I i arg1 v2653 k0_h3 k0_t2 arg19 v3107 v3115 v3121) := by
  rw [k0_part35_eq_skeleton]; unfold k0_part35_skel s_part35
  refine .bind (load_14 c M I) fun v3125 => ?_
  refine .bind (load_13 c M I) fun v3137 => ?_
  refine .bind (load_14 c M I) fun v3143 => ?_
  refine .bind (load_17 c M I) fun v3150 => ?_
  refine .bind (store_17 c M I) fun _ => ?_
  exact .pure _

theorem r_part36 (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) :
    Runs c M I (k0_part36 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3107 v3149 v3157) (s_part36 I i arg1 k0_h3 k0_t2 arg19 v3107 v3149 v3157) := by
  rw [k0_part36_eq_skeleton]; unfold k0_part36_skel s_part36
  refine .bind (load_13 c M I) fun v3161 => ?_
  refine .bind (load_14 c M I) fun v3167 => ?_
  refine .bind (load_17 c M I) fun v3171 => ?_
  refine .bind (store_17 c M I) fun _ => ?_
  refine .bind (load_13 c M I) fun v3185 => ?_
  refine .bind (load_14 c M I) fun v3191 => ?_
  refine .bind (load_17 c M I) fun v3195 => ?_
  refine .bind (store_17 c M I) fun _ => ?_
  exact .pure _

theorem r_part37 (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) :
    Runs c M I (k0_part37 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3107 v3176 v3198) (s_part37 I i arg1 k0_h3 k0_t2 arg19 v3107 v3176 v3198) := by
  rw [k0_part37_eq_skeleton]; unfold k0_part37_skel s_part37
  refine .bind (load_13 c M I) fun v3209 => ?_
  refine .bind (load_14 c M I) fun v3215 => ?_
  refine .bind (load_17 c M I) fun v3219 => ?_
  refine .bind (store_17 c M I) fun _ => ?_
  refine .bind (load_13 c M I) fun v3233 => ?_
  exact .pure _

theorem r_part38 (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) :
    Runs c M I (k0_part38 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v3110 v3224 v3229 v3235 c0_i32_1595) (s_part38 I i k0_h3 k0_t2 arg19 v3110 v3224 v3229 v3235 c0_i32_1595) := by
  rw [k0_part38_eq_skeleton]; unfold k0_part38_skel s_part38
  refine .bind (load_14 c M I) fun v3239 => ?_
  refine .bind (load_17 c M I) fun v3243 => ?_
  refine .bind (store_17 c M I) fun _ => ?_
  refine .bind (load_6 c M I) fun v3254 => ?_
  exact .pure _

theorem r_part39 (v2653 : IVec S128x512 1) (v3110 : FVec F S8x512 .f32) (v3259 : FVec F S8x512 .f32) (v3277 : IVec S8x512 1) (v3279 : IVec S8x512 32) :
    Runs c M I (k0_part39 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v3110 v3259 v3277 v3279) (s_part39 I i v2653 v3110 v3259 v3277 v3279) := by
  rw [k0_part39_eq_skeleton]; unfold k0_part39_skel s_part39
  refine .bind (load_17 c M I) fun v3289 => ?_
  refine .bind (load_18 c M I) fun v3306 => ?_
  refine .bind (store_18 c M I) fun _ => ?_
  refine .bind (load_18 c M I) fun v3312 => ?_
  refine .bind (store_18 c M I) fun _ => ?_
  refine .bind (load_17 c M I) fun v3315 => ?_
  exact .pure _

theorem r_part40 (v3110 : FVec F S8x512 .f32) (v3288 : FVec F S8x512 .f32) (v3301 : FVec F S8x512 .f32) (v3317 : FVec F S32x8x512 .f32) (v3318 : FVec F S1x8x512 .f32) :
    Runs c M I (k0_part40 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3110 v3288 v3301 v3317 v3318) (s_part40 I i v3110 v3288 v3301 v3317 v3318) := by
  rw [k0_part40_eq_skeleton]; unfold k0_part40_skel s_part40
  refine .bind (load_18 c M I) fun v3331 => ?_
  refine .bind (store_18 c M I) fun _ => ?_
  refine .bind (load_17 c M I) fun v3334 => ?_
  refine .bind (load_18 c M I) fun v3350 => ?_
  refine .bind (store_18 c M I) fun _ => ?_
  refine .bind (load_17 c M I) fun v3353 => ?_
  exact .pure _

theorem r_part41 (v3110 : FVec F S8x512 .f32) (v3286 : FVec F S8x512 .f32) (v3288 : FVec F S8x512 .f32) (v3347 : FVec F S8x512 .f32) (v3358 : FVec F S32x8x512 .f32) (v3360 : FVec F S32x8x512 .f32) :
    Runs c M I (k0_part41 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3110 v3286 v3288 v3347 v3358 v3360) (s_part41 I i v3110 v3286 v3288 v3347 v3358 v3360) := by
  rw [k0_part41_eq_skeleton]; unfold k0_part41_skel s_part41
  refine .bind (load_18 c M I) fun v3369 => ?_
  refine .bind (store_18 c M I) fun _ => ?_
  refine .bind (load_17 c M I) fun v3372 => ?_
  refine .bind (load_18 c M I) fun v3388 => ?_
  refine .bind (store_18 c M I) fun _ => ?_
  refine .bind (load_18 c M I) fun v3392 => ?_
  refine .bind (store_18 c M I) fun _ => ?_
  exact .pure _

theorem r_part42 (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) :
    Runs c M I (k0_part42 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3257 v3259 v3286 v3399) (s_part42 I i arg1 k0_h3 k0_t2 arg19 v3257 v3259 v3286 v3399) := by
  rw [k0_part42_eq_skeleton]; unfold k0_part42_skel s_part42
  refine .bind (load_5 c M I) fun v3404 => ?_
  refine .bind (load_15 c M I) fun v3414 => ?_
  refine .bind (load_15 c M I) fun v3421 => ?_
  refine .bind (load_15 c M I) fun v3428 => ?_
  refine .bind (load_15 c M I) fun v3435 => ?_
  exact .pure _

theorem r_part43 (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) :
    Runs c M I (k0_part43 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3408 v3415 v3422 v3429 v3436) (s_part43 I i arg1 k0_h3 k0_t2 arg19 v3408 v3415 v3422 v3429 v3436) := by
  rw [k0_part43_eq_skeleton]; unfold k0_part43_skel s_part43
  refine .bind (load_15 c M I) fun v3442 => ?_
  refine .bind (load_18 c M I) fun v3445 => ?_
  refine .bind (load_7 c M I) fun v3461 => ?_
  refine .bind (store_7 c M I) fun _ => ?_
  refine .bind (load_7 c M I) fun v3472 => ?_
  refine .bind (store_7 c M I) fun _ => ?_
  exact .pure _

theorem r_t2_body (arg1 : BitVec 32) (v2653 : IVec S128x512 1) (k0_h3 : k0_cond3 i = 1#1) (k0_t2 : Fin k0_t2_loop.trips) :
    Runs c M I (k0_t2_body i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 ⟨⟩) (s_t2_body I i arg1 v2653 k0_h3 k0_t2) := by
  unfold k0_t2_body s_t2_body
  refine .bind (r_part23 c M hM I i _ _ _ _ _) fun ⟨arg19, v2689, v2692, v2694⟩ => ?_
  refine .bind (r_part24 c M hM I i _ _ _ _ _ _ _) fun ⟨v2731, v2734⟩ => ?_
  refine .bind (r_part25 c M hM I i _ _ _ _ _ _ _) fun ⟨v2758, v2769, v2770⟩ => ?_
  refine .bind (r_part26 c M hM I i _ _ _ _ _ _ _ _) fun ⟨v2806, v2808, c5_i32_1378⟩ => ?_
  refine .bind (r_part27 c M hM I i _ _ _ _ _ _ _ _) fun ⟨v2839, v2841, v2845, v2846, v2849, v2850⟩ => ?_
  refine .bind (r_part28 c M hM I i _ _ _ _ _ _ _) fun ⟨v2868, v2870, v2883, v2893⟩ => ?_
  refine .bind (r_part29 c M hM I i _ _ _ _) fun ⟨v2929, v2931, v2932⟩ => ?_
  refine .bind (r_part30 c M hM I i _ _ _ _ _) fun ⟨v2967, cst_1447⟩ => ?_
  refine .bind (r_part31 c M hM I i _ _ _ _ _ _ _ _ _) fun ⟨v2990, v2997, v3004⟩ => ?_
  refine .bind (r_part32 c M hM I i _ _ _ _ _ _ _) fun ⟨v3034, v3047⟩ => ?_
  refine .bind (r_part33 c M hM I i _ _ _ _ _) fun ⟨v3085, c4_i32_1509⟩ => ?_
  refine .bind (r_part34 c M hM I i _ _ _ _ _ _) fun ⟨v3107, v3110, v3115, v3121⟩ => ?_
  refine .bind (r_part35 c M hM I i _ _ _ _ _ _ _ _) fun ⟨v3149, v3157⟩ => ?_
  refine .bind (r_part36 c M hM I i _ _ _ _ _ _ _) fun ⟨v3176, v3198⟩ => ?_
  refine .bind (r_part37 c M hM I i _ _ _ _ _ _ _) fun ⟨v3224, v3229, v3235, c0_i32_1595⟩ => ?_
  refine .bind (r_part38 c M hM I i _ _ _ _ _ _ _ _) fun ⟨v3257, v3259, v3277, v3279⟩ => ?_
  refine .bind (r_part39 c M hM I i _ _ _ _ _) fun ⟨v3286, v3288, v3301, v3317, v3318⟩ => ?_
  refine .bind (r_part40 c M hM I i _ _ _ _ _) fun ⟨v3347, v3358, v3360⟩ => ?_
  refine .bind (r_part41 c M hM I i _ _ _ _ _ _) fun v3399 => ?_
  refine .bind (r_part42 c M hM I i _ _ _ _ _ _ _ _) fun ⟨v3408, v3415, v3422, v3429, v3436⟩ => ?_
  refine .bind (r_part43 c M hM I i _ _ _ _ _ _ _ _ _) fun ⟨v3452, c4_i32_1706⟩ => ?_
  refine .bind (load_7 c M I) fun v3483 => ?_
  refine .bind (store_7 c M I) fun _ => ?_
  refine .bind (load_7 c M I) fun v3494 => ?_
  refine .bind (store_7 c M I) fun _ => ?_
  exact .pure _

theorem r_attn  :
    Runs c M I (cc0_attn i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_attn I i ) := by
  rw [cc0_attn_eq_skeleton]; unfold cc0_attn_skel s_attn
  dsimp only []
  refine .bind (r_part114 c M hM I i ) fun ⟨arg1, v2264, v2327⟩ => ?_
  refine .bind (r_part104 c M hM I i _ _) fun v2361 => ?_
  refine .bind (r_part105 c M hM I i _ _) fun v2393 => ?_
  refine .bind (r_part106 c M hM I i _ _) fun _ => ?_
  refine .bind (r_part107 c M hM I i _) fun v2459 => ?_
  refine .bind (r_part108 c M hM I i _ _) fun v2492 => ?_
  refine .bind (r_part109 c M hM I i _ _) fun v2525 => ?_
  refine .bind (r_part110 c M hM I i _ _) fun v2555 => ?_
  refine .bind (r_part111 c M hM I i _ _) fun v2591 => ?_
  refine .bind (r_part112 c M hM I i _ _) fun ⟨v2621, v2622⟩ => ?_
  refine .bind (r_part113 c M hM I i _ _ _ _) fun ⟨v2653, c4_i32_1291⟩ => ?_
  refine .dite (fun h => ?_) (fun h => ?_)
  ·
    refine .bind (.loop _ _ fun k _ => r_t2_body c M hM I i _ _ _ k) fun _ => ?_
    exact .pure _
  ·
    exact .pure _

end Cert.Kernel.Run

end
-- ==== Proof.P.Point.lean ====
/-
  One point of the grid: the memrefs the body is called with there, the blocks it reads, and the run of the body at the
  point from any state of the blocks and buffers it writes, with anything else framed.
-/
module

public import proofs.«01_k».proof.Proof.P.RunsBody
public import proofs.«01_k».proof.Proof.Gen.Kernel.Points
public import proofs.«01_k».proof.Proof.Gen.Kernel.Launch
public import Idealize.ShloMosaic.Lib.Pipeline.Frame

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The memrefs at point `t`. -/
def memAt (t : Fin cfg0.N) : Mem where
  a2 := win0_0.stage (cfg0.slots t 0)
  a3 := win0_1.stage (cfg0.slots t 1)
  a4 := win0_2.stage (cfg0.slots t 2)
  a5 := win0_3.stage (cfg0.slots t 3)
  a6 := win0_4.stage (cfg0.slots t 4)
  a7 := win0_5.stage (cfg0.slots t 5)
  a8 := win0_6.stage (cfg0.slots t 6)
  a9 := win0_7.stage (cfg0.slots t 7)
  a10 := win0_8.stage (cfg0.slots t 8)
  a11 := win0_9.stage (cfg0.slots t 9)
  a12 := win0_10.stage (cfg0.slots t 10)
  a13 := Memref.whole cc0_scratch0
  a14 := Memref.whole cc0_scratch1
  a15 := Memref.whole cc0_scratch2
  a16 := Memref.whole cc0_scratch3
  a17 := Memref.whole cc0_scratch4
  a18 := Memref.whole cc0_scratch5

theorem wholeAt (t : Fin cfg0.N) : (memAt t).Whole where
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := hstage0_5 ((cfg0.slots t 5).cast nbuf0_5)
  h8 := hstage0_6 ((cfg0.slots t 6).cast nbuf0_6)
  h9 := hstage0_7 ((cfg0.slots t 7).cast nbuf0_7)
  h10 := hstage0_8 ((cfg0.slots t 8).cast nbuf0_8)
  h11 := hstage0_9 ((cfg0.slots t 9).cast nbuf0_9)
  h12 := hstage0_10 ((cfg0.slots t 10).cast nbuf0_10)
  h13 := Memref.isWhole_whole _
  h14 := Memref.isWhole_whole _
  h15 := Memref.isWhole_whole _
  h16 := Memref.isWhole_whole _
  h17 := Memref.isWhole_whole _
  h18 := Memref.isWhole_whole _

variable (m : (ℓ : Loc nD τ sig) → Buf (Elt F) ℓ)

/-- The blocks point `t` reads. -/
def inAt (c : Dev nD) (t : Fin cfg0.N) : In F where
  a2 := iblk m c 0 t
  a3 := iblk m c 1 t
  a4 := iblk m c 2 t
  a5 := iblk m c 3 t
  a6 := iblk m c 4 t

/-- The body at point `t`, from any state, whatever else is held. -/
theorem point_run (c : Dev nD) (t : Fin cfg0.N) (I : In F) (s : St F) (R : sProp 𝕄) :
    iprop(Own c (memAt t) I s ∗ R) ⊢ wpB c (bodyAt0 t)
      (fun _ => iprop(Own c (memAt t) I (s_attn I (grid0.coords t) s).2 ∗ R)) := by
  have h : Own c (memAt t) I s ⊢ wpB c (bodyAt0 t) (fun _ => Own c (memAt t) I (s_attn I (grid0.coords t) s).2) :=
    r_attn c (memAt t) (wholeAt t) I (grid0.coords t) s _ .rfl
  exact BIBase.Entails.trans (sep_mono_l h) (wp_frame_r _ _ _)

/-- The class invariant at a point, conjunct by conjunct: each scratch buffer at some contents, the generator
    register at some state. -/
theorem PhiA_eq (c : Dev nD) (t : Fin cfg0.N) :
    (Pipeline.ΦA spec0 c : sProp 𝕄)
      = iprop(iprop((∃ d, owns (c : Thread nD τ) (memAt t).a13 fullShare d) ∗ (∃ d, owns (c : Thread nD τ) (memAt t).a14 fullShare d) ∗ (∃ d, owns (c : Thread nD τ) (memAt t).a15 fullShare d) ∗ (∃ d, owns (c : Thread nD τ) (memAt t).a16 fullShare d) ∗ (∃ d, owns (c : Thread nD τ) (memAt t).a17 fullShare d) ∗ (∃ d, owns (c : Thread nD τ) (memAt t).a18 fullShare d)) ∗ (∃ r, prngReg c r)) := by
  unfold Pipeline.ΦA
  rw [scopedRest0_eq]; simp only [memAt, owns_whole]; try rfl

end Cert.Kernel.Run

end
-- ==== Proof.P.Frame.lean ====
/-
  The frame of the program: the body obligation with every result forgotten, the launch, and what the run leaves in
  the arguments and the semaphores.
-/
module

public import proofs.«01_k».proof.Proof.P.Point

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The results are forgotten: nothing here reads what the body leaves in them. -/
def forgets0 : Fin 11 → Bool := fun w => decide (5 ≤ w.val)

/-- The proof data on core `c`: the arrays as the region finds them, the inputs' blocks unchanged, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (memAt t).a2 fullShare ((dats m 0 c).before 0 t d))
    ∗ (∃ d, owns (c : Thread nD τ) (memAt t).a3 fullShare ((dats m 0 c).before 1 t d))
    ∗ (∃ d, owns (c : Thread nD τ) (memAt t).a4 fullShare ((dats m 0 c).before 2 t d))
    ∗ (∃ d, owns (c : Thread nD τ) (memAt t).a5 fullShare ((dats m 0 c).before 3 t d))
    ∗ (∃ d, owns (c : Thread nD τ) (memAt t).a6 fullShare ((dats m 0 c).before 4 t d))
    ∗ (∃ d, owns (c : Thread nD τ) (memAt t).a7 fullShare d)
    ∗ (∃ d, owns (c : Thread nD τ) (memAt t).a8 fullShare d)
    ∗ (∃ d, owns (c : Thread nD τ) (memAt t).a9 fullShare d)
    ∗ (∃ d, owns (c : Thread nD τ) (memAt t).a10 fullShare d)
    ∗ (∃ d, owns (c : Thread nD τ) (memAt t).a11 fullShare d)
    ∗ (∃ d, owns (c : Thread nD τ) (memAt t).a12 fullShare d))
def bodyPost (c : Dev nD) (t : Fin cfg0.N) : sProp 𝕄 :=
  iprop((dats m 0 c).Φ t.succ ∗ (dats m 0 c).owesAt () t.succ
    ∗ owns (c : Thread nD τ) (memAt t).a2 fullShare ((dats m 0 c).after 0 t)
    ∗ owns (c : Thread nD τ) (memAt t).a3 fullShare ((dats m 0 c).after 1 t)
    ∗ owns (c : Thread nD τ) (memAt t).a4 fullShare ((dats m 0 c).after 2 t)
    ∗ owns (c : Thread nD τ) (memAt t).a5 fullShare ((dats m 0 c).after 3 t)
    ∗ owns (c : Thread nD τ) (memAt t).a6 fullShare ((dats m 0 c).after 4 t)
    ∗ (∃ d, owns (c : Thread nD τ) (memAt t).a7 fullShare d)
    ∗ (∃ d, owns (c : Thread nD τ) (memAt t).a8 fullShare d)
    ∗ (∃ d, owns (c : Thread nD τ) (memAt t).a9 fullShare d)
    ∗ (∃ d, owns (c : Thread nD τ) (memAt t).a10 fullShare d)
    ∗ (∃ d, owns (c : Thread nD τ) (memAt t).a11 fullShare d)
    ∗ (∃ d, owns (c : Thread nD τ) (memAt t).a12 fullShare d))

/-- The body at the point: the buffers gathered into a state, the run, and the buffers handed back. -/
theorem sound_body (c : Dev nD) (t : Fin cfg0.N) :
    bodyPre m c t ⊢ wpB c (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq c t]
  simp only [before0_0_of m (dats m 0 c) (A_eq m c 0) (fun t => after_0 m c t), before0_1_of m (dats m 0 c) (A_eq m c 1) (fun t => after_1 m c t), before0_2_of m (dats m 0 c) (A_eq m c 2) (fun t => after_2 m c t), before0_3_of m (dats m 0 c) (A_eq m c 3) (fun t => after_3 m c t), before0_4_of m (dats m 0 c) (A_eq m c 4) (fun t => after_4 m c t)]
  iintro ⟨⟨⟨⟨%d13, H13⟩, ⟨%d14, H14⟩, ⟨%d15, H15⟩, ⟨%d16, H16⟩, ⟨%d17, H17⟩, ⟨%d18, H18⟩⟩, Hg⟩, HO, ⟨%e2, H2⟩, ⟨%e3, H3⟩, ⟨%e4, H4⟩, ⟨%e5, H5⟩, ⟨%e6, H6⟩, ⟨%d7, H7⟩, ⟨%d8, H8⟩, ⟨%d9, H9⟩, ⟨%d10, H10⟩, ⟨%d11, H11⟩, ⟨%d12, H12⟩⟩
  ihave HW := point_run c t (inAt m c t) ⟨d7, d8, d9, d10, d11, d12, d13, d14, d15, d16, d17, d18⟩ (iprop((∃ r, prngReg c r) ∗ (dats m 0 c).owesAt () t.castSucc)) $$ [H2 H3 H4 H5 H6 H7 H8 H9 H10 H11 H12 H13 H14 H15 H16 H17 H18 Hg HO]
  · unfold Own
    isplitr [Hg HO]; swap
    · isplitl [Hg] <;> iassumption
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iapply (wp_wand_r _ _ _)
  isplitl [HW]; · iexact HW
  iintro %u ⟨HS, Hg, HO⟩
  unfold Own
  icases HS with ⟨H2, H3, H4, H5, H6, H7, H8, H9, H10, H11, H12, H13, H14, H15, H16, H17, H18⟩
  isplitl [Hg H13 H14 H15 H16 H17 H18]
  · isplitr [Hg]; swap; · iexact Hg
    isplitl [H13]; · iexists _; iexact H13
    isplitl [H14]; · iexists _; iexact H14
    isplitl [H15]; · iexists _; iexact H15
    isplitl [H16]; · iexists _; iexact H16
    isplitl [H17]; · iexists _; iexact H17
    iexists _; iexact H18
  isplitl [HO]; · iexact HO
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- From any memory with zero counters every execution terminates; at the end the staged inputs and the bypassing
    buffers hold what they held at the region's entry, and every counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The arguments end as they began and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨(h.1.arr_in c 0 rfl).trans (V_main_arg0 m c), (h.1.arr_in c 1 rfl).trans (V_main_arg1 m c),
      (h.1.arr_in c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.Kernel.Run

end
-- ==== Proof.PI.State.lean ====
/-
  The state the kernel's body works on, as plain arrays: the blocks it reads (`In`), the blocks and scratch buffers it
  writes (`St`), the memrefs they are held through (`Mem`), and the assertion that a core holds them (`Own`). A
  computation on the state is a function (`PM`); `Runs` says that a program does what such a function says. The rules at
  the end are one load and one store per buffer, the sequence, and the counted loop.
-/
module

public import proofs.«01_k».proof.Proof.Gen.KernelIdeal.Skeleton
public import proofs.«01_k».proof.Proof.Gen.KernelIdeal.Frame
public import Idealize.ShloMosaic.Lib.VecWindow
public import Idealize.ShloMosaic.Lib.Scf
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The memrefs the body is called with. -/
structure Mem where
  a2 : Memref sig .tc .vmem S1x256x4096 .bf16
  a3 : Memref sig .tc .vmem S1x256x1024 .bf16
  a4 : Memref sig .tc .vmem S1x256x1024 .bf16
  a5 : Memref sig .tc .vmem S1x8x8x128 .f32
  a6 : Memref sig .tc .vmem S8x8x512 .f32
  a7 : Memref sig .tc .vmem S1x256x4096 .bf16
  a8 : Memref sig .tc .vmem S1x256x4096 .fp8e4m3
  a9 : Memref sig .tc .vmem S1x256x32 .f32
  a10 : Memref sig .tc .vmem S1x256x1024 .fp8e4m3
  a11 : Memref sig .tc .vmem S1x256x8 .f32
  a12 : Memref sig .tc .vmem S1x256x1024 .fp8e4m3
  a13 : Memref sig .tc .vmem S8x1280x128 .fp8e4m3
  a14 : Memref sig .tc .vmem S8x1280x128 .f32
  a15 : Memref sig .tc .vmem S8x5x128x256 .fp8e4m3
  a16 : Memref sig .tc .vmem S2x8x8x512 .f32
  a17 : Memref sig .tc .vmem S5x256x512 .f32
  a18 : Memref sig .tc .vmem S5x256x512 .fp8e4m3

/-- Each of them is a whole buffer. -/
structure Mem.Whole (M : Mem) : Prop where
  h2 : M.a2.IsWhole
  h3 : M.a3.IsWhole
  h4 : M.a4.IsWhole
  h5 : M.a5.IsWhole
  h6 : M.a6.IsWhole
  h7 : M.a7.IsWhole
  h8 : M.a8.IsWhole
  h9 : M.a9.IsWhole
  h10 : M.a10.IsWhole
  h11 : M.a11.IsWhole
  h12 : M.a12.IsWhole
  h13 : M.a13.IsWhole
  h14 : M.a14.IsWhole
  h15 : M.a15.IsWhole
  h16 : M.a16.IsWhole
  h17 : M.a17.IsWhole
  h18 : M.a18.IsWhole

/-- The blocks the body reads. -/
structure In (F : FTy → Type) where
  a2 : S1x256x4096.Idx → Elt F .bf16
  a3 : S1x256x1024.Idx → Elt F .bf16
  a4 : S1x256x1024.Idx → Elt F .bf16
  a5 : S1x8x8x128.Idx → Elt F .f32
  a6 : S8x8x512.Idx → Elt F .f32

/-- The blocks and scratch buffers the body writes. -/
structure St (F : FTy → Type) where
  a7 : S1x256x4096.Idx → Elt F .bf16
  a8 : S1x256x4096.Idx → Elt F .fp8e4m3
  a9 : S1x256x32.Idx → Elt F .f32
  a10 : S1x256x1024.Idx → Elt F .fp8e4m3
  a11 : S1x256x8.Idx → Elt F .f32
  a12 : S1x256x1024.Idx → Elt F .fp8e4m3
  a13 : S8x1280x128.Idx → Elt F .fp8e4m3
  a14 : S8x1280x128.Idx → Elt F .f32
  a15 : S8x5x128x256.Idx → Elt F .fp8e4m3
  a16 : S2x8x8x512.Idx → Elt F .f32
  a17 : S5x256x512.Idx → Elt F .f32
  a18 : S5x256x512.Idx → Elt F .fp8e4m3

/-- A computation on the state. -/
def PM (F : FTy → Type) (α : Type) : Type := St F → α × St F

instance : Monad (PM F) where
  pure a := fun s => (a, s)
  bind f g := fun s => g (f s).1 (f s).2

theorem PM.pure_apply {α : Type} (a : α) (s : St F) : (pure a : PM F α) s = (a, s) := rfl
theorem PM.bind_apply {α β : Type} (f : PM F α) (g : α → PM F β) (s : St F) : (f >>= g) s = g (f s).1 (f s).2 := rfl

/-- A list of computations in order. -/
def PM.seq {n : ℕ} (b : Fin n → PM F Unit) : List (Fin n) → PM F Unit
  | [] => pure ⟨⟩
  | k :: ks => b k >>= fun _ => PM.seq b ks

/-- A counted loop. -/
def PM.loop (n : ℕ) (b : Fin n → PM F Unit) : PM F Unit := PM.seq b (List.finRange n)

/-- A load from `a2`. -/
def ld2 (I : In F) (off size : Fin (S1x256x4096).rank → ℕ) (inb : ∀ a, off a + size a ≤ (S1x256x4096).size a) :
    PM F ((Rect.unit (s := S1x256x4096) off size inb).toLoadRect.shape.Idx → Elt F .bf16) :=
  fun s => (VecWindow.window I.a2 off size inb, s)
/-- A load from `a3`. -/
def ld3 (I : In F) (off size : Fin (S1x256x1024).rank → ℕ) (inb : ∀ a, off a + size a ≤ (S1x256x1024).size a) :
    PM F ((Rect.unit (s := S1x256x1024) off size inb).toLoadRect.shape.Idx → Elt F .bf16) :=
  fun s => (VecWindow.window I.a3 off size inb, s)
/-- A load from `a4`. -/
def ld4 (I : In F) (off size : Fin (S1x256x1024).rank → ℕ) (inb : ∀ a, off a + size a ≤ (S1x256x1024).size a) :
    PM F ((Rect.unit (s := S1x256x1024) off size inb).toLoadRect.shape.Idx → Elt F .bf16) :=
  fun s => (VecWindow.window I.a4 off size inb, s)
/-- A load from `a5`. -/
def ld5 (I : In F) (off size : Fin (S1x8x8x128).rank → ℕ) (inb : ∀ a, off a + size a ≤ (S1x8x8x128).size a) :
    PM F ((Rect.unit (s := S1x8x8x128) off size inb).toLoadRect.shape.Idx → Elt F .f32) :=
  fun s => (VecWindow.window I.a5 off size inb, s)
/-- A load from `a6`. -/
def ld6 (I : In F) (off size : Fin (S8x8x512).rank → ℕ) (inb : ∀ a, off a + size a ≤ (S8x8x512).size a) :
    PM F ((Rect.unit (s := S8x8x512) off size inb).toLoadRect.shape.Idx → Elt F .f32) :=
  fun s => (VecWindow.window I.a6 off size inb, s)
/-- A load from `a7`. -/
def ld7 (off size : Fin (S1x256x4096).rank → ℕ) (inb : ∀ a, off a + size a ≤ (S1x256x4096).size a) :
    PM F ((Rect.unit (s := S1x256x4096) off size inb).toLoadRect.shape.Idx → Elt F .bf16) :=
  fun s => (VecWindow.window s.a7 off size inb, s)
/-- A store to `a7`. -/
def st7 (off size : Fin (S1x256x4096).rank → ℕ) (inb : ∀ a, off a + size a ≤ (S1x256x4096).size a)
    (w : (Rect.unit (s := S1x256x4096) off size inb).shape.Idx → Elt F .bf16) : PM F PUnit :=
  fun s => (⟨⟩, { s with a7 := VecWindow.put s.a7 off size w })
/-- A load from `a8`. -/
def ld8 (off size : Fin (S1x256x4096).rank → ℕ) (inb : ∀ a, off a + size a ≤ (S1x256x4096).size a) :
    PM F ((Rect.unit (s := S1x256x4096) off size inb).toLoadRect.shape.Idx → Elt F .fp8e4m3) :=
  fun s => (VecWindow.window s.a8 off size inb, s)
/-- A store to `a8`. -/
def st8 (off size : Fin (S1x256x4096).rank → ℕ) (inb : ∀ a, off a + size a ≤ (S1x256x4096).size a)
    (w : (Rect.unit (s := S1x256x4096) off size inb).shape.Idx → Elt F .fp8e4m3) : PM F PUnit :=
  fun s => (⟨⟩, { s with a8 := VecWindow.put s.a8 off size w })
/-- A load from `a9`. -/
def ld9 (off size : Fin (S1x256x32).rank → ℕ) (inb : ∀ a, off a + size a ≤ (S1x256x32).size a) :
    PM F ((Rect.unit (s := S1x256x32) off size inb).toLoadRect.shape.Idx → Elt F .f32) :=
  fun s => (VecWindow.window s.a9 off size inb, s)
/-- A store to `a9`. -/
def st9 (off size : Fin (S1x256x32).rank → ℕ) (inb : ∀ a, off a + size a ≤ (S1x256x32).size a)
    (w : (Rect.unit (s := S1x256x32) off size inb).shape.Idx → Elt F .f32) : PM F PUnit :=
  fun s => (⟨⟩, { s with a9 := VecWindow.put s.a9 off size w })
/-- A load from `a10`. -/
def ld10 (off size : Fin (S1x256x1024).rank → ℕ) (inb : ∀ a, off a + size a ≤ (S1x256x1024).size a) :
    PM F ((Rect.unit (s := S1x256x1024) off size inb).toLoadRect.shape.Idx → Elt F .fp8e4m3) :=
  fun s => (VecWindow.window s.a10 off size inb, s)
/-- A store to `a10`. -/
def st10 (off size : Fin (S1x256x1024).rank → ℕ) (inb : ∀ a, off a + size a ≤ (S1x256x1024).size a)
    (w : (Rect.unit (s := S1x256x1024) off size inb).shape.Idx → Elt F .fp8e4m3) : PM F PUnit :=
  fun s => (⟨⟩, { s with a10 := VecWindow.put s.a10 off size w })
/-- A load from `a11`. -/
def ld11 (off size : Fin (S1x256x8).rank → ℕ) (inb : ∀ a, off a + size a ≤ (S1x256x8).size a) :
    PM F ((Rect.unit (s := S1x256x8) off size inb).toLoadRect.shape.Idx → Elt F .f32) :=
  fun s => (VecWindow.window s.a11 off size inb, s)
/-- A store to `a11`. -/
def st11 (off size : Fin (S1x256x8).rank → ℕ) (inb : ∀ a, off a + size a ≤ (S1x256x8).size a)
    (w : (Rect.unit (s := S1x256x8) off size inb).shape.Idx → Elt F .f32) : PM F PUnit :=
  fun s => (⟨⟩, { s with a11 := VecWindow.put s.a11 off size w })
/-- A load from `a12`. -/
def ld12 (off size : Fin (S1x256x1024).rank → ℕ) (inb : ∀ a, off a + size a ≤ (S1x256x1024).size a) :
    PM F ((Rect.unit (s := S1x256x1024) off size inb).toLoadRect.shape.Idx → Elt F .fp8e4m3) :=
  fun s => (VecWindow.window s.a12 off size inb, s)
/-- A store to `a12`. -/
def st12 (off size : Fin (S1x256x1024).rank → ℕ) (inb : ∀ a, off a + size a ≤ (S1x256x1024).size a)
    (w : (Rect.unit (s := S1x256x1024) off size inb).shape.Idx → Elt F .fp8e4m3) : PM F PUnit :=
  fun s => (⟨⟩, { s with a12 := VecWindow.put s.a12 off size w })
/-- A load from `a13`. -/
def ld13 (off size : Fin (S8x1280x128).rank → ℕ) (inb : ∀ a, off a + size a ≤ (S8x1280x128).size a) :
    PM F ((Rect.unit (s := S8x1280x128) off size inb).toLoadRect.shape.Idx → Elt F .fp8e4m3) :=
  fun s => (VecWindow.window s.a13 off size inb, s)
/-- A store to `a13`. -/
def st13 (off size : Fin (S8x1280x128).rank → ℕ) (inb : ∀ a, off a + size a ≤ (S8x1280x128).size a)
    (w : (Rect.unit (s := S8x1280x128) off size inb).shape.Idx → Elt F .fp8e4m3) : PM F PUnit :=
  fun s => (⟨⟩, { s with a13 := VecWindow.put s.a13 off size w })
/-- A load from `a14`. -/
def ld14 (off size : Fin (S8x1280x128).rank → ℕ) (inb : ∀ a, off a + size a ≤ (S8x1280x128).size a) :
    PM F ((Rect.unit (s := S8x1280x128) off size inb).toLoadRect.shape.Idx → Elt F .f32) :=
  fun s => (VecWindow.window s.a14 off size inb, s)
/-- A store to `a14`. -/
def st14 (off size : Fin (S8x1280x128).rank → ℕ) (inb : ∀ a, off a + size a ≤ (S8x1280x128).size a)
    (w : (Rect.unit (s := S8x1280x128) off size inb).shape.Idx → Elt F .f32) : PM F PUnit :=
  fun s => (⟨⟩, { s with a14 := VecWindow.put s.a14 off size w })
/-- A load from `a15`. -/
def ld15 (off size : Fin (S8x5x128x256).rank → ℕ) (inb : ∀ a, off a + size a ≤ (S8x5x128x256).size a) :
    PM F ((Rect.unit (s := S8x5x128x256) off size inb).toLoadRect.shape.Idx → Elt F .fp8e4m3) :=
  fun s => (VecWindow.window s.a15 off size inb, s)
/-- A store to `a15`. -/
def st15 (off size : Fin (S8x5x128x256).rank → ℕ) (inb : ∀ a, off a + size a ≤ (S8x5x128x256).size a)
    (w : (Rect.unit (s := S8x5x128x256) off size inb).shape.Idx → Elt F .fp8e4m3) : PM F PUnit :=
  fun s => (⟨⟩, { s with a15 := VecWindow.put s.a15 off size w })
/-- A load from `a16`. -/
def ld16 (off size : Fin (S2x8x8x512).rank → ℕ) (inb : ∀ a, off a + size a ≤ (S2x8x8x512).size a) :
    PM F ((Rect.unit (s := S2x8x8x512) off size inb).toLoadRect.shape.Idx → Elt F .f32) :=
  fun s => (VecWindow.window s.a16 off size inb, s)
/-- A store to `a16`. -/
def st16 (off size : Fin (S2x8x8x512).rank → ℕ) (inb : ∀ a, off a + size a ≤ (S2x8x8x512).size a)
    (w : (Rect.unit (s := S2x8x8x512) off size inb).shape.Idx → Elt F .f32) : PM F PUnit :=
  fun s => (⟨⟩, { s with a16 := VecWindow.put s.a16 off size w })
/-- A load from `a17`. -/
def ld17 (off size : Fin (S5x256x512).rank → ℕ) (inb : ∀ a, off a + size a ≤ (S5x256x512).size a) :
    PM F ((Rect.unit (s := S5x256x512) off size inb).toLoadRect.shape.Idx → Elt F .f32) :=
  fun s => (VecWindow.window s.a17 off size inb, s)
/-- A store to `a17`. -/
def st17 (off size : Fin (S5x256x512).rank → ℕ) (inb : ∀ a, off a + size a ≤ (S5x256x512).size a)
    (w : (Rect.unit (s := S5x256x512) off size inb).shape.Idx → Elt F .f32) : PM F PUnit :=
  fun s => (⟨⟩, { s with a17 := VecWindow.put s.a17 off size w })
/-- A load from `a18`. -/
def ld18 (off size : Fin (S5x256x512).rank → ℕ) (inb : ∀ a, off a + size a ≤ (S5x256x512).size a) :
    PM F ((Rect.unit (s := S5x256x512) off size inb).toLoadRect.shape.Idx → Elt F .fp8e4m3) :=
  fun s => (VecWindow.window s.a18 off size inb, s)
/-- A store to `a18`. -/
def st18 (off size : Fin (S5x256x512).rank → ℕ) (inb : ∀ a, off a + size a ≤ (S5x256x512).size a)
    (w : (Rect.unit (s := S5x256x512) off size inb).shape.Idx → Elt F .fp8e4m3) : PM F PUnit :=
  fun s => (⟨⟩, { s with a18 := VecWindow.put s.a18 off size w })

/-- Core `c` holds the blocks and buffers at the state. -/
def Own (c : Dev nD) (M : Mem) (I : In F) (s : St F) : sProp 𝕄 :=
  iprop(owns (c : Thread nD τ) M.a2 fullShare I.a2
    ∗ owns (c : Thread nD τ) M.a3 fullShare I.a3
    ∗ owns (c : Thread nD τ) M.a4 fullShare I.a4
    ∗ owns (c : Thread nD τ) M.a5 fullShare I.a5
    ∗ owns (c : Thread nD τ) M.a6 fullShare I.a6
    ∗ owns (c : Thread nD τ) M.a7 fullShare s.a7
    ∗ owns (c : Thread nD τ) M.a8 fullShare s.a8
    ∗ owns (c : Thread nD τ) M.a9 fullShare s.a9
    ∗ owns (c : Thread nD τ) M.a10 fullShare s.a10
    ∗ owns (c : Thread nD τ) M.a11 fullShare s.a11
    ∗ owns (c : Thread nD τ) M.a12 fullShare s.a12
    ∗ owns (c : Thread nD τ) M.a13 fullShare s.a13
    ∗ owns (c : Thread nD τ) M.a14 fullShare s.a14
    ∗ owns (c : Thread nD τ) M.a15 fullShare s.a15
    ∗ owns (c : Thread nD τ) M.a16 fullShare s.a16
    ∗ owns (c : Thread nD τ) M.a17 fullShare s.a17
    ∗ owns (c : Thread nD τ) M.a18 fullShare s.a18)

theorem focus_here (A B : sProp 𝕄) : iprop(A ∗ B) ⊢ iprop(A ∗ (A -∗ iprop(A ∗ B))) := by
  iintro ⟨HA, HB⟩; isplitl [HA]; · iexact HA
  iintro HA; isplitl [HA] <;> iassumption
theorem focus_put {X : Type} (A : sProp 𝕄) (P : X → sProp 𝕄) (B : sProp 𝕄) :
    iprop(A ∗ B) ⊢ iprop(A ∗ (∀ x, P x -∗ iprop(P x ∗ B))) := by
  iintro ⟨HA, HB⟩; isplitl [HA]; · iexact HA
  iintro %x HA; isplitl [HA] <;> iassumption
theorem focus_last {X : Type} (A : sProp 𝕄) (P : X → sProp 𝕄) : A ⊢ iprop(A ∗ (∀ x, P x -∗ P x)) := by
  iintro HA; isplitl [HA]; · iexact HA
  iintro %x HA; iexact HA
theorem put_back {X : Type} {D E : X → sProp 𝕄} (x : X) : iprop(D x ∗ (∀ x, D x -∗ E x)) ⊢ E x := by
  iintro ⟨H, HW⟩; iapply HW; iexact H
theorem focus_there {A B C D E : sProp 𝕄} (h : B ⊢ iprop(C ∗ (D -∗ E))) : iprop(A ∗ B) ⊢ iprop(C ∗ (D -∗ iprop(A ∗ E))) := by
  iintro ⟨HA, HB⟩
  ihave H := h $$ HB
  icases H with ⟨HC, HW⟩
  isplitl [HC]; · iexact HC
  iintro HD; isplitl [HA]; · iexact HA
  iapply HW; iexact HD
theorem focus_there' {X : Type} {A B C : sProp 𝕄} {D E : X → sProp 𝕄} (h : B ⊢ iprop(C ∗ (∀ x, D x -∗ E x))) :
    iprop(A ∗ B) ⊢ iprop(C ∗ (∀ x, D x -∗ iprop(A ∗ E x))) := by
  iintro ⟨HA, HB⟩
  ihave H := h $$ HB
  icases H with ⟨HC, HW⟩
  isplitl [HC]; · iexact HC
  iintro %x HD; isplitl [HA]; · iexact HA
  iapply HW; iexact HD

variable (c : Dev nD) (M : Mem) (I : In F)

theorem focus_2 (s : St F) : Own c M I s ⊢ iprop(owns (c : Thread nD τ) M.a2 fullShare I.a2 ∗ (owns (c : Thread nD τ) M.a2 fullShare I.a2 -∗ Own c M I s)) :=
  focus_here _ _
theorem focus_3 (s : St F) : Own c M I s ⊢ iprop(owns (c : Thread nD τ) M.a3 fullShare I.a3 ∗ (owns (c : Thread nD τ) M.a3 fullShare I.a3 -∗ Own c M I s)) :=
  focus_there (focus_here _ _)
theorem focus_4 (s : St F) : Own c M I s ⊢ iprop(owns (c : Thread nD τ) M.a4 fullShare I.a4 ∗ (owns (c : Thread nD τ) M.a4 fullShare I.a4 -∗ Own c M I s)) :=
  focus_there (focus_there (focus_here _ _))
theorem focus_5 (s : St F) : Own c M I s ⊢ iprop(owns (c : Thread nD τ) M.a5 fullShare I.a5 ∗ (owns (c : Thread nD τ) M.a5 fullShare I.a5 -∗ Own c M I s)) :=
  focus_there (focus_there (focus_there (focus_here _ _)))
theorem focus_6 (s : St F) : Own c M I s ⊢ iprop(owns (c : Thread nD τ) M.a6 fullShare I.a6 ∗ (owns (c : Thread nD τ) M.a6 fullShare I.a6 -∗ Own c M I s)) :=
  focus_there (focus_there (focus_there (focus_there (focus_here _ _))))
theorem focus_7 (s : St F) : Own c M I s ⊢ iprop(owns (c : Thread nD τ) M.a7 fullShare s.a7
      ∗ (∀ x, owns (c : Thread nD τ) M.a7 fullShare x -∗ Own c M I { s with a7 := x })) :=
  focus_there' (focus_there' (focus_there' (focus_there' (focus_there' (focus_put _ (fun x => owns (c : Thread nD τ) M.a7 fullShare x) _)))))
theorem focus_8 (s : St F) : Own c M I s ⊢ iprop(owns (c : Thread nD τ) M.a8 fullShare s.a8
      ∗ (∀ x, owns (c : Thread nD τ) M.a8 fullShare x -∗ Own c M I { s with a8 := x })) :=
  focus_there' (focus_there' (focus_there' (focus_there' (focus_there' (focus_there' (focus_put _ (fun x => owns (c : Thread nD τ) M.a8 fullShare x) _))))))
theorem focus_9 (s : St F) : Own c M I s ⊢ iprop(owns (c : Thread nD τ) M.a9 fullShare s.a9
      ∗ (∀ x, owns (c : Thread nD τ) M.a9 fullShare x -∗ Own c M I { s with a9 := x })) :=
  focus_there' (focus_there' (focus_there' (focus_there' (focus_there' (focus_there' (focus_there' (focus_put _ (fun x => owns (c : Thread nD τ) M.a9 fullShare x) _)))))))
theorem focus_10 (s : St F) : Own c M I s ⊢ iprop(owns (c : Thread nD τ) M.a10 fullShare s.a10
      ∗ (∀ x, owns (c : Thread nD τ) M.a10 fullShare x -∗ Own c M I { s with a10 := x })) :=
  focus_there' (focus_there' (focus_there' (focus_there' (focus_there' (focus_there' (focus_there' (focus_there' (focus_put _ (fun x => owns (c : Thread nD τ) M.a10 fullShare x) _))))))))
theorem focus_11 (s : St F) : Own c M I s ⊢ iprop(owns (c : Thread nD τ) M.a11 fullShare s.a11
      ∗ (∀ x, owns (c : Thread nD τ) M.a11 fullShare x -∗ Own c M I { s with a11 := x })) :=
  focus_there' (focus_there' (focus_there' (focus_there' (focus_there' (focus_there' (focus_there' (focus_there' (focus_there' (focus_put _ (fun x => owns (c : Thread nD τ) M.a11 fullShare x) _)))))))))
theorem focus_12 (s : St F) : Own c M I s ⊢ iprop(owns (c : Thread nD τ) M.a12 fullShare s.a12
      ∗ (∀ x, owns (c : Thread nD τ) M.a12 fullShare x -∗ Own c M I { s with a12 := x })) :=
  focus_there' (focus_there' (focus_there' (focus_there' (focus_there' (focus_there' (focus_there' (focus_there' (focus_there' (focus_there' (focus_put _ (fun x => owns (c : Thread nD τ) M.a12 fullShare x) _))))))))))
theorem focus_13 (s : St F) : Own c M I s ⊢ iprop(owns (c : Thread nD τ) M.a13 fullShare s.a13
      ∗ (∀ x, owns (c : Thread nD τ) M.a13 fullShare x -∗ Own c M I { s with a13 := x })) :=
  focus_there' (focus_there' (focus_there' (focus_there' (focus_there' (focus_there' (focus_there' (focus_there' (focus_there' (focus_there' (focus_there' (focus_put _ (fun x => owns (c : Thread nD τ) M.a13 fullShare x) _)))))))))))
theorem focus_14 (s : St F) : Own c M I s ⊢ iprop(owns (c : Thread nD τ) M.a14 fullShare s.a14
      ∗ (∀ x, owns (c : Thread nD τ) M.a14 fullShare x -∗ Own c M I { s with a14 := x })) :=
  focus_there' (focus_there' (focus_there' (focus_there' (focus_there' (focus_there' (focus_there' (focus_there' (focus_there' (focus_there' (focus_there' (focus_there' (focus_put _ (fun x => owns (c : Thread nD τ) M.a14 fullShare x) _))))))))))))
theorem focus_15 (s : St F) : Own c M I s ⊢ iprop(owns (c : Thread nD τ) M.a15 fullShare s.a15
      ∗ (∀ x, owns (c : Thread nD τ) M.a15 fullShare x -∗ Own c M I { s with a15 := x })) :=
  focus_there' (focus_there' (focus_there' (focus_there' (focus_there' (focus_there' (focus_there' (focus_there' (focus_there' (focus_there' (focus_there' (focus_there' (focus_there' (focus_put _ (fun x => owns (c : Thread nD τ) M.a15 fullShare x) _)))))))))))))
theorem focus_16 (s : St F) : Own c M I s ⊢ iprop(owns (c : Thread nD τ) M.a16 fullShare s.a16
      ∗ (∀ x, owns (c : Thread nD τ) M.a16 fullShare x -∗ Own c M I { s with a16 := x })) :=
  focus_there' (focus_there' (focus_there' (focus_there' (focus_there' (focus_there' (focus_there' (focus_there' (focus_there' (focus_there' (focus_there' (focus_there' (focus_there' (focus_there' (focus_put _ (fun x => owns (c : Thread nD τ) M.a16 fullShare x) _))))))))))))))
theorem focus_17 (s : St F) : Own c M I s ⊢ iprop(owns (c : Thread nD τ) M.a17 fullShare s.a17
      ∗ (∀ x, owns (c : Thread nD τ) M.a17 fullShare x -∗ Own c M I { s with a17 := x })) :=
  focus_there' (focus_there' (focus_there' (focus_there' (focus_there' (focus_there' (focus_there' (focus_there' (focus_there' (focus_there' (focus_there' (focus_there' (focus_there' (focus_there' (focus_there' (focus_put _ (fun x => owns (c : Thread nD τ) M.a17 fullShare x) _)))))))))))))))
theorem focus_18 (s : St F) : Own c M I s ⊢ iprop(owns (c : Thread nD τ) M.a18 fullShare s.a18
      ∗ (∀ x, owns (c : Thread nD τ) M.a18 fullShare x -∗ Own c M I { s with a18 := x })) :=
  focus_there' (focus_there' (focus_there' (focus_there' (focus_there' (focus_there' (focus_there' (focus_there' (focus_there' (focus_there' (focus_there' (focus_there' (focus_there' (focus_there' (focus_there' (focus_there' (focus_last _ (fun x => owns (c : Thread nD τ) M.a18 fullShare x)))))))))))))))))

/-- The weakest precondition of a program of the kernel's body on core `c`. -/
abbrev wpB {α : Type} (p : Prog (TpuEff nD τ sig (Elt F) Λ₀ .tc) α) (Q : α → sProp 𝕄) : sProp 𝕄 :=
  wp frame (wpE (defs₀ (F := F)) Variants.none c none) Set.univ p Q

/-- The program does to the state what the computation says, and returns what it says. -/
def Runs {α : Type} (p : Prog (TpuEff nD τ sig (Elt F) Λ₀ .tc) α) (f : PM F α) : Prop :=
  ∀ (s : St F) (Q : α → sProp 𝕄), (Own c M I (f s).2 ⊢ Q (f s).1) → (Own c M I s ⊢ wpB c p Q)

variable {c M I}

theorem Runs.pure {α : Type} (a : α) : Runs c M I (Prog.ret a) (Pure.pure a) := by
  intro s Q h
  show Own c M I s ⊢ wp frame (wpE (defs₀ (F := F)) Variants.none c none) Set.univ (Prog.ret a) Q
  rw [wp_ret]
  iintro H; imodintro
  iapply h; iexact H

theorem Runs.bind {α β : Type} {p : Prog (TpuEff nD τ sig (Elt F) Λ₀ .tc) α} {f : PM F α}
    {k : α → Prog (TpuEff nD τ sig (Elt F) Λ₀ .tc) β} {g : α → PM F β} (hp : Runs c M I p f)
    (hk : ∀ a, Runs c M I (k a) (g a)) : Runs c M I (p >>= k) (f >>= g) := by
  intro s Q h
  show Own c M I s ⊢ wp frame (wpE (defs₀ (F := F)) Variants.none c none) Set.univ (p >>= k) Q
  rw [wp_bind]
  exact hp s _ (hk _ _ Q h)

theorem Runs.dite {α : Type} {p : Prop} [Decidable p] {A : p → Prog (TpuEff nD τ sig (Elt F) Λ₀ .tc) α} {B : ¬ p → Prog (TpuEff nD τ sig (Elt F) Λ₀ .tc) α}
    {A' : p → PM F α} {B' : ¬ p → PM F α} (h₁ : ∀ h, Runs c M I (A h) (A' h)) (h₂ : ∀ h, Runs c M I (B h) (B' h)) :
    Runs c M I (_root_.dite p A B) (_root_.dite p A' B') := by
  by_cases h : p
  · rw [dif_pos h, dif_pos h]; exact h₁ h
  · rw [dif_neg h, dif_neg h]; exact h₂ h

theorem Runs.seq {n : ℕ} {p : Fin n → Unit → Prog (TpuEff nD τ sig (Elt F) Λ₀ .tc) Unit} {b : Fin n → PM F Unit}
    (h : ∀ k u, Runs c M I (p k u) (b k)) (l : List (Fin n)) (u : Unit) :
    Runs c M I (Scf.forFrom p l u) (PM.seq b l) := by
  induction l generalizing u with
  | nil => exact Runs.pure _
  | cons k ks ih => exact Runs.bind (h k u) fun u' => ih u'

theorem Runs.loop {w : ℕ} (l : Scf.Loop w) (hok : l.OK)
    {p : Fin l.trips → Unit → Prog (TpuEff nD τ sig (Elt F) Λ₀ .tc) Unit} {b : Fin l.trips → PM F Unit}
    (h : ∀ k u, Runs c M I (p k u) (b k)) : Runs c M I (Scf.Loop.for l hok ⟨⟩ p) (PM.loop l.trips b) := by
  unfold Scf.Loop.for
  rw [Scf.for_eq]
  exact Runs.seq h _ _

variable (c M I)

theorem load_own {S : Shape} {e : EltTy} (m : Memref sig .tc .vmem S e) (X : S.Idx → Elt F e) {off size : Fin S.rank → ℕ}
    {inb : ∀ a, off a + size a ≤ S.size a} {hl : m.view.LoadsAt (Rect.unit off size inb).toLoadRect} (R : sProp 𝕄)
    (Q : ((Rect.unit off size inb).toLoadRect.shape.Idx → Elt F e) → sProp 𝕄)
    (h : iprop(owns (c : Thread nD τ) m fullShare X ∗ R) ⊢ Q (VecWindow.window X off size inb)) :
    iprop(owns (c : Thread nD τ) m fullShare X ∗ R)
      ⊢ wpB c (Prog.lift (.load m (Rect.unit off size inb).toLoadRect hl)) Q := by
  unfold owns
  iintro ⟨⟨%f, %hf, H⟩, HR⟩
  iapply (wp_load (defs := defs₀ (F := F)) Variants.none (c : Thread nD τ) none Set.univ (m := m) (k := Prog.ret) (Q := Q) (hl := hl) (f := f) (q := fullShare) (S := m.view.set) (View.setOn_subset_set _ _)) $$ H
  iintro H
  rw [wp_ret]; imodintro
  rw [View.readAt_unit m.view f inb rfl inb, hf]
  iapply h
  unfold owns
  isplitl [H]
  · iexists f; isplitr; · ipureintro; exact hf
    iexact H
  · iexact HR

theorem store_own {S : Shape} {e : EltTy} (m : Memref sig .tc .vmem S e) (X : S.Idx → Elt F e) {off size : Fin S.rank → ℕ}
    {inb : ∀ a, off a + size a ≤ S.size a} {w : (Rect.unit off size inb).shape.Idx → Elt F e}
    {hx : (m.access (Rect.unit off size inb)).Stores Finset.univ} {hm}
    (R : sProp 𝕄) (Q : PUnit → sProp 𝕄)
    (h : iprop(owns (c : Thread nD τ) m fullShare (VecWindow.put X off size w) ∗ R) ⊢ Q ⟨⟩) :
    iprop(owns (c : Thread nD τ) m fullShare X ∗ R)
      ⊢ wpB c (Prog.lift (.store m (Rect.unit off size inb) w Finset.univ hx hm)) Q := by
  unfold owns
  iintro ⟨⟨%f, %hf, H⟩, HR⟩
  iapply (wp_store (defs := defs₀ (F := F)) Variants.none (c : Thread nD τ) none Set.univ (m := m) (r := Rect.unit off size inb) (w := w) (k := Prog.ret) (Q := Q) (hx := hx) (hm := hm) (f := f) (S := m.view.set) ((View.setOn_subset_set _ _).trans (View.set_slice_subset _ _))) $$ H
  iintro H
  rw [wp_ret]; imodintro
  iapply h
  unfold owns
  isplitl [H]
  · iexists _; isplitr; swap; · iexact H
    ipureintro
    have := View.read_writes_cons_put m.view f inb w [] rfl
    rw [View.writes_nil, hf] at this
    exact this
  · iexact HR

theorem load_2 {off size : Fin (S1x256x4096).rank → ℕ} {inb hl} :
    Runs c M I (Prog.lift (.load M.a2 (Rect.unit (s := S1x256x4096) off size inb).toLoadRect hl)) (ld2 I off size inb) := by
  intro s Q h
  refine (focus_2 c M I s).trans (load_own c M.a2 I.a2 _ Q (BIBase.Entails.trans ?_ h))
  iintro ⟨H, HW⟩; iapply HW; iexact H
theorem load_3 {off size : Fin (S1x256x1024).rank → ℕ} {inb hl} :
    Runs c M I (Prog.lift (.load M.a3 (Rect.unit (s := S1x256x1024) off size inb).toLoadRect hl)) (ld3 I off size inb) := by
  intro s Q h
  refine (focus_3 c M I s).trans (load_own c M.a3 I.a3 _ Q (BIBase.Entails.trans ?_ h))
  iintro ⟨H, HW⟩; iapply HW; iexact H
theorem load_4 {off size : Fin (S1x256x1024).rank → ℕ} {inb hl} :
    Runs c M I (Prog.lift (.load M.a4 (Rect.unit (s := S1x256x1024) off size inb).toLoadRect hl)) (ld4 I off size inb) := by
  intro s Q h
  refine (focus_4 c M I s).trans (load_own c M.a4 I.a4 _ Q (BIBase.Entails.trans ?_ h))
  iintro ⟨H, HW⟩; iapply HW; iexact H
theorem load_5 {off size : Fin (S1x8x8x128).rank → ℕ} {inb hl} :
    Runs c M I (Prog.lift (.load M.a5 (Rect.unit (s := S1x8x8x128) off size inb).toLoadRect hl)) (ld5 I off size inb) := by
  intro s Q h
  refine (focus_5 c M I s).trans (load_own c M.a5 I.a5 _ Q (BIBase.Entails.trans ?_ h))
  iintro ⟨H, HW⟩; iapply HW; iexact H
theorem load_6 {off size : Fin (S8x8x512).rank → ℕ} {inb hl} :
    Runs c M I (Prog.lift (.load M.a6 (Rect.unit (s := S8x8x512) off size inb).toLoadRect hl)) (ld6 I off size inb) := by
  intro s Q h
  refine (focus_6 c M I s).trans (load_own c M.a6 I.a6 _ Q (BIBase.Entails.trans ?_ h))
  iintro ⟨H, HW⟩; iapply HW; iexact H
theorem load_7 {off size : Fin (S1x256x4096).rank → ℕ} {inb hl} :
    Runs c M I (Prog.lift (.load M.a7 (Rect.unit (s := S1x256x4096) off size inb).toLoadRect hl)) (ld7 off size inb) := by
  intro s Q h
  exact (focus_7 c M I s).trans (load_own c M.a7 s.a7 _ Q (BIBase.Entails.trans (put_back s.a7) h))
theorem store_7 {off size : Fin (S1x256x4096).rank → ℕ} {inb w hx hm} :
    Runs c M I (Prog.lift (.store M.a7 (Rect.unit (s := S1x256x4096) off size inb) w Finset.univ hx hm)) (st7 off size inb w) := by
  intro s Q h
  exact (focus_7 c M I s).trans (store_own c M.a7 s.a7 _ Q (BIBase.Entails.trans (put_back (VecWindow.put s.a7 off size w)) h))
theorem load_8 {off size : Fin (S1x256x4096).rank → ℕ} {inb hl} :
    Runs c M I (Prog.lift (.load M.a8 (Rect.unit (s := S1x256x4096) off size inb).toLoadRect hl)) (ld8 off size inb) := by
  intro s Q h
  exact (focus_8 c M I s).trans (load_own c M.a8 s.a8 _ Q (BIBase.Entails.trans (put_back s.a8) h))
theorem store_8 {off size : Fin (S1x256x4096).rank → ℕ} {inb w hx hm} :
    Runs c M I (Prog.lift (.store M.a8 (Rect.unit (s := S1x256x4096) off size inb) w Finset.univ hx hm)) (st8 off size inb w) := by
  intro s Q h
  exact (focus_8 c M I s).trans (store_own c M.a8 s.a8 _ Q (BIBase.Entails.trans (put_back (VecWindow.put s.a8 off size w)) h))
theorem load_9 {off size : Fin (S1x256x32).rank → ℕ} {inb hl} :
    Runs c M I (Prog.lift (.load M.a9 (Rect.unit (s := S1x256x32) off size inb).toLoadRect hl)) (ld9 off size inb) := by
  intro s Q h
  exact (focus_9 c M I s).trans (load_own c M.a9 s.a9 _ Q (BIBase.Entails.trans (put_back s.a9) h))
theorem store_9 {off size : Fin (S1x256x32).rank → ℕ} {inb w hx hm} :
    Runs c M I (Prog.lift (.store M.a9 (Rect.unit (s := S1x256x32) off size inb) w Finset.univ hx hm)) (st9 off size inb w) := by
  intro s Q h
  exact (focus_9 c M I s).trans (store_own c M.a9 s.a9 _ Q (BIBase.Entails.trans (put_back (VecWindow.put s.a9 off size w)) h))
theorem load_10 {off size : Fin (S1x256x1024).rank → ℕ} {inb hl} :
    Runs c M I (Prog.lift (.load M.a10 (Rect.unit (s := S1x256x1024) off size inb).toLoadRect hl)) (ld10 off size inb) := by
  intro s Q h
  exact (focus_10 c M I s).trans (load_own c M.a10 s.a10 _ Q (BIBase.Entails.trans (put_back s.a10) h))
theorem store_10 {off size : Fin (S1x256x1024).rank → ℕ} {inb w hx hm} :
    Runs c M I (Prog.lift (.store M.a10 (Rect.unit (s := S1x256x1024) off size inb) w Finset.univ hx hm)) (st10 off size inb w) := by
  intro s Q h
  exact (focus_10 c M I s).trans (store_own c M.a10 s.a10 _ Q (BIBase.Entails.trans (put_back (VecWindow.put s.a10 off size w)) h))
theorem load_11 {off size : Fin (S1x256x8).rank → ℕ} {inb hl} :
    Runs c M I (Prog.lift (.load M.a11 (Rect.unit (s := S1x256x8) off size inb).toLoadRect hl)) (ld11 off size inb) := by
  intro s Q h
  exact (focus_11 c M I s).trans (load_own c M.a11 s.a11 _ Q (BIBase.Entails.trans (put_back s.a11) h))
theorem store_11 {off size : Fin (S1x256x8).rank → ℕ} {inb w hx hm} :
    Runs c M I (Prog.lift (.store M.a11 (Rect.unit (s := S1x256x8) off size inb) w Finset.univ hx hm)) (st11 off size inb w) := by
  intro s Q h
  exact (focus_11 c M I s).trans (store_own c M.a11 s.a11 _ Q (BIBase.Entails.trans (put_back (VecWindow.put s.a11 off size w)) h))
theorem load_12 {off size : Fin (S1x256x1024).rank → ℕ} {inb hl} :
    Runs c M I (Prog.lift (.load M.a12 (Rect.unit (s := S1x256x1024) off size inb).toLoadRect hl)) (ld12 off size inb) := by
  intro s Q h
  exact (focus_12 c M I s).trans (load_own c M.a12 s.a12 _ Q (BIBase.Entails.trans (put_back s.a12) h))
theorem store_12 {off size : Fin (S1x256x1024).rank → ℕ} {inb w hx hm} :
    Runs c M I (Prog.lift (.store M.a12 (Rect.unit (s := S1x256x1024) off size inb) w Finset.univ hx hm)) (st12 off size inb w) := by
  intro s Q h
  exact (focus_12 c M I s).trans (store_own c M.a12 s.a12 _ Q (BIBase.Entails.trans (put_back (VecWindow.put s.a12 off size w)) h))
theorem load_13 {off size : Fin (S8x1280x128).rank → ℕ} {inb hl} :
    Runs c M I (Prog.lift (.load M.a13 (Rect.unit (s := S8x1280x128) off size inb).toLoadRect hl)) (ld13 off size inb) := by
  intro s Q h
  exact (focus_13 c M I s).trans (load_own c M.a13 s.a13 _ Q (BIBase.Entails.trans (put_back s.a13) h))
theorem store_13 {off size : Fin (S8x1280x128).rank → ℕ} {inb w hx hm} :
    Runs c M I (Prog.lift (.store M.a13 (Rect.unit (s := S8x1280x128) off size inb) w Finset.univ hx hm)) (st13 off size inb w) := by
  intro s Q h
  exact (focus_13 c M I s).trans (store_own c M.a13 s.a13 _ Q (BIBase.Entails.trans (put_back (VecWindow.put s.a13 off size w)) h))
theorem load_14 {off size : Fin (S8x1280x128).rank → ℕ} {inb hl} :
    Runs c M I (Prog.lift (.load M.a14 (Rect.unit (s := S8x1280x128) off size inb).toLoadRect hl)) (ld14 off size inb) := by
  intro s Q h
  exact (focus_14 c M I s).trans (load_own c M.a14 s.a14 _ Q (BIBase.Entails.trans (put_back s.a14) h))
theorem store_14 {off size : Fin (S8x1280x128).rank → ℕ} {inb w hx hm} :
    Runs c M I (Prog.lift (.store M.a14 (Rect.unit (s := S8x1280x128) off size inb) w Finset.univ hx hm)) (st14 off size inb w) := by
  intro s Q h
  exact (focus_14 c M I s).trans (store_own c M.a14 s.a14 _ Q (BIBase.Entails.trans (put_back (VecWindow.put s.a14 off size w)) h))
theorem load_15 {off size : Fin (S8x5x128x256).rank → ℕ} {inb hl} :
    Runs c M I (Prog.lift (.load M.a15 (Rect.unit (s := S8x5x128x256) off size inb).toLoadRect hl)) (ld15 off size inb) := by
  intro s Q h
  exact (focus_15 c M I s).trans (load_own c M.a15 s.a15 _ Q (BIBase.Entails.trans (put_back s.a15) h))
theorem store_15 {off size : Fin (S8x5x128x256).rank → ℕ} {inb w hx hm} :
    Runs c M I (Prog.lift (.store M.a15 (Rect.unit (s := S8x5x128x256) off size inb) w Finset.univ hx hm)) (st15 off size inb w) := by
  intro s Q h
  exact (focus_15 c M I s).trans (store_own c M.a15 s.a15 _ Q (BIBase.Entails.trans (put_back (VecWindow.put s.a15 off size w)) h))
theorem load_16 {off size : Fin (S2x8x8x512).rank → ℕ} {inb hl} :
    Runs c M I (Prog.lift (.load M.a16 (Rect.unit (s := S2x8x8x512) off size inb).toLoadRect hl)) (ld16 off size inb) := by
  intro s Q h
  exact (focus_16 c M I s).trans (load_own c M.a16 s.a16 _ Q (BIBase.Entails.trans (put_back s.a16) h))
theorem store_16 {off size : Fin (S2x8x8x512).rank → ℕ} {inb w hx hm} :
    Runs c M I (Prog.lift (.store M.a16 (Rect.unit (s := S2x8x8x512) off size inb) w Finset.univ hx hm)) (st16 off size inb w) := by
  intro s Q h
  exact (focus_16 c M I s).trans (store_own c M.a16 s.a16 _ Q (BIBase.Entails.trans (put_back (VecWindow.put s.a16 off size w)) h))
theorem load_17 {off size : Fin (S5x256x512).rank → ℕ} {inb hl} :
    Runs c M I (Prog.lift (.load M.a17 (Rect.unit (s := S5x256x512) off size inb).toLoadRect hl)) (ld17 off size inb) := by
  intro s Q h
  exact (focus_17 c M I s).trans (load_own c M.a17 s.a17 _ Q (BIBase.Entails.trans (put_back s.a17) h))
theorem store_17 {off size : Fin (S5x256x512).rank → ℕ} {inb w hx hm} :
    Runs c M I (Prog.lift (.store M.a17 (Rect.unit (s := S5x256x512) off size inb) w Finset.univ hx hm)) (st17 off size inb w) := by
  intro s Q h
  exact (focus_17 c M I s).trans (store_own c M.a17 s.a17 _ Q (BIBase.Entails.trans (put_back (VecWindow.put s.a17 off size w)) h))
theorem load_18 {off size : Fin (S5x256x512).rank → ℕ} {inb hl} :
    Runs c M I (Prog.lift (.load M.a18 (Rect.unit (s := S5x256x512) off size inb).toLoadRect hl)) (ld18 off size inb) := by
  intro s Q h
  exact (focus_18 c M I s).trans (load_own c M.a18 s.a18 _ Q (BIBase.Entails.trans (put_back s.a18) h))
theorem store_18 {off size : Fin (S5x256x512).rank → ℕ} {inb w hx hm} :
    Runs c M I (Prog.lift (.store M.a18 (Rect.unit (s := S5x256x512) off size inb) w Finset.univ hx hm)) (st18 off size inb w) := by
  intro s Q h
  exact (focus_18 c M I s).trans (store_own c M.a18 s.a18 _ Q (BIBase.Entails.trans (put_back (VecWindow.put s.a18 off size w)) h))

end Cert.KernelIdeal.Run

end
-- ==== Proof.PI.Steps.lean ====
/-
  What each part of the kernel's body does to the state, statement by statement: the same loads, stores, loops and
  conditionals over the same named payloads, as computations on `St`. `s_attn` is the whole body.
-/
module

public import proofs.«01_k».proof.Proof.PI.State

@[expose] public section

set_option synthInstance.maxSize 4096

noncomputable section

namespace Cert.KernelIdeal.Run

open Cert.KernelIdeal Cert.KernelIdeal.Gen
open Idealize.ShloMosaic Idealize.SL.Sem

variable {F : FTy → Type} [FloatOps F] [Named F]

def s_part44 (I : In F) (i : grid0.Coords)  : PM F (Σ' (arg1 : BitVec 32) (v0 : BitVec 32) (v6 : FVec F S256x128 .f32) (v34 : FVec F S256x1 .f32), IVec S256x1 32) := do
  let arg1 : BitVec 32 := BitVec.ofNat 32 (i 1).val
  let v0 : BitVec 32 := Scalar.remsi arg1 5#32
  let v1 : BitVec 1 := Scalar.cmpi .eq arg1 0#32
  let v2 : BitVec 32 := Scalar.extui v1
  let v3 : BitVec 1 := Scalar.cmpi .ne v2 0#32
  if k0_h1 : v3 = 1#1 then do
    let v2661 : Vec F S8x1280x128 .fp8e4m3 ← ld13 ![0, 0, 0] S8x1280x128.size inb_S8x1280x128_S8x1280x128_0_0_0
    st13 ![0, 0, 0] S8x1280x128.size inb_S8x1280x128_S8x1280x128_0_0_0 (k0_pay219 (F := F))
    let v2665 : Vec F S8x5x128x256 .fp8e4m3 ← ld15 ![0, 0, 0, 0] S8x5x128x256.size inb_S8x5x128x256_S8x5x128x256_0_0_0_0
    st15 ![0, 0, 0, 0] S8x5x128x256.size inb_S8x5x128x256_S8x5x128x256_0_0_0_0 (k0_pay220 (F := F))
    pure ⟨⟩
  else do
    pure ⟨⟩
  let v4 : Vec F S1x256x128 .bf16 ← ld3 I ![0, 0, 0] S1x256x128.size inb_S1x256x1024_S1x256x128_0_0_0
  pure ⟨arg1, v0, k0_pay221 v4, k0_pay223 v4, k0_pay224 v4⟩

def s_part45 (I : In F) (i : grid0.Coords) (v0 : BitVec 32) (v6 : FVec F S256x128 .f32) (v34 : FVec F S256x1 .f32) (v38 : IVec S256x1 32) : PM F (Σ' (v71 : FVec F S256x128 .f32), FVec F S256x128 .f32) := do
  let v49 : Vec F S1x256x128 .fp8e4m3 ← ld13 (k0_off1 i) S1x256x128.size (k0_off1_inb i)
  st13 (k0_off1 i) S1x256x128.size (k0_off1_inb i) (k0_pay226 v6 v38)
  let v56 : Vec F S1x256x128 .f32 ← ld14 (k0_off1 i) S1x256x128.size (k0_off1_inb i)
  st14 (k0_off1 i) S1x256x128.size (k0_off1_inb i) (k0_pay227 v34)
  let v59 : Vec F S1x256x128 .fp8e4m3 ← ld10 ![0, 0, 0] S1x256x128.size inb_S1x256x1024_S1x256x128_0_0_0
  st10 ![0, 0, 0] S1x256x128.size inb_S1x256x1024_S1x256x128_0_0_0 (k0_pay228 v6 v38)
  let v62 : Vec F S1x256x1 .f32 ← ld11 ![0, 0, 0] S1x256x1.size inb_S1x256x8_S1x256x1_0_0_0
  st11 ![0, 0, 0] S1x256x1.size inb_S1x256x8_S1x256x1_0_0_0 (k0_pay229 v34)
  let v65 : Vec F S1x1x1x128 .f32 ← ld5 I ![0, 0, 0, 0] S1x1x1x128.size inb_S1x8x8x128_S1x1x1x128_0_0_0_0
  let v69 : Vec F S1x256x128 .bf16 ← ld4 I ![0, 0, 0] S1x256x128.size inb_S1x256x1024_S1x256x128_0_0_0
  pure ⟨k0_pay230 v69, k0_pay231 v65⟩

def s_part46 (I : In F) (i : grid0.Coords) (v0 : BitVec 32) (v71 : FVec F S256x128 .f32) (v72 : FVec F S256x128 .f32) : PM F (Σ' (v92 : FVec F S256x128 .f32) (v109 : IVec S256x1 32) (v111 : IVec S256x1 1), IVec S256x1 32) := do
  let v79 : Vec F S1x256x128 .fp8e4m3 ← ld12 ![0, 0, 0] S1x256x128.size inb_S1x256x1024_S1x256x128_0_0_0
  st12 ![0, 0, 0] S1x256x128.size inb_S1x256x1024_S1x256x128_0_0_0 (k0_pay233 v71 v72)
  let v87 : Vec F S1x1x128x256 .fp8e4m3 ← ld15 (k0_off2 i) S1x1x128x256.size (k0_off2_inb i)
  st15 (k0_off2 i) S1x1x128x256.size (k0_off2_inb i) (k0_pay234 v71 v72)
  let v90 : Vec F S1x256x128 .bf16 ← ld3 I ![0, 0, 128] S1x256x128.size inb_S1x256x1024_S1x256x128_0_0_128
  pure ⟨k0_pay235 v90, k0_pay236 v90, k0_pay237 v90, k0_pay238⟩

def s_part47 (I : In F) (i : grid0.Coords) (v0 : BitVec 32) (v92 : FVec F S256x128 .f32) (v109 : IVec S256x1 32) (v111 : IVec S256x1 1) (v112 : IVec S256x1 32) : PM F (FVec F S1x256x1 .f32) := do
  let v135 : Vec F S1x256x128 .fp8e4m3 ← ld13 (k0_off3 i) S1x256x128.size (k0_off3_inb i)
  st13 (k0_off3 i) S1x256x128.size (k0_off3_inb i) (k0_pay242 v92 v109 v111 v112)
  let v142 : Vec F S1x256x128 .f32 ← ld14 (k0_off3 i) S1x256x128.size (k0_off3_inb i)
  st14 (k0_off3 i) S1x256x128.size (k0_off3_inb i) (k0_pay243 (F := F) v109 v111 v112)
  let v145 : Vec F S1x256x128 .fp8e4m3 ← ld10 ![0, 0, 128] S1x256x128.size inb_S1x256x1024_S1x256x128_0_0_128
  st10 ![0, 0, 128] S1x256x128.size inb_S1x256x1024_S1x256x128_0_0_128 (k0_pay244 v92 v109 v111 v112)
  let v148 : Vec F S1x256x1 .f32 ← ld11 ![0, 0, 1] S1x256x1.size inb_S1x256x8_S1x256x1_0_0_1
  pure (k0_pay245 (F := F) v109 v111 v112)

def s_part48 (I : In F) (i : grid0.Coords) (v0 : BitVec 32) (v150 : FVec F S1x256x1 .f32) : PM F (Σ' (v178 : FVec F S256x128 .f32) (v183 : FVec F S256x1 .f32) (v184 : IVec S256x1x256 32), IVec S256x1x256 32) := do
  st11 ![0, 0, 1] S1x256x1.size inb_S1x256x8_S1x256x1_0_0_1 v150
  let v151 : Vec F S1x1x1x128 .f32 ← ld5 I ![0, 1, 0, 0] S1x1x1x128.size inb_S1x8x8x128_S1x1x1x128_0_1_0_0
  let v155 : Vec F S1x256x128 .bf16 ← ld4 I ![0, 0, 128] S1x256x128.size inb_S1x256x1024_S1x256x128_0_0_128
  let v165 : Vec F S1x256x128 .fp8e4m3 ← ld12 ![0, 0, 128] S1x256x128.size inb_S1x256x1024_S1x256x128_0_0_128
  st12 ![0, 0, 128] S1x256x128.size inb_S1x256x1024_S1x256x128_0_0_128 (k0_pay247 v151 v155)
  let v173 : Vec F S1x1x128x256 .fp8e4m3 ← ld15 (k0_off4 i) S1x1x128x256.size (k0_off4_inb i)
  st15 (k0_off4 i) S1x1x128x256.size (k0_off4_inb i) (k0_pay248 v151 v155)
  let v176 : Vec F S1x256x128 .bf16 ← ld3 I ![0, 0, 256] S1x256x128.size inb_S1x256x1024_S1x256x128_0_0_256
  have v184 : IVec S256x1x256 32 := iota .tc S256x1x256 32 [2] iota_S256x1x256_d2_w32
  pure ⟨k0_pay249 v176, k0_pay250 v176, v184, k0_pay251⟩

def s_part49 (I : In F) (i : grid0.Coords) (v0 : BitVec 32) (v178 : FVec F S256x128 .f32) (v183 : FVec F S256x1 .f32) (v184 : IVec S256x1x256 32) (v185 : IVec S256x1x256 32) : PM F (Σ' (v206 : FVec F S256x1 .f32) (v218 : FVec F S256x128 .fp8e4m3), FVec F S256x128 .f32) := do
  let v221 : Vec F S1x256x128 .fp8e4m3 ← ld13 (k0_off5 i) S1x256x128.size (k0_off5_inb i)
  st13 (k0_off5 i) S1x256x128.size (k0_off5_inb i) (k0_pay255 v178 v183 v184 v185)
  pure ⟨k0_pay253 v183 v184 v185, k0_pay254 v178 v183 v184 v185, k0_pay256 v183 v184 v185⟩

def s_part50 (I : In F) (i : grid0.Coords) (v0 : BitVec 32) (v206 : FVec F S256x1 .f32) (v218 : FVec F S256x128 .fp8e4m3) (v225 : FVec F S256x128 .f32) : PM F (FVec F S1x1x128x256 .fp8e4m3) := do
  let v228 : Vec F S1x256x128 .f32 ← ld14 (k0_off5 i) S1x256x128.size (k0_off5_inb i)
  st14 (k0_off5 i) S1x256x128.size (k0_off5_inb i) (k0_pay257 v225)
  let v231 : Vec F S1x256x128 .fp8e4m3 ← ld10 ![0, 0, 256] S1x256x128.size inb_S1x256x1024_S1x256x128_0_0_256
  st10 ![0, 0, 256] S1x256x128.size inb_S1x256x1024_S1x256x128_0_0_256 (k0_pay258 v218)
  let v234 : Vec F S1x256x1 .f32 ← ld11 ![0, 0, 2] S1x256x1.size inb_S1x256x8_S1x256x1_0_0_2
  st11 ![0, 0, 2] S1x256x1.size inb_S1x256x8_S1x256x1_0_0_2 (k0_pay259 v206)
  let v237 : Vec F S1x1x1x128 .f32 ← ld5 I ![0, 2, 0, 0] S1x1x1x128.size inb_S1x8x8x128_S1x1x1x128_0_2_0_0
  let v241 : Vec F S1x256x128 .bf16 ← ld4 I ![0, 0, 256] S1x256x128.size inb_S1x256x1024_S1x256x128_0_0_256
  let v251 : Vec F S1x256x128 .fp8e4m3 ← ld12 ![0, 0, 256] S1x256x128.size inb_S1x256x1024_S1x256x128_0_0_256
  st12 ![0, 0, 256] S1x256x128.size inb_S1x256x1024_S1x256x128_0_0_256 (k0_pay261 v237 v241)
  let v259 : Vec F S1x1x128x256 .fp8e4m3 ← ld15 (k0_off6 i) S1x1x128x256.size (k0_off6_inb i)
  pure (k0_pay262 v237 v241)

def s_part51 (I : In F) (i : grid0.Coords) (v261 : FVec F S1x1x128x256 .fp8e4m3) : PM F (Σ' (v292 : FVec F S256x1 .f32), FVec F S256x128 .f32) := do
  st15 (k0_off6 i) S1x1x128x256.size (k0_off6_inb i) v261
  let v262 : Vec F S1x256x128 .bf16 ← ld3 I ![0, 0, 384] S1x256x128.size inb_S1x256x1024_S1x256x128_0_0_384
  pure ⟨k0_pay265 v262, k0_pay266 v262⟩

def s_part52 (I : In F) (i : grid0.Coords) (v0 : BitVec 32) (v292 : FVec F S256x1 .f32) (v303 : FVec F S256x128 .f32) : PM F (FVec F S256x128 .fp8e4m3) := do
  let v307 : Vec F S1x256x128 .fp8e4m3 ← ld13 (k0_off7 i) S1x256x128.size (k0_off7_inb i)
  st13 (k0_off7 i) S1x256x128.size (k0_off7_inb i) (k0_pay268 v303)
  let v314 : Vec F S1x256x128 .f32 ← ld14 (k0_off7 i) S1x256x128.size (k0_off7_inb i)
  st14 (k0_off7 i) S1x256x128.size (k0_off7_inb i) (k0_pay269 v292)
  let v317 : Vec F S1x256x128 .fp8e4m3 ← ld10 ![0, 0, 384] S1x256x128.size inb_S1x256x1024_S1x256x128_0_0_384
  st10 ![0, 0, 384] S1x256x128.size inb_S1x256x1024_S1x256x128_0_0_384 (k0_pay270 v303)
  let v320 : Vec F S1x256x1 .f32 ← ld11 ![0, 0, 3] S1x256x1.size inb_S1x256x8_S1x256x1_0_0_3
  st11 ![0, 0, 3] S1x256x1.size inb_S1x256x8_S1x256x1_0_0_3 (k0_pay271 v292)
  let v323 : Vec F S1x1x1x128 .f32 ← ld5 I ![0, 3, 0, 0] S1x1x1x128.size inb_S1x8x8x128_S1x1x1x128_0_3_0_0
  let v327 : Vec F S1x256x128 .bf16 ← ld4 I ![0, 0, 384] S1x256x128.size inb_S1x256x1024_S1x256x128_0_0_384
  pure (k0_pay272 v323 v327)

def s_part53 (I : In F) (i : grid0.Coords) (v0 : BitVec 32) (v336 : FVec F S256x128 .fp8e4m3) : PM F (Σ' (v350 : FVec F S256x128 .f32) (v373 : IVec S256x1 32) (v375 : IVec S256x1 32), IVec S256x1 32) := do
  let v337 : Vec F S1x256x128 .fp8e4m3 ← ld12 ![0, 0, 384] S1x256x128.size inb_S1x256x1024_S1x256x128_0_0_384
  st12 ![0, 0, 384] S1x256x128.size inb_S1x256x1024_S1x256x128_0_0_384 (k0_pay273 v336)
  let v345 : Vec F S1x1x128x256 .fp8e4m3 ← ld15 (k0_off8 i) S1x1x128x256.size (k0_off8_inb i)
  st15 (k0_off8 i) S1x1x128x256.size (k0_off8_inb i) (k0_pay274 v336)
  let v348 : Vec F S1x256x128 .bf16 ← ld3 I ![0, 0, 512] S1x256x128.size inb_S1x256x1024_S1x256x128_0_0_512
  pure ⟨k0_pay275 v348, k0_pay276 v348, k0_pay277 v348, k0_pay278⟩

def s_part54 (I : In F) (i : grid0.Coords) (v0 : BitVec 32) (v350 : FVec F S256x128 .f32) (v373 : IVec S256x1 32) (v375 : IVec S256x1 32) (v376 : IVec S256x1 32) : PM F (Σ' (v410 : FVec F S1x128 .f32), FVec F S1x128 .f32) := do
  let v393 : Vec F S1x256x128 .fp8e4m3 ← ld13 (k0_off9 i) S1x256x128.size (k0_off9_inb i)
  st13 (k0_off9 i) S1x256x128.size (k0_off9_inb i) (k0_pay281 v350 v373)
  let v400 : Vec F S1x256x128 .f32 ← ld14 (k0_off9 i) S1x256x128.size (k0_off9_inb i)
  st14 (k0_off9 i) S1x256x128.size (k0_off9_inb i) (k0_pay282 (F := F) v375 v376)
  let v403 : Vec F S1x256x128 .fp8e4m3 ← ld10 ![0, 0, 512] S1x256x128.size inb_S1x256x1024_S1x256x128_0_0_512
  st10 ![0, 0, 512] S1x256x128.size inb_S1x256x1024_S1x256x128_0_0_512 (k0_pay283 v350 v373)
  let v406 : Vec F S1x256x1 .f32 ← ld11 ![0, 0, 4] S1x256x1.size inb_S1x256x8_S1x256x1_0_0_4
  st11 ![0, 0, 4] S1x256x1.size inb_S1x256x8_S1x256x1_0_0_4 (k0_pay284 (F := F) v375 v376)
  let v409 : Vec F S1x1x1x128 .f32 ← ld5 I ![0, 4, 0, 0] S1x1x1x128.size inb_S1x8x8x128_S1x1x1x128_0_4_0_0
  pure ⟨k0_pay285 v409, k0_pay286 (F := F)⟩

def s_part55 (I : In F) (i : grid0.Coords) (v0 : BitVec 32) (v410 : FVec F S1x128 .f32) (v411 : FVec F S1x128 .f32) : PM F (Σ' (v436 : FVec F S256x128 .f32), IVec S256x1x256 1) := do
  let v413 : Vec F S1x256x128 .bf16 ← ld4 I ![0, 0, 512] S1x256x128.size inb_S1x256x1024_S1x256x128_0_0_512
  let v423 : Vec F S1x256x128 .fp8e4m3 ← ld12 ![0, 0, 512] S1x256x128.size inb_S1x256x1024_S1x256x128_0_0_512
  st12 ![0, 0, 512] S1x256x128.size inb_S1x256x1024_S1x256x128_0_0_512 (k0_pay288 v410 v411 v413)
  let v431 : Vec F S1x1x128x256 .fp8e4m3 ← ld15 (k0_off10 i) S1x1x128x256.size (k0_off10_inb i)
  st15 (k0_off10 i) S1x1x128x256.size (k0_off10_inb i) (k0_pay289 v410 v411 v413)
  let v434 : Vec F S1x256x128 .bf16 ← ld3 I ![0, 0, 640] S1x256x128.size inb_S1x256x1024_S1x256x128_0_0_640
  pure ⟨k0_pay290 v434, k0_pay291 v434⟩

def s_part56 (I : In F) (i : grid0.Coords) (v0 : BitVec 32) (v436 : FVec F S256x128 .f32) (v451 : IVec S256x1x256 1) : PM F (Σ' (v464 : FVec F S256x1 .f32), FVec F S256x128 .fp8e4m3) := do
  let v479 : Vec F S1x256x128 .fp8e4m3 ← ld13 (k0_off11 i) S1x256x128.size (k0_off11_inb i)
  st13 (k0_off11 i) S1x256x128.size (k0_off11_inb i) (k0_pay295 v436 v451)
  let v486 : Vec F S1x256x128 .f32 ← ld14 (k0_off11 i) S1x256x128.size (k0_off11_inb i)
  st14 (k0_off11 i) S1x256x128.size (k0_off11_inb i) (k0_pay296 (F := F) v451)
  let v489 : Vec F S1x256x128 .fp8e4m3 ← ld10 ![0, 0, 640] S1x256x128.size inb_S1x256x1024_S1x256x128_0_0_640
  pure ⟨k0_pay293 (F := F) v451, k0_pay294 v436 v451⟩

def s_part57 (I : In F) (i : grid0.Coords) (v0 : BitVec 32) (v464 : FVec F S256x1 .f32) (v476 : FVec F S256x128 .fp8e4m3) : PM F (Σ' (v522 : FVec F S256x128 .f32), FVec F S256x128 .f32) := do
  st10 ![0, 0, 640] S1x256x128.size inb_S1x256x1024_S1x256x128_0_0_640 (k0_pay297 v476)
  let v492 : Vec F S1x256x1 .f32 ← ld11 ![0, 0, 5] S1x256x1.size inb_S1x256x8_S1x256x1_0_0_5
  st11 ![0, 0, 5] S1x256x1.size inb_S1x256x8_S1x256x1_0_0_5 (k0_pay298 v464)
  let v495 : Vec F S1x1x1x128 .f32 ← ld5 I ![0, 5, 0, 0] S1x1x1x128.size inb_S1x8x8x128_S1x1x1x128_0_5_0_0
  let v499 : Vec F S1x256x128 .bf16 ← ld4 I ![0, 0, 640] S1x256x128.size inb_S1x256x1024_S1x256x128_0_0_640
  let v509 : Vec F S1x256x128 .fp8e4m3 ← ld12 ![0, 0, 640] S1x256x128.size inb_S1x256x1024_S1x256x128_0_0_640
  st12 ![0, 0, 640] S1x256x128.size inb_S1x256x1024_S1x256x128_0_0_640 (k0_pay300 v495 v499)
  let v517 : Vec F S1x1x128x256 .fp8e4m3 ← ld15 (k0_off12 i) S1x1x128x256.size (k0_off12_inb i)
  st15 (k0_off12 i) S1x1x128x256.size (k0_off12_inb i) (k0_pay301 v495 v499)
  let v520 : Vec F S1x256x128 .bf16 ← ld3 I ![0, 0, 768] S1x256x128.size inb_S1x256x1024_S1x256x128_0_0_768
  pure ⟨k0_pay302 v520, k0_pay303 v520⟩

def s_part58 (I : In F) (i : grid0.Coords) (v0 : BitVec 32) (v522 : FVec F S256x128 .f32) (v523 : FVec F S256x128 .f32) : PM F (Σ' (v550 : FVec F S256x1 .f32) (v562 : FVec F S256x128 .fp8e4m3), FVec F S1x256x128 .fp8e4m3) := do
  let v565 : Vec F S1x256x128 .fp8e4m3 ← ld13 (k0_off13 i) S1x256x128.size (k0_off13_inb i)
  pure ⟨k0_pay305 v523, k0_pay306 v522 v523, k0_pay307 v522 v523⟩

def s_part59 (I : In F) (i : grid0.Coords) (v0 : BitVec 32) (v550 : FVec F S256x1 .f32) (v562 : FVec F S256x128 .fp8e4m3) (v567 : FVec F S1x256x128 .fp8e4m3) : PM F (FVec F S128x256 .fp8e4m3) := do
  st13 (k0_off13 i) S1x256x128.size (k0_off13_inb i) v567
  let v572 : Vec F S1x256x128 .f32 ← ld14 (k0_off13 i) S1x256x128.size (k0_off13_inb i)
  st14 (k0_off13 i) S1x256x128.size (k0_off13_inb i) (k0_pay308 v550)
  let v575 : Vec F S1x256x128 .fp8e4m3 ← ld10 ![0, 0, 768] S1x256x128.size inb_S1x256x1024_S1x256x128_0_0_768
  st10 ![0, 0, 768] S1x256x128.size inb_S1x256x1024_S1x256x128_0_0_768 (k0_pay309 v562)
  let v578 : Vec F S1x256x1 .f32 ← ld11 ![0, 0, 6] S1x256x1.size inb_S1x256x8_S1x256x1_0_0_6
  st11 ![0, 0, 6] S1x256x1.size inb_S1x256x8_S1x256x1_0_0_6 (k0_pay310 v550)
  let v581 : Vec F S1x1x1x128 .f32 ← ld5 I ![0, 6, 0, 0] S1x1x1x128.size inb_S1x8x8x128_S1x1x1x128_0_6_0_0
  let v585 : Vec F S1x256x128 .bf16 ← ld4 I ![0, 0, 768] S1x256x128.size inb_S1x256x1024_S1x256x128_0_0_768
  let v595 : Vec F S1x256x128 .fp8e4m3 ← ld12 ![0, 0, 768] S1x256x128.size inb_S1x256x1024_S1x256x128_0_0_768
  st12 ![0, 0, 768] S1x256x128.size inb_S1x256x1024_S1x256x128_0_0_768 (k0_pay312 v581 v585)
  pure (k0_pay313 v581 v585)

def s_part60 (I : In F) (i : grid0.Coords) (v0 : BitVec 32) (v600 : FVec F S128x256 .fp8e4m3) : PM F (Σ' (v608 : FVec F S256x128 .f32) (v636 : FVec F S256x1 .f32), FVec F S256x1 .f32) := do
  let v603 : Vec F S1x1x128x256 .fp8e4m3 ← ld15 (k0_off14 i) S1x1x128x256.size (k0_off14_inb i)
  st15 (k0_off14 i) S1x1x128x256.size (k0_off14_inb i) (k0_pay314 v600)
  let v606 : Vec F S1x256x128 .bf16 ← ld3 I ![0, 0, 896] S1x256x128.size inb_S1x256x1024_S1x256x128_0_0_896
  pure ⟨k0_pay315 v606, k0_pay317 v606, k0_pay318 v606⟩

def s_part61 (I : In F) (i : grid0.Coords) (v0 : BitVec 32) (v608 : FVec F S256x128 .f32) (v636 : FVec F S256x1 .f32) (v641 : FVec F S256x1 .f32) : PM F (FVec F S256x128 .f32) := do
  let v651 : Vec F S1x256x128 .fp8e4m3 ← ld13 (k0_off15 i) S1x256x128.size (k0_off15_inb i)
  st13 (k0_off15 i) S1x256x128.size (k0_off15_inb i) (k0_pay320 v608 v641)
  let v658 : Vec F S1x256x128 .f32 ← ld14 (k0_off15 i) S1x256x128.size (k0_off15_inb i)
  st14 (k0_off15 i) S1x256x128.size (k0_off15_inb i) (k0_pay321 v636)
  let v661 : Vec F S1x256x128 .fp8e4m3 ← ld10 ![0, 0, 896] S1x256x128.size inb_S1x256x1024_S1x256x128_0_0_896
  st10 ![0, 0, 896] S1x256x128.size inb_S1x256x1024_S1x256x128_0_0_896 (k0_pay322 v608 v641)
  let v664 : Vec F S1x256x1 .f32 ← ld11 ![0, 0, 7] S1x256x1.size inb_S1x256x8_S1x256x1_0_0_7
  st11 ![0, 0, 7] S1x256x1.size inb_S1x256x8_S1x256x1_0_0_7 (k0_pay323 v636)
  let v667 : Vec F S1x1x1x128 .f32 ← ld5 I ![0, 7, 0, 0] S1x1x1x128.size inb_S1x8x8x128_S1x1x1x128_0_7_0_0
  let v671 : Vec F S1x256x128 .bf16 ← ld4 I ![0, 0, 896] S1x256x128.size inb_S1x256x1024_S1x256x128_0_0_896
  pure (k0_pay324 v667 v671)

def s_part62 (I : In F) (i : grid0.Coords) (v0 : BitVec 32) (v675 : FVec F S256x128 .f32) : PM F (Σ' (v694 : FVec F S256x128 .f32) (v713 : IVec S256x1 1), IVec S256x1 32) := do
  let v681 : Vec F S1x256x128 .fp8e4m3 ← ld12 ![0, 0, 896] S1x256x128.size inb_S1x256x1024_S1x256x128_0_0_896
  st12 ![0, 0, 896] S1x256x128.size inb_S1x256x1024_S1x256x128_0_0_896 (k0_pay326 v675)
  let v689 : Vec F S1x1x128x256 .fp8e4m3 ← ld15 (k0_off16 i) S1x1x128x256.size (k0_off16_inb i)
  st15 (k0_off16 i) S1x1x128x256.size (k0_off16_inb i) (k0_pay327 v675)
  let v692 : Vec F S1x256x128 .bf16 ← ld2 I ![0, 0, 0] S1x256x128.size inb_S1x256x4096_S1x256x128_0_0_0
  pure ⟨k0_pay328 v692, k0_pay330 v692, k0_pay331 v692⟩

def s_part63 (I : In F) (i : grid0.Coords) (v694 : FVec F S256x128 .f32) (v713 : IVec S256x1 1) (v715 : IVec S256x1 32) : PM F (Σ' (v743 : FVec F S256x128 .f32) (v748 : FVec F S256x1 .f32) (v749 : IVec S256x1x256 32) (v752 : FVec F S256x1x256 .f32), IVec S256x1x256 32) := do
  let v735 : Vec F S1x256x128 .fp8e4m3 ← ld8 ![0, 0, 0] S1x256x128.size inb_S1x256x4096_S1x256x128_0_0_0
  st8 ![0, 0, 0] S1x256x128.size inb_S1x256x4096_S1x256x128_0_0_0 (k0_pay333 v694 v713 v715)
  let v738 : Vec F S1x256x1 .f32 ← ld9 ![0, 0, 0] S1x256x1.size inb_S1x256x32_S1x256x1_0_0_0
  st9 ![0, 0, 0] S1x256x1.size inb_S1x256x32_S1x256x1_0_0_0 (k0_pay334 (F := F) v713 v715)
  let v741 : Vec F S1x256x128 .bf16 ← ld2 I ![0, 0, 128] S1x256x128.size inb_S1x256x4096_S1x256x128_0_0_128
  have v749 : IVec S256x1x256 32 := iota .tc S256x1x256 32 [2] iota_S256x1x256_d2_w32
  pure ⟨k0_pay335 v741, k0_pay336 v741, v749, k0_pay337 (F := F), k0_pay338⟩

def s_part64 (I : In F) (i : grid0.Coords) (v743 : FVec F S256x128 .f32) (v748 : FVec F S256x1 .f32) (v749 : IVec S256x1x256 32) (v752 : FVec F S256x1x256 .f32) (v753 : IVec S256x1x256 32) : PM F (FVec F S256x128 .f32) := do
  let v784 : Vec F S1x256x128 .fp8e4m3 ← ld8 ![0, 0, 128] S1x256x128.size inb_S1x256x4096_S1x256x128_0_0_128
  st8 ![0, 0, 128] S1x256x128.size inb_S1x256x4096_S1x256x128_0_0_128 (k0_pay340 v743 v748 v749 v752 v753)
  let v787 : Vec F S1x256x1 .f32 ← ld9 ![0, 0, 1] S1x256x1.size inb_S1x256x32_S1x256x1_0_0_1
  st9 ![0, 0, 1] S1x256x1.size inb_S1x256x32_S1x256x1_0_0_1 (k0_pay341 v748 v749 v752 v753)
  let v790 : Vec F S1x256x128 .bf16 ← ld2 I ![0, 0, 256] S1x256x128.size inb_S1x256x4096_S1x256x128_0_0_256
  pure (k0_pay342 v790)

def s_part65 (I : In F) (i : grid0.Coords) (v792 : FVec F S256x128 .f32) : PM F (Σ' (v820 : FVec F S256x1 .f32), FVec F S1x256x128 .fp8e4m3) := do
  let v833 : Vec F S1x256x128 .fp8e4m3 ← ld8 ![0, 0, 256] S1x256x128.size inb_S1x256x4096_S1x256x128_0_0_256
  pure ⟨k0_pay344 v792, k0_pay345 v792⟩

def s_part66 (I : In F) (i : grid0.Coords) (v820 : FVec F S256x1 .f32) (v835 : FVec F S1x256x128 .fp8e4m3) : PM F (Σ' (v841 : FVec F S256x128 .f32) (v869 : FVec F S256x1 .f32), FVec F S256x128 .f32) := do
  st8 ![0, 0, 256] S1x256x128.size inb_S1x256x4096_S1x256x128_0_0_256 v835
  let v836 : Vec F S1x256x1 .f32 ← ld9 ![0, 0, 2] S1x256x1.size inb_S1x256x32_S1x256x1_0_0_2
  st9 ![0, 0, 2] S1x256x1.size inb_S1x256x32_S1x256x1_0_0_2 (k0_pay346 v820)
  let v839 : Vec F S1x256x128 .bf16 ← ld2 I ![0, 0, 384] S1x256x128.size inb_S1x256x4096_S1x256x128_0_0_384
  pure ⟨k0_pay347 v839, k0_pay349 v839, k0_pay350 v839⟩

def s_part67 (I : In F) (i : grid0.Coords) (v841 : FVec F S256x128 .f32) (v869 : FVec F S256x1 .f32) (v875 : FVec F S256x128 .f32) : PM F (Σ' (v890 : FVec F S256x128 .f32) (v913 : IVec S256x1 32), BitVec 32) := do
  let v882 : Vec F S1x256x128 .fp8e4m3 ← ld8 ![0, 0, 384] S1x256x128.size inb_S1x256x4096_S1x256x128_0_0_384
  st8 ![0, 0, 384] S1x256x128.size inb_S1x256x4096_S1x256x128_0_0_384 (k0_pay351 v841 v875)
  let v885 : Vec F S1x256x1 .f32 ← ld9 ![0, 0, 3] S1x256x1.size inb_S1x256x32_S1x256x1_0_0_3
  st9 ![0, 0, 3] S1x256x1.size inb_S1x256x32_S1x256x1_0_0_3 (k0_pay352 v869)
  let v888 : Vec F S1x256x128 .bf16 ← ld2 I ![0, 0, 512] S1x256x128.size inb_S1x256x4096_S1x256x128_0_0_512
  pure ⟨k0_pay353 v888, k0_pay354 v888, 127#32⟩

def s_part68 (I : In F) (i : grid0.Coords) (v890 : FVec F S256x128 .f32) (v913 : IVec S256x1 32) (c127_i32_444 : BitVec 32) : PM F (Σ' (v939 : FVec F S256x128 .f32) (v950 : IVec S256x1x256 1), IVec S256x1x256 1) := do
  let v931 : Vec F S1x256x128 .fp8e4m3 ← ld8 ![0, 0, 512] S1x256x128.size inb_S1x256x4096_S1x256x128_0_0_512
  st8 ![0, 0, 512] S1x256x128.size inb_S1x256x4096_S1x256x128_0_0_512 (k0_pay355 v890 v913)
  let v934 : Vec F S1x256x1 .f32 ← ld9 ![0, 0, 4] S1x256x1.size inb_S1x256x32_S1x256x1_0_0_4
  st9 ![0, 0, 4] S1x256x1.size inb_S1x256x32_S1x256x1_0_0_4 (k0_pay356 (F := F) v913 c127_i32_444)
  let v937 : Vec F S1x256x128 .bf16 ← ld2 I ![0, 0, 640] S1x256x128.size inb_S1x256x4096_S1x256x128_0_0_640
  pure ⟨k0_pay357 v937, k0_pay358, k0_pay359 v937⟩

def s_part69 (I : In F) (i : grid0.Coords) (v939 : FVec F S256x128 .f32) (v950 : IVec S256x1x256 1) (v953 : IVec S256x1x256 1) : PM F (Σ' (v988 : FVec F S256x128 .f32), FVec F S256x1 .f32) := do
  let v980 : Vec F S1x256x128 .fp8e4m3 ← ld8 ![0, 0, 640] S1x256x128.size inb_S1x256x4096_S1x256x128_0_0_640
  st8 ![0, 0, 640] S1x256x128.size inb_S1x256x4096_S1x256x128_0_0_640 (k0_pay361 v939 v950 v953)
  let v983 : Vec F S1x256x1 .f32 ← ld9 ![0, 0, 5] S1x256x1.size inb_S1x256x32_S1x256x1_0_0_5
  st9 ![0, 0, 5] S1x256x1.size inb_S1x256x32_S1x256x1_0_0_5 (k0_pay362 (F := F) v950 v953)
  let v986 : Vec F S1x256x128 .bf16 ← ld2 I ![0, 0, 768] S1x256x128.size inb_S1x256x4096_S1x256x128_0_0_768
  pure ⟨k0_pay363 v986, k0_pay364 v986⟩

def s_part70 (I : In F) (i : grid0.Coords) (v988 : FVec F S256x128 .f32) (v991 : FVec F S256x1 .f32) : PM F (FVec F S256x1 .f32) := do
  let v1029 : Vec F S1x256x128 .fp8e4m3 ← ld8 ![0, 0, 768] S1x256x128.size inb_S1x256x4096_S1x256x128_0_0_768
  st8 ![0, 0, 768] S1x256x128.size inb_S1x256x4096_S1x256x128_0_0_768 (k0_pay367 v988 v991)
  pure (k0_pay366 v991)

def s_part71 (I : In F) (i : grid0.Coords) (v1016 : FVec F S256x1 .f32) : PM F (Σ' (v1065 : FVec F S256x1 .f32) (v1072 : FVec F S256x128 .f32) (cst_518 : F .f32), FVec F S256x128 .f32) := do
  let v1032 : Vec F S1x256x1 .f32 ← ld9 ![0, 0, 6] S1x256x1.size inb_S1x256x32_S1x256x1_0_0_6
  st9 ![0, 0, 6] S1x256x1.size inb_S1x256x32_S1x256x1_0_0_6 (k0_pay368 v1016)
  let v1035 : Vec F S1x256x128 .bf16 ← ld2 I ![0, 0, 896] S1x256x128.size inb_S1x256x4096_S1x256x128_0_0_896
  have cst_518 : F .f32 := Scalar.ofBits .f32 0x43E00000#32
  pure ⟨k0_pay371 v1035, k0_pay372 v1035, cst_518, k0_pay373 (F := F)⟩

def s_part72 (I : In F) (i : grid0.Coords) (v1065 : FVec F S256x1 .f32) (v1072 : FVec F S256x128 .f32) (cst_518 : F .f32) (v1073 : FVec F S256x128 .f32) : PM F (Σ' (v1086 : FVec F S256x128 .f32) (v1109 : IVec S256x1 32) (v1111 : IVec S256x1 32), IVec S256x1 32) := do
  let v1078 : Vec F S1x256x128 .fp8e4m3 ← ld8 ![0, 0, 896] S1x256x128.size inb_S1x256x4096_S1x256x128_0_0_896
  st8 ![0, 0, 896] S1x256x128.size inb_S1x256x4096_S1x256x128_0_0_896 (k0_pay374 v1072 cst_518 v1073)
  let v1081 : Vec F S1x256x1 .f32 ← ld9 ![0, 0, 7] S1x256x1.size inb_S1x256x32_S1x256x1_0_0_7
  st9 ![0, 0, 7] S1x256x1.size inb_S1x256x32_S1x256x1_0_0_7 (k0_pay375 v1065)
  let v1084 : Vec F S1x256x128 .bf16 ← ld2 I ![0, 0, 1024] S1x256x128.size inb_S1x256x4096_S1x256x128_0_0_1024
  pure ⟨k0_pay376 v1084, k0_pay377 v1084, k0_pay378 v1084, k0_pay379⟩

def s_part73 (I : In F) (i : grid0.Coords) (v1086 : FVec F S256x128 .f32) (v1109 : IVec S256x1 32) (v1111 : IVec S256x1 32) (v1112 : IVec S256x1 32) : PM F (Σ' (v1135 : FVec F S256x128 .f32), IVec S256x1 32) := do
  let v1127 : Vec F S1x256x128 .fp8e4m3 ← ld8 ![0, 0, 1024] S1x256x128.size inb_S1x256x4096_S1x256x128_0_0_1024
  st8 ![0, 0, 1024] S1x256x128.size inb_S1x256x4096_S1x256x128_0_0_1024 (k0_pay380 v1086 v1109)
  let v1130 : Vec F S1x256x1 .f32 ← ld9 ![0, 0, 8] S1x256x1.size inb_S1x256x32_S1x256x1_0_0_8
  st9 ![0, 0, 8] S1x256x1.size inb_S1x256x32_S1x256x1_0_0_8 (k0_pay381 (F := F) v1111 v1112)
  let v1133 : Vec F S1x256x128 .bf16 ← ld2 I ![0, 0, 1152] S1x256x128.size inb_S1x256x4096_S1x256x128_0_0_1152
  pure ⟨k0_pay382 v1133, k0_pay383 v1133⟩

def s_part74 (I : In F) (i : grid0.Coords) (v1135 : FVec F S256x128 .f32) (v1152 : IVec S256x1 32) : PM F (Σ' (v1184 : FVec F S256x128 .f32) (v1189 : FVec F S256x1 .f32), IVec S256x1x256 32) := do
  let v1176 : Vec F S1x256x128 .fp8e4m3 ← ld8 ![0, 0, 1152] S1x256x128.size inb_S1x256x4096_S1x256x128_0_0_1152
  st8 ![0, 0, 1152] S1x256x128.size inb_S1x256x4096_S1x256x128_0_0_1152 (k0_pay385 v1135 v1152)
  let v1179 : Vec F S1x256x1 .f32 ← ld9 ![0, 0, 9] S1x256x1.size inb_S1x256x32_S1x256x1_0_0_9
  st9 ![0, 0, 9] S1x256x1.size inb_S1x256x32_S1x256x1_0_0_9 (k0_pay386 (F := F) v1152)
  let v1182 : Vec F S1x256x128 .bf16 ← ld2 I ![0, 0, 1280] S1x256x128.size inb_S1x256x4096_S1x256x128_0_0_1280
  have v1190 : IVec S256x1x256 32 := iota .tc S256x1x256 32 [2] iota_S256x1x256_d2_w32
  pure ⟨k0_pay387 v1182, k0_pay388 v1182, v1190⟩

def s_part75 (I : In F) (i : grid0.Coords) (v1184 : FVec F S256x128 .f32) (v1189 : FVec F S256x1 .f32) (v1190 : IVec S256x1x256 32) : PM F (PUnit) := do
  let v1225 : Vec F S1x256x128 .fp8e4m3 ← ld8 ![0, 0, 1280] S1x256x128.size inb_S1x256x4096_S1x256x128_0_0_1280
  st8 ![0, 0, 1280] S1x256x128.size inb_S1x256x4096_S1x256x128_0_0_1280 (k0_pay390 v1184 v1189 v1190)
  let v1228 : Vec F S1x256x1 .f32 ← ld9 ![0, 0, 10] S1x256x1.size inb_S1x256x32_S1x256x1_0_0_10
  st9 ![0, 0, 10] S1x256x1.size inb_S1x256x32_S1x256x1_0_0_10 (k0_pay391 v1189 v1190)
  pure ⟨⟩

def s_part76 (I : In F) (i : grid0.Coords)  : PM F (Σ' (v1261 : FVec F S256x1 .f32), FVec F S256x128 .fp8e4m3) := do
  let v1231 : Vec F S1x256x128 .bf16 ← ld2 I ![0, 0, 1408] S1x256x128.size inb_S1x256x4096_S1x256x128_0_0_1408
  pure ⟨k0_pay394 v1231, k0_pay395 v1231⟩

def s_part77 (I : In F) (i : grid0.Coords) (v1261 : FVec F S256x1 .f32) (v1273 : FVec F S256x128 .fp8e4m3) : PM F (Σ' (v1282 : FVec F S256x128 .f32) (v1305 : IVec S256x1 32) (v1310 : FVec F S256x1 .f32), IVec S256x1 32) := do
  let v1274 : Vec F S1x256x128 .fp8e4m3 ← ld8 ![0, 0, 1408] S1x256x128.size inb_S1x256x4096_S1x256x128_0_0_1408
  st8 ![0, 0, 1408] S1x256x128.size inb_S1x256x4096_S1x256x128_0_0_1408 (k0_pay396 v1273)
  let v1277 : Vec F S1x256x1 .f32 ← ld9 ![0, 0, 11] S1x256x1.size inb_S1x256x32_S1x256x1_0_0_11
  st9 ![0, 0, 11] S1x256x1.size inb_S1x256x32_S1x256x1_0_0_11 (k0_pay397 v1261)
  let v1280 : Vec F S1x256x128 .bf16 ← ld2 I ![0, 0, 1536] S1x256x128.size inb_S1x256x4096_S1x256x128_0_0_1536
  pure ⟨k0_pay398 v1280, k0_pay399 v1280, k0_pay400 v1280, k0_pay401⟩

def s_part78 (I : In F) (i : grid0.Coords) (v1282 : FVec F S256x128 .f32) (v1305 : IVec S256x1 32) (v1310 : FVec F S256x1 .f32) (v1311 : IVec S256x1 32) : PM F (Σ' (v1331 : FVec F S256x128 .f32) (v1348 : IVec S256x1 32) (v1350 : IVec S256x1 1), BitVec 32) := do
  let v1323 : Vec F S1x256x128 .fp8e4m3 ← ld8 ![0, 0, 1536] S1x256x128.size inb_S1x256x4096_S1x256x128_0_0_1536
  st8 ![0, 0, 1536] S1x256x128.size inb_S1x256x4096_S1x256x128_0_0_1536 (k0_pay402 v1282 v1305 v1311)
  let v1326 : Vec F S1x256x1 .f32 ← ld9 ![0, 0, 12] S1x256x1.size inb_S1x256x32_S1x256x1_0_0_12
  st9 ![0, 0, 12] S1x256x1.size inb_S1x256x32_S1x256x1_0_0_12 (k0_pay403 v1310)
  let v1329 : Vec F S1x256x128 .bf16 ← ld2 I ![0, 0, 1664] S1x256x128.size inb_S1x256x4096_S1x256x128_0_0_1664
  pure ⟨k0_pay404 v1329, k0_pay405 v1329, k0_pay406 v1329, 126#32⟩

def s_part79 (I : In F) (i : grid0.Coords) (v1331 : FVec F S256x128 .f32) (v1348 : IVec S256x1 32) (v1350 : IVec S256x1 1) (c126_i32_638 : BitVec 32) : PM F (Σ' (v1380 : FVec F S256x128 .f32) (v1385 : FVec F S256x1 .f32) (v1386 : IVec S256x1x256 32), FVec F S256x1x256 .f32) := do
  let v1372 : Vec F S1x256x128 .fp8e4m3 ← ld8 ![0, 0, 1664] S1x256x128.size inb_S1x256x4096_S1x256x128_0_0_1664
  st8 ![0, 0, 1664] S1x256x128.size inb_S1x256x4096_S1x256x128_0_0_1664 (k0_pay408 v1331 v1348 v1350 c126_i32_638)
  let v1375 : Vec F S1x256x1 .f32 ← ld9 ![0, 0, 13] S1x256x1.size inb_S1x256x32_S1x256x1_0_0_13
  st9 ![0, 0, 13] S1x256x1.size inb_S1x256x32_S1x256x1_0_0_13 (k0_pay409 (F := F) v1348 v1350 c126_i32_638)
  let v1378 : Vec F S1x256x128 .bf16 ← ld2 I ![0, 0, 1792] S1x256x128.size inb_S1x256x4096_S1x256x128_0_0_1792
  have v1386 : IVec S256x1x256 32 := iota .tc S256x1x256 32 [2] iota_S256x1x256_d2_w32
  pure ⟨k0_pay410 v1378, k0_pay411 v1378, v1386, k0_pay412 (F := F)⟩

def s_part80 (I : In F) (i : grid0.Coords) (v1380 : FVec F S256x128 .f32) (v1385 : FVec F S256x1 .f32) (v1386 : IVec S256x1x256 32) (v1389 : FVec F S256x1x256 .f32) : PM F (Vec F S1x256x128 .bf16) := do
  let v1421 : Vec F S1x256x128 .fp8e4m3 ← ld8 ![0, 0, 1792] S1x256x128.size inb_S1x256x4096_S1x256x128_0_0_1792
  st8 ![0, 0, 1792] S1x256x128.size inb_S1x256x4096_S1x256x128_0_0_1792 (k0_pay414 v1380 v1385 v1386 v1389)
  let v1424 : Vec F S1x256x1 .f32 ← ld9 ![0, 0, 14] S1x256x1.size inb_S1x256x32_S1x256x1_0_0_14
  st9 ![0, 0, 14] S1x256x1.size inb_S1x256x32_S1x256x1_0_0_14 (k0_pay415 v1385 v1386 v1389)
  let v1427 : Vec F S1x256x128 .bf16 ← ld2 I ![0, 0, 1920] S1x256x128.size inb_S1x256x4096_S1x256x128_0_0_1920
  pure v1427

def s_part81 (I : In F) (i : grid0.Coords) (v1427 : Vec F S1x256x128 .bf16) : PM F (Σ' (v1457 : FVec F S256x1 .f32) (v1469 : FVec F S256x128 .fp8e4m3), Vec F S1x256x128 .fp8e4m3) := do
  let v1470 : Vec F S1x256x128 .fp8e4m3 ← ld8 ![0, 0, 1920] S1x256x128.size inb_S1x256x4096_S1x256x128_0_0_1920
  pure ⟨k0_pay418 v1427, k0_pay419 v1427, v1470⟩

def s_part82 (I : In F) (i : grid0.Coords) (v1457 : FVec F S256x1 .f32) (v1469 : FVec F S256x128 .fp8e4m3) (v1470 : Vec F S1x256x128 .fp8e4m3) : PM F (Σ' (v1478 : FVec F S256x128 .f32) (v1506 : FVec F S256x1 .f32), IVec S256x1 32) := do
  st8 ![0, 0, 1920] S1x256x128.size inb_S1x256x4096_S1x256x128_0_0_1920 (k0_pay420 v1469)
  let v1473 : Vec F S1x256x1 .f32 ← ld9 ![0, 0, 15] S1x256x1.size inb_S1x256x32_S1x256x1_0_0_15
  st9 ![0, 0, 15] S1x256x1.size inb_S1x256x32_S1x256x1_0_0_15 (k0_pay421 v1457)
  let v1476 : Vec F S1x256x128 .bf16 ← ld2 I ![0, 0, 2048] S1x256x128.size inb_S1x256x4096_S1x256x128_0_0_2048
  pure ⟨k0_pay422 v1476, k0_pay424 v1476, k0_pay425 v1476⟩

def s_part83 (I : In F) (i : grid0.Coords) (v1478 : FVec F S256x128 .f32) (v1506 : FVec F S256x1 .f32) (v1510 : IVec S256x1 32) : PM F (Σ' (v1527 : FVec F S256x128 .f32) (v1546 : IVec S256x1 1) (v1548 : IVec S256x1 32), IVec S256x1 32) := do
  let v1519 : Vec F S1x256x128 .fp8e4m3 ← ld8 ![0, 0, 2048] S1x256x128.size inb_S1x256x4096_S1x256x128_0_0_2048
  st8 ![0, 0, 2048] S1x256x128.size inb_S1x256x4096_S1x256x128_0_0_2048 (k0_pay426 v1478 v1510)
  let v1522 : Vec F S1x256x1 .f32 ← ld9 ![0, 0, 16] S1x256x1.size inb_S1x256x32_S1x256x1_0_0_16
  st9 ![0, 0, 16] S1x256x1.size inb_S1x256x32_S1x256x1_0_0_16 (k0_pay427 v1506)
  let v1525 : Vec F S1x256x128 .bf16 ← ld2 I ![0, 0, 2176] S1x256x128.size inb_S1x256x4096_S1x256x128_0_0_2176
  pure ⟨k0_pay428 v1525, k0_pay430 v1525, k0_pay431 v1525, k0_pay432⟩

def s_part84 (I : In F) (i : grid0.Coords) (v1527 : FVec F S256x128 .f32) (v1546 : IVec S256x1 1) (v1548 : IVec S256x1 32) (v1549 : IVec S256x1 32) : PM F (Σ' (v1576 : FVec F S256x128 .f32) (v1585 : FVec F S256x1x256 .f32) (v1587 : IVec S256x1x256 1), FVec F S256x1x1 .f32) := do
  let v1568 : Vec F S1x256x128 .fp8e4m3 ← ld8 ![0, 0, 2176] S1x256x128.size inb_S1x256x4096_S1x256x128_0_0_2176
  st8 ![0, 0, 2176] S1x256x128.size inb_S1x256x4096_S1x256x128_0_0_2176 (k0_pay434 v1527 v1546 v1548 v1549)
  let v1571 : Vec F S1x256x1 .f32 ← ld9 ![0, 0, 17] S1x256x1.size inb_S1x256x32_S1x256x1_0_0_17
  st9 ![0, 0, 17] S1x256x1.size inb_S1x256x32_S1x256x1_0_0_17 (k0_pay435 (F := F) v1546 v1548 v1549)
  let v1574 : Vec F S1x256x128 .bf16 ← ld2 I ![0, 0, 2304] S1x256x128.size inb_S1x256x4096_S1x256x128_0_0_2304
  pure ⟨k0_pay436 v1574, k0_pay437 (F := F), k0_pay438, k0_pay439 v1574⟩

def s_part85 (I : In F) (i : grid0.Coords) (v1576 : FVec F S256x128 .f32) (v1585 : FVec F S256x1x256 .f32) (v1587 : IVec S256x1x256 1) (v1588 : FVec F S256x1x1 .f32) : PM F (Σ' (v1625 : FVec F S256x128 .f32), FVec F S256x128 .f32) := do
  let v1617 : Vec F S1x256x128 .fp8e4m3 ← ld8 ![0, 0, 2304] S1x256x128.size inb_S1x256x4096_S1x256x128_0_0_2304
  st8 ![0, 0, 2304] S1x256x128.size inb_S1x256x4096_S1x256x128_0_0_2304 (k0_pay441 v1576 v1585 v1587 v1588)
  let v1620 : Vec F S1x256x1 .f32 ← ld9 ![0, 0, 18] S1x256x1.size inb_S1x256x32_S1x256x1_0_0_18
  st9 ![0, 0, 18] S1x256x1.size inb_S1x256x32_S1x256x1_0_0_18 (k0_pay442 v1585 v1587 v1588)
  let v1623 : Vec F S1x256x128 .bf16 ← ld2 I ![0, 0, 2432] S1x256x128.size inb_S1x256x4096_S1x256x128_0_0_2432
  pure ⟨k0_pay443 v1623, k0_pay444 v1623⟩

def s_part86 (I : In F) (i : grid0.Coords) (v1625 : FVec F S256x128 .f32) (v1626 : FVec F S256x128 .f32) : PM F (FVec F S256x1 .f32) := do
  let v1666 : Vec F S1x256x128 .fp8e4m3 ← ld8 ![0, 0, 2432] S1x256x128.size inb_S1x256x4096_S1x256x128_0_0_2432
  st8 ![0, 0, 2432] S1x256x128.size inb_S1x256x4096_S1x256x128_0_0_2432 (k0_pay447 v1625 v1626)
  pure (k0_pay446 v1626)

def s_part87 (I : In F) (i : grid0.Coords) (v1653 : FVec F S256x1 .f32) : PM F (Σ' (v1702 : FVec F S256x1 .f32) (v1709 : FVec F S256x128 .f32), F .f32) := do
  let v1669 : Vec F S1x256x1 .f32 ← ld9 ![0, 0, 19] S1x256x1.size inb_S1x256x32_S1x256x1_0_0_19
  st9 ![0, 0, 19] S1x256x1.size inb_S1x256x32_S1x256x1_0_0_19 (k0_pay448 v1653)
  let v1672 : Vec F S1x256x128 .bf16 ← ld2 I ![0, 0, 2560] S1x256x128.size inb_S1x256x4096_S1x256x128_0_0_2560
  have cst_791 : F .f32 := Scalar.ofBits .f32 0xC3E00000#32
  pure ⟨k0_pay451 v1672, k0_pay452 v1672, cst_791⟩

def s_part88 (I : In F) (i : grid0.Coords) (v1702 : FVec F S256x1 .f32) (v1709 : FVec F S256x128 .f32) (cst_791 : F .f32) : PM F (Σ' (v1723 : FVec F S256x128 .f32) (v1746 : IVec S256x1 32), IVec S256x1 32) := do
  let v1715 : Vec F S1x256x128 .fp8e4m3 ← ld8 ![0, 0, 2560] S1x256x128.size inb_S1x256x4096_S1x256x128_0_0_2560
  st8 ![0, 0, 2560] S1x256x128.size inb_S1x256x4096_S1x256x128_0_0_2560 (k0_pay453 v1709 cst_791)
  let v1718 : Vec F S1x256x1 .f32 ← ld9 ![0, 0, 20] S1x256x1.size inb_S1x256x32_S1x256x1_0_0_20
  st9 ![0, 0, 20] S1x256x1.size inb_S1x256x32_S1x256x1_0_0_20 (k0_pay454 v1702)
  let v1721 : Vec F S1x256x128 .bf16 ← ld2 I ![0, 0, 2688] S1x256x128.size inb_S1x256x4096_S1x256x128_0_0_2688
  pure ⟨k0_pay455 v1721, k0_pay456 v1721, k0_pay457 v1721⟩

def s_part89 (I : In F) (i : grid0.Coords) (v1723 : FVec F S256x128 .f32) (v1746 : IVec S256x1 32) (v1748 : IVec S256x1 32) : PM F (Σ' (v1772 : FVec F S256x128 .f32), IVec S256x1x256 32) := do
  let v1764 : Vec F S1x256x128 .fp8e4m3 ← ld8 ![0, 0, 2688] S1x256x128.size inb_S1x256x4096_S1x256x128_0_0_2688
  st8 ![0, 0, 2688] S1x256x128.size inb_S1x256x4096_S1x256x128_0_0_2688 (k0_pay458 v1723 v1746)
  let v1767 : Vec F S1x256x1 .f32 ← ld9 ![0, 0, 21] S1x256x1.size inb_S1x256x32_S1x256x1_0_0_21
  st9 ![0, 0, 21] S1x256x1.size inb_S1x256x32_S1x256x1_0_0_21 (k0_pay459 (F := F) v1748)
  let v1770 : Vec F S1x256x128 .bf16 ← ld2 I ![0, 0, 2816] S1x256x128.size inb_S1x256x4096_S1x256x128_0_0_2816
  pure ⟨k0_pay460 v1770, k0_pay461 v1770⟩

def s_part90 (I : In F) (i : grid0.Coords) (v1772 : FVec F S256x128 .f32) (v1788 : IVec S256x1x256 32) : PM F (Σ' (v1821 : FVec F S256x128 .f32) (v1824 : FVec F S256x1 .f32), FVec F S256x1 .f32) := do
  let v1813 : Vec F S1x256x128 .fp8e4m3 ← ld8 ![0, 0, 2816] S1x256x128.size inb_S1x256x4096_S1x256x128_0_0_2816
  st8 ![0, 0, 2816] S1x256x128.size inb_S1x256x4096_S1x256x128_0_0_2816 (k0_pay463 v1772 v1788)
  let v1816 : Vec F S1x256x1 .f32 ← ld9 ![0, 0, 22] S1x256x1.size inb_S1x256x32_S1x256x1_0_0_22
  st9 ![0, 0, 22] S1x256x1.size inb_S1x256x32_S1x256x1_0_0_22 (k0_pay464 (F := F) v1788)
  let v1819 : Vec F S1x256x128 .bf16 ← ld2 I ![0, 0, 2944] S1x256x128.size inb_S1x256x4096_S1x256x128_0_0_2944
  pure ⟨k0_pay465 v1819, k0_pay466 v1819, k0_pay467 (F := F)⟩

def s_part91 (I : In F) (i : grid0.Coords) (v1821 : FVec F S256x128 .f32) (v1824 : FVec F S256x1 .f32) (v1825 : FVec F S256x1 .f32) : PM F (FVec F S256x1 .f32) := do
  let v1862 : Vec F S1x256x128 .fp8e4m3 ← ld8 ![0, 0, 2944] S1x256x128.size inb_S1x256x4096_S1x256x128_0_0_2944
  st8 ![0, 0, 2944] S1x256x128.size inb_S1x256x4096_S1x256x128_0_0_2944 (k0_pay470 v1821 v1824 v1825)
  let v1865 : Vec F S1x256x1 .f32 ← ld9 ![0, 0, 23] S1x256x1.size inb_S1x256x32_S1x256x1_0_0_23
  pure (k0_pay469 v1824 v1825)

def s_part92 (I : In F) (i : grid0.Coords) (v1849 : FVec F S256x1 .f32) : PM F (Σ' (v1898 : FVec F S256x1 .f32) (v1907 : FVec F S256x128 .f32), FVec F S256x128 .f32) := do
  st9 ![0, 0, 23] S1x256x1.size inb_S1x256x32_S1x256x1_0_0_23 (k0_pay471 v1849)
  let v1868 : Vec F S1x256x128 .bf16 ← ld2 I ![0, 0, 3072] S1x256x128.size inb_S1x256x4096_S1x256x128_0_0_3072
  pure ⟨k0_pay474 v1868, k0_pay475 v1868, k0_pay476 (F := F)⟩

def s_part93 (I : In F) (i : grid0.Coords) (v1898 : FVec F S256x1 .f32) (v1907 : FVec F S256x128 .f32) (v1908 : FVec F S256x128 .f32) : PM F (Σ' (v1919 : FVec F S256x128 .f32) (v1942 : IVec S256x1 32), FVec F S256x1 .f32) := do
  let v1911 : Vec F S1x256x128 .fp8e4m3 ← ld8 ![0, 0, 3072] S1x256x128.size inb_S1x256x4096_S1x256x128_0_0_3072
  st8 ![0, 0, 3072] S1x256x128.size inb_S1x256x4096_S1x256x128_0_0_3072 (k0_pay477 v1907 v1908)
  let v1914 : Vec F S1x256x1 .f32 ← ld9 ![0, 0, 24] S1x256x1.size inb_S1x256x32_S1x256x1_0_0_24
  st9 ![0, 0, 24] S1x256x1.size inb_S1x256x32_S1x256x1_0_0_24 (k0_pay478 v1898)
  let v1917 : Vec F S1x256x128 .bf16 ← ld2 I ![0, 0, 3200] S1x256x128.size inb_S1x256x4096_S1x256x128_0_0_3200
  pure ⟨k0_pay479 v1917, k0_pay480 v1917, k0_pay481 v1917⟩

def s_part94 (I : In F) (i : grid0.Coords) (v1919 : FVec F S256x128 .f32) (v1942 : IVec S256x1 32) (v1947 : FVec F S256x1 .f32) : PM F (Σ' (v1968 : FVec F S256x128 .f32) (v1985 : IVec S256x1 32), IVec S256x1 32) := do
  let v1960 : Vec F S1x256x128 .fp8e4m3 ← ld8 ![0, 0, 3200] S1x256x128.size inb_S1x256x4096_S1x256x128_0_0_3200
  st8 ![0, 0, 3200] S1x256x128.size inb_S1x256x4096_S1x256x128_0_0_3200 (k0_pay482 v1919 v1942)
  let v1963 : Vec F S1x256x1 .f32 ← ld9 ![0, 0, 25] S1x256x1.size inb_S1x256x32_S1x256x1_0_0_25
  st9 ![0, 0, 25] S1x256x1.size inb_S1x256x32_S1x256x1_0_0_25 (k0_pay483 v1947)
  let v1966 : Vec F S1x256x128 .bf16 ← ld2 I ![0, 0, 3328] S1x256x128.size inb_S1x256x4096_S1x256x128_0_0_3328
  pure ⟨k0_pay484 v1966, k0_pay485 v1966, k0_pay486⟩

def s_part95 (I : In F) (i : grid0.Coords) (v1968 : FVec F S256x128 .f32) (v1985 : IVec S256x1 32) (v1986 : IVec S256x1 32) : PM F (Σ' (v2017 : FVec F S256x128 .f32) (v2022 : FVec F S256x1 .f32) (v2023 : IVec S256x1x256 32), IVec S256x1x256 32) := do
  let v2009 : Vec F S1x256x128 .fp8e4m3 ← ld8 ![0, 0, 3328] S1x256x128.size inb_S1x256x4096_S1x256x128_0_0_3328
  st8 ![0, 0, 3328] S1x256x128.size inb_S1x256x4096_S1x256x128_0_0_3328 (k0_pay488 v1968 v1985 v1986)
  let v2012 : Vec F S1x256x1 .f32 ← ld9 ![0, 0, 26] S1x256x1.size inb_S1x256x32_S1x256x1_0_0_26
  st9 ![0, 0, 26] S1x256x1.size inb_S1x256x32_S1x256x1_0_0_26 (k0_pay489 (F := F) v1985 v1986)
  let v2015 : Vec F S1x256x128 .bf16 ← ld2 I ![0, 0, 3456] S1x256x128.size inb_S1x256x4096_S1x256x128_0_0_3456
  have v2023 : IVec S256x1x256 32 := iota .tc S256x1x256 32 [2] iota_S256x1x256_d2_w32
  pure ⟨k0_pay490 v2015, k0_pay491 v2015, v2023, k0_pay492⟩

def s_part96 (I : In F) (i : grid0.Coords) (v2017 : FVec F S256x128 .f32) (v2022 : FVec F S256x1 .f32) (v2023 : IVec S256x1x256 32) (v2024 : IVec S256x1x256 32) : PM F (PUnit) := do
  let v2058 : Vec F S1x256x128 .fp8e4m3 ← ld8 ![0, 0, 3456] S1x256x128.size inb_S1x256x4096_S1x256x128_0_0_3456
  st8 ![0, 0, 3456] S1x256x128.size inb_S1x256x4096_S1x256x128_0_0_3456 (k0_pay494 v2017 v2022 v2023 v2024)
  let v2061 : Vec F S1x256x1 .f32 ← ld9 ![0, 0, 27] S1x256x1.size inb_S1x256x32_S1x256x1_0_0_27
  st9 ![0, 0, 27] S1x256x1.size inb_S1x256x32_S1x256x1_0_0_27 (k0_pay495 v2022 v2023 v2024)
  pure ⟨⟩

def s_part97 (I : In F) (i : grid0.Coords)  : PM F (Σ' (v2094 : FVec F S256x1 .f32), FVec F S256x128 .fp8e4m3) := do
  let v2064 : Vec F S1x256x128 .bf16 ← ld2 I ![0, 0, 3584] S1x256x128.size inb_S1x256x4096_S1x256x128_0_0_3584
  pure ⟨k0_pay498 v2064, k0_pay499 v2064⟩

def s_part98 (I : In F) (i : grid0.Coords) (v2094 : FVec F S256x1 .f32) (v2106 : FVec F S256x128 .fp8e4m3) : PM F (Σ' (v2115 : FVec F S256x128 .f32) (v2143 : FVec F S256x1 .f32) (v2145 : IVec S256x1 32), BitVec 32) := do
  let v2107 : Vec F S1x256x128 .fp8e4m3 ← ld8 ![0, 0, 3584] S1x256x128.size inb_S1x256x4096_S1x256x128_0_0_3584
  st8 ![0, 0, 3584] S1x256x128.size inb_S1x256x4096_S1x256x128_0_0_3584 (k0_pay500 v2106)
  let v2110 : Vec F S1x256x1 .f32 ← ld9 ![0, 0, 28] S1x256x1.size inb_S1x256x32_S1x256x1_0_0_28
  st9 ![0, 0, 28] S1x256x1.size inb_S1x256x32_S1x256x1_0_0_28 (k0_pay501 v2094)
  let v2113 : Vec F S1x256x128 .bf16 ← ld2 I ![0, 0, 3712] S1x256x128.size inb_S1x256x4096_S1x256x128_0_0_3712
  pure ⟨k0_pay502 v2113, k0_pay504 v2113, k0_pay505 v2113, 23#32⟩

def s_part99 (I : In F) (i : grid0.Coords) (v2115 : FVec F S256x128 .f32) (v2143 : FVec F S256x1 .f32) (v2145 : IVec S256x1 32) (c23_i32_979 : BitVec 32) : PM F (Σ' (v2164 : FVec F S256x128 .f32) (v2183 : IVec S256x1 1), IVec S256x1 32) := do
  let v2156 : Vec F S1x256x128 .fp8e4m3 ← ld8 ![0, 0, 3712] S1x256x128.size inb_S1x256x4096_S1x256x128_0_0_3712
  st8 ![0, 0, 3712] S1x256x128.size inb_S1x256x4096_S1x256x128_0_0_3712 (k0_pay506 v2115 v2145 c23_i32_979)
  let v2159 : Vec F S1x256x1 .f32 ← ld9 ![0, 0, 29] S1x256x1.size inb_S1x256x32_S1x256x1_0_0_29
  st9 ![0, 0, 29] S1x256x1.size inb_S1x256x32_S1x256x1_0_0_29 (k0_pay507 v2143)
  let v2162 : Vec F S1x256x128 .bf16 ← ld2 I ![0, 0, 3840] S1x256x128.size inb_S1x256x4096_S1x256x128_0_0_3840
  pure ⟨k0_pay508 v2162, k0_pay510 v2162, k0_pay511 v2162⟩

def s_part100 (I : In F) (i : grid0.Coords) (v2164 : FVec F S256x128 .f32) (v2183 : IVec S256x1 1) (v2185 : IVec S256x1 32) : PM F (Σ' (v2213 : FVec F S256x128 .f32) (v2218 : FVec F S256x1 .f32) (v2219 : IVec S256x1x256 32) (v2222 : FVec F S256x1x256 .f32), IVec S256x1x256 32) := do
  let v2205 : Vec F S1x256x128 .fp8e4m3 ← ld8 ![0, 0, 3840] S1x256x128.size inb_S1x256x4096_S1x256x128_0_0_3840
  st8 ![0, 0, 3840] S1x256x128.size inb_S1x256x4096_S1x256x128_0_0_3840 (k0_pay513 v2164 v2183 v2185)
  let v2208 : Vec F S1x256x1 .f32 ← ld9 ![0, 0, 30] S1x256x1.size inb_S1x256x32_S1x256x1_0_0_30
  st9 ![0, 0, 30] S1x256x1.size inb_S1x256x32_S1x256x1_0_0_30 (k0_pay514 (F := F) v2183 v2185)
  let v2211 : Vec F S1x256x128 .bf16 ← ld2 I ![0, 0, 3968] S1x256x128.size inb_S1x256x4096_S1x256x128_0_0_3968
  have v2219 : IVec S256x1x256 32 := iota .tc S256x1x256 32 [2] iota_S256x1x256_d2_w32
  pure ⟨k0_pay515 v2211, k0_pay516 v2211, v2219, k0_pay517 (F := F), k0_pay518⟩

def s_part101 (I : In F) (i : grid0.Coords) (v2213 : FVec F S256x128 .f32) (v2218 : FVec F S256x1 .f32) (v2219 : IVec S256x1x256 32) (v2222 : FVec F S256x1x256 .f32) (v2223 : IVec S256x1x256 32) : PM F (FVec F S32x256 .f32) := do
  let v2254 : Vec F S1x256x128 .fp8e4m3 ← ld8 ![0, 0, 3968] S1x256x128.size inb_S1x256x4096_S1x256x128_0_0_3968
  st8 ![0, 0, 3968] S1x256x128.size inb_S1x256x4096_S1x256x128_0_0_3968 (k0_pay520 v2213 v2218 v2219 v2222 v2223)
  let v2257 : Vec F S1x256x1 .f32 ← ld9 ![0, 0, 31] S1x256x1.size inb_S1x256x32_S1x256x1_0_0_31
  st9 ![0, 0, 31] S1x256x1.size inb_S1x256x32_S1x256x1_0_0_31 (k0_pay521 v2218 v2219 v2222 v2223)
  let v2260 : Vec F S1x256x32 .f32 ← ld9 ![0, 0, 0] S1x256x32.size inb_S1x256x32_S1x256x32_0_0_0
  pure (k0_pay522 v2260)

def s_part102 (I : In F) (i : grid0.Coords) (v2262 : FVec F S32x256 .f32) : PM F (Σ' (v2264 : FVec F S32x256 .f32), FVec F S1x128 .f32) := do
  let v2268 : Vec F S1x1x8x128 .f32 ← ld16 ![0, 0, 0, 0] S1x1x8x128.size inb_S2x8x8x512_S1x1x8x128_0_0_0_0
  st16 ![0, 0, 0, 0] S1x1x8x128.size inb_S2x8x8x512_S1x1x8x128_0_0_0_0 (k0_pay524 v2262)
  let v2274 : Vec F S1x1x8x128 .f32 ← ld16 ![1, 0, 0, 0] S1x1x8x128.size inb_S2x8x8x512_S1x1x8x128_1_0_0_0
  st16 ![1, 0, 0, 0] S1x1x8x128.size inb_S2x8x8x512_S1x1x8x128_1_0_0_0 (k0_pay525 v2262)
  let v2280 : Vec F S1x1x8x128 .f32 ← ld16 ![0, 0, 0, 128] S1x1x8x128.size inb_S2x8x8x512_S1x1x8x128_0_0_0_128
  st16 ![0, 0, 0, 128] S1x1x8x128.size inb_S2x8x8x512_S1x1x8x128_0_0_0_128 (k0_pay526 v2262)
  let v2286 : Vec F S1x1x8x128 .f32 ← ld16 ![1, 0, 0, 128] S1x1x8x128.size inb_S2x8x8x512_S1x1x8x128_1_0_0_128
  st16 ![1, 0, 0, 128] S1x1x8x128.size inb_S2x8x8x512_S1x1x8x128_1_0_0_128 (k0_pay527 v2262)
  let v2292 : Vec F S1x1x8x128 .f32 ← ld16 ![0, 0, 0, 256] S1x1x8x128.size inb_S2x8x8x512_S1x1x8x128_0_0_0_256
  st16 ![0, 0, 0, 256] S1x1x8x128.size inb_S2x8x8x512_S1x1x8x128_0_0_0_256 (k0_pay528 v2262)
  pure ⟨k0_pay523 v2262, k0_pay529 v2262⟩

def s_part103 (I : In F) (i : grid0.Coords) (v2264 : FVec F S32x256 .f32) (v2296 : FVec F S1x128 .f32) : PM F (FVec F S8x128 .f32) := do
  let v2298 : Vec F S1x1x8x128 .f32 ← ld16 ![1, 0, 0, 256] S1x1x8x128.size inb_S2x8x8x512_S1x1x8x128_1_0_0_256
  st16 ![1, 0, 0, 256] S1x1x8x128.size inb_S2x8x8x512_S1x1x8x128_1_0_0_256 (k0_pay530 v2296)
  let v2304 : Vec F S1x1x8x128 .f32 ← ld16 ![0, 0, 0, 384] S1x1x8x128.size inb_S2x8x8x512_S1x1x8x128_0_0_0_384
  st16 ![0, 0, 0, 384] S1x1x8x128.size inb_S2x8x8x512_S1x1x8x128_0_0_0_384 (k0_pay531 v2264)
  let v2310 : Vec F S1x1x8x128 .f32 ← ld16 ![1, 0, 0, 384] S1x1x8x128.size inb_S2x8x8x512_S1x1x8x128_1_0_0_384
  st16 ![1, 0, 0, 384] S1x1x8x128.size inb_S2x8x8x512_S1x1x8x128_1_0_0_384 (k0_pay532 v2264)
  let v2316 : Vec F S1x1x8x128 .f32 ← ld16 ![0, 1, 0, 0] S1x1x8x128.size inb_S2x8x8x512_S1x1x8x128_0_1_0_0
  st16 ![0, 1, 0, 0] S1x1x8x128.size inb_S2x8x8x512_S1x1x8x128_0_1_0_0 (k0_pay533 v2264)
  let v2322 : Vec F S1x1x8x128 .f32 ← ld16 ![1, 1, 0, 0] S1x1x8x128.size inb_S2x8x8x512_S1x1x8x128_1_1_0_0
  st16 ![1, 1, 0, 0] S1x1x8x128.size inb_S2x8x8x512_S1x1x8x128_1_1_0_0 (k0_pay534 v2264)
  pure (k0_pay535 v2264)

def s_part114 (I : In F) (i : grid0.Coords)  : PM F (Σ' (arg1 : BitVec 32) (v2264 : FVec F S32x256 .f32), FVec F S8x128 .f32) := do
  let ⟨arg1, v0, v6, v34, v38⟩ : Σ' (arg1 : BitVec 32) (v0 : BitVec 32) (v6 : FVec F S256x128 .f32) (v34 : FVec F S256x1 .f32), IVec S256x1 32 ← s_part44 I i
  let ⟨v71, v72⟩ : Σ' (v71 : FVec F S256x128 .f32), FVec F S256x128 .f32 ← s_part45 I i v0 v6 v34 v38
  let ⟨v92, v109, v111, v112⟩ : Σ' (v92 : FVec F S256x128 .f32) (v109 : IVec S256x1 32) (v111 : IVec S256x1 1), IVec S256x1 32 ← s_part46 I i v0 v71 v72
  let v150 : FVec F S1x256x1 .f32 ← s_part47 I i v0 v92 v109 v111 v112
  let ⟨v178, v183, v184, v185⟩ : Σ' (v178 : FVec F S256x128 .f32) (v183 : FVec F S256x1 .f32) (v184 : IVec S256x1x256 32), IVec S256x1x256 32 ← s_part48 I i v0 v150
  let ⟨v206, v218, v225⟩ : Σ' (v206 : FVec F S256x1 .f32) (v218 : FVec F S256x128 .fp8e4m3), FVec F S256x128 .f32 ← s_part49 I i v0 v178 v183 v184 v185
  let v261 : FVec F S1x1x128x256 .fp8e4m3 ← s_part50 I i v0 v206 v218 v225
  let ⟨v292, v303⟩ : Σ' (v292 : FVec F S256x1 .f32), FVec F S256x128 .f32 ← s_part51 I i v261
  let v336 : FVec F S256x128 .fp8e4m3 ← s_part52 I i v0 v292 v303
  let ⟨v350, v373, v375, v376⟩ : Σ' (v350 : FVec F S256x128 .f32) (v373 : IVec S256x1 32) (v375 : IVec S256x1 32), IVec S256x1 32 ← s_part53 I i v0 v336
  let ⟨v410, v411⟩ : Σ' (v410 : FVec F S1x128 .f32), FVec F S1x128 .f32 ← s_part54 I i v0 v350 v373 v375 v376
  let ⟨v436, v451⟩ : Σ' (v436 : FVec F S256x128 .f32), IVec S256x1x256 1 ← s_part55 I i v0 v410 v411
  let ⟨v464, v476⟩ : Σ' (v464 : FVec F S256x1 .f32), FVec F S256x128 .fp8e4m3 ← s_part56 I i v0 v436 v451
  let ⟨v522, v523⟩ : Σ' (v522 : FVec F S256x128 .f32), FVec F S256x128 .f32 ← s_part57 I i v0 v464 v476
  let ⟨v550, v562, v567⟩ : Σ' (v550 : FVec F S256x1 .f32) (v562 : FVec F S256x128 .fp8e4m3), FVec F S1x256x128 .fp8e4m3 ← s_part58 I i v0 v522 v523
  let v600 : FVec F S128x256 .fp8e4m3 ← s_part59 I i v0 v550 v562 v567
  let ⟨v608, v636, v641⟩ : Σ' (v608 : FVec F S256x128 .f32) (v636 : FVec F S256x1 .f32), FVec F S256x1 .f32 ← s_part60 I i v0 v600
  let v675 : FVec F S256x128 .f32 ← s_part61 I i v0 v608 v636 v641
  let ⟨v694, v713, v715⟩ : Σ' (v694 : FVec F S256x128 .f32) (v713 : IVec S256x1 1), IVec S256x1 32 ← s_part62 I i v0 v675
  let ⟨v743, v748, v749, v752, v753⟩ : Σ' (v743 : FVec F S256x128 .f32) (v748 : FVec F S256x1 .f32) (v749 : IVec S256x1x256 32) (v752 : FVec F S256x1x256 .f32), IVec S256x1x256 32 ← s_part63 I i v694 v713 v715
  let v792 : FVec F S256x128 .f32 ← s_part64 I i v743 v748 v749 v752 v753
  let ⟨v820, v835⟩ : Σ' (v820 : FVec F S256x1 .f32), FVec F S1x256x128 .fp8e4m3 ← s_part65 I i v792
  let ⟨v841, v869, v875⟩ : Σ' (v841 : FVec F S256x128 .f32) (v869 : FVec F S256x1 .f32), FVec F S256x128 .f32 ← s_part66 I i v820 v835
  let ⟨v890, v913, c127_i32_444⟩ : Σ' (v890 : FVec F S256x128 .f32) (v913 : IVec S256x1 32), BitVec 32 ← s_part67 I i v841 v869 v875
  let ⟨v939, v950, v953⟩ : Σ' (v939 : FVec F S256x128 .f32) (v950 : IVec S256x1x256 1), IVec S256x1x256 1 ← s_part68 I i v890 v913 c127_i32_444
  let ⟨v988, v991⟩ : Σ' (v988 : FVec F S256x128 .f32), FVec F S256x1 .f32 ← s_part69 I i v939 v950 v953
  let v1016 : FVec F S256x1 .f32 ← s_part70 I i v988 v991
  let ⟨v1065, v1072, cst_518, v1073⟩ : Σ' (v1065 : FVec F S256x1 .f32) (v1072 : FVec F S256x128 .f32) (cst_518 : F .f32), FVec F S256x128 .f32 ← s_part71 I i v1016
  let ⟨v1086, v1109, v1111, v1112⟩ : Σ' (v1086 : FVec F S256x128 .f32) (v1109 : IVec S256x1 32) (v1111 : IVec S256x1 32), IVec S256x1 32 ← s_part72 I i v1065 v1072 cst_518 v1073
  let ⟨v1135, v1152⟩ : Σ' (v1135 : FVec F S256x128 .f32), IVec S256x1 32 ← s_part73 I i v1086 v1109 v1111 v1112
  let ⟨v1184, v1189, v1190⟩ : Σ' (v1184 : FVec F S256x128 .f32) (v1189 : FVec F S256x1 .f32), IVec S256x1x256 32 ← s_part74 I i v1135 v1152
  s_part75 I i v1184 v1189 v1190
  let ⟨v1261, v1273⟩ : Σ' (v1261 : FVec F S256x1 .f32), FVec F S256x128 .fp8e4m3 ← s_part76 I i
  let ⟨v1282, v1305, v1310, v1311⟩ : Σ' (v1282 : FVec F S256x128 .f32) (v1305 : IVec S256x1 32) (v1310 : FVec F S256x1 .f32), IVec S256x1 32 ← s_part77 I i v1261 v1273
  let ⟨v1331, v1348, v1350, c126_i32_638⟩ : Σ' (v1331 : FVec F S256x128 .f32) (v1348 : IVec S256x1 32) (v1350 : IVec S256x1 1), BitVec 32 ← s_part78 I i v1282 v1305 v1310 v1311
  let ⟨v1380, v1385, v1386, v1389⟩ : Σ' (v1380 : FVec F S256x128 .f32) (v1385 : FVec F S256x1 .f32) (v1386 : IVec S256x1x256 32), FVec F S256x1x256 .f32 ← s_part79 I i v1331 v1348 v1350 c126_i32_638
  let v1427 : Vec F S1x256x128 .bf16 ← s_part80 I i v1380 v1385 v1386 v1389
  let ⟨v1457, v1469, v1470⟩ : Σ' (v1457 : FVec F S256x1 .f32) (v1469 : FVec F S256x128 .fp8e4m3), Vec F S1x256x128 .fp8e4m3 ← s_part81 I i v1427
  let ⟨v1478, v1506, v1510⟩ : Σ' (v1478 : FVec F S256x128 .f32) (v1506 : FVec F S256x1 .f32), IVec S256x1 32 ← s_part82 I i v1457 v1469 v1470
  let ⟨v1527, v1546, v1548, v1549⟩ : Σ' (v1527 : FVec F S256x128 .f32) (v1546 : IVec S256x1 1) (v1548 : IVec S256x1 32), IVec S256x1 32 ← s_part83 I i v1478 v1506 v1510
  let ⟨v1576, v1585, v1587, v1588⟩ : Σ' (v1576 : FVec F S256x128 .f32) (v1585 : FVec F S256x1x256 .f32) (v1587 : IVec S256x1x256 1), FVec F S256x1x1 .f32 ← s_part84 I i v1527 v1546 v1548 v1549
  let ⟨v1625, v1626⟩ : Σ' (v1625 : FVec F S256x128 .f32), FVec F S256x128 .f32 ← s_part85 I i v1576 v1585 v1587 v1588
  let v1653 : FVec F S256x1 .f32 ← s_part86 I i v1625 v1626
  let ⟨v1702, v1709, cst_791⟩ : Σ' (v1702 : FVec F S256x1 .f32) (v1709 : FVec F S256x128 .f32), F .f32 ← s_part87 I i v1653
  let ⟨v1723, v1746, v1748⟩ : Σ' (v1723 : FVec F S256x128 .f32) (v1746 : IVec S256x1 32), IVec S256x1 32 ← s_part88 I i v1702 v1709 cst_791
  let ⟨v1772, v1788⟩ : Σ' (v1772 : FVec F S256x128 .f32), IVec S256x1x256 32 ← s_part89 I i v1723 v1746 v1748
  let ⟨v1821, v1824, v1825⟩ : Σ' (v1821 : FVec F S256x128 .f32) (v1824 : FVec F S256x1 .f32), FVec F S256x1 .f32 ← s_part90 I i v1772 v1788
  let v1849 : FVec F S256x1 .f32 ← s_part91 I i v1821 v1824 v1825
  let ⟨v1898, v1907, v1908⟩ : Σ' (v1898 : FVec F S256x1 .f32) (v1907 : FVec F S256x128 .f32), FVec F S256x128 .f32 ← s_part92 I i v1849
  let ⟨v1919, v1942, v1947⟩ : Σ' (v1919 : FVec F S256x128 .f32) (v1942 : IVec S256x1 32), FVec F S256x1 .f32 ← s_part93 I i v1898 v1907 v1908
  let ⟨v1968, v1985, v1986⟩ : Σ' (v1968 : FVec F S256x128 .f32) (v1985 : IVec S256x1 32), IVec S256x1 32 ← s_part94 I i v1919 v1942 v1947
  let ⟨v2017, v2022, v2023, v2024⟩ : Σ' (v2017 : FVec F S256x128 .f32) (v2022 : FVec F S256x1 .f32) (v2023 : IVec S256x1x256 32), IVec S256x1x256 32 ← s_part95 I i v1968 v1985 v1986
  s_part96 I i v2017 v2022 v2023 v2024
  let ⟨v2094, v2106⟩ : Σ' (v2094 : FVec F S256x1 .f32), FVec F S256x128 .fp8e4m3 ← s_part97 I i
  let ⟨v2115, v2143, v2145, c23_i32_979⟩ : Σ' (v2115 : FVec F S256x128 .f32) (v2143 : FVec F S256x1 .f32) (v2145 : IVec S256x1 32), BitVec 32 ← s_part98 I i v2094 v2106
  let ⟨v2164, v2183, v2185⟩ : Σ' (v2164 : FVec F S256x128 .f32) (v2183 : IVec S256x1 1), IVec S256x1 32 ← s_part99 I i v2115 v2143 v2145 c23_i32_979
  let ⟨v2213, v2218, v2219, v2222, v2223⟩ : Σ' (v2213 : FVec F S256x128 .f32) (v2218 : FVec F S256x1 .f32) (v2219 : IVec S256x1x256 32) (v2222 : FVec F S256x1x256 .f32), IVec S256x1x256 32 ← s_part100 I i v2164 v2183 v2185
  let v2262 : FVec F S32x256 .f32 ← s_part101 I i v2213 v2218 v2219 v2222 v2223
  let ⟨v2264, v2296⟩ : Σ' (v2264 : FVec F S32x256 .f32), FVec F S1x128 .f32 ← s_part102 I i v2262
  let v2327 : FVec F S8x128 .f32 ← s_part103 I i v2264 v2296
  pure ⟨arg1, v2264, v2327⟩

def s_part104 (I : In F) (i : grid0.Coords) (v2264 : FVec F S32x256 .f32) (v2327 : FVec F S8x128 .f32) : PM F (FVec F S1x128 .f32) := do
  let v2328 : Vec F S1x1x8x128 .f32 ← ld16 ![0, 1, 0, 128] S1x1x8x128.size inb_S2x8x8x512_S1x1x8x128_0_1_0_128
  st16 ![0, 1, 0, 128] S1x1x8x128.size inb_S2x8x8x512_S1x1x8x128_0_1_0_128 (k0_pay536 v2327)
  let v2334 : Vec F S1x1x8x128 .f32 ← ld16 ![1, 1, 0, 128] S1x1x8x128.size inb_S2x8x8x512_S1x1x8x128_1_1_0_128
  st16 ![1, 1, 0, 128] S1x1x8x128.size inb_S2x8x8x512_S1x1x8x128_1_1_0_128 (k0_pay537 v2264)
  let v2340 : Vec F S1x1x8x128 .f32 ← ld16 ![0, 1, 0, 256] S1x1x8x128.size inb_S2x8x8x512_S1x1x8x128_0_1_0_256
  st16 ![0, 1, 0, 256] S1x1x8x128.size inb_S2x8x8x512_S1x1x8x128_0_1_0_256 (k0_pay538 v2264)
  let v2346 : Vec F S1x1x8x128 .f32 ← ld16 ![1, 1, 0, 256] S1x1x8x128.size inb_S2x8x8x512_S1x1x8x128_1_1_0_256
  st16 ![1, 1, 0, 256] S1x1x8x128.size inb_S2x8x8x512_S1x1x8x128_1_1_0_256 (k0_pay539 v2264)
  let v2352 : Vec F S1x1x8x128 .f32 ← ld16 ![0, 1, 0, 384] S1x1x8x128.size inb_S2x8x8x512_S1x1x8x128_0_1_0_384
  st16 ![0, 1, 0, 384] S1x1x8x128.size inb_S2x8x8x512_S1x1x8x128_0_1_0_384 (k0_pay540 v2264)
  let v2358 : Vec F S1x1x8x128 .f32 ← ld16 ![1, 1, 0, 384] S1x1x8x128.size inb_S2x8x8x512_S1x1x8x128_1_1_0_384
  st16 ![1, 1, 0, 384] S1x1x8x128.size inb_S2x8x8x512_S1x1x8x128_1_1_0_384 (k0_pay541 v2264)
  pure (k0_pay542 v2264)

def s_part105 (I : In F) (i : grid0.Coords) (v2264 : FVec F S32x256 .f32) (v2361 : FVec F S1x128 .f32) : PM F (FVec F S8x128 .f32) := do
  let v2364 : Vec F S1x1x8x128 .f32 ← ld16 ![0, 2, 0, 0] S1x1x8x128.size inb_S2x8x8x512_S1x1x8x128_0_2_0_0
  st16 ![0, 2, 0, 0] S1x1x8x128.size inb_S2x8x8x512_S1x1x8x128_0_2_0_0 (k0_pay543 v2361)
  let v2370 : Vec F S1x1x8x128 .f32 ← ld16 ![1, 2, 0, 0] S1x1x8x128.size inb_S2x8x8x512_S1x1x8x128_1_2_0_0
  st16 ![1, 2, 0, 0] S1x1x8x128.size inb_S2x8x8x512_S1x1x8x128_1_2_0_0 (k0_pay544 v2264)
  let v2376 : Vec F S1x1x8x128 .f32 ← ld16 ![0, 2, 0, 128] S1x1x8x128.size inb_S2x8x8x512_S1x1x8x128_0_2_0_128
  st16 ![0, 2, 0, 128] S1x1x8x128.size inb_S2x8x8x512_S1x1x8x128_0_2_0_128 (k0_pay545 v2264)
  let v2382 : Vec F S1x1x8x128 .f32 ← ld16 ![1, 2, 0, 128] S1x1x8x128.size inb_S2x8x8x512_S1x1x8x128_1_2_0_128
  st16 ![1, 2, 0, 128] S1x1x8x128.size inb_S2x8x8x512_S1x1x8x128_1_2_0_128 (k0_pay546 v2264)
  let v2388 : Vec F S1x1x8x128 .f32 ← ld16 ![0, 2, 0, 256] S1x1x8x128.size inb_S2x8x8x512_S1x1x8x128_0_2_0_256
  st16 ![0, 2, 0, 256] S1x1x8x128.size inb_S2x8x8x512_S1x1x8x128_0_2_0_256 (k0_pay547 v2264)
  pure (k0_pay548 v2264)

def s_part106 (I : In F) (i : grid0.Coords) (v2264 : FVec F S32x256 .f32) (v2393 : FVec F S8x128 .f32) : PM F (PUnit) := do
  let v2394 : Vec F S1x1x8x128 .f32 ← ld16 ![1, 2, 0, 256] S1x1x8x128.size inb_S2x8x8x512_S1x1x8x128_1_2_0_256
  st16 ![1, 2, 0, 256] S1x1x8x128.size inb_S2x8x8x512_S1x1x8x128_1_2_0_256 (k0_pay549 v2393)
  let v2400 : Vec F S1x1x8x128 .f32 ← ld16 ![0, 2, 0, 384] S1x1x8x128.size inb_S2x8x8x512_S1x1x8x128_0_2_0_384
  st16 ![0, 2, 0, 384] S1x1x8x128.size inb_S2x8x8x512_S1x1x8x128_0_2_0_384 (k0_pay550 v2264)
  let v2406 : Vec F S1x1x8x128 .f32 ← ld16 ![1, 2, 0, 384] S1x1x8x128.size inb_S2x8x8x512_S1x1x8x128_1_2_0_384
  st16 ![1, 2, 0, 384] S1x1x8x128.size inb_S2x8x8x512_S1x1x8x128_1_2_0_384 (k0_pay551 v2264)
  let v2412 : Vec F S1x1x8x128 .f32 ← ld16 ![0, 3, 0, 0] S1x1x8x128.size inb_S2x8x8x512_S1x1x8x128_0_3_0_0
  st16 ![0, 3, 0, 0] S1x1x8x128.size inb_S2x8x8x512_S1x1x8x128_0_3_0_0 (k0_pay552 v2264)
  let v2418 : Vec F S1x1x8x128 .f32 ← ld16 ![1, 3, 0, 0] S1x1x8x128.size inb_S2x8x8x512_S1x1x8x128_1_3_0_0
  st16 ![1, 3, 0, 0] S1x1x8x128.size inb_S2x8x8x512_S1x1x8x128_1_3_0_0 (k0_pay553 v2264)
  let v2424 : Vec F S1x1x8x128 .f32 ← ld16 ![0, 3, 0, 128] S1x1x8x128.size inb_S2x8x8x512_S1x1x8x128_0_3_0_128
  st16 ![0, 3, 0, 128] S1x1x8x128.size inb_S2x8x8x512_S1x1x8x128_0_3_0_128 (k0_pay554 v2264)
  pure ⟨⟩

def s_part107 (I : In F) (i : grid0.Coords) (v2264 : FVec F S32x256 .f32) : PM F (FVec F S8x128 .f32) := do
  let v2430 : Vec F S1x1x8x128 .f32 ← ld16 ![1, 3, 0, 128] S1x1x8x128.size inb_S2x8x8x512_S1x1x8x128_1_3_0_128
  st16 ![1, 3, 0, 128] S1x1x8x128.size inb_S2x8x8x512_S1x1x8x128_1_3_0_128 (k0_pay555 v2264)
  let v2436 : Vec F S1x1x8x128 .f32 ← ld16 ![0, 3, 0, 256] S1x1x8x128.size inb_S2x8x8x512_S1x1x8x128_0_3_0_256
  st16 ![0, 3, 0, 256] S1x1x8x128.size inb_S2x8x8x512_S1x1x8x128_0_3_0_256 (k0_pay556 v2264)
  let v2442 : Vec F S1x1x8x128 .f32 ← ld16 ![1, 3, 0, 256] S1x1x8x128.size inb_S2x8x8x512_S1x1x8x128_1_3_0_256
  st16 ![1, 3, 0, 256] S1x1x8x128.size inb_S2x8x8x512_S1x1x8x128_1_3_0_256 (k0_pay557 v2264)
  let v2448 : Vec F S1x1x8x128 .f32 ← ld16 ![0, 3, 0, 384] S1x1x8x128.size inb_S2x8x8x512_S1x1x8x128_0_3_0_384
  st16 ![0, 3, 0, 384] S1x1x8x128.size inb_S2x8x8x512_S1x1x8x128_0_3_0_384 (k0_pay558 v2264)
  let v2454 : Vec F S1x1x8x128 .f32 ← ld16 ![1, 3, 0, 384] S1x1x8x128.size inb_S2x8x8x512_S1x1x8x128_1_3_0_384
  st16 ![1, 3, 0, 384] S1x1x8x128.size inb_S2x8x8x512_S1x1x8x128_1_3_0_384 (k0_pay559 v2264)
  pure (k0_pay560 v2264)

def s_part108 (I : In F) (i : grid0.Coords) (v2264 : FVec F S32x256 .f32) (v2459 : FVec F S8x128 .f32) : PM F (FVec F S1x1x8x128 .f32) := do
  let v2460 : Vec F S1x1x8x128 .f32 ← ld16 ![0, 4, 0, 0] S1x1x8x128.size inb_S2x8x8x512_S1x1x8x128_0_4_0_0
  st16 ![0, 4, 0, 0] S1x1x8x128.size inb_S2x8x8x512_S1x1x8x128_0_4_0_0 (k0_pay561 v2459)
  let v2466 : Vec F S1x1x8x128 .f32 ← ld16 ![1, 4, 0, 0] S1x1x8x128.size inb_S2x8x8x512_S1x1x8x128_1_4_0_0
  st16 ![1, 4, 0, 0] S1x1x8x128.size inb_S2x8x8x512_S1x1x8x128_1_4_0_0 (k0_pay562 v2264)
  let v2472 : Vec F S1x1x8x128 .f32 ← ld16 ![0, 4, 0, 128] S1x1x8x128.size inb_S2x8x8x512_S1x1x8x128_0_4_0_128
  st16 ![0, 4, 0, 128] S1x1x8x128.size inb_S2x8x8x512_S1x1x8x128_0_4_0_128 (k0_pay563 v2264)
  let v2478 : Vec F S1x1x8x128 .f32 ← ld16 ![1, 4, 0, 128] S1x1x8x128.size inb_S2x8x8x512_S1x1x8x128_1_4_0_128
  st16 ![1, 4, 0, 128] S1x1x8x128.size inb_S2x8x8x512_S1x1x8x128_1_4_0_128 (k0_pay564 v2264)
  let v2484 : Vec F S1x1x8x128 .f32 ← ld16 ![0, 4, 0, 256] S1x1x8x128.size inb_S2x8x8x512_S1x1x8x128_0_4_0_256
  st16 ![0, 4, 0, 256] S1x1x8x128.size inb_S2x8x8x512_S1x1x8x128_0_4_0_256 (k0_pay565 v2264)
  let v2490 : Vec F S1x1x8x128 .f32 ← ld16 ![1, 4, 0, 256] S1x1x8x128.size inb_S2x8x8x512_S1x1x8x128_1_4_0_256
  pure (k0_pay566 v2264)

def s_part109 (I : In F) (i : grid0.Coords) (v2264 : FVec F S32x256 .f32) (v2492 : FVec F S1x1x8x128 .f32) : PM F (FVec F S8x128 .f32) := do
  st16 ![1, 4, 0, 256] S1x1x8x128.size inb_S2x8x8x512_S1x1x8x128_1_4_0_256 v2492
  let v2496 : Vec F S1x1x8x128 .f32 ← ld16 ![0, 4, 0, 384] S1x1x8x128.size inb_S2x8x8x512_S1x1x8x128_0_4_0_384
  st16 ![0, 4, 0, 384] S1x1x8x128.size inb_S2x8x8x512_S1x1x8x128_0_4_0_384 (k0_pay567 v2264)
  let v2502 : Vec F S1x1x8x128 .f32 ← ld16 ![1, 4, 0, 384] S1x1x8x128.size inb_S2x8x8x512_S1x1x8x128_1_4_0_384
  st16 ![1, 4, 0, 384] S1x1x8x128.size inb_S2x8x8x512_S1x1x8x128_1_4_0_384 (k0_pay568 v2264)
  let v2508 : Vec F S1x1x8x128 .f32 ← ld16 ![0, 5, 0, 0] S1x1x8x128.size inb_S2x8x8x512_S1x1x8x128_0_5_0_0
  st16 ![0, 5, 0, 0] S1x1x8x128.size inb_S2x8x8x512_S1x1x8x128_0_5_0_0 (k0_pay569 v2264)
  let v2514 : Vec F S1x1x8x128 .f32 ← ld16 ![1, 5, 0, 0] S1x1x8x128.size inb_S2x8x8x512_S1x1x8x128_1_5_0_0
  st16 ![1, 5, 0, 0] S1x1x8x128.size inb_S2x8x8x512_S1x1x8x128_1_5_0_0 (k0_pay570 v2264)
  let v2520 : Vec F S1x1x8x128 .f32 ← ld16 ![0, 5, 0, 128] S1x1x8x128.size inb_S2x8x8x512_S1x1x8x128_0_5_0_128
  st16 ![0, 5, 0, 128] S1x1x8x128.size inb_S2x8x8x512_S1x1x8x128_0_5_0_128 (k0_pay571 v2264)
  pure (k0_pay572 v2264)

def s_part110 (I : In F) (i : grid0.Coords) (v2264 : FVec F S32x256 .f32) (v2525 : FVec F S8x128 .f32) : PM F (FVec F S8x128 .f32) := do
  let v2526 : Vec F S1x1x8x128 .f32 ← ld16 ![1, 5, 0, 128] S1x1x8x128.size inb_S2x8x8x512_S1x1x8x128_1_5_0_128
  st16 ![1, 5, 0, 128] S1x1x8x128.size inb_S2x8x8x512_S1x1x8x128_1_5_0_128 (k0_pay573 v2525)
  let v2532 : Vec F S1x1x8x128 .f32 ← ld16 ![0, 5, 0, 256] S1x1x8x128.size inb_S2x8x8x512_S1x1x8x128_0_5_0_256
  st16 ![0, 5, 0, 256] S1x1x8x128.size inb_S2x8x8x512_S1x1x8x128_0_5_0_256 (k0_pay574 v2264)
  let v2538 : Vec F S1x1x8x128 .f32 ← ld16 ![1, 5, 0, 256] S1x1x8x128.size inb_S2x8x8x512_S1x1x8x128_1_5_0_256
  st16 ![1, 5, 0, 256] S1x1x8x128.size inb_S2x8x8x512_S1x1x8x128_1_5_0_256 (k0_pay575 v2264)
  let v2544 : Vec F S1x1x8x128 .f32 ← ld16 ![0, 5, 0, 384] S1x1x8x128.size inb_S2x8x8x512_S1x1x8x128_0_5_0_384
  st16 ![0, 5, 0, 384] S1x1x8x128.size inb_S2x8x8x512_S1x1x8x128_0_5_0_384 (k0_pay576 v2264)
  let v2550 : Vec F S1x1x8x128 .f32 ← ld16 ![1, 5, 0, 384] S1x1x8x128.size inb_S2x8x8x512_S1x1x8x128_1_5_0_384
  st16 ![1, 5, 0, 384] S1x1x8x128.size inb_S2x8x8x512_S1x1x8x128_1_5_0_384 (k0_pay577 v2264)
  let v2556 : Vec F S1x1x8x128 .f32 ← ld16 ![0, 6, 0, 0] S1x1x8x128.size inb_S2x8x8x512_S1x1x8x128_0_6_0_0
  pure (k0_pay578 v2264)

def s_part111 (I : In F) (i : grid0.Coords) (v2264 : FVec F S32x256 .f32) (v2555 : FVec F S8x128 .f32) : PM F (FVec F S8x128 .f32) := do
  st16 ![0, 6, 0, 0] S1x1x8x128.size inb_S2x8x8x512_S1x1x8x128_0_6_0_0 (k0_pay579 v2555)
  let v2562 : Vec F S1x1x8x128 .f32 ← ld16 ![1, 6, 0, 0] S1x1x8x128.size inb_S2x8x8x512_S1x1x8x128_1_6_0_0
  st16 ![1, 6, 0, 0] S1x1x8x128.size inb_S2x8x8x512_S1x1x8x128_1_6_0_0 (k0_pay580 v2264)
  let v2568 : Vec F S1x1x8x128 .f32 ← ld16 ![0, 6, 0, 128] S1x1x8x128.size inb_S2x8x8x512_S1x1x8x128_0_6_0_128
  st16 ![0, 6, 0, 128] S1x1x8x128.size inb_S2x8x8x512_S1x1x8x128_0_6_0_128 (k0_pay581 v2264)
  let v2574 : Vec F S1x1x8x128 .f32 ← ld16 ![1, 6, 0, 128] S1x1x8x128.size inb_S2x8x8x512_S1x1x8x128_1_6_0_128
  st16 ![1, 6, 0, 128] S1x1x8x128.size inb_S2x8x8x512_S1x1x8x128_1_6_0_128 (k0_pay582 v2264)
  let v2580 : Vec F S1x1x8x128 .f32 ← ld16 ![0, 6, 0, 256] S1x1x8x128.size inb_S2x8x8x512_S1x1x8x128_0_6_0_256
  st16 ![0, 6, 0, 256] S1x1x8x128.size inb_S2x8x8x512_S1x1x8x128_0_6_0_256 (k0_pay583 v2264)
  let v2586 : Vec F S1x1x8x128 .f32 ← ld16 ![1, 6, 0, 256] S1x1x8x128.size inb_S2x8x8x512_S1x1x8x128_1_6_0_256
  st16 ![1, 6, 0, 256] S1x1x8x128.size inb_S2x8x8x512_S1x1x8x128_1_6_0_256 (k0_pay584 v2264)
  pure (k0_pay585 v2264)

def s_part112 (I : In F) (i : grid0.Coords) (v2264 : FVec F S32x256 .f32) (v2591 : FVec F S8x128 .f32) : PM F (Σ' (v2621 : FVec F S8x128 .f32), Vec F S1x1x8x128 .f32) := do
  let v2592 : Vec F S1x1x8x128 .f32 ← ld16 ![0, 6, 0, 384] S1x1x8x128.size inb_S2x8x8x512_S1x1x8x128_0_6_0_384
  st16 ![0, 6, 0, 384] S1x1x8x128.size inb_S2x8x8x512_S1x1x8x128_0_6_0_384 (k0_pay586 v2591)
  let v2598 : Vec F S1x1x8x128 .f32 ← ld16 ![1, 6, 0, 384] S1x1x8x128.size inb_S2x8x8x512_S1x1x8x128_1_6_0_384
  st16 ![1, 6, 0, 384] S1x1x8x128.size inb_S2x8x8x512_S1x1x8x128_1_6_0_384 (k0_pay587 v2264)
  let v2604 : Vec F S1x1x8x128 .f32 ← ld16 ![0, 7, 0, 0] S1x1x8x128.size inb_S2x8x8x512_S1x1x8x128_0_7_0_0
  st16 ![0, 7, 0, 0] S1x1x8x128.size inb_S2x8x8x512_S1x1x8x128_0_7_0_0 (k0_pay588 v2264)
  let v2610 : Vec F S1x1x8x128 .f32 ← ld16 ![1, 7, 0, 0] S1x1x8x128.size inb_S2x8x8x512_S1x1x8x128_1_7_0_0
  st16 ![1, 7, 0, 0] S1x1x8x128.size inb_S2x8x8x512_S1x1x8x128_1_7_0_0 (k0_pay589 v2264)
  let v2616 : Vec F S1x1x8x128 .f32 ← ld16 ![0, 7, 0, 128] S1x1x8x128.size inb_S2x8x8x512_S1x1x8x128_0_7_0_128
  st16 ![0, 7, 0, 128] S1x1x8x128.size inb_S2x8x8x512_S1x1x8x128_0_7_0_128 (k0_pay590 v2264)
  let v2622 : Vec F S1x1x8x128 .f32 ← ld16 ![1, 7, 0, 128] S1x1x8x128.size inb_S2x8x8x512_S1x1x8x128_1_7_0_128
  pure ⟨k0_pay591 v2264, v2622⟩

def s_part1 (I : In F) (i : grid0.Coords) (arg1 : BitVec 32) (k0_h2 : k0_cond2 i = 1#1) (c0_i32_1293 : BitVec 32) (c1_i32 : BitVec 32) (k0_t1 : Fin k0_t1_loop.trips) : PM F (Σ' (arg19 : BitVec 32) (v2689 : FVec F S512x128 .fp8e4m3) (v2692 : FVec F S8x512 .f32), BitVec 32) := do
  let arg19 : BitVec 32 := Scf.iv c0_i32_1293 c1_i32 k0_t1
  let v2666 : Vec F S1x128x128 .fp8e4m3 ← ld8 (k0_off17 k0_t1 0#32) S1x128x128.size (k0_off17_inb i k0_t1 k0_h2 0)
  let v2673 : Vec F S1x128x128 .fp8e4m3 ← ld8 (k0_off17 k0_t1 1#32) S1x128x128.size (k0_off17_inb i k0_t1 k0_h2 1)
  let v2680 : Vec F S1x128x128 .fp8e4m3 ← ld8 (k0_off17 k0_t1 2#32) S1x128x128.size (k0_off17_inb i k0_t1 k0_h2 2)
  let v2687 : Vec F S1x128x128 .fp8e4m3 ← ld8 (k0_off17 k0_t1 3#32) S1x128x128.size (k0_off17_inb i k0_t1 k0_h2 3)
  let v2691 : Vec F S1x1x8x512 .f32 ← ld16 (k0_off18 k0_t1) S1x1x8x512.size (k0_off18_inb i k0_t1 k0_h2)
  let v2693 : BitVec 32 := Scalar.addi arg1 1#32
  let v2694 : BitVec 32 := Scalar.addi v2693 4#32
  pure ⟨arg19, k0_pay3 v2666 v2673 v2680 v2687, k0_pay4 v2691, v2694⟩

def s_part2 (I : In F) (i : grid0.Coords) (arg1 : BitVec 32) (v2653 : IVec S128x512 1) (k0_h2 : k0_cond2 i = 1#1) (k0_t1 : Fin k0_t1_loop.trips) (arg19 : BitVec 32) (v2689 : FVec F S512x128 .fp8e4m3) (v2694 : BitVec 32) : PM F (Σ' (v2733 : FVec F S128x512 .f32), FVec F S16x8x512 .f32) := do
  let v2701 : Vec F S1x128x128 .fp8e4m3 ← ld13 (k0_off19 i k0_t1 4#32 0#32) S1x128x128.size (k0_off19_inb i k0_t1 k0_h2 1 0)
  let v2707 : Vec F S1x128x128 .f32 ← ld14 (k0_off19 i k0_t1 4#32 0#32) S1x128x128.size (k0_off19_inb i k0_t1 k0_h2 1 0)
  let v2719 : Vec F S1x128x128 .fp8e4m3 ← ld13 (k0_off19 i k0_t1 0#32 0#32) S1x128x128.size (k0_off19_inb i k0_t1 k0_h2 0 0)
  let v2725 : Vec F S1x128x128 .f32 ← ld14 (k0_off19 i k0_t1 0#32 0#32) S1x128x128.size (k0_off19_inb i k0_t1 k0_h2 0 0)
  pure ⟨k0_pay5 arg1 v2653 v2689 v2701 v2707 v2719 v2725, k0_pay6 arg1 v2653 v2689 v2701 v2707 v2719 v2725⟩

def s_part3 (I : In F) (i : grid0.Coords) (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) : PM F (Σ' (v2766 : FVec F S8x512 .f32) (v2769 : BitVec 32), BitVec 32) := do
  let v2736 : Vec F S1x128x512 .f32 ← ld17 ![0, 0, 0] S1x128x512.size inb_S5x256x512_S1x128x512_0_0_0
  st17 ![0, 0, 0] S1x128x512.size inb_S5x256x512_S1x128x512_0_0_0 (k0_pay7 v2733)
  let v2747 : Vec F S1x128x128 .fp8e4m3 ← ld13 (k0_off19 i k0_t1 0#32 128#32) S1x128x128.size (k0_off19_inb i k0_t1 k0_h2 0 1)
  let v2753 : Vec F S1x128x128 .f32 ← ld14 (k0_off19 i k0_t1 0#32 128#32) S1x128x128.size (k0_off19_inb i k0_t1 k0_h2 0 1)
  let v2761 : Vec F S1x128x512 .f32 ← ld17 ![0, 128, 0] S1x128x512.size inb_S5x256x512_S1x128x512_0_128_0
  st17 ![0, 128, 0] S1x128x512.size inb_S5x256x512_S1x128x512_0_128_0 (k0_pay9 arg1 v2689 v2747 v2753)
  let v2767 : BitVec 32 := Scalar.addi arg1 1#32
  let v2768 : BitVec 32 := Scalar.addi v2767 1#32
  let v2769 : BitVec 32 := Scalar.remsi v2768 5#32
  pure ⟨k0_pay10 arg1 v2689 v2734 v2747 v2753, v2769, 256#32⟩

def s_part4 (I : In F) (i : grid0.Coords) (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) : PM F (Σ' (v2794 : FVec F S8x512 .f32), FVec F S256x512 .f32) := do
  let v2775 : Vec F S1x256x128 .fp8e4m3 ← ld13 (k0_off20 i k0_t1 1#32) S1x256x128.size (k0_off20_inb i k0_t1 k0_h2 0)
  let v2781 : Vec F S1x256x128 .f32 ← ld14 (k0_off20 i k0_t1 1#32) S1x256x128.size (k0_off20_inb i k0_t1 k0_h2 0)
  let v2789 : Vec F S1x256x512 .f32 ← ld17 ![1, 0, 0] S1x256x512.size inb_S5x256x512_S1x256x512_1_0_0
  st17 ![1, 0, 0] S1x256x512.size inb_S5x256x512_S1x256x512_1_0_0 (k0_pay12 arg1 v2689 v2775 v2781)
  let v2803 : Vec F S1x256x128 .fp8e4m3 ← ld13 (k0_off20 i k0_t1 2#32) S1x256x128.size (k0_off20_inb i k0_t1 k0_h2 1)
  pure ⟨k0_pay13 arg1 v2689 v2766 v2775 v2781, k0_pay14 v2689 v2803⟩

def s_part5 (I : In F) (i : grid0.Coords) (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) : PM F (Σ' (v2822 : FVec F S8x512 .f32), FVec F S256x512 .f32) := do
  let v2809 : Vec F S1x256x128 .f32 ← ld14 (k0_off20 i k0_t1 2#32) S1x256x128.size (k0_off20_inb i k0_t1 k0_h2 1)
  let v2817 : Vec F S1x256x512 .f32 ← ld17 ![2, 0, 0] S1x256x512.size inb_S5x256x512_S1x256x512_2_0_0
  st17 ![2, 0, 0] S1x256x512.size inb_S5x256x512_S1x256x512_2_0_0 (k0_pay16 arg1 v2805 v2809)
  let v2831 : Vec F S1x256x128 .fp8e4m3 ← ld13 (k0_off20 i k0_t1 3#32) S1x256x128.size (k0_off20_inb i k0_t1 k0_h2 2)
  let v2837 : Vec F S1x256x128 .f32 ← ld14 (k0_off20 i k0_t1 3#32) S1x256x128.size (k0_off20_inb i k0_t1 k0_h2 2)
  pure ⟨k0_pay17 arg1 v2794 v2805 v2809, k0_pay18 arg1 v2689 v2831 v2837⟩

def s_part6 (I : In F) (i : grid0.Coords) (k0_h2 : k0_cond2 i = 1#1) (k0_t1 : Fin k0_t1_loop.trips) (arg19 : BitVec 32) (v2692 : FVec F S8x512 .f32) (v2822 : FVec F S8x512 .f32) (v2844 : FVec F S256x512 .f32) : PM F (Σ' (v2859 : FVec F S8x512 .f32) (v2861 : FVec F S8x512 .f32) (v2888 : FVec F S8x512 .f32), FVec F S8x512 .f32) := do
  let v2845 : Vec F S1x256x512 .f32 ← ld17 ![3, 0, 0] S1x256x512.size inb_S5x256x512_S1x256x512_3_0_0
  st17 ![3, 0, 0] S1x256x512.size inb_S5x256x512_S1x256x512_3_0_0 (k0_pay19 v2844)
  let v2856 : Vec F S1x8x512 .f32 ← ld6 I (k0_off21 k0_t1) S1x8x512.size (k0_off21_inb i k0_t1 k0_h2)
  pure ⟨k0_pay20 v2856, k0_pay22 v2692 v2822 v2844 v2856, k0_pay24 v2692 v2822 v2844 v2856, k0_pay25 v2692 v2822 v2844 v2856⟩

def s_part7 (I : In F) (i : grid0.Coords) (v2653 : IVec S128x512 1) (v2692 : FVec F S8x512 .f32) (v2861 : FVec F S8x512 .f32) (v2889 : FVec F S8x512 .f32) : PM F (Σ' (v2890 : FVec F S8x512 .f32) (v2903 : FVec F S8x512 .f32) (v2928 : FVec F S16x8x512 .f32), FVec F S8x512 .f32) := do
  let v2891 : Vec F S1x128x512 .f32 ← ld17 ![0, 0, 0] S1x128x512.size inb_S5x256x512_S1x128x512_0_0_0
  let v2908 : Vec F S1x128x512 .fp8e4m3 ← ld18 ![0, 0, 0] S1x128x512.size inb_S5x256x512_S1x128x512_0_0_0
  st18 ![0, 0, 0] S1x128x512.size inb_S5x256x512_S1x128x512_0_0_0 (k0_pay30 v2653 v2692 v2861 v2889 v2891)
  let v2914 : Vec F S1x128x512 .fp8e4m3 ← ld18 ![4, 0, 0] S1x128x512.size inb_S5x256x512_S1x128x512_4_0_0
  st18 ![4, 0, 0] S1x128x512.size inb_S5x256x512_S1x128x512_4_0_0 (k0_pay31 v2653 v2692 v2861 v2889 v2891)
  let v2917 : Vec F S1x128x512 .f32 ← ld17 ![0, 128, 0] S1x128x512.size inb_S5x256x512_S1x128x512_0_128_0
  pure ⟨k0_pay26 v2861 v2889, k0_pay28 v2692 v2861 v2889 v2891, k0_pay32 v2692 v2861 v2889 v2917, k0_pay33 v2692 v2861 v2889 v2917⟩

def s_part8 (I : In F) (i : grid0.Coords) (v2692 : FVec F S8x512 .f32) (v2890 : FVec F S8x512 .f32) (v2903 : FVec F S8x512 .f32) (v2928 : FVec F S16x8x512 .f32) (v2929 : FVec F S8x512 .f32) : PM F (Σ' (v2968 : FVec F S8x512 .f32), FVec F S256x512 .fp8e4m3) := do
  let v2933 : Vec F S1x128x512 .fp8e4m3 ← ld18 ![0, 128, 0] S1x128x512.size inb_S5x256x512_S1x128x512_0_128_0
  st18 ![0, 128, 0] S1x128x512.size inb_S5x256x512_S1x128x512_0_128_0 (k0_pay34 v2928)
  let v2936 : Vec F S1x256x512 .f32 ← ld17 ![1, 0, 0] S1x256x512.size inb_S5x256x512_S1x256x512_1_0_0
  let v2952 : Vec F S1x256x512 .fp8e4m3 ← ld18 ![1, 0, 0] S1x256x512.size inb_S5x256x512_S1x256x512_1_0_0
  st18 ![1, 0, 0] S1x256x512.size inb_S5x256x512_S1x256x512_1_0_0 (k0_pay36 v2692 v2890 v2936)
  let v2955 : Vec F S1x256x512 .f32 ← ld17 ![2, 0, 0] S1x256x512.size inb_S5x256x512_S1x256x512_2_0_0
  pure ⟨k0_pay38 v2692 v2890 v2903 v2929 v2936 v2955, k0_pay39 v2692 v2890 v2955⟩

def s_part9 (I : In F) (i : grid0.Coords) (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) : PM F (Σ' (v3004 : FVec F S8x512 .f32), FVec F S8x512 .f32) := do
  let v2971 : Vec F S1x256x512 .fp8e4m3 ← ld18 ![2, 0, 0] S1x256x512.size inb_S5x256x512_S1x256x512_2_0_0
  st18 ![2, 0, 0] S1x256x512.size inb_S5x256x512_S1x256x512_2_0_0 (k0_pay40 v2970)
  let v2974 : Vec F S1x256x512 .f32 ← ld17 ![3, 0, 0] S1x256x512.size inb_S5x256x512_S1x256x512_3_0_0
  let v2990 : Vec F S1x256x512 .fp8e4m3 ← ld18 ![3, 0, 0] S1x256x512.size inb_S5x256x512_S1x256x512_3_0_0
  st18 ![3, 0, 0] S1x256x512.size inb_S5x256x512_S1x256x512_3_0_0 (k0_pay42 v2692 v2890 v2974)
  let v2994 : Vec F S1x128x512 .fp8e4m3 ← ld18 ![4, 128, 0] S1x128x512.size inb_S5x256x512_S1x128x512_4_128_0
  st18 ![4, 128, 0] S1x128x512.size inb_S5x256x512_S1x128x512_4_128_0 (k0_pay43 (F := F))
  let v3006 : Vec F S1x1x8x128 .f32 ← ld5 I (k0_off22 k0_t1) S1x1x8x128.size (k0_off22_inb i k0_t1 k0_h2)
  pure ⟨k0_pay44 v2692 v2859 v2861 v2888 v2890 v2968 v2974, k0_pay45 v2888 v3006⟩

def s_part10 (I : In F) (i : grid0.Coords) (arg1 : BitVec 32) (k0_h2 : k0_cond2 i = 1#1) (k0_t1 : Fin k0_t1_loop.trips) (arg19 : BitVec 32) (v3004 : FVec F S8x512 .f32) (v3009 : FVec F S8x512 .f32) : PM F (Σ' (v3010 : FVec F S8x512 .f32) (v3017 : FVec F S128x256 .fp8e4m3) (v3024 : FVec F S128x256 .fp8e4m3) (v3031 : FVec F S128x256 .fp8e4m3) (v3038 : FVec F S128x256 .fp8e4m3), Vec F S1x1x128x256 .fp8e4m3) := do
  let v3016 : Vec F S1x1x128x256 .fp8e4m3 ← ld15 (k0_off23 i k0_t1 0#32) S1x1x128x256.size (k0_off23_inb i k0_t1 k0_h2 0)
  let v3023 : Vec F S1x1x128x256 .fp8e4m3 ← ld15 (k0_off23 i k0_t1 1#32) S1x1x128x256.size (k0_off23_inb i k0_t1 k0_h2 1)
  let v3030 : Vec F S1x1x128x256 .fp8e4m3 ← ld15 (k0_off23 i k0_t1 2#32) S1x1x128x256.size (k0_off23_inb i k0_t1 k0_h2 2)
  let v3037 : Vec F S1x1x128x256 .fp8e4m3 ← ld15 (k0_off23 i k0_t1 3#32) S1x1x128x256.size (k0_off23_inb i k0_t1 k0_h2 3)
  let v3044 : Vec F S1x1x128x256 .fp8e4m3 ← ld15 (k0_off23 i k0_t1 4#32) S1x1x128x256.size (k0_off23_inb i k0_t1 k0_h2 4)
  pure ⟨k0_pay46 v3004 v3009, k0_pay47 v3016, k0_pay48 v3023, k0_pay49 v3030, k0_pay50 v3037, v3044⟩

def s_part11 (I : In F) (i : grid0.Coords) (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) : PM F (Σ' (v3054 : FVec F S128x512 .f32) (v3080 : BitVec 32), FVec F S128x128 .bf16) := do
  let v3047 : Vec F S5x256x512 .fp8e4m3 ← ld18 ![0, 0, 0] S5x256x512.size inb_S5x256x512_S5x256x512_0_0_0
  let v3063 : Vec F S1x128x128 .bf16 ← ld7 (k0_off17 k0_t1 0#32) S1x128x128.size (k0_off17_inb i k0_t1 k0_h2 0)
  st7 (k0_off17 k0_t1 0#32) S1x128x128.size (k0_off17_inb i k0_t1 k0_h2 0) (k0_pay52 v3010 v3017 v3024 v3031 v3038 v3044 v3047)
  let v3074 : Vec F S1x128x128 .bf16 ← ld7 (k0_off17 k0_t1 1#32) S1x128x128.size (k0_off17_inb i k0_t1 k0_h2 1)
  st7 (k0_off17 k0_t1 1#32) S1x128x128.size (k0_off17_inb i k0_t1 k0_h2 1) (k0_pay53 v3010 v3017 v3024 v3031 v3038 v3044 v3047)
  let v3077 : BitVec 32 := Scalar.muli arg19 4#32
  let v3078 : BitVec 32 := Scalar.addi v3077 2#32
  let v3079 : BitVec 32 := Scalar.muli v3078 128#32
  let v3080 : BitVec 32 := v3079
  pure ⟨k0_pay51 v3010 v3017 v3024 v3031 v3038 v3044 v3047, v3080, k0_pay54 v3010 v3017 v3024 v3031 v3038 v3044 v3047⟩

def s_part12 (I : In F) (i : grid0.Coords) (k0_h2 : k0_cond2 i = 1#1) (k0_t1 : Fin k0_t1_loop.trips) (arg19 : BitVec 32) (v3054 : FVec F S128x512 .f32) (v3080 : BitVec 32) (v3083 : FVec F S128x128 .bf16) : PM F (Σ' (v3105 : FVec F S128x128 .fp8e4m3) (v3112 : FVec F S128x128 .fp8e4m3) (v3119 : FVec F S128x128 .fp8e4m3), BitVec 32) := do
  let v3085 : Vec F S1x128x128 .bf16 ← ld7 (k0_off17 k0_t1 2#32) S1x128x128.size (k0_off17_inb i k0_t1 k0_h2 2)
  st7 (k0_off17 k0_t1 2#32) S1x128x128.size (k0_off17_inb i k0_t1 k0_h2 2) (k0_pay55 v3083)
  let v3096 : Vec F S1x128x128 .bf16 ← ld7 (k0_off17 k0_t1 3#32) S1x128x128.size (k0_off17_inb i k0_t1 k0_h2 3)
  st7 (k0_off17 k0_t1 3#32) S1x128x128.size (k0_off17_inb i k0_t1 k0_h2 3) (k0_pay56 v3054)
  let v3104 : Vec F S1x128x128 .fp8e4m3 ← ld8 (k0_off24 k0_t1 0#32) S1x128x128.size (k0_off24_inb i k0_t1 k0_h2 0)
  let v3111 : Vec F S1x128x128 .fp8e4m3 ← ld8 (k0_off24 k0_t1 1#32) S1x128x128.size (k0_off24_inb i k0_t1 k0_h2 1)
  let v3118 : Vec F S1x128x128 .fp8e4m3 ← ld8 (k0_off24 k0_t1 2#32) S1x128x128.size (k0_off24_inb i k0_t1 k0_h2 2)
  let v3120 : BitVec 32 := Scalar.muli arg19 4#32
  pure ⟨k0_pay57 v3104, k0_pay58 v3111, k0_pay59 v3118, v3120⟩

def s_part13 (I : In F) (i : grid0.Coords) (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) : PM F (Σ' (v3127 : FVec F S512x128 .fp8e4m3) (v3130 : FVec F S8x512 .f32) (v3148 : FVec F S128x512 .f32) (v3153 : BitVec 32), FVec F S128x128 .fp8e4m3) := do
  let v3125 : Vec F S1x128x128 .fp8e4m3 ← ld8 (k0_off24 k0_t1 3#32) S1x128x128.size (k0_off24_inb i k0_t1 k0_h2 3)
  let v3129 : Vec F S1x1x8x512 .f32 ← ld16 (k0_off25 k0_t1) S1x1x8x512.size (k0_off25_inb i k0_t1 k0_h2)
  let v3139 : Vec F S1x128x128 .fp8e4m3 ← ld13 (k0_off19 i k0_t1 4#32 128#32) S1x128x128.size (k0_off19_inb i k0_t1 k0_h2 1 1)
  let v3145 : Vec F S1x128x128 .f32 ← ld14 (k0_off19 i k0_t1 4#32 128#32) S1x128x128.size (k0_off19_inb i k0_t1 k0_h2 1 1)
  let v3149 : BitVec 32 := Scalar.addi arg1 1#32
  let v3150 : BitVec 32 := Scalar.addi v3149 0#32
  let v3151 : BitVec 32 := Scalar.remsi v3150 5#32
  let v3152 : BitVec 32 := Scalar.muli v3151 256#32
  let v3153 : BitVec 32 := v3152
  let v3157 : Vec F S1x128x128 .fp8e4m3 ← ld13 (k0_off19 i k0_t1 0#32 128#32) S1x128x128.size (k0_off19_inb i k0_t1 k0_h2 0 1)
  pure ⟨k0_pay60 v3105 v3112 v3119 v3125, k0_pay61 v3129, k0_pay62 v3105 v3112 v3119 v3125 v3139 v3145, v3153, k0_pay63 v3157⟩

def s_part14 (I : In F) (i : grid0.Coords) (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) : PM F (Σ' (v3173 : FVec F S8x512 .f32) (v3194 : FVec F S256x512 .f32), BitVec 1) := do
  let v3163 : Vec F S1x128x128 .f32 ← ld14 (k0_off19 i k0_t1 0#32 128#32) S1x128x128.size (k0_off19_inb i k0_t1 k0_h2 0 1)
  let v3174 : Vec F S1x128x512 .f32 ← ld17 ![0, 128, 0] S1x128x512.size inb_S5x256x512_S1x128x512_0_128_0
  st17 ![0, 128, 0] S1x128x512.size inb_S5x256x512_S1x128x512_0_128_0 (k0_pay66 arg1 v2653 v3127 v3148 v3158 v3163)
  let v3185 : Vec F S1x256x128 .fp8e4m3 ← ld13 (k0_off20 i k0_t1 1#32) S1x256x128.size (k0_off20_inb i k0_t1 k0_h2 0)
  let v3191 : Vec F S1x256x128 .f32 ← ld14 (k0_off20 i k0_t1 1#32) S1x256x128.size (k0_off20_inb i k0_t1 k0_h2 0)
  let v3195 : BitVec 32 := Scalar.addi arg1 1#32
  let v3196 : BitVec 1 := Scalar.cmpi .sge v3195 4#32
  pure ⟨k0_pay65 arg1 v2653 v3127 v3148 v3158 v3163, k0_pay67 v3127 v3185 v3191, v3196⟩

def s_part15 (I : In F) (i : grid0.Coords) (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) : PM F (Σ' (v3232 : FVec F S8x512 .f32), BitVec 32) := do
  let v3199 : Vec F S1x256x512 .f32 ← ld17 ![1, 0, 0] S1x256x512.size inb_S5x256x512_S1x256x512_1_0_0
  st17 ![1, 0, 0] S1x256x512.size inb_S5x256x512_S1x256x512_1_0_0 (k0_pay69 v3194 v3196)
  let v3213 : Vec F S1x256x128 .fp8e4m3 ← ld13 (k0_off20 i k0_t1 2#32) S1x256x128.size (k0_off20_inb i k0_t1 k0_h2 1)
  let v3219 : Vec F S1x256x128 .f32 ← ld14 (k0_off20 i k0_t1 2#32) S1x256x128.size (k0_off20_inb i k0_t1 k0_h2 1)
  let v3227 : Vec F S1x256x512 .f32 ← ld17 ![2, 0, 0] S1x256x512.size inb_S5x256x512_S1x256x512_2_0_0
  st17 ![2, 0, 0] S1x256x512.size inb_S5x256x512_S1x256x512_2_0_0 (k0_pay71 arg1 v3127 v3213 v3219)
  pure ⟨k0_pay72 arg1 v3127 v3173 v3194 v3196 v3213 v3219, 1#32⟩

def s_part16 (I : In F) (i : grid0.Coords) (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) : PM F (Σ' (v3260 : FVec F S8x512 .f32) (v3265 : BitVec 32), FVec F S128x128 .fp8e4m3) := do
  let v3241 : Vec F S1x256x128 .fp8e4m3 ← ld13 (k0_off20 i k0_t1 3#32) S1x256x128.size (k0_off20_inb i k0_t1 k0_h2 2)
  let v3247 : Vec F S1x256x128 .f32 ← ld14 (k0_off20 i k0_t1 3#32) S1x256x128.size (k0_off20_inb i k0_t1 k0_h2 2)
  let v3255 : Vec F S1x256x512 .f32 ← ld17 ![3, 0, 0] S1x256x512.size inb_S5x256x512_S1x256x512_3_0_0
  st17 ![3, 0, 0] S1x256x512.size inb_S5x256x512_S1x256x512_3_0_0 (k0_pay74 arg1 v3127 v3241 v3247)
  let v3261 : BitVec 32 := Scalar.addi arg1 1#32
  let v3262 : BitVec 32 := Scalar.addi v3261 4#32
  let v3263 : BitVec 32 := Scalar.remsi v3262 5#32
  let v3264 : BitVec 32 := Scalar.muli v3263 256#32
  let v3265 : BitVec 32 := v3264
  let v3269 : Vec F S1x128x128 .fp8e4m3 ← ld13 (k0_off19 i k0_t1 4#32 0#32) S1x128x128.size (k0_off19_inb i k0_t1 k0_h2 1 0)
  pure ⟨k0_pay75 arg1 v3127 v3232 v3241 v3247, v3265, k0_pay76 v3269⟩

def s_part17 (I : In F) (i : grid0.Coords) (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) : PM F (Σ' (v3293 : FVec F S8x512 .f32) (v3295 : FVec F S8x512 .f32) (v3311 : IVec S8x512 32), IVec S8x512 1) := do
  let v3275 : Vec F S1x128x128 .f32 ← ld14 (k0_off19 i k0_t1 4#32 0#32) S1x128x128.size (k0_off19_inb i k0_t1 k0_h2 1 0)
  let v3279 : Vec F S1x128x512 .f32 ← ld17 ![4, 0, 0] S1x128x512.size inb_S5x256x512_S1x128x512_4_0_0
  st17 ![4, 0, 0] S1x128x512.size inb_S5x256x512_S1x128x512_4_0_0 (k0_pay78 v3127 v3270 v3275)
  let v3290 : Vec F S1x8x512 .f32 ← ld6 I (k0_off21 k0_t1) S1x8x512.size (k0_off21_inb i k0_t1 k0_h2)
  pure ⟨k0_pay79 v3290, k0_pay81 v3127 v3130 v3260 v3270 v3275 v3290, k0_pay82 v3127 v3130 v3260 v3270 v3275 v3290, k0_pay83 v3127 v3130 v3260 v3270 v3275 v3290⟩

def s_part18 (I : In F) (i : grid0.Coords) (v2653 : IVec S128x512 1) (v3130 : FVec F S8x512 .f32) (v3295 : FVec F S8x512 .f32) (v3311 : IVec S8x512 32) (v3313 : IVec S8x512 1) : PM F (Σ' (v3322 : FVec F S8x512 .f32) (v3324 : FVec F S8x512 .f32) (v3337 : FVec F S8x512 .f32), Vec F S1x256x512 .f32) := do
  let v3325 : Vec F S1x128x512 .f32 ← ld17 ![0, 128, 0] S1x128x512.size inb_S5x256x512_S1x128x512_0_128_0
  let v3342 : Vec F S1x128x512 .fp8e4m3 ← ld18 ![0, 128, 0] S1x128x512.size inb_S5x256x512_S1x128x512_0_128_0
  st18 ![0, 128, 0] S1x128x512.size inb_S5x256x512_S1x128x512_0_128_0 (k0_pay90 v2653 v3130 v3295 v3311 v3313 v3325)
  let v3348 : Vec F S1x128x512 .fp8e4m3 ← ld18 ![4, 128, 0] S1x128x512.size inb_S5x256x512_S1x128x512_4_128_0
  st18 ![4, 128, 0] S1x128x512.size inb_S5x256x512_S1x128x512_4_128_0 (k0_pay91 v2653 v3130 v3295 v3311 v3313 v3325)
  let v3351 : Vec F S1x256x512 .f32 ← ld17 ![1, 0, 0] S1x256x512.size inb_S5x256x512_S1x256x512_1_0_0
  pure ⟨k0_pay85 (F := F) v3311 v3313, k0_pay86 v3295 v3311 v3313, k0_pay88 v3130 v3295 v3311 v3313 v3325, v3351⟩

def s_part19 (I : In F) (i : grid0.Coords) (v3130 : FVec F S8x512 .f32) (v3324 : FVec F S8x512 .f32) (v3337 : FVec F S8x512 .f32) (v3351 : Vec F S1x256x512 .f32) : PM F (Σ' (v3383 : FVec F S8x512 .f32) (v3391 : FVec F S32x8x512 .f32), FVec F S32x8x512 .f32) := do
  let v3367 : Vec F S1x256x512 .fp8e4m3 ← ld18 ![1, 0, 0] S1x256x512.size inb_S5x256x512_S1x256x512_1_0_0
  st18 ![1, 0, 0] S1x256x512.size inb_S5x256x512_S1x256x512_1_0_0 (k0_pay93 v3130 v3324 v3351)
  let v3370 : Vec F S1x256x512 .f32 ← ld17 ![2, 0, 0] S1x256x512.size inb_S5x256x512_S1x256x512_2_0_0
  let v3386 : Vec F S1x256x512 .fp8e4m3 ← ld18 ![2, 0, 0] S1x256x512.size inb_S5x256x512_S1x256x512_2_0_0
  st18 ![2, 0, 0] S1x256x512.size inb_S5x256x512_S1x256x512_2_0_0 (k0_pay96 v3130 v3324 v3370)
  let v3389 : Vec F S1x256x512 .f32 ← ld17 ![3, 0, 0] S1x256x512.size inb_S5x256x512_S1x256x512_3_0_0
  pure ⟨k0_pay95 v3130 v3324 v3337 v3351 v3370, k0_pay97 v3389, k0_pay98 v3130⟩

def s_part20 (I : In F) (i : grid0.Coords) (v3130 : FVec F S8x512 .f32) (v3324 : FVec F S8x512 .f32) (v3383 : FVec F S8x512 .f32) (v3391 : FVec F S32x8x512 .f32) (v3393 : FVec F S32x8x512 .f32) : PM F (FVec F S1x512 .f32) := do
  let v3405 : Vec F S1x256x512 .fp8e4m3 ← ld18 ![3, 0, 0] S1x256x512.size inb_S5x256x512_S1x256x512_3_0_0
  st18 ![3, 0, 0] S1x256x512.size inb_S5x256x512_S1x256x512_3_0_0 (k0_pay100 v3324 v3391 v3393)
  let v3408 : Vec F S1x128x512 .f32 ← ld17 ![4, 0, 0] S1x128x512.size inb_S5x256x512_S1x128x512_4_0_0
  let v3424 : Vec F S1x128x512 .fp8e4m3 ← ld18 ![4, 0, 0] S1x128x512.size inb_S5x256x512_S1x128x512_4_0_0
  st18 ![4, 0, 0] S1x128x512.size inb_S5x256x512_S1x128x512_4_0_0 (k0_pay102 v3130 v3324 v3408)
  let v3428 : Vec F S1x128x512 .fp8e4m3 ← ld18 ![0, 0, 0] S1x128x512.size inb_S5x256x512_S1x128x512_0_0_0
  st18 ![0, 0, 0] S1x128x512.size inb_S5x256x512_S1x128x512_0_0_0 (k0_pay103 (F := F))
  pure (k0_pay104 v3130 v3324 v3383 v3391 v3393 v3408)

def s_part21 (I : In F) (i : grid0.Coords) (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) : PM F (Σ' (v3444 : FVec F S8x512 .f32) (v3451 : FVec F S128x256 .fp8e4m3) (v3458 : FVec F S128x256 .fp8e4m3), FVec F S128x256 .fp8e4m3) := do
  let v3440 : Vec F S1x1x8x128 .f32 ← ld5 I (k0_off22 k0_t1) S1x1x8x128.size (k0_off22_inb i k0_t1 k0_h2)
  let v3450 : Vec F S1x1x128x256 .fp8e4m3 ← ld15 (k0_off23 i k0_t1 0#32) S1x1x128x256.size (k0_off23_inb i k0_t1 k0_h2 0)
  let v3457 : Vec F S1x1x128x256 .fp8e4m3 ← ld15 (k0_off23 i k0_t1 1#32) S1x1x128x256.size (k0_off23_inb i k0_t1 k0_h2 1)
  let v3464 : Vec F S1x1x128x256 .fp8e4m3 ← ld15 (k0_off23 i k0_t1 2#32) S1x1x128x256.size (k0_off23_inb i k0_t1 k0_h2 2)
  pure ⟨k0_pay105 v3293 v3295 v3322 v3432 v3440, k0_pay106 v3450, k0_pay107 v3457, k0_pay108 v3464⟩

def s_part22 (I : In F) (i : grid0.Coords) (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) : PM F (Σ' (v3488 : FVec F S128x512 .f32), FVec F S128x128 .bf16) := do
  let v3471 : Vec F S1x1x128x256 .fp8e4m3 ← ld15 (k0_off23 i k0_t1 3#32) S1x1x128x256.size (k0_off23_inb i k0_t1 k0_h2 3)
  let v3478 : Vec F S1x1x128x256 .fp8e4m3 ← ld15 (k0_off23 i k0_t1 4#32) S1x1x128x256.size (k0_off23_inb i k0_t1 k0_h2 4)
  let v3481 : Vec F S5x256x512 .fp8e4m3 ← ld18 ![0, 0, 0] S5x256x512.size inb_S5x256x512_S5x256x512_0_0_0
  let v3497 : Vec F S1x128x128 .bf16 ← ld7 (k0_off24 k0_t1 0#32) S1x128x128.size (k0_off24_inb i k0_t1 k0_h2 0)
  st7 (k0_off24 k0_t1 0#32) S1x128x128.size (k0_off24_inb i k0_t1 k0_h2 0) (k0_pay110 v3444 v3451 v3458 v3465 v3471 v3478 v3481)
  let v3508 : Vec F S1x128x128 .bf16 ← ld7 (k0_off24 k0_t1 1#32) S1x128x128.size (k0_off24_inb i k0_t1 k0_h2 1)
  pure ⟨k0_pay109 v3444 v3451 v3458 v3465 v3471 v3478 v3481, k0_pay111 v3444 v3451 v3458 v3465 v3471 v3478 v3481⟩

def s_t1_body (I : In F) (i : grid0.Coords) (arg1 : BitVec 32) (v2264 : FVec F S32x256 .f32) (v2621 : FVec F S8x128 .f32) (v2622 : Vec F S1x1x8x128 .f32) (k0_h2 : k0_cond2 i = 1#1) (k0_t1 : Fin k0_t1_loop.trips) : PM F Unit := do
  let ⟨arg19, v2689, v2692, v2694⟩ : Σ' (arg19 : BitVec 32) (v2689 : FVec F S512x128 .fp8e4m3) (v2692 : FVec F S8x512 .f32), BitVec 32 ← s_part1 I i arg1 k0_h2 0#32 1#32 k0_t1
  let ⟨v2733, v2734⟩ : Σ' (v2733 : FVec F S128x512 .f32), FVec F S16x8x512 .f32 ← s_part2 I i arg1 k0_pay597 k0_h2 k0_t1 arg19 v2689 v2694
  let ⟨v2766, v2769, c256_i32_1359⟩ : Σ' (v2766 : FVec F S8x512 .f32) (v2769 : BitVec 32), BitVec 32 ← s_part3 I i arg1 k0_h2 k0_t1 arg19 v2689 v2733 v2734
  let ⟨v2794, v2805⟩ : Σ' (v2794 : FVec F S8x512 .f32), FVec F S256x512 .f32 ← s_part4 I i arg1 k0_h2 k0_t1 arg19 v2689 v2766 v2769 c256_i32_1359
  let ⟨v2822, v2844⟩ : Σ' (v2822 : FVec F S8x512 .f32), FVec F S256x512 .f32 ← s_part5 I i arg1 k0_h2 k0_t1 arg19 v2689 v2794 v2805
  let ⟨v2859, v2861, v2888, v2889⟩ : Σ' (v2859 : FVec F S8x512 .f32) (v2861 : FVec F S8x512 .f32) (v2888 : FVec F S8x512 .f32), FVec F S8x512 .f32 ← s_part6 I i k0_h2 k0_t1 arg19 v2692 v2822 v2844
  let ⟨v2890, v2903, v2928, v2929⟩ : Σ' (v2890 : FVec F S8x512 .f32) (v2903 : FVec F S8x512 .f32) (v2928 : FVec F S16x8x512 .f32), FVec F S8x512 .f32 ← s_part7 I i k0_pay597 v2692 v2861 v2889
  let ⟨v2968, v2970⟩ : Σ' (v2968 : FVec F S8x512 .f32), FVec F S256x512 .fp8e4m3 ← s_part8 I i v2692 v2890 v2903 v2928 v2929
  let ⟨v3004, v3009⟩ : Σ' (v3004 : FVec F S8x512 .f32), FVec F S8x512 .f32 ← s_part9 I i k0_h2 k0_t1 arg19 v2692 v2859 v2861 v2888 v2890 v2968 v2970
  let ⟨v3010, v3017, v3024, v3031, v3038, v3044⟩ : Σ' (v3010 : FVec F S8x512 .f32) (v3017 : FVec F S128x256 .fp8e4m3) (v3024 : FVec F S128x256 .fp8e4m3) (v3031 : FVec F S128x256 .fp8e4m3) (v3038 : FVec F S128x256 .fp8e4m3), Vec F S1x1x128x256 .fp8e4m3 ← s_part10 I i arg1 k0_h2 k0_t1 arg19 v3004 v3009
  let ⟨v3054, v3080, v3083⟩ : Σ' (v3054 : FVec F S128x512 .f32) (v3080 : BitVec 32), FVec F S128x128 .bf16 ← s_part11 I i k0_h2 k0_t1 arg19 v3010 v3017 v3024 v3031 v3038 v3044
  let ⟨v3105, v3112, v3119, v3120⟩ : Σ' (v3105 : FVec F S128x128 .fp8e4m3) (v3112 : FVec F S128x128 .fp8e4m3) (v3119 : FVec F S128x128 .fp8e4m3), BitVec 32 ← s_part12 I i k0_h2 k0_t1 arg19 v3054 v3080 v3083
  let ⟨v3127, v3130, v3148, v3153, v3158⟩ : Σ' (v3127 : FVec F S512x128 .fp8e4m3) (v3130 : FVec F S8x512 .f32) (v3148 : FVec F S128x512 .f32) (v3153 : BitVec 32), FVec F S128x128 .fp8e4m3 ← s_part13 I i arg1 k0_h2 k0_t1 arg19 v3105 v3112 v3119 v3120
  let ⟨v3173, v3194, v3196⟩ : Σ' (v3173 : FVec F S8x512 .f32) (v3194 : FVec F S256x512 .f32), BitVec 1 ← s_part14 I i arg1 k0_pay597 k0_h2 k0_t1 arg19 v3127 v3148 v3153 v3158
  let ⟨v3232, c1_i32_1599⟩ : Σ' (v3232 : FVec F S8x512 .f32), BitVec 32 ← s_part15 I i arg1 k0_h2 k0_t1 arg19 v3127 v3173 v3194 v3196
  let ⟨v3260, v3265, v3270⟩ : Σ' (v3260 : FVec F S8x512 .f32) (v3265 : BitVec 32), FVec F S128x128 .fp8e4m3 ← s_part16 I i arg1 k0_h2 k0_t1 arg19 v3127 v3232 c1_i32_1599
  let ⟨v3293, v3295, v3311, v3313⟩ : Σ' (v3293 : FVec F S8x512 .f32) (v3295 : FVec F S8x512 .f32) (v3311 : IVec S8x512 32), IVec S8x512 1 ← s_part17 I i k0_h2 k0_t1 arg19 v3127 v3130 v3260 v3265 v3270
  let ⟨v3322, v3324, v3337, v3351⟩ : Σ' (v3322 : FVec F S8x512 .f32) (v3324 : FVec F S8x512 .f32) (v3337 : FVec F S8x512 .f32), Vec F S1x256x512 .f32 ← s_part18 I i k0_pay597 v3130 v3295 v3311 v3313
  let ⟨v3383, v3391, v3393⟩ : Σ' (v3383 : FVec F S8x512 .f32) (v3391 : FVec F S32x8x512 .f32), FVec F S32x8x512 .f32 ← s_part19 I i v3130 v3324 v3337 v3351
  let v3432 : FVec F S1x512 .f32 ← s_part20 I i v3130 v3324 v3383 v3391 v3393
  let ⟨v3444, v3451, v3458, v3465⟩ : Σ' (v3444 : FVec F S8x512 .f32) (v3451 : FVec F S128x256 .fp8e4m3) (v3458 : FVec F S128x256 .fp8e4m3), FVec F S128x256 .fp8e4m3 ← s_part21 I i arg1 k0_h2 k0_t1 arg19 v3293 v3295 v3322 v3432
  let ⟨v3488, v3506⟩ : Σ' (v3488 : FVec F S128x512 .f32), FVec F S128x128 .bf16 ← s_part22 I i arg1 k0_h2 k0_t1 arg19 v3444 v3451 v3458 v3465
  st7 (k0_off24 k0_t1 1#32) S1x128x128.size (k0_off24_inb i k0_t1 k0_h2 1) (k0_pay598 v3506)
  let v3519 : Vec F S1x128x128 .bf16 ← ld7 (k0_off24 k0_t1 2#32) S1x128x128.size (k0_off24_inb i k0_t1 k0_h2 2)
  st7 (k0_off24 k0_t1 2#32) S1x128x128.size (k0_off24_inb i k0_t1 k0_h2 2) (k0_pay599 v3488)
  let v3530 : Vec F S1x128x128 .bf16 ← ld7 (k0_off24 k0_t1 3#32) S1x128x128.size (k0_off24_inb i k0_t1 k0_h2 3)
  st7 (k0_off24 k0_t1 3#32) S1x128x128.size (k0_off24_inb i k0_t1 k0_h2 3) (k0_pay600 v3488)
  pure ⟨⟩

def s_part113 (I : In F) (i : grid0.Coords) (arg1 : BitVec 32) (v2264 : FVec F S32x256 .f32) (v2621 : FVec F S8x128 .f32) (v2622 : Vec F S1x1x8x128 .f32) : PM F (Σ' (v2653 : IVec S128x512 1), BitVec 32) := do
  st16 ![1, 7, 0, 128] S1x1x8x128.size inb_S2x8x8x512_S1x1x8x128_1_7_0_128 (k0_pay592 v2621)
  let v2628 : Vec F S1x1x8x128 .f32 ← ld16 ![0, 7, 0, 256] S1x1x8x128.size inb_S2x8x8x512_S1x1x8x128_0_7_0_256
  st16 ![0, 7, 0, 256] S1x1x8x128.size inb_S2x8x8x512_S1x1x8x128_0_7_0_256 (k0_pay593 v2264)
  let v2634 : Vec F S1x1x8x128 .f32 ← ld16 ![1, 7, 0, 256] S1x1x8x128.size inb_S2x8x8x512_S1x1x8x128_1_7_0_256
  st16 ![1, 7, 0, 256] S1x1x8x128.size inb_S2x8x8x512_S1x1x8x128_1_7_0_256 (k0_pay594 v2264)
  let v2640 : Vec F S1x1x8x128 .f32 ← ld16 ![0, 7, 0, 384] S1x1x8x128.size inb_S2x8x8x512_S1x1x8x128_0_7_0_384
  st16 ![0, 7, 0, 384] S1x1x8x128.size inb_S2x8x8x512_S1x1x8x128_0_7_0_384 (k0_pay595 v2264)
  let v2646 : Vec F S1x1x8x128 .f32 ← ld16 ![1, 7, 0, 384] S1x1x8x128.size inb_S2x8x8x512_S1x1x8x128_1_7_0_384
  st16 ![1, 7, 0, 384] S1x1x8x128.size inb_S2x8x8x512_S1x1x8x128_1_7_0_384 (k0_pay596 v2264)
  if k0_h2 : k0_cond2 i = 1#1 then do
    PM.loop k0_t1_loop.trips (s_t1_body I i arg1 v2264 v2621 v2622 k0_h2)
    pure ⟨⟩
  else do
    pure ⟨⟩
  pure ⟨k0_pay597, 4#32⟩

def s_part23 (I : In F) (i : grid0.Coords) (arg1 : BitVec 32) (k0_h3 : k0_cond3 i = 1#1) (c0_i32_1293 : BitVec 32) (c1_i32 : BitVec 32) (k0_t2 : Fin k0_t2_loop.trips) : PM F (Σ' (arg19 : BitVec 32) (v2689 : FVec F S512x128 .fp8e4m3) (v2692 : FVec F S8x512 .f32), BitVec 32) := do
  let arg19 : BitVec 32 := Scf.iv c0_i32_1293 c1_i32 k0_t2
  let v2666 : Vec F S1x128x128 .fp8e4m3 ← ld8 (k0_off26 k0_t2 0#32) S1x128x128.size (k0_off26_inb i k0_t2 k0_h3 0)
  let v2673 : Vec F S1x128x128 .fp8e4m3 ← ld8 (k0_off26 k0_t2 1#32) S1x128x128.size (k0_off26_inb i k0_t2 k0_h3 1)
  let v2680 : Vec F S1x128x128 .fp8e4m3 ← ld8 (k0_off26 k0_t2 2#32) S1x128x128.size (k0_off26_inb i k0_t2 k0_h3 2)
  let v2687 : Vec F S1x128x128 .fp8e4m3 ← ld8 (k0_off26 k0_t2 3#32) S1x128x128.size (k0_off26_inb i k0_t2 k0_h3 3)
  let v2691 : Vec F S1x1x8x512 .f32 ← ld16 (k0_off27 k0_t2) S1x1x8x512.size (k0_off27_inb i k0_t2 k0_h3)
  let v2693 : BitVec 32 := Scalar.addi arg1 1#32
  let v2694 : BitVec 32 := Scalar.addi v2693 4#32
  pure ⟨arg19, k0_pay112 v2666 v2673 v2680 v2687, k0_pay113 v2691, v2694⟩

def s_part24 (I : In F) (i : grid0.Coords) (arg1 : BitVec 32) (v2653 : IVec S128x512 1) (k0_h3 : k0_cond3 i = 1#1) (k0_t2 : Fin k0_t2_loop.trips) (arg19 : BitVec 32) (v2689 : FVec F S512x128 .fp8e4m3) (v2694 : BitVec 32) : PM F (Σ' (v2731 : FVec F S8x512 .f32), FVec F S1x128x512 .f32) := do
  let v2701 : Vec F S1x128x128 .fp8e4m3 ← ld13 (k0_off28 i k0_t2 4#32 0#32) S1x128x128.size (k0_off28_inb i k0_t2 k0_h3 1 0)
  let v2707 : Vec F S1x128x128 .f32 ← ld14 (k0_off28 i k0_t2 4#32 0#32) S1x128x128.size (k0_off28_inb i k0_t2 k0_h3 1 0)
  let v2719 : Vec F S1x128x128 .fp8e4m3 ← ld13 (k0_off28 i k0_t2 0#32 0#32) S1x128x128.size (k0_off28_inb i k0_t2 k0_h3 0 0)
  let v2725 : Vec F S1x128x128 .f32 ← ld14 (k0_off28 i k0_t2 0#32 0#32) S1x128x128.size (k0_off28_inb i k0_t2 k0_h3 0 0)
  let v2732 : Vec F S1x128x512 .f32 ← ld17 ![0, 0, 0] S1x128x512.size inb_S5x256x512_S1x128x512_0_0_0
  pure ⟨k0_pay115 v2653 v2689 v2701 v2707 v2719 v2725, k0_pay116 v2653 v2689 v2701 v2707 v2719 v2725⟩

def s_part25 (I : In F) (i : grid0.Coords) (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) : PM F (Σ' (v2758 : FVec F S8x512 .f32) (v2769 : FVec F S256x512 .f32), BitVec 32) := do
  st17 ![0, 0, 0] S1x128x512.size inb_S5x256x512_S1x128x512_0_0_0 v2734
  let v2743 : Vec F S1x128x128 .fp8e4m3 ← ld13 (k0_off28 i k0_t2 0#32 128#32) S1x128x128.size (k0_off28_inb i k0_t2 k0_h3 0 1)
  let v2749 : Vec F S1x128x128 .f32 ← ld14 (k0_off28 i k0_t2 0#32 128#32) S1x128x128.size (k0_off28_inb i k0_t2 k0_h3 0 1)
  let v2753 : Vec F S1x128x512 .f32 ← ld17 ![0, 128, 0] S1x128x512.size inb_S5x256x512_S1x128x512_0_128_0
  st17 ![0, 128, 0] S1x128x512.size inb_S5x256x512_S1x128x512_0_128_0 (k0_pay118 v2689 v2743 v2749)
  let v2759 : BitVec 32 := Scalar.addi arg1 1#32
  let v2760 : BitVec 32 := Scalar.addi v2759 1#32
  let v2761 : BitVec 32 := Scalar.remsi v2760 5#32
  let v2762 : BitVec 32 := Scalar.muli v2761 256#32
  let v2763 : BitVec 32 := v2762
  let v2767 : Vec F S1x256x128 .fp8e4m3 ← ld13 (k0_off29 i k0_t2 1#32) S1x256x128.size (k0_off29_inb i k0_t2 k0_h3 0)
  let v2770 : BitVec 32 := Scalar.addi v2763 0#32
  pure ⟨k0_pay119 v2689 v2731 v2743 v2749, k0_pay120 v2689 v2767, v2770⟩

def s_part26 (I : In F) (i : grid0.Coords) (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) : PM F (Σ' (v2806 : FVec F S8x512 .f32) (v2808 : BitVec 32), BitVec 32) := do
  let v2773 : Vec F S1x256x128 .f32 ← ld14 (k0_off29 i k0_t2 1#32) S1x256x128.size (k0_off29_inb i k0_t2 k0_h3 0)
  let v2777 : Vec F S1x256x512 .f32 ← ld17 ![1, 0, 0] S1x256x512.size inb_S5x256x512_S1x256x512_1_0_0
  st17 ![1, 0, 0] S1x256x512.size inb_S5x256x512_S1x256x512_1_0_0 (k0_pay122 v2769 v2773)
  let v2791 : Vec F S1x256x128 .fp8e4m3 ← ld13 (k0_off29 i k0_t2 2#32) S1x256x128.size (k0_off29_inb i k0_t2 k0_h3 1)
  let v2797 : Vec F S1x256x128 .f32 ← ld14 (k0_off29 i k0_t2 2#32) S1x256x128.size (k0_off29_inb i k0_t2 k0_h3 1)
  let v2801 : Vec F S1x256x512 .f32 ← ld17 ![2, 0, 0] S1x256x512.size inb_S5x256x512_S1x256x512_2_0_0
  st17 ![2, 0, 0] S1x256x512.size inb_S5x256x512_S1x256x512_2_0_0 (k0_pay124 v2689 v2791 v2797)
  let v2807 : BitVec 32 := Scalar.addi arg1 1#32
  let v2808 : BitVec 32 := Scalar.addi v2807 3#32
  pure ⟨k0_pay125 v2689 v2758 v2769 v2773 v2791 v2797, v2808, 5#32⟩

def s_part27 (I : In F) (i : grid0.Coords) (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) : PM F (Σ' (v2839 : FVec F S8x512 .f32) (v2841 : FVec F S8x512 .f32) (v2845 : FVec F S8x512 .f32) (v2846 : IVec S8x512x256 32) (v2849 : FVec F S8x512x256 .f32), IVec S8x512x256 32) := do
  let v2815 : Vec F S1x256x128 .fp8e4m3 ← ld13 (k0_off29 i k0_t2 3#32) S1x256x128.size (k0_off29_inb i k0_t2 k0_h3 2)
  let v2821 : Vec F S1x256x128 .f32 ← ld14 (k0_off29 i k0_t2 3#32) S1x256x128.size (k0_off29_inb i k0_t2 k0_h3 2)
  let v2825 : Vec F S1x256x512 .f32 ← ld17 ![3, 0, 0] S1x256x512.size inb_S5x256x512_S1x256x512_3_0_0
  st17 ![3, 0, 0] S1x256x512.size inb_S5x256x512_S1x256x512_3_0_0 (k0_pay127 v2689 v2815 v2821)
  let v2836 : Vec F S1x8x512 .f32 ← ld6 I (k0_off30 k0_t2) S1x8x512.size (k0_off30_inb i k0_t2 k0_h3)
  have v2846 : IVec S8x512x256 32 := iota .tc S8x512x256 32 [2] iota_S8x512x256_d2_w32
  pure ⟨k0_pay128 v2836, k0_pay130 v2689 v2692 v2806 v2815 v2821 v2836, k0_pay131 v2689 v2692 v2806 v2815 v2821 v2836, v2846, k0_pay132 (F := F), k0_pay133⟩

def s_part28 (I : In F) (i : grid0.Coords) (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) : PM F (Σ' (v2868 : FVec F S8x512 .f32) (v2870 : FVec F S8x512 .f32) (v2883 : FVec F S8x512 .f32), FVec F S128x512 .fp8e4m3) := do
  let v2871 : Vec F S1x128x512 .f32 ← ld17 ![0, 0, 0] S1x128x512.size inb_S5x256x512_S1x128x512_0_0_0
  let v2888 : Vec F S1x128x512 .fp8e4m3 ← ld18 ![0, 0, 0] S1x128x512.size inb_S5x256x512_S1x128x512_0_0_0
  st18 ![0, 0, 0] S1x128x512.size inb_S5x256x512_S1x128x512_0_0_0 (k0_pay140 v2653 v2692 v2841 v2845 v2846 v2849 v2850 v2871)
  pure ⟨k0_pay135 v2845 v2846 v2849 v2850, k0_pay136 v2841 v2845 v2846 v2849 v2850, k0_pay138 v2692 v2841 v2845 v2846 v2849 v2850 v2871, k0_pay141 v2653 v2692 v2841 v2845 v2846 v2849 v2850 v2871⟩

def s_part29 (I : In F) (i : grid0.Coords) (v2692 : FVec F S8x512 .f32) (v2870 : FVec F S8x512 .f32) (v2883 : FVec F S8x512 .f32) (v2893 : FVec F S128x512 .fp8e4m3) : PM F (Σ' (v2929 : FVec F S8x512 .f32) (v2931 : FVec F S256x512 .fp8e4m3), Vec F S1x256x512 .fp8e4m3) := do
  let v2894 : Vec F S1x128x512 .fp8e4m3 ← ld18 ![4, 0, 0] S1x128x512.size inb_S5x256x512_S1x128x512_4_0_0
  st18 ![4, 0, 0] S1x128x512.size inb_S5x256x512_S1x128x512_4_0_0 (k0_pay142 v2893)
  let v2897 : Vec F S1x128x512 .f32 ← ld17 ![0, 128, 0] S1x128x512.size inb_S5x256x512_S1x128x512_0_128_0
  let v2913 : Vec F S1x128x512 .fp8e4m3 ← ld18 ![0, 128, 0] S1x128x512.size inb_S5x256x512_S1x128x512_0_128_0
  st18 ![0, 128, 0] S1x128x512.size inb_S5x256x512_S1x128x512_0_128_0 (k0_pay144 v2692 v2870 v2897)
  let v2916 : Vec F S1x256x512 .f32 ← ld17 ![1, 0, 0] S1x256x512.size inb_S5x256x512_S1x256x512_1_0_0
  let v2932 : Vec F S1x256x512 .fp8e4m3 ← ld18 ![1, 0, 0] S1x256x512.size inb_S5x256x512_S1x256x512_1_0_0
  pure ⟨k0_pay146 v2692 v2870 v2883 v2897 v2916, k0_pay147 v2692 v2870 v2916, v2932⟩

def s_part30 (I : In F) (i : grid0.Coords) (v2692 : FVec F S8x512 .f32) (v2870 : FVec F S8x512 .f32) (v2929 : FVec F S8x512 .f32) (v2931 : FVec F S256x512 .fp8e4m3) (v2932 : Vec F S1x256x512 .fp8e4m3) : PM F (Σ' (v2967 : FVec F S8x512 .f32), F .fp8e4m3) := do
  st18 ![1, 0, 0] S1x256x512.size inb_S5x256x512_S1x256x512_1_0_0 (k0_pay148 v2931)
  let v2935 : Vec F S1x256x512 .f32 ← ld17 ![2, 0, 0] S1x256x512.size inb_S5x256x512_S1x256x512_2_0_0
  let v2951 : Vec F S1x256x512 .fp8e4m3 ← ld18 ![2, 0, 0] S1x256x512.size inb_S5x256x512_S1x256x512_2_0_0
  st18 ![2, 0, 0] S1x256x512.size inb_S5x256x512_S1x256x512_2_0_0 (k0_pay150 v2692 v2870 v2935)
  let v2954 : Vec F S1x256x512 .f32 ← ld17 ![3, 0, 0] S1x256x512.size inb_S5x256x512_S1x256x512_3_0_0
  let v2970 : Vec F S1x256x512 .fp8e4m3 ← ld18 ![3, 0, 0] S1x256x512.size inb_S5x256x512_S1x256x512_3_0_0
  st18 ![3, 0, 0] S1x256x512.size inb_S5x256x512_S1x256x512_3_0_0 (k0_pay153 v2692 v2870 v2954)
  have cst_1447 : F .fp8e4m3 := Scalar.ofBits .fp8e4m3 0x00#8
  pure ⟨k0_pay152 v2692 v2870 v2929 v2935 v2954, cst_1447⟩

def s_part31 (I : In F) (i : grid0.Coords) (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) : PM F (Σ' (v2990 : FVec F S8x512 .f32) (v2997 : FVec F S128x256 .fp8e4m3), FVec F S128x256 .fp8e4m3) := do
  let v2974 : Vec F S1x128x512 .fp8e4m3 ← ld18 ![4, 128, 0] S1x128x512.size inb_S5x256x512_S1x128x512_4_128_0
  st18 ![4, 128, 0] S1x128x512.size inb_S5x256x512_S1x128x512_4_128_0 (k0_pay154 cst_1447)
  let v2986 : Vec F S1x1x8x128 .f32 ← ld5 I (k0_off31 k0_t2) S1x1x8x128.size (k0_off31_inb i k0_t2 k0_h3)
  let v2996 : Vec F S1x1x128x256 .fp8e4m3 ← ld15 (k0_off32 i k0_t2 0#32) S1x1x128x256.size (k0_off32_inb i k0_t2 k0_h3 0)
  let v3003 : Vec F S1x1x128x256 .fp8e4m3 ← ld15 (k0_off32 i k0_t2 1#32) S1x1x128x256.size (k0_off32_inb i k0_t2 k0_h3 1)
  pure ⟨k0_pay155 v2839 v2841 v2868 v2967 v2986, k0_pay156 v2996, k0_pay157 v3003⟩

def s_part32 (I : In F) (i : grid0.Coords) (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) : PM F (Σ' (v3034 : FVec F S128x512 .f32), BitVec 32) := do
  let v3010 : Vec F S1x1x128x256 .fp8e4m3 ← ld15 (k0_off32 i k0_t2 2#32) S1x1x128x256.size (k0_off32_inb i k0_t2 k0_h3 2)
  let v3017 : Vec F S1x1x128x256 .fp8e4m3 ← ld15 (k0_off32 i k0_t2 3#32) S1x1x128x256.size (k0_off32_inb i k0_t2 k0_h3 3)
  let v3024 : Vec F S1x1x128x256 .fp8e4m3 ← ld15 (k0_off32 i k0_t2 4#32) S1x1x128x256.size (k0_off32_inb i k0_t2 k0_h3 4)
  let v3027 : Vec F S5x256x512 .fp8e4m3 ← ld18 ![0, 0, 0] S5x256x512.size inb_S5x256x512_S5x256x512_0_0_0
  let v3043 : Vec F S1x128x128 .bf16 ← ld7 (k0_off26 k0_t2 0#32) S1x128x128.size (k0_off26_inb i k0_t2 k0_h3 0)
  st7 (k0_off26 k0_t2 0#32) S1x128x128.size (k0_off26_inb i k0_t2 k0_h3 0) (k0_pay159 v2990 v2997 v3004 v3010 v3017 v3024 v3027)
  let v3046 : BitVec 32 := Scalar.muli arg19 4#32
  let v3047 : BitVec 32 := Scalar.addi v3046 1#32
  pure ⟨k0_pay158 v2990 v2997 v3004 v3010 v3017 v3024 v3027, v3047⟩

def s_part33 (I : In F) (i : grid0.Coords) (k0_h3 : k0_cond3 i = 1#1) (k0_t2 : Fin k0_t2_loop.trips) (arg19 : BitVec 32) (v3034 : FVec F S128x512 .f32) (v3047 : BitVec 32) : PM F (Σ' (v3085 : FVec F S128x128 .fp8e4m3), BitVec 32) := do
  let v3054 : Vec F S1x128x128 .bf16 ← ld7 (k0_off26 k0_t2 1#32) S1x128x128.size (k0_off26_inb i k0_t2 k0_h3 1)
  st7 (k0_off26 k0_t2 1#32) S1x128x128.size (k0_off26_inb i k0_t2 k0_h3 1) (k0_pay160 v3034)
  let v3065 : Vec F S1x128x128 .bf16 ← ld7 (k0_off26 k0_t2 2#32) S1x128x128.size (k0_off26_inb i k0_t2 k0_h3 2)
  st7 (k0_off26 k0_t2 2#32) S1x128x128.size (k0_off26_inb i k0_t2 k0_h3 2) (k0_pay161 v3034)
  let v3076 : Vec F S1x128x128 .bf16 ← ld7 (k0_off26 k0_t2 3#32) S1x128x128.size (k0_off26_inb i k0_t2 k0_h3 3)
  st7 (k0_off26 k0_t2 3#32) S1x128x128.size (k0_off26_inb i k0_t2 k0_h3 3) (k0_pay162 v3034)
  let v3084 : Vec F S1x128x128 .fp8e4m3 ← ld8 (k0_off33 k0_t2 0#32) S1x128x128.size (k0_off33_inb i k0_t2 k0_h3 0)
  pure ⟨k0_pay163 v3084, 4#32⟩

def s_part34 (I : In F) (i : grid0.Coords) (arg1 : BitVec 32) (k0_h3 : k0_cond3 i = 1#1) (k0_t2 : Fin k0_t2_loop.trips) (arg19 : BitVec 32) (v3085 : FVec F S128x128 .fp8e4m3) (c4_i32_1509 : BitVec 32) : PM F (Σ' (v3107 : FVec F S512x128 .fp8e4m3) (v3110 : FVec F S8x512 .f32) (v3115 : BitVec 32), FVec F S128x512 .f32) := do
  let v3091 : Vec F S1x128x128 .fp8e4m3 ← ld8 (k0_off33 k0_t2 1#32) S1x128x128.size (k0_off33_inb i k0_t2 k0_h3 1)
  let v3098 : Vec F S1x128x128 .fp8e4m3 ← ld8 (k0_off33 k0_t2 2#32) S1x128x128.size (k0_off33_inb i k0_t2 k0_h3 2)
  let v3105 : Vec F S1x128x128 .fp8e4m3 ← ld8 (k0_off33 k0_t2 3#32) S1x128x128.size (k0_off33_inb i k0_t2 k0_h3 3)
  let v3109 : Vec F S1x1x8x512 .f32 ← ld16 (k0_off34 k0_t2) S1x1x8x512.size (k0_off34_inb i k0_t2 k0_h3)
  let v3111 : BitVec 32 := Scalar.addi arg1 1#32
  let v3112 : BitVec 32 := Scalar.addi v3111 4#32
  let v3113 : BitVec 32 := Scalar.remsi v3112 5#32
  let v3114 : BitVec 32 := Scalar.muli v3113 256#32
  let v3115 : BitVec 32 := v3114
  let v3119 : Vec F S1x128x128 .fp8e4m3 ← ld13 (k0_off28 i k0_t2 4#32 128#32) S1x128x128.size (k0_off28_inb i k0_t2 k0_h3 1 1)
  pure ⟨k0_pay164 v3085 v3091 v3098 v3105, k0_pay165 v3109, v3115, k0_pay166 v3085 v3091 v3098 v3105 v3119⟩

def s_part35 (I : In F) (i : grid0.Coords) (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) : PM F (Σ' (v3149 : FVec F S8x512 .f32), BitVec 32) := do
  let v3125 : Vec F S1x128x128 .f32 ← ld14 (k0_off28 i k0_t2 4#32 128#32) S1x128x128.size (k0_off28_inb i k0_t2 k0_h3 1 1)
  let v3137 : Vec F S1x128x128 .fp8e4m3 ← ld13 (k0_off28 i k0_t2 0#32 128#32) S1x128x128.size (k0_off28_inb i k0_t2 k0_h3 0 1)
  let v3143 : Vec F S1x128x128 .f32 ← ld14 (k0_off28 i k0_t2 0#32 128#32) S1x128x128.size (k0_off28_inb i k0_t2 k0_h3 0 1)
  let v3150 : Vec F S1x128x512 .f32 ← ld17 ![0, 128, 0] S1x128x512.size inb_S5x256x512_S1x128x512_0_128_0
  st17 ![0, 128, 0] S1x128x512.size inb_S5x256x512_S1x128x512_0_128_0 (k0_pay169 v2653 v3107 v3121 v3125 v3137 v3143)
  let v3153 : BitVec 32 := Scalar.addi arg1 1#32
  let v3154 : BitVec 32 := Scalar.addi v3153 1#32
  let v3155 : BitVec 32 := Scalar.remsi v3154 5#32
  let v3156 : BitVec 32 := Scalar.muli v3155 256#32
  let v3157 : BitVec 32 := v3156
  pure ⟨k0_pay168 v2653 v3107 v3121 v3125 v3137 v3143, v3157⟩

def s_part36 (I : In F) (i : grid0.Coords) (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) : PM F (Σ' (v3176 : FVec F S8x512 .f32), FVec F S32x8x512 .f32) := do
  let v3161 : Vec F S1x256x128 .fp8e4m3 ← ld13 (k0_off29 i k0_t2 1#32) S1x256x128.size (k0_off29_inb i k0_t2 k0_h3 0)
  let v3167 : Vec F S1x256x128 .f32 ← ld14 (k0_off29 i k0_t2 1#32) S1x256x128.size (k0_off29_inb i k0_t2 k0_h3 0)
  let v3171 : Vec F S1x256x512 .f32 ← ld17 ![1, 0, 0] S1x256x512.size inb_S5x256x512_S1x256x512_1_0_0
  st17 ![1, 0, 0] S1x256x512.size inb_S5x256x512_S1x256x512_1_0_0 (k0_pay171 v3107 v3161 v3167)
  let v3185 : Vec F S1x256x128 .fp8e4m3 ← ld13 (k0_off29 i k0_t2 2#32) S1x256x128.size (k0_off29_inb i k0_t2 k0_h3 1)
  let v3191 : Vec F S1x256x128 .f32 ← ld14 (k0_off29 i k0_t2 2#32) S1x256x128.size (k0_off29_inb i k0_t2 k0_h3 1)
  let v3195 : Vec F S1x256x512 .f32 ← ld17 ![2, 0, 0] S1x256x512.size inb_S5x256x512_S1x256x512_2_0_0
  st17 ![2, 0, 0] S1x256x512.size inb_S5x256x512_S1x256x512_2_0_0 (k0_pay174 v3107 v3185 v3191)
  pure ⟨k0_pay172 v3107 v3149 v3161 v3167, k0_pay175 v3107 v3185 v3191⟩

def s_part37 (I : In F) (i : grid0.Coords) (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) : PM F (Σ' (v3224 : FVec F S8x512 .f32) (v3229 : BitVec 32) (v3235 : FVec F S128x512 .f32), BitVec 32) := do
  let v3209 : Vec F S1x256x128 .fp8e4m3 ← ld13 (k0_off29 i k0_t2 3#32) S1x256x128.size (k0_off29_inb i k0_t2 k0_h3 2)
  let v3215 : Vec F S1x256x128 .f32 ← ld14 (k0_off29 i k0_t2 3#32) S1x256x128.size (k0_off29_inb i k0_t2 k0_h3 2)
  let v3219 : Vec F S1x256x512 .f32 ← ld17 ![3, 0, 0] S1x256x512.size inb_S5x256x512_S1x256x512_3_0_0
  st17 ![3, 0, 0] S1x256x512.size inb_S5x256x512_S1x256x512_3_0_0 (k0_pay177 v3107 v3209 v3215)
  let v3225 : BitVec 32 := Scalar.addi arg1 1#32
  let v3226 : BitVec 32 := Scalar.addi v3225 4#32
  let v3227 : BitVec 32 := Scalar.remsi v3226 5#32
  let v3228 : BitVec 32 := Scalar.muli v3227 256#32
  let v3229 : BitVec 32 := v3228
  let v3233 : Vec F S1x128x128 .fp8e4m3 ← ld13 (k0_off28 i k0_t2 4#32 0#32) S1x128x128.size (k0_off28_inb i k0_t2 k0_h3 1 0)
  pure ⟨k0_pay178 v3107 v3176 v3198 v3209 v3215, v3229, k0_pay179 v3107 v3233, 0#32⟩

def s_part38 (I : In F) (i : grid0.Coords) (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) : PM F (Σ' (v3257 : FVec F S8x512 .f32) (v3259 : FVec F S8x512 .f32) (v3277 : IVec S8x512 1), IVec S8x512 32) := do
  let v3239 : Vec F S1x128x128 .f32 ← ld14 (k0_off28 i k0_t2 4#32 0#32) S1x128x128.size (k0_off28_inb i k0_t2 k0_h3 1 0)
  let v3243 : Vec F S1x128x512 .f32 ← ld17 ![4, 0, 0] S1x128x512.size inb_S5x256x512_S1x128x512_4_0_0
  st17 ![4, 0, 0] S1x128x512.size inb_S5x256x512_S1x128x512_4_0_0 (k0_pay181 v3235 v3239)
  let v3254 : Vec F S1x8x512 .f32 ← ld6 I (k0_off30 k0_t2) S1x8x512.size (k0_off30_inb i k0_t2 k0_h3)
  pure ⟨k0_pay182 v3254, k0_pay184 v3110 v3224 v3235 v3239 v3254, k0_pay186 v3110 v3224 v3235 v3239 v3254, k0_pay187 v3110 v3224 v3235 v3239 v3254⟩

def s_part39 (I : In F) (i : grid0.Coords) (v2653 : IVec S128x512 1) (v3110 : FVec F S8x512 .f32) (v3259 : FVec F S8x512 .f32) (v3277 : IVec S8x512 1) (v3279 : IVec S8x512 32) : PM F (Σ' (v3286 : FVec F S8x512 .f32) (v3288 : FVec F S8x512 .f32) (v3301 : FVec F S8x512 .f32) (v3317 : FVec F S32x8x512 .f32), FVec F S1x8x512 .f32) := do
  let v3289 : Vec F S1x128x512 .f32 ← ld17 ![0, 128, 0] S1x128x512.size inb_S5x256x512_S1x128x512_0_128_0
  let v3306 : Vec F S1x128x512 .fp8e4m3 ← ld18 ![0, 128, 0] S1x128x512.size inb_S5x256x512_S1x128x512_0_128_0
  st18 ![0, 128, 0] S1x128x512.size inb_S5x256x512_S1x128x512_0_128_0 (k0_pay194 v2653 v3110 v3259 v3277 v3279 v3289)
  let v3312 : Vec F S1x128x512 .fp8e4m3 ← ld18 ![4, 128, 0] S1x128x512.size inb_S5x256x512_S1x128x512_4_128_0
  st18 ![4, 128, 0] S1x128x512.size inb_S5x256x512_S1x128x512_4_128_0 (k0_pay195 v2653 v3110 v3259 v3277 v3279 v3289)
  let v3315 : Vec F S1x256x512 .f32 ← ld17 ![1, 0, 0] S1x256x512.size inb_S5x256x512_S1x256x512_1_0_0
  pure ⟨k0_pay189 (F := F) v3277 v3279, k0_pay190 v3259 v3277 v3279, k0_pay192 v3110 v3259 v3277 v3279 v3289, k0_pay196 v3315, k0_pay197 v3110⟩

def s_part40 (I : In F) (i : grid0.Coords) (v3110 : FVec F S8x512 .f32) (v3288 : FVec F S8x512 .f32) (v3301 : FVec F S8x512 .f32) (v3317 : FVec F S32x8x512 .f32) (v3318 : FVec F S1x8x512 .f32) : PM F (Σ' (v3347 : FVec F S8x512 .f32) (v3358 : FVec F S32x8x512 .f32), FVec F S32x8x512 .f32) := do
  let v3331 : Vec F S1x256x512 .fp8e4m3 ← ld18 ![1, 0, 0] S1x256x512.size inb_S5x256x512_S1x256x512_1_0_0
  st18 ![1, 0, 0] S1x256x512.size inb_S5x256x512_S1x256x512_1_0_0 (k0_pay199 v3288 v3317 v3318)
  let v3334 : Vec F S1x256x512 .f32 ← ld17 ![2, 0, 0] S1x256x512.size inb_S5x256x512_S1x256x512_2_0_0
  let v3350 : Vec F S1x256x512 .fp8e4m3 ← ld18 ![2, 0, 0] S1x256x512.size inb_S5x256x512_S1x256x512_2_0_0
  st18 ![2, 0, 0] S1x256x512.size inb_S5x256x512_S1x256x512_2_0_0 (k0_pay202 v3110 v3288 v3334)
  let v3353 : Vec F S1x256x512 .f32 ← ld17 ![3, 0, 0] S1x256x512.size inb_S5x256x512_S1x256x512_3_0_0
  pure ⟨k0_pay201 v3110 v3288 v3301 v3317 v3318 v3334, k0_pay203 v3110 v3353, k0_pay204 v3288⟩

def s_part41 (I : In F) (i : grid0.Coords) (v3110 : FVec F S8x512 .f32) (v3286 : FVec F S8x512 .f32) (v3288 : FVec F S8x512 .f32) (v3347 : FVec F S8x512 .f32) (v3358 : FVec F S32x8x512 .f32) (v3360 : FVec F S32x8x512 .f32) : PM F (FVec F S8x512 .f32) := do
  let v3369 : Vec F S1x256x512 .fp8e4m3 ← ld18 ![3, 0, 0] S1x256x512.size inb_S5x256x512_S1x256x512_3_0_0
  st18 ![3, 0, 0] S1x256x512.size inb_S5x256x512_S1x256x512_3_0_0 (k0_pay206 v3358 v3360)
  let v3372 : Vec F S1x128x512 .f32 ← ld17 ![4, 0, 0] S1x128x512.size inb_S5x256x512_S1x128x512_4_0_0
  let v3388 : Vec F S1x128x512 .fp8e4m3 ← ld18 ![4, 0, 0] S1x128x512.size inb_S5x256x512_S1x128x512_4_0_0
  st18 ![4, 0, 0] S1x128x512.size inb_S5x256x512_S1x128x512_4_0_0 (k0_pay208 v3110 v3288 v3372)
  let v3392 : Vec F S1x128x512 .fp8e4m3 ← ld18 ![0, 0, 0] S1x128x512.size inb_S5x256x512_S1x128x512_0_0_0
  st18 ![0, 0, 0] S1x128x512.size inb_S5x256x512_S1x128x512_0_0_0 (k0_pay209 (F := F))
  pure (k0_pay210 v3110 v3286 v3288 v3347 v3358 v3360 v3372)

def s_part42 (I : In F) (i : grid0.Coords) (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) : PM F (Σ' (v3408 : FVec F S8x512 .f32) (v3415 : FVec F S128x256 .fp8e4m3) (v3422 : FVec F S128x256 .fp8e4m3) (v3429 : FVec F S128x256 .fp8e4m3), FVec F S128x256 .fp8e4m3) := do
  let v3404 : Vec F S1x1x8x128 .f32 ← ld5 I (k0_off31 k0_t2) S1x1x8x128.size (k0_off31_inb i k0_t2 k0_h3)
  let v3414 : Vec F S1x1x128x256 .fp8e4m3 ← ld15 (k0_off32 i k0_t2 0#32) S1x1x128x256.size (k0_off32_inb i k0_t2 k0_h3 0)
  let v3421 : Vec F S1x1x128x256 .fp8e4m3 ← ld15 (k0_off32 i k0_t2 1#32) S1x1x128x256.size (k0_off32_inb i k0_t2 k0_h3 1)
  let v3428 : Vec F S1x1x128x256 .fp8e4m3 ← ld15 (k0_off32 i k0_t2 2#32) S1x1x128x256.size (k0_off32_inb i k0_t2 k0_h3 2)
  let v3435 : Vec F S1x1x128x256 .fp8e4m3 ← ld15 (k0_off32 i k0_t2 3#32) S1x1x128x256.size (k0_off32_inb i k0_t2 k0_h3 3)
  pure ⟨k0_pay211 v3257 v3259 v3286 v3399 v3404, k0_pay212 v3414, k0_pay213 v3421, k0_pay214 v3428, k0_pay215 v3435⟩

def s_part43 (I : In F) (i : grid0.Coords) (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) : PM F (Σ' (v3452 : FVec F S128x512 .f32), BitVec 32) := do
  let v3442 : Vec F S1x1x128x256 .fp8e4m3 ← ld15 (k0_off32 i k0_t2 4#32) S1x1x128x256.size (k0_off32_inb i k0_t2 k0_h3 4)
  let v3445 : Vec F S5x256x512 .fp8e4m3 ← ld18 ![0, 0, 0] S5x256x512.size inb_S5x256x512_S5x256x512_0_0_0
  let v3461 : Vec F S1x128x128 .bf16 ← ld7 (k0_off33 k0_t2 0#32) S1x128x128.size (k0_off33_inb i k0_t2 k0_h3 0)
  st7 (k0_off33 k0_t2 0#32) S1x128x128.size (k0_off33_inb i k0_t2 k0_h3 0) (k0_pay217 v3408 v3415 v3422 v3429 v3436 v3442 v3445)
  let v3472 : Vec F S1x128x128 .bf16 ← ld7 (k0_off33 k0_t2 1#32) S1x128x128.size (k0_off33_inb i k0_t2 k0_h3 1)
  st7 (k0_off33 k0_t2 1#32) S1x128x128.size (k0_off33_inb i k0_t2 k0_h3 1) (k0_pay218 v3408 v3415 v3422 v3429 v3436 v3442 v3445)
  pure ⟨k0_pay216 v3408 v3415 v3422 v3429 v3436 v3442 v3445, 4#32⟩

def s_t2_body (I : In F) (i : grid0.Coords) (arg1 : BitVec 32) (v2653 : IVec S128x512 1) (k0_h3 : k0_cond3 i = 1#1) (k0_t2 : Fin k0_t2_loop.trips) : PM F Unit := do
  let ⟨arg19, v2689, v2692, v2694⟩ : Σ' (arg19 : BitVec 32) (v2689 : FVec F S512x128 .fp8e4m3) (v2692 : FVec F S8x512 .f32), BitVec 32 ← s_part23 I i arg1 k0_h3 0#32 1#32 k0_t2
  let ⟨v2731, v2734⟩ : Σ' (v2731 : FVec F S8x512 .f32), FVec F S1x128x512 .f32 ← s_part24 I i arg1 v2653 k0_h3 k0_t2 arg19 v2689 v2694
  let ⟨v2758, v2769, v2770⟩ : Σ' (v2758 : FVec F S8x512 .f32) (v2769 : FVec F S256x512 .f32), BitVec 32 ← s_part25 I i arg1 k0_h3 k0_t2 arg19 v2689 v2731 v2734
  let ⟨v2806, v2808, c5_i32_1378⟩ : Σ' (v2806 : FVec F S8x512 .f32) (v2808 : BitVec 32), BitVec 32 ← s_part26 I i arg1 k0_h3 k0_t2 arg19 v2689 v2758 v2769 v2770
  let ⟨v2839, v2841, v2845, v2846, v2849, v2850⟩ : Σ' (v2839 : FVec F S8x512 .f32) (v2841 : FVec F S8x512 .f32) (v2845 : FVec F S8x512 .f32) (v2846 : IVec S8x512x256 32) (v2849 : FVec F S8x512x256 .f32), IVec S8x512x256 32 ← s_part27 I i k0_h3 k0_t2 arg19 v2689 v2692 v2806 v2808 c5_i32_1378
  let ⟨v2868, v2870, v2883, v2893⟩ : Σ' (v2868 : FVec F S8x512 .f32) (v2870 : FVec F S8x512 .f32) (v2883 : FVec F S8x512 .f32), FVec F S128x512 .fp8e4m3 ← s_part28 I i v2653 v2692 v2841 v2845 v2846 v2849 v2850
  let ⟨v2929, v2931, v2932⟩ : Σ' (v2929 : FVec F S8x512 .f32) (v2931 : FVec F S256x512 .fp8e4m3), Vec F S1x256x512 .fp8e4m3 ← s_part29 I i v2692 v2870 v2883 v2893
  let ⟨v2967, cst_1447⟩ : Σ' (v2967 : FVec F S8x512 .f32), F .fp8e4m3 ← s_part30 I i v2692 v2870 v2929 v2931 v2932
  let ⟨v2990, v2997, v3004⟩ : Σ' (v2990 : FVec F S8x512 .f32) (v2997 : FVec F S128x256 .fp8e4m3), FVec F S128x256 .fp8e4m3 ← s_part31 I i arg1 k0_h3 k0_t2 arg19 v2839 v2841 v2868 v2967 cst_1447
  let ⟨v3034, v3047⟩ : Σ' (v3034 : FVec F S128x512 .f32), BitVec 32 ← s_part32 I i arg1 k0_h3 k0_t2 arg19 v2990 v2997 v3004
  let ⟨v3085, c4_i32_1509⟩ : Σ' (v3085 : FVec F S128x128 .fp8e4m3), BitVec 32 ← s_part33 I i k0_h3 k0_t2 arg19 v3034 v3047
  let ⟨v3107, v3110, v3115, v3121⟩ : Σ' (v3107 : FVec F S512x128 .fp8e4m3) (v3110 : FVec F S8x512 .f32) (v3115 : BitVec 32), FVec F S128x512 .f32 ← s_part34 I i arg1 k0_h3 k0_t2 arg19 v3085 c4_i32_1509
  let ⟨v3149, v3157⟩ : Σ' (v3149 : FVec F S8x512 .f32), BitVec 32 ← s_part35 I i arg1 v2653 k0_h3 k0_t2 arg19 v3107 v3115 v3121
  let ⟨v3176, v3198⟩ : Σ' (v3176 : FVec F S8x512 .f32), FVec F S32x8x512 .f32 ← s_part36 I i arg1 k0_h3 k0_t2 arg19 v3107 v3149 v3157
  let ⟨v3224, v3229, v3235, c0_i32_1595⟩ : Σ' (v3224 : FVec F S8x512 .f32) (v3229 : BitVec 32) (v3235 : FVec F S128x512 .f32), BitVec 32 ← s_part37 I i arg1 k0_h3 k0_t2 arg19 v3107 v3176 v3198
  let ⟨v3257, v3259, v3277, v3279⟩ : Σ' (v3257 : FVec F S8x512 .f32) (v3259 : FVec F S8x512 .f32) (v3277 : IVec S8x512 1), IVec S8x512 32 ← s_part38 I i k0_h3 k0_t2 arg19 v3110 v3224 v3229 v3235 c0_i32_1595
  let ⟨v3286, v3288, v3301, v3317, v3318⟩ : Σ' (v3286 : FVec F S8x512 .f32) (v3288 : FVec F S8x512 .f32) (v3301 : FVec F S8x512 .f32) (v3317 : FVec F S32x8x512 .f32), FVec F S1x8x512 .f32 ← s_part39 I i v2653 v3110 v3259 v3277 v3279
  let ⟨v3347, v3358, v3360⟩ : Σ' (v3347 : FVec F S8x512 .f32) (v3358 : FVec F S32x8x512 .f32), FVec F S32x8x512 .f32 ← s_part40 I i v3110 v3288 v3301 v3317 v3318
  let v3399 : FVec F S8x512 .f32 ← s_part41 I i v3110 v3286 v3288 v3347 v3358 v3360
  let ⟨v3408, v3415, v3422, v3429, v3436⟩ : Σ' (v3408 : FVec F S8x512 .f32) (v3415 : FVec F S128x256 .fp8e4m3) (v3422 : FVec F S128x256 .fp8e4m3) (v3429 : FVec F S128x256 .fp8e4m3), FVec F S128x256 .fp8e4m3 ← s_part42 I i arg1 k0_h3 k0_t2 arg19 v3257 v3259 v3286 v3399
  let ⟨v3452, c4_i32_1706⟩ : Σ' (v3452 : FVec F S128x512 .f32), BitVec 32 ← s_part43 I i arg1 k0_h3 k0_t2 arg19 v3408 v3415 v3422 v3429 v3436
  let v3483 : Vec F S1x128x128 .bf16 ← ld7 (k0_off33 k0_t2 2#32) S1x128x128.size (k0_off33_inb i k0_t2 k0_h3 2)
  st7 (k0_off33 k0_t2 2#32) S1x128x128.size (k0_off33_inb i k0_t2 k0_h3 2) (k0_pay1 v3452)
  let v3494 : Vec F S1x128x128 .bf16 ← ld7 (k0_off33 k0_t2 3#32) S1x128x128.size (k0_off33_inb i k0_t2 k0_h3 3)
  st7 (k0_off33 k0_t2 3#32) S1x128x128.size (k0_off33_inb i k0_t2 k0_h3 3) (k0_pay2 v3452)
  pure ⟨⟩

def s_attn (I : In F) (i : grid0.Coords)  : PM F PUnit := do
  let ⟨arg1, v2264, v2327⟩ : Σ' (arg1 : BitVec 32) (v2264 : FVec F S32x256 .f32), FVec F S8x128 .f32 ← s_part114 I i
  let v2361 : FVec F S1x128 .f32 ← s_part104 I i v2264 v2327
  let v2393 : FVec F S8x128 .f32 ← s_part105 I i v2264 v2361
  s_part106 I i v2264 v2393
  let v2459 : FVec F S8x128 .f32 ← s_part107 I i v2264
  let v2492 : FVec F S1x1x8x128 .f32 ← s_part108 I i v2264 v2459
  let v2525 : FVec F S8x128 .f32 ← s_part109 I i v2264 v2492
  let v2555 : FVec F S8x128 .f32 ← s_part110 I i v2264 v2525
  let v2591 : FVec F S8x128 .f32 ← s_part111 I i v2264 v2555
  let ⟨v2621, v2622⟩ : Σ' (v2621 : FVec F S8x128 .f32), Vec F S1x1x8x128 .f32 ← s_part112 I i v2264 v2591
  let ⟨v2653, c4_i32_1291⟩ : Σ' (v2653 : IVec S128x512 1), BitVec 32 ← s_part113 I i arg1 v2264 v2621 v2622
  if k0_h3 : k0_cond3 i = 1#1 then do
    PM.loop k0_t2_loop.trips (s_t2_body I i arg1 v2653 k0_h3)
    pure ⟨⟩
  else do
    pure ⟨⟩
  pure ⟨⟩

end Cert.KernelIdeal.Run

end
-- ==== Proof.PI.RunsBody.lean ====
/-
  Every part of the kernel's body runs as its computation on the state (`Steps`): one theorem a part, each by the
  rule of each statement in turn.
-/
module

public import proofs.«01_k».proof.Proof.PI.Steps

@[expose] public section

set_option synthInstance.maxSize 4096

noncomputable section

namespace Cert.KernelIdeal.Run

open Cert.KernelIdeal Cert.KernelIdeal.Gen
open Idealize.ShloMosaic Idealize.SL.Sem

variable {F : FTy → Type} [FloatOps F] [Named F]

variable (c : Idealize.ShloMosaic.Dev nD) (M : Mem) (hM : M.Whole) (I : In F) (i : grid0.Coords)

theorem r_part44  :
    Runs c M I (k0_part44 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part44 I i ) := by
  rw [k0_part44_eq_skeleton]; unfold k0_part44_skel s_part44
  dsimp only []
  refine .dite (fun h => ?_) (fun h => ?_)
  ·
    refine .bind (load_13 c M I) fun v2661 => ?_
    refine .bind (store_13 c M I) fun _ => ?_
    refine .bind (load_15 c M I) fun v2665 => ?_
    refine .bind (store_15 c M I) fun _ => ?_
    refine .bind (load_3 c M I) fun v4 => ?_
    exact .pure _
  ·
    refine .bind (load_3 c M I) fun v4 => ?_
    exact .pure _

theorem r_part45 (v0 : BitVec 32) (v6 : FVec F S256x128 .f32) (v34 : FVec F S256x1 .f32) (v38 : IVec S256x1 32) :
    Runs c M I (k0_part45 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v6 v34 v38) (s_part45 I i v0 v6 v34 v38) := by
  rw [k0_part45_eq_skeleton]; unfold k0_part45_skel s_part45
  refine .bind (load_13 c M I) fun v49 => ?_
  refine .bind (store_13 c M I) fun _ => ?_
  refine .bind (load_14 c M I) fun v56 => ?_
  refine .bind (store_14 c M I) fun _ => ?_
  refine .bind (load_10 c M I) fun v59 => ?_
  refine .bind (store_10 c M I) fun _ => ?_
  refine .bind (load_11 c M I) fun v62 => ?_
  refine .bind (store_11 c M I) fun _ => ?_
  refine .bind (load_5 c M I) fun v65 => ?_
  refine .bind (load_4 c M I) fun v69 => ?_
  exact .pure _

theorem r_part46 (v0 : BitVec 32) (v71 : FVec F S256x128 .f32) (v72 : FVec F S256x128 .f32) :
    Runs c M I (k0_part46 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v71 v72) (s_part46 I i v0 v71 v72) := by
  rw [k0_part46_eq_skeleton]; unfold k0_part46_skel s_part46
  refine .bind (load_12 c M I) fun v79 => ?_
  refine .bind (store_12 c M I) fun _ => ?_
  refine .bind (load_15 c M I) fun v87 => ?_
  refine .bind (store_15 c M I) fun _ => ?_
  refine .bind (load_3 c M I) fun v90 => ?_
  exact .pure _

theorem r_part47 (v0 : BitVec 32) (v92 : FVec F S256x128 .f32) (v109 : IVec S256x1 32) (v111 : IVec S256x1 1) (v112 : IVec S256x1 32) :
    Runs c M I (k0_part47 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v92 v109 v111 v112) (s_part47 I i v0 v92 v109 v111 v112) := by
  rw [k0_part47_eq_skeleton]; unfold k0_part47_skel s_part47
  refine .bind (load_13 c M I) fun v135 => ?_
  refine .bind (store_13 c M I) fun _ => ?_
  refine .bind (load_14 c M I) fun v142 => ?_
  refine .bind (store_14 c M I) fun _ => ?_
  refine .bind (load_10 c M I) fun v145 => ?_
  refine .bind (store_10 c M I) fun _ => ?_
  refine .bind (load_11 c M I) fun v148 => ?_
  exact .pure _

theorem r_part48 (v0 : BitVec 32) (v150 : FVec F S1x256x1 .f32) :
    Runs c M I (k0_part48 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v150) (s_part48 I i v0 v150) := by
  rw [k0_part48_eq_skeleton]; unfold k0_part48_skel s_part48
  refine .bind (store_11 c M I) fun _ => ?_
  refine .bind (load_5 c M I) fun v151 => ?_
  refine .bind (load_4 c M I) fun v155 => ?_
  refine .bind (load_12 c M I) fun v165 => ?_
  refine .bind (store_12 c M I) fun _ => ?_
  refine .bind (load_15 c M I) fun v173 => ?_
  refine .bind (store_15 c M I) fun _ => ?_
  refine .bind (load_3 c M I) fun v176 => ?_
  exact .pure _

theorem r_part49 (v0 : BitVec 32) (v178 : FVec F S256x128 .f32) (v183 : FVec F S256x1 .f32) (v184 : IVec S256x1x256 32) (v185 : IVec S256x1x256 32) :
    Runs c M I (k0_part49 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v178 v183 v184 v185) (s_part49 I i v0 v178 v183 v184 v185) := by
  rw [k0_part49_eq_skeleton]; unfold k0_part49_skel s_part49
  refine .bind (load_13 c M I) fun v221 => ?_
  refine .bind (store_13 c M I) fun _ => ?_
  exact .pure _

theorem r_part50 (v0 : BitVec 32) (v206 : FVec F S256x1 .f32) (v218 : FVec F S256x128 .fp8e4m3) (v225 : FVec F S256x128 .f32) :
    Runs c M I (k0_part50 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v206 v218 v225) (s_part50 I i v0 v206 v218 v225) := by
  rw [k0_part50_eq_skeleton]; unfold k0_part50_skel s_part50
  refine .bind (load_14 c M I) fun v228 => ?_
  refine .bind (store_14 c M I) fun _ => ?_
  refine .bind (load_10 c M I) fun v231 => ?_
  refine .bind (store_10 c M I) fun _ => ?_
  refine .bind (load_11 c M I) fun v234 => ?_
  refine .bind (store_11 c M I) fun _ => ?_
  refine .bind (load_5 c M I) fun v237 => ?_
  refine .bind (load_4 c M I) fun v241 => ?_
  refine .bind (load_12 c M I) fun v251 => ?_
  refine .bind (store_12 c M I) fun _ => ?_
  refine .bind (load_15 c M I) fun v259 => ?_
  exact .pure _

theorem r_part51 (v261 : FVec F S1x1x128x256 .fp8e4m3) :
    Runs c M I (k0_part51 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v261) (s_part51 I i v261) := by
  rw [k0_part51_eq_skeleton]; unfold k0_part51_skel s_part51
  refine .bind (store_15 c M I) fun _ => ?_
  refine .bind (load_3 c M I) fun v262 => ?_
  exact .pure _

theorem r_part52 (v0 : BitVec 32) (v292 : FVec F S256x1 .f32) (v303 : FVec F S256x128 .f32) :
    Runs c M I (k0_part52 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v292 v303) (s_part52 I i v0 v292 v303) := by
  rw [k0_part52_eq_skeleton]; unfold k0_part52_skel s_part52
  refine .bind (load_13 c M I) fun v307 => ?_
  refine .bind (store_13 c M I) fun _ => ?_
  refine .bind (load_14 c M I) fun v314 => ?_
  refine .bind (store_14 c M I) fun _ => ?_
  refine .bind (load_10 c M I) fun v317 => ?_
  refine .bind (store_10 c M I) fun _ => ?_
  refine .bind (load_11 c M I) fun v320 => ?_
  refine .bind (store_11 c M I) fun _ => ?_
  refine .bind (load_5 c M I) fun v323 => ?_
  refine .bind (load_4 c M I) fun v327 => ?_
  exact .pure _

theorem r_part53 (v0 : BitVec 32) (v336 : FVec F S256x128 .fp8e4m3) :
    Runs c M I (k0_part53 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v336) (s_part53 I i v0 v336) := by
  rw [k0_part53_eq_skeleton]; unfold k0_part53_skel s_part53
  refine .bind (load_12 c M I) fun v337 => ?_
  refine .bind (store_12 c M I) fun _ => ?_
  refine .bind (load_15 c M I) fun v345 => ?_
  refine .bind (store_15 c M I) fun _ => ?_
  refine .bind (load_3 c M I) fun v348 => ?_
  exact .pure _

theorem r_part54 (v0 : BitVec 32) (v350 : FVec F S256x128 .f32) (v373 : IVec S256x1 32) (v375 : IVec S256x1 32) (v376 : IVec S256x1 32) :
    Runs c M I (k0_part54 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v350 v373 v375 v376) (s_part54 I i v0 v350 v373 v375 v376) := by
  rw [k0_part54_eq_skeleton]; unfold k0_part54_skel s_part54
  refine .bind (load_13 c M I) fun v393 => ?_
  refine .bind (store_13 c M I) fun _ => ?_
  refine .bind (load_14 c M I) fun v400 => ?_
  refine .bind (store_14 c M I) fun _ => ?_
  refine .bind (load_10 c M I) fun v403 => ?_
  refine .bind (store_10 c M I) fun _ => ?_
  refine .bind (load_11 c M I) fun v406 => ?_
  refine .bind (store_11 c M I) fun _ => ?_
  refine .bind (load_5 c M I) fun v409 => ?_
  exact .pure _

theorem r_part55 (v0 : BitVec 32) (v410 : FVec F S1x128 .f32) (v411 : FVec F S1x128 .f32) :
    Runs c M I (k0_part55 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v410 v411) (s_part55 I i v0 v410 v411) := by
  rw [k0_part55_eq_skeleton]; unfold k0_part55_skel s_part55
  refine .bind (load_4 c M I) fun v413 => ?_
  refine .bind (load_12 c M I) fun v423 => ?_
  refine .bind (store_12 c M I) fun _ => ?_
  refine .bind (load_15 c M I) fun v431 => ?_
  refine .bind (store_15 c M I) fun _ => ?_
  refine .bind (load_3 c M I) fun v434 => ?_
  exact .pure _

theorem r_part56 (v0 : BitVec 32) (v436 : FVec F S256x128 .f32) (v451 : IVec S256x1x256 1) :
    Runs c M I (k0_part56 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v436 v451) (s_part56 I i v0 v436 v451) := by
  rw [k0_part56_eq_skeleton]; unfold k0_part56_skel s_part56
  refine .bind (load_13 c M I) fun v479 => ?_
  refine .bind (store_13 c M I) fun _ => ?_
  refine .bind (load_14 c M I) fun v486 => ?_
  refine .bind (store_14 c M I) fun _ => ?_
  refine .bind (load_10 c M I) fun v489 => ?_
  exact .pure _

theorem r_part57 (v0 : BitVec 32) (v464 : FVec F S256x1 .f32) (v476 : FVec F S256x128 .fp8e4m3) :
    Runs c M I (k0_part57 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v464 v476) (s_part57 I i v0 v464 v476) := by
  rw [k0_part57_eq_skeleton]; unfold k0_part57_skel s_part57
  refine .bind (store_10 c M I) fun _ => ?_
  refine .bind (load_11 c M I) fun v492 => ?_
  refine .bind (store_11 c M I) fun _ => ?_
  refine .bind (load_5 c M I) fun v495 => ?_
  refine .bind (load_4 c M I) fun v499 => ?_
  refine .bind (load_12 c M I) fun v509 => ?_
  refine .bind (store_12 c M I) fun _ => ?_
  refine .bind (load_15 c M I) fun v517 => ?_
  refine .bind (store_15 c M I) fun _ => ?_
  refine .bind (load_3 c M I) fun v520 => ?_
  exact .pure _

theorem r_part58 (v0 : BitVec 32) (v522 : FVec F S256x128 .f32) (v523 : FVec F S256x128 .f32) :
    Runs c M I (k0_part58 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v522 v523) (s_part58 I i v0 v522 v523) := by
  rw [k0_part58_eq_skeleton]; unfold k0_part58_skel s_part58
  refine .bind (load_13 c M I) fun v565 => ?_
  exact .pure _

theorem r_part59 (v0 : BitVec 32) (v550 : FVec F S256x1 .f32) (v562 : FVec F S256x128 .fp8e4m3) (v567 : FVec F S1x256x128 .fp8e4m3) :
    Runs c M I (k0_part59 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v550 v562 v567) (s_part59 I i v0 v550 v562 v567) := by
  rw [k0_part59_eq_skeleton]; unfold k0_part59_skel s_part59
  refine .bind (store_13 c M I) fun _ => ?_
  refine .bind (load_14 c M I) fun v572 => ?_
  refine .bind (store_14 c M I) fun _ => ?_
  refine .bind (load_10 c M I) fun v575 => ?_
  refine .bind (store_10 c M I) fun _ => ?_
  refine .bind (load_11 c M I) fun v578 => ?_
  refine .bind (store_11 c M I) fun _ => ?_
  refine .bind (load_5 c M I) fun v581 => ?_
  refine .bind (load_4 c M I) fun v585 => ?_
  refine .bind (load_12 c M I) fun v595 => ?_
  refine .bind (store_12 c M I) fun _ => ?_
  exact .pure _

theorem r_part60 (v0 : BitVec 32) (v600 : FVec F S128x256 .fp8e4m3) :
    Runs c M I (k0_part60 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v600) (s_part60 I i v0 v600) := by
  rw [k0_part60_eq_skeleton]; unfold k0_part60_skel s_part60
  refine .bind (load_15 c M I) fun v603 => ?_
  refine .bind (store_15 c M I) fun _ => ?_
  refine .bind (load_3 c M I) fun v606 => ?_
  exact .pure _

theorem r_part61 (v0 : BitVec 32) (v608 : FVec F S256x128 .f32) (v636 : FVec F S256x1 .f32) (v641 : FVec F S256x1 .f32) :
    Runs c M I (k0_part61 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v608 v636 v641) (s_part61 I i v0 v608 v636 v641) := by
  rw [k0_part61_eq_skeleton]; unfold k0_part61_skel s_part61
  refine .bind (load_13 c M I) fun v651 => ?_
  refine .bind (store_13 c M I) fun _ => ?_
  refine .bind (load_14 c M I) fun v658 => ?_
  refine .bind (store_14 c M I) fun _ => ?_
  refine .bind (load_10 c M I) fun v661 => ?_
  refine .bind (store_10 c M I) fun _ => ?_
  refine .bind (load_11 c M I) fun v664 => ?_
  refine .bind (store_11 c M I) fun _ => ?_
  refine .bind (load_5 c M I) fun v667 => ?_
  refine .bind (load_4 c M I) fun v671 => ?_
  exact .pure _

theorem r_part62 (v0 : BitVec 32) (v675 : FVec F S256x128 .f32) :
    Runs c M I (k0_part62 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v0 v675) (s_part62 I i v0 v675) := by
  rw [k0_part62_eq_skeleton]; unfold k0_part62_skel s_part62
  refine .bind (load_12 c M I) fun v681 => ?_
  refine .bind (store_12 c M I) fun _ => ?_
  refine .bind (load_15 c M I) fun v689 => ?_
  refine .bind (store_15 c M I) fun _ => ?_
  refine .bind (load_2 c M I) fun v692 => ?_
  exact .pure _

theorem r_part63 (v694 : FVec F S256x128 .f32) (v713 : IVec S256x1 1) (v715 : IVec S256x1 32) :
    Runs c M I (k0_part63 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v694 v713 v715) (s_part63 I i v694 v713 v715) := by
  rw [k0_part63_eq_skeleton]; unfold k0_part63_skel s_part63
  refine .bind (load_8 c M I) fun v735 => ?_
  refine .bind (store_8 c M I) fun _ => ?_
  refine .bind (load_9 c M I) fun v738 => ?_
  refine .bind (store_9 c M I) fun _ => ?_
  refine .bind (load_2 c M I) fun v741 => ?_
  exact .pure _

theorem r_part64 (v743 : FVec F S256x128 .f32) (v748 : FVec F S256x1 .f32) (v749 : IVec S256x1x256 32) (v752 : FVec F S256x1x256 .f32) (v753 : IVec S256x1x256 32) :
    Runs c M I (k0_part64 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v743 v748 v749 v752 v753) (s_part64 I i v743 v748 v749 v752 v753) := by
  rw [k0_part64_eq_skeleton]; unfold k0_part64_skel s_part64
  refine .bind (load_8 c M I) fun v784 => ?_
  refine .bind (store_8 c M I) fun _ => ?_
  refine .bind (load_9 c M I) fun v787 => ?_
  refine .bind (store_9 c M I) fun _ => ?_
  refine .bind (load_2 c M I) fun v790 => ?_
  exact .pure _

theorem r_part65 (v792 : FVec F S256x128 .f32) :
    Runs c M I (k0_part65 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v792) (s_part65 I i v792) := by
  rw [k0_part65_eq_skeleton]; unfold k0_part65_skel s_part65
  refine .bind (load_8 c M I) fun v833 => ?_
  exact .pure _

theorem r_part66 (v820 : FVec F S256x1 .f32) (v835 : FVec F S1x256x128 .fp8e4m3) :
    Runs c M I (k0_part66 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v820 v835) (s_part66 I i v820 v835) := by
  rw [k0_part66_eq_skeleton]; unfold k0_part66_skel s_part66
  refine .bind (store_8 c M I) fun _ => ?_
  refine .bind (load_9 c M I) fun v836 => ?_
  refine .bind (store_9 c M I) fun _ => ?_
  refine .bind (load_2 c M I) fun v839 => ?_
  exact .pure _

theorem r_part67 (v841 : FVec F S256x128 .f32) (v869 : FVec F S256x1 .f32) (v875 : FVec F S256x128 .f32) :
    Runs c M I (k0_part67 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v841 v869 v875) (s_part67 I i v841 v869 v875) := by
  rw [k0_part67_eq_skeleton]; unfold k0_part67_skel s_part67
  refine .bind (load_8 c M I) fun v882 => ?_
  refine .bind (store_8 c M I) fun _ => ?_
  refine .bind (load_9 c M I) fun v885 => ?_
  refine .bind (store_9 c M I) fun _ => ?_
  refine .bind (load_2 c M I) fun v888 => ?_
  exact .pure _

theorem r_part68 (v890 : FVec F S256x128 .f32) (v913 : IVec S256x1 32) (c127_i32_444 : BitVec 32) :
    Runs c M I (k0_part68 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v890 v913 c127_i32_444) (s_part68 I i v890 v913 c127_i32_444) := by
  rw [k0_part68_eq_skeleton]; unfold k0_part68_skel s_part68
  refine .bind (load_8 c M I) fun v931 => ?_
  refine .bind (store_8 c M I) fun _ => ?_
  refine .bind (load_9 c M I) fun v934 => ?_
  refine .bind (store_9 c M I) fun _ => ?_
  refine .bind (load_2 c M I) fun v937 => ?_
  exact .pure _

theorem r_part69 (v939 : FVec F S256x128 .f32) (v950 : IVec S256x1x256 1) (v953 : IVec S256x1x256 1) :
    Runs c M I (k0_part69 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v939 v950 v953) (s_part69 I i v939 v950 v953) := by
  rw [k0_part69_eq_skeleton]; unfold k0_part69_skel s_part69
  refine .bind (load_8 c M I) fun v980 => ?_
  refine .bind (store_8 c M I) fun _ => ?_
  refine .bind (load_9 c M I) fun v983 => ?_
  refine .bind (store_9 c M I) fun _ => ?_
  refine .bind (load_2 c M I) fun v986 => ?_
  exact .pure _

theorem r_part70 (v988 : FVec F S256x128 .f32) (v991 : FVec F S256x1 .f32) :
    Runs c M I (k0_part70 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v988 v991) (s_part70 I i v988 v991) := by
  rw [k0_part70_eq_skeleton]; unfold k0_part70_skel s_part70
  refine .bind (load_8 c M I) fun v1029 => ?_
  refine .bind (store_8 c M I) fun _ => ?_
  exact .pure _

theorem r_part71 (v1016 : FVec F S256x1 .f32) :
    Runs c M I (k0_part71 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1016) (s_part71 I i v1016) := by
  rw [k0_part71_eq_skeleton]; unfold k0_part71_skel s_part71
  refine .bind (load_9 c M I) fun v1032 => ?_
  refine .bind (store_9 c M I) fun _ => ?_
  refine .bind (load_2 c M I) fun v1035 => ?_
  exact .pure _

theorem r_part72 (v1065 : FVec F S256x1 .f32) (v1072 : FVec F S256x128 .f32) (cst_518 : F .f32) (v1073 : FVec F S256x128 .f32) :
    Runs c M I (k0_part72 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1065 v1072 cst_518 v1073) (s_part72 I i v1065 v1072 cst_518 v1073) := by
  rw [k0_part72_eq_skeleton]; unfold k0_part72_skel s_part72
  refine .bind (load_8 c M I) fun v1078 => ?_
  refine .bind (store_8 c M I) fun _ => ?_
  refine .bind (load_9 c M I) fun v1081 => ?_
  refine .bind (store_9 c M I) fun _ => ?_
  refine .bind (load_2 c M I) fun v1084 => ?_
  exact .pure _

theorem r_part73 (v1086 : FVec F S256x128 .f32) (v1109 : IVec S256x1 32) (v1111 : IVec S256x1 32) (v1112 : IVec S256x1 32) :
    Runs c M I (k0_part73 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1086 v1109 v1111 v1112) (s_part73 I i v1086 v1109 v1111 v1112) := by
  rw [k0_part73_eq_skeleton]; unfold k0_part73_skel s_part73
  refine .bind (load_8 c M I) fun v1127 => ?_
  refine .bind (store_8 c M I) fun _ => ?_
  refine .bind (load_9 c M I) fun v1130 => ?_
  refine .bind (store_9 c M I) fun _ => ?_
  refine .bind (load_2 c M I) fun v1133 => ?_
  exact .pure _

theorem r_part74 (v1135 : FVec F S256x128 .f32) (v1152 : IVec S256x1 32) :
    Runs c M I (k0_part74 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1135 v1152) (s_part74 I i v1135 v1152) := by
  rw [k0_part74_eq_skeleton]; unfold k0_part74_skel s_part74
  refine .bind (load_8 c M I) fun v1176 => ?_
  refine .bind (store_8 c M I) fun _ => ?_
  refine .bind (load_9 c M I) fun v1179 => ?_
  refine .bind (store_9 c M I) fun _ => ?_
  refine .bind (load_2 c M I) fun v1182 => ?_
  exact .pure _

theorem r_part75 (v1184 : FVec F S256x128 .f32) (v1189 : FVec F S256x1 .f32) (v1190 : IVec S256x1x256 32) :
    Runs c M I (k0_part75 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1184 v1189 v1190) (s_part75 I i v1184 v1189 v1190) := by
  rw [k0_part75_eq_skeleton]; unfold k0_part75_skel s_part75
  refine .bind (load_8 c M I) fun v1225 => ?_
  refine .bind (store_8 c M I) fun _ => ?_
  refine .bind (load_9 c M I) fun v1228 => ?_
  refine .bind (store_9 c M I) fun _ => ?_
  exact .pure _

theorem r_part76  :
    Runs c M I (k0_part76 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part76 I i ) := by
  rw [k0_part76_eq_skeleton]; unfold k0_part76_skel s_part76
  refine .bind (load_2 c M I) fun v1231 => ?_
  exact .pure _

theorem r_part77 (v1261 : FVec F S256x1 .f32) (v1273 : FVec F S256x128 .fp8e4m3) :
    Runs c M I (k0_part77 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1261 v1273) (s_part77 I i v1261 v1273) := by
  rw [k0_part77_eq_skeleton]; unfold k0_part77_skel s_part77
  refine .bind (load_8 c M I) fun v1274 => ?_
  refine .bind (store_8 c M I) fun _ => ?_
  refine .bind (load_9 c M I) fun v1277 => ?_
  refine .bind (store_9 c M I) fun _ => ?_
  refine .bind (load_2 c M I) fun v1280 => ?_
  exact .pure _

theorem r_part78 (v1282 : FVec F S256x128 .f32) (v1305 : IVec S256x1 32) (v1310 : FVec F S256x1 .f32) (v1311 : IVec S256x1 32) :
    Runs c M I (k0_part78 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1282 v1305 v1310 v1311) (s_part78 I i v1282 v1305 v1310 v1311) := by
  rw [k0_part78_eq_skeleton]; unfold k0_part78_skel s_part78
  refine .bind (load_8 c M I) fun v1323 => ?_
  refine .bind (store_8 c M I) fun _ => ?_
  refine .bind (load_9 c M I) fun v1326 => ?_
  refine .bind (store_9 c M I) fun _ => ?_
  refine .bind (load_2 c M I) fun v1329 => ?_
  exact .pure _

theorem r_part79 (v1331 : FVec F S256x128 .f32) (v1348 : IVec S256x1 32) (v1350 : IVec S256x1 1) (c126_i32_638 : BitVec 32) :
    Runs c M I (k0_part79 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1331 v1348 v1350 c126_i32_638) (s_part79 I i v1331 v1348 v1350 c126_i32_638) := by
  rw [k0_part79_eq_skeleton]; unfold k0_part79_skel s_part79
  refine .bind (load_8 c M I) fun v1372 => ?_
  refine .bind (store_8 c M I) fun _ => ?_
  refine .bind (load_9 c M I) fun v1375 => ?_
  refine .bind (store_9 c M I) fun _ => ?_
  refine .bind (load_2 c M I) fun v1378 => ?_
  exact .pure _

theorem r_part80 (v1380 : FVec F S256x128 .f32) (v1385 : FVec F S256x1 .f32) (v1386 : IVec S256x1x256 32) (v1389 : FVec F S256x1x256 .f32) :
    Runs c M I (k0_part80 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1380 v1385 v1386 v1389) (s_part80 I i v1380 v1385 v1386 v1389) := by
  rw [k0_part80_eq_skeleton]; unfold k0_part80_skel s_part80
  refine .bind (load_8 c M I) fun v1421 => ?_
  refine .bind (store_8 c M I) fun _ => ?_
  refine .bind (load_9 c M I) fun v1424 => ?_
  refine .bind (store_9 c M I) fun _ => ?_
  refine load_2 c M I

theorem r_part81 (v1427 : Vec F S1x256x128 .bf16) :
    Runs c M I (k0_part81 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1427) (s_part81 I i v1427) := by
  rw [k0_part81_eq_skeleton]; unfold k0_part81_skel s_part81
  refine .bind (load_8 c M I) fun v1470 => ?_
  exact .pure _

theorem r_part82 (v1457 : FVec F S256x1 .f32) (v1469 : FVec F S256x128 .fp8e4m3) (v1470 : Vec F S1x256x128 .fp8e4m3) :
    Runs c M I (k0_part82 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1457 v1469 v1470) (s_part82 I i v1457 v1469 v1470) := by
  rw [k0_part82_eq_skeleton]; unfold k0_part82_skel s_part82
  refine .bind (store_8 c M I) fun _ => ?_
  refine .bind (load_9 c M I) fun v1473 => ?_
  refine .bind (store_9 c M I) fun _ => ?_
  refine .bind (load_2 c M I) fun v1476 => ?_
  exact .pure _

theorem r_part83 (v1478 : FVec F S256x128 .f32) (v1506 : FVec F S256x1 .f32) (v1510 : IVec S256x1 32) :
    Runs c M I (k0_part83 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1478 v1506 v1510) (s_part83 I i v1478 v1506 v1510) := by
  rw [k0_part83_eq_skeleton]; unfold k0_part83_skel s_part83
  refine .bind (load_8 c M I) fun v1519 => ?_
  refine .bind (store_8 c M I) fun _ => ?_
  refine .bind (load_9 c M I) fun v1522 => ?_
  refine .bind (store_9 c M I) fun _ => ?_
  refine .bind (load_2 c M I) fun v1525 => ?_
  exact .pure _

theorem r_part84 (v1527 : FVec F S256x128 .f32) (v1546 : IVec S256x1 1) (v1548 : IVec S256x1 32) (v1549 : IVec S256x1 32) :
    Runs c M I (k0_part84 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1527 v1546 v1548 v1549) (s_part84 I i v1527 v1546 v1548 v1549) := by
  rw [k0_part84_eq_skeleton]; unfold k0_part84_skel s_part84
  refine .bind (load_8 c M I) fun v1568 => ?_
  refine .bind (store_8 c M I) fun _ => ?_
  refine .bind (load_9 c M I) fun v1571 => ?_
  refine .bind (store_9 c M I) fun _ => ?_
  refine .bind (load_2 c M I) fun v1574 => ?_
  exact .pure _

theorem r_part85 (v1576 : FVec F S256x128 .f32) (v1585 : FVec F S256x1x256 .f32) (v1587 : IVec S256x1x256 1) (v1588 : FVec F S256x1x1 .f32) :
    Runs c M I (k0_part85 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1576 v1585 v1587 v1588) (s_part85 I i v1576 v1585 v1587 v1588) := by
  rw [k0_part85_eq_skeleton]; unfold k0_part85_skel s_part85
  refine .bind (load_8 c M I) fun v1617 => ?_
  refine .bind (store_8 c M I) fun _ => ?_
  refine .bind (load_9 c M I) fun v1620 => ?_
  refine .bind (store_9 c M I) fun _ => ?_
  refine .bind (load_2 c M I) fun v1623 => ?_
  exact .pure _

theorem r_part86 (v1625 : FVec F S256x128 .f32) (v1626 : FVec F S256x128 .f32) :
    Runs c M I (k0_part86 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1625 v1626) (s_part86 I i v1625 v1626) := by
  rw [k0_part86_eq_skeleton]; unfold k0_part86_skel s_part86
  refine .bind (load_8 c M I) fun v1666 => ?_
  refine .bind (store_8 c M I) fun _ => ?_
  exact .pure _

theorem r_part87 (v1653 : FVec F S256x1 .f32) :
    Runs c M I (k0_part87 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1653) (s_part87 I i v1653) := by
  rw [k0_part87_eq_skeleton]; unfold k0_part87_skel s_part87
  refine .bind (load_9 c M I) fun v1669 => ?_
  refine .bind (store_9 c M I) fun _ => ?_
  refine .bind (load_2 c M I) fun v1672 => ?_
  exact .pure _

theorem r_part88 (v1702 : FVec F S256x1 .f32) (v1709 : FVec F S256x128 .f32) (cst_791 : F .f32) :
    Runs c M I (k0_part88 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1702 v1709 cst_791) (s_part88 I i v1702 v1709 cst_791) := by
  rw [k0_part88_eq_skeleton]; unfold k0_part88_skel s_part88
  refine .bind (load_8 c M I) fun v1715 => ?_
  refine .bind (store_8 c M I) fun _ => ?_
  refine .bind (load_9 c M I) fun v1718 => ?_
  refine .bind (store_9 c M I) fun _ => ?_
  refine .bind (load_2 c M I) fun v1721 => ?_
  exact .pure _

theorem r_part89 (v1723 : FVec F S256x128 .f32) (v1746 : IVec S256x1 32) (v1748 : IVec S256x1 32) :
    Runs c M I (k0_part89 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1723 v1746 v1748) (s_part89 I i v1723 v1746 v1748) := by
  rw [k0_part89_eq_skeleton]; unfold k0_part89_skel s_part89
  refine .bind (load_8 c M I) fun v1764 => ?_
  refine .bind (store_8 c M I) fun _ => ?_
  refine .bind (load_9 c M I) fun v1767 => ?_
  refine .bind (store_9 c M I) fun _ => ?_
  refine .bind (load_2 c M I) fun v1770 => ?_
  exact .pure _

theorem r_part90 (v1772 : FVec F S256x128 .f32) (v1788 : IVec S256x1x256 32) :
    Runs c M I (k0_part90 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1772 v1788) (s_part90 I i v1772 v1788) := by
  rw [k0_part90_eq_skeleton]; unfold k0_part90_skel s_part90
  refine .bind (load_8 c M I) fun v1813 => ?_
  refine .bind (store_8 c M I) fun _ => ?_
  refine .bind (load_9 c M I) fun v1816 => ?_
  refine .bind (store_9 c M I) fun _ => ?_
  refine .bind (load_2 c M I) fun v1819 => ?_
  exact .pure _

theorem r_part91 (v1821 : FVec F S256x128 .f32) (v1824 : FVec F S256x1 .f32) (v1825 : FVec F S256x1 .f32) :
    Runs c M I (k0_part91 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1821 v1824 v1825) (s_part91 I i v1821 v1824 v1825) := by
  rw [k0_part91_eq_skeleton]; unfold k0_part91_skel s_part91
  refine .bind (load_8 c M I) fun v1862 => ?_
  refine .bind (store_8 c M I) fun _ => ?_
  refine .bind (load_9 c M I) fun v1865 => ?_
  exact .pure _

theorem r_part92 (v1849 : FVec F S256x1 .f32) :
    Runs c M I (k0_part92 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1849) (s_part92 I i v1849) := by
  rw [k0_part92_eq_skeleton]; unfold k0_part92_skel s_part92
  refine .bind (store_9 c M I) fun _ => ?_
  refine .bind (load_2 c M I) fun v1868 => ?_
  exact .pure _

theorem r_part93 (v1898 : FVec F S256x1 .f32) (v1907 : FVec F S256x128 .f32) (v1908 : FVec F S256x128 .f32) :
    Runs c M I (k0_part93 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1898 v1907 v1908) (s_part93 I i v1898 v1907 v1908) := by
  rw [k0_part93_eq_skeleton]; unfold k0_part93_skel s_part93
  refine .bind (load_8 c M I) fun v1911 => ?_
  refine .bind (store_8 c M I) fun _ => ?_
  refine .bind (load_9 c M I) fun v1914 => ?_
  refine .bind (store_9 c M I) fun _ => ?_
  refine .bind (load_2 c M I) fun v1917 => ?_
  exact .pure _

theorem r_part94 (v1919 : FVec F S256x128 .f32) (v1942 : IVec S256x1 32) (v1947 : FVec F S256x1 .f32) :
    Runs c M I (k0_part94 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1919 v1942 v1947) (s_part94 I i v1919 v1942 v1947) := by
  rw [k0_part94_eq_skeleton]; unfold k0_part94_skel s_part94
  refine .bind (load_8 c M I) fun v1960 => ?_
  refine .bind (store_8 c M I) fun _ => ?_
  refine .bind (load_9 c M I) fun v1963 => ?_
  refine .bind (store_9 c M I) fun _ => ?_
  refine .bind (load_2 c M I) fun v1966 => ?_
  exact .pure _

theorem r_part95 (v1968 : FVec F S256x128 .f32) (v1985 : IVec S256x1 32) (v1986 : IVec S256x1 32) :
    Runs c M I (k0_part95 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v1968 v1985 v1986) (s_part95 I i v1968 v1985 v1986) := by
  rw [k0_part95_eq_skeleton]; unfold k0_part95_skel s_part95
  refine .bind (load_8 c M I) fun v2009 => ?_
  refine .bind (store_8 c M I) fun _ => ?_
  refine .bind (load_9 c M I) fun v2012 => ?_
  refine .bind (store_9 c M I) fun _ => ?_
  refine .bind (load_2 c M I) fun v2015 => ?_
  exact .pure _

theorem r_part96 (v2017 : FVec F S256x128 .f32) (v2022 : FVec F S256x1 .f32) (v2023 : IVec S256x1x256 32) (v2024 : IVec S256x1x256 32) :
    Runs c M I (k0_part96 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2017 v2022 v2023 v2024) (s_part96 I i v2017 v2022 v2023 v2024) := by
  rw [k0_part96_eq_skeleton]; unfold k0_part96_skel s_part96
  refine .bind (load_8 c M I) fun v2058 => ?_
  refine .bind (store_8 c M I) fun _ => ?_
  refine .bind (load_9 c M I) fun v2061 => ?_
  refine .bind (store_9 c M I) fun _ => ?_
  exact .pure _

theorem r_part97  :
    Runs c M I (k0_part97 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part97 I i ) := by
  rw [k0_part97_eq_skeleton]; unfold k0_part97_skel s_part97
  refine .bind (load_2 c M I) fun v2064 => ?_
  exact .pure _

theorem r_part98 (v2094 : FVec F S256x1 .f32) (v2106 : FVec F S256x128 .fp8e4m3) :
    Runs c M I (k0_part98 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2094 v2106) (s_part98 I i v2094 v2106) := by
  rw [k0_part98_eq_skeleton]; unfold k0_part98_skel s_part98
  refine .bind (load_8 c M I) fun v2107 => ?_
  refine .bind (store_8 c M I) fun _ => ?_
  refine .bind (load_9 c M I) fun v2110 => ?_
  refine .bind (store_9 c M I) fun _ => ?_
  refine .bind (load_2 c M I) fun v2113 => ?_
  exact .pure _

theorem r_part99 (v2115 : FVec F S256x128 .f32) (v2143 : FVec F S256x1 .f32) (v2145 : IVec S256x1 32) (c23_i32_979 : BitVec 32) :
    Runs c M I (k0_part99 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2115 v2143 v2145 c23_i32_979) (s_part99 I i v2115 v2143 v2145 c23_i32_979) := by
  rw [k0_part99_eq_skeleton]; unfold k0_part99_skel s_part99
  refine .bind (load_8 c M I) fun v2156 => ?_
  refine .bind (store_8 c M I) fun _ => ?_
  refine .bind (load_9 c M I) fun v2159 => ?_
  refine .bind (store_9 c M I) fun _ => ?_
  refine .bind (load_2 c M I) fun v2162 => ?_
  exact .pure _

theorem r_part100 (v2164 : FVec F S256x128 .f32) (v2183 : IVec S256x1 1) (v2185 : IVec S256x1 32) :
    Runs c M I (k0_part100 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2164 v2183 v2185) (s_part100 I i v2164 v2183 v2185) := by
  rw [k0_part100_eq_skeleton]; unfold k0_part100_skel s_part100
  refine .bind (load_8 c M I) fun v2205 => ?_
  refine .bind (store_8 c M I) fun _ => ?_
  refine .bind (load_9 c M I) fun v2208 => ?_
  refine .bind (store_9 c M I) fun _ => ?_
  refine .bind (load_2 c M I) fun v2211 => ?_
  exact .pure _

theorem r_part101 (v2213 : FVec F S256x128 .f32) (v2218 : FVec F S256x1 .f32) (v2219 : IVec S256x1x256 32) (v2222 : FVec F S256x1x256 .f32) (v2223 : IVec S256x1x256 32) :
    Runs c M I (k0_part101 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2213 v2218 v2219 v2222 v2223) (s_part101 I i v2213 v2218 v2219 v2222 v2223) := by
  rw [k0_part101_eq_skeleton]; unfold k0_part101_skel s_part101
  refine .bind (load_8 c M I) fun v2254 => ?_
  refine .bind (store_8 c M I) fun _ => ?_
  refine .bind (load_9 c M I) fun v2257 => ?_
  refine .bind (store_9 c M I) fun _ => ?_
  refine .bind (load_9 c M I) fun v2260 => ?_
  exact .pure _

theorem r_part102 (v2262 : FVec F S32x256 .f32) :
    Runs c M I (k0_part102 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2262) (s_part102 I i v2262) := by
  rw [k0_part102_eq_skeleton]; unfold k0_part102_skel s_part102
  refine .bind (load_16 c M I) fun v2268 => ?_
  refine .bind (store_16 c M I) fun _ => ?_
  refine .bind (load_16 c M I) fun v2274 => ?_
  refine .bind (store_16 c M I) fun _ => ?_
  refine .bind (load_16 c M I) fun v2280 => ?_
  refine .bind (store_16 c M I) fun _ => ?_
  refine .bind (load_16 c M I) fun v2286 => ?_
  refine .bind (store_16 c M I) fun _ => ?_
  refine .bind (load_16 c M I) fun v2292 => ?_
  refine .bind (store_16 c M I) fun _ => ?_
  exact .pure _

theorem r_part103 (v2264 : FVec F S32x256 .f32) (v2296 : FVec F S1x128 .f32) :
    Runs c M I (k0_part103 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2296) (s_part103 I i v2264 v2296) := by
  rw [k0_part103_eq_skeleton]; unfold k0_part103_skel s_part103
  refine .bind (load_16 c M I) fun v2298 => ?_
  refine .bind (store_16 c M I) fun _ => ?_
  refine .bind (load_16 c M I) fun v2304 => ?_
  refine .bind (store_16 c M I) fun _ => ?_
  refine .bind (load_16 c M I) fun v2310 => ?_
  refine .bind (store_16 c M I) fun _ => ?_
  refine .bind (load_16 c M I) fun v2316 => ?_
  refine .bind (store_16 c M I) fun _ => ?_
  refine .bind (load_16 c M I) fun v2322 => ?_
  refine .bind (store_16 c M I) fun _ => ?_
  exact .pure _

theorem r_part114  :
    Runs c M I (k0_part114 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_part114 I i ) := by
  rw [k0_part114_eq_skeleton]; unfold k0_part114_skel s_part114
  refine .bind (r_part44 c M hM I i ) fun ⟨arg1, v0, v6, v34, v38⟩ => ?_
  refine .bind (r_part45 c M hM I i _ _ _ _) fun ⟨v71, v72⟩ => ?_
  refine .bind (r_part46 c M hM I i _ _ _) fun ⟨v92, v109, v111, v112⟩ => ?_
  refine .bind (r_part47 c M hM I i _ _ _ _ _) fun v150 => ?_
  refine .bind (r_part48 c M hM I i _ _) fun ⟨v178, v183, v184, v185⟩ => ?_
  refine .bind (r_part49 c M hM I i _ _ _ _ _) fun ⟨v206, v218, v225⟩ => ?_
  refine .bind (r_part50 c M hM I i _ _ _ _) fun v261 => ?_
  refine .bind (r_part51 c M hM I i _) fun ⟨v292, v303⟩ => ?_
  refine .bind (r_part52 c M hM I i _ _ _) fun v336 => ?_
  refine .bind (r_part53 c M hM I i _ _) fun ⟨v350, v373, v375, v376⟩ => ?_
  refine .bind (r_part54 c M hM I i _ _ _ _ _) fun ⟨v410, v411⟩ => ?_
  refine .bind (r_part55 c M hM I i _ _ _) fun ⟨v436, v451⟩ => ?_
  refine .bind (r_part56 c M hM I i _ _ _) fun ⟨v464, v476⟩ => ?_
  refine .bind (r_part57 c M hM I i _ _ _) fun ⟨v522, v523⟩ => ?_
  refine .bind (r_part58 c M hM I i _ _ _) fun ⟨v550, v562, v567⟩ => ?_
  refine .bind (r_part59 c M hM I i _ _ _ _) fun v600 => ?_
  refine .bind (r_part60 c M hM I i _ _) fun ⟨v608, v636, v641⟩ => ?_
  refine .bind (r_part61 c M hM I i _ _ _ _) fun v675 => ?_
  refine .bind (r_part62 c M hM I i _ _) fun ⟨v694, v713, v715⟩ => ?_
  refine .bind (r_part63 c M hM I i _ _ _) fun ⟨v743, v748, v749, v752, v753⟩ => ?_
  refine .bind (r_part64 c M hM I i _ _ _ _ _) fun v792 => ?_
  refine .bind (r_part65 c M hM I i _) fun ⟨v820, v835⟩ => ?_
  refine .bind (r_part66 c M hM I i _ _) fun ⟨v841, v869, v875⟩ => ?_
  refine .bind (r_part67 c M hM I i _ _ _) fun ⟨v890, v913, c127_i32_444⟩ => ?_
  refine .bind (r_part68 c M hM I i _ _ _) fun ⟨v939, v950, v953⟩ => ?_
  refine .bind (r_part69 c M hM I i _ _ _) fun ⟨v988, v991⟩ => ?_
  refine .bind (r_part70 c M hM I i _ _) fun v1016 => ?_
  refine .bind (r_part71 c M hM I i _) fun ⟨v1065, v1072, cst_518, v1073⟩ => ?_
  refine .bind (r_part72 c M hM I i _ _ _ _) fun ⟨v1086, v1109, v1111, v1112⟩ => ?_
  refine .bind (r_part73 c M hM I i _ _ _ _) fun ⟨v1135, v1152⟩ => ?_
  refine .bind (r_part74 c M hM I i _ _) fun ⟨v1184, v1189, v1190⟩ => ?_
  refine .bind (r_part75 c M hM I i _ _ _) fun _ => ?_
  refine .bind (r_part76 c M hM I i ) fun ⟨v1261, v1273⟩ => ?_
  refine .bind (r_part77 c M hM I i _ _) fun ⟨v1282, v1305, v1310, v1311⟩ => ?_
  refine .bind (r_part78 c M hM I i _ _ _ _) fun ⟨v1331, v1348, v1350, c126_i32_638⟩ => ?_
  refine .bind (r_part79 c M hM I i _ _ _ _) fun ⟨v1380, v1385, v1386, v1389⟩ => ?_
  refine .bind (r_part80 c M hM I i _ _ _ _) fun v1427 => ?_
  refine .bind (r_part81 c M hM I i _) fun ⟨v1457, v1469, v1470⟩ => ?_
  refine .bind (r_part82 c M hM I i _ _ _) fun ⟨v1478, v1506, v1510⟩ => ?_
  refine .bind (r_part83 c M hM I i _ _ _) fun ⟨v1527, v1546, v1548, v1549⟩ => ?_
  refine .bind (r_part84 c M hM I i _ _ _ _) fun ⟨v1576, v1585, v1587, v1588⟩ => ?_
  refine .bind (r_part85 c M hM I i _ _ _ _) fun ⟨v1625, v1626⟩ => ?_
  refine .bind (r_part86 c M hM I i _ _) fun v1653 => ?_
  refine .bind (r_part87 c M hM I i _) fun ⟨v1702, v1709, cst_791⟩ => ?_
  refine .bind (r_part88 c M hM I i _ _ _) fun ⟨v1723, v1746, v1748⟩ => ?_
  refine .bind (r_part89 c M hM I i _ _ _) fun ⟨v1772, v1788⟩ => ?_
  refine .bind (r_part90 c M hM I i _ _) fun ⟨v1821, v1824, v1825⟩ => ?_
  refine .bind (r_part91 c M hM I i _ _ _) fun v1849 => ?_
  refine .bind (r_part92 c M hM I i _) fun ⟨v1898, v1907, v1908⟩ => ?_
  refine .bind (r_part93 c M hM I i _ _ _) fun ⟨v1919, v1942, v1947⟩ => ?_
  refine .bind (r_part94 c M hM I i _ _ _) fun ⟨v1968, v1985, v1986⟩ => ?_
  refine .bind (r_part95 c M hM I i _ _ _) fun ⟨v2017, v2022, v2023, v2024⟩ => ?_
  refine .bind (r_part96 c M hM I i _ _ _ _) fun _ => ?_
  refine .bind (r_part97 c M hM I i ) fun ⟨v2094, v2106⟩ => ?_
  refine .bind (r_part98 c M hM I i _ _) fun ⟨v2115, v2143, v2145, c23_i32_979⟩ => ?_
  refine .bind (r_part99 c M hM I i _ _ _ _) fun ⟨v2164, v2183, v2185⟩ => ?_
  refine .bind (r_part100 c M hM I i _ _ _) fun ⟨v2213, v2218, v2219, v2222, v2223⟩ => ?_
  refine .bind (r_part101 c M hM I i _ _ _ _ _) fun v2262 => ?_
  refine .bind (r_part102 c M hM I i _) fun ⟨v2264, v2296⟩ => ?_
  refine .bind (r_part103 c M hM I i _ _) fun v2327 => ?_
  exact .pure _

theorem r_part104 (v2264 : FVec F S32x256 .f32) (v2327 : FVec F S8x128 .f32) :
    Runs c M I (k0_part104 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2327) (s_part104 I i v2264 v2327) := by
  rw [k0_part104_eq_skeleton]; unfold k0_part104_skel s_part104
  refine .bind (load_16 c M I) fun v2328 => ?_
  refine .bind (store_16 c M I) fun _ => ?_
  refine .bind (load_16 c M I) fun v2334 => ?_
  refine .bind (store_16 c M I) fun _ => ?_
  refine .bind (load_16 c M I) fun v2340 => ?_
  refine .bind (store_16 c M I) fun _ => ?_
  refine .bind (load_16 c M I) fun v2346 => ?_
  refine .bind (store_16 c M I) fun _ => ?_
  refine .bind (load_16 c M I) fun v2352 => ?_
  refine .bind (store_16 c M I) fun _ => ?_
  refine .bind (load_16 c M I) fun v2358 => ?_
  refine .bind (store_16 c M I) fun _ => ?_
  exact .pure _

theorem r_part105 (v2264 : FVec F S32x256 .f32) (v2361 : FVec F S1x128 .f32) :
    Runs c M I (k0_part105 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2361) (s_part105 I i v2264 v2361) := by
  rw [k0_part105_eq_skeleton]; unfold k0_part105_skel s_part105
  refine .bind (load_16 c M I) fun v2364 => ?_
  refine .bind (store_16 c M I) fun _ => ?_
  refine .bind (load_16 c M I) fun v2370 => ?_
  refine .bind (store_16 c M I) fun _ => ?_
  refine .bind (load_16 c M I) fun v2376 => ?_
  refine .bind (store_16 c M I) fun _ => ?_
  refine .bind (load_16 c M I) fun v2382 => ?_
  refine .bind (store_16 c M I) fun _ => ?_
  refine .bind (load_16 c M I) fun v2388 => ?_
  refine .bind (store_16 c M I) fun _ => ?_
  exact .pure _

theorem r_part106 (v2264 : FVec F S32x256 .f32) (v2393 : FVec F S8x128 .f32) :
    Runs c M I (k0_part106 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2393) (s_part106 I i v2264 v2393) := by
  rw [k0_part106_eq_skeleton]; unfold k0_part106_skel s_part106
  refine .bind (load_16 c M I) fun v2394 => ?_
  refine .bind (store_16 c M I) fun _ => ?_
  refine .bind (load_16 c M I) fun v2400 => ?_
  refine .bind (store_16 c M I) fun _ => ?_
  refine .bind (load_16 c M I) fun v2406 => ?_
  refine .bind (store_16 c M I) fun _ => ?_
  refine .bind (load_16 c M I) fun v2412 => ?_
  refine .bind (store_16 c M I) fun _ => ?_
  refine .bind (load_16 c M I) fun v2418 => ?_
  refine .bind (store_16 c M I) fun _ => ?_
  refine .bind (load_16 c M I) fun v2424 => ?_
  refine .bind (store_16 c M I) fun _ => ?_
  exact .pure _

theorem r_part107 (v2264 : FVec F S32x256 .f32) :
    Runs c M I (k0_part107 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264) (s_part107 I i v2264) := by
  rw [k0_part107_eq_skeleton]; unfold k0_part107_skel s_part107
  refine .bind (load_16 c M I) fun v2430 => ?_
  refine .bind (store_16 c M I) fun _ => ?_
  refine .bind (load_16 c M I) fun v2436 => ?_
  refine .bind (store_16 c M I) fun _ => ?_
  refine .bind (load_16 c M I) fun v2442 => ?_
  refine .bind (store_16 c M I) fun _ => ?_
  refine .bind (load_16 c M I) fun v2448 => ?_
  refine .bind (store_16 c M I) fun _ => ?_
  refine .bind (load_16 c M I) fun v2454 => ?_
  refine .bind (store_16 c M I) fun _ => ?_
  exact .pure _

theorem r_part108 (v2264 : FVec F S32x256 .f32) (v2459 : FVec F S8x128 .f32) :
    Runs c M I (k0_part108 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2459) (s_part108 I i v2264 v2459) := by
  rw [k0_part108_eq_skeleton]; unfold k0_part108_skel s_part108
  refine .bind (load_16 c M I) fun v2460 => ?_
  refine .bind (store_16 c M I) fun _ => ?_
  refine .bind (load_16 c M I) fun v2466 => ?_
  refine .bind (store_16 c M I) fun _ => ?_
  refine .bind (load_16 c M I) fun v2472 => ?_
  refine .bind (store_16 c M I) fun _ => ?_
  refine .bind (load_16 c M I) fun v2478 => ?_
  refine .bind (store_16 c M I) fun _ => ?_
  refine .bind (load_16 c M I) fun v2484 => ?_
  refine .bind (store_16 c M I) fun _ => ?_
  refine .bind (load_16 c M I) fun v2490 => ?_
  exact .pure _

theorem r_part109 (v2264 : FVec F S32x256 .f32) (v2492 : FVec F S1x1x8x128 .f32) :
    Runs c M I (k0_part109 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2492) (s_part109 I i v2264 v2492) := by
  rw [k0_part109_eq_skeleton]; unfold k0_part109_skel s_part109
  refine .bind (store_16 c M I) fun _ => ?_
  refine .bind (load_16 c M I) fun v2496 => ?_
  refine .bind (store_16 c M I) fun _ => ?_
  refine .bind (load_16 c M I) fun v2502 => ?_
  refine .bind (store_16 c M I) fun _ => ?_
  refine .bind (load_16 c M I) fun v2508 => ?_
  refine .bind (store_16 c M I) fun _ => ?_
  refine .bind (load_16 c M I) fun v2514 => ?_
  refine .bind (store_16 c M I) fun _ => ?_
  refine .bind (load_16 c M I) fun v2520 => ?_
  refine .bind (store_16 c M I) fun _ => ?_
  exact .pure _

theorem r_part110 (v2264 : FVec F S32x256 .f32) (v2525 : FVec F S8x128 .f32) :
    Runs c M I (k0_part110 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2525) (s_part110 I i v2264 v2525) := by
  rw [k0_part110_eq_skeleton]; unfold k0_part110_skel s_part110
  refine .bind (load_16 c M I) fun v2526 => ?_
  refine .bind (store_16 c M I) fun _ => ?_
  refine .bind (load_16 c M I) fun v2532 => ?_
  refine .bind (store_16 c M I) fun _ => ?_
  refine .bind (load_16 c M I) fun v2538 => ?_
  refine .bind (store_16 c M I) fun _ => ?_
  refine .bind (load_16 c M I) fun v2544 => ?_
  refine .bind (store_16 c M I) fun _ => ?_
  refine .bind (load_16 c M I) fun v2550 => ?_
  refine .bind (store_16 c M I) fun _ => ?_
  refine .bind (load_16 c M I) fun v2556 => ?_
  exact .pure _

theorem r_part111 (v2264 : FVec F S32x256 .f32) (v2555 : FVec F S8x128 .f32) :
    Runs c M I (k0_part111 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2555) (s_part111 I i v2264 v2555) := by
  rw [k0_part111_eq_skeleton]; unfold k0_part111_skel s_part111
  refine .bind (store_16 c M I) fun _ => ?_
  refine .bind (load_16 c M I) fun v2562 => ?_
  refine .bind (store_16 c M I) fun _ => ?_
  refine .bind (load_16 c M I) fun v2568 => ?_
  refine .bind (store_16 c M I) fun _ => ?_
  refine .bind (load_16 c M I) fun v2574 => ?_
  refine .bind (store_16 c M I) fun _ => ?_
  refine .bind (load_16 c M I) fun v2580 => ?_
  refine .bind (store_16 c M I) fun _ => ?_
  refine .bind (load_16 c M I) fun v2586 => ?_
  refine .bind (store_16 c M I) fun _ => ?_
  exact .pure _

theorem r_part112 (v2264 : FVec F S32x256 .f32) (v2591 : FVec F S8x128 .f32) :
    Runs c M I (k0_part112 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2264 v2591) (s_part112 I i v2264 v2591) := by
  rw [k0_part112_eq_skeleton]; unfold k0_part112_skel s_part112
  refine .bind (load_16 c M I) fun v2592 => ?_
  refine .bind (store_16 c M I) fun _ => ?_
  refine .bind (load_16 c M I) fun v2598 => ?_
  refine .bind (store_16 c M I) fun _ => ?_
  refine .bind (load_16 c M I) fun v2604 => ?_
  refine .bind (store_16 c M I) fun _ => ?_
  refine .bind (load_16 c M I) fun v2610 => ?_
  refine .bind (store_16 c M I) fun _ => ?_
  refine .bind (load_16 c M I) fun v2616 => ?_
  refine .bind (store_16 c M I) fun _ => ?_
  refine .bind (load_16 c M I) fun v2622 => ?_
  exact .pure _

theorem r_part1 (arg1 : BitVec 32) (k0_h2 : k0_cond2 i = 1#1) (c0_i32_1293 : BitVec 32) (c1_i32 : BitVec 32) (k0_t1 : Fin k0_t1_loop.trips) :
    Runs c M I (k0_part1 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 c0_i32_1293 c1_i32 k0_t1) (s_part1 I i arg1 k0_h2 c0_i32_1293 c1_i32 k0_t1) := by
  rw [k0_part1_eq_skeleton]; unfold k0_part1_skel s_part1
  refine .bind (load_8 c M I) fun v2666 => ?_
  refine .bind (load_8 c M I) fun v2673 => ?_
  refine .bind (load_8 c M I) fun v2680 => ?_
  refine .bind (load_8 c M I) fun v2687 => ?_
  refine .bind (load_16 c M I) fun v2691 => ?_
  exact .pure _

theorem r_part2 (arg1 : BitVec 32) (v2653 : IVec S128x512 1) (k0_h2 : k0_cond2 i = 1#1) (k0_t1 : Fin k0_t1_loop.trips) (arg19 : BitVec 32) (v2689 : FVec F S512x128 .fp8e4m3) (v2694 : BitVec 32) :
    Runs c M I (k0_part2 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h2 k0_t1 arg19 v2689 v2694) (s_part2 I i arg1 v2653 k0_h2 k0_t1 arg19 v2689 v2694) := by
  rw [k0_part2_eq_skeleton]; unfold k0_part2_skel s_part2
  refine .bind (load_13 c M I) fun v2701 => ?_
  refine .bind (load_14 c M I) fun v2707 => ?_
  refine .bind (load_13 c M I) fun v2719 => ?_
  refine .bind (load_14 c M I) fun v2725 => ?_
  exact .pure _

theorem r_part3 (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) :
    Runs c M I (k0_part3 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2733 v2734) (s_part3 I i arg1 k0_h2 k0_t1 arg19 v2689 v2733 v2734) := by
  rw [k0_part3_eq_skeleton]; unfold k0_part3_skel s_part3
  refine .bind (load_17 c M I) fun v2736 => ?_
  refine .bind (store_17 c M I) fun _ => ?_
  refine .bind (load_13 c M I) fun v2747 => ?_
  refine .bind (load_14 c M I) fun v2753 => ?_
  refine .bind (load_17 c M I) fun v2761 => ?_
  refine .bind (store_17 c M I) fun _ => ?_
  exact .pure _

theorem r_part4 (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) :
    Runs c M I (k0_part4 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2766 v2769 c256_i32_1359) (s_part4 I i arg1 k0_h2 k0_t1 arg19 v2689 v2766 v2769 c256_i32_1359) := by
  rw [k0_part4_eq_skeleton]; unfold k0_part4_skel s_part4
  refine .bind (load_13 c M I) fun v2775 => ?_
  refine .bind (load_14 c M I) fun v2781 => ?_
  refine .bind (load_17 c M I) fun v2789 => ?_
  refine .bind (store_17 c M I) fun _ => ?_
  refine .bind (load_13 c M I) fun v2803 => ?_
  exact .pure _

theorem r_part5 (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) :
    Runs c M I (k0_part5 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v2689 v2794 v2805) (s_part5 I i arg1 k0_h2 k0_t1 arg19 v2689 v2794 v2805) := by
  rw [k0_part5_eq_skeleton]; unfold k0_part5_skel s_part5
  refine .bind (load_14 c M I) fun v2809 => ?_
  refine .bind (load_17 c M I) fun v2817 => ?_
  refine .bind (store_17 c M I) fun _ => ?_
  refine .bind (load_13 c M I) fun v2831 => ?_
  refine .bind (load_14 c M I) fun v2837 => ?_
  exact .pure _

theorem r_part6 (k0_h2 : k0_cond2 i = 1#1) (k0_t1 : Fin k0_t1_loop.trips) (arg19 : BitVec 32) (v2692 : FVec F S8x512 .f32) (v2822 : FVec F S8x512 .f32) (v2844 : FVec F S256x512 .f32) :
    Runs c M I (k0_part6 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v2692 v2822 v2844) (s_part6 I i k0_h2 k0_t1 arg19 v2692 v2822 v2844) := by
  rw [k0_part6_eq_skeleton]; unfold k0_part6_skel s_part6
  refine .bind (load_17 c M I) fun v2845 => ?_
  refine .bind (store_17 c M I) fun _ => ?_
  refine .bind (load_6 c M I) fun v2856 => ?_
  exact .pure _

theorem r_part7 (v2653 : IVec S128x512 1) (v2692 : FVec F S8x512 .f32) (v2861 : FVec F S8x512 .f32) (v2889 : FVec F S8x512 .f32) :
    Runs c M I (k0_part7 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v2692 v2861 v2889) (s_part7 I i v2653 v2692 v2861 v2889) := by
  rw [k0_part7_eq_skeleton]; unfold k0_part7_skel s_part7
  refine .bind (load_17 c M I) fun v2891 => ?_
  refine .bind (load_18 c M I) fun v2908 => ?_
  refine .bind (store_18 c M I) fun _ => ?_
  refine .bind (load_18 c M I) fun v2914 => ?_
  refine .bind (store_18 c M I) fun _ => ?_
  refine .bind (load_17 c M I) fun v2917 => ?_
  exact .pure _

theorem r_part8 (v2692 : FVec F S8x512 .f32) (v2890 : FVec F S8x512 .f32) (v2903 : FVec F S8x512 .f32) (v2928 : FVec F S16x8x512 .f32) (v2929 : FVec F S8x512 .f32) :
    Runs c M I (k0_part8 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2890 v2903 v2928 v2929) (s_part8 I i v2692 v2890 v2903 v2928 v2929) := by
  rw [k0_part8_eq_skeleton]; unfold k0_part8_skel s_part8
  refine .bind (load_18 c M I) fun v2933 => ?_
  refine .bind (store_18 c M I) fun _ => ?_
  refine .bind (load_17 c M I) fun v2936 => ?_
  refine .bind (load_18 c M I) fun v2952 => ?_
  refine .bind (store_18 c M I) fun _ => ?_
  refine .bind (load_17 c M I) fun v2955 => ?_
  exact .pure _

theorem r_part9 (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) :
    Runs c M I (k0_part9 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v2692 v2859 v2861 v2888 v2890 v2968 v2970) (s_part9 I i k0_h2 k0_t1 arg19 v2692 v2859 v2861 v2888 v2890 v2968 v2970) := by
  rw [k0_part9_eq_skeleton]; unfold k0_part9_skel s_part9
  refine .bind (load_18 c M I) fun v2971 => ?_
  refine .bind (store_18 c M I) fun _ => ?_
  refine .bind (load_17 c M I) fun v2974 => ?_
  refine .bind (load_18 c M I) fun v2990 => ?_
  refine .bind (store_18 c M I) fun _ => ?_
  refine .bind (load_18 c M I) fun v2994 => ?_
  refine .bind (store_18 c M I) fun _ => ?_
  refine .bind (load_5 c M I) fun v3006 => ?_
  exact .pure _

theorem r_part10 (arg1 : BitVec 32) (k0_h2 : k0_cond2 i = 1#1) (k0_t1 : Fin k0_t1_loop.trips) (arg19 : BitVec 32) (v3004 : FVec F S8x512 .f32) (v3009 : FVec F S8x512 .f32) :
    Runs c M I (k0_part10 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3004 v3009) (s_part10 I i arg1 k0_h2 k0_t1 arg19 v3004 v3009) := by
  rw [k0_part10_eq_skeleton]; unfold k0_part10_skel s_part10
  refine .bind (load_15 c M I) fun v3016 => ?_
  refine .bind (load_15 c M I) fun v3023 => ?_
  refine .bind (load_15 c M I) fun v3030 => ?_
  refine .bind (load_15 c M I) fun v3037 => ?_
  refine .bind (load_15 c M I) fun v3044 => ?_
  exact .pure _

theorem r_part11 (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) :
    Runs c M I (k0_part11 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3010 v3017 v3024 v3031 v3038 v3044) (s_part11 I i k0_h2 k0_t1 arg19 v3010 v3017 v3024 v3031 v3038 v3044) := by
  rw [k0_part11_eq_skeleton]; unfold k0_part11_skel s_part11
  refine .bind (load_18 c M I) fun v3047 => ?_
  refine .bind (load_7 c M I) fun v3063 => ?_
  refine .bind (store_7 c M I) fun _ => ?_
  refine .bind (load_7 c M I) fun v3074 => ?_
  refine .bind (store_7 c M I) fun _ => ?_
  exact .pure _

theorem r_part12 (k0_h2 : k0_cond2 i = 1#1) (k0_t1 : Fin k0_t1_loop.trips) (arg19 : BitVec 32) (v3054 : FVec F S128x512 .f32) (v3080 : BitVec 32) (v3083 : FVec F S128x128 .bf16) :
    Runs c M I (k0_part12 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3054 v3080 v3083) (s_part12 I i k0_h2 k0_t1 arg19 v3054 v3080 v3083) := by
  rw [k0_part12_eq_skeleton]; unfold k0_part12_skel s_part12
  refine .bind (load_7 c M I) fun v3085 => ?_
  refine .bind (store_7 c M I) fun _ => ?_
  refine .bind (load_7 c M I) fun v3096 => ?_
  refine .bind (store_7 c M I) fun _ => ?_
  refine .bind (load_8 c M I) fun v3104 => ?_
  refine .bind (load_8 c M I) fun v3111 => ?_
  refine .bind (load_8 c M I) fun v3118 => ?_
  exact .pure _

theorem r_part13 (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) :
    Runs c M I (k0_part13 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3105 v3112 v3119 v3120) (s_part13 I i arg1 k0_h2 k0_t1 arg19 v3105 v3112 v3119 v3120) := by
  rw [k0_part13_eq_skeleton]; unfold k0_part13_skel s_part13
  refine .bind (load_8 c M I) fun v3125 => ?_
  refine .bind (load_16 c M I) fun v3129 => ?_
  refine .bind (load_13 c M I) fun v3139 => ?_
  refine .bind (load_14 c M I) fun v3145 => ?_
  refine .bind (load_13 c M I) fun v3157 => ?_
  exact .pure _

theorem r_part14 (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) :
    Runs c M I (k0_part14 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h2 k0_t1 arg19 v3127 v3148 v3153 v3158) (s_part14 I i arg1 v2653 k0_h2 k0_t1 arg19 v3127 v3148 v3153 v3158) := by
  rw [k0_part14_eq_skeleton]; unfold k0_part14_skel s_part14
  refine .bind (load_14 c M I) fun v3163 => ?_
  refine .bind (load_17 c M I) fun v3174 => ?_
  refine .bind (store_17 c M I) fun _ => ?_
  refine .bind (load_13 c M I) fun v3185 => ?_
  refine .bind (load_14 c M I) fun v3191 => ?_
  exact .pure _

theorem r_part15 (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) :
    Runs c M I (k0_part15 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3127 v3173 v3194 v3196) (s_part15 I i arg1 k0_h2 k0_t1 arg19 v3127 v3173 v3194 v3196) := by
  rw [k0_part15_eq_skeleton]; unfold k0_part15_skel s_part15
  refine .bind (load_17 c M I) fun v3199 => ?_
  refine .bind (store_17 c M I) fun _ => ?_
  refine .bind (load_13 c M I) fun v3213 => ?_
  refine .bind (load_14 c M I) fun v3219 => ?_
  refine .bind (load_17 c M I) fun v3227 => ?_
  refine .bind (store_17 c M I) fun _ => ?_
  exact .pure _

theorem r_part16 (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) :
    Runs c M I (k0_part16 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3127 v3232 c1_i32_1599) (s_part16 I i arg1 k0_h2 k0_t1 arg19 v3127 v3232 c1_i32_1599) := by
  rw [k0_part16_eq_skeleton]; unfold k0_part16_skel s_part16
  refine .bind (load_13 c M I) fun v3241 => ?_
  refine .bind (load_14 c M I) fun v3247 => ?_
  refine .bind (load_17 c M I) fun v3255 => ?_
  refine .bind (store_17 c M I) fun _ => ?_
  refine .bind (load_13 c M I) fun v3269 => ?_
  exact .pure _

theorem r_part17 (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) :
    Runs c M I (k0_part17 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h2 k0_t1 arg19 v3127 v3130 v3260 v3265 v3270) (s_part17 I i k0_h2 k0_t1 arg19 v3127 v3130 v3260 v3265 v3270) := by
  rw [k0_part17_eq_skeleton]; unfold k0_part17_skel s_part17
  refine .bind (load_14 c M I) fun v3275 => ?_
  refine .bind (load_17 c M I) fun v3279 => ?_
  refine .bind (store_17 c M I) fun _ => ?_
  refine .bind (load_6 c M I) fun v3290 => ?_
  exact .pure _

theorem r_part18 (v2653 : IVec S128x512 1) (v3130 : FVec F S8x512 .f32) (v3295 : FVec F S8x512 .f32) (v3311 : IVec S8x512 32) (v3313 : IVec S8x512 1) :
    Runs c M I (k0_part18 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v3130 v3295 v3311 v3313) (s_part18 I i v2653 v3130 v3295 v3311 v3313) := by
  rw [k0_part18_eq_skeleton]; unfold k0_part18_skel s_part18
  refine .bind (load_17 c M I) fun v3325 => ?_
  refine .bind (load_18 c M I) fun v3342 => ?_
  refine .bind (store_18 c M I) fun _ => ?_
  refine .bind (load_18 c M I) fun v3348 => ?_
  refine .bind (store_18 c M I) fun _ => ?_
  refine .bind (load_17 c M I) fun v3351 => ?_
  exact .pure _

theorem r_part19 (v3130 : FVec F S8x512 .f32) (v3324 : FVec F S8x512 .f32) (v3337 : FVec F S8x512 .f32) (v3351 : Vec F S1x256x512 .f32) :
    Runs c M I (k0_part19 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3130 v3324 v3337 v3351) (s_part19 I i v3130 v3324 v3337 v3351) := by
  rw [k0_part19_eq_skeleton]; unfold k0_part19_skel s_part19
  refine .bind (load_18 c M I) fun v3367 => ?_
  refine .bind (store_18 c M I) fun _ => ?_
  refine .bind (load_17 c M I) fun v3370 => ?_
  refine .bind (load_18 c M I) fun v3386 => ?_
  refine .bind (store_18 c M I) fun _ => ?_
  refine .bind (load_17 c M I) fun v3389 => ?_
  exact .pure _

theorem r_part20 (v3130 : FVec F S8x512 .f32) (v3324 : FVec F S8x512 .f32) (v3383 : FVec F S8x512 .f32) (v3391 : FVec F S32x8x512 .f32) (v3393 : FVec F S32x8x512 .f32) :
    Runs c M I (k0_part20 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3130 v3324 v3383 v3391 v3393) (s_part20 I i v3130 v3324 v3383 v3391 v3393) := by
  rw [k0_part20_eq_skeleton]; unfold k0_part20_skel s_part20
  refine .bind (load_18 c M I) fun v3405 => ?_
  refine .bind (store_18 c M I) fun _ => ?_
  refine .bind (load_17 c M I) fun v3408 => ?_
  refine .bind (load_18 c M I) fun v3424 => ?_
  refine .bind (store_18 c M I) fun _ => ?_
  refine .bind (load_18 c M I) fun v3428 => ?_
  refine .bind (store_18 c M I) fun _ => ?_
  exact .pure _

theorem r_part21 (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) :
    Runs c M I (k0_part21 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3293 v3295 v3322 v3432) (s_part21 I i arg1 k0_h2 k0_t1 arg19 v3293 v3295 v3322 v3432) := by
  rw [k0_part21_eq_skeleton]; unfold k0_part21_skel s_part21
  refine .bind (load_5 c M I) fun v3440 => ?_
  refine .bind (load_15 c M I) fun v3450 => ?_
  refine .bind (load_15 c M I) fun v3457 => ?_
  refine .bind (load_15 c M I) fun v3464 => ?_
  exact .pure _

theorem r_part22 (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) :
    Runs c M I (k0_part22 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h2 k0_t1 arg19 v3444 v3451 v3458 v3465) (s_part22 I i arg1 k0_h2 k0_t1 arg19 v3444 v3451 v3458 v3465) := by
  rw [k0_part22_eq_skeleton]; unfold k0_part22_skel s_part22
  refine .bind (load_15 c M I) fun v3471 => ?_
  refine .bind (load_15 c M I) fun v3478 => ?_
  refine .bind (load_18 c M I) fun v3481 => ?_
  refine .bind (load_7 c M I) fun v3497 => ?_
  refine .bind (store_7 c M I) fun _ => ?_
  refine .bind (load_7 c M I) fun v3508 => ?_
  exact .pure _

theorem r_t1_body (arg1 : BitVec 32) (v2264 : FVec F S32x256 .f32) (v2621 : FVec F S8x128 .f32) (v2622 : Vec F S1x1x8x128 .f32) (k0_h2 : k0_cond2 i = 1#1) (k0_t1 : Fin k0_t1_loop.trips) :
    Runs c M I (k0_t1_body i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2264 v2621 v2622 k0_h2 k0_t1 ⟨⟩) (s_t1_body I i arg1 v2264 v2621 v2622 k0_h2 k0_t1) := by
  unfold k0_t1_body s_t1_body
  refine .bind (r_part1 c M hM I i _ _ _ _ _) fun ⟨arg19, v2689, v2692, v2694⟩ => ?_
  refine .bind (r_part2 c M hM I i _ _ _ _ _ _ _) fun ⟨v2733, v2734⟩ => ?_
  refine .bind (r_part3 c M hM I i _ _ _ _ _ _ _) fun ⟨v2766, v2769, c256_i32_1359⟩ => ?_
  refine .bind (r_part4 c M hM I i _ _ _ _ _ _ _ _) fun ⟨v2794, v2805⟩ => ?_
  refine .bind (r_part5 c M hM I i _ _ _ _ _ _ _) fun ⟨v2822, v2844⟩ => ?_
  refine .bind (r_part6 c M hM I i _ _ _ _ _ _) fun ⟨v2859, v2861, v2888, v2889⟩ => ?_
  refine .bind (r_part7 c M hM I i _ _ _ _) fun ⟨v2890, v2903, v2928, v2929⟩ => ?_
  refine .bind (r_part8 c M hM I i _ _ _ _ _) fun ⟨v2968, v2970⟩ => ?_
  refine .bind (r_part9 c M hM I i _ _ _ _ _ _ _ _ _ _) fun ⟨v3004, v3009⟩ => ?_
  refine .bind (r_part10 c M hM I i _ _ _ _ _ _) fun ⟨v3010, v3017, v3024, v3031, v3038, v3044⟩ => ?_
  refine .bind (r_part11 c M hM I i _ _ _ _ _ _ _ _ _) fun ⟨v3054, v3080, v3083⟩ => ?_
  refine .bind (r_part12 c M hM I i _ _ _ _ _ _) fun ⟨v3105, v3112, v3119, v3120⟩ => ?_
  refine .bind (r_part13 c M hM I i _ _ _ _ _ _ _ _) fun ⟨v3127, v3130, v3148, v3153, v3158⟩ => ?_
  refine .bind (r_part14 c M hM I i _ _ _ _ _ _ _ _ _) fun ⟨v3173, v3194, v3196⟩ => ?_
  refine .bind (r_part15 c M hM I i _ _ _ _ _ _ _ _) fun ⟨v3232, c1_i32_1599⟩ => ?_
  refine .bind (r_part16 c M hM I i _ _ _ _ _ _ _) fun ⟨v3260, v3265, v3270⟩ => ?_
  refine .bind (r_part17 c M hM I i _ _ _ _ _ _ _ _) fun ⟨v3293, v3295, v3311, v3313⟩ => ?_
  refine .bind (r_part18 c M hM I i _ _ _ _ _) fun ⟨v3322, v3324, v3337, v3351⟩ => ?_
  refine .bind (r_part19 c M hM I i _ _ _ _) fun ⟨v3383, v3391, v3393⟩ => ?_
  refine .bind (r_part20 c M hM I i _ _ _ _ _) fun v3432 => ?_
  refine .bind (r_part21 c M hM I i _ _ _ _ _ _ _ _) fun ⟨v3444, v3451, v3458, v3465⟩ => ?_
  refine .bind (r_part22 c M hM I i _ _ _ _ _ _ _ _) fun ⟨v3488, v3506⟩ => ?_
  refine .bind (store_7 c M I) fun _ => ?_
  refine .bind (load_7 c M I) fun v3519 => ?_
  refine .bind (store_7 c M I) fun _ => ?_
  refine .bind (load_7 c M I) fun v3530 => ?_
  refine .bind (store_7 c M I) fun _ => ?_
  exact .pure _

theorem r_part113 (arg1 : BitVec 32) (v2264 : FVec F S32x256 .f32) (v2621 : FVec F S8x128 .f32) (v2622 : Vec F S1x1x8x128 .f32) :
    Runs c M I (k0_part113 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2264 v2621 v2622) (s_part113 I i arg1 v2264 v2621 v2622) := by
  rw [k0_part113_eq_skeleton]; unfold k0_part113_skel s_part113
  dsimp only []
  refine .bind (store_16 c M I) fun _ => ?_
  refine .bind (load_16 c M I) fun v2628 => ?_
  refine .bind (store_16 c M I) fun _ => ?_
  refine .bind (load_16 c M I) fun v2634 => ?_
  refine .bind (store_16 c M I) fun _ => ?_
  refine .bind (load_16 c M I) fun v2640 => ?_
  refine .bind (store_16 c M I) fun _ => ?_
  refine .bind (load_16 c M I) fun v2646 => ?_
  refine .bind (store_16 c M I) fun _ => ?_
  refine .dite (fun h => ?_) (fun h => ?_)
  ·
    refine .bind (.loop _ _ fun k _ => r_t1_body c M hM I i _ _ _ _ _ k) fun _ => ?_
    exact .pure _
  ·
    exact .pure _

theorem r_part23 (arg1 : BitVec 32) (k0_h3 : k0_cond3 i = 1#1) (c0_i32_1293 : BitVec 32) (c1_i32 : BitVec 32) (k0_t2 : Fin k0_t2_loop.trips) :
    Runs c M I (k0_part23 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 c0_i32_1293 c1_i32 k0_t2) (s_part23 I i arg1 k0_h3 c0_i32_1293 c1_i32 k0_t2) := by
  rw [k0_part23_eq_skeleton]; unfold k0_part23_skel s_part23
  refine .bind (load_8 c M I) fun v2666 => ?_
  refine .bind (load_8 c M I) fun v2673 => ?_
  refine .bind (load_8 c M I) fun v2680 => ?_
  refine .bind (load_8 c M I) fun v2687 => ?_
  refine .bind (load_16 c M I) fun v2691 => ?_
  exact .pure _

theorem r_part24 (arg1 : BitVec 32) (v2653 : IVec S128x512 1) (k0_h3 : k0_cond3 i = 1#1) (k0_t2 : Fin k0_t2_loop.trips) (arg19 : BitVec 32) (v2689 : FVec F S512x128 .fp8e4m3) (v2694 : BitVec 32) :
    Runs c M I (k0_part24 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 arg19 v2689 v2694) (s_part24 I i arg1 v2653 k0_h3 k0_t2 arg19 v2689 v2694) := by
  rw [k0_part24_eq_skeleton]; unfold k0_part24_skel s_part24
  refine .bind (load_13 c M I) fun v2701 => ?_
  refine .bind (load_14 c M I) fun v2707 => ?_
  refine .bind (load_13 c M I) fun v2719 => ?_
  refine .bind (load_14 c M I) fun v2725 => ?_
  refine .bind (load_17 c M I) fun v2732 => ?_
  exact .pure _

theorem r_part25 (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) :
    Runs c M I (k0_part25 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2689 v2731 v2734) (s_part25 I i arg1 k0_h3 k0_t2 arg19 v2689 v2731 v2734) := by
  rw [k0_part25_eq_skeleton]; unfold k0_part25_skel s_part25
  refine .bind (store_17 c M I) fun _ => ?_
  refine .bind (load_13 c M I) fun v2743 => ?_
  refine .bind (load_14 c M I) fun v2749 => ?_
  refine .bind (load_17 c M I) fun v2753 => ?_
  refine .bind (store_17 c M I) fun _ => ?_
  refine .bind (load_13 c M I) fun v2767 => ?_
  exact .pure _

theorem r_part26 (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) :
    Runs c M I (k0_part26 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2689 v2758 v2769 v2770) (s_part26 I i arg1 k0_h3 k0_t2 arg19 v2689 v2758 v2769 v2770) := by
  rw [k0_part26_eq_skeleton]; unfold k0_part26_skel s_part26
  refine .bind (load_14 c M I) fun v2773 => ?_
  refine .bind (load_17 c M I) fun v2777 => ?_
  refine .bind (store_17 c M I) fun _ => ?_
  refine .bind (load_13 c M I) fun v2791 => ?_
  refine .bind (load_14 c M I) fun v2797 => ?_
  refine .bind (load_17 c M I) fun v2801 => ?_
  refine .bind (store_17 c M I) fun _ => ?_
  exact .pure _

theorem r_part27 (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) :
    Runs c M I (k0_part27 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v2689 v2692 v2806 v2808 c5_i32_1378) (s_part27 I i k0_h3 k0_t2 arg19 v2689 v2692 v2806 v2808 c5_i32_1378) := by
  rw [k0_part27_eq_skeleton]; unfold k0_part27_skel s_part27
  refine .bind (load_13 c M I) fun v2815 => ?_
  refine .bind (load_14 c M I) fun v2821 => ?_
  refine .bind (load_17 c M I) fun v2825 => ?_
  refine .bind (store_17 c M I) fun _ => ?_
  refine .bind (load_6 c M I) fun v2836 => ?_
  exact .pure _

theorem r_part28 (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) :
    Runs c M I (k0_part28 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v2692 v2841 v2845 v2846 v2849 v2850) (s_part28 I i v2653 v2692 v2841 v2845 v2846 v2849 v2850) := by
  rw [k0_part28_eq_skeleton]; unfold k0_part28_skel s_part28
  refine .bind (load_17 c M I) fun v2871 => ?_
  refine .bind (load_18 c M I) fun v2888 => ?_
  refine .bind (store_18 c M I) fun _ => ?_
  exact .pure _

theorem r_part29 (v2692 : FVec F S8x512 .f32) (v2870 : FVec F S8x512 .f32) (v2883 : FVec F S8x512 .f32) (v2893 : FVec F S128x512 .fp8e4m3) :
    Runs c M I (k0_part29 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2870 v2883 v2893) (s_part29 I i v2692 v2870 v2883 v2893) := by
  rw [k0_part29_eq_skeleton]; unfold k0_part29_skel s_part29
  refine .bind (load_18 c M I) fun v2894 => ?_
  refine .bind (store_18 c M I) fun _ => ?_
  refine .bind (load_17 c M I) fun v2897 => ?_
  refine .bind (load_18 c M I) fun v2913 => ?_
  refine .bind (store_18 c M I) fun _ => ?_
  refine .bind (load_17 c M I) fun v2916 => ?_
  refine .bind (load_18 c M I) fun v2932 => ?_
  exact .pure _

theorem r_part30 (v2692 : FVec F S8x512 .f32) (v2870 : FVec F S8x512 .f32) (v2929 : FVec F S8x512 .f32) (v2931 : FVec F S256x512 .fp8e4m3) (v2932 : Vec F S1x256x512 .fp8e4m3) :
    Runs c M I (k0_part30 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2692 v2870 v2929 v2931 v2932) (s_part30 I i v2692 v2870 v2929 v2931 v2932) := by
  rw [k0_part30_eq_skeleton]; unfold k0_part30_skel s_part30
  refine .bind (store_18 c M I) fun _ => ?_
  refine .bind (load_17 c M I) fun v2935 => ?_
  refine .bind (load_18 c M I) fun v2951 => ?_
  refine .bind (store_18 c M I) fun _ => ?_
  refine .bind (load_17 c M I) fun v2954 => ?_
  refine .bind (load_18 c M I) fun v2970 => ?_
  refine .bind (store_18 c M I) fun _ => ?_
  exact .pure _

theorem r_part31 (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) :
    Runs c M I (k0_part31 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2839 v2841 v2868 v2967 cst_1447) (s_part31 I i arg1 k0_h3 k0_t2 arg19 v2839 v2841 v2868 v2967 cst_1447) := by
  rw [k0_part31_eq_skeleton]; unfold k0_part31_skel s_part31
  refine .bind (load_18 c M I) fun v2974 => ?_
  refine .bind (store_18 c M I) fun _ => ?_
  refine .bind (load_5 c M I) fun v2986 => ?_
  refine .bind (load_15 c M I) fun v2996 => ?_
  refine .bind (load_15 c M I) fun v3003 => ?_
  exact .pure _

theorem r_part32 (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) :
    Runs c M I (k0_part32 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v2990 v2997 v3004) (s_part32 I i arg1 k0_h3 k0_t2 arg19 v2990 v2997 v3004) := by
  rw [k0_part32_eq_skeleton]; unfold k0_part32_skel s_part32
  refine .bind (load_15 c M I) fun v3010 => ?_
  refine .bind (load_15 c M I) fun v3017 => ?_
  refine .bind (load_15 c M I) fun v3024 => ?_
  refine .bind (load_18 c M I) fun v3027 => ?_
  refine .bind (load_7 c M I) fun v3043 => ?_
  refine .bind (store_7 c M I) fun _ => ?_
  exact .pure _

theorem r_part33 (k0_h3 : k0_cond3 i = 1#1) (k0_t2 : Fin k0_t2_loop.trips) (arg19 : BitVec 32) (v3034 : FVec F S128x512 .f32) (v3047 : BitVec 32) :
    Runs c M I (k0_part33 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v3034 v3047) (s_part33 I i k0_h3 k0_t2 arg19 v3034 v3047) := by
  rw [k0_part33_eq_skeleton]; unfold k0_part33_skel s_part33
  refine .bind (load_7 c M I) fun v3054 => ?_
  refine .bind (store_7 c M I) fun _ => ?_
  refine .bind (load_7 c M I) fun v3065 => ?_
  refine .bind (store_7 c M I) fun _ => ?_
  refine .bind (load_7 c M I) fun v3076 => ?_
  refine .bind (store_7 c M I) fun _ => ?_
  refine .bind (load_8 c M I) fun v3084 => ?_
  exact .pure _

theorem r_part34 (arg1 : BitVec 32) (k0_h3 : k0_cond3 i = 1#1) (k0_t2 : Fin k0_t2_loop.trips) (arg19 : BitVec 32) (v3085 : FVec F S128x128 .fp8e4m3) (c4_i32_1509 : BitVec 32) :
    Runs c M I (k0_part34 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3085 c4_i32_1509) (s_part34 I i arg1 k0_h3 k0_t2 arg19 v3085 c4_i32_1509) := by
  rw [k0_part34_eq_skeleton]; unfold k0_part34_skel s_part34
  refine .bind (load_8 c M I) fun v3091 => ?_
  refine .bind (load_8 c M I) fun v3098 => ?_
  refine .bind (load_8 c M I) fun v3105 => ?_
  refine .bind (load_16 c M I) fun v3109 => ?_
  refine .bind (load_13 c M I) fun v3119 => ?_
  exact .pure _

theorem r_part35 (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) :
    Runs c M I (k0_part35 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 arg19 v3107 v3115 v3121) (s_part35 I i arg1 v2653 k0_h3 k0_t2 arg19 v3107 v3115 v3121) := by
  rw [k0_part35_eq_skeleton]; unfold k0_part35_skel s_part35
  refine .bind (load_14 c M I) fun v3125 => ?_
  refine .bind (load_13 c M I) fun v3137 => ?_
  refine .bind (load_14 c M I) fun v3143 => ?_
  refine .bind (load_17 c M I) fun v3150 => ?_
  refine .bind (store_17 c M I) fun _ => ?_
  exact .pure _

theorem r_part36 (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) :
    Runs c M I (k0_part36 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3107 v3149 v3157) (s_part36 I i arg1 k0_h3 k0_t2 arg19 v3107 v3149 v3157) := by
  rw [k0_part36_eq_skeleton]; unfold k0_part36_skel s_part36
  refine .bind (load_13 c M I) fun v3161 => ?_
  refine .bind (load_14 c M I) fun v3167 => ?_
  refine .bind (load_17 c M I) fun v3171 => ?_
  refine .bind (store_17 c M I) fun _ => ?_
  refine .bind (load_13 c M I) fun v3185 => ?_
  refine .bind (load_14 c M I) fun v3191 => ?_
  refine .bind (load_17 c M I) fun v3195 => ?_
  refine .bind (store_17 c M I) fun _ => ?_
  exact .pure _

theorem r_part37 (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) :
    Runs c M I (k0_part37 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3107 v3176 v3198) (s_part37 I i arg1 k0_h3 k0_t2 arg19 v3107 v3176 v3198) := by
  rw [k0_part37_eq_skeleton]; unfold k0_part37_skel s_part37
  refine .bind (load_13 c M I) fun v3209 => ?_
  refine .bind (load_14 c M I) fun v3215 => ?_
  refine .bind (load_17 c M I) fun v3219 => ?_
  refine .bind (store_17 c M I) fun _ => ?_
  refine .bind (load_13 c M I) fun v3233 => ?_
  exact .pure _

theorem r_part38 (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) :
    Runs c M I (k0_part38 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 k0_h3 k0_t2 arg19 v3110 v3224 v3229 v3235 c0_i32_1595) (s_part38 I i k0_h3 k0_t2 arg19 v3110 v3224 v3229 v3235 c0_i32_1595) := by
  rw [k0_part38_eq_skeleton]; unfold k0_part38_skel s_part38
  refine .bind (load_14 c M I) fun v3239 => ?_
  refine .bind (load_17 c M I) fun v3243 => ?_
  refine .bind (store_17 c M I) fun _ => ?_
  refine .bind (load_6 c M I) fun v3254 => ?_
  exact .pure _

theorem r_part39 (v2653 : IVec S128x512 1) (v3110 : FVec F S8x512 .f32) (v3259 : FVec F S8x512 .f32) (v3277 : IVec S8x512 1) (v3279 : IVec S8x512 32) :
    Runs c M I (k0_part39 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v2653 v3110 v3259 v3277 v3279) (s_part39 I i v2653 v3110 v3259 v3277 v3279) := by
  rw [k0_part39_eq_skeleton]; unfold k0_part39_skel s_part39
  refine .bind (load_17 c M I) fun v3289 => ?_
  refine .bind (load_18 c M I) fun v3306 => ?_
  refine .bind (store_18 c M I) fun _ => ?_
  refine .bind (load_18 c M I) fun v3312 => ?_
  refine .bind (store_18 c M I) fun _ => ?_
  refine .bind (load_17 c M I) fun v3315 => ?_
  exact .pure _

theorem r_part40 (v3110 : FVec F S8x512 .f32) (v3288 : FVec F S8x512 .f32) (v3301 : FVec F S8x512 .f32) (v3317 : FVec F S32x8x512 .f32) (v3318 : FVec F S1x8x512 .f32) :
    Runs c M I (k0_part40 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3110 v3288 v3301 v3317 v3318) (s_part40 I i v3110 v3288 v3301 v3317 v3318) := by
  rw [k0_part40_eq_skeleton]; unfold k0_part40_skel s_part40
  refine .bind (load_18 c M I) fun v3331 => ?_
  refine .bind (store_18 c M I) fun _ => ?_
  refine .bind (load_17 c M I) fun v3334 => ?_
  refine .bind (load_18 c M I) fun v3350 => ?_
  refine .bind (store_18 c M I) fun _ => ?_
  refine .bind (load_17 c M I) fun v3353 => ?_
  exact .pure _

theorem r_part41 (v3110 : FVec F S8x512 .f32) (v3286 : FVec F S8x512 .f32) (v3288 : FVec F S8x512 .f32) (v3347 : FVec F S8x512 .f32) (v3358 : FVec F S32x8x512 .f32) (v3360 : FVec F S32x8x512 .f32) :
    Runs c M I (k0_part41 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 v3110 v3286 v3288 v3347 v3358 v3360) (s_part41 I i v3110 v3286 v3288 v3347 v3358 v3360) := by
  rw [k0_part41_eq_skeleton]; unfold k0_part41_skel s_part41
  refine .bind (load_18 c M I) fun v3369 => ?_
  refine .bind (store_18 c M I) fun _ => ?_
  refine .bind (load_17 c M I) fun v3372 => ?_
  refine .bind (load_18 c M I) fun v3388 => ?_
  refine .bind (store_18 c M I) fun _ => ?_
  refine .bind (load_18 c M I) fun v3392 => ?_
  refine .bind (store_18 c M I) fun _ => ?_
  exact .pure _

theorem r_part42 (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) :
    Runs c M I (k0_part42 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3257 v3259 v3286 v3399) (s_part42 I i arg1 k0_h3 k0_t2 arg19 v3257 v3259 v3286 v3399) := by
  rw [k0_part42_eq_skeleton]; unfold k0_part42_skel s_part42
  refine .bind (load_5 c M I) fun v3404 => ?_
  refine .bind (load_15 c M I) fun v3414 => ?_
  refine .bind (load_15 c M I) fun v3421 => ?_
  refine .bind (load_15 c M I) fun v3428 => ?_
  refine .bind (load_15 c M I) fun v3435 => ?_
  exact .pure _

theorem r_part43 (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) :
    Runs c M I (k0_part43 i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 k0_h3 k0_t2 arg19 v3408 v3415 v3422 v3429 v3436) (s_part43 I i arg1 k0_h3 k0_t2 arg19 v3408 v3415 v3422 v3429 v3436) := by
  rw [k0_part43_eq_skeleton]; unfold k0_part43_skel s_part43
  refine .bind (load_15 c M I) fun v3442 => ?_
  refine .bind (load_18 c M I) fun v3445 => ?_
  refine .bind (load_7 c M I) fun v3461 => ?_
  refine .bind (store_7 c M I) fun _ => ?_
  refine .bind (load_7 c M I) fun v3472 => ?_
  refine .bind (store_7 c M I) fun _ => ?_
  exact .pure _

theorem r_t2_body (arg1 : BitVec 32) (v2653 : IVec S128x512 1) (k0_h3 : k0_cond3 i = 1#1) (k0_t2 : Fin k0_t2_loop.trips) :
    Runs c M I (k0_t2_body i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 arg1 v2653 k0_h3 k0_t2 ⟨⟩) (s_t2_body I i arg1 v2653 k0_h3 k0_t2) := by
  unfold k0_t2_body s_t2_body
  refine .bind (r_part23 c M hM I i _ _ _ _ _) fun ⟨arg19, v2689, v2692, v2694⟩ => ?_
  refine .bind (r_part24 c M hM I i _ _ _ _ _ _ _) fun ⟨v2731, v2734⟩ => ?_
  refine .bind (r_part25 c M hM I i _ _ _ _ _ _ _) fun ⟨v2758, v2769, v2770⟩ => ?_
  refine .bind (r_part26 c M hM I i _ _ _ _ _ _ _ _) fun ⟨v2806, v2808, c5_i32_1378⟩ => ?_
  refine .bind (r_part27 c M hM I i _ _ _ _ _ _ _ _) fun ⟨v2839, v2841, v2845, v2846, v2849, v2850⟩ => ?_
  refine .bind (r_part28 c M hM I i _ _ _ _ _ _ _) fun ⟨v2868, v2870, v2883, v2893⟩ => ?_
  refine .bind (r_part29 c M hM I i _ _ _ _) fun ⟨v2929, v2931, v2932⟩ => ?_
  refine .bind (r_part30 c M hM I i _ _ _ _ _) fun ⟨v2967, cst_1447⟩ => ?_
  refine .bind (r_part31 c M hM I i _ _ _ _ _ _ _ _ _) fun ⟨v2990, v2997, v3004⟩ => ?_
  refine .bind (r_part32 c M hM I i _ _ _ _ _ _ _) fun ⟨v3034, v3047⟩ => ?_
  refine .bind (r_part33 c M hM I i _ _ _ _ _) fun ⟨v3085, c4_i32_1509⟩ => ?_
  refine .bind (r_part34 c M hM I i _ _ _ _ _ _) fun ⟨v3107, v3110, v3115, v3121⟩ => ?_
  refine .bind (r_part35 c M hM I i _ _ _ _ _ _ _ _) fun ⟨v3149, v3157⟩ => ?_
  refine .bind (r_part36 c M hM I i _ _ _ _ _ _ _) fun ⟨v3176, v3198⟩ => ?_
  refine .bind (r_part37 c M hM I i _ _ _ _ _ _ _) fun ⟨v3224, v3229, v3235, c0_i32_1595⟩ => ?_
  refine .bind (r_part38 c M hM I i _ _ _ _ _ _ _ _) fun ⟨v3257, v3259, v3277, v3279⟩ => ?_
  refine .bind (r_part39 c M hM I i _ _ _ _ _) fun ⟨v3286, v3288, v3301, v3317, v3318⟩ => ?_
  refine .bind (r_part40 c M hM I i _ _ _ _ _) fun ⟨v3347, v3358, v3360⟩ => ?_
  refine .bind (r_part41 c M hM I i _ _ _ _ _ _) fun v3399 => ?_
  refine .bind (r_part42 c M hM I i _ _ _ _ _ _ _ _) fun ⟨v3408, v3415, v3422, v3429, v3436⟩ => ?_
  refine .bind (r_part43 c M hM I i _ _ _ _ _ _ _ _ _) fun ⟨v3452, c4_i32_1706⟩ => ?_
  refine .bind (load_7 c M I) fun v3483 => ?_
  refine .bind (store_7 c M I) fun _ => ?_
  refine .bind (load_7 c M I) fun v3494 => ?_
  refine .bind (store_7 c M I) fun _ => ?_
  exact .pure _

theorem r_attn  :
    Runs c M I (cc0_attn i M.a2 hM.h2 M.a3 hM.h3 M.a4 hM.h4 M.a5 hM.h5 M.a6 hM.h6 M.a7 hM.h7 M.a8 hM.h8 M.a9 hM.h9 M.a10 hM.h10 M.a11 hM.h11 M.a12 hM.h12 M.a13 hM.h13 M.a14 hM.h14 M.a15 hM.h15 M.a16 hM.h16 M.a17 hM.h17 M.a18 hM.h18 ) (s_attn I i ) := by
  rw [cc0_attn_eq_skeleton]; unfold cc0_attn_skel s_attn
  dsimp only []
  refine .bind (r_part114 c M hM I i ) fun ⟨arg1, v2264, v2327⟩ => ?_
  refine .bind (r_part104 c M hM I i _ _) fun v2361 => ?_
  refine .bind (r_part105 c M hM I i _ _) fun v2393 => ?_
  refine .bind (r_part106 c M hM I i _ _) fun _ => ?_
  refine .bind (r_part107 c M hM I i _) fun v2459 => ?_
  refine .bind (r_part108 c M hM I i _ _) fun v2492 => ?_
  refine .bind (r_part109 c M hM I i _ _) fun v2525 => ?_
  refine .bind (r_part110 c M hM I i _ _) fun v2555 => ?_
  refine .bind (r_part111 c M hM I i _ _) fun v2591 => ?_
  refine .bind (r_part112 c M hM I i _ _) fun ⟨v2621, v2622⟩ => ?_
  refine .bind (r_part113 c M hM I i _ _ _ _) fun ⟨v2653, c4_i32_1291⟩ => ?_
  refine .dite (fun h => ?_) (fun h => ?_)
  ·
    refine .bind (.loop _ _ fun k _ => r_t2_body c M hM I i _ _ _ k) fun _ => ?_
    exact .pure _
  ·
    exact .pure _

end Cert.KernelIdeal.Run

end
-- ==== Proof.PI.Point.lean ====
/-
  One point of the grid: the memrefs the body is called with there, the blocks it reads, and the run of the body at the
  point from any state of the blocks and buffers it writes, with anything else framed.
-/
module

public import proofs.«01_k».proof.Proof.PI.RunsBody
public import proofs.«01_k».proof.Proof.Gen.KernelIdeal.Points
public import proofs.«01_k».proof.Proof.Gen.KernelIdeal.Launch
public import Idealize.ShloMosaic.Lib.Pipeline.Frame

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The memrefs at point `t`. -/
def memAt (t : Fin cfg0.N) : Mem where
  a2 := win0_0.stage (cfg0.slots t 0)
  a3 := win0_1.stage (cfg0.slots t 1)
  a4 := win0_2.stage (cfg0.slots t 2)
  a5 := win0_3.stage (cfg0.slots t 3)
  a6 := win0_4.stage (cfg0.slots t 4)
  a7 := win0_5.stage (cfg0.slots t 5)
  a8 := win0_6.stage (cfg0.slots t 6)
  a9 := win0_7.stage (cfg0.slots t 7)
  a10 := win0_8.stage (cfg0.slots t 8)
  a11 := win0_9.stage (cfg0.slots t 9)
  a12 := win0_10.stage (cfg0.slots t 10)
  a13 := Memref.whole cc0_scratch0
  a14 := Memref.whole cc0_scratch1
  a15 := Memref.whole cc0_scratch2
  a16 := Memref.whole cc0_scratch3
  a17 := Memref.whole cc0_scratch4
  a18 := Memref.whole cc0_scratch5

theorem wholeAt (t : Fin cfg0.N) : (memAt t).Whole where
  h2 := hstage0_0 ((cfg0.slots t 0).cast nbuf0_0)
  h3 := hstage0_1 ((cfg0.slots t 1).cast nbuf0_1)
  h4 := hstage0_2 ((cfg0.slots t 2).cast nbuf0_2)
  h5 := hstage0_3 ((cfg0.slots t 3).cast nbuf0_3)
  h6 := hstage0_4 ((cfg0.slots t 4).cast nbuf0_4)
  h7 := hstage0_5 ((cfg0.slots t 5).cast nbuf0_5)
  h8 := hstage0_6 ((cfg0.slots t 6).cast nbuf0_6)
  h9 := hstage0_7 ((cfg0.slots t 7).cast nbuf0_7)
  h10 := hstage0_8 ((cfg0.slots t 8).cast nbuf0_8)
  h11 := hstage0_9 ((cfg0.slots t 9).cast nbuf0_9)
  h12 := hstage0_10 ((cfg0.slots t 10).cast nbuf0_10)
  h13 := Memref.isWhole_whole _
  h14 := Memref.isWhole_whole _
  h15 := Memref.isWhole_whole _
  h16 := Memref.isWhole_whole _
  h17 := Memref.isWhole_whole _
  h18 := Memref.isWhole_whole _

variable (m : (ℓ : Loc nD τ sig) → Buf (Elt F) ℓ)

/-- The blocks point `t` reads. -/
def inAt (c : Dev nD) (t : Fin cfg0.N) : In F where
  a2 := iblk m c 0 t
  a3 := iblk m c 1 t
  a4 := iblk m c 2 t
  a5 := iblk m c 3 t
  a6 := iblk m c 4 t

/-- The body at point `t`, from any state, whatever else is held. -/
theorem point_run (c : Dev nD) (t : Fin cfg0.N) (I : In F) (s : St F) (R : sProp 𝕄) :
    iprop(Own c (memAt t) I s ∗ R) ⊢ wpB c (bodyAt0 t)
      (fun _ => iprop(Own c (memAt t) I (s_attn I (grid0.coords t) s).2 ∗ R)) := by
  have h : Own c (memAt t) I s ⊢ wpB c (bodyAt0 t) (fun _ => Own c (memAt t) I (s_attn I (grid0.coords t) s).2) :=
    r_attn c (memAt t) (wholeAt t) I (grid0.coords t) s _ .rfl
  exact BIBase.Entails.trans (sep_mono_l h) (wp_frame_r _ _ _)

/-- The class invariant at a point, conjunct by conjunct: each scratch buffer at some contents, the generator
    register at some state. -/
theorem PhiA_eq (c : Dev nD) (t : Fin cfg0.N) :
    (Pipeline.ΦA spec0 c : sProp 𝕄)
      = iprop(iprop((∃ d, owns (c : Thread nD τ) (memAt t).a13 fullShare d) ∗ (∃ d, owns (c : Thread nD τ) (memAt t).a14 fullShare d) ∗ (∃ d, owns (c : Thread nD τ) (memAt t).a15 fullShare d) ∗ (∃ d, owns (c : Thread nD τ) (memAt t).a16 fullShare d) ∗ (∃ d, owns (c : Thread nD τ) (memAt t).a17 fullShare d) ∗ (∃ d, owns (c : Thread nD τ) (memAt t).a18 fullShare d)) ∗ (∃ r, prngReg c r)) := by
  unfold Pipeline.ΦA
  rw [scopedRest0_eq]; simp only [memAt, owns_whole]; try rfl

end Cert.KernelIdeal.Run

end
-- ==== Proof.PI.Frame.lean ====
/-
  The frame of the program: the body obligation with every result forgotten, the launch, and what the run leaves in
  the arguments and the semaphores.
-/
module

public import proofs.«01_k».proof.Proof.PI.Point

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- The results are forgotten: nothing here reads what the body leaves in them. -/
def forgets0 : Fin 11 → Bool := fun w => decide (5 ≤ w.val)

/-- The proof data on core `c`: the arrays as the region finds them, the inputs' blocks unchanged, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (memAt t).a2 fullShare ((dats m 0 c).before 0 t d))
    ∗ (∃ d, owns (c : Thread nD τ) (memAt t).a3 fullShare ((dats m 0 c).before 1 t d))
    ∗ (∃ d, owns (c : Thread nD τ) (memAt t).a4 fullShare ((dats m 0 c).before 2 t d))
    ∗ (∃ d, owns (c : Thread nD τ) (memAt t).a5 fullShare ((dats m 0 c).before 3 t d))
    ∗ (∃ d, owns (c : Thread nD τ) (memAt t).a6 fullShare ((dats m 0 c).before 4 t d))
    ∗ (∃ d, owns (c : Thread nD τ) (memAt t).a7 fullShare d)
    ∗ (∃ d, owns (c : Thread nD τ) (memAt t).a8 fullShare d)
    ∗ (∃ d, owns (c : Thread nD τ) (memAt t).a9 fullShare d)
    ∗ (∃ d, owns (c : Thread nD τ) (memAt t).a10 fullShare d)
    ∗ (∃ d, owns (c : Thread nD τ) (memAt t).a11 fullShare d)
    ∗ (∃ d, owns (c : Thread nD τ) (memAt t).a12 fullShare d))
def bodyPost (c : Dev nD) (t : Fin cfg0.N) : sProp 𝕄 :=
  iprop((dats m 0 c).Φ t.succ ∗ (dats m 0 c).owesAt () t.succ
    ∗ owns (c : Thread nD τ) (memAt t).a2 fullShare ((dats m 0 c).after 0 t)
    ∗ owns (c : Thread nD τ) (memAt t).a3 fullShare ((dats m 0 c).after 1 t)
    ∗ owns (c : Thread nD τ) (memAt t).a4 fullShare ((dats m 0 c).after 2 t)
    ∗ owns (c : Thread nD τ) (memAt t).a5 fullShare ((dats m 0 c).after 3 t)
    ∗ owns (c : Thread nD τ) (memAt t).a6 fullShare ((dats m 0 c).after 4 t)
    ∗ (∃ d, owns (c : Thread nD τ) (memAt t).a7 fullShare d)
    ∗ (∃ d, owns (c : Thread nD τ) (memAt t).a8 fullShare d)
    ∗ (∃ d, owns (c : Thread nD τ) (memAt t).a9 fullShare d)
    ∗ (∃ d, owns (c : Thread nD τ) (memAt t).a10 fullShare d)
    ∗ (∃ d, owns (c : Thread nD τ) (memAt t).a11 fullShare d)
    ∗ (∃ d, owns (c : Thread nD τ) (memAt t).a12 fullShare d))

/-- The body at the point: the buffers gathered into a state, the run, and the buffers handed back. -/
theorem sound_body (c : Dev nD) (t : Fin cfg0.N) :
    bodyPre m c t ⊢ wpB c (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq c t]
  simp only [before0_0_of m (dats m 0 c) (A_eq m c 0) (fun t => after_0 m c t), before0_1_of m (dats m 0 c) (A_eq m c 1) (fun t => after_1 m c t), before0_2_of m (dats m 0 c) (A_eq m c 2) (fun t => after_2 m c t), before0_3_of m (dats m 0 c) (A_eq m c 3) (fun t => after_3 m c t), before0_4_of m (dats m 0 c) (A_eq m c 4) (fun t => after_4 m c t)]
  iintro ⟨⟨⟨⟨%d13, H13⟩, ⟨%d14, H14⟩, ⟨%d15, H15⟩, ⟨%d16, H16⟩, ⟨%d17, H17⟩, ⟨%d18, H18⟩⟩, Hg⟩, HO, ⟨%e2, H2⟩, ⟨%e3, H3⟩, ⟨%e4, H4⟩, ⟨%e5, H5⟩, ⟨%e6, H6⟩, ⟨%d7, H7⟩, ⟨%d8, H8⟩, ⟨%d9, H9⟩, ⟨%d10, H10⟩, ⟨%d11, H11⟩, ⟨%d12, H12⟩⟩
  ihave HW := point_run c t (inAt m c t) ⟨d7, d8, d9, d10, d11, d12, d13, d14, d15, d16, d17, d18⟩ (iprop((∃ r, prngReg c r) ∗ (dats m 0 c).owesAt () t.castSucc)) $$ [H2 H3 H4 H5 H6 H7 H8 H9 H10 H11 H12 H13 H14 H15 H16 H17 H18 Hg HO]
  · unfold Own
    isplitr [Hg HO]; swap
    · isplitl [Hg] <;> iassumption
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iapply (wp_wand_r _ _ _)
  isplitl [HW]; · iexact HW
  iintro %u ⟨HS, Hg, HO⟩
  unfold Own
  icases HS with ⟨H2, H3, H4, H5, H6, H7, H8, H9, H10, H11, H12, H13, H14, H15, H16, H17, H18⟩
  isplitl [Hg H13 H14 H15 H16 H17 H18]
  · isplitr [Hg]; swap; · iexact Hg
    isplitl [H13]; · iexists _; iexact H13
    isplitl [H14]; · iexists _; iexact H14
    isplitl [H15]; · iexists _; iexact H15
    isplitl [H16]; · iexists _; iexact H16
    isplitl [H17]; · iexists _; iexact H17
    iexists _; iexact H18
  isplitl [HO]; · iexact HO
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- From any memory with zero counters every execution terminates; at the end the staged inputs and the bypassing
    buffers hold what they held at the region's entry, and every counter is zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The arguments end as they began and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨(h.1.arr_in c 0 rfl).trans (V_main_arg0 m c), (h.1.arr_in c 1 rfl).trans (V_main_arg1 m c),
      (h.1.arr_in c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.KernelIdeal.Run

end
-- ==== Proof.PI.Parts.lean ====
/-
  Each stretch of the body before the attention loops, as one equation: the values it hands on and the state it leaves.
-/
module

public import proofs.«01_k».proof.Proof.PI.Steps

@[expose] public section

noncomputable section

namespace Cert.KernelIdeal.Run

open Cert.KernelIdeal Cert.KernelIdeal.Gen
open Idealize.ShloMosaic Idealize.SL.Sem

variable {F : FTy → Type} [FloatOps F] [Named F]

variable (a7 : S1x256x4096.Idx → Elt F .bf16) (a8 : S1x256x4096.Idx → Elt F .fp8e4m3) (a9 : S1x256x32.Idx → Elt F .f32) (a10 : S1x256x1024.Idx → Elt F .fp8e4m3) (a11 : S1x256x8.Idx → Elt F .f32) (a12 : S1x256x1024.Idx → Elt F .fp8e4m3) (a13 : S8x1280x128.Idx → Elt F .fp8e4m3) (a14 : S8x1280x128.Idx → Elt F .f32) (a15 : S8x5x128x256.Idx → Elt F .fp8e4m3) (a16 : S2x8x8x512.Idx → Elt F .f32) (a17 : S5x256x512.Idx → Elt F .f32) (a18 : S5x256x512.Idx → Elt F .fp8e4m3)

/-- The key ring as the first point of a batch clears it. -/
def init13 (i : grid0.Coords) (a13 : S8x1280x128.Idx → Elt F .fp8e4m3) : S8x1280x128.Idx → Elt F .fp8e4m3 :=
  if Scalar.cmpi .ne (Scalar.extui (Scalar.cmpi .eq (BitVec.ofNat 32 (i 1).val) 0#32)) 0#32 = 1#1 then
    VecWindow.put a13 ![0, 0, 0] S8x1280x128.size (k0_pay219 (F := F)) else a13

/-- The value ring as the first point of a batch clears it. -/
def init15 (i : grid0.Coords) (a15 : S8x5x128x256.Idx → Elt F .fp8e4m3) : S8x5x128x256.Idx → Elt F .fp8e4m3 :=
  if Scalar.cmpi .ne (Scalar.extui (Scalar.cmpi .eq (BitVec.ofNat 32 (i 1).val) 0#32)) 0#32 = 1#1 then
    VecWindow.put a15 ![0, 0, 0, 0] S8x5x128x256.size (k0_pay220 (F := F)) else a15

theorem e_part44 (I : In F) (i : grid0.Coords) :
    s_part44 I i ⟨a7, a8, a9, a10, a11, a12, a13, a14, a15, a16, a17, a18⟩ =
      (⟨(BitVec.ofNat 32 (i 1).val), (Scalar.remsi (BitVec.ofNat 32 (i 1).val) 5#32), (k0_pay221 (VecWindow.window I.a3 (![0, 0, 0]) S1x256x128.size inb_S1x256x1024_S1x256x128_0_0_0)), (k0_pay223 (VecWindow.window I.a3 (![0, 0, 0]) S1x256x128.size inb_S1x256x1024_S1x256x128_0_0_0)), (k0_pay224 (VecWindow.window I.a3 (![0, 0, 0]) S1x256x128.size inb_S1x256x1024_S1x256x128_0_0_0))⟩, ⟨a7, a8, a9, a10, a11, a12, (init13 i a13), a14, (init15 i a15), a16, a17, a18⟩) := by
  unfold s_part44 init13 init15
  simp only [PM.bind_apply]
  split <;> rfl

theorem e_part45 (I : In F) (i : grid0.Coords) (v0 : BitVec 32) (v6 : FVec F S256x128 .f32) (v34 : FVec F S256x1 .f32) (v38 : IVec S256x1 32) :
    s_part45 I i v0 v6 v34 v38 ⟨a7, a8, a9, a10, a11, a12, a13, a14, a15, a16, a17, a18⟩ =
      (⟨(k0_pay230 (VecWindow.window I.a4 (![0, 0, 0]) S1x256x128.size inb_S1x256x1024_S1x256x128_0_0_0)), (k0_pay231 (VecWindow.window I.a5 (![0, 0, 0, 0]) S1x1x1x128.size inb_S1x8x8x128_S1x1x1x128_0_0_0_0))⟩, ⟨a7, a8, a9, (VecWindow.put a10 (![0, 0, 0]) S1x256x128.size (k0_pay228 v6 v38)), (VecWindow.put a11 (![0, 0, 0]) S1x256x1.size (k0_pay229 v34)), a12, (VecWindow.put a13 (k0_off1 i) S1x256x128.size (k0_pay226 v6 v38)), (VecWindow.put a14 (k0_off1 i) S1x256x128.size (k0_pay227 v34)), a15, a16, a17, a18⟩) := rfl

theorem e_part46 (I : In F) (i : grid0.Coords) (v0 : BitVec 32) (v71 : FVec F S256x128 .f32) (v72 : FVec F S256x128 .f32) :
    s_part46 I i v0 v71 v72 ⟨a7, a8, a9, a10, a11, a12, a13, a14, a15, a16, a17, a18⟩ =
      (⟨(k0_pay235 (VecWindow.window I.a3 (![0, 0, 128]) S1x256x128.size inb_S1x256x1024_S1x256x128_0_0_128)), (k0_pay236 (VecWindow.window I.a3 (![0, 0, 128]) S1x256x128.size inb_S1x256x1024_S1x256x128_0_0_128)), (k0_pay237 (VecWindow.window I.a3 (![0, 0, 128]) S1x256x128.size inb_S1x256x1024_S1x256x128_0_0_128)), k0_pay238⟩, ⟨a7, a8, a9, a10, a11, (VecWindow.put a12 (![0, 0, 0]) S1x256x128.size (k0_pay233 v71 v72)), a13, a14, (VecWindow.put a15 (k0_off2 i) S1x1x128x256.size (k0_pay234 v71 v72)), a16, a17, a18⟩) := rfl

theorem e_part47 (I : In F) (i : grid0.Coords) (v0 : BitVec 32) (v92 : FVec F S256x128 .f32) (v109 : IVec S256x1 32) (v111 : IVec S256x1 1) (v112 : IVec S256x1 32) :
    s_part47 I i v0 v92 v109 v111 v112 ⟨a7, a8, a9, a10, a11, a12, a13, a14, a15, a16, a17, a18⟩ =
      ((k0_pay245 (F := F) v109 v111 v112), ⟨a7, a8, a9, (VecWindow.put a10 (![0, 0, 128]) S1x256x128.size (k0_pay244 v92 v109 v111 v112)), a11, a12, (VecWindow.put a13 (k0_off3 i) S1x256x128.size (k0_pay242 v92 v109 v111 v112)), (VecWindow.put a14 (k0_off3 i) S1x256x128.size (k0_pay243 (F := F) v109 v111 v112)), a15, a16, a17, a18⟩) := rfl

theorem e_part48 (I : In F) (i : grid0.Coords) (v0 : BitVec 32) (v150 : FVec F S1x256x1 .f32) :
    s_part48 I i v0 v150 ⟨a7, a8, a9, a10, a11, a12, a13, a14, a15, a16, a17, a18⟩ =
      (⟨(k0_pay249 (VecWindow.window I.a3 (![0, 0, 256]) S1x256x128.size inb_S1x256x1024_S1x256x128_0_0_256)), (k0_pay250 (VecWindow.window I.a3 (![0, 0, 256]) S1x256x128.size inb_S1x256x1024_S1x256x128_0_0_256)), (iota .tc S256x1x256 32 [2] iota_S256x1x256_d2_w32), k0_pay251⟩, ⟨a7, a8, a9, a10, (VecWindow.put a11 (![0, 0, 1]) S1x256x1.size v150), (VecWindow.put a12 (![0, 0, 128]) S1x256x128.size (k0_pay247 (VecWindow.window I.a5 (![0, 1, 0, 0]) S1x1x1x128.size inb_S1x8x8x128_S1x1x1x128_0_1_0_0) (VecWindow.window I.a4 (![0, 0, 128]) S1x256x128.size inb_S1x256x1024_S1x256x128_0_0_128))), a13, a14, (VecWindow.put a15 (k0_off4 i) S1x1x128x256.size (k0_pay248 (VecWindow.window I.a5 (![0, 1, 0, 0]) S1x1x1x128.size inb_S1x8x8x128_S1x1x1x128_0_1_0_0) (VecWindow.window I.a4 (![0, 0, 128]) S1x256x128.size inb_S1x256x1024_S1x256x128_0_0_128))), a16, a17, a18⟩) := rfl

theorem e_part49 (I : In F) (i : grid0.Coords) (v0 : BitVec 32) (v178 : FVec F S256x128 .f32) (v183 : FVec F S256x1 .f32) (v184 : IVec S256x1x256 32) (v185 : IVec S256x1x256 32) :
    s_part49 I i v0 v178 v183 v184 v185 ⟨a7, a8, a9, a10, a11, a12, a13, a14, a15, a16, a17, a18⟩ =
      (⟨(k0_pay253 v183 v184 v185), (k0_pay254 v178 v183 v184 v185), (k0_pay256 v183 v184 v185)⟩, ⟨a7, a8, a9, a10, a11, a12, (VecWindow.put a13 (k0_off5 i) S1x256x128.size (k0_pay255 v178 v183 v184 v185)), a14, a15, a16, a17, a18⟩) := rfl

theorem e_part50 (I : In F) (i : grid0.Coords) (v0 : BitVec 32) (v206 : FVec F S256x1 .f32) (v218 : FVec F S256x128 .fp8e4m3) (v225 : FVec F S256x128 .f32) :
    s_part50 I i v0 v206 v218 v225 ⟨a7, a8, a9, a10, a11, a12, a13, a14, a15, a16, a17, a18⟩ =
      ((k0_pay262 (VecWindow.window I.a5 (![0, 2, 0, 0]) S1x1x1x128.size inb_S1x8x8x128_S1x1x1x128_0_2_0_0) (VecWindow.window I.a4 (![0, 0, 256]) S1x256x128.size inb_S1x256x1024_S1x256x128_0_0_256)), ⟨a7, a8, a9, (VecWindow.put a10 (![0, 0, 256]) S1x256x128.size (k0_pay258 v218)), (VecWindow.put a11 (![0, 0, 2]) S1x256x1.size (k0_pay259 v206)), (VecWindow.put a12 (![0, 0, 256]) S1x256x128.size (k0_pay261 (VecWindow.window I.a5 (![0, 2, 0, 0]) S1x1x1x128.size inb_S1x8x8x128_S1x1x1x128_0_2_0_0) (VecWindow.window I.a4 (![0, 0, 256]) S1x256x128.size inb_S1x256x1024_S1x256x128_0_0_256))), a13, (VecWindow.put a14 (k0_off5 i) S1x256x128.size (k0_pay257 v225)), a15, a16, a17, a18⟩) := rfl

theorem e_part51 (I : In F) (i : grid0.Coords) (v261 : FVec F S1x1x128x256 .fp8e4m3) :
    s_part51 I i v261 ⟨a7, a8, a9, a10, a11, a12, a13, a14, a15, a16, a17, a18⟩ =
      (⟨(k0_pay265 (VecWindow.window I.a3 (![0, 0, 384]) S1x256x128.size inb_S1x256x1024_S1x256x128_0_0_384)), (k0_pay266 (VecWindow.window I.a3 (![0, 0, 384]) S1x256x128.size inb_S1x256x1024_S1x256x128_0_0_384))⟩, ⟨a7, a8, a9, a10, a11, a12, a13, a14, (VecWindow.put a15 (k0_off6 i) S1x1x128x256.size v261), a16, a17, a18⟩) := rfl

theorem e_part52 (I : In F) (i : grid0.Coords) (v0 : BitVec 32) (v292 : FVec F S256x1 .f32) (v303 : FVec F S256x128 .f32) :
    s_part52 I i v0 v292 v303 ⟨a7, a8, a9, a10, a11, a12, a13, a14, a15, a16, a17, a18⟩ =
      ((k0_pay272 (VecWindow.window I.a5 (![0, 3, 0, 0]) S1x1x1x128.size inb_S1x8x8x128_S1x1x1x128_0_3_0_0) (VecWindow.window I.a4 (![0, 0, 384]) S1x256x128.size inb_S1x256x1024_S1x256x128_0_0_384)), ⟨a7, a8, a9, (VecWindow.put a10 (![0, 0, 384]) S1x256x128.size (k0_pay270 v303)), (VecWindow.put a11 (![0, 0, 3]) S1x256x1.size (k0_pay271 v292)), a12, (VecWindow.put a13 (k0_off7 i) S1x256x128.size (k0_pay268 v303)), (VecWindow.put a14 (k0_off7 i) S1x256x128.size (k0_pay269 v292)), a15, a16, a17, a18⟩) := rfl

theorem e_part53 (I : In F) (i : grid0.Coords) (v0 : BitVec 32) (v336 : FVec F S256x128 .fp8e4m3) :
    s_part53 I i v0 v336 ⟨a7, a8, a9, a10, a11, a12, a13, a14, a15, a16, a17, a18⟩ =
      (⟨(k0_pay275 (VecWindow.window I.a3 (![0, 0, 512]) S1x256x128.size inb_S1x256x1024_S1x256x128_0_0_512)), (k0_pay276 (VecWindow.window I.a3 (![0, 0, 512]) S1x256x128.size inb_S1x256x1024_S1x256x128_0_0_512)), (k0_pay277 (VecWindow.window I.a3 (![0, 0, 512]) S1x256x128.size inb_S1x256x1024_S1x256x128_0_0_512)), k0_pay278⟩, ⟨a7, a8, a9, a10, a11, (VecWindow.put a12 (![0, 0, 384]) S1x256x128.size (k0_pay273 v336)), a13, a14, (VecWindow.put a15 (k0_off8 i) S1x1x128x256.size (k0_pay274 v336)), a16, a17, a18⟩) := rfl

theorem e_part54 (I : In F) (i : grid0.Coords) (v0 : BitVec 32) (v350 : FVec F S256x128 .f32) (v373 : IVec S256x1 32) (v375 : IVec S256x1 32) (v376 : IVec S256x1 32) :
    s_part54 I i v0 v350 v373 v375 v376 ⟨a7, a8, a9, a10, a11, a12, a13, a14, a15, a16, a17, a18⟩ =
      (⟨(k0_pay285 (VecWindow.window I.a5 (![0, 4, 0, 0]) S1x1x1x128.size inb_S1x8x8x128_S1x1x1x128_0_4_0_0)), (k0_pay286 (F := F))⟩, ⟨a7, a8, a9, (VecWindow.put a10 (![0, 0, 512]) S1x256x128.size (k0_pay283 v350 v373)), (VecWindow.put a11 (![0, 0, 4]) S1x256x1.size (k0_pay284 (F := F) v375 v376)), a12, (VecWindow.put a13 (k0_off9 i) S1x256x128.size (k0_pay281 v350 v373)), (VecWindow.put a14 (k0_off9 i) S1x256x128.size (k0_pay282 (F := F) v375 v376)), a15, a16, a17, a18⟩) := rfl

theorem e_part55 (I : In F) (i : grid0.Coords) (v0 : BitVec 32) (v410 : FVec F S1x128 .f32) (v411 : FVec F S1x128 .f32) :
    s_part55 I i v0 v410 v411 ⟨a7, a8, a9, a10, a11, a12, a13, a14, a15, a16, a17, a18⟩ =
      (⟨(k0_pay290 (VecWindow.window I.a3 (![0, 0, 640]) S1x256x128.size inb_S1x256x1024_S1x256x128_0_0_640)), (k0_pay291 (VecWindow.window I.a3 (![0, 0, 640]) S1x256x128.size inb_S1x256x1024_S1x256x128_0_0_640))⟩, ⟨a7, a8, a9, a10, a11, (VecWindow.put a12 (![0, 0, 512]) S1x256x128.size (k0_pay288 v410 v411 (VecWindow.window I.a4 (![0, 0, 512]) S1x256x128.size inb_S1x256x1024_S1x256x128_0_0_512))), a13, a14, (VecWindow.put a15 (k0_off10 i) S1x1x128x256.size (k0_pay289 v410 v411 (VecWindow.window I.a4 (![0, 0, 512]) S1x256x128.size inb_S1x256x1024_S1x256x128_0_0_512))), a16, a17, a18⟩) := rfl

theorem e_part56 (I : In F) (i : grid0.Coords) (v0 : BitVec 32) (v436 : FVec F S256x128 .f32) (v451 : IVec S256x1x256 1) :
    s_part56 I i v0 v436 v451 ⟨a7, a8, a9, a10, a11, a12, a13, a14, a15, a16, a17, a18⟩ =
      (⟨(k0_pay293 (F := F) v451), (k0_pay294 v436 v451)⟩, ⟨a7, a8, a9, a10, a11, a12, (VecWindow.put a13 (k0_off11 i) S1x256x128.size (k0_pay295 v436 v451)), (VecWindow.put a14 (k0_off11 i) S1x256x128.size (k0_pay296 (F := F) v451)), a15, a16, a17, a18⟩) := rfl

theorem e_part57 (I : In F) (i : grid0.Coords) (v0 : BitVec 32) (v464 : FVec F S256x1 .f32) (v476 : FVec F S256x128 .fp8e4m3) :
    s_part57 I i v0 v464 v476 ⟨a7, a8, a9, a10, a11, a12, a13, a14, a15, a16, a17, a18⟩ =
      (⟨(k0_pay302 (VecWindow.window I.a3 (![0, 0, 768]) S1x256x128.size inb_S1x256x1024_S1x256x128_0_0_768)), (k0_pay303 (VecWindow.window I.a3 (![0, 0, 768]) S1x256x128.size inb_S1x256x1024_S1x256x128_0_0_768))⟩, ⟨a7, a8, a9, (VecWindow.put a10 (![0, 0, 640]) S1x256x128.size (k0_pay297 v476)), (VecWindow.put a11 (![0, 0, 5]) S1x256x1.size (k0_pay298 v464)), (VecWindow.put a12 (![0, 0, 640]) S1x256x128.size (k0_pay300 (VecWindow.window I.a5 (![0, 5, 0, 0]) S1x1x1x128.size inb_S1x8x8x128_S1x1x1x128_0_5_0_0) (VecWindow.window I.a4 (![0, 0, 640]) S1x256x128.size inb_S1x256x1024_S1x256x128_0_0_640))), a13, a14, (VecWindow.put a15 (k0_off12 i) S1x1x128x256.size (k0_pay301 (VecWindow.window I.a5 (![0, 5, 0, 0]) S1x1x1x128.size inb_S1x8x8x128_S1x1x1x128_0_5_0_0) (VecWindow.window I.a4 (![0, 0, 640]) S1x256x128.size inb_S1x256x1024_S1x256x128_0_0_640))), a16, a17, a18⟩) := rfl

theorem e_part58 (I : In F) (i : grid0.Coords) (v0 : BitVec 32) (v522 : FVec F S256x128 .f32) (v523 : FVec F S256x128 .f32) :
    s_part58 I i v0 v522 v523 ⟨a7, a8, a9, a10, a11, a12, a13, a14, a15, a16, a17, a18⟩ =
      (⟨(k0_pay305 v523), (k0_pay306 v522 v523), (k0_pay307 v522 v523)⟩, ⟨a7, a8, a9, a10, a11, a12, a13, a14, a15, a16, a17, a18⟩) := rfl

theorem e_part59 (I : In F) (i : grid0.Coords) (v0 : BitVec 32) (v550 : FVec F S256x1 .f32) (v562 : FVec F S256x128 .fp8e4m3) (v567 : FVec F S1x256x128 .fp8e4m3) :
    s_part59 I i v0 v550 v562 v567 ⟨a7, a8, a9, a10, a11, a12, a13, a14, a15, a16, a17, a18⟩ =
      ((k0_pay313 (VecWindow.window I.a5 (![0, 6, 0, 0]) S1x1x1x128.size inb_S1x8x8x128_S1x1x1x128_0_6_0_0) (VecWindow.window I.a4 (![0, 0, 768]) S1x256x128.size inb_S1x256x1024_S1x256x128_0_0_768)), ⟨a7, a8, a9, (VecWindow.put a10 (![0, 0, 768]) S1x256x128.size (k0_pay309 v562)), (VecWindow.put a11 (![0, 0, 6]) S1x256x1.size (k0_pay310 v550)), (VecWindow.put a12 (![0, 0, 768]) S1x256x128.size (k0_pay312 (VecWindow.window I.a5 (![0, 6, 0, 0]) S1x1x1x128.size inb_S1x8x8x128_S1x1x1x128_0_6_0_0) (VecWindow.window I.a4 (![0, 0, 768]) S1x256x128.size inb_S1x256x1024_S1x256x128_0_0_768))), (VecWindow.put a13 (k0_off13 i) S1x256x128.size v567), (VecWindow.put a14 (k0_off13 i) S1x256x128.size (k0_pay308 v550)), a15, a16, a17, a18⟩) := rfl

theorem e_part60 (I : In F) (i : grid0.Coords) (v0 : BitVec 32) (v600 : FVec F S128x256 .fp8e4m3) :
    s_part60 I i v0 v600 ⟨a7, a8, a9, a10, a11, a12, a13, a14, a15, a16, a17, a18⟩ =
      (⟨(k0_pay315 (VecWindow.window I.a3 (![0, 0, 896]) S1x256x128.size inb_S1x256x1024_S1x256x128_0_0_896)), (k0_pay317 (VecWindow.window I.a3 (![0, 0, 896]) S1x256x128.size inb_S1x256x1024_S1x256x128_0_0_896)), (k0_pay318 (VecWindow.window I.a3 (![0, 0, 896]) S1x256x128.size inb_S1x256x1024_S1x256x128_0_0_896))⟩, ⟨a7, a8, a9, a10, a11, a12, a13, a14, (VecWindow.put a15 (k0_off14 i) S1x1x128x256.size (k0_pay314 v600)), a16, a17, a18⟩) := rfl

theorem e_part61 (I : In F) (i : grid0.Coords) (v0 : BitVec 32) (v608 : FVec F S256x128 .f32) (v636 : FVec F S256x1 .f32) (v641 : FVec F S256x1 .f32) :
    s_part61 I i v0 v608 v636 v641 ⟨a7, a8, a9, a10, a11, a12, a13, a14, a15, a16, a17, a18⟩ =
      ((k0_pay324 (VecWindow.window I.a5 (![0, 7, 0, 0]) S1x1x1x128.size inb_S1x8x8x128_S1x1x1x128_0_7_0_0) (VecWindow.window I.a4 (![0, 0, 896]) S1x256x128.size inb_S1x256x1024_S1x256x128_0_0_896)), ⟨a7, a8, a9, (VecWindow.put a10 (![0, 0, 896]) S1x256x128.size (k0_pay322 v608 v641)), (VecWindow.put a11 (![0, 0, 7]) S1x256x1.size (k0_pay323 v636)), a12, (VecWindow.put a13 (k0_off15 i) S1x256x128.size (k0_pay320 v608 v641)), (VecWindow.put a14 (k0_off15 i) S1x256x128.size (k0_pay321 v636)), a15, a16, a17, a18⟩) := rfl

theorem e_part62 (I : In F) (i : grid0.Coords) (v0 : BitVec 32) (v675 : FVec F S256x128 .f32) :
    s_part62 I i v0 v675 ⟨a7, a8, a9, a10, a11, a12, a13, a14, a15, a16, a17, a18⟩ =
      (⟨(k0_pay328 (VecWindow.window I.a2 (![0, 0, 0]) S1x256x128.size inb_S1x256x4096_S1x256x128_0_0_0)), (k0_pay330 (VecWindow.window I.a2 (![0, 0, 0]) S1x256x128.size inb_S1x256x4096_S1x256x128_0_0_0)), (k0_pay331 (VecWindow.window I.a2 (![0, 0, 0]) S1x256x128.size inb_S1x256x4096_S1x256x128_0_0_0))⟩, ⟨a7, a8, a9, a10, a11, (VecWindow.put a12 (![0, 0, 896]) S1x256x128.size (k0_pay326 v675)), a13, a14, (VecWindow.put a15 (k0_off16 i) S1x1x128x256.size (k0_pay327 v675)), a16, a17, a18⟩) := rfl

theorem e_part63 (I : In F) (i : grid0.Coords) (v694 : FVec F S256x128 .f32) (v713 : IVec S256x1 1) (v715 : IVec S256x1 32) :
    s_part63 I i v694 v713 v715 ⟨a7, a8, a9, a10, a11, a12, a13, a14, a15, a16, a17, a18⟩ =
      (⟨(k0_pay335 (VecWindow.window I.a2 (![0, 0, 128]) S1x256x128.size inb_S1x256x4096_S1x256x128_0_0_128)), (k0_pay336 (VecWindow.window I.a2 (![0, 0, 128]) S1x256x128.size inb_S1x256x4096_S1x256x128_0_0_128)), (iota .tc S256x1x256 32 [2] iota_S256x1x256_d2_w32), (k0_pay337 (F := F)), k0_pay338⟩, ⟨a7, (VecWindow.put a8 (![0, 0, 0]) S1x256x128.size (k0_pay333 v694 v713 v715)), (VecWindow.put a9 (![0, 0, 0]) S1x256x1.size (k0_pay334 (F := F) v713 v715)), a10, a11, a12, a13, a14, a15, a16, a17, a18⟩) := rfl

theorem e_part64 (I : In F) (i : grid0.Coords) (v743 : FVec F S256x128 .f32) (v748 : FVec F S256x1 .f32) (v749 : IVec S256x1x256 32) (v752 : FVec F S256x1x256 .f32) (v753 : IVec S256x1x256 32) :
    s_part64 I i v743 v748 v749 v752 v753 ⟨a7, a8, a9, a10, a11, a12, a13, a14, a15, a16, a17, a18⟩ =
      ((k0_pay342 (VecWindow.window I.a2 (![0, 0, 256]) S1x256x128.size inb_S1x256x4096_S1x256x128_0_0_256)), ⟨a7, (VecWindow.put a8 (![0, 0, 128]) S1x256x128.size (k0_pay340 v743 v748 v749 v752 v753)), (VecWindow.put a9 (![0, 0, 1]) S1x256x1.size (k0_pay341 v748 v749 v752 v753)), a10, a11, a12, a13, a14, a15, a16, a17, a18⟩) := rfl

theorem e_part65 (I : In F) (i : grid0.Coords) (v792 : FVec F S256x128 .f32) :
    s_part65 I i v792 ⟨a7, a8, a9, a10, a11, a12, a13, a14, a15, a16, a17, a18⟩ =
      (⟨(k0_pay344 v792), (k0_pay345 v792)⟩, ⟨a7, a8, a9, a10, a11, a12, a13, a14, a15, a16, a17, a18⟩) := rfl

theorem e_part66 (I : In F) (i : grid0.Coords) (v820 : FVec F S256x1 .f32) (v835 : FVec F S1x256x128 .fp8e4m3) :
    s_part66 I i v820 v835 ⟨a7, a8, a9, a10, a11, a12, a13, a14, a15, a16, a17, a18⟩ =
      (⟨(k0_pay347 (VecWindow.window I.a2 (![0, 0, 384]) S1x256x128.size inb_S1x256x4096_S1x256x128_0_0_384)), (k0_pay349 (VecWindow.window I.a2 (![0, 0, 384]) S1x256x128.size inb_S1x256x4096_S1x256x128_0_0_384)), (k0_pay350 (VecWindow.window I.a2 (![0, 0, 384]) S1x256x128.size inb_S1x256x4096_S1x256x128_0_0_384))⟩, ⟨a7, (VecWindow.put a8 (![0, 0, 256]) S1x256x128.size v835), (VecWindow.put a9 (![0, 0, 2]) S1x256x1.size (k0_pay346 v820)), a10, a11, a12, a13, a14, a15, a16, a17, a18⟩) := rfl

theorem e_part67 (I : In F) (i : grid0.Coords) (v841 : FVec F S256x128 .f32) (v869 : FVec F S256x1 .f32) (v875 : FVec F S256x128 .f32) :
    s_part67 I i v841 v869 v875 ⟨a7, a8, a9, a10, a11, a12, a13, a14, a15, a16, a17, a18⟩ =
      (⟨(k0_pay353 (VecWindow.window I.a2 (![0, 0, 512]) S1x256x128.size inb_S1x256x4096_S1x256x128_0_0_512)), (k0_pay354 (VecWindow.window I.a2 (![0, 0, 512]) S1x256x128.size inb_S1x256x4096_S1x256x128_0_0_512)), 127#32⟩, ⟨a7, (VecWindow.put a8 (![0, 0, 384]) S1x256x128.size (k0_pay351 v841 v875)), (VecWindow.put a9 (![0, 0, 3]) S1x256x1.size (k0_pay352 v869)), a10, a11, a12, a13, a14, a15, a16, a17, a18⟩) := rfl

theorem e_part68 (I : In F) (i : grid0.Coords) (v890 : FVec F S256x128 .f32) (v913 : IVec S256x1 32) (c127_i32_444 : BitVec 32) :
    s_part68 I i v890 v913 c127_i32_444 ⟨a7, a8, a9, a10, a11, a12, a13, a14, a15, a16, a17, a18⟩ =
      (⟨(k0_pay357 (VecWindow.window I.a2 (![0, 0, 640]) S1x256x128.size inb_S1x256x4096_S1x256x128_0_0_640)), k0_pay358, (k0_pay359 (VecWindow.window I.a2 (![0, 0, 640]) S1x256x128.size inb_S1x256x4096_S1x256x128_0_0_640))⟩, ⟨a7, (VecWindow.put a8 (![0, 0, 512]) S1x256x128.size (k0_pay355 v890 v913)), (VecWindow.put a9 (![0, 0, 4]) S1x256x1.size (k0_pay356 (F := F) v913 c127_i32_444)), a10, a11, a12, a13, a14, a15, a16, a17, a18⟩) := rfl

theorem e_part69 (I : In F) (i : grid0.Coords) (v939 : FVec F S256x128 .f32) (v950 : IVec S256x1x256 1) (v953 : IVec S256x1x256 1) :
    s_part69 I i v939 v950 v953 ⟨a7, a8, a9, a10, a11, a12, a13, a14, a15, a16, a17, a18⟩ =
      (⟨(k0_pay363 (VecWindow.window I.a2 (![0, 0, 768]) S1x256x128.size inb_S1x256x4096_S1x256x128_0_0_768)), (k0_pay364 (VecWindow.window I.a2 (![0, 0, 768]) S1x256x128.size inb_S1x256x4096_S1x256x128_0_0_768))⟩, ⟨a7, (VecWindow.put a8 (![0, 0, 640]) S1x256x128.size (k0_pay361 v939 v950 v953)), (VecWindow.put a9 (![0, 0, 5]) S1x256x1.size (k0_pay362 (F := F) v950 v953)), a10, a11, a12, a13, a14, a15, a16, a17, a18⟩) := rfl

theorem e_part70 (I : In F) (i : grid0.Coords) (v988 : FVec F S256x128 .f32) (v991 : FVec F S256x1 .f32) :
    s_part70 I i v988 v991 ⟨a7, a8, a9, a10, a11, a12, a13, a14, a15, a16, a17, a18⟩ =
      ((k0_pay366 v991), ⟨a7, (VecWindow.put a8 (![0, 0, 768]) S1x256x128.size (k0_pay367 v988 v991)), a9, a10, a11, a12, a13, a14, a15, a16, a17, a18⟩) := rfl

theorem e_part71 (I : In F) (i : grid0.Coords) (v1016 : FVec F S256x1 .f32) :
    s_part71 I i v1016 ⟨a7, a8, a9, a10, a11, a12, a13, a14, a15, a16, a17, a18⟩ =
      (⟨(k0_pay371 (VecWindow.window I.a2 (![0, 0, 896]) S1x256x128.size inb_S1x256x4096_S1x256x128_0_0_896)), (k0_pay372 (VecWindow.window I.a2 (![0, 0, 896]) S1x256x128.size inb_S1x256x4096_S1x256x128_0_0_896)), (Scalar.ofBits .f32 0x43E00000#32), (k0_pay373 (F := F))⟩, ⟨a7, a8, (VecWindow.put a9 (![0, 0, 6]) S1x256x1.size (k0_pay368 v1016)), a10, a11, a12, a13, a14, a15, a16, a17, a18⟩) := rfl

theorem e_part72 (I : In F) (i : grid0.Coords) (v1065 : FVec F S256x1 .f32) (v1072 : FVec F S256x128 .f32) (cst_518 : F .f32) (v1073 : FVec F S256x128 .f32) :
    s_part72 I i v1065 v1072 cst_518 v1073 ⟨a7, a8, a9, a10, a11, a12, a13, a14, a15, a16, a17, a18⟩ =
      (⟨(k0_pay376 (VecWindow.window I.a2 (![0, 0, 1024]) S1x256x128.size inb_S1x256x4096_S1x256x128_0_0_1024)), (k0_pay377 (VecWindow.window I.a2 (![0, 0, 1024]) S1x256x128.size inb_S1x256x4096_S1x256x128_0_0_1024)), (k0_pay378 (VecWindow.window I.a2 (![0, 0, 1024]) S1x256x128.size inb_S1x256x4096_S1x256x128_0_0_1024)), k0_pay379⟩, ⟨a7, (VecWindow.put a8 (![0, 0, 896]) S1x256x128.size (k0_pay374 v1072 cst_518 v1073)), (VecWindow.put a9 (![0, 0, 7]) S1x256x1.size (k0_pay375 v1065)), a10, a11, a12, a13, a14, a15, a16, a17, a18⟩) := rfl

theorem e_part73 (I : In F) (i : grid0.Coords) (v1086 : FVec F S256x128 .f32) (v1109 : IVec S256x1 32) (v1111 : IVec S256x1 32) (v1112 : IVec S256x1 32) :
    s_part73 I i v1086 v1109 v1111 v1112 ⟨a7, a8, a9, a10, a11, a12, a13, a14, a15, a16, a17, a18⟩ =
      (⟨(k0_pay382 (VecWindow.window I.a2 (![0, 0, 1152]) S1x256x128.size inb_S1x256x4096_S1x256x128_0_0_1152)), (k0_pay383 (VecWindow.window I.a2 (![0, 0, 1152]) S1x256x128.size inb_S1x256x4096_S1x256x128_0_0_1152))⟩, ⟨a7, (VecWindow.put a8 (![0, 0, 1024]) S1x256x128.size (k0_pay380 v1086 v1109)), (VecWindow.put a9 (![0, 0, 8]) S1x256x1.size (k0_pay381 (F := F) v1111 v1112)), a10, a11, a12, a13, a14, a15, a16, a17, a18⟩) := rfl

theorem e_part74 (I : In F) (i : grid0.Coords) (v1135 : FVec F S256x128 .f32) (v1152 : IVec S256x1 32) :
    s_part74 I i v1135 v1152 ⟨a7, a8, a9, a10, a11, a12, a13, a14, a15, a16, a17, a18⟩ =
      (⟨(k0_pay387 (VecWindow.window I.a2 (![0, 0, 1280]) S1x256x128.size inb_S1x256x4096_S1x256x128_0_0_1280)), (k0_pay388 (VecWindow.window I.a2 (![0, 0, 1280]) S1x256x128.size inb_S1x256x4096_S1x256x128_0_0_1280)), (iota .tc S256x1x256 32 [2] iota_S256x1x256_d2_w32)⟩, ⟨a7, (VecWindow.put a8 (![0, 0, 1152]) S1x256x128.size (k0_pay385 v1135 v1152)), (VecWindow.put a9 (![0, 0, 9]) S1x256x1.size (k0_pay386 (F := F) v1152)), a10, a11, a12, a13, a14, a15, a16, a17, a18⟩) := rfl

theorem e_part75 (I : In F) (i : grid0.Coords) (v1184 : FVec F S256x128 .f32) (v1189 : FVec F S256x1 .f32) (v1190 : IVec S256x1x256 32) :
    s_part75 I i v1184 v1189 v1190 ⟨a7, a8, a9, a10, a11, a12, a13, a14, a15, a16, a17, a18⟩ =
      (⟨⟩, ⟨a7, (VecWindow.put a8 (![0, 0, 1280]) S1x256x128.size (k0_pay390 v1184 v1189 v1190)), (VecWindow.put a9 (![0, 0, 10]) S1x256x1.size (k0_pay391 v1189 v1190)), a10, a11, a12, a13, a14, a15, a16, a17, a18⟩) := rfl

theorem e_part76 (I : In F) (i : grid0.Coords) :
    s_part76 I i ⟨a7, a8, a9, a10, a11, a12, a13, a14, a15, a16, a17, a18⟩ =
      (⟨(k0_pay394 (VecWindow.window I.a2 (![0, 0, 1408]) S1x256x128.size inb_S1x256x4096_S1x256x128_0_0_1408)), (k0_pay395 (VecWindow.window I.a2 (![0, 0, 1408]) S1x256x128.size inb_S1x256x4096_S1x256x128_0_0_1408))⟩, ⟨a7, a8, a9, a10, a11, a12, a13, a14, a15, a16, a17, a18⟩) := rfl

theorem e_part77 (I : In F) (i : grid0.Coords) (v1261 : FVec F S256x1 .f32) (v1273 : FVec F S256x128 .fp8e4m3) :
    s_part77 I i v1261 v1273 ⟨a7, a8, a9, a10, a11, a12, a13, a14, a15, a16, a17, a18⟩ =
      (⟨(k0_pay398 (VecWindow.window I.a2 (![0, 0, 1536]) S1x256x128.size inb_S1x256x4096_S1x256x128_0_0_1536)), (k0_pay399 (VecWindow.window I.a2 (![0, 0, 1536]) S1x256x128.size inb_S1x256x4096_S1x256x128_0_0_1536)), (k0_pay400 (VecWindow.window I.a2 (![0, 0, 1536]) S1x256x128.size inb_S1x256x4096_S1x256x128_0_0_1536)), k0_pay401⟩, ⟨a7, (VecWindow.put a8 (![0, 0, 1408]) S1x256x128.size (k0_pay396 v1273)), (VecWindow.put a9 (![0, 0, 11]) S1x256x1.size (k0_pay397 v1261)), a10, a11, a12, a13, a14, a15, a16, a17, a18⟩) := rfl

theorem e_part78 (I : In F) (i : grid0.Coords) (v1282 : FVec F S256x128 .f32) (v1305 : IVec S256x1 32) (v1310 : FVec F S256x1 .f32) (v1311 : IVec S256x1 32) :
    s_part78 I i v1282 v1305 v1310 v1311 ⟨a7, a8, a9, a10, a11, a12, a13, a14, a15, a16, a17, a18⟩ =
      (⟨(k0_pay404 (VecWindow.window I.a2 (![0, 0, 1664]) S1x256x128.size inb_S1x256x4096_S1x256x128_0_0_1664)), (k0_pay405 (VecWindow.window I.a2 (![0, 0, 1664]) S1x256x128.size inb_S1x256x4096_S1x256x128_0_0_1664)), (k0_pay406 (VecWindow.window I.a2 (![0, 0, 1664]) S1x256x128.size inb_S1x256x4096_S1x256x128_0_0_1664)), 126#32⟩, ⟨a7, (VecWindow.put a8 (![0, 0, 1536]) S1x256x128.size (k0_pay402 v1282 v1305 v1311)), (VecWindow.put a9 (![0, 0, 12]) S1x256x1.size (k0_pay403 v1310)), a10, a11, a12, a13, a14, a15, a16, a17, a18⟩) := rfl

theorem e_part79 (I : In F) (i : grid0.Coords) (v1331 : FVec F S256x128 .f32) (v1348 : IVec S256x1 32) (v1350 : IVec S256x1 1) (c126_i32_638 : BitVec 32) :
    s_part79 I i v1331 v1348 v1350 c126_i32_638 ⟨a7, a8, a9, a10, a11, a12, a13, a14, a15, a16, a17, a18⟩ =
      (⟨(k0_pay410 (VecWindow.window I.a2 (![0, 0, 1792]) S1x256x128.size inb_S1x256x4096_S1x256x128_0_0_1792)), (k0_pay411 (VecWindow.window I.a2 (![0, 0, 1792]) S1x256x128.size inb_S1x256x4096_S1x256x128_0_0_1792)), (iota .tc S256x1x256 32 [2] iota_S256x1x256_d2_w32), (k0_pay412 (F := F))⟩, ⟨a7, (VecWindow.put a8 (![0, 0, 1664]) S1x256x128.size (k0_pay408 v1331 v1348 v1350 c126_i32_638)), (VecWindow.put a9 (![0, 0, 13]) S1x256x1.size (k0_pay409 (F := F) v1348 v1350 c126_i32_638)), a10, a11, a12, a13, a14, a15, a16, a17, a18⟩) := rfl

theorem e_part80 (I : In F) (i : grid0.Coords) (v1380 : FVec F S256x128 .f32) (v1385 : FVec F S256x1 .f32) (v1386 : IVec S256x1x256 32) (v1389 : FVec F S256x1x256 .f32) :
    s_part80 I i v1380 v1385 v1386 v1389 ⟨a7, a8, a9, a10, a11, a12, a13, a14, a15, a16, a17, a18⟩ =
      ((VecWindow.window I.a2 (![0, 0, 1920]) S1x256x128.size inb_S1x256x4096_S1x256x128_0_0_1920), ⟨a7, (VecWindow.put a8 (![0, 0, 1792]) S1x256x128.size (k0_pay414 v1380 v1385 v1386 v1389)), (VecWindow.put a9 (![0, 0, 14]) S1x256x1.size (k0_pay415 v1385 v1386 v1389)), a10, a11, a12, a13, a14, a15, a16, a17, a18⟩) := rfl

theorem e_part81 (I : In F) (i : grid0.Coords) (v1427 : Vec F S1x256x128 .bf16) :
    s_part81 I i v1427 ⟨a7, a8, a9, a10, a11, a12, a13, a14, a15, a16, a17, a18⟩ =
      (⟨(k0_pay418 v1427), (k0_pay419 v1427), (VecWindow.window a8 (![0, 0, 1920]) S1x256x128.size inb_S1x256x4096_S1x256x128_0_0_1920)⟩, ⟨a7, a8, a9, a10, a11, a12, a13, a14, a15, a16, a17, a18⟩) := rfl

theorem e_part82 (I : In F) (i : grid0.Coords) (v1457 : FVec F S256x1 .f32) (v1469 : FVec F S256x128 .fp8e4m3) (v1470 : Vec F S1x256x128 .fp8e4m3) :
    s_part82 I i v1457 v1469 v1470 ⟨a7, a8, a9, a10, a11, a12, a13, a14, a15, a16, a17, a18⟩ =
      (⟨(k0_pay422 (VecWindow.window I.a2 (![0, 0, 2048]) S1x256x128.size inb_S1x256x4096_S1x256x128_0_0_2048)), (k0_pay424 (VecWindow.window I.a2 (![0, 0, 2048]) S1x256x128.size inb_S1x256x4096_S1x256x128_0_0_2048)), (k0_pay425 (VecWindow.window I.a2 (![0, 0, 2048]) S1x256x128.size inb_S1x256x4096_S1x256x128_0_0_2048))⟩, ⟨a7, (VecWindow.put a8 (![0, 0, 1920]) S1x256x128.size (k0_pay420 v1469)), (VecWindow.put a9 (![0, 0, 15]) S1x256x1.size (k0_pay421 v1457)), a10, a11, a12, a13, a14, a15, a16, a17, a18⟩) := rfl

theorem e_part83 (I : In F) (i : grid0.Coords) (v1478 : FVec F S256x128 .f32) (v1506 : FVec F S256x1 .f32) (v1510 : IVec S256x1 32) :
    s_part83 I i v1478 v1506 v1510 ⟨a7, a8, a9, a10, a11, a12, a13, a14, a15, a16, a17, a18⟩ =
      (⟨(k0_pay428 (VecWindow.window I.a2 (![0, 0, 2176]) S1x256x128.size inb_S1x256x4096_S1x256x128_0_0_2176)), (k0_pay430 (VecWindow.window I.a2 (![0, 0, 2176]) S1x256x128.size inb_S1x256x4096_S1x256x128_0_0_2176)), (k0_pay431 (VecWindow.window I.a2 (![0, 0, 2176]) S1x256x128.size inb_S1x256x4096_S1x256x128_0_0_2176)), k0_pay432⟩, ⟨a7, (VecWindow.put a8 (![0, 0, 2048]) S1x256x128.size (k0_pay426 v1478 v1510)), (VecWindow.put a9 (![0, 0, 16]) S1x256x1.size (k0_pay427 v1506)), a10, a11, a12, a13, a14, a15, a16, a17, a18⟩) := rfl

theorem e_part84 (I : In F) (i : grid0.Coords) (v1527 : FVec F S256x128 .f32) (v1546 : IVec S256x1 1) (v1548 : IVec S256x1 32) (v1549 : IVec S256x1 32) :
    s_part84 I i v1527 v1546 v1548 v1549 ⟨a7, a8, a9, a10, a11, a12, a13, a14, a15, a16, a17, a18⟩ =
      (⟨(k0_pay436 (VecWindow.window I.a2 (![0, 0, 2304]) S1x256x128.size inb_S1x256x4096_S1x256x128_0_0_2304)), (k0_pay437 (F := F)), k0_pay438, (k0_pay439 (VecWindow.window I.a2 (![0, 0, 2304]) S1x256x128.size inb_S1x256x4096_S1x256x128_0_0_2304))⟩, ⟨a7, (VecWindow.put a8 (![0, 0, 2176]) S1x256x128.size (k0_pay434 v1527 v1546 v1548 v1549)), (VecWindow.put a9 (![0, 0, 17]) S1x256x1.size (k0_pay435 (F := F) v1546 v1548 v1549)), a10, a11, a12, a13, a14, a15, a16, a17, a18⟩) := rfl

theorem e_part85 (I : In F) (i : grid0.Coords) (v1576 : FVec F S256x128 .f32) (v1585 : FVec F S256x1x256 .f32) (v1587 : IVec S256x1x256 1) (v1588 : FVec F S256x1x1 .f32) :
    s_part85 I i v1576 v1585 v1587 v1588 ⟨a7, a8, a9, a10, a11, a12, a13, a14, a15, a16, a17, a18⟩ =
      (⟨(k0_pay443 (VecWindow.window I.a2 (![0, 0, 2432]) S1x256x128.size inb_S1x256x4096_S1x256x128_0_0_2432)), (k0_pay444 (VecWindow.window I.a2 (![0, 0, 2432]) S1x256x128.size inb_S1x256x4096_S1x256x128_0_0_2432))⟩, ⟨a7, (VecWindow.put a8 (![0, 0, 2304]) S1x256x128.size (k0_pay441 v1576 v1585 v1587 v1588)), (VecWindow.put a9 (![0, 0, 18]) S1x256x1.size (k0_pay442 v1585 v1587 v1588)), a10, a11, a12, a13, a14, a15, a16, a17, a18⟩) := rfl

theorem e_part86 (I : In F) (i : grid0.Coords) (v1625 : FVec F S256x128 .f32) (v1626 : FVec F S256x128 .f32) :
    s_part86 I i v1625 v1626 ⟨a7, a8, a9, a10, a11, a12, a13, a14, a15, a16, a17, a18⟩ =
      ((k0_pay446 v1626), ⟨a7, (VecWindow.put a8 (![0, 0, 2432]) S1x256x128.size (k0_pay447 v1625 v1626)), a9, a10, a11, a12, a13, a14, a15, a16, a17, a18⟩) := rfl

theorem e_part87 (I : In F) (i : grid0.Coords) (v1653 : FVec F S256x1 .f32) :
    s_part87 I i v1653 ⟨a7, a8, a9, a10, a11, a12, a13, a14, a15, a16, a17, a18⟩ =
      (⟨(k0_pay451 (VecWindow.window I.a2 (![0, 0, 2560]) S1x256x128.size inb_S1x256x4096_S1x256x128_0_0_2560)), (k0_pay452 (VecWindow.window I.a2 (![0, 0, 2560]) S1x256x128.size inb_S1x256x4096_S1x256x128_0_0_2560)), (Scalar.ofBits .f32 0xC3E00000#32)⟩, ⟨a7, a8, (VecWindow.put a9 (![0, 0, 19]) S1x256x1.size (k0_pay448 v1653)), a10, a11, a12, a13, a14, a15, a16, a17, a18⟩) := rfl

theorem e_part88 (I : In F) (i : grid0.Coords) (v1702 : FVec F S256x1 .f32) (v1709 : FVec F S256x128 .f32) (cst_791 : F .f32) :
    s_part88 I i v1702 v1709 cst_791 ⟨a7, a8, a9, a10, a11, a12, a13, a14, a15, a16, a17, a18⟩ =
      (⟨(k0_pay455 (VecWindow.window I.a2 (![0, 0, 2688]) S1x256x128.size inb_S1x256x4096_S1x256x128_0_0_2688)), (k0_pay456 (VecWindow.window I.a2 (![0, 0, 2688]) S1x256x128.size inb_S1x256x4096_S1x256x128_0_0_2688)), (k0_pay457 (VecWindow.window I.a2 (![0, 0, 2688]) S1x256x128.size inb_S1x256x4096_S1x256x128_0_0_2688))⟩, ⟨a7, (VecWindow.put a8 (![0, 0, 2560]) S1x256x128.size (k0_pay453 v1709 cst_791)), (VecWindow.put a9 (![0, 0, 20]) S1x256x1.size (k0_pay454 v1702)), a10, a11, a12, a13, a14, a15, a16, a17, a18⟩) := rfl

theorem e_part89 (I : In F) (i : grid0.Coords) (v1723 : FVec F S256x128 .f32) (v1746 : IVec S256x1 32) (v1748 : IVec S256x1 32) :
    s_part89 I i v1723 v1746 v1748 ⟨a7, a8, a9, a10, a11, a12, a13, a14, a15, a16, a17, a18⟩ =
      (⟨(k0_pay460 (VecWindow.window I.a2 (![0, 0, 2816]) S1x256x128.size inb_S1x256x4096_S1x256x128_0_0_2816)), (k0_pay461 (VecWindow.window I.a2 (![0, 0, 2816]) S1x256x128.size inb_S1x256x4096_S1x256x128_0_0_2816))⟩, ⟨a7, (VecWindow.put a8 (![0, 0, 2688]) S1x256x128.size (k0_pay458 v1723 v1746)), (VecWindow.put a9 (![0, 0, 21]) S1x256x1.size (k0_pay459 (F := F) v1748)), a10, a11, a12, a13, a14, a15, a16, a17, a18⟩) := rfl

theorem e_part90 (I : In F) (i : grid0.Coords) (v1772 : FVec F S256x128 .f32) (v1788 : IVec S256x1x256 32) :
    s_part90 I i v1772 v1788 ⟨a7, a8, a9, a10, a11, a12, a13, a14, a15, a16, a17, a18⟩ =
      (⟨(k0_pay465 (VecWindow.window I.a2 (![0, 0, 2944]) S1x256x128.size inb_S1x256x4096_S1x256x128_0_0_2944)), (k0_pay466 (VecWindow.window I.a2 (![0, 0, 2944]) S1x256x128.size inb_S1x256x4096_S1x256x128_0_0_2944)), (k0_pay467 (F := F))⟩, ⟨a7, (VecWindow.put a8 (![0, 0, 2816]) S1x256x128.size (k0_pay463 v1772 v1788)), (VecWindow.put a9 (![0, 0, 22]) S1x256x1.size (k0_pay464 (F := F) v1788)), a10, a11, a12, a13, a14, a15, a16, a17, a18⟩) := rfl

theorem e_part91 (I : In F) (i : grid0.Coords) (v1821 : FVec F S256x128 .f32) (v1824 : FVec F S256x1 .f32) (v1825 : FVec F S256x1 .f32) :
    s_part91 I i v1821 v1824 v1825 ⟨a7, a8, a9, a10, a11, a12, a13, a14, a15, a16, a17, a18⟩ =
      ((k0_pay469 v1824 v1825), ⟨a7, (VecWindow.put a8 (![0, 0, 2944]) S1x256x128.size (k0_pay470 v1821 v1824 v1825)), a9, a10, a11, a12, a13, a14, a15, a16, a17, a18⟩) := rfl

theorem e_part92 (I : In F) (i : grid0.Coords) (v1849 : FVec F S256x1 .f32) :
    s_part92 I i v1849 ⟨a7, a8, a9, a10, a11, a12, a13, a14, a15, a16, a17, a18⟩ =
      (⟨(k0_pay474 (VecWindow.window I.a2 (![0, 0, 3072]) S1x256x128.size inb_S1x256x4096_S1x256x128_0_0_3072)), (k0_pay475 (VecWindow.window I.a2 (![0, 0, 3072]) S1x256x128.size inb_S1x256x4096_S1x256x128_0_0_3072)), (k0_pay476 (F := F))⟩, ⟨a7, a8, (VecWindow.put a9 (![0, 0, 23]) S1x256x1.size (k0_pay471 v1849)), a10, a11, a12, a13, a14, a15, a16, a17, a18⟩) := rfl

theorem e_part93 (I : In F) (i : grid0.Coords) (v1898 : FVec F S256x1 .f32) (v1907 : FVec F S256x128 .f32) (v1908 : FVec F S256x128 .f32) :
    s_part93 I i v1898 v1907 v1908 ⟨a7, a8, a9, a10, a11, a12, a13, a14, a15, a16, a17, a18⟩ =
      (⟨(k0_pay479 (VecWindow.window I.a2 (![0, 0, 3200]) S1x256x128.size inb_S1x256x4096_S1x256x128_0_0_3200)), (k0_pay480 (VecWindow.window I.a2 (![0, 0, 3200]) S1x256x128.size inb_S1x256x4096_S1x256x128_0_0_3200)), (k0_pay481 (VecWindow.window I.a2 (![0, 0, 3200]) S1x256x128.size inb_S1x256x4096_S1x256x128_0_0_3200))⟩, ⟨a7, (VecWindow.put a8 (![0, 0, 3072]) S1x256x128.size (k0_pay477 v1907 v1908)), (VecWindow.put a9 (![0, 0, 24]) S1x256x1.size (k0_pay478 v1898)), a10, a11, a12, a13, a14, a15, a16, a17, a18⟩) := rfl

theorem e_part94 (I : In F) (i : grid0.Coords) (v1919 : FVec F S256x128 .f32) (v1942 : IVec S256x1 32) (v1947 : FVec F S256x1 .f32) :
    s_part94 I i v1919 v1942 v1947 ⟨a7, a8, a9, a10, a11, a12, a13, a14, a15, a16, a17, a18⟩ =
      (⟨(k0_pay484 (VecWindow.window I.a2 (![0, 0, 3328]) S1x256x128.size inb_S1x256x4096_S1x256x128_0_0_3328)), (k0_pay485 (VecWindow.window I.a2 (![0, 0, 3328]) S1x256x128.size inb_S1x256x4096_S1x256x128_0_0_3328)), k0_pay486⟩, ⟨a7, (VecWindow.put a8 (![0, 0, 3200]) S1x256x128.size (k0_pay482 v1919 v1942)), (VecWindow.put a9 (![0, 0, 25]) S1x256x1.size (k0_pay483 v1947)), a10, a11, a12, a13, a14, a15, a16, a17, a18⟩) := rfl

theorem e_part95 (I : In F) (i : grid0.Coords) (v1968 : FVec F S256x128 .f32) (v1985 : IVec S256x1 32) (v1986 : IVec S256x1 32) :
    s_part95 I i v1968 v1985 v1986 ⟨a7, a8, a9, a10, a11, a12, a13, a14, a15, a16, a17, a18⟩ =
      (⟨(k0_pay490 (VecWindow.window I.a2 (![0, 0, 3456]) S1x256x128.size inb_S1x256x4096_S1x256x128_0_0_3456)), (k0_pay491 (VecWindow.window I.a2 (![0, 0, 3456]) S1x256x128.size inb_S1x256x4096_S1x256x128_0_0_3456)), (iota .tc S256x1x256 32 [2] iota_S256x1x256_d2_w32), k0_pay492⟩, ⟨a7, (VecWindow.put a8 (![0, 0, 3328]) S1x256x128.size (k0_pay488 v1968 v1985 v1986)), (VecWindow.put a9 (![0, 0, 26]) S1x256x1.size (k0_pay489 (F := F) v1985 v1986)), a10, a11, a12, a13, a14, a15, a16, a17, a18⟩) := rfl

theorem e_part96 (I : In F) (i : grid0.Coords) (v2017 : FVec F S256x128 .f32) (v2022 : FVec F S256x1 .f32) (v2023 : IVec S256x1x256 32) (v2024 : IVec S256x1x256 32) :
    s_part96 I i v2017 v2022 v2023 v2024 ⟨a7, a8, a9, a10, a11, a12, a13, a14, a15, a16, a17, a18⟩ =
      (⟨⟩, ⟨a7, (VecWindow.put a8 (![0, 0, 3456]) S1x256x128.size (k0_pay494 v2017 v2022 v2023 v2024)), (VecWindow.put a9 (![0, 0, 27]) S1x256x1.size (k0_pay495 v2022 v2023 v2024)), a10, a11, a12, a13, a14, a15, a16, a17, a18⟩) := rfl

theorem e_part97 (I : In F) (i : grid0.Coords) :
    s_part97 I i ⟨a7, a8, a9, a10, a11, a12, a13, a14, a15, a16, a17, a18⟩ =
      (⟨(k0_pay498 (VecWindow.window I.a2 (![0, 0, 3584]) S1x256x128.size inb_S1x256x4096_S1x256x128_0_0_3584)), (k0_pay499 (VecWindow.window I.a2 (![0, 0, 3584]) S1x256x128.size inb_S1x256x4096_S1x256x128_0_0_3584))⟩, ⟨a7, a8, a9, a10, a11, a12, a13, a14, a15, a16, a17, a18⟩) := rfl

theorem e_part98 (I : In F) (i : grid0.Coords) (v2094 : FVec F S256x1 .f32) (v2106 : FVec F S256x128 .fp8e4m3) :
    s_part98 I i v2094 v2106 ⟨a7, a8, a9, a10, a11, a12, a13, a14, a15, a16, a17, a18⟩ =
      (⟨(k0_pay502 (VecWindow.window I.a2 (![0, 0, 3712]) S1x256x128.size inb_S1x256x4096_S1x256x128_0_0_3712)), (k0_pay504 (VecWindow.window I.a2 (![0, 0, 3712]) S1x256x128.size inb_S1x256x4096_S1x256x128_0_0_3712)), (k0_pay505 (VecWindow.window I.a2 (![0, 0, 3712]) S1x256x128.size inb_S1x256x4096_S1x256x128_0_0_3712)), 23#32⟩, ⟨a7, (VecWindow.put a8 (![0, 0, 3584]) S1x256x128.size (k0_pay500 v2106)), (VecWindow.put a9 (![0, 0, 28]) S1x256x1.size (k0_pay501 v2094)), a10, a11, a12, a13, a14, a15, a16, a17, a18⟩) := rfl

theorem e_part99 (I : In F) (i : grid0.Coords) (v2115 : FVec F S256x128 .f32) (v2143 : FVec F S256x1 .f32) (v2145 : IVec S256x1 32) (c23_i32_979 : BitVec 32) :
    s_part99 I i v2115 v2143 v2145 c23_i32_979 ⟨a7, a8, a9, a10, a11, a12, a13, a14, a15, a16, a17, a18⟩ =
      (⟨(k0_pay508 (VecWindow.window I.a2 (![0, 0, 3840]) S1x256x128.size inb_S1x256x4096_S1x256x128_0_0_3840)), (k0_pay510 (VecWindow.window I.a2 (![0, 0, 3840]) S1x256x128.size inb_S1x256x4096_S1x256x128_0_0_3840)), (k0_pay511 (VecWindow.window I.a2 (![0, 0, 3840]) S1x256x128.size inb_S1x256x4096_S1x256x128_0_0_3840))⟩, ⟨a7, (VecWindow.put a8 (![0, 0, 3712]) S1x256x128.size (k0_pay506 v2115 v2145 c23_i32_979)), (VecWindow.put a9 (![0, 0, 29]) S1x256x1.size (k0_pay507 v2143)), a10, a11, a12, a13, a14, a15, a16, a17, a18⟩) := rfl

theorem e_part100 (I : In F) (i : grid0.Coords) (v2164 : FVec F S256x128 .f32) (v2183 : IVec S256x1 1) (v2185 : IVec S256x1 32) :
    s_part100 I i v2164 v2183 v2185 ⟨a7, a8, a9, a10, a11, a12, a13, a14, a15, a16, a17, a18⟩ =
      (⟨(k0_pay515 (VecWindow.window I.a2 (![0, 0, 3968]) S1x256x128.size inb_S1x256x4096_S1x256x128_0_0_3968)), (k0_pay516 (VecWindow.window I.a2 (![0, 0, 3968]) S1x256x128.size inb_S1x256x4096_S1x256x128_0_0_3968)), (iota .tc S256x1x256 32 [2] iota_S256x1x256_d2_w32), (k0_pay517 (F := F)), k0_pay518⟩, ⟨a7, (VecWindow.put a8 (![0, 0, 3840]) S1x256x128.size (k0_pay513 v2164 v2183 v2185)), (VecWindow.put a9 (![0, 0, 30]) S1x256x1.size (k0_pay514 (F := F) v2183 v2185)), a10, a11, a12, a13, a14, a15, a16, a17, a18⟩) := rfl

theorem e_part101 (I : In F) (i : grid0.Coords) (v2213 : FVec F S256x128 .f32) (v2218 : FVec F S256x1 .f32) (v2219 : IVec S256x1x256 32) (v2222 : FVec F S256x1x256 .f32) (v2223 : IVec S256x1x256 32) :
    s_part101 I i v2213 v2218 v2219 v2222 v2223 ⟨a7, a8, a9, a10, a11, a12, a13, a14, a15, a16, a17, a18⟩ =
      ((k0_pay522 (VecWindow.window (VecWindow.put a9 (![0, 0, 31]) S1x256x1.size (k0_pay521 v2218 v2219 v2222 v2223)) (![0, 0, 0]) S1x256x32.size inb_S1x256x32_S1x256x32_0_0_0)), ⟨a7, (VecWindow.put a8 (![0, 0, 3968]) S1x256x128.size (k0_pay520 v2213 v2218 v2219 v2222 v2223)), (VecWindow.put a9 (![0, 0, 31]) S1x256x1.size (k0_pay521 v2218 v2219 v2222 v2223)), a10, a11, a12, a13, a14, a15, a16, a17, a18⟩) := rfl

theorem e_part102 (I : In F) (i : grid0.Coords) (v2262 : FVec F S32x256 .f32) :
    s_part102 I i v2262 ⟨a7, a8, a9, a10, a11, a12, a13, a14, a15, a16, a17, a18⟩ =
      (⟨(k0_pay523 v2262), (k0_pay529 v2262)⟩, ⟨a7, a8, a9, a10, a11, a12, a13, a14, a15, (VecWindow.put (VecWindow.put (VecWindow.put (VecWindow.put (VecWindow.put a16 (![0, 0, 0, 0]) S1x1x8x128.size (k0_pay524 v2262)) (![1, 0, 0, 0]) S1x1x8x128.size (k0_pay525 v2262)) (![0, 0, 0, 128]) S1x1x8x128.size (k0_pay526 v2262)) (![1, 0, 0, 128]) S1x1x8x128.size (k0_pay527 v2262)) (![0, 0, 0, 256]) S1x1x8x128.size (k0_pay528 v2262)), a17, a18⟩) := rfl

theorem e_part103 (I : In F) (i : grid0.Coords) (v2264 : FVec F S32x256 .f32) (v2296 : FVec F S1x128 .f32) :
    s_part103 I i v2264 v2296 ⟨a7, a8, a9, a10, a11, a12, a13, a14, a15, a16, a17, a18⟩ =
      ((k0_pay535 v2264), ⟨a7, a8, a9, a10, a11, a12, a13, a14, a15, (VecWindow.put (VecWindow.put (VecWindow.put (VecWindow.put (VecWindow.put a16 (![1, 0, 0, 256]) S1x1x8x128.size (k0_pay530 v2296)) (![0, 0, 0, 384]) S1x1x8x128.size (k0_pay531 v2264)) (![1, 0, 0, 384]) S1x1x8x128.size (k0_pay532 v2264)) (![0, 1, 0, 0]) S1x1x8x128.size (k0_pay533 v2264)) (![1, 1, 0, 0]) S1x1x8x128.size (k0_pay534 v2264)), a17, a18⟩) := rfl

theorem e_part104 (I : In F) (i : grid0.Coords) (v2264 : FVec F S32x256 .f32) (v2327 : FVec F S8x128 .f32) :
    s_part104 I i v2264 v2327 ⟨a7, a8, a9, a10, a11, a12, a13, a14, a15, a16, a17, a18⟩ =
      ((k0_pay542 v2264), ⟨a7, a8, a9, a10, a11, a12, a13, a14, a15, (VecWindow.put (VecWindow.put (VecWindow.put (VecWindow.put (VecWindow.put (VecWindow.put a16 (![0, 1, 0, 128]) S1x1x8x128.size (k0_pay536 v2327)) (![1, 1, 0, 128]) S1x1x8x128.size (k0_pay537 v2264)) (![0, 1, 0, 256]) S1x1x8x128.size (k0_pay538 v2264)) (![1, 1, 0, 256]) S1x1x8x128.size (k0_pay539 v2264)) (![0, 1, 0, 384]) S1x1x8x128.size (k0_pay540 v2264)) (![1, 1, 0, 384]) S1x1x8x128.size (k0_pay541 v2264)), a17, a18⟩) := rfl

theorem e_part105 (I : In F) (i : grid0.Coords) (v2264 : FVec F S32x256 .f32) (v2361 : FVec F S1x128 .f32) :
    s_part105 I i v2264 v2361 ⟨a7, a8, a9, a10, a11, a12, a13, a14, a15, a16, a17, a18⟩ =
      ((k0_pay548 v2264), ⟨a7, a8, a9, a10, a11, a12, a13, a14, a15, (VecWindow.put (VecWindow.put (VecWindow.put (VecWindow.put (VecWindow.put a16 (![0, 2, 0, 0]) S1x1x8x128.size (k0_pay543 v2361)) (![1, 2, 0, 0]) S1x1x8x128.size (k0_pay544 v2264)) (![0, 2, 0, 128]) S1x1x8x128.size (k0_pay545 v2264)) (![1, 2, 0, 128]) S1x1x8x128.size (k0_pay546 v2264)) (![0, 2, 0, 256]) S1x1x8x128.size (k0_pay547 v2264)), a17, a18⟩) := rfl

theorem e_part106 (I : In F) (i : grid0.Coords) (v2264 : FVec F S32x256 .f32) (v2393 : FVec F S8x128 .f32) :
    s_part106 I i v2264 v2393 ⟨a7, a8, a9, a10, a11, a12, a13, a14, a15, a16, a17, a18⟩ =
      (⟨⟩, ⟨a7, a8, a9, a10, a11, a12, a13, a14, a15, (VecWindow.put (VecWindow.put (VecWindow.put (VecWindow.put (VecWindow.put (VecWindow.put a16 (![1, 2, 0, 256]) S1x1x8x128.size (k0_pay549 v2393)) (![0, 2, 0, 384]) S1x1x8x128.size (k0_pay550 v2264)) (![1, 2, 0, 384]) S1x1x8x128.size (k0_pay551 v2264)) (![0, 3, 0, 0]) S1x1x8x128.size (k0_pay552 v2264)) (![1, 3, 0, 0]) S1x1x8x128.size (k0_pay553 v2264)) (![0, 3, 0, 128]) S1x1x8x128.size (k0_pay554 v2264)), a17, a18⟩) := rfl

theorem e_part107 (I : In F) (i : grid0.Coords) (v2264 : FVec F S32x256 .f32) :
    s_part107 I i v2264 ⟨a7, a8, a9, a10, a11, a12, a13, a14, a15, a16, a17, a18⟩ =
      ((k0_pay560 v2264), ⟨a7, a8, a9, a10, a11, a12, a13, a14, a15, (VecWindow.put (VecWindow.put (VecWindow.put (VecWindow.put (VecWindow.put a16 (![1, 3, 0, 128]) S1x1x8x128.size (k0_pay555 v2264)) (![0, 3, 0, 256]) S1x1x8x128.size (k0_pay556 v2264)) (![1, 3, 0, 256]) S1x1x8x128.size (k0_pay557 v2264)) (![0, 3, 0, 384]) S1x1x8x128.size (k0_pay558 v2264)) (![1, 3, 0, 384]) S1x1x8x128.size (k0_pay559 v2264)), a17, a18⟩) := rfl

theorem e_part108 (I : In F) (i : grid0.Coords) (v2264 : FVec F S32x256 .f32) (v2459 : FVec F S8x128 .f32) :
    s_part108 I i v2264 v2459 ⟨a7, a8, a9, a10, a11, a12, a13, a14, a15, a16, a17, a18⟩ =
      ((k0_pay566 v2264), ⟨a7, a8, a9, a10, a11, a12, a13, a14, a15, (VecWindow.put (VecWindow.put (VecWindow.put (VecWindow.put (VecWindow.put a16 (![0, 4, 0, 0]) S1x1x8x128.size (k0_pay561 v2459)) (![1, 4, 0, 0]) S1x1x8x128.size (k0_pay562 v2264)) (![0, 4, 0, 128]) S1x1x8x128.size (k0_pay563 v2264)) (![1, 4, 0, 128]) S1x1x8x128.size (k0_pay564 v2264)) (![0, 4, 0, 256]) S1x1x8x128.size (k0_pay565 v2264)), a17, a18⟩) := rfl

theorem e_part109 (I : In F) (i : grid0.Coords) (v2264 : FVec F S32x256 .f32) (v2492 : FVec F S1x1x8x128 .f32) :
    s_part109 I i v2264 v2492 ⟨a7, a8, a9, a10, a11, a12, a13, a14, a15, a16, a17, a18⟩ =
      ((k0_pay572 v2264), ⟨a7, a8, a9, a10, a11, a12, a13, a14, a15, (VecWindow.put (VecWindow.put (VecWindow.put (VecWindow.put (VecWindow.put (VecWindow.put a16 (![1, 4, 0, 256]) S1x1x8x128.size v2492) (![0, 4, 0, 384]) S1x1x8x128.size (k0_pay567 v2264)) (![1, 4, 0, 384]) S1x1x8x128.size (k0_pay568 v2264)) (![0, 5, 0, 0]) S1x1x8x128.size (k0_pay569 v2264)) (![1, 5, 0, 0]) S1x1x8x128.size (k0_pay570 v2264)) (![0, 5, 0, 128]) S1x1x8x128.size (k0_pay571 v2264)), a17, a18⟩) := rfl

theorem e_part110 (I : In F) (i : grid0.Coords) (v2264 : FVec F S32x256 .f32) (v2525 : FVec F S8x128 .f32) :
    s_part110 I i v2264 v2525 ⟨a7, a8, a9, a10, a11, a12, a13, a14, a15, a16, a17, a18⟩ =
      ((k0_pay578 v2264), ⟨a7, a8, a9, a10, a11, a12, a13, a14, a15, (VecWindow.put (VecWindow.put (VecWindow.put (VecWindow.put (VecWindow.put a16 (![1, 5, 0, 128]) S1x1x8x128.size (k0_pay573 v2525)) (![0, 5, 0, 256]) S1x1x8x128.size (k0_pay574 v2264)) (![1, 5, 0, 256]) S1x1x8x128.size (k0_pay575 v2264)) (![0, 5, 0, 384]) S1x1x8x128.size (k0_pay576 v2264)) (![1, 5, 0, 384]) S1x1x8x128.size (k0_pay577 v2264)), a17, a18⟩) := rfl

theorem e_part111 (I : In F) (i : grid0.Coords) (v2264 : FVec F S32x256 .f32) (v2555 : FVec F S8x128 .f32) :
    s_part111 I i v2264 v2555 ⟨a7, a8, a9, a10, a11, a12, a13, a14, a15, a16, a17, a18⟩ =
      ((k0_pay585 v2264), ⟨a7, a8, a9, a10, a11, a12, a13, a14, a15, (VecWindow.put (VecWindow.put (VecWindow.put (VecWindow.put (VecWindow.put (VecWindow.put a16 (![0, 6, 0, 0]) S1x1x8x128.size (k0_pay579 v2555)) (![1, 6, 0, 0]) S1x1x8x128.size (k0_pay580 v2264)) (![0, 6, 0, 128]) S1x1x8x128.size (k0_pay581 v2264)) (![1, 6, 0, 128]) S1x1x8x128.size (k0_pay582 v2264)) (![0, 6, 0, 256]) S1x1x8x128.size (k0_pay583 v2264)) (![1, 6, 0, 256]) S1x1x8x128.size (k0_pay584 v2264)), a17, a18⟩) := rfl

theorem e_part112 (I : In F) (i : grid0.Coords) (v2264 : FVec F S32x256 .f32) (v2591 : FVec F S8x128 .f32) :
    s_part112 I i v2264 v2591 ⟨a7, a8, a9, a10, a11, a12, a13, a14, a15, a16, a17, a18⟩ =
      (⟨(k0_pay591 v2264), (VecWindow.window (VecWindow.put (VecWindow.put (VecWindow.put (VecWindow.put (VecWindow.put a16 (![0, 6, 0, 384]) S1x1x8x128.size (k0_pay586 v2591)) (![1, 6, 0, 384]) S1x1x8x128.size (k0_pay587 v2264)) (![0, 7, 0, 0]) S1x1x8x128.size (k0_pay588 v2264)) (![1, 7, 0, 0]) S1x1x8x128.size (k0_pay589 v2264)) (![0, 7, 0, 128]) S1x1x8x128.size (k0_pay590 v2264)) (![1, 7, 0, 128]) S1x1x8x128.size inb_S2x8x8x512_S1x1x8x128_1_7_0_128)⟩, ⟨a7, a8, a9, a10, a11, a12, a13, a14, a15, (VecWindow.put (VecWindow.put (VecWindow.put (VecWindow.put (VecWindow.put a16 (![0, 6, 0, 384]) S1x1x8x128.size (k0_pay586 v2591)) (![1, 6, 0, 384]) S1x1x8x128.size (k0_pay587 v2264)) (![0, 7, 0, 0]) S1x1x8x128.size (k0_pay588 v2264)) (![1, 7, 0, 0]) S1x1x8x128.size (k0_pay589 v2264)) (![0, 7, 0, 128]) S1x1x8x128.size (k0_pay590 v2264)), a17, a18⟩) := rfl

end Cert.KernelIdeal.Run

end
-- ==== Proof.PI.Before.lean ====
/-
  What the body writes before the attention loops, head by head: the codes and scales of a head of 256 rows, and each
  buffer after all its heads have been written.
-/
module

public import proofs.«01_k».proof.Proof.PI.Parts

@[expose] public section

noncomputable section

namespace Cert.KernelIdeal.Run

open Cert.KernelIdeal Cert.KernelIdeal.Gen
open Idealize.ShloMosaic Idealize.SL.Sem

variable {F : FTy → Type} [FloatOps F] [Named F]

/-- The codes of one head's 256 rows. -/
def headCodes (w : Vec F S1x256x128 .bf16) : FVec F S1x256x128 .fp8e4m3 := k0_pay228 (k0_pay221 w) (k0_pay224 w)
/-- The scales of one head's 256 rows. -/
def headScale (w : Vec F S1x256x128 .bf16) : FVec F S1x256x1 .f32 := k0_pay229 (k0_pay223 w)
/-- The scales of one head's 256 rows, repeated along the lanes. -/
def headScaleRow (w : Vec F S1x256x128 .bf16) : FVec F S1x256x128 .f32 := k0_pay227 (k0_pay223 w)
/-- The codes of one head of values under the scale given for it. -/
def valCodes (w : Vec F S1x256x128 .bf16) (u : Vec F S1x1x1x128 .f32) : FVec F S1x256x128 .fp8e4m3 :=
  k0_pay233 (k0_pay230 w) (k0_pay231 u)
/-- The same codes, transposed. -/
def valCodesT (w : Vec F S1x256x128 .bf16) (u : Vec F S1x1x1x128 .f32) : FVec F S1x1x128x256 .fp8e4m3 :=
  k0_pay234 (k0_pay230 w) (k0_pay231 u)
/-- One head's row of query scales over 128 queries, repeated over eight sublanes. -/
def aRow (z : FVec F S32x256 .f32) (h s : ℕ) (hs : S32x256.Slices ![h, s] S1x128) : FVec F S1x1x8x128 .f32 :=
  shapeCast S1x1x8x128 (broadcastTo S8x128 (shapeCast S1x128 (extractStridedSlice S1x128 ![h, s] z hs) shapeCasts_S1x128_S1x128)
    broadcasts_S1x128_S8x128) shapeCasts_S8x128_S1x1x8x128

theorem inb_q (h : Fin 32) : ∀ a, (![0, 0, 128 * h.val] : Fin 3 → ℕ) a + S1x256x128.size a ≤ S1x256x4096.size a := by
  have := h.isLt
  intro a; fin_cases a <;> simp [S1x256x128, S1x256x4096] <;> omega
theorem inb_kv (g : Fin 8) : ∀ a, (![0, 0, 128 * g.val] : Fin 3 → ℕ) a + S1x256x128.size a ≤ S1x256x1024.size a := by
  have := g.isLt
  intro a; fin_cases a <;> simp [S1x256x128, S1x256x1024] <;> omega
theorem inb_vs (g : Fin 8) : ∀ a, (![0, g.val, 0, 0] : Fin 4 → ℕ) a + S1x1x1x128.size a ≤ S1x8x8x128.size a := by
  have := g.isLt
  intro a; fin_cases a <;> simp [S1x1x1x128, S1x8x8x128] <;> omega
theorem slices_a (h : Fin 32) (b : Fin 2) : S32x256.Slices ![h.val, 128 * b.val] S1x128 := by
  have := h.isLt; have := b.isLt
  refine ⟨rfl, fun a => ?_⟩
  fin_cases a <;> simp [S32x256, S1x128] <;> omega

/-- Head `h` of a block of queries. -/
def qHead (I : In F) (h : Fin 32) : Vec F S1x256x128 .bf16 := VecWindow.window I.a2 ![0, 0, 128 * h.val] S1x256x128.size (inb_q h)
/-- Head `g` of a block of keys. -/
def kHead (I : In F) (g : Fin 8) : Vec F S1x256x128 .bf16 := VecWindow.window I.a3 ![0, 0, 128 * g.val] S1x256x128.size (inb_kv g)
/-- Head `g` of a block of values. -/
def vHead (I : In F) (g : Fin 8) : Vec F S1x256x128 .bf16 := VecWindow.window I.a4 ![0, 0, 128 * g.val] S1x256x128.size (inb_kv g)
/-- The scale given for head `g` of the values. -/
def vsHead (I : In F) (g : Fin 8) : Vec F S1x1x1x128 .f32 := VecWindow.window I.a5 ![0, g.val, 0, 0] S1x1x1x128.size (inb_vs g)

/-- The query codes after every head. -/
def wr8 (I : In F) (a8 : S1x256x4096.Idx → Elt F .fp8e4m3) : S1x256x4096.Idx → Elt F .fp8e4m3 :=
  ([0, 1, 2, 3, 4, 5, 6, 7, 8, 9, 10, 11, 12, 13, 14, 15, 16, 17, 18, 19, 20, 21, 22, 23, 24, 25, 26, 27, 28, 29, 30, 31] : List (Fin 32)).foldl (fun a h => VecWindow.put a ![0, 0, 128 * h.val] S1x256x128.size (headCodes (qHead I h))) a8

/-- The query scales after every head. -/
def wr9 (I : In F) (a9 : S1x256x32.Idx → Elt F .f32) : S1x256x32.Idx → Elt F .f32 :=
  ([0, 1, 2, 3, 4, 5, 6, 7, 8, 9, 10, 11, 12, 13, 14, 15, 16, 17, 18, 19, 20, 21, 22, 23, 24, 25, 26, 27, 28, 29, 30, 31] : List (Fin 32)).foldl (fun a h => VecWindow.put a ![0, 0, h.val] S1x256x1.size (headScale (qHead I h))) a9

/-- The key codes after every head. -/
def wr10 (I : In F) (a10 : S1x256x1024.Idx → Elt F .fp8e4m3) : S1x256x1024.Idx → Elt F .fp8e4m3 :=
  ([0, 1, 2, 3, 4, 5, 6, 7] : List (Fin 8)).foldl (fun a h => VecWindow.put a ![0, 0, 128 * h.val] S1x256x128.size (headCodes (kHead I h))) a10

/-- The key scales after every head. -/
def wr11 (I : In F) (a11 : S1x256x8.Idx → Elt F .f32) : S1x256x8.Idx → Elt F .f32 :=
  ([0, 1, 2, 3, 4, 5, 6, 7] : List (Fin 8)).foldl (fun a h => VecWindow.put a ![0, 0, h.val] S1x256x1.size (headScale (kHead I h))) a11

/-- The value codes after every head. -/
def wr12 (I : In F) (a12 : S1x256x1024.Idx → Elt F .fp8e4m3) : S1x256x1024.Idx → Elt F .fp8e4m3 :=
  ([0, 1, 2, 3, 4, 5, 6, 7] : List (Fin 8)).foldl (fun a h => VecWindow.put a ![0, 0, 128 * h.val] S1x256x128.size (valCodes (vHead I h) (vsHead I h))) a12

/-- The key ring after every head. -/
def wr13 (I : In F) (i : grid0.Coords) (a13 : S8x1280x128.Idx → Elt F .fp8e4m3) : S8x1280x128.Idx → Elt F .fp8e4m3 :=
  ([0, 1, 2, 3, 4, 5, 6, 7] : List (Fin 8)).foldl (fun a h => VecWindow.put a ![h.val, k0_off1 i 1, 0] S1x256x128.size (headCodes (kHead I h))) (init13 i a13)

/-- The ring of key scales after every head. -/
def wr14 (I : In F) (i : grid0.Coords) (a14 : S8x1280x128.Idx → Elt F .f32) : S8x1280x128.Idx → Elt F .f32 :=
  ([0, 1, 2, 3, 4, 5, 6, 7] : List (Fin 8)).foldl (fun a h => VecWindow.put a ![h.val, k0_off1 i 1, 0] S1x256x128.size (headScaleRow (kHead I h))) a14

/-- The value ring after every head. -/
def wr15 (I : In F) (i : grid0.Coords) (a15 : S8x5x128x256.Idx → Elt F .fp8e4m3) : S8x5x128x256.Idx → Elt F .fp8e4m3 :=
  ([0, 1, 2, 3, 4, 5, 6, 7] : List (Fin 8)).foldl (fun a h => VecWindow.put a ![h.val, k0_off2 i 1, 0, 0] S1x1x128x256.size (valCodesT (vHead I h) (vsHead I h))) (init15 i a15)

/-- The query scales transposed, times the constant of the scores. -/
def aQ (I : In F) (a9 : S1x256x32.Idx → Elt F .f32) : FVec F S32x256 .f32 :=
  k0_pay523 (k0_pay522 (VecWindow.window (wr9 I a9) ![0, 0, 0] S1x256x32.size inb_S1x256x32_S1x256x32_0_0_0))

/-- The rows of query scales after every head and both halves of the queries. -/
def wr16 (I : In F) (a9 : S1x256x32.Idx → Elt F .f32) (a16 : S2x8x8x512.Idx → Elt F .f32) : S2x8x8x512.Idx → Elt F .f32 :=
  ([0, 1, 2, 3, 4, 5, 6, 7, 8, 9, 10, 11, 12, 13, 14, 15, 16, 17, 18, 19, 20, 21, 22, 23, 24, 25, 26, 27, 28, 29, 30, 31] : List (Fin 32)).foldl (fun a h =>
    VecWindow.put (VecWindow.put a ![0, h.val / 4, 0, 128 * (h.val % 4)] S1x1x8x128.size (aRow (aQ I a9) h.val (128 * (0 : Fin 2).val) (slices_a h 0)))
      ![1, h.val / 4, 0, 128 * (h.val % 4)] S1x1x8x128.size (aRow (aQ I a9) h.val (128 * (1 : Fin 2).val) (slices_a h 1))) a16

/-- The state the attention loops start from. -/
def before (I : In F) (i : grid0.Coords) (s : St F) : St F :=
  ⟨s.a7, wr8 I s.a8, wr9 I s.a9, wr10 I s.a10, wr11 I s.a11, wr12 I s.a12, wr13 I i s.a13, wr14 I i s.a14, wr15 I i s.a15,
    wr16 I s.a9 s.a16, s.a17, s.a18⟩

end Cert.KernelIdeal.Run

end
-- ==== Proof.PI.Split.lean ====
/-
  The body as the writes before the attention loops followed by the loops.
-/
module

public import proofs.«01_k».proof.Proof.PI.Before

@[expose] public section

noncomputable section

namespace Cert.KernelIdeal.Run

open Cert.KernelIdeal Cert.KernelIdeal.Gen
open Idealize.ShloMosaic Idealize.SL.Sem

variable {F : FTy → Type} [FloatOps F] [Named F]

/-- The attention of the first points of a batch, the absent keys masked. -/
def loop1 (I : In F) (i : grid0.Coords) : PM F Unit :=
  if h : k0_cond2 i = 1#1 then
    PM.loop k0_t1_loop.trips (s_t1_body I i (BitVec.ofNat 32 (i 1).val) (broadcast _ (Scalar.ofBits .f32 0#32)) (broadcast _ (Scalar.ofBits .f32 0#32)) (broadcast _ (Scalar.ofBits .f32 0#32)) h) else pure ⟨⟩

/-- The attention of the other points. -/
def loop2 (I : In F) (i : grid0.Coords) : PM F Unit :=
  if h : k0_cond3 i = 1#1 then
    PM.loop k0_t2_loop.trips (s_t2_body I i (BitVec.ofNat 32 (i 1).val) k0_pay597 h) else pure ⟨⟩

theorem e_part113 (I : In F) (i : grid0.Coords) (v2264 : FVec F S32x256 .f32) (v2621 : FVec F S8x128 .f32) (v2622 : Vec F S1x1x8x128 .f32) (a7 : S1x256x4096.Idx → Elt F .bf16) (a8 : S1x256x4096.Idx → Elt F .fp8e4m3) (a9 : S1x256x32.Idx → Elt F .f32) (a10 : S1x256x1024.Idx → Elt F .fp8e4m3) (a11 : S1x256x8.Idx → Elt F .f32) (a12 : S1x256x1024.Idx → Elt F .fp8e4m3) (a13 : S8x1280x128.Idx → Elt F .fp8e4m3) (a14 : S8x1280x128.Idx → Elt F .f32) (a15 : S8x5x128x256.Idx → Elt F .fp8e4m3) (a16 : S2x8x8x512.Idx → Elt F .f32) (a17 : S5x256x512.Idx → Elt F .f32) (a18 : S5x256x512.Idx → Elt F .fp8e4m3) :
    s_part113 I i (BitVec.ofNat 32 (i 1).val) v2264 v2621 v2622 ⟨a7, a8, a9, a10, a11, a12, a13, a14, a15, a16, a17, a18⟩ = (⟨k0_pay597, 4#32⟩, (loop1 I i ⟨a7, a8, a9, a10, a11, a12, a13, a14, a15, (VecWindow.put (VecWindow.put (VecWindow.put (VecWindow.put (VecWindow.put a16 (![1, 7, 0, 128]) S1x1x8x128.size (k0_pay592 v2621)) (![0, 7, 0, 256]) S1x1x8x128.size (k0_pay593 v2264)) (![1, 7, 0, 256]) S1x1x8x128.size (k0_pay594 v2264)) (![0, 7, 0, 384]) S1x1x8x128.size (k0_pay595 v2264)) (![1, 7, 0, 384]) S1x1x8x128.size (k0_pay596 v2264)), a17, a18⟩).2) := by
  unfold s_part113 loop1
  by_cases h : k0_cond2 i = 1#1
  · simp only [dif_pos h]; rfl
  · simp only [dif_neg h]; rfl

set_option maxRecDepth 20000 in
set_option maxHeartbeats 4000000 in
theorem s_attn_eq (I : In F) (i : grid0.Coords) (s : St F) :
    (s_attn I i s).2 = (loop2 I i (loop1 I i (before I i s)).2).2 := by
  obtain ⟨a7, a8, a9, a10, a11, a12, a13, a14, a15, a16, a17, a18⟩ := s
  have e2 : ∀ s, ((if h : k0_cond3 i = 1#1 then do
      PM.loop k0_t2_loop.trips (s_t2_body I i (BitVec.ofNat 32 (i 1).val) k0_pay597 h)
      pure ⟨⟩
    else do
      pure ⟨⟩ : PM F PUnit) s).2 = (loop2 I i s).2 := fun s => by
    unfold loop2
    by_cases h : k0_cond3 i = 1#1
    · simp only [dif_pos h]; rfl
    · simp only [dif_neg h]
  simp only [s_attn, s_part114, PM.bind_apply, PM.pure_apply, e_part44, e_part45, e_part46, e_part47, e_part48, e_part49, e_part50, e_part51, e_part52, e_part53, e_part54, e_part55, e_part56, e_part57, e_part58, e_part59, e_part60, e_part61, e_part62, e_part63, e_part64, e_part65, e_part66, e_part67, e_part68, e_part69, e_part70, e_part71, e_part72, e_part73, e_part74, e_part75, e_part76, e_part77, e_part78, e_part79, e_part80, e_part81, e_part82, e_part83, e_part84, e_part85, e_part86, e_part87, e_part88, e_part89, e_part90, e_part91, e_part92, e_part93, e_part94, e_part95, e_part96, e_part97, e_part98, e_part99, e_part100, e_part101, e_part102, e_part103, e_part104, e_part105, e_part106, e_part107, e_part108, e_part109, e_part110, e_part111, e_part112, e_part113]
  rw [e2]
  refine congrArg (fun s => (loop2 I i (loop1 I i s).2).2) ?_
  rfl

end Cert.KernelIdeal.Run

end
-- ==== Proof.PI.Kept.lean ====
/-
  The attention loops leave the codes, the scales, the rings and the rows of query scales as they are: they write the
  output block and the two scratch buffers of one unit only.
-/
module

public import proofs.«01_k».proof.Proof.PI.Split

@[expose] public section

noncomputable section

namespace Cert.KernelIdeal.Run

open Cert.KernelIdeal Cert.KernelIdeal.Gen
open Idealize.ShloMosaic Idealize.SL.Sem

variable {F : FTy → Type} [FloatOps F] [Named F]

/-- What the loops leave alone. -/
def kept (s : St F) := (s.a8, s.a9, s.a10, s.a11, s.a12, s.a13, s.a14, s.a15, s.a16)

/-- A computation that leaves it alone. -/
def Keeps {α : Type} (f : PM F α) : Prop := ∀ s, kept (f s).2 = kept s

theorem Keeps.bind {α β : Type} {f : PM F α} {g : α → PM F β} (hf : Keeps f) (hg : ∀ a, Keeps (g a)) : Keeps (f >>= g) :=
  fun s => (hg _ _).trans (hf s)

theorem keeps_part1 (I : In F) (i : grid0.Coords) (arg1 : BitVec 32) (k0_h2 : k0_cond2 i = 1#1) (c0_i32_1293 : BitVec 32) (c1_i32 : BitVec 32) (k0_t1 : Fin k0_t1_loop.trips) : Keeps (s_part1 I i arg1 k0_h2 c0_i32_1293 c1_i32 k0_t1) := fun _ => rfl
theorem keeps_part2 (I : In F) (i : grid0.Coords) (arg1 : BitVec 32) (v2653 : IVec S128x512 1) (k0_h2 : k0_cond2 i = 1#1) (k0_t1 : Fin k0_t1_loop.trips) (arg19 : BitVec 32) (v2689 : FVec F S512x128 .fp8e4m3) (v2694 : BitVec 32) : Keeps (s_part2 I i arg1 v2653 k0_h2 k0_t1 arg19 v2689 v2694) := fun _ => rfl
theorem keeps_part3 (I : In F) (i : grid0.Coords) (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) : Keeps (s_part3 I i arg1 k0_h2 k0_t1 arg19 v2689 v2733 v2734) := fun _ => rfl
theorem keeps_part4 (I : In F) (i : grid0.Coords) (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) : Keeps (s_part4 I i arg1 k0_h2 k0_t1 arg19 v2689 v2766 v2769 c256_i32_1359) := fun _ => rfl
theorem keeps_part5 (I : In F) (i : grid0.Coords) (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) : Keeps (s_part5 I i arg1 k0_h2 k0_t1 arg19 v2689 v2794 v2805) := fun _ => rfl
theorem keeps_part6 (I : In F) (i : grid0.Coords) (k0_h2 : k0_cond2 i = 1#1) (k0_t1 : Fin k0_t1_loop.trips) (arg19 : BitVec 32) (v2692 : FVec F S8x512 .f32) (v2822 : FVec F S8x512 .f32) (v2844 : FVec F S256x512 .f32) : Keeps (s_part6 I i k0_h2 k0_t1 arg19 v2692 v2822 v2844) := fun _ => rfl
theorem keeps_part7 (I : In F) (i : grid0.Coords) (v2653 : IVec S128x512 1) (v2692 : FVec F S8x512 .f32) (v2861 : FVec F S8x512 .f32) (v2889 : FVec F S8x512 .f32) : Keeps (s_part7 I i v2653 v2692 v2861 v2889) := fun _ => rfl
theorem keeps_part8 (I : In F) (i : grid0.Coords) (v2692 : FVec F S8x512 .f32) (v2890 : FVec F S8x512 .f32) (v2903 : FVec F S8x512 .f32) (v2928 : FVec F S16x8x512 .f32) (v2929 : FVec F S8x512 .f32) : Keeps (s_part8 I i v2692 v2890 v2903 v2928 v2929) := fun _ => rfl
theorem keeps_part9 (I : In F) (i : grid0.Coords) (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) : Keeps (s_part9 I i k0_h2 k0_t1 arg19 v2692 v2859 v2861 v2888 v2890 v2968 v2970) := fun _ => rfl
theorem keeps_part10 (I : In F) (i : grid0.Coords) (arg1 : BitVec 32) (k0_h2 : k0_cond2 i = 1#1) (k0_t1 : Fin k0_t1_loop.trips) (arg19 : BitVec 32) (v3004 : FVec F S8x512 .f32) (v3009 : FVec F S8x512 .f32) : Keeps (s_part10 I i arg1 k0_h2 k0_t1 arg19 v3004 v3009) := fun _ => rfl
theorem keeps_part11 (I : In F) (i : grid0.Coords) (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) : Keeps (s_part11 I i k0_h2 k0_t1 arg19 v3010 v3017 v3024 v3031 v3038 v3044) := fun _ => rfl
theorem keeps_part12 (I : In F) (i : grid0.Coords) (k0_h2 : k0_cond2 i = 1#1) (k0_t1 : Fin k0_t1_loop.trips) (arg19 : BitVec 32) (v3054 : FVec F S128x512 .f32) (v3080 : BitVec 32) (v3083 : FVec F S128x128 .bf16) : Keeps (s_part12 I i k0_h2 k0_t1 arg19 v3054 v3080 v3083) := fun _ => rfl
theorem keeps_part13 (I : In F) (i : grid0.Coords) (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) : Keeps (s_part13 I i arg1 k0_h2 k0_t1 arg19 v3105 v3112 v3119 v3120) := fun _ => rfl
theorem keeps_part14 (I : In F) (i : grid0.Coords) (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) : Keeps (s_part14 I i arg1 v2653 k0_h2 k0_t1 arg19 v3127 v3148 v3153 v3158) := fun _ => rfl
theorem keeps_part15 (I : In F) (i : grid0.Coords) (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) : Keeps (s_part15 I i arg1 k0_h2 k0_t1 arg19 v3127 v3173 v3194 v3196) := fun _ => rfl
theorem keeps_part16 (I : In F) (i : grid0.Coords) (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) : Keeps (s_part16 I i arg1 k0_h2 k0_t1 arg19 v3127 v3232 c1_i32_1599) := fun _ => rfl
theorem keeps_part17 (I : In F) (i : grid0.Coords) (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) : Keeps (s_part17 I i k0_h2 k0_t1 arg19 v3127 v3130 v3260 v3265 v3270) := fun _ => rfl
theorem keeps_part18 (I : In F) (i : grid0.Coords) (v2653 : IVec S128x512 1) (v3130 : FVec F S8x512 .f32) (v3295 : FVec F S8x512 .f32) (v3311 : IVec S8x512 32) (v3313 : IVec S8x512 1) : Keeps (s_part18 I i v2653 v3130 v3295 v3311 v3313) := fun _ => rfl
theorem keeps_part19 (I : In F) (i : grid0.Coords) (v3130 : FVec F S8x512 .f32) (v3324 : FVec F S8x512 .f32) (v3337 : FVec F S8x512 .f32) (v3351 : Vec F S1x256x512 .f32) : Keeps (s_part19 I i v3130 v3324 v3337 v3351) := fun _ => rfl
theorem keeps_part20 (I : In F) (i : grid0.Coords) (v3130 : FVec F S8x512 .f32) (v3324 : FVec F S8x512 .f32) (v3383 : FVec F S8x512 .f32) (v3391 : FVec F S32x8x512 .f32) (v3393 : FVec F S32x8x512 .f32) : Keeps (s_part20 I i v3130 v3324 v3383 v3391 v3393) := fun _ => rfl
theorem keeps_part21 (I : In F) (i : grid0.Coords) (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) : Keeps (s_part21 I i arg1 k0_h2 k0_t1 arg19 v3293 v3295 v3322 v3432) := fun _ => rfl
theorem keeps_part22 (I : In F) (i : grid0.Coords) (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) : Keeps (s_part22 I i arg1 k0_h2 k0_t1 arg19 v3444 v3451 v3458 v3465) := fun _ => rfl
theorem keeps_part23 (I : In F) (i : grid0.Coords) (arg1 : BitVec 32) (k0_h3 : k0_cond3 i = 1#1) (c0_i32_1293 : BitVec 32) (c1_i32 : BitVec 32) (k0_t2 : Fin k0_t2_loop.trips) : Keeps (s_part23 I i arg1 k0_h3 c0_i32_1293 c1_i32 k0_t2) := fun _ => rfl
theorem keeps_part24 (I : In F) (i : grid0.Coords) (arg1 : BitVec 32) (v2653 : IVec S128x512 1) (k0_h3 : k0_cond3 i = 1#1) (k0_t2 : Fin k0_t2_loop.trips) (arg19 : BitVec 32) (v2689 : FVec F S512x128 .fp8e4m3) (v2694 : BitVec 32) : Keeps (s_part24 I i arg1 v2653 k0_h3 k0_t2 arg19 v2689 v2694) := fun _ => rfl
theorem keeps_part25 (I : In F) (i : grid0.Coords) (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) : Keeps (s_part25 I i arg1 k0_h3 k0_t2 arg19 v2689 v2731 v2734) := fun _ => rfl
theorem keeps_part26 (I : In F) (i : grid0.Coords) (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) : Keeps (s_part26 I i arg1 k0_h3 k0_t2 arg19 v2689 v2758 v2769 v2770) := fun _ => rfl
theorem keeps_part27 (I : In F) (i : grid0.Coords) (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) : Keeps (s_part27 I i k0_h3 k0_t2 arg19 v2689 v2692 v2806 v2808 c5_i32_1378) := fun _ => rfl
theorem keeps_part28 (I : In F) (i : grid0.Coords) (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) : Keeps (s_part28 I i v2653 v2692 v2841 v2845 v2846 v2849 v2850) := fun _ => rfl
theorem keeps_part29 (I : In F) (i : grid0.Coords) (v2692 : FVec F S8x512 .f32) (v2870 : FVec F S8x512 .f32) (v2883 : FVec F S8x512 .f32) (v2893 : FVec F S128x512 .fp8e4m3) : Keeps (s_part29 I i v2692 v2870 v2883 v2893) := fun _ => rfl
theorem keeps_part30 (I : In F) (i : grid0.Coords) (v2692 : FVec F S8x512 .f32) (v2870 : FVec F S8x512 .f32) (v2929 : FVec F S8x512 .f32) (v2931 : FVec F S256x512 .fp8e4m3) (v2932 : Vec F S1x256x512 .fp8e4m3) : Keeps (s_part30 I i v2692 v2870 v2929 v2931 v2932) := fun _ => rfl
theorem keeps_part31 (I : In F) (i : grid0.Coords) (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) : Keeps (s_part31 I i arg1 k0_h3 k0_t2 arg19 v2839 v2841 v2868 v2967 cst_1447) := fun _ => rfl
theorem keeps_part32 (I : In F) (i : grid0.Coords) (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) : Keeps (s_part32 I i arg1 k0_h3 k0_t2 arg19 v2990 v2997 v3004) := fun _ => rfl
theorem keeps_part33 (I : In F) (i : grid0.Coords) (k0_h3 : k0_cond3 i = 1#1) (k0_t2 : Fin k0_t2_loop.trips) (arg19 : BitVec 32) (v3034 : FVec F S128x512 .f32) (v3047 : BitVec 32) : Keeps (s_part33 I i k0_h3 k0_t2 arg19 v3034 v3047) := fun _ => rfl
theorem keeps_part34 (I : In F) (i : grid0.Coords) (arg1 : BitVec 32) (k0_h3 : k0_cond3 i = 1#1) (k0_t2 : Fin k0_t2_loop.trips) (arg19 : BitVec 32) (v3085 : FVec F S128x128 .fp8e4m3) (c4_i32_1509 : BitVec 32) : Keeps (s_part34 I i arg1 k0_h3 k0_t2 arg19 v3085 c4_i32_1509) := fun _ => rfl
theorem keeps_part35 (I : In F) (i : grid0.Coords) (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) : Keeps (s_part35 I i arg1 v2653 k0_h3 k0_t2 arg19 v3107 v3115 v3121) := fun _ => rfl
theorem keeps_part36 (I : In F) (i : grid0.Coords) (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) : Keeps (s_part36 I i arg1 k0_h3 k0_t2 arg19 v3107 v3149 v3157) := fun _ => rfl
theorem keeps_part37 (I : In F) (i : grid0.Coords) (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) : Keeps (s_part37 I i arg1 k0_h3 k0_t2 arg19 v3107 v3176 v3198) := fun _ => rfl
theorem keeps_part38 (I : In F) (i : grid0.Coords) (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) : Keeps (s_part38 I i k0_h3 k0_t2 arg19 v3110 v3224 v3229 v3235 c0_i32_1595) := fun _ => rfl
theorem keeps_part39 (I : In F) (i : grid0.Coords) (v2653 : IVec S128x512 1) (v3110 : FVec F S8x512 .f32) (v3259 : FVec F S8x512 .f32) (v3277 : IVec S8x512 1) (v3279 : IVec S8x512 32) : Keeps (s_part39 I i v2653 v3110 v3259 v3277 v3279) := fun _ => rfl
theorem keeps_part40 (I : In F) (i : grid0.Coords) (v3110 : FVec F S8x512 .f32) (v3288 : FVec F S8x512 .f32) (v3301 : FVec F S8x512 .f32) (v3317 : FVec F S32x8x512 .f32) (v3318 : FVec F S1x8x512 .f32) : Keeps (s_part40 I i v3110 v3288 v3301 v3317 v3318) := fun _ => rfl
theorem keeps_part41 (I : In F) (i : grid0.Coords) (v3110 : FVec F S8x512 .f32) (v3286 : FVec F S8x512 .f32) (v3288 : FVec F S8x512 .f32) (v3347 : FVec F S8x512 .f32) (v3358 : FVec F S32x8x512 .f32) (v3360 : FVec F S32x8x512 .f32) : Keeps (s_part41 I i v3110 v3286 v3288 v3347 v3358 v3360) := fun _ => rfl
theorem keeps_part42 (I : In F) (i : grid0.Coords) (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) : Keeps (s_part42 I i arg1 k0_h3 k0_t2 arg19 v3257 v3259 v3286 v3399) := fun _ => rfl
theorem keeps_part43 (I : In F) (i : grid0.Coords) (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) : Keeps (s_part43 I i arg1 k0_h3 k0_t2 arg19 v3408 v3415 v3422 v3429 v3436) := fun _ => rfl

theorem keeps_t1 (I : In F) (i : grid0.Coords) (arg1 : BitVec 32) (v2264 : FVec F S32x256 .f32) (v2621 : FVec F S8x128 .f32) (v2622 : Vec F S1x1x8x128 .f32) (k0_h2 : k0_cond2 i = 1#1) (k0_t1 : Fin k0_t1_loop.trips) : Keeps (s_t1_body I i arg1 v2264 v2621 v2622 k0_h2 k0_t1) := by
  unfold s_t1_body
  refine Keeps.bind (keeps_part1 _ _ _ _ _ _ _) fun ⟨arg19, v2689, v2692, v2694⟩ => ?_
  refine Keeps.bind (keeps_part2 _ _ _ _ _ _ _ _ _) fun ⟨v2733, v2734⟩ => ?_
  refine Keeps.bind (keeps_part3 _ _ _ _ _ _ _ _ _) fun ⟨v2766, v2769, c256_i32_1359⟩ => ?_
  refine Keeps.bind (keeps_part4 _ _ _ _ _ _ _ _ _ _) fun ⟨v2794, v2805⟩ => ?_
  refine Keeps.bind (keeps_part5 _ _ _ _ _ _ _ _ _) fun ⟨v2822, v2844⟩ => ?_
  refine Keeps.bind (keeps_part6 _ _ _ _ _ _ _ _) fun ⟨v2859, v2861, v2888, v2889⟩ => ?_
  refine Keeps.bind (keeps_part7 _ _ _ _ _ _) fun ⟨v2890, v2903, v2928, v2929⟩ => ?_
  refine Keeps.bind (keeps_part8 _ _ _ _ _ _ _) fun ⟨v2968, v2970⟩ => ?_
  refine Keeps.bind (keeps_part9 _ _ _ _ _ _ _ _ _ _ _ _) fun ⟨v3004, v3009⟩ => ?_
  refine Keeps.bind (keeps_part10 _ _ _ _ _ _ _ _) fun ⟨v3010, v3017, v3024, v3031, v3038, v3044⟩ => ?_
  refine Keeps.bind (keeps_part11 _ _ _ _ _ _ _ _ _ _ _) fun ⟨v3054, v3080, v3083⟩ => ?_
  refine Keeps.bind (keeps_part12 _ _ _ _ _ _ _ _) fun ⟨v3105, v3112, v3119, v3120⟩ => ?_
  refine Keeps.bind (keeps_part13 _ _ _ _ _ _ _ _ _ _) fun ⟨v3127, v3130, v3148, v3153, v3158⟩ => ?_
  refine Keeps.bind (keeps_part14 _ _ _ _ _ _ _ _ _ _ _) fun ⟨v3173, v3194, v3196⟩ => ?_
  refine Keeps.bind (keeps_part15 _ _ _ _ _ _ _ _ _ _) fun ⟨v3232, c1_i32_1599⟩ => ?_
  refine Keeps.bind (keeps_part16 _ _ _ _ _ _ _ _ _) fun ⟨v3260, v3265, v3270⟩ => ?_
  refine Keeps.bind (keeps_part17 _ _ _ _ _ _ _ _ _ _) fun ⟨v3293, v3295, v3311, v3313⟩ => ?_
  refine Keeps.bind (keeps_part18 _ _ _ _ _ _ _) fun ⟨v3322, v3324, v3337, v3351⟩ => ?_
  refine Keeps.bind (keeps_part19 _ _ _ _ _ _) fun ⟨v3383, v3391, v3393⟩ => ?_
  refine Keeps.bind (keeps_part20 _ _ _ _ _ _ _) fun v3432 => ?_
  refine Keeps.bind (keeps_part21 _ _ _ _ _ _ _ _ _ _) fun ⟨v3444, v3451, v3458, v3465⟩ => ?_
  refine Keeps.bind (keeps_part22 _ _ _ _ _ _ _ _ _ _) fun ⟨v3488, v3506⟩ => ?_
  refine Keeps.bind (fun _ => rfl) fun _ => ?_
  refine Keeps.bind (fun _ => rfl) fun v3519 => ?_
  refine Keeps.bind (fun _ => rfl) fun _ => ?_
  refine Keeps.bind (fun _ => rfl) fun v3530 => ?_
  refine Keeps.bind (fun _ => rfl) fun _ => ?_
  exact fun _ => rfl

theorem keeps_t2 (I : In F) (i : grid0.Coords) (arg1 : BitVec 32) (v2653 : IVec S128x512 1) (k0_h3 : k0_cond3 i = 1#1) (k0_t2 : Fin k0_t2_loop.trips) : Keeps (s_t2_body I i arg1 v2653 k0_h3 k0_t2) := by
  unfold s_t2_body
  refine Keeps.bind (keeps_part23 _ _ _ _ _ _ _) fun ⟨arg19, v2689, v2692, v2694⟩ => ?_
  refine Keeps.bind (keeps_part24 _ _ _ _ _ _ _ _ _) fun ⟨v2731, v2734⟩ => ?_
  refine Keeps.bind (keeps_part25 _ _ _ _ _ _ _ _ _) fun ⟨v2758, v2769, v2770⟩ => ?_
  refine Keeps.bind (keeps_part26 _ _ _ _ _ _ _ _ _ _) fun ⟨v2806, v2808, c5_i32_1378⟩ => ?_
  refine Keeps.bind (keeps_part27 _ _ _ _ _ _ _ _ _ _) fun ⟨v2839, v2841, v2845, v2846, v2849, v2850⟩ => ?_
  refine Keeps.bind (keeps_part28 _ _ _ _ _ _ _ _ _) fun ⟨v2868, v2870, v2883, v2893⟩ => ?_
  refine Keeps.bind (keeps_part29 _ _ _ _ _ _) fun ⟨v2929, v2931, v2932⟩ => ?_
  refine Keeps.bind (keeps_part30 _ _ _ _ _ _ _) fun ⟨v2967, cst_1447⟩ => ?_
  refine Keeps.bind (keeps_part31 _ _ _ _ _ _ _ _ _ _ _) fun ⟨v2990, v2997, v3004⟩ => ?_
  refine Keeps.bind (keeps_part32 _ _ _ _ _ _ _ _ _) fun ⟨v3034, v3047⟩ => ?_
  refine Keeps.bind (keeps_part33 _ _ _ _ _ _ _) fun ⟨v3085, c4_i32_1509⟩ => ?_
  refine Keeps.bind (keeps_part34 _ _ _ _ _ _ _ _) fun ⟨v3107, v3110, v3115, v3121⟩ => ?_
  refine Keeps.bind (keeps_part35 _ _ _ _ _ _ _ _ _ _) fun ⟨v3149, v3157⟩ => ?_
  refine Keeps.bind (keeps_part36 _ _ _ _ _ _ _ _ _) fun ⟨v3176, v3198⟩ => ?_
  refine Keeps.bind (keeps_part37 _ _ _ _ _ _ _ _ _) fun ⟨v3224, v3229, v3235, c0_i32_1595⟩ => ?_
  refine Keeps.bind (keeps_part38 _ _ _ _ _ _ _ _ _ _) fun ⟨v3257, v3259, v3277, v3279⟩ => ?_
  refine Keeps.bind (keeps_part39 _ _ _ _ _ _ _) fun ⟨v3286, v3288, v3301, v3317, v3318⟩ => ?_
  refine Keeps.bind (keeps_part40 _ _ _ _ _ _ _) fun ⟨v3347, v3358, v3360⟩ => ?_
  refine Keeps.bind (keeps_part41 _ _ _ _ _ _ _ _) fun v3399 => ?_
  refine Keeps.bind (keeps_part42 _ _ _ _ _ _ _ _ _ _) fun ⟨v3408, v3415, v3422, v3429, v3436⟩ => ?_
  refine Keeps.bind (keeps_part43 _ _ _ _ _ _ _ _ _ _ _) fun ⟨v3452, c4_i32_1706⟩ => ?_
  refine Keeps.bind (fun _ => rfl) fun v3483 => ?_
  refine Keeps.bind (fun _ => rfl) fun _ => ?_
  refine Keeps.bind (fun _ => rfl) fun v3494 => ?_
  refine Keeps.bind (fun _ => rfl) fun _ => ?_
  exact fun _ => rfl

theorem keeps_seq {n : ℕ} (b : Fin n → PM F Unit) (hb : ∀ k, Keeps (b k)) (l : List (Fin n)) : Keeps (PM.seq b l) := by
  induction l with
  | nil => exact fun _ => rfl
  | cons k ks ih => exact (hb k).bind fun _ => ih

theorem keeps_loop1 (I : In F) (i : grid0.Coords) : Keeps (loop1 I i) := by
  unfold loop1
  split
  · exact keeps_seq _ (fun k => keeps_t1 I i _ _ _ _ _ k) _
  · exact fun _ => rfl

theorem keeps_loop2 (I : In F) (i : grid0.Coords) : Keeps (loop2 I i) := by
  unfold loop2
  split
  · exact keeps_seq _ (fun k => keeps_t2 I i _ _ _ k) _
  · exact fun _ => rfl

/-- After the body the codes, scales and rings are what the writes before the loops left. -/
theorem kept_attn (I : In F) (i : grid0.Coords) (s : St F) : kept (s_attn I i s).2 = kept (before I i s) := by
  rw [s_attn_eq, keeps_loop2, keeps_loop1]

end Cert.KernelIdeal.Run

end
-- ==== Proof.Spec.Exponent.lean ====
/-
  The exponent of a scale, two ways. One counts the powers of two at or below the value among the 255 that are bit
  patterns with an empty fraction, and reads the scale and its inverse as such patterns; the other takes the floor of
  the binary logarithm. Below 2⁻¹²⁶ both give exponent zero.
-/
module

public import Idealize.ShloMosaic.PureOps.Ideal.Laws
public import Idealize.ShloMosaic.Lib.IdealHost
public import Mathlib.Analysis.SpecialFunctions.Pow.Real

@[expose] public section

noncomputable section

namespace Cert.Spec

open Idealize.ShloMosaic

/-- The exponent of the scale of a row whose largest magnitude over 448 is `y`. -/
def expo (y : ℝ) : ℤ := if y < (2 : ℝ) ^ (-126 : ℤ) then 0 else ⌊Real.log y / Real.log 2⌋ + 1

/-- The value of the pattern with exponent field `f` and empty fraction. -/
def pat (b : BitVec 32) : EReal := Ideal.ofBits .f32 (b <<< 23)

theorem pat_bits : ∀ f : Fin 256, ((BitVec.ofNat 32 f.val <<< 23).extractLsb' (8 + 23) 1 == 1#1) = false
    ∧ ((BitVec.ofNat 32 f.val <<< 23).extractLsb' 23 8).toNat = f.val
    ∧ ((BitVec.ofNat 32 f.val <<< 23).extractLsb' 0 23).toNat = 0 := by decide +kernel

theorem ieee_f32 (b : BitVec 32) (f : ℕ) (b1 : (b.extractLsb' (8 + 23) 1 == 1#1) = false)
    (b2 : (b.extractLsb' 23 8).toNat = f) (b3 : (b.extractLsb' 0 23).toNat = 0) (h0 : f ≠ 0) (h : f ≠ 255) :
    Ideal.ieee 8 23 b = (((2 : ℝ) ^ ((f : ℤ) - 127) : ℝ) : EReal) := by
  have h' : f ≠ 2 ^ 8 - 1 := h
  simp only [Ideal.ieee, b1, b2, b3, if_neg h0, if_neg h']
  refine congrArg _ ?_
  simp only [Bool.false_eq_true, if_false, one_mul]
  have e : (((2 ^ 23 + 0 : ℕ)) : ℝ) = (2 : ℝ) ^ (23 : ℤ) := by norm_num
  rw [e, ← zpow_add₀ (by norm_num)]
  refine congrArg _ ?_
  norm_num

theorem pat_ofNat (f : ℕ) (h0 : 0 < f) (h : f < 255) : pat (BitVec.ofNat 32 f) = (((2 : ℝ) ^ ((f : ℤ) - 127) : ℝ) : EReal) := by
  obtain ⟨b1, b2, b3⟩ := pat_bits ⟨f, by omega⟩
  exact ieee_f32 _ f b1 b2 b3 (by omega) (by omega)

theorem pat_255 : pat (BitVec.ofNat 32 255) = ⊤ := by
  obtain ⟨b1, b2, b3⟩ := pat_bits ⟨255, by omega⟩
  show Ideal.ieee 8 23 (BitVec.ofNat 32 255 <<< 23) = _
  simp only [Ideal.ieee, b1, b2, b3]
  rfl

/-- The number of those patterns, the zero one apart, at or below `y`. -/
def field (y : EReal) : ℕ := (Finset.univ.filter fun f : Fin 256 => 0 < f.val ∧ pat (BitVec.ofNat 32 f.val) ≤ y).card

theorem field_of_lt (y : ℝ) (k : ℕ) (hk : k ≤ 253) (h1 : k = 0 ∨ (2 : ℝ) ^ ((k : ℤ) - 127) ≤ y) (h2 : y < (2 : ℝ) ^ ((k : ℤ) - 126)) :
    field (y : EReal) = k := by
  unfold field
  rw [show (Finset.univ.filter fun f : Fin 256 => 0 < f.val ∧ pat (BitVec.ofNat 32 f.val) ≤ (y : EReal))
    = Finset.univ.filter fun f : Fin 256 => 0 < f.val ∧ f.val ≤ k from Finset.filter_congr fun f _ => ?_]
  · rw [show (Finset.univ.filter fun f : Fin 256 => 0 < f.val ∧ f.val ≤ k)
      = (Finset.Ioc (0 : Fin 256) ⟨k, by omega⟩) from Finset.ext fun f => by
        simp only [Finset.mem_filter, Finset.mem_univ, true_and, Finset.mem_Ioc, Fin.lt_def, Fin.le_def]; rfl]
    rw [Fin.card_Ioc]; simp
  · refine and_congr_right fun h0 => ?_
    have hlt := f.isLt
    by_cases h : f.val = 255
    · rw [h, pat_255]
      constructor
      · intro h'; exact absurd (top_le_iff.1 h') (EReal.coe_ne_top y)
      · omega
    · rw [pat_ofNat f.val h0 (by omega), EReal.coe_le_coe_iff]
      constructor
      · intro h'
        by_contra hc
        have : (2 : ℝ) ^ ((k : ℤ) - 126) ≤ (2 : ℝ) ^ ((f.val : ℤ) - 127) := zpow_le_zpow_right₀ (by norm_num) (by omega)
        linarith
      · intro h'
        rcases h1 with h1 | h1
        · omega
        · exact le_trans (zpow_le_zpow_right₀ (by norm_num) (by omega)) h1

/-- The exponent word the count gives. -/
def word (n : BitVec 32) : BitVec 32 := bif n == 0#32 then 0#32 else n - 126#32

/-- The scale of `y`, as the count gives it. -/
def scl (y : EReal) : EReal := pat (word (BitVec.ofNat 32 (field y)) + 127#32)
/-- Its inverse, as the count gives it. -/
def inv (y : EReal) : EReal := pat (127#32 - word (BitVec.ofNat 32 (field y)))

theorem words : ∀ k : Fin 254, 0 < k.val → word (BitVec.ofNat 32 k.val) + 127#32 = BitVec.ofNat 32 (k.val + 1)
    ∧ 127#32 - word (BitVec.ofNat 32 k.val) = BitVec.ofNat 32 (253 - k.val)
    ∧ (word (BitVec.ofNat 32 k.val)).toInt = (k.val : ℤ) - 126 := by decide +kernel

theorem bounds (y : ℝ) (h : (2 : ℝ) ^ (-126 : ℤ) ≤ y) (h2 : y < (2 : ℝ) ^ (126 : ℤ)) :
    ∃ k : ℕ, 1 ≤ k ∧ k ≤ 252 ∧ (2 : ℝ) ^ ((k : ℤ) - 127) ≤ y ∧ y < (2 : ℝ) ^ ((k : ℤ) - 126) ∧ expo y = (k : ℤ) - 126 := by
  have hy : 0 < y := lt_of_lt_of_le (by positivity) h
  have hl2 : 0 < Real.log 2 := Real.log_pos (by norm_num)
  have key : ∀ n : ℤ, (2 : ℝ) ^ n ≤ y ↔ (n : ℝ) ≤ Real.log y / Real.log 2 := fun n => by
    rw [le_div_iff₀ hl2, ← Real.log_zpow, Real.log_le_log_iff (by positivity) hy]
  have key' : ∀ n : ℤ, y < (2 : ℝ) ^ n ↔ Real.log y / Real.log 2 < (n : ℝ) := fun n => by
    rw [← not_le, ← not_le, key n]
  set q := Real.log y / Real.log 2
  have a1 : -126 ≤ ⌊q⌋ := Int.le_floor.2 ((key (-126)).1 h)
  have a2 : ⌊q⌋ < 126 := Int.floor_lt.2 ((key' 126).1 h2)
  refine ⟨(⌊q⌋ + 127).toNat, by omega, by omega, ?_, ?_, ?_⟩
  · rw [key]
    refine le_trans (le_of_eq ?_) (Int.floor_le q)
    congr 1; omega
  · rw [key']
    refine lt_of_lt_of_le (Int.lt_floor_add_one q) (le_of_eq ?_)
    have : ((((⌊q⌋ + 127).toNat : ℤ) - 126 : ℤ) : ℝ) = ((⌊q⌋ + 1 : ℤ) : ℝ) := by congr 1; omega
    rw [this]; push_cast; ring
  · unfold expo
    rw [if_neg (not_lt.2 h)]
    show ⌊q⌋ + 1 = _
    omega

theorem count (y : ℝ) (h2 : y < (2 : ℝ) ^ (126 : ℤ)) :
    scl (y : EReal) = (((2 : ℝ) ^ expo y : ℝ) : EReal) ∧ inv (y : EReal) = (((2 : ℝ) ^ (-expo y) : ℝ) : EReal)
      ∧ (word (BitVec.ofNat 32 (field (y : EReal)))).toInt = expo y := by
  by_cases h : y < (2 : ℝ) ^ (-126 : ℤ)
  · have e : field (y : EReal) = 0 := field_of_lt y 0 (by omega) (.inl rfl) (by simpa using h)
    have w : word (BitVec.ofNat 32 0) = 0#32 := by decide
    have x : expo y = 0 := by unfold expo; rw [if_pos h]
    unfold scl inv
    rw [e, w, x]
    refine ⟨?_, ?_, by decide⟩
    · rw [show (0#32 + 127#32 : BitVec 32) = BitVec.ofNat 32 127 by decide, pat_ofNat _ (by omega) (by omega)]; norm_num
    · rw [show (127#32 - 0#32 : BitVec 32) = BitVec.ofNat 32 127 by decide, pat_ofNat _ (by omega) (by omega)]; norm_num
  · obtain ⟨k, k1, k2, l, u, e⟩ := bounds y (not_lt.1 h) h2
    have f : field (y : EReal) = k := field_of_lt y k (by omega) (.inr l) u
    obtain ⟨w1, w2, w3⟩ := words ⟨k, by omega⟩ (by show 0 < k; omega)
    dsimp only at w1 w2 w3
    unfold scl inv
    rw [f, w1, w2, w3, e, pat_ofNat _ (by omega) (by omega), pat_ofNat _ (by omega) (by omega)]
    refine ⟨?_, ?_, rfl⟩
    · congr 2; push_cast; ring
    · congr 2; push_cast [Nat.cast_sub (show k ≤ 253 by omega)]; ring

/-! ## The exponent as the logarithm gives it -/

theorem ofBits_two : Ideal.ofBits .f32 0x40000000#32 = ((2 : ℝ) : EReal) := by
  have := pat_ofNat 128 (by omega) (by omega)
  rw [show ((2 : ℝ) ^ (((128 : ℕ) : ℤ) - 127)) = 2 by norm_num] at this
  exact this

theorem ofBits_min : Ideal.ofBits .f32 0x00800000#32 = (((2 : ℝ) ^ (-126 : ℤ) : ℝ) : EReal) := by
  have := pat_ofNat 1 (by omega) (by omega)
  rw [show ((1 : ℕ) : ℤ) - 127 = -126 by norm_num] at this
  exact this

theorem log_two : Ideal.log ((2 : ℝ) : EReal) = ((Real.log 2 : ℝ) : EReal) := by
  show (if (2 : ℝ) ≤ 0 then ⊥ else (Real.log 2 : EReal)) = _
  rw [if_neg (by norm_num)]

theorem exp_log_two (e : ℤ) : Ideal.exp (((e : ℝ) : EReal) * ((Real.log 2 : ℝ) : EReal)) = (((2 : ℝ) ^ e : ℝ) : EReal) := by
  rw [← EReal.coe_mul]
  show ((Real.exp _ : ℝ) : EReal) = _
  congr 1
  rw [← Real.log_zpow, Real.exp_log (by positivity)]

/-- The choice between the two exponents. -/
theorem sel_lexp (y : ℝ) :
    (if (y : EReal) < (((2 : ℝ) ^ (-126 : ℤ) : ℝ) : EReal) then (0 : EReal)
      else Ideal.liftRound Int.floor (Ideal.div (Ideal.log (y : EReal)) (Ideal.log ((2 : ℝ) : EReal))) + 1) = ((expo y : ℝ) : EReal) := by
  unfold expo
  by_cases h : y < (2 : ℝ) ^ (-126 : ℤ)
  · rw [if_pos (EReal.coe_lt_coe_iff.2 h), if_pos h]; simp
  · rw [if_neg (fun h' => h (EReal.coe_lt_coe_iff.1 h')), if_neg h, log_two]
    have hy : 0 < y := lt_of_lt_of_le (by positivity) (not_lt.1 h)
    have e1 : Ideal.log (y : EReal) = ((Real.log y : ℝ) : EReal) := by
      show (if y ≤ 0 then ⊥ else (Real.log y : EReal)) = _
      rw [if_neg (not_le.2 hy)]
    have hl2 : Real.log 2 ≠ 0 := (Real.log_pos (by norm_num)).ne'
    rw [e1, Ideal.div, if_neg (by simpa using hl2), ← EReal.coe_inv, ← EReal.coe_mul, ← div_eq_mul_inv]
    show (((⌊Real.log y / Real.log 2⌋ : ℤ) : ℝ) : EReal) + 1 = _
    push_cast
    rfl

end Cert.Spec

end
-- ==== Proof.Spec.Row.lean ====
/-
  One row's quantisation, as the counting of exponent fields gives it, at the ideal values: its largest magnitude, the
  scale, the inverse and the clipping; and the counting's own words read as the number of fields.
-/
module

public import proofs.«01_k».proof.Proof.Spec.Exponent
public import Idealize.ShloMosaic.Lib.IndicatorCount
public import Idealize.ShloMosaic.Lib.Pointwise

@[expose] public section

noncomputable section

namespace Cert.Spec

open Idealize.ShloMosaic Idealize.ShloMosaic.IndicatorCount

/-- A row's largest magnitude. -/
def amax {n : ℕ} (f : Fin n → EReal) : EReal :=
  Finset.fold max (Ideal.ofBits .f32 0xFF800000#32) (fun x => max (f x) (-(f x))) Finset.univ

/-- The reciprocal of 448 as it is stored. -/
def lit : EReal := Ideal.ofBits .f32 0x3B124925#32
/-- What the exponent of a row is taken from. -/
def top {n : ℕ} (f : Fin n → EReal) : EReal := amax f * lit

/-- The clipping to ±448. -/
def clip (x : EReal) : EReal := min (Ideal.ofBits .f32 0x43E00000#32) (max (Ideal.ofBits .f32 0xC3E00000#32) x)

theorem fold_eq_field (y : EReal) :
    Finset.fold IntOp.addi (0#32)
      (fun x : Fin 256 => BitVec.setWidth 32 (IntOp.andi (IntOp.cmpi CmpIPredicate.sgt (BitVec.ofNat 32 x.val) 0#32)
        (BitVec.ofBool (decide (Ideal.ofBits FTy.f32 (IntOp.shli ArithUnit.vector (BitVec.ofNat 32 x.val) 23#32) ≤ y)))))
      Finset.univ = BitVec.ofNat 32 (field y) := by
  rw [fold_addi_setWidth_eq_card (fun x : Fin 256 => IntOp.andi (IntOp.cmpi CmpIPredicate.sgt (BitVec.ofNat 32 x.val) 0#32)
        (BitVec.ofBool (decide (Ideal.ofBits FTy.f32 (IntOp.shli ArithUnit.vector (BitVec.ofNat 32 x.val) 23#32) ≤ y)))) Finset.univ]
  unfold field
  congr 2
  refine Finset.filter_congr fun f _ => ?_
  have e1 : ∀ f : Fin 256, IntOp.cmpi CmpIPredicate.sgt (BitVec.ofNat 32 f.val) 0#32 = BitVec.ofBool (decide (0 < f.val)) := by
    decide +kernel
  rw [e1 f]
  have e2 : Ideal.ofBits FTy.f32 (IntOp.shli ArithUnit.vector (BitVec.ofNat 32 f.val) 23#32) = pat (BitVec.ofNat 32 f.val) := rfl
  rw [e2]
  by_cases a : 0 < f.val <;> by_cases b : pat (BitVec.ofNat 32 f.val) ≤ y <;> simp [a, b, IntOp.andi]

theorem select_word (n : BitVec 32) : Scalar.select (IntOp.cmpi CmpIPredicate.eq n 0#32) (0#32) (IntOp.subi n 126#32) = word n := by
  unfold word Scalar.select IntOp.cmpi IntOp.subi
  cases h : (n == 0#32) <;> simp [h]

/-- A row's exponent word. -/
def expWord (y : EReal) : BitVec 32 := word (BitVec.ofNat 32 (field y))

theorem scl_eq (y : EReal) : Ideal.ofBits FTy.f32 (IntOp.shli ArithUnit.vector (IntOp.addi (expWord y) 127#32) 23#32) = scl y := rfl
theorem inv_eq (y : EReal) : Ideal.ofBits FTy.f32 (IntOp.shli ArithUnit.vector (IntOp.subi 127#32 (expWord y)) 23#32) = inv y := rfl

end Cert.Spec

end
-- ==== Proof.PI.Payload.lean ====
/-
  A head's codes and scales, element by element, at the ideal values.
-/
module

public import proofs.«01_k».proof.Proof.PI.Before
public import proofs.«01_k».proof.Proof.Spec.Row

@[expose] public section

noncomputable section

namespace Cert.KernelIdeal.Run

open Cert.KernelIdeal Cert.KernelIdeal.Gen Cert.Spec
open Idealize.ShloMosaic Idealize.SL.Sem

theorem pay222_apply (w : Vec Ideal S1x256x128 .bf16) (r : Fin 256) :
    k0_pay222 w (ix2 r 0) = expWord (top fun d : Fin 128 => w (ix3 0 r d)) := by
  pointwise [k0_pay222, k0_pay221]
  rw [show (Finset.fold max (Ideal.ofBits FTy.f32 4286578688#32) (fun x => FloatOps.absf (w (ix3 0 r x))) Finset.univ *
    Ideal.ofBits FTy.f32 991054117#32) = top fun d : Fin 128 => w (ix3 0 r d) from rfl, fold_eq_field, select_word]
  rfl

theorem headScale_apply (w : Vec Ideal S1x256x128 .bf16) (r : Fin 256) :
    headScale w (ix3 0 r 0) = scl (top fun d : Fin 128 => w (ix3 0 r d)) := by
  pointwise [headScale, k0_pay229, k0_pay223]
  rw [pay222_apply, scl_eq]

theorem headScaleRow_apply (w : Vec Ideal S1x256x128 .bf16) (r : Fin 256) (d : Fin 128) :
    headScaleRow w (ix3 0 r d) = scl (top fun d : Fin 128 => w (ix3 0 r d)) := by
  pointwise [headScaleRow, k0_pay227, k0_pay223]
  rw [pay222_apply, scl_eq]

theorem headCodes_apply (w : Vec Ideal S1x256x128 .bf16) (r : Fin 256) (d : Fin 128) :
    headCodes w (ix3 0 r d) = clip (w (ix3 0 r d) * inv (top fun d : Fin 128 => w (ix3 0 r d))) := by
  pointwise [headCodes, k0_pay228, k0_pay225, k0_pay224, k0_pay221]
  rw [pay222_apply, inv_eq]
  rfl

theorem valCodes_apply (w : Vec Ideal S1x256x128 .bf16) (u : Vec Ideal S1x1x1x128 .f32) (r : Fin 256) (d : Fin 128) :
    valCodes w u (ix3 0 r d) = clip (w (ix3 0 r d) * Ideal.div 1 (u (ix4 0 0 0 d))) := by
  pointwise [valCodes, k0_pay233, k0_pay232, k0_pay231, k0_pay230]
  rfl

theorem valCodesT_apply (w : Vec Ideal S1x256x128 .bf16) (u : Vec Ideal S1x1x1x128 .f32) (d : Fin 128) (r : Fin 256) :
    valCodesT w u (ix4 0 0 d r) = clip (w (ix3 0 r d) * Ideal.div 1 (u (ix4 0 0 0 d))) := by
  pointwise [valCodesT, k0_pay234, k0_pay232, k0_pay231, k0_pay230]
  rfl

theorem aRow_apply (z : FVec Ideal S32x256 .f32) (h : Fin 32) (b : Fin 2) (s : Fin 8) (d : Fin 128) :
    aRow z h.val (128 * b.val) (slices_a h b) (ix4 0 0 s d) = z (ix2 h ⟨128 * b.val + d.val, by omega⟩) := by
  pointwise [aRow]

/-- The constant of the scores, at the ideal values. -/
def smLog2e : EReal := (((Real.sqrt 128)⁻¹ * (Real.log 2)⁻¹ : ℝ) : EReal)

theorem pay523_apply (w : Vec Ideal S1x256x32 .f32) (h : Fin 32) (r : Fin 256) :
    k0_pay523 (k0_pay522 w) (ix2 h r) = w (ix3 0 r h) * smLog2e := by
  pointwise [k0_pay523, k0_pay522]
  rfl

end Cert.KernelIdeal.Run

end
-- ==== Proof.Spec.Puts.lean ====
/-
  A buffer written block by block, read back at one index.
-/
module

public import Idealize.ShloMosaic.Lib.VecWindow
public import Idealize.ShloMosaic.Lib.Pointwise

@[expose] public section

namespace Cert.Spec

open Idealize.ShloMosaic

variable {s : Shape} {α ι κ : Type}

theorem put_in (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have h' : ∀ a, off a ≤ (y a).val ∧ (y a).val < off a + size a := fun a => by
    have := h a; have := (z a).isLt; omega
  unfold VecWindow.put
  rw [dif_pos h']
  refine congrArg w (funext fun a => Fin.ext ?_)
  show (y a).val - off a = (z a).val
  rw [h a]; omega

theorem put_out (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg fun h' => ?_]
  have := h' a
  omega

/-- One step of a list of writes gives the value at `y` and the others leave it. -/
theorem foldl_read (step : (κ → α) → ι → κ → α) (y : κ) (v : α) (P : ι → Prop) (h1 : ∀ a h, P h → step a h y = v)
    (h2 : ∀ a h, ¬ P h → step a h y = a y) (L : List ι) : ∀ a : κ → α, (∃ h ∈ L, P h) → L.foldl step a y = v := by
  have keep : ∀ (L : List ι) (a : κ → α), a y = v → L.foldl step a y = v := by
    intro L
    induction L with
    | nil => exact fun a h => h
    | cons h L ih =>
      intro a ha
      refine ih _ ?_
      by_cases hp : P h
      · exact h1 _ _ hp
      · rw [h2 _ _ hp]; exact ha
  induction L with
  | nil => intro a ⟨h, hh, _⟩; cases hh
  | cons h L ih =>
    intro a ⟨h', hm, hp⟩
    rcases List.mem_cons.1 hm with rfl | hm
    · exact keep L _ (h1 _ _ hp)
    · exact ih _ ⟨h', hm, hp⟩

/-- A list of writes that all leave `y`. -/
theorem foldl_keep (step : (κ → α) → ι → κ → α) (y : κ) (h2 : ∀ a h, step a h y = a y) (L : List ι) :
    ∀ a : κ → α, L.foldl step a y = a y := by
  induction L with
  | nil => exact fun a => rfl
  | cons h L ih => intro a; exact (ih _).trans (h2 _ _)

end Cert.Spec
-- ==== Proof.PI.Written.lean ====
/-
  What a point of the grid leaves in the blocks of codes and scales, element by element.
-/
module

public import proofs.«01_k».proof.Proof.PI.Payload
public import proofs.«01_k».proof.Proof.Spec.Puts

@[expose] public section

noncomputable section

namespace Cert.KernelIdeal.Run

open Cert.KernelIdeal Cert.KernelIdeal.Gen Cert.Spec
open Idealize.ShloMosaic Idealize.SL.Sem

/-- Column `d` of head `h` of a row of queries. -/
def qcol (h : Fin 32) (d : Fin 128) : Fin 4096 := ⟨128 * h.val + d.val, by omega⟩
/-- Column `d` of head `g` of a row of keys or values. -/
def kcol (g : Fin 8) (d : Fin 128) : Fin 1024 := ⟨128 * g.val + d.val, by omega⟩

theorem mem32 : ∀ h : Fin 32, h ∈ ([0, 1, 2, 3, 4, 5, 6, 7, 8, 9, 10, 11, 12, 13, 14, 15, 16, 17, 18, 19, 20, 21, 22, 23, 24, 25, 26, 27, 28, 29, 30, 31] : List (Fin 32)) := by decide
theorem mem8 : ∀ g : Fin 8, g ∈ ([0, 1, 2, 3, 4, 5, 6, 7] : List (Fin 8)) := by decide

variable (I : In Ideal)

theorem qHead_apply (h : Fin 32) (r : Fin 256) (d : Fin 128) : qHead I h (ix3 0 r d) = I.a2 (ix3 0 r (qcol h d)) := by
  refine congrArg I.a2 (funext fun a => Fin.ext ?_)
  fin_cases a <;> simp [qcol, ix3]
theorem kHead_apply (g : Fin 8) (r : Fin 256) (d : Fin 128) : kHead I g (ix3 0 r d) = I.a3 (ix3 0 r (kcol g d)) := by
  refine congrArg I.a3 (funext fun a => Fin.ext ?_)
  fin_cases a <;> simp [kcol, ix3]
theorem vHead_apply (g : Fin 8) (r : Fin 256) (d : Fin 128) : vHead I g (ix3 0 r d) = I.a4 (ix3 0 r (kcol g d)) := by
  refine congrArg I.a4 (funext fun a => Fin.ext ?_)
  fin_cases a <;> simp [kcol, ix3]
theorem vsHead_apply (g : Fin 8) (d : Fin 128) : vsHead I g (ix4 0 0 0 d) = I.a5 (ix4 0 g 0 d) := by
  refine congrArg I.a5 (funext fun a => Fin.ext ?_)
  fin_cases a <;> simp [ix4]

theorem wr8_apply (a8 : S1x256x4096.Idx → Elt Ideal .fp8e4m3) (h : Fin 32) (r : Fin 256) (d : Fin 128) :
    wr8 I a8 (ix3 0 r (qcol h d)) = clip (I.a2 (ix3 0 r (qcol h d)) * inv (top fun d => I.a2 (ix3 0 r (qcol h d)))) := by
  have e : headCodes (qHead I h) (ix3 0 r d) = clip (I.a2 (ix3 0 r (qcol h d)) * inv (top fun d => I.a2 (ix3 0 r (qcol h d)))) := by
    rw [headCodes_apply]; simp only [qHead_apply]
  rw [← e]
  refine foldl_read _ _ _ (fun h' => h' = h) (fun a h' hh => ?_) (fun a h' hh => ?_) _ _ ⟨h, mem32 h, rfl⟩
  · subst hh
    exact put_in a ![0, 0, 128 * h'.val] S1x256x128.size (headCodes (qHead I h')) (ix3 0 r (qcol h' d)) (ix3 0 r d : S1x256x128.Idx) fun a => by fin_cases a <;> simp [qcol, ix3]
  · refine put_out _ _ _ _ _ (2 : Fin 3) ?_
    have := mt Fin.ext hh
    simp [qcol, ix3, S1x256x128]; omega

theorem wr9_apply (a9 : S1x256x32.Idx → Elt Ideal .f32) (h : Fin 32) (r : Fin 256) :
    wr9 I a9 (ix3 0 r h) = scl (top fun d => I.a2 (ix3 0 r (qcol h d))) := by
  have e : headScale (qHead I h) (ix3 0 r 0) = scl (top fun d => I.a2 (ix3 0 r (qcol h d))) := by
    rw [headScale_apply]; simp only [qHead_apply]
  rw [← e]
  refine foldl_read _ _ _ (fun h' => h' = h) (fun a h' hh => ?_) (fun a h' hh => ?_) _ _ ⟨h, mem32 h, rfl⟩
  · subst hh
    exact put_in a ![0, 0, h'.val] S1x256x1.size (headScale (qHead I h')) (ix3 0 r h') (ix3 0 r 0 : S1x256x1.Idx) fun a => by fin_cases a <;> simp [ix3]
  · refine put_out _ _ _ _ _ (2 : Fin 3) ?_
    have := mt Fin.ext hh
    simp [ix3, S1x256x1]; omega

theorem wr10_apply (a10 : S1x256x1024.Idx → Elt Ideal .fp8e4m3) (h : Fin 8) (r : Fin 256) (d : Fin 128) :
    wr10 I a10 (ix3 0 r (kcol h d)) = clip (I.a3 (ix3 0 r (kcol h d)) * inv (top fun d => I.a3 (ix3 0 r (kcol h d)))) := by
  have e : headCodes (kHead I h) (ix3 0 r d) = clip (I.a3 (ix3 0 r (kcol h d)) * inv (top fun d => I.a3 (ix3 0 r (kcol h d)))) := by
    rw [headCodes_apply]; simp only [kHead_apply]
  rw [← e]
  refine foldl_read _ _ _ (fun h' => h' = h) (fun a h' hh => ?_) (fun a h' hh => ?_) _ _ ⟨h, mem8 h, rfl⟩
  · subst hh
    exact put_in a ![0, 0, 128 * h'.val] S1x256x128.size (headCodes (kHead I h')) (ix3 0 r (kcol h' d)) (ix3 0 r d : S1x256x128.Idx) fun a => by fin_cases a <;> simp [kcol, ix3]
  · refine put_out _ _ _ _ _ (2 : Fin 3) ?_
    have := mt Fin.ext hh
    simp [kcol, ix3, S1x256x128]; omega

theorem wr11_apply (a11 : S1x256x8.Idx → Elt Ideal .f32) (h : Fin 8) (r : Fin 256) :
    wr11 I a11 (ix3 0 r h) = scl (top fun d => I.a3 (ix3 0 r (kcol h d))) := by
  have e : headScale (kHead I h) (ix3 0 r 0) = scl (top fun d => I.a3 (ix3 0 r (kcol h d))) := by
    rw [headScale_apply]; simp only [kHead_apply]
  rw [← e]
  refine foldl_read _ _ _ (fun h' => h' = h) (fun a h' hh => ?_) (fun a h' hh => ?_) _ _ ⟨h, mem8 h, rfl⟩
  · subst hh
    exact put_in a ![0, 0, h'.val] S1x256x1.size (headScale (kHead I h')) (ix3 0 r h') (ix3 0 r 0 : S1x256x1.Idx) fun a => by fin_cases a <;> simp [ix3]
  · refine put_out _ _ _ _ _ (2 : Fin 3) ?_
    have := mt Fin.ext hh
    simp [ix3, S1x256x1]; omega

theorem wr12_apply (a12 : S1x256x1024.Idx → Elt Ideal .fp8e4m3) (h : Fin 8) (r : Fin 256) (d : Fin 128) :
    wr12 I a12 (ix3 0 r (kcol h d)) = clip (I.a4 (ix3 0 r (kcol h d)) * Ideal.div 1 (I.a5 (ix4 0 h 0 d))) := by
  have e : valCodes (vHead I h) (vsHead I h) (ix3 0 r d) = clip (I.a4 (ix3 0 r (kcol h d)) * Ideal.div 1 (I.a5 (ix4 0 h 0 d))) := by
    rw [valCodes_apply, vHead_apply, vsHead_apply]
  rw [← e]
  refine foldl_read _ _ _ (fun h' => h' = h) (fun a h' hh => ?_) (fun a h' hh => ?_) _ _ ⟨h, mem8 h, rfl⟩
  · subst hh
    exact put_in a ![0, 0, 128 * h'.val] S1x256x128.size (valCodes (vHead I h') (vsHead I h')) (ix3 0 r (kcol h' d)) (ix3 0 r d : S1x256x128.Idx) fun a => by fin_cases a <;> simp [kcol, ix3]
  · refine put_out _ _ _ _ _ (2 : Fin 3) ?_
    have := mt Fin.ext hh
    simp [kcol, ix3, S1x256x128]; omega

end Cert.KernelIdeal.Run

end
-- ==== Proof.PI.Rings.lean ====
/-
  What a point of the grid leaves in the rings of keys, key scales and values, and in the rows of query scales, element
  by element.
-/
module

public import proofs.«01_k».proof.Proof.PI.Written
public import proofs.«01_k».proof.Proof.Gen.KernelIdeal.Points

@[expose] public section

noncomputable section

namespace Cert.KernelIdeal.Run

open Cert.KernelIdeal Cert.KernelIdeal.Gen Cert.Spec
open Idealize.ShloMosaic Idealize.SL.Sem

theorem off1_eq : ∀ t : Fin grid0.N, k0_off1 (grid0.coords t) 1 = 256 * ((grid0.coords t 1).val % 5) := by decide +kernel
theorem off2_eq : ∀ t : Fin grid0.N, k0_off2 (grid0.coords t) 1 = (grid0.coords t 1).val % 5 := by decide +kernel
theorem init_iff : ∀ t : Fin grid0.N, Scalar.cmpi .ne (Scalar.extui (Scalar.cmpi .eq (BitVec.ofNat 32 (grid0.coords t 1).val) 0#32)) 0#32 = 1#1 →
    (grid0.coords t 1).val = 0 := by decide +kernel

/-- Row `r` of slot `p` of the ring. -/
def rrow (p : Fin 5) (r : Fin 256) : Fin 1280 := ⟨256 * p.val + r.val, by omega⟩
/-- The slot point `t` writes. -/
def cur (t : Fin grid0.N) : Fin 5 := ⟨(grid0.coords t 1).val % 5, Nat.mod_lt _ (by decide)⟩

variable (I : In Ideal) (t : Fin grid0.N)

theorem wr13_cur (a13 : S8x1280x128.Idx → Elt Ideal .fp8e4m3) (g : Fin 8) (r : Fin 256) (d : Fin 128) :
    wr13 I (grid0.coords t) a13 (ix3 g (rrow (cur t) r) d) = clip (I.a3 (ix3 0 r (kcol g d)) * inv (top fun d => I.a3 (ix3 0 r (kcol g d)))) := by
  have e : headCodes (kHead I g) (ix3 0 r d) = clip (I.a3 (ix3 0 r (kcol g d)) * inv (top fun d => I.a3 (ix3 0 r (kcol g d)))) := by
    rw [headCodes_apply]; simp only [kHead_apply]
  rw [← e]
  refine foldl_read _ _ _ (fun h' => h' = g) (fun a h' hh => ?_) (fun a h' hh => ?_) _ _ ⟨g, mem8 g, rfl⟩
  · subst hh
    exact put_in a ![h'.val, k0_off1 (grid0.coords t) 1, 0] S1x256x128.size (headCodes (kHead I h')) (ix3 h' (rrow (cur t) r) d) (ix3 0 r d : S1x256x128.Idx)
      fun a => by fin_cases a <;> simp [rrow, cur, ix3, off1_eq t]
  · refine put_out _ _ _ _ _ (0 : Fin 3) ?_
    have := mt Fin.ext hh
    simp [ix3, S1x256x128]; omega

theorem wr14_cur (a14 : S8x1280x128.Idx → Elt Ideal .f32) (g : Fin 8) (r : Fin 256) (d : Fin 128) :
    wr14 I (grid0.coords t) a14 (ix3 g (rrow (cur t) r) d) = scl (top fun d => I.a3 (ix3 0 r (kcol g d))) := by
  have e : headScaleRow (kHead I g) (ix3 0 r d) = scl (top fun d => I.a3 (ix3 0 r (kcol g d))) := by
    rw [headScaleRow_apply]; simp only [kHead_apply]
  rw [← e]
  refine foldl_read _ _ _ (fun h' => h' = g) (fun a h' hh => ?_) (fun a h' hh => ?_) _ _ ⟨g, mem8 g, rfl⟩
  · subst hh
    exact put_in a ![h'.val, k0_off1 (grid0.coords t) 1, 0] S1x256x128.size (headScaleRow (kHead I h')) (ix3 h' (rrow (cur t) r) d) (ix3 0 r d : S1x256x128.Idx)
      fun a => by fin_cases a <;> simp [rrow, cur, ix3, off1_eq t]
  · refine put_out _ _ _ _ _ (0 : Fin 3) ?_
    have := mt Fin.ext hh
    simp [ix3, S1x256x128]; omega

theorem wr15_cur (a15 : S8x5x128x256.Idx → Elt Ideal .fp8e4m3) (g : Fin 8) (d : Fin 128) (r : Fin 256) :
    wr15 I (grid0.coords t) a15 (ix4 g (cur t) d r) = clip (I.a4 (ix3 0 r (kcol g d)) * Ideal.div 1 (I.a5 (ix4 0 g 0 d))) := by
  have e : valCodesT (vHead I g) (vsHead I g) (ix4 0 0 d r) = clip (I.a4 (ix3 0 r (kcol g d)) * Ideal.div 1 (I.a5 (ix4 0 g 0 d))) := by
    rw [valCodesT_apply, vHead_apply, vsHead_apply]
  rw [← e]
  refine foldl_read _ _ _ (fun h' => h' = g) (fun a h' hh => ?_) (fun a h' hh => ?_) _ _ ⟨g, mem8 g, rfl⟩
  · subst hh
    exact put_in a ![h'.val, k0_off2 (grid0.coords t) 1, 0, 0] S1x1x128x256.size (valCodesT (vHead I h') (vsHead I h')) (ix4 h' (cur t) d r) (ix4 0 0 d r : S1x1x128x256.Idx)
      fun a => by fin_cases a <;> simp [cur, ix4, off2_eq t]
  · refine put_out _ _ _ _ _ (0 : Fin 4) ?_
    have := mt Fin.ext hh
    simp [ix4, S1x1x128x256]; omega

/-- Another slot of the rings is kept, after the first point of a batch. -/
theorem wr13_other (a13 : S8x1280x128.Idx → Elt Ideal .fp8e4m3) (h0 : (grid0.coords t 1).val ≠ 0) (p : Fin 5) (hp : p ≠ cur t)
    (g : Fin 8) (r : Fin 256) (d : Fin 128) : wr13 I (grid0.coords t) a13 (ix3 g (rrow p r) d) = a13 (ix3 g (rrow p r) d) := by
  have e0 : init13 (grid0.coords t) a13 = a13 := if_neg fun h => h0 (init_iff t h)
  unfold wr13
  rw [e0]
  refine foldl_keep _ _ (fun a h' => ?_) _ _
  refine put_out _ _ _ _ _ (1 : Fin 3) ?_
  have := mt Fin.ext hp
  have := p.isLt; have := r.isLt
  simp [ix3, S1x256x128, off1_eq t, rrow, cur] at *; omega

theorem wr14_other (a14 : S8x1280x128.Idx → Elt Ideal .f32) (p : Fin 5) (hp : p ≠ cur t)
    (g : Fin 8) (r : Fin 256) (d : Fin 128) : wr14 I (grid0.coords t) a14 (ix3 g (rrow p r) d) = a14 (ix3 g (rrow p r) d) := by
  refine foldl_keep _ _ (fun a h' => ?_) _ _
  refine put_out _ _ _ _ _ (1 : Fin 3) ?_
  have := mt Fin.ext hp
  have := p.isLt; have := r.isLt
  simp [ix3, S1x256x128, off1_eq t, rrow, cur] at *; omega

theorem wr15_other (a15 : S8x5x128x256.Idx → Elt Ideal .fp8e4m3) (h0 : (grid0.coords t 1).val ≠ 0) (p : Fin 5) (hp : p ≠ cur t)
    (g : Fin 8) (d : Fin 128) (r : Fin 256) : wr15 I (grid0.coords t) a15 (ix4 g p d r) = a15 (ix4 g p d r) := by
  have e0 : init15 (grid0.coords t) a15 = a15 := if_neg fun h => h0 (init_iff t h)
  unfold wr15
  rw [e0]
  refine foldl_keep _ _ (fun a h' => ?_) _ _
  refine put_out _ _ _ _ _ (1 : Fin 4) ?_
  have := mt Fin.ext hp
  have := p.isLt; have := r.isLt
  simp [ix4, S1x1x128x256, off2_eq t, cur] at *; omega

theorem aQ_apply (a9 : S1x256x32.Idx → Elt Ideal .f32) (h : Fin 32) (r : Fin 256) :
    aQ I a9 (ix2 h r) = scl (top fun d => I.a2 (ix3 0 r (qcol h d))) * smLog2e := by
  unfold aQ
  rw [pay523_apply, ← wr9_apply I a9]
  refine congrArg (· * _) (congrArg (wr9 I a9) (funext fun a => Fin.ext ?_))
  fin_cases a <;> simp [ix3]

/-- The row of query scales of head `4 g + j` of 128 queries. -/
theorem wr16_apply (a9 : S1x256x32.Idx → Elt Ideal .f32) (a16 : S2x8x8x512.Idx → Elt Ideal .f32) (b : Fin 2) (g : Fin 8) (s : Fin 8)
    (j : Fin 4) (d : Fin 128) (h : Fin 32) (hh : h.val = 4 * g.val + j.val) :
    wr16 I a9 a16 (ix4 b g s ⟨128 * j.val + d.val, by omega⟩)
      = scl (top fun e => I.a2 (ix3 0 ⟨128 * b.val + d.val, by omega⟩ (qcol h e))) * smLog2e := by
  have e : aRow (aQ I a9) h.val (128 * b.val) (slices_a h b) (ix4 0 0 s d)
      = scl (top fun e => I.a2 (ix3 0 ⟨128 * b.val + d.val, by omega⟩ (qcol h e))) * smLog2e := by
    rw [aRow_apply (aQ I a9) h b s d, aQ_apply]
  rw [← e]
  refine foldl_read _ _ _ (fun h' => h' = h) (fun a h' hh' => ?_) (fun a h' hh' => ?_) _ _ ⟨h, mem32 _, rfl⟩
  · subst hh'
    have hg : h'.val / 4 = g.val := by omega
    have hj : h'.val % 4 = j.val := by omega
    fin_cases b
    · refine (put_out _ _ _ _ _ (0 : Fin 4) (by simp [ix4])).trans ?_
      exact put_in a ![0, h'.val / 4, 0, 128 * (h'.val % 4)] S1x1x8x128.size _ (ix4 0 g s ⟨128 * j.val + d.val, by omega⟩) (ix4 0 0 s d : S1x1x8x128.Idx)
        fun a => by fin_cases a <;> simp [ix4] <;> omega
    · exact put_in (s := S2x8x8x512) _ ![1, h'.val / 4, 0, 128 * (h'.val % 4)] S1x1x8x128.size _ (ix4 1 g s ⟨128 * j.val + d.val, by omega⟩ : S2x8x8x512.Idx) (ix4 0 0 s d : S1x1x8x128.Idx)
        fun a => by fin_cases a <;> simp [ix4] <;> omega
  · have hne := mt Fin.ext hh'
    by_cases hg : h'.val / 4 = g.val
    · have : h'.val % 4 ≠ j.val := by omega
      refine (put_out _ _ _ _ _ (3 : Fin 4) ?_).trans (put_out _ _ _ _ _ (3 : Fin 4) ?_) <;>
        simp [ix4, S1x1x8x128] <;> omega
    · refine (put_out _ _ _ _ _ (1 : Fin 4) ?_).trans (put_out _ _ _ _ _ (1 : Fin 4) ?_) <;>
        simp [ix4, S1x1x8x128] <;> omega

end Cert.KernelIdeal.Run

end
-- ==== Proof.PI.Want.lean ====
/-
  The codes and scales of the whole arrays, element by element, and the blocks of the arguments a point reads.
-/
module

public import proofs.«01_k».proof.Proof.PI.Rings
public import proofs.«01_k».proof.Proof.PI.Point
public import proofs.«01_k».proof.Proof.Gen.KernelIdeal.Frame
public import Idealize.ShloMosaic.Lib.Pipeline.ValueKit.Geometry
public import Idealize.ShloMosaic.Lib.StableHlo.ReadAt

@[expose] public section

noncomputable section

namespace Cert.KernelIdeal.Run

open Cert.KernelIdeal Cert.KernelIdeal.Gen Cert.Spec
open Idealize.ShloMosaic Idealize.ShloMosaic.TcCoe Idealize.ShloMosaic.Tactic Idealize.SL.Sem

/-- A query code. -/
def qC (X : S2x16384x4096.Idx → EReal) (b : Fin 2) (n : Fin 16384) (h : Fin 32) (d : Fin 128) : EReal :=
  clip (X (ix3 b n (qcol h d)) * inv (top fun d => X (ix3 b n (qcol h d))))
/-- A query scale. -/
def qS (X : S2x16384x4096.Idx → EReal) (b : Fin 2) (n : Fin 16384) (h : Fin 32) : EReal :=
  scl (top fun d => X (ix3 b n (qcol h d)))
/-- A key code. -/
def kC (K : S2x16384x1024.Idx → EReal) (b : Fin 2) (n : Fin 16384) (g : Fin 8) (d : Fin 128) : EReal :=
  clip (K (ix3 b n (kcol g d)) * inv (top fun d => K (ix3 b n (kcol g d))))
/-- A key scale. -/
def kS (K : S2x16384x1024.Idx → EReal) (b : Fin 2) (n : Fin 16384) (g : Fin 8) : EReal :=
  scl (top fun d => K (ix3 b n (kcol g d)))
/-- A value code. -/
def vC (W : S2x16384x1024.Idx → EReal) (u : S2x8.Idx → EReal) (b : Fin 2) (n : Fin 16384) (g : Fin 8) (d : Fin 128) : EReal :=
  clip (W (ix3 b n (kcol g d)) * Ideal.div 1 (u (ix2 b g)))

theorem qcol_split (y : Fin 4096) : y = qcol ⟨y.val / 128, by omega⟩ ⟨y.val % 128, Nat.mod_lt _ (by decide)⟩ :=
  Fin.ext (by simp [qcol]; omega)
theorem kcol_split (y : Fin 1024) : y = kcol ⟨y.val / 128, by omega⟩ ⟨y.val % 128, Nat.mod_lt _ (by decide)⟩ :=
  Fin.ext (by simp [kcol]; omega)

/-- The query codes as an array. -/
def G6 (X : S2x16384x4096.Idx → EReal) : S2x16384x4096.Idx → EReal := fun y =>
  qC X (y 0) (y 1) ⟨(y 2).val / 128, by have := (y 2).isLt; simp only [S2x16384x4096] at this; simp at this; omega⟩ ⟨(y 2).val % 128, Nat.mod_lt _ (by decide)⟩
/-- The query scales as an array. -/
def G7 (X : S2x16384x4096.Idx → EReal) : S2x16384x32.Idx → EReal := fun y => qS X (y 0) (y 1) (y 2)
/-- The key codes as an array. -/
def G8 (K : S2x16384x1024.Idx → EReal) : S2x16384x1024.Idx → EReal := fun y =>
  kC K (y 0) (y 1) ⟨(y 2).val / 128, by have := (y 2).isLt; simp only [S2x16384x1024] at this; simp at this; omega⟩ ⟨(y 2).val % 128, Nat.mod_lt _ (by decide)⟩
/-- The key scales as an array. -/
def G9 (K : S2x16384x1024.Idx → EReal) : S2x16384x8.Idx → EReal := fun y => kS K (y 0) (y 1) (y 2)
/-- The value codes as an array. -/
def G10 (W : S2x16384x1024.Idx → EReal) (u : S2x8.Idx → EReal) : S2x16384x1024.Idx → EReal := fun y =>
  vC W u (y 0) (y 1) ⟨(y 2).val / 128, by have := (y 2).isLt; simp only [S2x16384x1024] at this; simp at this; omega⟩ ⟨(y 2).val % 128, Nat.mod_lt _ (by decide)⟩

variable (m : (ℓ : Loc nD τ sig) → Buf (Elt Ideal) ℓ)

/-- The batch of point `t`. -/
def bt (t : Fin cfg0.N) : Fin 2 := grid0.coords t 0
/-- The position of row `r` of point `t`. -/
def pos (t : Fin cfg0.N) (r : Fin 256) : Fin 16384 :=
  ⟨256 * (grid0.coords t 1).val + r.val, by have h : (grid0.coords t 1).val < 64 := (grid0.coords t 1).isLt; omega⟩

/-- The arguments as the region finds them. -/
def aX (c : Dev nD) : S2x16384x4096.Idx → EReal := m ((c : Thread nD τ).loc main_arg0)
def aK (c : Dev nD) : S2x16384x1024.Idx → EReal := m ((c : Thread nD τ).loc main_arg1)
def aV (c : Dev nD) : S2x16384x1024.Idx → EReal := m ((c : Thread nD τ).loc main_arg2)
def aU (c : Dev nD) : S2x8.Idx → EReal := m ((c : Thread nD τ).loc main_arg3)
def aS (c : Dev nD) : S32.Idx → EReal := m ((c : Thread nD τ).loc main_arg4)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, 0, 0, 0] := (by decide +kernel : ∀ t : Fin grid0.N, _)
theorem idx4 : ∀ t : Fin cfg0.N, win0_4.index t = ![0, 0, 0] := (by decide +kernel : ∀ t : Fin grid0.N, _)

theorem in_a2 (c : Dev nD) (t : Fin cfg0.N) (r : Fin 256) (y : Fin 4096) : (inAt m c t).a2 (ix3 0 r y) = aX m c (ix3 (bt t) (pos t r) y) := by
  show iblk m c 0 t (ix3 0 r y) = _
  blk_simp [iblk]
  rw [V_main_arg0]
  refine congrArg (m ((c : Thread nD τ).loc main_arg0)) (funext fun a => Fin.ext ?_)
  blk_simp [idx0 t]
  fin_cases a <;> simp [ix3, bt, pos] <;> omega

theorem in_a3 (c : Dev nD) (t : Fin cfg0.N) (r : Fin 256) (y : Fin 1024) : (inAt m c t).a3 (ix3 0 r y) = aK m c (ix3 (bt t) (pos t r) y) := by
  show iblk m c 1 t (ix3 0 r y) = _
  blk_simp [iblk]
  rw [V_main_arg1]
  refine congrArg (m ((c : Thread nD τ).loc main_arg1)) (funext fun a => Fin.ext ?_)
  blk_simp [idx1 t]
  fin_cases a <;> simp [ix3, bt, pos] <;> omega

theorem in_a4 (c : Dev nD) (t : Fin cfg0.N) (r : Fin 256) (y : Fin 1024) : (inAt m c t).a4 (ix3 0 r y) = aV m c (ix3 (bt t) (pos t r) y) := by
  show iblk m c 2 t (ix3 0 r y) = _
  blk_simp [iblk]
  rw [V_main_arg2]
  refine congrArg (m ((c : Thread nD τ).loc main_arg2)) (funext fun a => Fin.ext ?_)
  blk_simp [idx2 t]
  fin_cases a <;> simp [ix3, bt, pos] <;> omega

/-- The value scales as the region finds them: each repeated over a tile. -/
theorem V_v1 (c : Dev nD) (b : Fin 2) (g : Fin 8) (s : Fin 8) (d : Fin 128) : V m c main_v1 (ix4 b g s d) = aU m c (ix2 b g) := by
  unfold V
  after_reads_at
  rfl

/-- The sinks as the region finds them: each repeated over the columns of its head. -/
theorem V_v6 (c : Dev nD) (g : Fin 8) (s : Fin 8) (j : Fin 4) (d : Fin 128) (h : Fin 32) (hh : h.val = 4 * g.val + j.val) :
    V m c main_v6 (ix3 g s ⟨128 * j.val + d.val, by omega⟩) = aS m c (ix1 h) := by
  unfold V
  after_reads_at
  exact congrArg (m (c, Proc.tc.devRef main_arg4)) (congrArg ix1 (Fin.ext (by show g.val * 4 + (128 * j.val + d.val) / 128 = h.val; omega)))

theorem in_a5 (c : Dev nD) (t : Fin cfg0.N) (g s : Fin 8) (d : Fin 128) : (inAt m c t).a5 (ix4 0 g s d) = aU m c (ix2 (bt t) g) := by
  show iblk m c 3 t (ix4 0 g s d) = _
  blk_simp [iblk]
  refine Eq.trans ?_ (V_v1 m c (bt t) g s d)
  refine congrArg (V m c main_v1) (funext fun a => Fin.ext ?_)
  blk_simp [idx3 t]
  fin_cases a <;> simp [ix4, bt]

theorem in_a6 (c : Dev nD) (t : Fin cfg0.N) (g s : Fin 8) (j : Fin 4) (d : Fin 128) (h : Fin 32) (hh : h.val = 4 * g.val + j.val) :
    (inAt m c t).a6 (ix3 g s ⟨128 * j.val + d.val, by omega⟩) = aS m c (ix1 h) := by
  show iblk m c 4 t (ix3 g s ⟨128 * j.val + d.val, by omega⟩) = _
  blk_simp [iblk]
  refine Eq.trans ?_ (V_v6 m c g s j d h hh)
  refine congrArg (V m c main_v6) (funext fun a => Fin.ext ?_)
  blk_simp [idx4 t]
  fin_cases a <;> simp [ix3]

end Cert.KernelIdeal.Run

end
-- ==== Proof.PI.Carry.lean ====
/-
  The rings from point to point, and what a point leaves in the blocks of codes and scales.
-/
module

public import proofs.«01_k».proof.Proof.PI.Kept
public import proofs.«01_k».proof.Proof.PI.Want

@[expose] public section

noncomputable section

namespace Cert.KernelIdeal.Launch

open Cert.KernelIdeal Cert.KernelIdeal.Gen Cert.KernelIdeal.Run Cert.Spec
open Idealize.ShloMosaic Idealize.ShloMosaic.TcCoe Idealize.ShloMosaic.Tactic Idealize.SL.Sem

variable (m : (ℓ : Loc nD τ sig) → Buf (Elt Ideal) ℓ)

/-- What the rings hold when `n` points have run: of the last point's batch, the codes and scales of the last blocks, at
    most five of them. -/
def Ring (c : Dev nD) (n : ℕ) (a13 : S8x1280x128.Idx → EReal) (a14 : S8x1280x128.Idx → EReal) (a15 : S8x5x128x256.Idx → EReal) : Prop :=
  ∀ t : Fin cfg0.N, t.val < n → n ≤ t.val + 5 → n ≤ 64 * (bt t).val + 64 → ∀ (g : Fin 8) (r : Fin 256) (d : Fin 128),
    a13 (ix3 g (rrow (cur t) r) d) = kC (aK m c) (bt t) (pos t r) g d ∧ a14 (ix3 g (rrow (cur t) r) d) = kS (aK m c) (bt t) (pos t r) g
      ∧ a15 (ix4 g (cur t) d r) = vC (aV m c) (aU m c) (bt t) (pos t r) g d

theorem coords_eq : ∀ t : Fin grid0.N, t.val = 64 * (grid0.coords t 0).val + (grid0.coords t 1).val := by decide +kernel

theorem ring_zero (c : Dev nD) (a13 a14 a15) : Ring m c 0 a13 a14 a15 := fun t h => absurd h (Nat.not_lt_zero _)

theorem ring_step (c : Dev nD) (t : Fin cfg0.N) (a13 a14 a15) (h : Ring m c t.val a13 a14 a15) :
    Ring m c (t.val + 1) (wr13 (inAt m c t) (grid0.coords t) a13) (wr14 (inAt m c t) (grid0.coords t) a14) (wr15 (inAt m c t) (grid0.coords t) a15) := by
  intro u h1 h2 h3 g r d
  rcases Nat.lt_or_ge u.val t.val with hu | hu
  · have hu' := coords_eq u
    have ht' := coords_eq t
    have ht1 : (grid0.coords t 1).val < 64 := (grid0.coords t 1).isLt
    have hu1 : (grid0.coords u 1).val < 64 := (grid0.coords u 1).isLt
    have hb : (bt u).val = (grid0.coords u 0).val := rfl
    have h0 : (grid0.coords t 1).val ≠ 0 := by omega
    have hbb : (grid0.coords u 0).val = (grid0.coords t 0).val := by omega
    have hc : cur u ≠ cur t := fun e => by have e' := congrArg Fin.val e; simp only [cur] at e'; omega
    rw [wr13_other _ _ _ h0 _ hc, wr14_other _ _ _ _ hc, wr15_other _ _ _ h0 _ hc]
    exact h u hu (by omega) (by omega) g r d
  · obtain rfl : u = t := Fin.ext (by omega)
    rw [wr13_cur, wr14_cur, wr15_cur]
    simp only [in_a3, in_a4, in_a5]
    exact ⟨rfl, rfl, rfl⟩

/-- What point `t` leaves in the block of query codes. -/
def left8 (c : Dev nD) (t : Fin cfg0.N) : S1x256x4096.Idx → EReal := fun y => G6 (aX m c) (ix3 (bt t) (pos t (y 1)) (y 2))
/-- What point `t` leaves in the block of query scales. -/
def left9 (c : Dev nD) (t : Fin cfg0.N) : S1x256x32.Idx → EReal := fun y => G7 (aX m c) (ix3 (bt t) (pos t (y 1)) (y 2))
/-- What point `t` leaves in the block of key codes. -/
def left10 (c : Dev nD) (t : Fin cfg0.N) : S1x256x1024.Idx → EReal := fun y => G8 (aK m c) (ix3 (bt t) (pos t (y 1)) (y 2))
/-- What point `t` leaves in the block of key scales. -/
def left11 (c : Dev nD) (t : Fin cfg0.N) : S1x256x8.Idx → EReal := fun y => G9 (aK m c) (ix3 (bt t) (pos t (y 1)) (y 2))
/-- What point `t` leaves in the block of value codes. -/
def left12 (c : Dev nD) (t : Fin cfg0.N) : S1x256x1024.Idx → EReal := fun y => G10 (aV m c) (aU m c) (ix3 (bt t) (pos t (y 1)) (y 2))

theorem wr8_left (c : Dev nD) (t : Fin cfg0.N) (a8) : wr8 (inAt m c t) a8 = left8 m c t := funext fun y => by
  idx_vars y
  obtain rfl : y0 = 0 := Subsingleton.elim _ _
  conv_lhs => rw [qcol_split y2, wr8_apply]
  simp only [in_a2]
  rfl
theorem wr9_left (c : Dev nD) (t : Fin cfg0.N) (a9) : wr9 (inAt m c t) a9 = left9 m c t := funext fun y => by
  idx_vars y
  obtain rfl : y0 = 0 := Subsingleton.elim _ _
  rw [wr9_apply]
  simp only [in_a2]
  rfl
theorem wr10_left (c : Dev nD) (t : Fin cfg0.N) (a10) : wr10 (inAt m c t) a10 = left10 m c t := funext fun y => by
  idx_vars y
  obtain rfl : y0 = 0 := Subsingleton.elim _ _
  conv_lhs => rw [kcol_split y2, wr10_apply]
  simp only [in_a3]
  rfl
theorem wr11_left (c : Dev nD) (t : Fin cfg0.N) (a11) : wr11 (inAt m c t) a11 = left11 m c t := funext fun y => by
  idx_vars y
  obtain rfl : y0 = 0 := Subsingleton.elim _ _
  rw [wr11_apply]
  simp only [in_a3]
  rfl
theorem wr12_left (c : Dev nD) (t : Fin cfg0.N) (a12) : wr12 (inAt m c t) a12 = left12 m c t := funext fun y => by
  idx_vars y
  obtain rfl : y0 = 0 := Subsingleton.elim _ _
  conv_lhs => rw [kcol_split y2, wr12_apply]
  simp only [in_a4, in_a5]
  rfl

end Cert.KernelIdeal.Launch

end
-- ==== Proof.PI.LoopParts.lean ====
/-
  Each stretch of the attention loops' bodies, as one equation: the values it hands on and the state it leaves.
-/
module

public import proofs.«01_k».proof.Proof.PI.Steps

@[expose] public section

noncomputable section

namespace Cert.KernelIdeal.Run

open Cert.KernelIdeal Cert.KernelIdeal.Gen
open Idealize.ShloMosaic Idealize.SL.Sem

variable {F : FTy → Type} [FloatOps F] [Named F]

variable (a7 : S1x256x4096.Idx → Elt F .bf16) (a8 : S1x256x4096.Idx → Elt F .fp8e4m3) (a9 : S1x256x32.Idx → Elt F .f32) (a10 : S1x256x1024.Idx → Elt F .fp8e4m3) (a11 : S1x256x8.Idx → Elt F .f32) (a12 : S1x256x1024.Idx → Elt F .fp8e4m3) (a13 : S8x1280x128.Idx → Elt F .fp8e4m3) (a14 : S8x1280x128.Idx → Elt F .f32) (a15 : S8x5x128x256.Idx → Elt F .fp8e4m3) (a16 : S2x8x8x512.Idx → Elt F .f32) (a17 : S5x256x512.Idx → Elt F .f32) (a18 : S5x256x512.Idx → Elt F .fp8e4m3)

theorem e_part1 (I : In F) (i : grid0.Coords) (arg1 : BitVec 32) (k0_h2 : k0_cond2 i = 1#1) (c0_i32_1293 : BitVec 32) (c1_i32 : BitVec 32) (k0_t1 : Fin k0_t1_loop.trips) :
    s_part1 I i arg1 k0_h2 c0_i32_1293 c1_i32 k0_t1 ⟨a7, a8, a9, a10, a11, a12, a13, a14, a15, a16, a17, a18⟩ =
      (⟨(Scf.iv c0_i32_1293 c1_i32 k0_t1), (k0_pay3 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))), (k0_pay4 (VecWindow.window a16 (k0_off18 k0_t1) S1x1x8x512.size (k0_off18_inb i k0_t1 k0_h2))), (Scalar.addi (Scalar.addi arg1 1#32) 4#32)⟩, ⟨a7, a8, a9, a10, a11, a12, a13, a14, a15, a16, a17, a18⟩) := rfl

theorem e_part2 (I : In F) (i : grid0.Coords) (arg1 : BitVec 32) (v2653 : IVec S128x512 1) (k0_h2 : k0_cond2 i = 1#1) (k0_t1 : Fin k0_t1_loop.trips) (arg19 : BitVec 32) (v2689 : FVec F S512x128 .fp8e4m3) (v2694 : BitVec 32) :
    s_part2 I i arg1 v2653 k0_h2 k0_t1 arg19 v2689 v2694 ⟨a7, a8, a9, a10, a11, a12, a13, a14, a15, a16, a17, a18⟩ =
      (⟨(k0_pay5 arg1 v2653 v2689 (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0)) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0))), (k0_pay6 arg1 v2653 v2689 (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0)) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0)))⟩, ⟨a7, a8, a9, a10, a11, a12, a13, a14, a15, a16, a17, a18⟩) := rfl

theorem e_part3 (I : In F) (i : grid0.Coords) (arg1 : BitVec 32) (k0_h2 : k0_cond2 i = 1#1) (k0_t1 : Fin k0_t1_loop.trips) (arg19 : BitVec 32) (v2689 : FVec F S512x128 .fp8e4m3) (v2733 : FVec F S128x512 .f32) (v2734 : FVec F S16x8x512 .f32) :
    s_part3 I i arg1 k0_h2 k0_t1 arg19 v2689 v2733 v2734 ⟨a7, a8, a9, a10, a11, a12, a13, a14, a15, a16, a17, a18⟩ =
      (⟨(k0_pay10 arg1 v2689 v2734 (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1))), (Scalar.remsi (Scalar.addi (Scalar.addi arg1 1#32) 1#32) 5#32), 256#32⟩, ⟨a7, a8, a9, a10, a11, a12, a13, a14, a15, a16, (VecWindow.put (VecWindow.put a17 (![0, 0, 0]) S1x128x512.size (k0_pay7 v2733)) (![0, 128, 0]) S1x128x512.size (k0_pay9 arg1 v2689 (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1)))), a18⟩) := rfl

theorem e_part4 (I : In F) (i : grid0.Coords) (arg1 : BitVec 32) (k0_h2 : k0_cond2 i = 1#1) (k0_t1 : Fin k0_t1_loop.trips) (arg19 : BitVec 32) (v2689 : FVec F S512x128 .fp8e4m3) (v2766 : FVec F S8x512 .f32) (v2769 : BitVec 32) (c256_i32_1359 : BitVec 32) :
    s_part4 I i arg1 k0_h2 k0_t1 arg19 v2689 v2766 v2769 c256_i32_1359 ⟨a7, a8, a9, a10, a11, a12, a13, a14, a15, a16, a17, a18⟩ =
      (⟨(k0_pay13 arg1 v2689 v2766 (VecWindow.window a13 (k0_off20 i k0_t1 1#32) S1x256x128.size (k0_off20_inb i k0_t1 k0_h2 0)) (VecWindow.window a14 (k0_off20 i k0_t1 1#32) S1x256x128.size (k0_off20_inb i k0_t1 k0_h2 0))), (k0_pay14 v2689 (VecWindow.window a13 (k0_off20 i k0_t1 2#32) S1x256x128.size (k0_off20_inb i k0_t1 k0_h2 1)))⟩, ⟨a7, a8, a9, a10, a11, a12, a13, a14, a15, a16, (VecWindow.put a17 (![1, 0, 0]) S1x256x512.size (k0_pay12 arg1 v2689 (VecWindow.window a13 (k0_off20 i k0_t1 1#32) S1x256x128.size (k0_off20_inb i k0_t1 k0_h2 0)) (VecWindow.window a14 (k0_off20 i k0_t1 1#32) S1x256x128.size (k0_off20_inb i k0_t1 k0_h2 0)))), a18⟩) := rfl

theorem e_part5 (I : In F) (i : grid0.Coords) (arg1 : BitVec 32) (k0_h2 : k0_cond2 i = 1#1) (k0_t1 : Fin k0_t1_loop.trips) (arg19 : BitVec 32) (v2689 : FVec F S512x128 .fp8e4m3) (v2794 : FVec F S8x512 .f32) (v2805 : FVec F S256x512 .f32) :
    s_part5 I i arg1 k0_h2 k0_t1 arg19 v2689 v2794 v2805 ⟨a7, a8, a9, a10, a11, a12, a13, a14, a15, a16, a17, a18⟩ =
      (⟨(k0_pay17 arg1 v2794 v2805 (VecWindow.window a14 (k0_off20 i k0_t1 2#32) S1x256x128.size (k0_off20_inb i k0_t1 k0_h2 1))), (k0_pay18 arg1 v2689 (VecWindow.window a13 (k0_off20 i k0_t1 3#32) S1x256x128.size (k0_off20_inb i k0_t1 k0_h2 2)) (VecWindow.window a14 (k0_off20 i k0_t1 3#32) S1x256x128.size (k0_off20_inb i k0_t1 k0_h2 2)))⟩, ⟨a7, a8, a9, a10, a11, a12, a13, a14, a15, a16, (VecWindow.put a17 (![2, 0, 0]) S1x256x512.size (k0_pay16 arg1 v2805 (VecWindow.window a14 (k0_off20 i k0_t1 2#32) S1x256x128.size (k0_off20_inb i k0_t1 k0_h2 1)))), a18⟩) := rfl

theorem e_part6 (I : In F) (i : grid0.Coords) (k0_h2 : k0_cond2 i = 1#1) (k0_t1 : Fin k0_t1_loop.trips) (arg19 : BitVec 32) (v2692 : FVec F S8x512 .f32) (v2822 : FVec F S8x512 .f32) (v2844 : FVec F S256x512 .f32) :
    s_part6 I i k0_h2 k0_t1 arg19 v2692 v2822 v2844 ⟨a7, a8, a9, a10, a11, a12, a13, a14, a15, a16, a17, a18⟩ =
      (⟨(k0_pay20 (VecWindow.window I.a6 (k0_off21 k0_t1) S1x8x512.size (k0_off21_inb i k0_t1 k0_h2))), (k0_pay22 v2692 v2822 v2844 (VecWindow.window I.a6 (k0_off21 k0_t1) S1x8x512.size (k0_off21_inb i k0_t1 k0_h2))), (k0_pay24 v2692 v2822 v2844 (VecWindow.window I.a6 (k0_off21 k0_t1) S1x8x512.size (k0_off21_inb i k0_t1 k0_h2))), (k0_pay25 v2692 v2822 v2844 (VecWindow.window I.a6 (k0_off21 k0_t1) S1x8x512.size (k0_off21_inb i k0_t1 k0_h2)))⟩, ⟨a7, a8, a9, a10, a11, a12, a13, a14, a15, a16, (VecWindow.put a17 (![3, 0, 0]) S1x256x512.size (k0_pay19 v2844)), a18⟩) := rfl

theorem e_part7 (I : In F) (i : grid0.Coords) (v2653 : IVec S128x512 1) (v2692 : FVec F S8x512 .f32) (v2861 : FVec F S8x512 .f32) (v2889 : FVec F S8x512 .f32) :
    s_part7 I i v2653 v2692 v2861 v2889 ⟨a7, a8, a9, a10, a11, a12, a13, a14, a15, a16, a17, a18⟩ =
      (⟨(k0_pay26 v2861 v2889), (k0_pay28 v2692 v2861 v2889 (VecWindow.window a17 (![0, 0, 0]) S1x128x512.size inb_S5x256x512_S1x128x512_0_0_0)), (k0_pay32 v2692 v2861 v2889 (VecWindow.window a17 (![0, 128, 0]) S1x128x512.size inb_S5x256x512_S1x128x512_0_128_0)), (k0_pay33 v2692 v2861 v2889 (VecWindow.window a17 (![0, 128, 0]) S1x128x512.size inb_S5x256x512_S1x128x512_0_128_0))⟩, ⟨a7, a8, a9, a10, a11, a12, a13, a14, a15, a16, a17, (VecWindow.put (VecWindow.put a18 (![0, 0, 0]) S1x128x512.size (k0_pay30 v2653 v2692 v2861 v2889 (VecWindow.window a17 (![0, 0, 0]) S1x128x512.size inb_S5x256x512_S1x128x512_0_0_0))) (![4, 0, 0]) S1x128x512.size (k0_pay31 v2653 v2692 v2861 v2889 (VecWindow.window a17 (![0, 0, 0]) S1x128x512.size inb_S5x256x512_S1x128x512_0_0_0)))⟩) := rfl

theorem e_part8 (I : In F) (i : grid0.Coords) (v2692 : FVec F S8x512 .f32) (v2890 : FVec F S8x512 .f32) (v2903 : FVec F S8x512 .f32) (v2928 : FVec F S16x8x512 .f32) (v2929 : FVec F S8x512 .f32) :
    s_part8 I i v2692 v2890 v2903 v2928 v2929 ⟨a7, a8, a9, a10, a11, a12, a13, a14, a15, a16, a17, a18⟩ =
      (⟨(k0_pay38 v2692 v2890 v2903 v2929 (VecWindow.window a17 (![1, 0, 0]) S1x256x512.size inb_S5x256x512_S1x256x512_1_0_0) (VecWindow.window a17 (![2, 0, 0]) S1x256x512.size inb_S5x256x512_S1x256x512_2_0_0)), (k0_pay39 v2692 v2890 (VecWindow.window a17 (![2, 0, 0]) S1x256x512.size inb_S5x256x512_S1x256x512_2_0_0))⟩, ⟨a7, a8, a9, a10, a11, a12, a13, a14, a15, a16, a17, (VecWindow.put (VecWindow.put a18 (![0, 128, 0]) S1x128x512.size (k0_pay34 v2928)) (![1, 0, 0]) S1x256x512.size (k0_pay36 v2692 v2890 (VecWindow.window a17 (![1, 0, 0]) S1x256x512.size inb_S5x256x512_S1x256x512_1_0_0)))⟩) := rfl

theorem e_part9 (I : In F) (i : grid0.Coords) (k0_h2 : k0_cond2 i = 1#1) (k0_t1 : Fin k0_t1_loop.trips) (arg19 : BitVec 32) (v2692 : FVec F S8x512 .f32) (v2859 : FVec F S8x512 .f32) (v2861 : FVec F S8x512 .f32) (v2888 : FVec F S8x512 .f32) (v2890 : FVec F S8x512 .f32) (v2968 : FVec F S8x512 .f32) (v2970 : FVec F S256x512 .fp8e4m3) :
    s_part9 I i k0_h2 k0_t1 arg19 v2692 v2859 v2861 v2888 v2890 v2968 v2970 ⟨a7, a8, a9, a10, a11, a12, a13, a14, a15, a16, a17, a18⟩ =
      (⟨(k0_pay44 v2692 v2859 v2861 v2888 v2890 v2968 (VecWindow.window a17 (![3, 0, 0]) S1x256x512.size inb_S5x256x512_S1x256x512_3_0_0)), (k0_pay45 v2888 (VecWindow.window I.a5 (k0_off22 k0_t1) S1x1x8x128.size (k0_off22_inb i k0_t1 k0_h2)))⟩, ⟨a7, a8, a9, a10, a11, a12, a13, a14, a15, a16, a17, (VecWindow.put (VecWindow.put (VecWindow.put a18 (![2, 0, 0]) S1x256x512.size (k0_pay40 v2970)) (![3, 0, 0]) S1x256x512.size (k0_pay42 v2692 v2890 (VecWindow.window a17 (![3, 0, 0]) S1x256x512.size inb_S5x256x512_S1x256x512_3_0_0))) (![4, 128, 0]) S1x128x512.size (k0_pay43 (F := F)))⟩) := rfl

theorem e_part10 (I : In F) (i : grid0.Coords) (arg1 : BitVec 32) (k0_h2 : k0_cond2 i = 1#1) (k0_t1 : Fin k0_t1_loop.trips) (arg19 : BitVec 32) (v3004 : FVec F S8x512 .f32) (v3009 : FVec F S8x512 .f32) :
    s_part10 I i arg1 k0_h2 k0_t1 arg19 v3004 v3009 ⟨a7, a8, a9, a10, a11, a12, a13, a14, a15, a16, a17, a18⟩ =
      (⟨(k0_pay46 v3004 v3009), (k0_pay47 (VecWindow.window a15 (k0_off23 i k0_t1 0#32) S1x1x128x256.size (k0_off23_inb i k0_t1 k0_h2 0))), (k0_pay48 (VecWindow.window a15 (k0_off23 i k0_t1 1#32) S1x1x128x256.size (k0_off23_inb i k0_t1 k0_h2 1))), (k0_pay49 (VecWindow.window a15 (k0_off23 i k0_t1 2#32) S1x1x128x256.size (k0_off23_inb i k0_t1 k0_h2 2))), (k0_pay50 (VecWindow.window a15 (k0_off23 i k0_t1 3#32) S1x1x128x256.size (k0_off23_inb i k0_t1 k0_h2 3))), (VecWindow.window a15 (k0_off23 i k0_t1 4#32) S1x1x128x256.size (k0_off23_inb i k0_t1 k0_h2 4))⟩, ⟨a7, a8, a9, a10, a11, a12, a13, a14, a15, a16, a17, a18⟩) := rfl

theorem e_part11 (I : In F) (i : grid0.Coords) (k0_h2 : k0_cond2 i = 1#1) (k0_t1 : Fin k0_t1_loop.trips) (arg19 : BitVec 32) (v3010 : FVec F S8x512 .f32) (v3017 : FVec F S128x256 .fp8e4m3) (v3024 : FVec F S128x256 .fp8e4m3) (v3031 : FVec F S128x256 .fp8e4m3) (v3038 : FVec F S128x256 .fp8e4m3) (v3044 : Vec F S1x1x128x256 .fp8e4m3) :
    s_part11 I i k0_h2 k0_t1 arg19 v3010 v3017 v3024 v3031 v3038 v3044 ⟨a7, a8, a9, a10, a11, a12, a13, a14, a15, a16, a17, a18⟩ =
      (⟨(k0_pay51 v3010 v3017 v3024 v3031 v3038 v3044 (VecWindow.window a18 (![0, 0, 0]) S5x256x512.size inb_S5x256x512_S5x256x512_0_0_0)), (Scalar.muli (Scalar.addi (Scalar.muli arg19 4#32) 2#32) 128#32), (k0_pay54 v3010 v3017 v3024 v3031 v3038 v3044 (VecWindow.window a18 (![0, 0, 0]) S5x256x512.size inb_S5x256x512_S5x256x512_0_0_0))⟩, ⟨(VecWindow.put (VecWindow.put a7 (k0_off17 k0_t1 0#32) S1x128x128.size (k0_pay52 v3010 v3017 v3024 v3031 v3038 v3044 (VecWindow.window a18 (![0, 0, 0]) S5x256x512.size inb_S5x256x512_S5x256x512_0_0_0))) (k0_off17 k0_t1 1#32) S1x128x128.size (k0_pay53 v3010 v3017 v3024 v3031 v3038 v3044 (VecWindow.window a18 (![0, 0, 0]) S5x256x512.size inb_S5x256x512_S5x256x512_0_0_0))), a8, a9, a10, a11, a12, a13, a14, a15, a16, a17, a18⟩) := rfl

theorem e_part12 (I : In F) (i : grid0.Coords) (k0_h2 : k0_cond2 i = 1#1) (k0_t1 : Fin k0_t1_loop.trips) (arg19 : BitVec 32) (v3054 : FVec F S128x512 .f32) (v3080 : BitVec 32) (v3083 : FVec F S128x128 .bf16) :
    s_part12 I i k0_h2 k0_t1 arg19 v3054 v3080 v3083 ⟨a7, a8, a9, a10, a11, a12, a13, a14, a15, a16, a17, a18⟩ =
      (⟨(k0_pay57 (VecWindow.window a8 (k0_off24 k0_t1 0#32) S1x128x128.size (k0_off24_inb i k0_t1 k0_h2 0))), (k0_pay58 (VecWindow.window a8 (k0_off24 k0_t1 1#32) S1x128x128.size (k0_off24_inb i k0_t1 k0_h2 1))), (k0_pay59 (VecWindow.window a8 (k0_off24 k0_t1 2#32) S1x128x128.size (k0_off24_inb i k0_t1 k0_h2 2))), (Scalar.muli arg19 4#32)⟩, ⟨(VecWindow.put (VecWindow.put a7 (k0_off17 k0_t1 2#32) S1x128x128.size (k0_pay55 v3083)) (k0_off17 k0_t1 3#32) S1x128x128.size (k0_pay56 v3054)), a8, a9, a10, a11, a12, a13, a14, a15, a16, a17, a18⟩) := rfl

theorem e_part13 (I : In F) (i : grid0.Coords) (arg1 : BitVec 32) (k0_h2 : k0_cond2 i = 1#1) (k0_t1 : Fin k0_t1_loop.trips) (arg19 : BitVec 32) (v3105 : FVec F S128x128 .fp8e4m3) (v3112 : FVec F S128x128 .fp8e4m3) (v3119 : FVec F S128x128 .fp8e4m3) (v3120 : BitVec 32) :
    s_part13 I i arg1 k0_h2 k0_t1 arg19 v3105 v3112 v3119 v3120 ⟨a7, a8, a9, a10, a11, a12, a13, a14, a15, a16, a17, a18⟩ =
      (⟨(k0_pay60 v3105 v3112 v3119 (VecWindow.window a8 (k0_off24 k0_t1 3#32) S1x128x128.size (k0_off24_inb i k0_t1 k0_h2 3))), (k0_pay61 (VecWindow.window a16 (k0_off25 k0_t1) S1x1x8x512.size (k0_off25_inb i k0_t1 k0_h2))), (k0_pay62 v3105 v3112 v3119 (VecWindow.window a8 (k0_off24 k0_t1 3#32) S1x128x128.size (k0_off24_inb i k0_t1 k0_h2 3)) (VecWindow.window a13 (k0_off19 i k0_t1 4#32 128#32) S1x128x128.size (k0_off19_inb i k0_t1 k0_h2 1 1)) (VecWindow.window a14 (k0_off19 i k0_t1 4#32 128#32) S1x128x128.size (k0_off19_inb i k0_t1 k0_h2 1 1))), (Scalar.muli (Scalar.remsi (Scalar.addi (Scalar.addi arg1 1#32) 0#32) 5#32) 256#32), (k0_pay63 (VecWindow.window a13 (k0_off19 i k0_t1 0#32 128#32) S1x128x128.size (k0_off19_inb i k0_t1 k0_h2 0 1)))⟩, ⟨a7, a8, a9, a10, a11, a12, a13, a14, a15, a16, a17, a18⟩) := rfl

theorem e_part14 (I : In F) (i : grid0.Coords) (arg1 : BitVec 32) (v2653 : IVec S128x512 1) (k0_h2 : k0_cond2 i = 1#1) (k0_t1 : Fin k0_t1_loop.trips) (arg19 : BitVec 32) (v3127 : FVec F S512x128 .fp8e4m3) (v3148 : FVec F S128x512 .f32) (v3153 : BitVec 32) (v3158 : FVec F S128x128 .fp8e4m3) :
    s_part14 I i arg1 v2653 k0_h2 k0_t1 arg19 v3127 v3148 v3153 v3158 ⟨a7, a8, a9, a10, a11, a12, a13, a14, a15, a16, a17, a18⟩ =
      (⟨(k0_pay65 arg1 v2653 v3127 v3148 v3158 (VecWindow.window a14 (k0_off19 i k0_t1 0#32 128#32) S1x128x128.size (k0_off19_inb i k0_t1 k0_h2 0 1))), (k0_pay67 v3127 (VecWindow.window a13 (k0_off20 i k0_t1 1#32) S1x256x128.size (k0_off20_inb i k0_t1 k0_h2 0)) (VecWindow.window a14 (k0_off20 i k0_t1 1#32) S1x256x128.size (k0_off20_inb i k0_t1 k0_h2 0))), (Scalar.cmpi .sge (Scalar.addi arg1 1#32) 4#32)⟩, ⟨a7, a8, a9, a10, a11, a12, a13, a14, a15, a16, (VecWindow.put a17 (![0, 128, 0]) S1x128x512.size (k0_pay66 arg1 v2653 v3127 v3148 v3158 (VecWindow.window a14 (k0_off19 i k0_t1 0#32 128#32) S1x128x128.size (k0_off19_inb i k0_t1 k0_h2 0 1)))), a18⟩) := rfl

theorem e_part15 (I : In F) (i : grid0.Coords) (arg1 : BitVec 32) (k0_h2 : k0_cond2 i = 1#1) (k0_t1 : Fin k0_t1_loop.trips) (arg19 : BitVec 32) (v3127 : FVec F S512x128 .fp8e4m3) (v3173 : FVec F S8x512 .f32) (v3194 : FVec F S256x512 .f32) (v3196 : BitVec 1) :
    s_part15 I i arg1 k0_h2 k0_t1 arg19 v3127 v3173 v3194 v3196 ⟨a7, a8, a9, a10, a11, a12, a13, a14, a15, a16, a17, a18⟩ =
      (⟨(k0_pay72 arg1 v3127 v3173 v3194 v3196 (VecWindow.window a13 (k0_off20 i k0_t1 2#32) S1x256x128.size (k0_off20_inb i k0_t1 k0_h2 1)) (VecWindow.window a14 (k0_off20 i k0_t1 2#32) S1x256x128.size (k0_off20_inb i k0_t1 k0_h2 1))), 1#32⟩, ⟨a7, a8, a9, a10, a11, a12, a13, a14, a15, a16, (VecWindow.put (VecWindow.put a17 (![1, 0, 0]) S1x256x512.size (k0_pay69 v3194 v3196)) (![2, 0, 0]) S1x256x512.size (k0_pay71 arg1 v3127 (VecWindow.window a13 (k0_off20 i k0_t1 2#32) S1x256x128.size (k0_off20_inb i k0_t1 k0_h2 1)) (VecWindow.window a14 (k0_off20 i k0_t1 2#32) S1x256x128.size (k0_off20_inb i k0_t1 k0_h2 1)))), a18⟩) := rfl

theorem e_part16 (I : In F) (i : grid0.Coords) (arg1 : BitVec 32) (k0_h2 : k0_cond2 i = 1#1) (k0_t1 : Fin k0_t1_loop.trips) (arg19 : BitVec 32) (v3127 : FVec F S512x128 .fp8e4m3) (v3232 : FVec F S8x512 .f32) (c1_i32_1599 : BitVec 32) :
    s_part16 I i arg1 k0_h2 k0_t1 arg19 v3127 v3232 c1_i32_1599 ⟨a7, a8, a9, a10, a11, a12, a13, a14, a15, a16, a17, a18⟩ =
      (⟨(k0_pay75 arg1 v3127 v3232 (VecWindow.window a13 (k0_off20 i k0_t1 3#32) S1x256x128.size (k0_off20_inb i k0_t1 k0_h2 2)) (VecWindow.window a14 (k0_off20 i k0_t1 3#32) S1x256x128.size (k0_off20_inb i k0_t1 k0_h2 2))), (Scalar.muli (Scalar.remsi (Scalar.addi (Scalar.addi arg1 1#32) 4#32) 5#32) 256#32), (k0_pay76 (VecWindow.window a13 (k0_off19 i k0_t1 4#32 0#32) S1x128x128.size (k0_off19_inb i k0_t1 k0_h2 1 0)))⟩, ⟨a7, a8, a9, a10, a11, a12, a13, a14, a15, a16, (VecWindow.put a17 (![3, 0, 0]) S1x256x512.size (k0_pay74 arg1 v3127 (VecWindow.window a13 (k0_off20 i k0_t1 3#32) S1x256x128.size (k0_off20_inb i k0_t1 k0_h2 2)) (VecWindow.window a14 (k0_off20 i k0_t1 3#32) S1x256x128.size (k0_off20_inb i k0_t1 k0_h2 2)))), a18⟩) := rfl

theorem e_part17 (I : In F) (i : grid0.Coords) (k0_h2 : k0_cond2 i = 1#1) (k0_t1 : Fin k0_t1_loop.trips) (arg19 : BitVec 32) (v3127 : FVec F S512x128 .fp8e4m3) (v3130 : FVec F S8x512 .f32) (v3260 : FVec F S8x512 .f32) (v3265 : BitVec 32) (v3270 : FVec F S128x128 .fp8e4m3) :
    s_part17 I i k0_h2 k0_t1 arg19 v3127 v3130 v3260 v3265 v3270 ⟨a7, a8, a9, a10, a11, a12, a13, a14, a15, a16, a17, a18⟩ =
      (⟨(k0_pay79 (VecWindow.window I.a6 (k0_off21 k0_t1) S1x8x512.size (k0_off21_inb i k0_t1 k0_h2))), (k0_pay81 v3127 v3130 v3260 v3270 (VecWindow.window a14 (k0_off19 i k0_t1 4#32 0#32) S1x128x128.size (k0_off19_inb i k0_t1 k0_h2 1 0)) (VecWindow.window I.a6 (k0_off21 k0_t1) S1x8x512.size (k0_off21_inb i k0_t1 k0_h2))), (k0_pay82 v3127 v3130 v3260 v3270 (VecWindow.window a14 (k0_off19 i k0_t1 4#32 0#32) S1x128x128.size (k0_off19_inb i k0_t1 k0_h2 1 0)) (VecWindow.window I.a6 (k0_off21 k0_t1) S1x8x512.size (k0_off21_inb i k0_t1 k0_h2))), (k0_pay83 v3127 v3130 v3260 v3270 (VecWindow.window a14 (k0_off19 i k0_t1 4#32 0#32) S1x128x128.size (k0_off19_inb i k0_t1 k0_h2 1 0)) (VecWindow.window I.a6 (k0_off21 k0_t1) S1x8x512.size (k0_off21_inb i k0_t1 k0_h2)))⟩, ⟨a7, a8, a9, a10, a11, a12, a13, a14, a15, a16, (VecWindow.put a17 (![4, 0, 0]) S1x128x512.size (k0_pay78 v3127 v3270 (VecWindow.window a14 (k0_off19 i k0_t1 4#32 0#32) S1x128x128.size (k0_off19_inb i k0_t1 k0_h2 1 0)))), a18⟩) := rfl

theorem e_part18 (I : In F) (i : grid0.Coords) (v2653 : IVec S128x512 1) (v3130 : FVec F S8x512 .f32) (v3295 : FVec F S8x512 .f32) (v3311 : IVec S8x512 32) (v3313 : IVec S8x512 1) :
    s_part18 I i v2653 v3130 v3295 v3311 v3313 ⟨a7, a8, a9, a10, a11, a12, a13, a14, a15, a16, a17, a18⟩ =
      (⟨(k0_pay85 (F := F) v3311 v3313), (k0_pay86 v3295 v3311 v3313), (k0_pay88 v3130 v3295 v3311 v3313 (VecWindow.window a17 (![0, 128, 0]) S1x128x512.size inb_S5x256x512_S1x128x512_0_128_0)), (VecWindow.window a17 (![1, 0, 0]) S1x256x512.size inb_S5x256x512_S1x256x512_1_0_0)⟩, ⟨a7, a8, a9, a10, a11, a12, a13, a14, a15, a16, a17, (VecWindow.put (VecWindow.put a18 (![0, 128, 0]) S1x128x512.size (k0_pay90 v2653 v3130 v3295 v3311 v3313 (VecWindow.window a17 (![0, 128, 0]) S1x128x512.size inb_S5x256x512_S1x128x512_0_128_0))) (![4, 128, 0]) S1x128x512.size (k0_pay91 v2653 v3130 v3295 v3311 v3313 (VecWindow.window a17 (![0, 128, 0]) S1x128x512.size inb_S5x256x512_S1x128x512_0_128_0)))⟩) := rfl

theorem e_part19 (I : In F) (i : grid0.Coords) (v3130 : FVec F S8x512 .f32) (v3324 : FVec F S8x512 .f32) (v3337 : FVec F S8x512 .f32) (v3351 : Vec F S1x256x512 .f32) :
    s_part19 I i v3130 v3324 v3337 v3351 ⟨a7, a8, a9, a10, a11, a12, a13, a14, a15, a16, a17, a18⟩ =
      (⟨(k0_pay95 v3130 v3324 v3337 v3351 (VecWindow.window a17 (![2, 0, 0]) S1x256x512.size inb_S5x256x512_S1x256x512_2_0_0)), (k0_pay97 (VecWindow.window a17 (![3, 0, 0]) S1x256x512.size inb_S5x256x512_S1x256x512_3_0_0)), (k0_pay98 v3130)⟩, ⟨a7, a8, a9, a10, a11, a12, a13, a14, a15, a16, a17, (VecWindow.put (VecWindow.put a18 (![1, 0, 0]) S1x256x512.size (k0_pay93 v3130 v3324 v3351)) (![2, 0, 0]) S1x256x512.size (k0_pay96 v3130 v3324 (VecWindow.window a17 (![2, 0, 0]) S1x256x512.size inb_S5x256x512_S1x256x512_2_0_0)))⟩) := rfl

theorem e_part20 (I : In F) (i : grid0.Coords) (v3130 : FVec F S8x512 .f32) (v3324 : FVec F S8x512 .f32) (v3383 : FVec F S8x512 .f32) (v3391 : FVec F S32x8x512 .f32) (v3393 : FVec F S32x8x512 .f32) :
    s_part20 I i v3130 v3324 v3383 v3391 v3393 ⟨a7, a8, a9, a10, a11, a12, a13, a14, a15, a16, a17, a18⟩ =
      ((k0_pay104 v3130 v3324 v3383 v3391 v3393 (VecWindow.window a17 (![4, 0, 0]) S1x128x512.size inb_S5x256x512_S1x128x512_4_0_0)), ⟨a7, a8, a9, a10, a11, a12, a13, a14, a15, a16, a17, (VecWindow.put (VecWindow.put (VecWindow.put a18 (![3, 0, 0]) S1x256x512.size (k0_pay100 v3324 v3391 v3393)) (![4, 0, 0]) S1x128x512.size (k0_pay102 v3130 v3324 (VecWindow.window a17 (![4, 0, 0]) S1x128x512.size inb_S5x256x512_S1x128x512_4_0_0))) (![0, 0, 0]) S1x128x512.size (k0_pay103 (F := F)))⟩) := rfl

theorem e_part21 (I : In F) (i : grid0.Coords) (arg1 : BitVec 32) (k0_h2 : k0_cond2 i = 1#1) (k0_t1 : Fin k0_t1_loop.trips) (arg19 : BitVec 32) (v3293 : FVec F S8x512 .f32) (v3295 : FVec F S8x512 .f32) (v3322 : FVec F S8x512 .f32) (v3432 : FVec F S1x512 .f32) :
    s_part21 I i arg1 k0_h2 k0_t1 arg19 v3293 v3295 v3322 v3432 ⟨a7, a8, a9, a10, a11, a12, a13, a14, a15, a16, a17, a18⟩ =
      (⟨(k0_pay105 v3293 v3295 v3322 v3432 (VecWindow.window I.a5 (k0_off22 k0_t1) S1x1x8x128.size (k0_off22_inb i k0_t1 k0_h2))), (k0_pay106 (VecWindow.window a15 (k0_off23 i k0_t1 0#32) S1x1x128x256.size (k0_off23_inb i k0_t1 k0_h2 0))), (k0_pay107 (VecWindow.window a15 (k0_off23 i k0_t1 1#32) S1x1x128x256.size (k0_off23_inb i k0_t1 k0_h2 1))), (k0_pay108 (VecWindow.window a15 (k0_off23 i k0_t1 2#32) S1x1x128x256.size (k0_off23_inb i k0_t1 k0_h2 2)))⟩, ⟨a7, a8, a9, a10, a11, a12, a13, a14, a15, a16, a17, a18⟩) := rfl

theorem e_part22 (I : In F) (i : grid0.Coords) (arg1 : BitVec 32) (k0_h2 : k0_cond2 i = 1#1) (k0_t1 : Fin k0_t1_loop.trips) (arg19 : BitVec 32) (v3444 : FVec F S8x512 .f32) (v3451 : FVec F S128x256 .fp8e4m3) (v3458 : FVec F S128x256 .fp8e4m3) (v3465 : FVec F S128x256 .fp8e4m3) :
    s_part22 I i arg1 k0_h2 k0_t1 arg19 v3444 v3451 v3458 v3465 ⟨a7, a8, a9, a10, a11, a12, a13, a14, a15, a16, a17, a18⟩ =
      (⟨(k0_pay109 v3444 v3451 v3458 v3465 (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) (VecWindow.window a18 (![0, 0, 0]) S5x256x512.size inb_S5x256x512_S5x256x512_0_0_0)), (k0_pay111 v3444 v3451 v3458 v3465 (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) (VecWindow.window a18 (![0, 0, 0]) S5x256x512.size inb_S5x256x512_S5x256x512_0_0_0))⟩, ⟨(VecWindow.put a7 (k0_off24 k0_t1 0#32) S1x128x128.size (k0_pay110 v3444 v3451 v3458 v3465 (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) (VecWindow.window a18 (![0, 0, 0]) S5x256x512.size inb_S5x256x512_S5x256x512_0_0_0))), a8, a9, a10, a11, a12, a13, a14, a15, a16, a17, a18⟩) := rfl

theorem e_part23 (I : In F) (i : grid0.Coords) (arg1 : BitVec 32) (k0_h3 : k0_cond3 i = 1#1) (c0_i32_1293 : BitVec 32) (c1_i32 : BitVec 32) (k0_t2 : Fin k0_t2_loop.trips) :
    s_part23 I i arg1 k0_h3 c0_i32_1293 c1_i32 k0_t2 ⟨a7, a8, a9, a10, a11, a12, a13, a14, a15, a16, a17, a18⟩ =
      (⟨(Scf.iv c0_i32_1293 c1_i32 k0_t2), (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))), (k0_pay113 (VecWindow.window a16 (k0_off27 k0_t2) S1x1x8x512.size (k0_off27_inb i k0_t2 k0_h3))), (Scalar.addi (Scalar.addi arg1 1#32) 4#32)⟩, ⟨a7, a8, a9, a10, a11, a12, a13, a14, a15, a16, a17, a18⟩) := rfl

theorem e_part24 (I : In F) (i : grid0.Coords) (arg1 : BitVec 32) (v2653 : IVec S128x512 1) (k0_h3 : k0_cond3 i = 1#1) (k0_t2 : Fin k0_t2_loop.trips) (arg19 : BitVec 32) (v2689 : FVec F S512x128 .fp8e4m3) (v2694 : BitVec 32) :
    s_part24 I i arg1 v2653 k0_h3 k0_t2 arg19 v2689 v2694 ⟨a7, a8, a9, a10, a11, a12, a13, a14, a15, a16, a17, a18⟩ =
      (⟨(k0_pay115 v2653 v2689 (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0)) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0))), (k0_pay116 v2653 v2689 (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0)) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0)))⟩, ⟨a7, a8, a9, a10, a11, a12, a13, a14, a15, a16, a17, a18⟩) := rfl

theorem e_part25 (I : In F) (i : grid0.Coords) (arg1 : BitVec 32) (k0_h3 : k0_cond3 i = 1#1) (k0_t2 : Fin k0_t2_loop.trips) (arg19 : BitVec 32) (v2689 : FVec F S512x128 .fp8e4m3) (v2731 : FVec F S8x512 .f32) (v2734 : FVec F S1x128x512 .f32) :
    s_part25 I i arg1 k0_h3 k0_t2 arg19 v2689 v2731 v2734 ⟨a7, a8, a9, a10, a11, a12, a13, a14, a15, a16, a17, a18⟩ =
      (⟨(k0_pay119 v2689 v2731 (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))), (k0_pay120 v2689 (VecWindow.window a13 (k0_off29 i k0_t2 1#32) S1x256x128.size (k0_off29_inb i k0_t2 k0_h3 0))), (Scalar.addi (Scalar.muli (Scalar.remsi (Scalar.addi (Scalar.addi arg1 1#32) 1#32) 5#32) 256#32) 0#32)⟩, ⟨a7, a8, a9, a10, a11, a12, a13, a14, a15, a16, (VecWindow.put (VecWindow.put a17 (![0, 0, 0]) S1x128x512.size v2734) (![0, 128, 0]) S1x128x512.size (k0_pay118 v2689 (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))), a18⟩) := rfl

theorem e_part26 (I : In F) (i : grid0.Coords) (arg1 : BitVec 32) (k0_h3 : k0_cond3 i = 1#1) (k0_t2 : Fin k0_t2_loop.trips) (arg19 : BitVec 32) (v2689 : FVec F S512x128 .fp8e4m3) (v2758 : FVec F S8x512 .f32) (v2769 : FVec F S256x512 .f32) (v2770 : BitVec 32) :
    s_part26 I i arg1 k0_h3 k0_t2 arg19 v2689 v2758 v2769 v2770 ⟨a7, a8, a9, a10, a11, a12, a13, a14, a15, a16, a17, a18⟩ =
      (⟨(k0_pay125 v2689 v2758 v2769 (VecWindow.window a14 (k0_off29 i k0_t2 1#32) S1x256x128.size (k0_off29_inb i k0_t2 k0_h3 0)) (VecWindow.window a13 (k0_off29 i k0_t2 2#32) S1x256x128.size (k0_off29_inb i k0_t2 k0_h3 1)) (VecWindow.window a14 (k0_off29 i k0_t2 2#32) S1x256x128.size (k0_off29_inb i k0_t2 k0_h3 1))), (Scalar.addi (Scalar.addi arg1 1#32) 3#32), 5#32⟩, ⟨a7, a8, a9, a10, a11, a12, a13, a14, a15, a16, (VecWindow.put (VecWindow.put a17 (![1, 0, 0]) S1x256x512.size (k0_pay122 v2769 (VecWindow.window a14 (k0_off29 i k0_t2 1#32) S1x256x128.size (k0_off29_inb i k0_t2 k0_h3 0)))) (![2, 0, 0]) S1x256x512.size (k0_pay124 v2689 (VecWindow.window a13 (k0_off29 i k0_t2 2#32) S1x256x128.size (k0_off29_inb i k0_t2 k0_h3 1)) (VecWindow.window a14 (k0_off29 i k0_t2 2#32) S1x256x128.size (k0_off29_inb i k0_t2 k0_h3 1)))), a18⟩) := rfl

theorem e_part27 (I : In F) (i : grid0.Coords) (k0_h3 : k0_cond3 i = 1#1) (k0_t2 : Fin k0_t2_loop.trips) (arg19 : BitVec 32) (v2689 : FVec F S512x128 .fp8e4m3) (v2692 : FVec F S8x512 .f32) (v2806 : FVec F S8x512 .f32) (v2808 : BitVec 32) (c5_i32_1378 : BitVec 32) :
    s_part27 I i k0_h3 k0_t2 arg19 v2689 v2692 v2806 v2808 c5_i32_1378 ⟨a7, a8, a9, a10, a11, a12, a13, a14, a15, a16, a17, a18⟩ =
      (⟨(k0_pay128 (VecWindow.window I.a6 (k0_off30 k0_t2) S1x8x512.size (k0_off30_inb i k0_t2 k0_h3))), (k0_pay130 v2689 v2692 v2806 (VecWindow.window a13 (k0_off29 i k0_t2 3#32) S1x256x128.size (k0_off29_inb i k0_t2 k0_h3 2)) (VecWindow.window a14 (k0_off29 i k0_t2 3#32) S1x256x128.size (k0_off29_inb i k0_t2 k0_h3 2)) (VecWindow.window I.a6 (k0_off30 k0_t2) S1x8x512.size (k0_off30_inb i k0_t2 k0_h3))), (k0_pay131 v2689 v2692 v2806 (VecWindow.window a13 (k0_off29 i k0_t2 3#32) S1x256x128.size (k0_off29_inb i k0_t2 k0_h3 2)) (VecWindow.window a14 (k0_off29 i k0_t2 3#32) S1x256x128.size (k0_off29_inb i k0_t2 k0_h3 2)) (VecWindow.window I.a6 (k0_off30 k0_t2) S1x8x512.size (k0_off30_inb i k0_t2 k0_h3))), (iota .tc S8x512x256 32 [2] iota_S8x512x256_d2_w32), (k0_pay132 (F := F)), k0_pay133⟩, ⟨a7, a8, a9, a10, a11, a12, a13, a14, a15, a16, (VecWindow.put a17 (![3, 0, 0]) S1x256x512.size (k0_pay127 v2689 (VecWindow.window a13 (k0_off29 i k0_t2 3#32) S1x256x128.size (k0_off29_inb i k0_t2 k0_h3 2)) (VecWindow.window a14 (k0_off29 i k0_t2 3#32) S1x256x128.size (k0_off29_inb i k0_t2 k0_h3 2)))), a18⟩) := rfl

theorem e_part28 (I : In F) (i : grid0.Coords) (v2653 : IVec S128x512 1) (v2692 : FVec F S8x512 .f32) (v2841 : FVec F S8x512 .f32) (v2845 : FVec F S8x512 .f32) (v2846 : IVec S8x512x256 32) (v2849 : FVec F S8x512x256 .f32) (v2850 : IVec S8x512x256 32) :
    s_part28 I i v2653 v2692 v2841 v2845 v2846 v2849 v2850 ⟨a7, a8, a9, a10, a11, a12, a13, a14, a15, a16, a17, a18⟩ =
      (⟨(k0_pay135 v2845 v2846 v2849 v2850), (k0_pay136 v2841 v2845 v2846 v2849 v2850), (k0_pay138 v2692 v2841 v2845 v2846 v2849 v2850 (VecWindow.window a17 (![0, 0, 0]) S1x128x512.size inb_S5x256x512_S1x128x512_0_0_0)), (k0_pay141 v2653 v2692 v2841 v2845 v2846 v2849 v2850 (VecWindow.window a17 (![0, 0, 0]) S1x128x512.size inb_S5x256x512_S1x128x512_0_0_0))⟩, ⟨a7, a8, a9, a10, a11, a12, a13, a14, a15, a16, a17, (VecWindow.put a18 (![0, 0, 0]) S1x128x512.size (k0_pay140 v2653 v2692 v2841 v2845 v2846 v2849 v2850 (VecWindow.window a17 (![0, 0, 0]) S1x128x512.size inb_S5x256x512_S1x128x512_0_0_0)))⟩) := rfl

theorem e_part29 (I : In F) (i : grid0.Coords) (v2692 : FVec F S8x512 .f32) (v2870 : FVec F S8x512 .f32) (v2883 : FVec F S8x512 .f32) (v2893 : FVec F S128x512 .fp8e4m3) :
    s_part29 I i v2692 v2870 v2883 v2893 ⟨a7, a8, a9, a10, a11, a12, a13, a14, a15, a16, a17, a18⟩ =
      (⟨(k0_pay146 v2692 v2870 v2883 (VecWindow.window a17 (![0, 128, 0]) S1x128x512.size inb_S5x256x512_S1x128x512_0_128_0) (VecWindow.window a17 (![1, 0, 0]) S1x256x512.size inb_S5x256x512_S1x256x512_1_0_0)), (k0_pay147 v2692 v2870 (VecWindow.window a17 (![1, 0, 0]) S1x256x512.size inb_S5x256x512_S1x256x512_1_0_0)), (VecWindow.window (VecWindow.put (VecWindow.put a18 (![4, 0, 0]) S1x128x512.size (k0_pay142 v2893)) (![0, 128, 0]) S1x128x512.size (k0_pay144 v2692 v2870 (VecWindow.window a17 (![0, 128, 0]) S1x128x512.size inb_S5x256x512_S1x128x512_0_128_0))) (![1, 0, 0]) S1x256x512.size inb_S5x256x512_S1x256x512_1_0_0)⟩, ⟨a7, a8, a9, a10, a11, a12, a13, a14, a15, a16, a17, (VecWindow.put (VecWindow.put a18 (![4, 0, 0]) S1x128x512.size (k0_pay142 v2893)) (![0, 128, 0]) S1x128x512.size (k0_pay144 v2692 v2870 (VecWindow.window a17 (![0, 128, 0]) S1x128x512.size inb_S5x256x512_S1x128x512_0_128_0)))⟩) := rfl

theorem e_part30 (I : In F) (i : grid0.Coords) (v2692 : FVec F S8x512 .f32) (v2870 : FVec F S8x512 .f32) (v2929 : FVec F S8x512 .f32) (v2931 : FVec F S256x512 .fp8e4m3) (v2932 : Vec F S1x256x512 .fp8e4m3) :
    s_part30 I i v2692 v2870 v2929 v2931 v2932 ⟨a7, a8, a9, a10, a11, a12, a13, a14, a15, a16, a17, a18⟩ =
      (⟨(k0_pay152 v2692 v2870 v2929 (VecWindow.window a17 (![2, 0, 0]) S1x256x512.size inb_S5x256x512_S1x256x512_2_0_0) (VecWindow.window a17 (![3, 0, 0]) S1x256x512.size inb_S5x256x512_S1x256x512_3_0_0)), (Scalar.ofBits .fp8e4m3 0x00#8)⟩, ⟨a7, a8, a9, a10, a11, a12, a13, a14, a15, a16, a17, (VecWindow.put (VecWindow.put (VecWindow.put a18 (![1, 0, 0]) S1x256x512.size (k0_pay148 v2931)) (![2, 0, 0]) S1x256x512.size (k0_pay150 v2692 v2870 (VecWindow.window a17 (![2, 0, 0]) S1x256x512.size inb_S5x256x512_S1x256x512_2_0_0))) (![3, 0, 0]) S1x256x512.size (k0_pay153 v2692 v2870 (VecWindow.window a17 (![3, 0, 0]) S1x256x512.size inb_S5x256x512_S1x256x512_3_0_0)))⟩) := rfl

theorem e_part31 (I : In F) (i : grid0.Coords) (arg1 : BitVec 32) (k0_h3 : k0_cond3 i = 1#1) (k0_t2 : Fin k0_t2_loop.trips) (arg19 : BitVec 32) (v2839 : FVec F S8x512 .f32) (v2841 : FVec F S8x512 .f32) (v2868 : FVec F S8x512 .f32) (v2967 : FVec F S8x512 .f32) (cst_1447 : F .fp8e4m3) :
    s_part31 I i arg1 k0_h3 k0_t2 arg19 v2839 v2841 v2868 v2967 cst_1447 ⟨a7, a8, a9, a10, a11, a12, a13, a14, a15, a16, a17, a18⟩ =
      (⟨(k0_pay155 v2839 v2841 v2868 v2967 (VecWindow.window I.a5 (k0_off31 k0_t2) S1x1x8x128.size (k0_off31_inb i k0_t2 k0_h3))), (k0_pay156 (VecWindow.window a15 (k0_off32 i k0_t2 0#32) S1x1x128x256.size (k0_off32_inb i k0_t2 k0_h3 0))), (k0_pay157 (VecWindow.window a15 (k0_off32 i k0_t2 1#32) S1x1x128x256.size (k0_off32_inb i k0_t2 k0_h3 1)))⟩, ⟨a7, a8, a9, a10, a11, a12, a13, a14, a15, a16, a17, (VecWindow.put a18 (![4, 128, 0]) S1x128x512.size (k0_pay154 cst_1447))⟩) := rfl

theorem e_part32 (I : In F) (i : grid0.Coords) (arg1 : BitVec 32) (k0_h3 : k0_cond3 i = 1#1) (k0_t2 : Fin k0_t2_loop.trips) (arg19 : BitVec 32) (v2990 : FVec F S8x512 .f32) (v2997 : FVec F S128x256 .fp8e4m3) (v3004 : FVec F S128x256 .fp8e4m3) :
    s_part32 I i arg1 k0_h3 k0_t2 arg19 v2990 v2997 v3004 ⟨a7, a8, a9, a10, a11, a12, a13, a14, a15, a16, a17, a18⟩ =
      (⟨(k0_pay158 v2990 v2997 v3004 (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) (VecWindow.window a18 (![0, 0, 0]) S5x256x512.size inb_S5x256x512_S5x256x512_0_0_0)), (Scalar.addi (Scalar.muli arg19 4#32) 1#32)⟩, ⟨(VecWindow.put a7 (k0_off26 k0_t2 0#32) S1x128x128.size (k0_pay159 v2990 v2997 v3004 (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) (VecWindow.window a18 (![0, 0, 0]) S5x256x512.size inb_S5x256x512_S5x256x512_0_0_0))), a8, a9, a10, a11, a12, a13, a14, a15, a16, a17, a18⟩) := rfl

theorem e_part33 (I : In F) (i : grid0.Coords) (k0_h3 : k0_cond3 i = 1#1) (k0_t2 : Fin k0_t2_loop.trips) (arg19 : BitVec 32) (v3034 : FVec F S128x512 .f32) (v3047 : BitVec 32) :
    s_part33 I i k0_h3 k0_t2 arg19 v3034 v3047 ⟨a7, a8, a9, a10, a11, a12, a13, a14, a15, a16, a17, a18⟩ =
      (⟨(k0_pay163 (VecWindow.window a8 (k0_off33 k0_t2 0#32) S1x128x128.size (k0_off33_inb i k0_t2 k0_h3 0))), 4#32⟩, ⟨(VecWindow.put (VecWindow.put (VecWindow.put a7 (k0_off26 k0_t2 1#32) S1x128x128.size (k0_pay160 v3034)) (k0_off26 k0_t2 2#32) S1x128x128.size (k0_pay161 v3034)) (k0_off26 k0_t2 3#32) S1x128x128.size (k0_pay162 v3034)), a8, a9, a10, a11, a12, a13, a14, a15, a16, a17, a18⟩) := rfl

theorem e_part34 (I : In F) (i : grid0.Coords) (arg1 : BitVec 32) (k0_h3 : k0_cond3 i = 1#1) (k0_t2 : Fin k0_t2_loop.trips) (arg19 : BitVec 32) (v3085 : FVec F S128x128 .fp8e4m3) (c4_i32_1509 : BitVec 32) :
    s_part34 I i arg1 k0_h3 k0_t2 arg19 v3085 c4_i32_1509 ⟨a7, a8, a9, a10, a11, a12, a13, a14, a15, a16, a17, a18⟩ =
      (⟨(k0_pay164 v3085 (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))), (k0_pay165 (VecWindow.window a16 (k0_off34 k0_t2) S1x1x8x512.size (k0_off34_inb i k0_t2 k0_h3))), (Scalar.muli (Scalar.remsi (Scalar.addi (Scalar.addi arg1 1#32) 4#32) 5#32) 256#32), (k0_pay166 v3085 (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3)) (VecWindow.window a13 (k0_off28 i k0_t2 4#32 128#32) S1x128x128.size (k0_off28_inb i k0_t2 k0_h3 1 1)))⟩, ⟨a7, a8, a9, a10, a11, a12, a13, a14, a15, a16, a17, a18⟩) := rfl

theorem e_part35 (I : In F) (i : grid0.Coords) (arg1 : BitVec 32) (v2653 : IVec S128x512 1) (k0_h3 : k0_cond3 i = 1#1) (k0_t2 : Fin k0_t2_loop.trips) (arg19 : BitVec 32) (v3107 : FVec F S512x128 .fp8e4m3) (v3115 : BitVec 32) (v3121 : FVec F S128x512 .f32) :
    s_part35 I i arg1 v2653 k0_h3 k0_t2 arg19 v3107 v3115 v3121 ⟨a7, a8, a9, a10, a11, a12, a13, a14, a15, a16, a17, a18⟩ =
      (⟨(k0_pay168 v2653 v3107 v3121 (VecWindow.window a14 (k0_off28 i k0_t2 4#32 128#32) S1x128x128.size (k0_off28_inb i k0_t2 k0_h3 1 1)) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))), (Scalar.muli (Scalar.remsi (Scalar.addi (Scalar.addi arg1 1#32) 1#32) 5#32) 256#32)⟩, ⟨a7, a8, a9, a10, a11, a12, a13, a14, a15, a16, (VecWindow.put a17 (![0, 128, 0]) S1x128x512.size (k0_pay169 v2653 v3107 v3121 (VecWindow.window a14 (k0_off28 i k0_t2 4#32 128#32) S1x128x128.size (k0_off28_inb i k0_t2 k0_h3 1 1)) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))), a18⟩) := rfl

theorem e_part36 (I : In F) (i : grid0.Coords) (arg1 : BitVec 32) (k0_h3 : k0_cond3 i = 1#1) (k0_t2 : Fin k0_t2_loop.trips) (arg19 : BitVec 32) (v3107 : FVec F S512x128 .fp8e4m3) (v3149 : FVec F S8x512 .f32) (v3157 : BitVec 32) :
    s_part36 I i arg1 k0_h3 k0_t2 arg19 v3107 v3149 v3157 ⟨a7, a8, a9, a10, a11, a12, a13, a14, a15, a16, a17, a18⟩ =
      (⟨(k0_pay172 v3107 v3149 (VecWindow.window a13 (k0_off29 i k0_t2 1#32) S1x256x128.size (k0_off29_inb i k0_t2 k0_h3 0)) (VecWindow.window a14 (k0_off29 i k0_t2 1#32) S1x256x128.size (k0_off29_inb i k0_t2 k0_h3 0))), (k0_pay175 v3107 (VecWindow.window a13 (k0_off29 i k0_t2 2#32) S1x256x128.size (k0_off29_inb i k0_t2 k0_h3 1)) (VecWindow.window a14 (k0_off29 i k0_t2 2#32) S1x256x128.size (k0_off29_inb i k0_t2 k0_h3 1)))⟩, ⟨a7, a8, a9, a10, a11, a12, a13, a14, a15, a16, (VecWindow.put (VecWindow.put a17 (![1, 0, 0]) S1x256x512.size (k0_pay171 v3107 (VecWindow.window a13 (k0_off29 i k0_t2 1#32) S1x256x128.size (k0_off29_inb i k0_t2 k0_h3 0)) (VecWindow.window a14 (k0_off29 i k0_t2 1#32) S1x256x128.size (k0_off29_inb i k0_t2 k0_h3 0)))) (![2, 0, 0]) S1x256x512.size (k0_pay174 v3107 (VecWindow.window a13 (k0_off29 i k0_t2 2#32) S1x256x128.size (k0_off29_inb i k0_t2 k0_h3 1)) (VecWindow.window a14 (k0_off29 i k0_t2 2#32) S1x256x128.size (k0_off29_inb i k0_t2 k0_h3 1)))), a18⟩) := rfl

theorem e_part37 (I : In F) (i : grid0.Coords) (arg1 : BitVec 32) (k0_h3 : k0_cond3 i = 1#1) (k0_t2 : Fin k0_t2_loop.trips) (arg19 : BitVec 32) (v3107 : FVec F S512x128 .fp8e4m3) (v3176 : FVec F S8x512 .f32) (v3198 : FVec F S32x8x512 .f32) :
    s_part37 I i arg1 k0_h3 k0_t2 arg19 v3107 v3176 v3198 ⟨a7, a8, a9, a10, a11, a12, a13, a14, a15, a16, a17, a18⟩ =
      (⟨(k0_pay178 v3107 v3176 v3198 (VecWindow.window a13 (k0_off29 i k0_t2 3#32) S1x256x128.size (k0_off29_inb i k0_t2 k0_h3 2)) (VecWindow.window a14 (k0_off29 i k0_t2 3#32) S1x256x128.size (k0_off29_inb i k0_t2 k0_h3 2))), (Scalar.muli (Scalar.remsi (Scalar.addi (Scalar.addi arg1 1#32) 4#32) 5#32) 256#32), (k0_pay179 v3107 (VecWindow.window a13 (k0_off28 i k0_t2 4#32 0#32) S1x128x128.size (k0_off28_inb i k0_t2 k0_h3 1 0))), 0#32⟩, ⟨a7, a8, a9, a10, a11, a12, a13, a14, a15, a16, (VecWindow.put a17 (![3, 0, 0]) S1x256x512.size (k0_pay177 v3107 (VecWindow.window a13 (k0_off29 i k0_t2 3#32) S1x256x128.size (k0_off29_inb i k0_t2 k0_h3 2)) (VecWindow.window a14 (k0_off29 i k0_t2 3#32) S1x256x128.size (k0_off29_inb i k0_t2 k0_h3 2)))), a18⟩) := rfl

theorem e_part38 (I : In F) (i : grid0.Coords) (k0_h3 : k0_cond3 i = 1#1) (k0_t2 : Fin k0_t2_loop.trips) (arg19 : BitVec 32) (v3110 : FVec F S8x512 .f32) (v3224 : FVec F S8x512 .f32) (v3229 : BitVec 32) (v3235 : FVec F S128x512 .f32) (c0_i32_1595 : BitVec 32) :
    s_part38 I i k0_h3 k0_t2 arg19 v3110 v3224 v3229 v3235 c0_i32_1595 ⟨a7, a8, a9, a10, a11, a12, a13, a14, a15, a16, a17, a18⟩ =
      (⟨(k0_pay182 (VecWindow.window I.a6 (k0_off30 k0_t2) S1x8x512.size (k0_off30_inb i k0_t2 k0_h3))), (k0_pay184 v3110 v3224 v3235 (VecWindow.window a14 (k0_off28 i k0_t2 4#32 0#32) S1x128x128.size (k0_off28_inb i k0_t2 k0_h3 1 0)) (VecWindow.window I.a6 (k0_off30 k0_t2) S1x8x512.size (k0_off30_inb i k0_t2 k0_h3))), (k0_pay186 v3110 v3224 v3235 (VecWindow.window a14 (k0_off28 i k0_t2 4#32 0#32) S1x128x128.size (k0_off28_inb i k0_t2 k0_h3 1 0)) (VecWindow.window I.a6 (k0_off30 k0_t2) S1x8x512.size (k0_off30_inb i k0_t2 k0_h3))), (k0_pay187 v3110 v3224 v3235 (VecWindow.window a14 (k0_off28 i k0_t2 4#32 0#32) S1x128x128.size (k0_off28_inb i k0_t2 k0_h3 1 0)) (VecWindow.window I.a6 (k0_off30 k0_t2) S1x8x512.size (k0_off30_inb i k0_t2 k0_h3)))⟩, ⟨a7, a8, a9, a10, a11, a12, a13, a14, a15, a16, (VecWindow.put a17 (![4, 0, 0]) S1x128x512.size (k0_pay181 v3235 (VecWindow.window a14 (k0_off28 i k0_t2 4#32 0#32) S1x128x128.size (k0_off28_inb i k0_t2 k0_h3 1 0)))), a18⟩) := rfl

theorem e_part39 (I : In F) (i : grid0.Coords) (v2653 : IVec S128x512 1) (v3110 : FVec F S8x512 .f32) (v3259 : FVec F S8x512 .f32) (v3277 : IVec S8x512 1) (v3279 : IVec S8x512 32) :
    s_part39 I i v2653 v3110 v3259 v3277 v3279 ⟨a7, a8, a9, a10, a11, a12, a13, a14, a15, a16, a17, a18⟩ =
      (⟨(k0_pay189 (F := F) v3277 v3279), (k0_pay190 v3259 v3277 v3279), (k0_pay192 v3110 v3259 v3277 v3279 (VecWindow.window a17 (![0, 128, 0]) S1x128x512.size inb_S5x256x512_S1x128x512_0_128_0)), (k0_pay196 (VecWindow.window a17 (![1, 0, 0]) S1x256x512.size inb_S5x256x512_S1x256x512_1_0_0)), (k0_pay197 v3110)⟩, ⟨a7, a8, a9, a10, a11, a12, a13, a14, a15, a16, a17, (VecWindow.put (VecWindow.put a18 (![0, 128, 0]) S1x128x512.size (k0_pay194 v2653 v3110 v3259 v3277 v3279 (VecWindow.window a17 (![0, 128, 0]) S1x128x512.size inb_S5x256x512_S1x128x512_0_128_0))) (![4, 128, 0]) S1x128x512.size (k0_pay195 v2653 v3110 v3259 v3277 v3279 (VecWindow.window a17 (![0, 128, 0]) S1x128x512.size inb_S5x256x512_S1x128x512_0_128_0)))⟩) := rfl

theorem e_part40 (I : In F) (i : grid0.Coords) (v3110 : FVec F S8x512 .f32) (v3288 : FVec F S8x512 .f32) (v3301 : FVec F S8x512 .f32) (v3317 : FVec F S32x8x512 .f32) (v3318 : FVec F S1x8x512 .f32) :
    s_part40 I i v3110 v3288 v3301 v3317 v3318 ⟨a7, a8, a9, a10, a11, a12, a13, a14, a15, a16, a17, a18⟩ =
      (⟨(k0_pay201 v3110 v3288 v3301 v3317 v3318 (VecWindow.window a17 (![2, 0, 0]) S1x256x512.size inb_S5x256x512_S1x256x512_2_0_0)), (k0_pay203 v3110 (VecWindow.window a17 (![3, 0, 0]) S1x256x512.size inb_S5x256x512_S1x256x512_3_0_0)), (k0_pay204 v3288)⟩, ⟨a7, a8, a9, a10, a11, a12, a13, a14, a15, a16, a17, (VecWindow.put (VecWindow.put a18 (![1, 0, 0]) S1x256x512.size (k0_pay199 v3288 v3317 v3318)) (![2, 0, 0]) S1x256x512.size (k0_pay202 v3110 v3288 (VecWindow.window a17 (![2, 0, 0]) S1x256x512.size inb_S5x256x512_S1x256x512_2_0_0)))⟩) := rfl

theorem e_part41 (I : In F) (i : grid0.Coords) (v3110 : FVec F S8x512 .f32) (v3286 : FVec F S8x512 .f32) (v3288 : FVec F S8x512 .f32) (v3347 : FVec F S8x512 .f32) (v3358 : FVec F S32x8x512 .f32) (v3360 : FVec F S32x8x512 .f32) :
    s_part41 I i v3110 v3286 v3288 v3347 v3358 v3360 ⟨a7, a8, a9, a10, a11, a12, a13, a14, a15, a16, a17, a18⟩ =
      ((k0_pay210 v3110 v3286 v3288 v3347 v3358 v3360 (VecWindow.window a17 (![4, 0, 0]) S1x128x512.size inb_S5x256x512_S1x128x512_4_0_0)), ⟨a7, a8, a9, a10, a11, a12, a13, a14, a15, a16, a17, (VecWindow.put (VecWindow.put (VecWindow.put a18 (![3, 0, 0]) S1x256x512.size (k0_pay206 v3358 v3360)) (![4, 0, 0]) S1x128x512.size (k0_pay208 v3110 v3288 (VecWindow.window a17 (![4, 0, 0]) S1x128x512.size inb_S5x256x512_S1x128x512_4_0_0))) (![0, 0, 0]) S1x128x512.size (k0_pay209 (F := F)))⟩) := rfl

theorem e_part42 (I : In F) (i : grid0.Coords) (arg1 : BitVec 32) (k0_h3 : k0_cond3 i = 1#1) (k0_t2 : Fin k0_t2_loop.trips) (arg19 : BitVec 32) (v3257 : FVec F S8x512 .f32) (v3259 : FVec F S8x512 .f32) (v3286 : FVec F S8x512 .f32) (v3399 : FVec F S8x512 .f32) :
    s_part42 I i arg1 k0_h3 k0_t2 arg19 v3257 v3259 v3286 v3399 ⟨a7, a8, a9, a10, a11, a12, a13, a14, a15, a16, a17, a18⟩ =
      (⟨(k0_pay211 v3257 v3259 v3286 v3399 (VecWindow.window I.a5 (k0_off31 k0_t2) S1x1x8x128.size (k0_off31_inb i k0_t2 k0_h3))), (k0_pay212 (VecWindow.window a15 (k0_off32 i k0_t2 0#32) S1x1x128x256.size (k0_off32_inb i k0_t2 k0_h3 0))), (k0_pay213 (VecWindow.window a15 (k0_off32 i k0_t2 1#32) S1x1x128x256.size (k0_off32_inb i k0_t2 k0_h3 1))), (k0_pay214 (VecWindow.window a15 (k0_off32 i k0_t2 2#32) S1x1x128x256.size (k0_off32_inb i k0_t2 k0_h3 2))), (k0_pay215 (VecWindow.window a15 (k0_off32 i k0_t2 3#32) S1x1x128x256.size (k0_off32_inb i k0_t2 k0_h3 3)))⟩, ⟨a7, a8, a9, a10, a11, a12, a13, a14, a15, a16, a17, a18⟩) := rfl

theorem e_part43 (I : In F) (i : grid0.Coords) (arg1 : BitVec 32) (k0_h3 : k0_cond3 i = 1#1) (k0_t2 : Fin k0_t2_loop.trips) (arg19 : BitVec 32) (v3408 : FVec F S8x512 .f32) (v3415 : FVec F S128x256 .fp8e4m3) (v3422 : FVec F S128x256 .fp8e4m3) (v3429 : FVec F S128x256 .fp8e4m3) (v3436 : FVec F S128x256 .fp8e4m3) :
    s_part43 I i arg1 k0_h3 k0_t2 arg19 v3408 v3415 v3422 v3429 v3436 ⟨a7, a8, a9, a10, a11, a12, a13, a14, a15, a16, a17, a18⟩ =
      (⟨(k0_pay216 v3408 v3415 v3422 v3429 v3436 (VecWindow.window a15 (k0_off32 i k0_t2 4#32) S1x1x128x256.size (k0_off32_inb i k0_t2 k0_h3 4)) (VecWindow.window a18 (![0, 0, 0]) S5x256x512.size inb_S5x256x512_S5x256x512_0_0_0)), 4#32⟩, ⟨(VecWindow.put (VecWindow.put a7 (k0_off33 k0_t2 0#32) S1x128x128.size (k0_pay217 v3408 v3415 v3422 v3429 v3436 (VecWindow.window a15 (k0_off32 i k0_t2 4#32) S1x1x128x256.size (k0_off32_inb i k0_t2 k0_h3 4)) (VecWindow.window a18 (![0, 0, 0]) S5x256x512.size inb_S5x256x512_S5x256x512_0_0_0))) (k0_off33 k0_t2 1#32) S1x128x128.size (k0_pay218 v3408 v3415 v3422 v3429 v3436 (VecWindow.window a15 (k0_off32 i k0_t2 4#32) S1x1x128x256.size (k0_off32_inb i k0_t2 k0_h3 4)) (VecWindow.window a18 (![0, 0, 0]) S5x256x512.size inb_S5x256x512_S5x256x512_0_0_0))), a8, a9, a10, a11, a12, a13, a14, a15, a16, a17, a18⟩) := rfl

end Cert.KernelIdeal.Run

end
-- ==== Proof.PI.Unit.lean ====
/-
  The attention of one unit (128 queries of four heads against five blocks of keys), and a trip of each attention loop
  as two units' tiles written into the result's block.
-/
module

public import proofs.«01_k».proof.Proof.PI.LoopParts

@[expose] public section

noncomputable section

namespace Cert.KernelIdeal.Run

open Cert.KernelIdeal Cert.KernelIdeal.Gen
open Idealize.ShloMosaic Idealize.SL.Sem

variable {F : FTy → Type} [FloatOps F] [Named F]

/-- The scores of 128 keys against the queries of a unit. -/
def sc128 (q : FVec F S512x128 .fp8e4m3) (k : Vec F S1x128x128 .fp8e4m3) (s : Vec F S1x128x128 .f32) : FVec F S128x512 .f32 :=
  k0_pay117 q k s
/-- The scores of 256 keys against the queries of a unit. -/
def sc256 (q : FVec F S512x128 .fp8e4m3) (k : Vec F S1x256x128 .fp8e4m3) (s : Vec F S1x256x128 .f32) : FVec F S256x512 .f32 :=
  k0_pay123 q k s
/-- Scores, or -∞ where the block is absent. -/
def msk {S : Shape} (b : BitVec 1) (t : FVec F S .f32) : FVec F S .f32 :=
  Scalar.select b t (broadcast S (Scalar.ofBits .f32 0xFF800000#32))
/-- The largest score per sublane and query. -/
def mx128 (t : FVec F S128x512 .f32) : FVec F S8x512 .f32 :=
  multiReduction .maximumf [0] S8x512 (shapeCast S16x8x512 t shapeCasts_S128x512_S16x8x512) 0xFF800000#32 reduces_S16x8x512_S8x512 (.inl rfl) rfl
def mx256 (t : FVec F S256x512 .f32) : FVec F S8x512 .f32 :=
  multiReduction .maximumf [0] S8x512 (shapeCast S32x8x512 t shapeCasts_S256x512_S32x8x512) 0xFF800000#32 reduces_S32x8x512_S8x512 (.inl rfl) rfl
/-- The largest over the sublanes, repeated. -/
def rowMax (t : FVec F S8x512 .f32) : FVec F S8x512 .f32 :=
  broadcastTo S8x512 (shapeCast S1x512 (shapeCast S1x512 (multiReduction .maximumf [0] S512 t 0xFF800000#32 reduces_S8x512_S512 (.inl rfl) rfl)
    shapeCasts_S512_S1x512) shapeCasts_S1x512_S1x512) broadcasts_S1x512_S8x512
/-- The largest probability over 448. -/
def yOf (smax m2 : FVec F S8x512 .f32) : FVec F S8x512 .f32 :=
  mulf (exp2 (subf smax m2)) (broadcast S8x512 (Scalar.ofBits .f32 0x3B124925#32))
/-- Its scale and the shift of the exponents. -/
def psOf (y : FVec F S8x512 .f32) : FVec F S8x512 .f32 :=
  k0_pay135 y (iota .tc S8x512x256 32 [2] iota_S8x512x256_d2_w32) (k0_pay132 (F := F)) k0_pay133
def shOf (m2 y : FVec F S8x512 .f32) : FVec F S8x512 .f32 :=
  k0_pay136 m2 y (iota .tc S8x512x256 32 [2] iota_S8x512x256_d2_w32) (k0_pay132 (F := F)) k0_pay133
/-- The scaled probabilities of 128 and of 256 keys. -/
def pr128 (A sh : FVec F S8x512 .f32) (t : FVec F S128x512 .f32) : FVec F S16x8x512 .f32 :=
  k0_pay143 A sh (shapeCast S1x128x512 t shapeCasts_S128x512_S1x128x512)
def pr256 (A sh : FVec F S8x512 .f32) (t : FVec F S256x512 .f32) : FVec F S32x8x512 .f32 :=
  k0_pay145 A sh (shapeCast S1x256x512 t shapeCasts_S256x512_S1x256x512)
def sm128 (p : FVec F S16x8x512 .f32) : FVec F S8x512 .f32 :=
  multiReduction .add [0] S8x512 p 0x00000000#32 reduces_S16x8x512_S8x512 (.inl rfl) rfl
def sm256 (p : FVec F S32x8x512 .f32) : FVec F S8x512 .f32 :=
  multiReduction .add [0] S8x512 p 0x00000000#32 reduces_S32x8x512_S8x512 (.inl rfl) rfl
/-- The probabilities of the diagonal part of the first and last block. -/
def pOld (diag : IVec S128x512 1) (p : FVec F S16x8x512 .f32) : FVec F S1x128x512 .fp8e4m3 :=
  shapeCast S1x128x512 (truncf .fp8e4m3 (select diag (broadcast S128x512 (Scalar.ofBits .f32 0x00000000#32)) (shapeCast S128x512 p shapeCasts_S16x8x512_S128x512)) bitsLt_fp8e4m3_f32) shapeCasts_S128x512_S1x128x512
def pNew (diag : IVec S128x512 1) (p : FVec F S16x8x512 .f32) : FVec F S1x128x512 .fp8e4m3 :=
  shapeCast S1x128x512 (truncf .fp8e4m3 (select diag (shapeCast S128x512 p shapeCasts_S16x8x512_S128x512) (broadcast S128x512 (Scalar.ofBits .f32 0x00000000#32))) bitsLt_fp8e4m3_f32) shapeCasts_S128x512_S1x128x512
def pAll128 (p : FVec F S16x8x512 .f32) : FVec F S1x128x512 .fp8e4m3 :=
  shapeCast S1x128x512 (truncf .fp8e4m3 (shapeCast S128x512 p shapeCasts_S16x8x512_S128x512) bitsLt_fp8e4m3_f32) shapeCasts_S128x512_S1x128x512
def pAll256 (p : FVec F S32x8x512 .f32) : FVec F S1x256x512 .fp8e4m3 :=
  shapeCast S1x256x512 (truncf .fp8e4m3 (shapeCast S256x512 p shapeCasts_S32x8x512_S256x512) bitsLt_fp8e4m3_f32) shapeCasts_S256x512_S1x256x512
def pNone : FVec F S1x128x512 .fp8e4m3 := k0_pay154 (Scalar.ofBits .fp8e4m3 0x00#8)
/-- One head's tile of the result, transposed. -/
def tile (u : FVec F S128x512 .f32) (c : ℕ) (h : S128x512.Slices ![0, c] S128x128) : FVec F S1x128x128 .bf16 :=
  shapeCast S1x128x128 (truncf .bf16 (transpose S128x128 [1, 0] (extractStridedSlice S128x128 ![0, c] u h) transposes_S128x128_p1_0_S128x128) bitsLt_bf16_f32) shapeCasts_S128x128_S1x128x128

/-- The count, its zero test, and the shift's integer part, of a scaled maximum. -/
def cntOf (y : FVec F S8x512 .f32) : IVec S8x512 32 :=
  multiReductionI .add [2] S8x512 (extui 32 (andi (cmpi .sgt (iota .tc S8x512x256 32 [2] iota_S8x512x256_d2_w32) (broadcast S8x512x256 0#32))
    (cmpf .oge (broadcastTo S8x512x256 (shapeCast S8x512x1 y shapeCasts_S8x512_S8x512x1) broadcasts_S8x512x1_S8x512x256) (k0_pay132 (F := F)))) natLt_1_32) 0#32 reduces_S8x512x256_S8x512 rfl
def eqW (y : FVec F S8x512 .f32) : IVec S8x512 1 := cmpi .eq (cntOf y) (broadcast S8x512 0#32)
def subW (y : FVec F S8x512 .f32) : IVec S8x512 32 := subi (cntOf y) (broadcast S8x512 126#32)
def seOf (y : FVec F S8x512 .f32) : FVec F S8x512 .f32 :=
  sitofp .f32 (k0_pay134 y (iota .tc S8x512x256 32 [2] iota_S8x512x256_d2_w32) (k0_pay132 (F := F)) k0_pay133)

variable (diag : IVec S128x512 1) (tc ts : FVec F S128x512 .f32) (ta tb td : FVec F S256x512 .f32) (A : FVec F S8x512 .f32)
  (sink : Vec F S1x8x512 .f32) (vs : Vec F S1x1x8x128 .f32) (v0 v1 v2 v3 v4 : Vec F S1x1x128x256 .fp8e4m3)
  (x : S5x256x512.Idx → Elt F .fp8e4m3)

/-- The largest score of a unit. -/
def mAll0 : FVec F S8x512 .f32 :=
  rowMax (maximumf (maximumf (maximumf (maximumf (mx128 tc) (mx128 ts)) (mx256 ta)) (mx256 tb)) (mx256 td))
def mAll1 : FVec F S8x512 .f32 :=
  rowMax (maximumf (maximumf (maximumf (maximumf (mx128 tc) (mx256 ta)) (mx256 tb)) (mx256 td)) (mx128 ts))
/-- The sums of a unit's probabilities. -/
def lAll0 (A sh : FVec F S8x512 .f32) : FVec F S8x512 .f32 :=
  addf (addf (addf (addf (sm128 (pr128 A sh tc)) (sm128 (pr128 A sh ts))) (sm256 (pr256 A sh ta))) (sm256 (pr256 A sh tb))) (sm256 (pr256 A sh td))
def lAll1 (A sh : FVec F S8x512 .f32) : FVec F S8x512 .f32 :=
  addf (addf (addf (addf (sm128 (pr128 A sh tc)) (sm256 (pr256 A sh ta))) (sm256 (pr256 A sh tb))) (sm256 (pr256 A sh td))) (sm128 (pr128 A sh ts))
/-- The probability buffer of a unit of the first half. -/
def pBuf0 (A sh : FVec F S8x512 .f32) : S5x256x512.Idx → Elt F .fp8e4m3 :=
  VecWindow.put (VecWindow.put (VecWindow.put (VecWindow.put (VecWindow.put (VecWindow.put (VecWindow.put x (![0, 0, 0]) S1x128x512.size (pOld diag (pr128 A sh tc)))
    (![4, 0, 0]) S1x128x512.size (pNew diag (pr128 A sh tc))) (![0, 128, 0]) S1x128x512.size (pAll128 (pr128 A sh ts)))
    (![1, 0, 0]) S1x256x512.size (pAll256 (pr256 A sh ta))) (![2, 0, 0]) S1x256x512.size (pAll256 (pr256 A sh tb)))
    (![3, 0, 0]) S1x256x512.size (pAll256 (pr256 A sh td))) (![4, 128, 0]) S1x128x512.size pNone
/-- The probability buffer of a unit of the second half. -/
def pBuf1 (A sh : FVec F S8x512 .f32) : S5x256x512.Idx → Elt F .fp8e4m3 :=
  VecWindow.put (VecWindow.put (VecWindow.put (VecWindow.put (VecWindow.put (VecWindow.put (VecWindow.put x (![0, 128, 0]) S1x128x512.size (pOld diag (pr128 A sh tc)))
    (![4, 128, 0]) S1x128x512.size (pNew diag (pr128 A sh tc))) (![1, 0, 0]) S1x256x512.size (pAll256 (pr256 A sh ta)))
    (![2, 0, 0]) S1x256x512.size (pAll256 (pr256 A sh tb))) (![3, 0, 0]) S1x256x512.size (pAll256 (pr256 A sh td)))
    (![4, 0, 0]) S1x128x512.size (pAll128 (pr128 A sh ts))) (![0, 0, 0]) S1x128x512.size pNone
/-- A unit's result from its scaled maximum, the sums and the probabilities. -/
def fin (m2 y l : FVec F S8x512 .f32) (P : S5x256x512.Idx → Elt F .fp8e4m3) : FVec F S128x512 .f32 :=
  k0_pay158 (k0_pay155 (k0_pay128 sink) m2 (psOf y) l vs) (k0_pay156 v0) (k0_pay157 v1) v2 v3 v4
    (VecWindow.window P (![0, 0, 0]) S5x256x512.size inb_S5x256x512_S5x256x512_0_0_0)
/-- A unit: the attention of 128 queries of the first half of a block, four heads. -/
def unit0 : FVec F S128x512 .f32 :=
  fin sink vs v0 v1 v2 v3 v4 (maximumf (mulf (mAll0 tc ts ta tb td) A) (k0_pay128 sink))
    (yOf (mulf (mAll0 tc ts ta tb td) A) (maximumf (mulf (mAll0 tc ts ta tb td) A) (k0_pay128 sink)))
    (lAll0 tc ts ta tb td A (shOf (maximumf (mulf (mAll0 tc ts ta tb td) A) (k0_pay128 sink)) (yOf (mulf (mAll0 tc ts ta tb td) A) (maximumf (mulf (mAll0 tc ts ta tb td) A) (k0_pay128 sink)))))
    (pBuf0 diag tc ts ta tb td x A (shOf (maximumf (mulf (mAll0 tc ts ta tb td) A) (k0_pay128 sink)) (yOf (mulf (mAll0 tc ts ta tb td) A) (maximumf (mulf (mAll0 tc ts ta tb td) A) (k0_pay128 sink)))))
/-- The same of the second half. -/
def unit1 : FVec F S128x512 .f32 :=
  fin sink vs v0 v1 v2 v3 v4 (maximumf (mulf (mAll1 tc ts ta tb td) A) (k0_pay128 sink))
    (yOf (mulf (mAll1 tc ts ta tb td) A) (maximumf (mulf (mAll1 tc ts ta tb td) A) (k0_pay128 sink)))
    (lAll1 tc ts ta tb td A (shOf (maximumf (mulf (mAll1 tc ts ta tb td) A) (k0_pay128 sink)) (yOf (mulf (mAll1 tc ts ta tb td) A) (maximumf (mulf (mAll1 tc ts ta tb td) A) (k0_pay128 sink)))))
    (pBuf1 diag tc ts ta tb td x A (shOf (maximumf (mulf (mAll1 tc ts ta tb td) A) (k0_pay128 sink)) (yOf (mulf (mAll1 tc ts ta tb td) A) (maximumf (mulf (mAll1 tc ts ta tb td) A) (k0_pay128 sink)))))

theorem winAB (z : S5x256x512.Idx → Elt F .f32) (w) (inb) : VecWindow.window (VecWindow.put z (![0, 128, 0]) ![1, 128, 512] w) (![0, 0, 0]) ![1, 128, 512] inb = VecWindow.window z (![0, 0, 0]) ![1, 128, 512] inb :=
  VecWindow.window_put_of_disjoint _ _ _ _ _ _ _ 1 (by decide)
theorem winAC (z : S5x256x512.Idx → Elt F .f32) (w) (inb) : VecWindow.window (VecWindow.put z (![1, 0, 0]) ![1, 256, 512] w) (![0, 0, 0]) ![1, 128, 512] inb = VecWindow.window z (![0, 0, 0]) ![1, 128, 512] inb :=
  VecWindow.window_put_of_disjoint _ _ _ _ _ _ _ 0 (by decide)
theorem winAD (z : S5x256x512.Idx → Elt F .f32) (w) (inb) : VecWindow.window (VecWindow.put z (![2, 0, 0]) ![1, 256, 512] w) (![0, 0, 0]) ![1, 128, 512] inb = VecWindow.window z (![0, 0, 0]) ![1, 128, 512] inb :=
  VecWindow.window_put_of_disjoint _ _ _ _ _ _ _ 0 (by decide)
theorem winAE (z : S5x256x512.Idx → Elt F .f32) (w) (inb) : VecWindow.window (VecWindow.put z (![3, 0, 0]) ![1, 256, 512] w) (![0, 0, 0]) ![1, 128, 512] inb = VecWindow.window z (![0, 0, 0]) ![1, 128, 512] inb :=
  VecWindow.window_put_of_disjoint _ _ _ _ _ _ _ 0 (by decide)
theorem winAG (z : S5x256x512.Idx → Elt F .f32) (w) (inb) : VecWindow.window (VecWindow.put z (![4, 0, 0]) ![1, 128, 512] w) (![0, 0, 0]) ![1, 128, 512] inb = VecWindow.window z (![0, 0, 0]) ![1, 128, 512] inb :=
  VecWindow.window_put_of_disjoint _ _ _ _ _ _ _ 0 (by decide)
theorem winBA (z : S5x256x512.Idx → Elt F .f32) (w) (inb) : VecWindow.window (VecWindow.put z (![0, 0, 0]) ![1, 128, 512] w) (![0, 128, 0]) ![1, 128, 512] inb = VecWindow.window z (![0, 128, 0]) ![1, 128, 512] inb :=
  VecWindow.window_put_of_disjoint _ _ _ _ _ _ _ 1 (by decide)
theorem winBC (z : S5x256x512.Idx → Elt F .f32) (w) (inb) : VecWindow.window (VecWindow.put z (![1, 0, 0]) ![1, 256, 512] w) (![0, 128, 0]) ![1, 128, 512] inb = VecWindow.window z (![0, 128, 0]) ![1, 128, 512] inb :=
  VecWindow.window_put_of_disjoint _ _ _ _ _ _ _ 0 (by decide)
theorem winBD (z : S5x256x512.Idx → Elt F .f32) (w) (inb) : VecWindow.window (VecWindow.put z (![2, 0, 0]) ![1, 256, 512] w) (![0, 128, 0]) ![1, 128, 512] inb = VecWindow.window z (![0, 128, 0]) ![1, 128, 512] inb :=
  VecWindow.window_put_of_disjoint _ _ _ _ _ _ _ 0 (by decide)
theorem winBE (z : S5x256x512.Idx → Elt F .f32) (w) (inb) : VecWindow.window (VecWindow.put z (![3, 0, 0]) ![1, 256, 512] w) (![0, 128, 0]) ![1, 128, 512] inb = VecWindow.window z (![0, 128, 0]) ![1, 128, 512] inb :=
  VecWindow.window_put_of_disjoint _ _ _ _ _ _ _ 0 (by decide)
theorem winBG (z : S5x256x512.Idx → Elt F .f32) (w) (inb) : VecWindow.window (VecWindow.put z (![4, 0, 0]) ![1, 128, 512] w) (![0, 128, 0]) ![1, 128, 512] inb = VecWindow.window z (![0, 128, 0]) ![1, 128, 512] inb :=
  VecWindow.window_put_of_disjoint _ _ _ _ _ _ _ 0 (by decide)
theorem winCA (z : S5x256x512.Idx → Elt F .f32) (w) (inb) : VecWindow.window (VecWindow.put z (![0, 0, 0]) ![1, 128, 512] w) (![1, 0, 0]) ![1, 256, 512] inb = VecWindow.window z (![1, 0, 0]) ![1, 256, 512] inb :=
  VecWindow.window_put_of_disjoint _ _ _ _ _ _ _ 0 (by decide)
theorem winCB (z : S5x256x512.Idx → Elt F .f32) (w) (inb) : VecWindow.window (VecWindow.put z (![0, 128, 0]) ![1, 128, 512] w) (![1, 0, 0]) ![1, 256, 512] inb = VecWindow.window z (![1, 0, 0]) ![1, 256, 512] inb :=
  VecWindow.window_put_of_disjoint _ _ _ _ _ _ _ 0 (by decide)
theorem winCD (z : S5x256x512.Idx → Elt F .f32) (w) (inb) : VecWindow.window (VecWindow.put z (![2, 0, 0]) ![1, 256, 512] w) (![1, 0, 0]) ![1, 256, 512] inb = VecWindow.window z (![1, 0, 0]) ![1, 256, 512] inb :=
  VecWindow.window_put_of_disjoint _ _ _ _ _ _ _ 0 (by decide)
theorem winCE (z : S5x256x512.Idx → Elt F .f32) (w) (inb) : VecWindow.window (VecWindow.put z (![3, 0, 0]) ![1, 256, 512] w) (![1, 0, 0]) ![1, 256, 512] inb = VecWindow.window z (![1, 0, 0]) ![1, 256, 512] inb :=
  VecWindow.window_put_of_disjoint _ _ _ _ _ _ _ 0 (by decide)
theorem winCG (z : S5x256x512.Idx → Elt F .f32) (w) (inb) : VecWindow.window (VecWindow.put z (![4, 0, 0]) ![1, 128, 512] w) (![1, 0, 0]) ![1, 256, 512] inb = VecWindow.window z (![1, 0, 0]) ![1, 256, 512] inb :=
  VecWindow.window_put_of_disjoint _ _ _ _ _ _ _ 0 (by decide)
theorem winDA (z : S5x256x512.Idx → Elt F .f32) (w) (inb) : VecWindow.window (VecWindow.put z (![0, 0, 0]) ![1, 128, 512] w) (![2, 0, 0]) ![1, 256, 512] inb = VecWindow.window z (![2, 0, 0]) ![1, 256, 512] inb :=
  VecWindow.window_put_of_disjoint _ _ _ _ _ _ _ 0 (by decide)
theorem winDB (z : S5x256x512.Idx → Elt F .f32) (w) (inb) : VecWindow.window (VecWindow.put z (![0, 128, 0]) ![1, 128, 512] w) (![2, 0, 0]) ![1, 256, 512] inb = VecWindow.window z (![2, 0, 0]) ![1, 256, 512] inb :=
  VecWindow.window_put_of_disjoint _ _ _ _ _ _ _ 0 (by decide)
theorem winDC (z : S5x256x512.Idx → Elt F .f32) (w) (inb) : VecWindow.window (VecWindow.put z (![1, 0, 0]) ![1, 256, 512] w) (![2, 0, 0]) ![1, 256, 512] inb = VecWindow.window z (![2, 0, 0]) ![1, 256, 512] inb :=
  VecWindow.window_put_of_disjoint _ _ _ _ _ _ _ 0 (by decide)
theorem winDE (z : S5x256x512.Idx → Elt F .f32) (w) (inb) : VecWindow.window (VecWindow.put z (![3, 0, 0]) ![1, 256, 512] w) (![2, 0, 0]) ![1, 256, 512] inb = VecWindow.window z (![2, 0, 0]) ![1, 256, 512] inb :=
  VecWindow.window_put_of_disjoint _ _ _ _ _ _ _ 0 (by decide)
theorem winDG (z : S5x256x512.Idx → Elt F .f32) (w) (inb) : VecWindow.window (VecWindow.put z (![4, 0, 0]) ![1, 128, 512] w) (![2, 0, 0]) ![1, 256, 512] inb = VecWindow.window z (![2, 0, 0]) ![1, 256, 512] inb :=
  VecWindow.window_put_of_disjoint _ _ _ _ _ _ _ 0 (by decide)
theorem winEA (z : S5x256x512.Idx → Elt F .f32) (w) (inb) : VecWindow.window (VecWindow.put z (![0, 0, 0]) ![1, 128, 512] w) (![3, 0, 0]) ![1, 256, 512] inb = VecWindow.window z (![3, 0, 0]) ![1, 256, 512] inb :=
  VecWindow.window_put_of_disjoint _ _ _ _ _ _ _ 0 (by decide)
theorem winEB (z : S5x256x512.Idx → Elt F .f32) (w) (inb) : VecWindow.window (VecWindow.put z (![0, 128, 0]) ![1, 128, 512] w) (![3, 0, 0]) ![1, 256, 512] inb = VecWindow.window z (![3, 0, 0]) ![1, 256, 512] inb :=
  VecWindow.window_put_of_disjoint _ _ _ _ _ _ _ 0 (by decide)
theorem winEC (z : S5x256x512.Idx → Elt F .f32) (w) (inb) : VecWindow.window (VecWindow.put z (![1, 0, 0]) ![1, 256, 512] w) (![3, 0, 0]) ![1, 256, 512] inb = VecWindow.window z (![3, 0, 0]) ![1, 256, 512] inb :=
  VecWindow.window_put_of_disjoint _ _ _ _ _ _ _ 0 (by decide)
theorem winED (z : S5x256x512.Idx → Elt F .f32) (w) (inb) : VecWindow.window (VecWindow.put z (![2, 0, 0]) ![1, 256, 512] w) (![3, 0, 0]) ![1, 256, 512] inb = VecWindow.window z (![3, 0, 0]) ![1, 256, 512] inb :=
  VecWindow.window_put_of_disjoint _ _ _ _ _ _ _ 0 (by decide)
theorem winEG (z : S5x256x512.Idx → Elt F .f32) (w) (inb) : VecWindow.window (VecWindow.put z (![4, 0, 0]) ![1, 128, 512] w) (![3, 0, 0]) ![1, 256, 512] inb = VecWindow.window z (![3, 0, 0]) ![1, 256, 512] inb :=
  VecWindow.window_put_of_disjoint _ _ _ _ _ _ _ 0 (by decide)
theorem winGA (z : S5x256x512.Idx → Elt F .f32) (w) (inb) : VecWindow.window (VecWindow.put z (![0, 0, 0]) ![1, 128, 512] w) (![4, 0, 0]) ![1, 128, 512] inb = VecWindow.window z (![4, 0, 0]) ![1, 128, 512] inb :=
  VecWindow.window_put_of_disjoint _ _ _ _ _ _ _ 0 (by decide)
theorem winGB (z : S5x256x512.Idx → Elt F .f32) (w) (inb) : VecWindow.window (VecWindow.put z (![0, 128, 0]) ![1, 128, 512] w) (![4, 0, 0]) ![1, 128, 512] inb = VecWindow.window z (![4, 0, 0]) ![1, 128, 512] inb :=
  VecWindow.window_put_of_disjoint _ _ _ _ _ _ _ 0 (by decide)
theorem winGC (z : S5x256x512.Idx → Elt F .f32) (w) (inb) : VecWindow.window (VecWindow.put z (![1, 0, 0]) ![1, 256, 512] w) (![4, 0, 0]) ![1, 128, 512] inb = VecWindow.window z (![4, 0, 0]) ![1, 128, 512] inb :=
  VecWindow.window_put_of_disjoint _ _ _ _ _ _ _ 0 (by decide)
theorem winGD (z : S5x256x512.Idx → Elt F .f32) (w) (inb) : VecWindow.window (VecWindow.put z (![2, 0, 0]) ![1, 256, 512] w) (![4, 0, 0]) ![1, 128, 512] inb = VecWindow.window z (![4, 0, 0]) ![1, 128, 512] inb :=
  VecWindow.window_put_of_disjoint _ _ _ _ _ _ _ 0 (by decide)
theorem winGE (z : S5x256x512.Idx → Elt F .f32) (w) (inb) : VecWindow.window (VecWindow.put z (![3, 0, 0]) ![1, 256, 512] w) (![4, 0, 0]) ![1, 128, 512] inb = VecWindow.window z (![4, 0, 0]) ![1, 128, 512] inb :=
  VecWindow.window_put_of_disjoint _ _ _ _ _ _ _ 0 (by decide)
end Cert.KernelIdeal.Run

end
-- ==== Proof.Spec.Real.lean ====
/-
  Rows of real numbers: their exponent is taken of a real, so the scale and its inverse are powers of two.
-/
module

public import proofs.«01_k».proof.Proof.Spec.Row

@[expose] public section

noncomputable section

namespace Cert.Spec

open Idealize.ShloMosaic

/-- The reciprocal of 448 as it is stored, as a real. -/
def litR : ℝ := 9586981 / 2 ^ 32

theorem lit_eq : lit = ((litR : ℝ) : EReal) := by
  show Ideal.ieee 8 23 0x3B124925#32 = _
  have b1 : ((0x3B124925#32 : BitVec 32).extractLsb' (8 + 23) 1 == 1#1) = false := by decide
  have b2 : ((0x3B124925#32 : BitVec 32).extractLsb' 23 8).toNat = 118 := by decide
  have b3 : ((0x3B124925#32 : BitVec 32).extractLsb' 0 23).toNat = 1198373 := by decide
  simp only [Ideal.ieee, b1, b2, b3]
  norm_num [litR]

theorem litR_pos : 0 < litR := by unfold litR; norm_num
theorem litR_ge : 1 ≤ litR * 448 := by unfold litR; norm_num
theorem litR_lt : litR < 1 / 256 := by unfold litR; norm_num

theorem ofBits_448 : Ideal.ofBits .f32 0x43E00000#32 = ((448 : ℝ) : EReal) := by
  show Ideal.ieee 8 23 0x43E00000#32 = _
  have b1 : ((0x43E00000#32 : BitVec 32).extractLsb' (8 + 23) 1 == 1#1) = false := by decide
  have b2 : ((0x43E00000#32 : BitVec 32).extractLsb' 23 8).toNat = 135 := by decide
  have b3 : ((0x43E00000#32 : BitVec 32).extractLsb' 0 23).toNat = 6291456 := by decide
  simp only [Ideal.ieee, b1, b2, b3]
  norm_num

theorem ofBits_n448 : Ideal.ofBits .f32 0xC3E00000#32 = ((-448 : ℝ) : EReal) := by
  show Ideal.ieee 8 23 0xC3E00000#32 = _
  have b1 : ((0xC3E00000#32 : BitVec 32).extractLsb' (8 + 23) 1 == 1#1) = true := by decide
  have b2 : ((0xC3E00000#32 : BitVec 32).extractLsb' 23 8).toNat = 135 := by decide
  have b3 : ((0xC3E00000#32 : BitVec 32).extractLsb' 0 23).toNat = 6291456 := by decide
  simp only [Ideal.ieee, b1, b2, b3]
  norm_num

theorem ofBits_ninf : Ideal.ofBits .f32 0xFF800000#32 = (⊥ : EReal) := by
  show Ideal.ieee 8 23 0xFF800000#32 = _
  have b1 : ((0xFF800000#32 : BitVec 32).extractLsb' (8 + 23) 1 == 1#1) = true := by decide
  have b2 : ((0xFF800000#32 : BitVec 32).extractLsb' 23 8).toNat = 255 := by decide
  have b3 : ((0xFF800000#32 : BitVec 32).extractLsb' 0 23).toNat = 0 := by decide
  simp only [Ideal.ieee, b1, b2, b3]
  norm_num

theorem ofBits_inf : Ideal.ofBits .f32 0x7F800000#32 = (⊤ : EReal) := by
  show Ideal.ieee 8 23 0x7F800000#32 = _
  have b1 : ((0x7F800000#32 : BitVec 32).extractLsb' (8 + 23) 1 == 1#1) = false := by decide
  have b2 : ((0x7F800000#32 : BitVec 32).extractLsb' 23 8).toNat = 255 := by decide
  have b3 : ((0x7F800000#32 : BitVec 32).extractLsb' 0 23).toNat = 0 := by decide
  simp only [Ideal.ieee, b1, b2, b3]
  norm_num

/-- The largest finite bfloat16. -/
def big : EReal := Ideal.ofBits .f32 0x7F7F0000#32
theorem big_eq : big = (((2 : ℝ) ^ 128 - 2 ^ 120 : ℝ) : EReal) := by
  show Ideal.ieee 8 23 0x7F7F0000#32 = _
  have b1 : ((0x7F7F0000#32 : BitVec 32).extractLsb' (8 + 23) 1 == 1#1) = false := by decide
  have b2 : ((0x7F7F0000#32 : BitVec 32).extractLsb' 23 8).toNat = 254 := by decide
  have b3 : ((0x7F7F0000#32 : BitVec 32).extractLsb' 0 23).toNat = 8323072 := by decide
  simp only [Ideal.ieee, b1, b2, b3]
  norm_num

/-- A row whose magnitudes are bounded by `B`. -/
theorem amax_le {n : ℕ} (f : Fin n → EReal) (B : EReal) (h : ∀ d, max (f d) (-(f d)) ≤ B) : amax f ≤ B := by
  unfold amax
  rw [Finset.fold_max_le, ofBits_ninf]
  exact ⟨bot_le, fun d _ => h d⟩

theorem le_amax {n : ℕ} (f : Fin n → EReal) (d : Fin n) : max (f d) (-(f d)) ≤ amax f := by
  unfold amax
  rw [Finset.le_fold_max]
  exact Or.inr ⟨d, Finset.mem_univ _, le_refl _⟩

theorem abs_nonneg' (x : EReal) : 0 ≤ max x (-x) := by
  rcases le_total 0 x with h | h
  · exact h.trans (le_max_left _ _)
  · exact (EReal.neg_nonneg.2 h).trans (le_max_right _ _)

/-- A row of reals no larger than `B`: what its exponent is taken from. -/
theorem top_real {n : ℕ} (hn : 0 < n) (f : Fin n → EReal) (B : ℝ) (h : ∀ d, max (f d) (-(f d)) ≤ (B : EReal)) :
    ∃ a : ℝ, amax f = (a : EReal) ∧ 0 ≤ a ∧ a ≤ B ∧ top f = ((a * litR : ℝ) : EReal) := by
  have h1 := amax_le f _ h
  have h0 : 0 ≤ amax f := (abs_nonneg' (f ⟨0, hn⟩)).trans (le_amax f _)
  have ht : amax f ≠ ⊤ := fun e => by rw [e] at h1; exact absurd h1 (by simp)
  have hb : amax f ≠ ⊥ := fun e => by rw [e] at h0; simp at h0
  obtain ⟨a, ha⟩ : ∃ a : ℝ, amax f = (a : EReal) := ⟨(amax f).toReal, (EReal.coe_toReal ht hb).symm⟩
  refine ⟨a, ha, ?_, ?_, ?_⟩
  · rw [ha] at h0; exact_mod_cast h0
  · rw [ha] at h1; exact_mod_cast h1
  · unfold top; rw [ha, lit_eq, EReal.coe_mul]

/-- A row of finite bfloat16s. -/
theorem top_fin {n : ℕ} (hn : 0 < n) (f : Fin n → EReal) (h : ∀ d, max (f d) (-(f d)) ≤ big) :
    ∃ y : ℝ, top f = (y : EReal) ∧ y < (2 : ℝ) ^ (126 : ℤ) := by
  obtain ⟨a, -, h0, h1, e⟩ := top_real hn f _ (by rw [← big_eq]; exact h)
  refine ⟨_, e, ?_⟩
  have := litR_pos; have := litR_lt
  calc a * litR ≤ (2 ^ 128 - 2 ^ 120) * (1 / 256) := by
        apply mul_le_mul h1 (le_of_lt litR_lt) (le_of_lt litR_pos) (by norm_num)
    _ < (2 : ℝ) ^ (126 : ℤ) := by norm_num

theorem real_of_abs {x : EReal} (h : max x (-x) ≤ big) : ∃ a : ℝ, x = (a : EReal) := by
  have h0 : big < ⊤ := by rw [big_eq]; exact EReal.coe_lt_top _
  have h1 : x ≠ ⊤ := fun e => by rw [e] at h; simp at h; exact absurd h h0.ne
  have h2 : x ≠ ⊥ := fun e => by rw [e] at h; simp at h; exact absurd h h0.ne
  exact ⟨x.toReal, (EReal.coe_toReal h1 h2).symm⟩

end Cert.Spec

end
-- ==== Proof.PI.UnitAt.lean ====
/-
  What a unit's stretches compute at an index, over the extended reals.
-/
module

public import proofs.«01_k».proof.Proof.PI.Unit
public import proofs.«01_k».proof.Proof.PI.Payload
public import proofs.«01_k».proof.Proof.Spec.Puts
public import proofs.«01_k».proof.Proof.Spec.Real

@[expose] public section

set_option maxRecDepth 10000

noncomputable section

namespace Cert.KernelIdeal.Run

open Cert.KernelIdeal Cert.KernelIdeal.Gen
open Idealize.ShloMosaic Idealize.SL.Sem Cert.Spec

/-- Column `128 j + d` of a unit. -/
abbrev qcl (j : Fin 4) (d : Fin 128) : Fin 512 := ⟨128 * j.val + d.val, by omega⟩
/-- Row `8 a + s`. -/
abbrev row16 (a : Fin 16) (s : Fin 8) : Fin 128 := ⟨a.val * 8 + s.val, by omega⟩
abbrev row32 (a : Fin 32) (s : Fin 8) : Fin 256 := ⟨a.val * 8 + s.val, by omega⟩
abbrev hi (x : Fin 128) : Fin 256 := ⟨128 + x.val, by omega⟩
abbrev lo (x : Fin 128) : Fin 256 := ⟨x.val, by omega⟩

/-- A probability as it is stored. -/
def prf (a sh t : EReal) : EReal := min (Ideal.exp2 (t * a - sh)) (Ideal.ofBits .f32 0x43E00000#32)

theorem ladder {α : Type} (f : Fin 128 → α) (j : Fin 4) (d : Fin 128) :
    (if h : 128 * j.val + d.val < 128 then f ⟨128 * j.val + d.val, h⟩
      else if h1 : 128 * j.val + d.val - 128 < 128 then f ⟨128 * j.val + d.val - 128, h1⟩
      else if h2 : 128 * j.val + d.val - 128 - 128 < 128 then f ⟨128 * j.val + d.val - 128 - 128, h2⟩
      else f ⟨128 * j.val + d.val - 128 - 128 - 128, by omega⟩) = f d := by
  have := d.isLt
  fin_cases j
  · rw [dif_pos (by show 128 * 0 + d.val < 128; omega)]; congr 1; ext; show 128 * 0 + d.val = _; omega
  · rw [dif_neg (by show ¬ 128 * 1 + d.val < 128; omega), dif_pos (by show 128 * 1 + d.val - 128 < 128; omega)]; congr 1; ext; show 128 * 1 + d.val - 128 = _; omega
  · rw [dif_neg (by show ¬ 128 * 2 + d.val < 128; omega), dif_neg (by show ¬ 128 * 2 + d.val - 128 < 128; omega), dif_pos (by show 128 * 2 + d.val - 128 - 128 < 128; omega)]; congr 1; ext; show 128 * 2 + d.val - 128 - 128 = _; omega
  · rw [dif_neg (by show ¬ 128 * 3 + d.val < 128; omega), dif_neg (by show ¬ 128 * 3 + d.val - 128 < 128; omega), dif_neg (by show ¬ 128 * 3 + d.val - 128 - 128 < 128; omega)]; congr 1; ext; show 128 * 3 + d.val - 128 - 128 - 128 = _; omega

theorem sc128_apply (q : FVec Ideal S512x128 .fp8e4m3) (k : Vec Ideal S1x128x128 .fp8e4m3) (s : Vec Ideal S1x128x128 .f32)
    (r : Fin 128) (j : Fin 4) (d : Fin 128) :
    sc128 q k s (ix2 r (qcl j d)) = (∑ e : Fin 128, (k (ix3 0 r e) : EReal) * (q (ix2 (qcl j d) e) : EReal)) * (s (ix3 0 r d) : EReal) := by
  unfold sc128 k0_pay117
  pointwise
  exact congrArg _ (ladder (fun d => (s (ix3 0 r d) : EReal)) j d)
theorem sc256_apply (q : FVec Ideal S512x128 .fp8e4m3) (k : Vec Ideal S1x256x128 .fp8e4m3) (s : Vec Ideal S1x256x128 .f32)
    (r : Fin 256) (j : Fin 4) (d : Fin 128) :
    sc256 q k s (ix2 r (qcl j d)) = (∑ e : Fin 128, (k (ix3 0 r e) : EReal) * (q (ix2 (qcl j d) e) : EReal)) * (s (ix3 0 r d) : EReal) := by
  unfold sc256 k0_pay123
  pointwise
  exact congrArg _ (ladder (fun d => (s (ix3 0 r d) : EReal)) j d)
theorem mx128_le (t : FVec Ideal S128x512 .f32) (s : Fin 8) (c : Fin 512) (z : EReal) :
    (mx128 t (ix2 s c) : EReal) ≤ z ↔ ∀ a : Fin 16, (t (ix2 (row16 a s) c) : EReal) ≤ z := by
  have e : mx128 t (ix2 s c) = Finset.fold max (Ideal.ofBits FTy.f32 4286578688#32) (fun x => t (ix2 (row16 x s) c)) Finset.univ := by
    unfold mx128
    pointwise
  rw [e, Finset.fold_max_le, ofBits_ninf]
  simp
theorem pr128_apply (A sh : FVec Ideal S8x512 .f32) (t : FVec Ideal S128x512 .f32) (a : Fin 16) (s : Fin 8) (c : Fin 512) :
    pr128 A sh t (ix3 a s c) = prf (A (ix2 s c)) (sh (ix2 s c)) (t (ix2 (row16 a s) c)) := by
  unfold pr128 k0_pay143
  pointwise
  rfl
theorem sm128_apply (p : FVec Ideal S16x8x512 .f32) (s : Fin 8) (c : Fin 512) :
    sm128 p (ix2 s c) = ∑ a : Fin 16, (p (ix3 a s c) : EReal) := by
  unfold sm128
  pointwise
theorem sum128 (f : Fin 128 → EReal) : ∑ s : Fin 8, ∑ a : Fin 16, f (row16 a s) = ∑ x, f x := by
  rw [Finset.sum_comm, ← Fintype.sum_prod_type']
  refine Fintype.sum_equiv (finProdFinEquiv (m := 16) (n := 8)) _ _ fun x => congrArg f (Fin.ext ?_)
  show x.1.val * 8 + x.2.val = x.2.val + 8 * x.1.val
  omega
theorem all128 (f : Fin 128 → EReal) (z : EReal) : (∀ s : Fin 8, ∀ a : Fin 16, f (row16 a s) ≤ z) ↔ ∀ x, f x ≤ z := by
  refine ⟨fun h x => ?_, fun h s a => h _⟩
  have := h ⟨x.val % 8, by omega⟩ ⟨x.val / 8, by omega⟩
  refine le_trans (le_of_eq (congrArg f (Fin.ext ?_))) this
  show x.val = x.val / 8 * 8 + x.val % 8
  omega
theorem pAll128_apply (p : FVec Ideal S16x8x512 .f32) (x : Fin 128) (c : Fin 512) :
    pAll128 p (ix3 0 x c) = p (ix3 ⟨x.val / 8, by omega⟩ ⟨x.val % 8, by omega⟩ c) := by
  unfold pAll128
  pointwise
theorem mx256_le (t : FVec Ideal S256x512 .f32) (s : Fin 8) (c : Fin 512) (z : EReal) :
    (mx256 t (ix2 s c) : EReal) ≤ z ↔ ∀ a : Fin 32, (t (ix2 (row32 a s) c) : EReal) ≤ z := by
  have e : mx256 t (ix2 s c) = Finset.fold max (Ideal.ofBits FTy.f32 4286578688#32) (fun x => t (ix2 (row32 x s) c)) Finset.univ := by
    unfold mx256
    pointwise
  rw [e, Finset.fold_max_le, ofBits_ninf]
  simp
theorem pr256_apply (A sh : FVec Ideal S8x512 .f32) (t : FVec Ideal S256x512 .f32) (a : Fin 32) (s : Fin 8) (c : Fin 512) :
    pr256 A sh t (ix3 a s c) = prf (A (ix2 s c)) (sh (ix2 s c)) (t (ix2 (row32 a s) c)) := by
  unfold pr256 k0_pay145
  pointwise
  rfl
theorem sm256_apply (p : FVec Ideal S32x8x512 .f32) (s : Fin 8) (c : Fin 512) :
    sm256 p (ix2 s c) = ∑ a : Fin 32, (p (ix3 a s c) : EReal) := by
  unfold sm256
  pointwise
theorem sum256 (f : Fin 256 → EReal) : ∑ s : Fin 8, ∑ a : Fin 32, f (row32 a s) = ∑ x, f x := by
  rw [Finset.sum_comm, ← Fintype.sum_prod_type']
  refine Fintype.sum_equiv (finProdFinEquiv (m := 32) (n := 8)) _ _ fun x => congrArg f (Fin.ext ?_)
  show x.1.val * 8 + x.2.val = x.2.val + 8 * x.1.val
  omega
theorem all256 (f : Fin 256 → EReal) (z : EReal) : (∀ s : Fin 8, ∀ a : Fin 32, f (row32 a s) ≤ z) ↔ ∀ x, f x ≤ z := by
  refine ⟨fun h x => ?_, fun h s a => h _⟩
  have := h ⟨x.val % 8, by omega⟩ ⟨x.val / 8, by omega⟩
  refine le_trans (le_of_eq (congrArg f (Fin.ext ?_))) this
  show x.val = x.val / 8 * 8 + x.val % 8
  omega
theorem pAll256_apply (p : FVec Ideal S32x8x512 .f32) (x : Fin 256) (c : Fin 512) :
    pAll256 p (ix3 0 x c) = p (ix3 ⟨x.val / 8, by omega⟩ ⟨x.val % 8, by omega⟩ c) := by
  unfold pAll256
  pointwise
theorem rowMax_le (t : FVec Ideal S8x512 .f32) (s : Fin 8) (c : Fin 512) (z : EReal) :
    (rowMax t (ix2 s c) : EReal) ≤ z ↔ ∀ s : Fin 8, (t (ix2 s c) : EReal) ≤ z := by
  have e : rowMax t (ix2 s c) = Finset.fold max (Ideal.ofBits FTy.f32 4286578688#32) (fun x => t (ix2 x c)) Finset.univ := by
    unfold rowMax
    pointwise
  rw [e, Finset.fold_max_le, ofBits_ninf]
  simp
theorem yOf_apply (t u : FVec Ideal S8x512 .f32) (s : Fin 8) (c : Fin 512) :
    yOf t u (ix2 s c) = Ideal.exp2 ((t (ix2 s c) : EReal) - u (ix2 s c)) * lit := by
  unfold yOf
  pointwise
  rfl
theorem psOf_apply (y : FVec Ideal S8x512 .f32) (s : Fin 8) (c : Fin 512) :
    psOf y (ix2 s c) = scl (y (ix2 s c)) := by
  unfold psOf k0_pay135 k0_pay134 k0_pay132 k0_pay133
  pointwise
  refine (congrArg (fun n => Ideal.ofBits FTy.f32 (IntOp.shli ArithUnit.vector (IntOp.addi (Scalar.select (IntOp.cmpi CmpIPredicate.eq n 0#32) (0#32) (IntOp.subi n 126#32)) 127#32) 23#32)) (fold_eq_field (y (ix2 s c)))).trans ?_
  show Ideal.ofBits FTy.f32 (IntOp.shli ArithUnit.vector (IntOp.addi (Scalar.select _ _ _) _) _) = _
  rw [select_word]
  rfl
/-- The shift of the exponents. -/
def shf (m y : EReal) : EReal := m + (((expWord y).toInt : ℝ) : EReal)
theorem shOf_apply (m y : FVec Ideal S8x512 .f32) (s : Fin 8) (c : Fin 512) :
    shOf m y (ix2 s c) = shf (m (ix2 s c)) (y (ix2 s c)) := by
  unfold shOf k0_pay136 k0_pay134 k0_pay132 k0_pay133
  pointwise
  refine (congrArg (fun n => (m (ix2 s c) : EReal) + FloatOps.sitofp (F := Ideal) FTy.f32 (Scalar.select (IntOp.cmpi CmpIPredicate.eq n 0#32) (0#32) (IntOp.subi n 126#32))) (fold_eq_field (y (ix2 s c)))).trans ?_
  show (m (ix2 s c) : EReal) + FloatOps.sitofp (F := Ideal) FTy.f32 (Scalar.select _ _ _) = _
  rw [select_word]
  rfl
theorem pOld_apply (diag : IVec S128x512 1) (p : FVec Ideal S16x8x512 .f32) (x : Fin 128) (c : Fin 512) :
    pOld diag p (ix3 0 x c) = if diag (ix2 x c) = 1#1 then 0 else p (ix3 ⟨x.val / 8, by omega⟩ ⟨x.val % 8, by omega⟩ c) := by
  unfold pOld
  pointwise
  rfl
theorem pNew_apply (diag : IVec S128x512 1) (p : FVec Ideal S16x8x512 .f32) (x : Fin 128) (c : Fin 512) :
    pNew diag p (ix3 0 x c) = if diag (ix2 x c) = 1#1 then p (ix3 ⟨x.val / 8, by omega⟩ ⟨x.val % 8, by omega⟩ c) else 0 := by
  unfold pNew
  pointwise
  rfl
theorem pNone_apply (x : Fin 128) (c : Fin 512) : (pNone : FVec Ideal S1x128x512 .fp8e4m3) (ix3 0 x c) = 0 := by
  unfold pNone k0_pay154
  pointwise
  exact Ideal.ofBits_zero .fp8e4m3
theorem tile_apply (u : FVec Ideal S128x512 .f32) (j : Fin 4) (h) (x : Fin 128) (d : Fin 128) :
    tile u (128 * j.val) h (ix3 0 x d) = u (ix2 d (qcl j x)) := by
  unfold tile
  pointwise
theorem sink_apply (w : Vec Ideal S1x8x512 .f32) (s : Fin 8) (c : Fin 512) :
    k0_pay128 w (ix2 s c) = (w (ix3 0 s c) : EReal) * (((Real.log 2)⁻¹ : ℝ) : EReal) := by
  unfold k0_pay128
  pointwise
  rfl
theorem fac_apply (s2 m2 ps l : FVec Ideal S8x512 .f32) (vs : Vec Ideal S1x1x8x128 .f32) (s : Fin 8) (j : Fin 4) (d : Fin 128) :
    k0_pay155 s2 m2 ps l vs (ix2 s (qcl j d)) = Ideal.div ((ps (ix2 s (qcl j d)) : EReal) * (vs (ix4 0 0 s d) : EReal))
      ((ps (ix2 s (qcl j d)) : EReal) * (∑ s : Fin 8, (l (ix2 s (qcl j d)) : EReal)) + Ideal.exp2 ((s2 (ix2 s (qcl j d)) : EReal) - m2 (ix2 s (qcl j d)))) := by
  unfold k0_pay155
  pointwise
  exact congrArg (fun z => Ideal.div (_ * z) _) (ladder (fun d => (vs (ix4 0 0 s d) : EReal)) j d)

/-- The values of the five blocks. -/
def vAt (v0 v1 v2 v3 v4 : Vec Ideal S1x1x128x256 .fp8e4m3) (d : Fin 128) (p : Fin 5) (r : Fin 256) : EReal :=
  match p with
  | 0 => v0 (ix4 0 0 d r) | 1 => v1 (ix4 0 0 d r) | 2 => v2 (ix4 0 0 d r) | 3 => v3 (ix4 0 0 d r) | 4 => v4 (ix4 0 0 d r)

theorem ot_apply (fac : FVec Ideal S8x512 .f32) (v0 v1 v2 v3 v4 : Vec Ideal S1x1x128x256 .fp8e4m3) (P : Vec Ideal S5x256x512 .fp8e4m3)
    (d : Fin 128) (c : Fin 512) :
    k0_pay158 fac (k0_pay156 v0) (k0_pay157 v1) v2 v3 v4 P (ix2 d c) =
      (∑ p : Fin 5, ∑ r : Fin 256, vAt v0 v1 v2 v3 v4 d p r * (P (ix3 p r c) : EReal)) * (fac (ix2 ⟨d.val % 8, by omega⟩ c) : EReal) := by
  unfold k0_pay158 k0_pay156 k0_pay157
  pointwise
  refine congrArg (fun z : EReal => z * (fac (ix2 ⟨d.val % 8, by omega⟩ c) : EReal)) ?_
  rw [← Fintype.sum_prod_type' (f := fun (p : Fin 5) (r : Fin 256) => vAt v0 v1 v2 v3 v4 d p r * (P (ix3 p r c) : EReal))]
  refine (Fintype.sum_equiv (finProdFinEquiv (m := 5) (n := 256)) _ _ fun x => ?_).symm
  obtain ⟨p, r⟩ := x
  have e1 : (finProdFinEquiv (p, r)).val = r.val + 256 * p.val := rfl
  have hr := r.isLt
  have e2 : ix3 (⟨(finProdFinEquiv (p, r)).val / 256, by omega⟩ : Fin 5) (⟨(finProdFinEquiv (p, r)).val % 256, by omega⟩ : Fin 256) c = ix3 p r c := by
    congr 1 <;> ext <;> simp only [e1] <;> omega
  refine congrArg₂ (fun (a b : EReal) => a * b) ?_ (congrArg (fun z => (P z : EReal)) e2.symm)
  fin_cases p
  · rw [dif_pos (by rw [e1]; show r.val + 256 * 0 < 256; omega)]
    exact congrArg (fun z : Fin 256 => (v0 (ix4 0 0 d z) : EReal)) (Fin.ext (by show r.val = r.val + 256 * 0; omega))
  · rw [dif_neg (by rw [e1]; show ¬ r.val + 256 * 1 < 256; omega), dif_pos (by rw [e1]; show r.val + 256 * 1 - 256 < 256; omega)]
    exact congrArg (fun z : Fin 256 => (v1 (ix4 0 0 d z) : EReal)) (Fin.ext (by show r.val = r.val + 256 * 1 - 256; omega))
  · rw [dif_neg (by rw [e1]; show ¬ r.val + 256 * 2 < 256; omega), dif_neg (by rw [e1]; show ¬ r.val + 256 * 2 - 256 < 256; omega), dif_pos (by rw [e1]; show r.val + 256 * 2 - 256 - 256 < 256; omega)]
    exact congrArg (fun z : Fin 256 => (v2 (ix4 0 0 d z) : EReal)) (Fin.ext (by show r.val = r.val + 256 * 2 - 256 - 256; omega))
  · rw [dif_neg (by rw [e1]; show ¬ r.val + 256 * 3 < 256; omega), dif_neg (by rw [e1]; show ¬ r.val + 256 * 3 - 256 < 256; omega), dif_neg (by rw [e1]; show ¬ r.val + 256 * 3 - 256 - 256 < 256; omega), dif_pos (by rw [e1]; show r.val + 256 * 3 - 256 - 256 - 256 < 256; omega)]
    exact congrArg (fun z : Fin 256 => (v3 (ix4 0 0 d z) : EReal)) (Fin.ext (by show r.val = r.val + 256 * 3 - 256 - 256 - 256; omega))
  · rw [dif_neg (by rw [e1]; show ¬ r.val + 256 * 4 < 256; omega), dif_neg (by rw [e1]; show ¬ r.val + 256 * 4 - 256 < 256; omega), dif_neg (by rw [e1]; show ¬ r.val + 256 * 4 - 256 - 256 < 256; omega), dif_neg (by rw [e1]; show ¬ r.val + 256 * 4 - 256 - 256 - 256 < 256; omega)]
    exact congrArg (fun z : Fin 256 => (v4 (ix4 0 0 d z) : EReal)) (Fin.ext (by show r.val = r.val + 256 * 4 - 256 - 256 - 256 - 256; omega))

end Cert.KernelIdeal.Run

end
-- ==== Proof.PI.UnitVal.lean ====
/-
  A unit's result at an index: the attention of one query over the keys of five blocks, where absent keys score -∞.
-/
module

public import proofs.«01_k».proof.Proof.PI.UnitAt

@[expose] public section

set_option maxRecDepth 10000

noncomputable section

namespace Cert.KernelIdeal.Run

open Cert.KernelIdeal Cert.KernelIdeal.Gen
open Idealize.ShloMosaic Idealize.SL.Sem Cert.Spec

/-- The largest score times the query's factor. -/
def uMax (S : Fin 5 → Fin 256 → EReal) (a : EReal) : EReal := (⨆ p, ⨆ r, S p r) * a
/-- The sink's logit in base two. -/
def uSink (sk : EReal) : EReal := sk * (((Real.log 2)⁻¹ : ℝ) : EReal)
/-- The maximum with the sink. -/
def uM (S : Fin 5 → Fin 256 → EReal) (a sk : EReal) : EReal := max (uMax S a) (uSink sk)
/-- The largest probability over 448. -/
def uY (S : Fin 5 → Fin 256 → EReal) (a sk : EReal) : EReal := Ideal.exp2 (uMax S a - uM S a sk) * lit
/-- The shift of the exponents. -/
def uSh (S : Fin 5 → Fin 256 → EReal) (a sk : EReal) : EReal := shf (uM S a sk) (uY S a sk)
/-- What a unit computes for a query and a column of the values. -/
def uVal (V S : Fin 5 → Fin 256 → EReal) (a sk w : EReal) : EReal :=
  (∑ p, ∑ r, V p r * prf a (uSh S a sk) (S p r)) *
    Ideal.div (scl (uY S a sk) * w) (scl (uY S a sk) * (∑ p, ∑ r, prf a (uSh S a sk) (S p r)) + Ideal.exp2 (uSink sk - uM S a sk))

theorem prf_bot (a : ℝ) (ha : 0 < a) (sh : EReal) : prf (a : EReal) sh ⊥ = 0 := by
  unfold prf
  rw [EReal.bot_mul_coe_of_pos ha, EReal.bot_sub, ofBits_448]
  show min (0 : EReal) _ = 0
  exact min_eq_left (by exact_mod_cast (by norm_num : (0 : ℝ) ≤ 448))

theorem maxi_apply (x y : FVec Ideal S8x512 .f32) (i : S8x512.Idx) : maximumf x y i = max (x i : EReal) (y i) := rfl
theorem addi_apply (x y : FVec Ideal S8x512 .f32) (i : S8x512.Idx) : addf x y i = (x i : EReal) + y i := rfl
theorem muli_apply (x y : FVec Ideal S8x512 .f32) (i : S8x512.Idx) : mulf x y i = (x i : EReal) * y i := rfl

theorem halves (f : Fin 256 → EReal) : ∑ r, f r = ∑ x : Fin 128, f (lo x) + ∑ x : Fin 128, f (hi x) :=
  Fin.sum_univ_add (a := 128) (b := 128) f

theorem allHalves (f : Fin 256 → EReal) (z : EReal) : (∀ r, f r ≤ z) ↔ (∀ x : Fin 128, f (lo x) ≤ z) ∧ ∀ x : Fin 128, f (hi x) ≤ z := by
  refine ⟨fun h => ⟨fun x => h _, fun x => h _⟩, fun h r => ?_⟩
  by_cases hr : r.val < 128
  · exact h.1 ⟨r.val, hr⟩
  · have := h.2 ⟨r.val - 128, by omega⟩
    refine le_trans (le_of_eq (congrArg f (Fin.ext ?_))) this
    show r.val = 128 + (r.val - 128)
    omega

variable (diag : IVec S128x512 1) (tc ts : FVec Ideal S128x512 .f32) (ta tb td : FVec Ideal S256x512 .f32) (A : FVec Ideal S8x512 .f32)
  (sink : Vec Ideal S1x8x512 .f32) (vs : Vec Ideal S1x1x8x128 .f32) (v0 v1 v2 v3 v4 : Vec Ideal S1x1x128x256 .fp8e4m3)
  (x : S5x256x512.Idx → Elt Ideal .fp8e4m3) (S : Fin 5 → Fin 256 → EReal) (c : Fin 512)

/-- The blocks of a unit of the first half hold the scores `S` at column `c`. -/
structure Blk0 : Prop where
  new : ∀ x, diag (ix2 x c) = 1#1 → tc (ix2 x c) = S 4 (lo x) ∧ S 0 (lo x) = ⊥
  old : ∀ x, diag (ix2 x c) ≠ 1#1 → tc (ix2 x c) = S 0 (lo x) ∧ S 4 (lo x) = ⊥
  side : ∀ x, ts (ix2 x c) = S 0 (hi x)
  none : ∀ x, S 4 (hi x) = ⊥
  a : ∀ r, ta (ix2 r c) = S 1 r
  b : ∀ r, tb (ix2 r c) = S 2 r
  d : ∀ r, td (ix2 r c) = S 3 r
/-- The same of the second half. -/
structure Blk1 : Prop where
  new : ∀ x, diag (ix2 x c) = 1#1 → tc (ix2 x c) = S 4 (hi x) ∧ S 0 (hi x) = ⊥
  old : ∀ x, diag (ix2 x c) ≠ 1#1 → tc (ix2 x c) = S 0 (hi x) ∧ S 4 (hi x) = ⊥
  side : ∀ x, ts (ix2 x c) = S 4 (lo x)
  none : ∀ x, S 0 (lo x) = ⊥
  a : ∀ r, ta (ix2 r c) = S 1 r
  b : ∀ r, tb (ix2 r c) = S 2 r
  d : ∀ r, td (ix2 r c) = S 3 r

variable {diag tc ts ta tb td S c}

theorem mAll0_apply (h : Blk0 diag tc ts ta tb td S c) (s : Fin 8) : mAll0 tc ts ta tb td (ix2 s c) = ⨆ p, ⨆ r, S p r := by
  refine eq_of_forall_ge_iff fun z => ?_
  have e : (mAll0 tc ts ta tb td (ix2 s c) : EReal) ≤ z ↔ (∀ x, (tc (ix2 x c) : EReal) ≤ z) ∧ (∀ x, (ts (ix2 x c) : EReal) ≤ z) ∧ (∀ x, (ta (ix2 x c) : EReal) ≤ z)
      ∧ (∀ x, (tb (ix2 x c) : EReal) ≤ z) ∧ (∀ x, (td (ix2 x c) : EReal) ≤ z) := by
    unfold mAll0
    rw [rowMax_le, ← all128 (fun x => (tc (ix2 x c) : EReal)), ← all128 (fun x => (ts (ix2 x c) : EReal)), ← all256 (fun x => (ta (ix2 x c) : EReal)), ← all256 (fun x => (tb (ix2 x c) : EReal)), ← all256 (fun x => (td (ix2 x c) : EReal))]
    simp only [maxi_apply, max_le_iff, mx128_le, mx256_le, forall_and]
    tauto
  refine e.trans ?_
  simp only [iSup_le_iff, Fin.forall_fin_succ (n := 4), Fin.forall_fin_succ (n := 3), Fin.forall_fin_succ (n := 2), Fin.forall_fin_succ (n := 1), Fin.forall_fin_succ (n := 0)]
  have e0 := allHalves (S 0) z
  have e4 := allHalves (S 4) z
  refine ⟨fun ⟨h1, h2, h3, h4, h5⟩ => ⟨e0.2 ?_, fun r => h.a r ▸ h3 r, fun r => h.b r ▸ h4 r, fun r => h.d r ▸ h5 r, e4.2 ?_, fun i => i.elim0⟩,
    fun ⟨g0, g1, g2, g3, g4, _⟩ => ⟨fun x => ?_, fun x => ?_, fun r => h.a r ▸ g1 r, fun r => h.b r ▸ g2 r, fun r => h.d r ▸ g3 r⟩⟩
  · have Q : ∀ x, S 0 (lo x) ≤ z := fun x => by
      by_cases hx : diag (ix2 x c) = 1#1
      · rw [(h.new x hx).2]; exact bot_le
      · rw [← (h.old x hx).1]; exact h1 x
    have R : ∀ x, S 0 (hi x) ≤ z := fun x => by
      rw [← h.side x]; exact h2 x
    exact ⟨Q, R⟩
  · have Q : ∀ x, S 4 (lo x) ≤ z := fun x => by
      by_cases hx : diag (ix2 x c) = 1#1
      · rw [← (h.new x hx).1]; exact h1 x
      · rw [(h.old x hx).2]; exact bot_le
    have R : ∀ x, S 4 (hi x) ≤ z := fun x => by
      rw [h.none x]; exact bot_le
    exact ⟨Q, R⟩
  · by_cases hx : diag (ix2 x c) = 1#1
    · rw [(h.new x hx).1]; exact g4 _
    · rw [(h.old x hx).1]; exact g0 _
  · rw [h.side x]; exact g0 _

theorem lAll0_apply (h : Blk0 diag tc ts ta tb td S c) (sh : FVec Ideal S8x512 .f32) (a : ℝ) (z : EReal) (ha : 0 < a)
    (hA : ∀ s, A (ix2 s c) = (a : EReal)) (hs : ∀ s, sh (ix2 s c) = z) :
    ∑ s : Fin 8, (lAll0 tc ts ta tb td A sh (ix2 s c) : EReal) = ∑ p, ∑ r, prf a z (S p r) := by
  have e : ∀ s, (lAll0 tc ts ta tb td A sh (ix2 s c) : EReal) = ∑ i : Fin 16, prf a z (tc (ix2 (row16 i s) c)) + ∑ i : Fin 16, prf a z (ts (ix2 (row16 i s) c)) + ∑ i : Fin 32, prf a z (ta (ix2 (row32 i s) c)) + ∑ i : Fin 32, prf a z (tb (ix2 (row32 i s) c)) + ∑ i : Fin 32, prf a z (td (ix2 (row32 i s) c)) := fun s => by
    unfold lAll0
    simp only [addi_apply, sm128_apply, sm256_apply, pr128_apply, pr256_apply, hA, hs]
  simp only [e, Finset.sum_add_distrib]
  rw [sum128 (fun x => prf a z (tc (ix2 x c))), sum128 (fun x => prf a z (ts (ix2 x c))), sum256 (fun x => prf a z (ta (ix2 x c))), sum256 (fun x => prf a z (tb (ix2 x c))), sum256 (fun x => prf a z (td (ix2 x c)))]
  have c1 : ∑ x, prf a z (tc (ix2 x c)) = ∑ x, prf a z (S 0 (lo x)) + ∑ x, prf a z (S 4 (lo x)) := by
    rw [← Finset.sum_add_distrib]
    refine Finset.sum_congr rfl fun x _ => ?_
    by_cases hx : diag (ix2 x c) = 1#1
    · rw [(h.new x hx).1, (h.new x hx).2, prf_bot a ha, zero_add]
    · rw [(h.old x hx).1, (h.old x hx).2, prf_bot a ha, add_zero]
  have c2 : ∑ x, prf a z (S 4 (hi x)) = 0 := Finset.sum_eq_zero fun x _ => by rw [h.none x, prf_bot a ha]
  rw [c1]
  simp only [h.side, h.a, h.b, h.d]
  rw [Fin.sum_univ_five, halves (fun r => prf a z (S 0 r)), halves (fun r => prf a z (S 4 r)), c2]
  rw [add_zero]
  ac_rfl

theorem pBuf0_apply (h : Blk0 diag tc ts ta tb td S c) (sh : FVec Ideal S8x512 .f32) (a : ℝ) (z : EReal) (ha : 0 < a)
    (hA : ∀ s, A (ix2 s c) = (a : EReal)) (hs : ∀ s, sh (ix2 s c) = z) (p : Fin 5) (r : Fin 256) :
    pBuf0 diag tc ts ta tb td x A sh (ix3 p r c) = prf a z (S p r) := by
  have hr := r.isLt
  unfold pBuf0
  fin_cases p
  · show _ = prf a z (S 0 r)
    by_cases hq : r.val < 128
    · skip
      refine (put_out _ _ _ _ _ (0 : Fin 3) (.inl (by show 0 < 4; omega))).trans ?_
      refine (put_out _ _ _ _ _ (0 : Fin 3) (.inl (by show 0 < 3; omega))).trans ?_
      refine (put_out _ _ _ _ _ (0 : Fin 3) (.inl (by show 0 < 2; omega))).trans ?_
      refine (put_out _ _ _ _ _ (0 : Fin 3) (.inl (by show 0 < 1; omega))).trans ?_
      refine (put_out _ _ _ _ _ (1 : Fin 3) (.inl (by show r.val < 128; omega))).trans ?_
      refine (put_out _ _ _ _ _ (0 : Fin 3) (.inl (by show 0 < 4; omega))).trans ?_
      refine (put_in (s := S5x256x512) _ ![0, 0, 0] S1x128x512.size _ (ix3 0 r c) (ix3 0 ⟨r.val - 0, by omega⟩ c : S1x128x512.Idx) (fun i => ?_)).trans ?_
      · fin_cases i
        · rfl
        · show r.val = 0 + (r.val - 0); omega
        · show c.val = 0 + c.val; omega
      have er : (lo ⟨r.val - 0, by omega⟩) = r := Fin.ext (by show (r.val - 0) = r.val; omega)
      rw [pOld_apply]
      by_cases hx : diag (ix2 ⟨r.val - 0, by omega⟩ c) = 1#1
      · rw [if_pos hx]
        have hh := (h.new _ hx).2
        rw [er] at hh
        rw [hh, prf_bot a ha]
      · rw [if_neg hx]
        have hh := (h.old _ hx).1
        rw [er] at hh
        rw [pr128_apply, hA, hs, ← hh]
        exact congrArg (fun z => prf _ _ (tc (ix2 z c))) (Fin.ext (by show (r.val - 0) / 8 * 8 + (r.val - 0) % 8 = r.val - 0; omega))
    · skip
      refine (put_out _ _ _ _ _ (0 : Fin 3) (.inl (by show 0 < 4; omega))).trans ?_
      refine (put_out _ _ _ _ _ (0 : Fin 3) (.inl (by show 0 < 3; omega))).trans ?_
      refine (put_out _ _ _ _ _ (0 : Fin 3) (.inl (by show 0 < 2; omega))).trans ?_
      refine (put_out _ _ _ _ _ (0 : Fin 3) (.inl (by show 0 < 1; omega))).trans ?_
      refine (put_in (s := S5x256x512) _ ![0, 128, 0] S1x128x512.size _ (ix3 0 r c) (ix3 0 ⟨r.val - 128, by omega⟩ c : S1x128x512.Idx) (fun i => ?_)).trans ?_
      · fin_cases i
        · rfl
        · show r.val = 128 + (r.val - 128); omega
        · show c.val = 0 + c.val; omega
      have er : (hi ⟨r.val - 128, by omega⟩) = r := Fin.ext (by show 128 + (r.val - 128) = r.val; omega)
      have hh := h.side ⟨r.val - 128, by omega⟩
      rw [er] at hh
      rw [pAll128_apply, pr128_apply, hA, hs, ← hh]
      exact congrArg (fun z => prf _ _ (ts (ix2 z c))) (Fin.ext (by show (r.val - 128) / 8 * 8 + (r.val - 128) % 8 = r.val - 128; omega))
  · show _ = prf a z (S 1 r)
    refine (put_out _ _ _ _ _ (0 : Fin 3) (.inl (by show 1 < 4; omega))).trans ?_
    refine (put_out _ _ _ _ _ (0 : Fin 3) (.inl (by show 1 < 3; omega))).trans ?_
    refine (put_out _ _ _ _ _ (0 : Fin 3) (.inl (by show 1 < 2; omega))).trans ?_
    refine (put_in (s := S5x256x512) _ ![1, 0, 0] S1x256x512.size _ (ix3 1 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.a r
    rw [pAll256_apply, pr256_apply, hA, hs, er, ← hh]
    exact congrArg (fun z => prf _ _ (ta (ix2 z c))) (Fin.ext (by show r.val / 8 * 8 + r.val % 8 = r.val; omega))
  · show _ = prf a z (S 2 r)
    refine (put_out _ _ _ _ _ (0 : Fin 3) (.inl (by show 2 < 4; omega))).trans ?_
    refine (put_out _ _ _ _ _ (0 : Fin 3) (.inl (by show 2 < 3; omega))).trans ?_
    refine (put_in (s := S5x256x512) _ ![2, 0, 0] S1x256x512.size _ (ix3 2 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.b r
    rw [pAll256_apply, pr256_apply, hA, hs, er, ← hh]
    exact congrArg (fun z => prf _ _ (tb (ix2 z c))) (Fin.ext (by show r.val / 8 * 8 + r.val % 8 = r.val; omega))
  · show _ = prf a z (S 3 r)
    refine (put_out _ _ _ _ _ (0 : Fin 3) (.inl (by show 3 < 4; omega))).trans ?_
    refine (put_in (s := S5x256x512) _ ![3, 0, 0] S1x256x512.size _ (ix3 3 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.d r
    rw [pAll256_apply, pr256_apply, hA, hs, er, ← hh]
    exact congrArg (fun z => prf _ _ (td (ix2 z c))) (Fin.ext (by show r.val / 8 * 8 + r.val % 8 = r.val; omega))
  · show _ = prf a z (S 4 r)
    by_cases hq : r.val < 128
    · skip
      refine (put_out _ _ _ _ _ (1 : Fin 3) (.inl (by show r.val < 128; omega))).trans ?_
      refine (put_out _ _ _ _ _ (0 : Fin 3) (.inr (by show 3 + 1 ≤ 4; omega))).trans ?_
      refine (put_out _ _ _ _ _ (0 : Fin 3) (.inr (by show 2 + 1 ≤ 4; omega))).trans ?_
      refine (put_out _ _ _ _ _ (0 : Fin 3) (.inr (by show 1 + 1 ≤ 4; omega))).trans ?_
      refine (put_out _ _ _ _ _ (0 : Fin 3) (.inr (by show 0 + 1 ≤ 4; omega))).trans ?_
      refine (put_in (s := S5x256x512) _ ![4, 0, 0] S1x128x512.size _ (ix3 4 r c) (ix3 0 ⟨r.val - 0, by omega⟩ c : S1x128x512.Idx) (fun i => ?_)).trans ?_
      · fin_cases i
        · rfl
        · show r.val = 0 + (r.val - 0); omega
        · show c.val = 0 + c.val; omega
      have er : (lo ⟨r.val - 0, by omega⟩) = r := Fin.ext (by show (r.val - 0) = r.val; omega)
      rw [pNew_apply]
      by_cases hx : diag (ix2 ⟨r.val - 0, by omega⟩ c) = 1#1
      · rw [if_pos hx]
        have hh := (h.new _ hx).1
        rw [er] at hh
        rw [pr128_apply, hA, hs, ← hh]
        exact congrArg (fun z => prf _ _ (tc (ix2 z c))) (Fin.ext (by show (r.val - 0) / 8 * 8 + (r.val - 0) % 8 = r.val - 0; omega))
      · rw [if_neg hx]
        have hh := (h.old _ hx).2
        rw [er] at hh
        rw [hh, prf_bot a ha]
    · skip
      refine (put_in (s := S5x256x512) _ ![4, 128, 0] S1x128x512.size _ (ix3 4 r c) (ix3 0 ⟨r.val - 128, by omega⟩ c : S1x128x512.Idx) (fun i => ?_)).trans ?_
      · fin_cases i
        · rfl
        · show r.val = 128 + (r.val - 128); omega
        · show c.val = 0 + c.val; omega
      have er : (hi ⟨r.val - 128, by omega⟩) = r := Fin.ext (by show 128 + (r.val - 128) = r.val; omega)
      have hh := h.none ⟨r.val - 128, by omega⟩
      rw [er] at hh
      rw [pNone_apply, hh, prf_bot a ha]

theorem unit0_apply (j : Fin 4) (q d : Fin 128) (h : Blk0 diag tc ts ta tb td S (qcl j q)) (a : ℝ) (ha : 0 < a) (sk w : EReal)
    (hA : ∀ s, A (ix2 s (qcl j q)) = (a : EReal)) (hk : ∀ s, sink (ix3 0 s (qcl j q)) = sk) (hw : ∀ s, vs (ix4 0 0 s q) = w) :
    unit0 diag tc ts ta tb td A sink vs v0 v1 v2 v3 v4 x (ix2 d (qcl j q)) = uVal (vAt v0 v1 v2 v3 v4 d) S a sk w := by
  have hM : ∀ s, (mulf (mAll0 tc ts ta tb td) A) (ix2 s (qcl j q)) = uMax S a := fun s => by
    rw [muli_apply, mAll0_apply h, hA]; rfl
  have hS : ∀ s, k0_pay128 sink (ix2 s (qcl j q)) = uSink sk := fun s => by rw [sink_apply, hk]; rfl
  have hm : ∀ s, maximumf (mulf (mAll0 tc ts ta tb td) A) (k0_pay128 sink) (ix2 s (qcl j q)) = uM S a sk := fun s => by
    rw [maxi_apply, hM, hS]; rfl
  have hy : ∀ s, yOf (mulf (mAll0 tc ts ta tb td) A) (maximumf (mulf (mAll0 tc ts ta tb td) A) (k0_pay128 sink)) (ix2 s (qcl j q)) = uY S a sk := fun s => by
    rw [yOf_apply, hM, hm]; rfl
  have hs : ∀ s, shOf (maximumf (mulf (mAll0 tc ts ta tb td) A) (k0_pay128 sink)) (yOf (mulf (mAll0 tc ts ta tb td) A) (maximumf (mulf (mAll0 tc ts ta tb td) A) (k0_pay128 sink))) (ix2 s (qcl j q)) = uSh S a sk := fun s => by
    rw [shOf_apply, hm, hy]; rfl
  unfold unit0 fin
  rw [ot_apply, fac_apply, psOf_apply, hy, hS, hm, hw, lAll0_apply (A := A) h _ a _ ha hA hs]
  unfold uVal
  refine congrArg (fun z : EReal => z * _) (Finset.sum_congr rfl fun p _ => Finset.sum_congr rfl fun r _ => ?_)
  have e : ∀ (P : Vec Ideal S5x256x512 .fp8e4m3) (i : S5x256x512.Idx), VecWindow.window P (![0, 0, 0]) S5x256x512.size inb_S5x256x512_S5x256x512_0_0_0 i = P i := fun P i => by
    refine congrArg P (funext fun y => Fin.ext ?_)
    fin_cases y <;> (show 0 + 1 * _ = _; omega)
  refine congrArg (fun z : EReal => vAt v0 v1 v2 v3 v4 d p r * z) ((e _ _).trans (pBuf0_apply A x h _ a _ ha hA hs p r))

theorem mAll1_apply (h : Blk1 diag tc ts ta tb td S c) (s : Fin 8) : mAll1 tc ts ta tb td (ix2 s c) = ⨆ p, ⨆ r, S p r := by
  refine eq_of_forall_ge_iff fun z => ?_
  have e : (mAll1 tc ts ta tb td (ix2 s c) : EReal) ≤ z ↔ (∀ x, (tc (ix2 x c) : EReal) ≤ z) ∧ (∀ x, (ts (ix2 x c) : EReal) ≤ z) ∧ (∀ x, (ta (ix2 x c) : EReal) ≤ z)
      ∧ (∀ x, (tb (ix2 x c) : EReal) ≤ z) ∧ (∀ x, (td (ix2 x c) : EReal) ≤ z) := by
    unfold mAll1
    rw [rowMax_le, ← all128 (fun x => (tc (ix2 x c) : EReal)), ← all128 (fun x => (ts (ix2 x c) : EReal)), ← all256 (fun x => (ta (ix2 x c) : EReal)), ← all256 (fun x => (tb (ix2 x c) : EReal)), ← all256 (fun x => (td (ix2 x c) : EReal))]
    simp only [maxi_apply, max_le_iff, mx128_le, mx256_le, forall_and]
    tauto
  refine e.trans ?_
  simp only [iSup_le_iff, Fin.forall_fin_succ (n := 4), Fin.forall_fin_succ (n := 3), Fin.forall_fin_succ (n := 2), Fin.forall_fin_succ (n := 1), Fin.forall_fin_succ (n := 0)]
  have e0 := allHalves (S 0) z
  have e4 := allHalves (S 4) z
  refine ⟨fun ⟨h1, h2, h3, h4, h5⟩ => ⟨e0.2 ?_, fun r => h.a r ▸ h3 r, fun r => h.b r ▸ h4 r, fun r => h.d r ▸ h5 r, e4.2 ?_, fun i => i.elim0⟩,
    fun ⟨g0, g1, g2, g3, g4, _⟩ => ⟨fun x => ?_, fun x => ?_, fun r => h.a r ▸ g1 r, fun r => h.b r ▸ g2 r, fun r => h.d r ▸ g3 r⟩⟩
  · have Q : ∀ x, S 0 (hi x) ≤ z := fun x => by
      by_cases hx : diag (ix2 x c) = 1#1
      · rw [(h.new x hx).2]; exact bot_le
      · rw [← (h.old x hx).1]; exact h1 x
    have R : ∀ x, S 0 (lo x) ≤ z := fun x => by
      rw [h.none x]; exact bot_le
    exact ⟨R, Q⟩
  · have Q : ∀ x, S 4 (hi x) ≤ z := fun x => by
      by_cases hx : diag (ix2 x c) = 1#1
      · rw [← (h.new x hx).1]; exact h1 x
      · rw [(h.old x hx).2]; exact bot_le
    have R : ∀ x, S 4 (lo x) ≤ z := fun x => by
      rw [← h.side x]; exact h2 x
    exact ⟨R, Q⟩
  · by_cases hx : diag (ix2 x c) = 1#1
    · rw [(h.new x hx).1]; exact g4 _
    · rw [(h.old x hx).1]; exact g0 _
  · rw [h.side x]; exact g4 _

theorem lAll1_apply (h : Blk1 diag tc ts ta tb td S c) (sh : FVec Ideal S8x512 .f32) (a : ℝ) (z : EReal) (ha : 0 < a)
    (hA : ∀ s, A (ix2 s c) = (a : EReal)) (hs : ∀ s, sh (ix2 s c) = z) :
    ∑ s : Fin 8, (lAll1 tc ts ta tb td A sh (ix2 s c) : EReal) = ∑ p, ∑ r, prf a z (S p r) := by
  have e : ∀ s, (lAll1 tc ts ta tb td A sh (ix2 s c) : EReal) = ∑ i : Fin 16, prf a z (tc (ix2 (row16 i s) c)) + ∑ i : Fin 32, prf a z (ta (ix2 (row32 i s) c)) + ∑ i : Fin 32, prf a z (tb (ix2 (row32 i s) c)) + ∑ i : Fin 32, prf a z (td (ix2 (row32 i s) c)) + ∑ i : Fin 16, prf a z (ts (ix2 (row16 i s) c)) := fun s => by
    unfold lAll1
    simp only [addi_apply, sm128_apply, sm256_apply, pr128_apply, pr256_apply, hA, hs]
  simp only [e, Finset.sum_add_distrib]
  rw [sum128 (fun x => prf a z (tc (ix2 x c))), sum128 (fun x => prf a z (ts (ix2 x c))), sum256 (fun x => prf a z (ta (ix2 x c))), sum256 (fun x => prf a z (tb (ix2 x c))), sum256 (fun x => prf a z (td (ix2 x c)))]
  have c1 : ∑ x, prf a z (tc (ix2 x c)) = ∑ x, prf a z (S 0 (hi x)) + ∑ x, prf a z (S 4 (hi x)) := by
    rw [← Finset.sum_add_distrib]
    refine Finset.sum_congr rfl fun x _ => ?_
    by_cases hx : diag (ix2 x c) = 1#1
    · rw [(h.new x hx).1, (h.new x hx).2, prf_bot a ha, zero_add]
    · rw [(h.old x hx).1, (h.old x hx).2, prf_bot a ha, add_zero]
  have c2 : ∑ x, prf a z (S 0 (lo x)) = 0 := Finset.sum_eq_zero fun x _ => by rw [h.none x, prf_bot a ha]
  rw [c1]
  simp only [h.side, h.a, h.b, h.d]
  rw [Fin.sum_univ_five, halves (fun r => prf a z (S 0 r)), halves (fun r => prf a z (S 4 r)), c2]
  rw [zero_add]
  ac_rfl

theorem pBuf1_apply (h : Blk1 diag tc ts ta tb td S c) (sh : FVec Ideal S8x512 .f32) (a : ℝ) (z : EReal) (ha : 0 < a)
    (hA : ∀ s, A (ix2 s c) = (a : EReal)) (hs : ∀ s, sh (ix2 s c) = z) (p : Fin 5) (r : Fin 256) :
    pBuf1 diag tc ts ta tb td x A sh (ix3 p r c) = prf a z (S p r) := by
  have hr := r.isLt
  unfold pBuf1
  fin_cases p
  · show _ = prf a z (S 0 r)
    by_cases hq : r.val < 128
    · skip
      refine (put_in (s := S5x256x512) _ ![0, 0, 0] S1x128x512.size _ (ix3 0 r c) (ix3 0 ⟨r.val - 0, by omega⟩ c : S1x128x512.Idx) (fun i => ?_)).trans ?_
      · fin_cases i
        · rfl
        · show r.val = 0 + (r.val - 0); omega
        · show c.val = 0 + c.val; omega
      have er : (lo ⟨r.val - 0, by omega⟩) = r := Fin.ext (by show (r.val - 0) = r.val; omega)
      have hh := h.none ⟨r.val - 0, by omega⟩
      rw [er] at hh
      rw [pNone_apply, hh, prf_bot a ha]
    · skip
      refine (put_out _ _ _ _ _ (1 : Fin 3) (.inr (by show 0 + 128 ≤ r.val; omega))).trans ?_
      refine (put_out _ _ _ _ _ (0 : Fin 3) (.inl (by show 0 < 4; omega))).trans ?_
      refine (put_out _ _ _ _ _ (0 : Fin 3) (.inl (by show 0 < 3; omega))).trans ?_
      refine (put_out _ _ _ _ _ (0 : Fin 3) (.inl (by show 0 < 2; omega))).trans ?_
      refine (put_out _ _ _ _ _ (0 : Fin 3) (.inl (by show 0 < 1; omega))).trans ?_
      refine (put_out _ _ _ _ _ (0 : Fin 3) (.inl (by show 0 < 4; omega))).trans ?_
      refine (put_in (s := S5x256x512) _ ![0, 128, 0] S1x128x512.size _ (ix3 0 r c) (ix3 0 ⟨r.val - 128, by omega⟩ c : S1x128x512.Idx) (fun i => ?_)).trans ?_
      · fin_cases i
        · rfl
        · show r.val = 128 + (r.val - 128); omega
        · show c.val = 0 + c.val; omega
      have er : (hi ⟨r.val - 128, by omega⟩) = r := Fin.ext (by show 128 + (r.val - 128) = r.val; omega)
      rw [pOld_apply]
      by_cases hx : diag (ix2 ⟨r.val - 128, by omega⟩ c) = 1#1
      · rw [if_pos hx]
        have hh := (h.new _ hx).2
        rw [er] at hh
        rw [hh, prf_bot a ha]
      · rw [if_neg hx]
        have hh := (h.old _ hx).1
        rw [er] at hh
        rw [pr128_apply, hA, hs, ← hh]
        exact congrArg (fun z => prf _ _ (tc (ix2 z c))) (Fin.ext (by show (r.val - 128) / 8 * 8 + (r.val - 128) % 8 = r.val - 128; omega))
  · show _ = prf a z (S 1 r)
    refine (put_out _ _ _ _ _ (0 : Fin 3) (.inr (by show 0 + 1 ≤ 1; omega))).trans ?_
    refine (put_out _ _ _ _ _ (0 : Fin 3) (.inl (by show 1 < 4; omega))).trans ?_
    refine (put_out _ _ _ _ _ (0 : Fin 3) (.inl (by show 1 < 3; omega))).trans ?_
    refine (put_out _ _ _ _ _ (0 : Fin 3) (.inl (by show 1 < 2; omega))).trans ?_
    refine (put_in (s := S5x256x512) _ ![1, 0, 0] S1x256x512.size _ (ix3 1 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.a r
    rw [pAll256_apply, pr256_apply, hA, hs, er, ← hh]
    exact congrArg (fun z => prf _ _ (ta (ix2 z c))) (Fin.ext (by show r.val / 8 * 8 + r.val % 8 = r.val; omega))
  · show _ = prf a z (S 2 r)
    refine (put_out _ _ _ _ _ (0 : Fin 3) (.inr (by show 0 + 1 ≤ 2; omega))).trans ?_
    refine (put_out _ _ _ _ _ (0 : Fin 3) (.inl (by show 2 < 4; omega))).trans ?_
    refine (put_out _ _ _ _ _ (0 : Fin 3) (.inl (by show 2 < 3; omega))).trans ?_
    refine (put_in (s := S5x256x512) _ ![2, 0, 0] S1x256x512.size _ (ix3 2 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.b r
    rw [pAll256_apply, pr256_apply, hA, hs, er, ← hh]
    exact congrArg (fun z => prf _ _ (tb (ix2 z c))) (Fin.ext (by show r.val / 8 * 8 + r.val % 8 = r.val; omega))
  · show _ = prf a z (S 3 r)
    refine (put_out _ _ _ _ _ (0 : Fin 3) (.inr (by show 0 + 1 ≤ 3; omega))).trans ?_
    refine (put_out _ _ _ _ _ (0 : Fin 3) (.inl (by show 3 < 4; omega))).trans ?_
    refine (put_in (s := S5x256x512) _ ![3, 0, 0] S1x256x512.size _ (ix3 3 r c) (ix3 0 ⟨r.val - 0, by omega⟩ c : S1x256x512.Idx) (fun i => ?_)).trans ?_
    · fin_cases i
      · rfl
      · show r.val = 0 + (r.val - 0); omega
      · show c.val = 0 + c.val; omega
    have er : (⟨r.val - 0, by omega⟩ : Fin 256) = r := Fin.ext (by show r.val - 0 = r.val; omega)
    have hh := h.d r
    rw [pAll256_apply, pr256_apply, hA, hs, er, ← hh]
    exact congrArg (fun z => prf _ _ (td (ix2 z c))) (Fin.ext (by show r.val / 8 * 8 + r.val % 8 = r.val; omega))
  · show _ = prf a z (S 4 r)
    by_cases hq : r.val < 128
    · skip
      refine (put_out _ _ _ _ _ (0 : Fin 3) (.inr (by show 0 + 1 ≤ 4; omega))).trans ?_
      refine (put_in (s := S5x256x512) _ ![4, 0, 0] S1x128x512.size _ (ix3 4 r c) (ix3 0 ⟨r.val - 0, by omega⟩ c : S1x128x512.Idx) (fun i => ?_)).trans ?_
      · fin_cases i
        · rfl
        · show r.val = 0 + (r.val - 0); omega
        · show c.val = 0 + c.val; omega
      have er : (lo ⟨r.val - 0, by omega⟩) = r := Fin.ext (by show (r.val - 0) = r.val; omega)
      have hh := h.side ⟨r.val - 0, by omega⟩
      rw [er] at hh
      rw [pAll128_apply, pr128_apply, hA, hs, ← hh]
      exact congrArg (fun z => prf _ _ (ts (ix2 z c))) (Fin.ext (by show (r.val - 0) / 8 * 8 + (r.val - 0) % 8 = r.val - 0; omega))
    · skip
      refine (put_out _ _ _ _ _ (0 : Fin 3) (.inr (by show 0 + 1 ≤ 4; omega))).trans ?_
      refine (put_out _ _ _ _ _ (1 : Fin 3) (.inr (by show 0 + 128 ≤ r.val; omega))).trans ?_
      refine (put_out _ _ _ _ _ (0 : Fin 3) (.inr (by show 3 + 1 ≤ 4; omega))).trans ?_
      refine (put_out _ _ _ _ _ (0 : Fin 3) (.inr (by show 2 + 1 ≤ 4; omega))).trans ?_
      refine (put_out _ _ _ _ _ (0 : Fin 3) (.inr (by show 1 + 1 ≤ 4; omega))).trans ?_
      refine (put_in (s := S5x256x512) _ ![4, 128, 0] S1x128x512.size _ (ix3 4 r c) (ix3 0 ⟨r.val - 128, by omega⟩ c : S1x128x512.Idx) (fun i => ?_)).trans ?_
      · fin_cases i
        · rfl
        · show r.val = 128 + (r.val - 128); omega
        · show c.val = 0 + c.val; omega
      have er : (hi ⟨r.val - 128, by omega⟩) = r := Fin.ext (by show 128 + (r.val - 128) = r.val; omega)
      rw [pNew_apply]
      by_cases hx : diag (ix2 ⟨r.val - 128, by omega⟩ c) = 1#1
      · rw [if_pos hx]
        have hh := (h.new _ hx).1
        rw [er] at hh
        rw [pr128_apply, hA, hs, ← hh]
        exact congrArg (fun z => prf _ _ (tc (ix2 z c))) (Fin.ext (by show (r.val - 128) / 8 * 8 + (r.val - 128) % 8 = r.val - 128; omega))
      · rw [if_neg hx]
        have hh := (h.old _ hx).2
        rw [er] at hh
        rw [hh, prf_bot a ha]

theorem unit1_apply (j : Fin 4) (q d : Fin 128) (h : Blk1 diag tc ts ta tb td S (qcl j q)) (a : ℝ) (ha : 0 < a) (sk w : EReal)
    (hA : ∀ s, A (ix2 s (qcl j q)) = (a : EReal)) (hk : ∀ s, sink (ix3 0 s (qcl j q)) = sk) (hw : ∀ s, vs (ix4 0 0 s q) = w) :
    unit1 diag tc ts ta tb td A sink vs v0 v1 v2 v3 v4 x (ix2 d (qcl j q)) = uVal (vAt v0 v1 v2 v3 v4 d) S a sk w := by
  have hM : ∀ s, (mulf (mAll1 tc ts ta tb td) A) (ix2 s (qcl j q)) = uMax S a := fun s => by
    rw [muli_apply, mAll1_apply h, hA]; rfl
  have hS : ∀ s, k0_pay128 sink (ix2 s (qcl j q)) = uSink sk := fun s => by rw [sink_apply, hk]; rfl
  have hm : ∀ s, maximumf (mulf (mAll1 tc ts ta tb td) A) (k0_pay128 sink) (ix2 s (qcl j q)) = uM S a sk := fun s => by
    rw [maxi_apply, hM, hS]; rfl
  have hy : ∀ s, yOf (mulf (mAll1 tc ts ta tb td) A) (maximumf (mulf (mAll1 tc ts ta tb td) A) (k0_pay128 sink)) (ix2 s (qcl j q)) = uY S a sk := fun s => by
    rw [yOf_apply, hM, hm]; rfl
  have hs : ∀ s, shOf (maximumf (mulf (mAll1 tc ts ta tb td) A) (k0_pay128 sink)) (yOf (mulf (mAll1 tc ts ta tb td) A) (maximumf (mulf (mAll1 tc ts ta tb td) A) (k0_pay128 sink))) (ix2 s (qcl j q)) = uSh S a sk := fun s => by
    rw [shOf_apply, hm, hy]; rfl
  unfold unit1 fin
  rw [ot_apply, fac_apply, psOf_apply, hy, hS, hm, hw, lAll1_apply (A := A) h _ a _ ha hA hs]
  unfold uVal
  refine congrArg (fun z : EReal => z * _) (Finset.sum_congr rfl fun p _ => Finset.sum_congr rfl fun r _ => ?_)
  have e : ∀ (P : Vec Ideal S5x256x512 .fp8e4m3) (i : S5x256x512.Idx), VecWindow.window P (![0, 0, 0]) S5x256x512.size inb_S5x256x512_S5x256x512_0_0_0 i = P i := fun P i => by
    refine congrArg P (funext fun y => Fin.ext ?_)
    fin_cases y <;> (show 0 + 1 * _ = _; omega)
  refine congrArg (fun z : EReal => vAt v0 v1 v2 v3 v4 d p r * z) ((e _ _).trans (pBuf1_apply A x h _ a _ ha hA hs p r))

end Cert.KernelIdeal.Run

end
-- ==== Proof.PI.Pieces.lean ====
/-
  The pieces a trip of the attention loops reads, at an index: the query codes, the rows of scales, the scores of the
  keys of a slot of the ring and the values of a slot; and the eight tiles a trip writes.
-/
module

public import proofs.«01_k».proof.Proof.PI.UnitVal
public import proofs.«01_k».proof.Proof.PI.Rings

@[expose] public section

set_option maxRecDepth 10000

noncomputable section

namespace Cert.KernelIdeal.Run

open Cert.KernelIdeal Cert.KernelIdeal.Gen
open Idealize.ShloMosaic Idealize.SL.Sem Cert.Spec

theorem win_in {s : Shape} {α : Type} (x : s.Idx → α) (off size : Fin s.rank → ℕ) (inb : ∀ a, off a + size a ≤ s.size a)
    (z : (Rect.unit off size inb).shape.Idx) (y : s.Idx) (h : ∀ a, (y a).val = off a + (z a).val) : VecWindow.window x off size inb z = x y := by
  unfold VecWindow.window
  refine congrArg x (funext fun a => Fin.ext ?_)
  rw [h a]
  simp [Rect.emb, Rect.unit]

theorem win_at {s : Shape} {α : Type} (x : s.Idx → α) (off off' size : Fin s.rank → ℕ) (ho : off = off') (inb : ∀ a, off a + size a ≤ s.size a)
    (z : (Rect.unit off size inb).shape.Idx) (y : s.Idx) (h : ∀ a, (y a).val = off' a + (z a).val) : VecWindow.window x off size inb z = x y := by
  subst ho
  exact win_in x off size inb z y h

/-- A row of a half of the block of queries. -/
abbrev qrow (s : Fin 2) (x : Fin 128) : Fin 256 := ⟨128 * s.val + x.val, by omega⟩
/-- A column of head `4 g + j`. -/
abbrev hcol (g : Fin 8) (j : Fin 4) (d : Fin 128) : Fin 4096 := ⟨512 * g.val + 128 * j.val + d.val, by omega⟩

theorem pay112_apply (w0 w1 w2 w3 : Vec Ideal S1x128x128 .fp8e4m3) (j : Fin 4) (x e : Fin 128) :
    k0_pay112 w0 w1 w2 w3 (ix2 (qcl j x) e) = (match j with | 0 => w0 | 1 => w1 | 2 => w2 | 3 => w3) (ix3 0 x e) := by
  have hx := x.isLt
  unfold k0_pay112
  fin_cases j
  · pointwise
  · pointwise
  · pointwise
    rw [dif_neg (by omega), dif_neg (by omega), dif_pos (by omega)]
    exact congrArg w2 (congrArg (fun i : Fin 128 => ix3 0 i e) (Fin.ext (by simp; omega)))
  · pointwise
    rw [dif_neg (by omega), dif_neg (by omega), dif_neg (by omega)]
    exact congrArg w3 (congrArg (fun i : Fin 128 => ix3 0 i e) (Fin.ext (by simp; omega)))
theorem pay113_apply (w : Vec Ideal S1x1x8x512 .f32) (s : Fin 8) (c : Fin 512) : k0_pay113 w (ix2 s c) = w (ix4 0 0 s c) := by
  unfold k0_pay113
  pointwise
theorem pay597_iff (x' x : Fin 128) (j : Fin 4) : k0_pay597 (ix2 x' (qcl j x)) = 1#1 ↔ x' ≤ x := by
  have e : k0_pay597 (ix2 x' (qcl j x)) = IntOp.cmpi .sle (BitVec.ofNat 32 x'.val) (IntOp.andi (BitVec.ofNat 32 (qcl j x).val) 127#32) := by
    unfold k0_pay597
    pointwise
  rw [e]
  have key : ∀ (c : Fin 512), IntOp.andi (BitVec.ofNat 32 c.val) 127#32 = BitVec.ofNat 32 (c.val % 128) := by decide +kernel
  rw [key]
  have h1 : (qcl j x).val % 128 = x.val := by show (128 * j.val + x.val) % 128 = x.val; omega
  rw [h1]
  exact (by decide +kernel : ∀ a b : Fin 128, IntOp.cmpi .sle (BitVec.ofNat 32 a.val) (BitVec.ofNat 32 b.val) = 1#1 ↔ a ≤ b) x' x

/-- A score: the codes of a key and a query multiplied out, by the key's scale. -/
def rawOf (a13 : S8x1280x128.Idx → EReal) (a14 : S8x1280x128.Idx → EReal) (qq : Fin 128 → EReal) (g : Fin 8) (x : Fin 128) (p : Fin 5) (r : Fin 256) : EReal :=
  (∑ e : Fin 128, a13 (ix3 g (rrow p r) e) * qq e) * a14 (ix3 g (rrow p r) x)

theorem sc128_win (q : FVec Ideal S512x128 .fp8e4m3) (a13 : S8x1280x128.Idx → Elt Ideal .fp8e4m3) (a14 : S8x1280x128.Idx → Elt Ideal .f32)
    (off : Fin 3 → ℕ) (i1 : ∀ a, off a + S1x128x128.size a ≤ S8x1280x128.size a) (i2 : ∀ a, off a + S1x128x128.size a ≤ S8x1280x128.size a)
    (g : Fin 8) (p : Fin 5) (b : ℕ) (ho : off = ![g.val, 256 * p.val + b, 0]) (j : Fin 4) (x r : Fin 128) (r' : Fin 256) (hr : r'.val = b + r.val)
    (qq : Fin 128 → EReal) (hq : ∀ e, q (ix2 (qcl j x) e) = qq e) :
    sc128 q (VecWindow.window a13 off S1x128x128.size i1) (VecWindow.window a14 off S1x128x128.size i2) (ix2 r (qcl j x)) = rawOf a13 a14 qq g x p r' := by
  subst ho
  rw [sc128_apply]
  unfold rawOf
  have e1 : ∀ e, VecWindow.window a13 ![g.val, 256 * p.val + b, 0] S1x128x128.size i1 (ix3 0 r e) = a13 (ix3 g (rrow p r') e) := fun e =>
    win_in _ _ _ _ _ _ fun a => by fin_cases a <;> simp [ix3, rrow, hr] <;> omega
  have e2 : VecWindow.window a14 ![g.val, 256 * p.val + b, 0] S1x128x128.size i2 (ix3 0 r x) = a14 (ix3 g (rrow p r') x) :=
    win_in _ _ _ _ _ _ fun a => by fin_cases a <;> simp [ix3, rrow, hr] <;> omega
  refine congrArg₂ (fun u v : EReal => u * v) (Finset.sum_congr rfl fun e _ => congrArg₂ (fun u v : EReal => u * v) (e1 e) (hq e)) e2

theorem sc256_win (q : FVec Ideal S512x128 .fp8e4m3) (a13 : S8x1280x128.Idx → Elt Ideal .fp8e4m3) (a14 : S8x1280x128.Idx → Elt Ideal .f32)
    (off : Fin 3 → ℕ) (i1 : ∀ a, off a + S1x256x128.size a ≤ S8x1280x128.size a) (i2 : ∀ a, off a + S1x256x128.size a ≤ S8x1280x128.size a)
    (g : Fin 8) (p : Fin 5) (ho : off = ![g.val, 256 * p.val, 0]) (j : Fin 4) (x : Fin 128) (r : Fin 256)
    (qq : Fin 128 → EReal) (hq : ∀ e, q (ix2 (qcl j x) e) = qq e) :
    sc256 q (VecWindow.window a13 off S1x256x128.size i1) (VecWindow.window a14 off S1x256x128.size i2) (ix2 r (qcl j x)) = rawOf a13 a14 qq g x p r := by
  subst ho
  rw [sc256_apply]
  unfold rawOf
  have e1 : ∀ e, VecWindow.window a13 ![g.val, 256 * p.val, 0] S1x256x128.size i1 (ix3 0 r e) = a13 (ix3 g (rrow p r) e) := fun e =>
    win_in _ _ _ _ _ _ fun a => by fin_cases a <;> simp [ix3, rrow]
  have e2 : VecWindow.window a14 ![g.val, 256 * p.val, 0] S1x256x128.size i2 (ix3 0 r x) = a14 (ix3 g (rrow p r) x) :=
    win_in _ _ _ _ _ _ fun a => by fin_cases a <;> simp [ix3, rrow]
  refine congrArg₂ (fun u v : EReal => u * v) (Finset.sum_congr rfl fun e _ => congrArg₂ (fun u v : EReal => u * v) (e1 e) (hq e)) e2

theorem msk_apply {S : Shape} (b : BitVec 1) (t : FVec Ideal S .f32) (i : S.Idx) : msk b t i = (if b = 1#1 then (t i : EReal) else ⊥) := by
  unfold msk Scalar.select
  by_cases h : b = 1#1
  · rw [if_pos h]; simp [h]
  · have h' : ¬ b = 1 := h
    rw [if_neg h', if_neg h]
    exact ofBits_ninf
theorem select_apply (b : IVec S128x512 1) (t u : FVec Ideal S128x512 .f32) (i : S128x512.Idx) : select b t u i = (if b i = 1#1 then (t i : EReal) else u i) := rfl

/-- The slot block `p` of the window of point `m` of a batch sits in. -/
def slot (m : ℕ) (p : Fin 5) : Fin 5 := ⟨(m + p.val + 1) % 5, Nat.mod_lt _ (by decide)⟩
/-- Whether row `r` of block `p` is a key of the window of row `x` of half `s` of point `m`. -/
def Act (m : ℕ) (s : Fin 2) (x : Fin 128) (p : Fin 5) (r : Fin 256) : Prop :=
  4 ≤ m + p.val ∧ 256 * p.val + r.val ≤ 1024 + 128 * s.val + x.val ∧ 128 * s.val + x.val < 256 * p.val + r.val
instance (m : ℕ) (s : Fin 2) (x : Fin 128) (p : Fin 5) (r : Fin 256) : Decidable (Act m s x p r) := by unfold Act; infer_instance
/-- The scores, -∞ off the window. -/
def scOf (m : ℕ) (s : Fin 2) (x : Fin 128) (raw : Fin 5 → Fin 256 → EReal) (p : Fin 5) (r : Fin 256) : EReal := if Act m s x p r then raw p r else ⊥

variable {diag : IVec S128x512 1} {tc ts : FVec Ideal S128x512 .f32} {ta tb td : FVec Ideal S256x512 .f32} {m : ℕ} {x : Fin 128} {j : Fin 4}
  {raw : Fin 5 → Fin 256 → EReal}

theorem blk0 (hd : ∀ x' : Fin 128, diag (ix2 x' (qcl j x)) = 1#1 ↔ x' ≤ x)
    (h1 : ∀ x' : Fin 128, diag (ix2 x' (qcl j x)) = 1#1 → tc (ix2 x' (qcl j x)) = raw 4 (lo x'))
    (h0 : ∀ x' : Fin 128, ¬ diag (ix2 x' (qcl j x)) = 1#1 → tc (ix2 x' (qcl j x)) = (if 4 ≤ m + 0 then raw 0 (lo x') else ⊥ : EReal))
    (hs : ∀ x' : Fin 128, ts (ix2 x' (qcl j x)) = (if 4 ≤ m + 0 then raw 0 (hi x') else ⊥ : EReal))
    (ha : ∀ r, ta (ix2 r (qcl j x)) = (if 4 ≤ m + 1 then raw 1 r else ⊥ : EReal))
    (hb : ∀ r, tb (ix2 r (qcl j x)) = (if 4 ≤ m + 2 then raw 2 r else ⊥ : EReal))
    (hc : ∀ r, td (ix2 r (qcl j x)) = (if 4 ≤ m + 3 then raw 3 r else ⊥ : EReal)) :
    Blk0 diag tc ts ta tb td (scOf m 0 x raw) (qcl j x) := by
  refine ⟨fun x' h => ?_, fun x' h => ?_, fun x' => ?_, fun x' => ?_, fun r => ?_, fun r => ?_, fun r => ?_⟩
  · have hl := (hd x').1 h
    have hl' : x'.val ≤ x.val := hl
    rw [h1 x' h]; unfold scOf Act
    refine ⟨(if_pos ⟨?_, ?_, ?_⟩).symm, if_neg ?_⟩ <;> simp <;> omega
  · have hl := mt (hd x').2 h
    have hl' : x.val < x'.val := not_le.1 hl
    rw [h0 x' h]; unfold scOf Act
    refine ⟨if_congr ?_ rfl rfl, if_neg ?_⟩ <;> simp <;> omega
  · rw [hs x']; unfold scOf Act
    refine if_congr ?_ rfl rfl
    simp; omega
  · unfold scOf Act
    refine if_neg ?_
    simp; omega
  · rw [ha r]; unfold scOf Act
    refine if_congr ?_ rfl rfl
    simp; omega
  · rw [hb r]; unfold scOf Act
    refine if_congr ?_ rfl rfl
    simp; omega
  · rw [hc r]; unfold scOf Act
    refine if_congr ?_ rfl rfl
    simp; omega

theorem blk1 (hd : ∀ x' : Fin 128, diag (ix2 x' (qcl j x)) = 1#1 ↔ x' ≤ x)
    (h1 : ∀ x' : Fin 128, diag (ix2 x' (qcl j x)) = 1#1 → tc (ix2 x' (qcl j x)) = raw 4 (hi x'))
    (h0 : ∀ x' : Fin 128, ¬ diag (ix2 x' (qcl j x)) = 1#1 → tc (ix2 x' (qcl j x)) = (if 4 ≤ m + 0 then raw 0 (hi x') else ⊥ : EReal))
    (hs : ∀ x' : Fin 128, ts (ix2 x' (qcl j x)) = raw 4 (lo x'))
    (ha : ∀ r, ta (ix2 r (qcl j x)) = (if 4 ≤ m + 1 then raw 1 r else ⊥ : EReal))
    (hb : ∀ r, tb (ix2 r (qcl j x)) = (if 4 ≤ m + 2 then raw 2 r else ⊥ : EReal))
    (hc : ∀ r, td (ix2 r (qcl j x)) = (if 4 ≤ m + 3 then raw 3 r else ⊥ : EReal)) :
    Blk1 diag tc ts ta tb td (scOf m 1 x raw) (qcl j x) := by
  refine ⟨fun x' h => ?_, fun x' h => ?_, fun x' => ?_, fun x' => ?_, fun r => ?_, fun r => ?_, fun r => ?_⟩
  · have hl := (hd x').1 h
    have hl' : x'.val ≤ x.val := hl
    rw [h1 x' h]; unfold scOf Act
    refine ⟨(if_pos ⟨?_, ?_, ?_⟩).symm, if_neg ?_⟩ <;> simp <;> omega
  · have hl := mt (hd x').2 h
    have hl' : x.val < x'.val := not_le.1 hl
    rw [h0 x' h]; unfold scOf Act
    refine ⟨if_congr ?_ rfl rfl, if_neg ?_⟩ <;> simp <;> omega
  · rw [hs x']; unfold scOf Act
    refine (if_pos ⟨?_, ?_, ?_⟩).symm <;> simp <;> omega
  · unfold scOf Act
    refine if_neg ?_
    simp; omega
  · rw [ha r]; unfold scOf Act
    refine if_congr ?_ rfl rfl
    simp; omega
  · rw [hb r]; unfold scOf Act
    refine if_congr ?_ rfl rfl
    simp; omega
  · rw [hc r]; unfold scOf Act
    refine if_congr ?_ rfl rfl
    simp; omega

/-- The value codes of column `d` in the slots of the ring. -/
def valOf (a15 : S8x5x128x256.Idx → EReal) (m : ℕ) (g : Fin 8) (d : Fin 128) (p : Fin 5) (r : Fin 256) : EReal := a15 (ix4 g (slot m p) d r)

theorem v_win (a15 : S8x5x128x256.Idx → Elt Ideal .fp8e4m3) (off : Fin 4 → ℕ) (i1 : ∀ a, off a + S1x1x128x256.size a ≤ S8x5x128x256.size a)
    (g : Fin 8) (p : Fin 5) (ho : off = ![g.val, p.val, 0, 0]) (d : Fin 128) (r : Fin 256) :
    VecWindow.window a15 off S1x1x128x256.size i1 (ix4 0 0 d r) = a15 (ix4 g p d r) := by
  subst ho
  exact win_in _ _ _ _ _ _ fun a => by fin_cases a <;> simp [ix4]

theorem q_win (a8 : S1x256x4096.Idx → Elt Ideal .fp8e4m3) (off : Fin 3 → ℕ) (i1 : ∀ a, off a + S1x128x128.size a ≤ S1x256x4096.size a)
    (s : Fin 2) (g : Fin 8) (j : Fin 4) (ho : off = ![0, 128 * s.val, 512 * g.val + 128 * j.val]) (x e : Fin 128) :
    VecWindow.window a8 off S1x128x128.size i1 (ix3 0 x e) = a8 (ix3 0 (qrow s x) (hcol g j e)) := by
  subst ho
  exact win_in _ _ _ _ _ _ fun a => by fin_cases a <;> simp [ix3]

theorem put_tile (a7 : S1x256x4096.Idx → Elt Ideal .bf16) (off : Fin 3 → ℕ) (w : Vec Ideal S1x128x128 .bf16) (s' : Fin 2) (g' : Fin 8) (j' : Fin 4)
    (ho : off = ![0, 128 * s'.val, 512 * g'.val + 128 * j'.val]) (s : Fin 2) (g : Fin 8) (j : Fin 4) (x d : Fin 128) :
    VecWindow.put a7 off S1x128x128.size w (ix3 0 (qrow s x) (hcol g j d))
      = if s = s' ∧ g = g' ∧ j = j' then w (ix3 0 x d) else a7 (ix3 0 (qrow s x) (hcol g j d)) := by
  subst ho
  split_ifs with h
  · obtain ⟨rfl, rfl, rfl⟩ := h
    exact put_in (s := S1x256x4096) _ ![0, 128 * s.val, 512 * g.val + 128 * j.val] S1x128x128.size _ (ix3 0 (qrow s x) (hcol g j d)) (ix3 0 x d : S1x128x128.Idx)
      fun a => by fin_cases a <;> simp [ix3]
  · have hx := x.isLt; have hd := d.isLt; have hj := j.isLt; have hj' := j'.isLt
    by_cases hs : s = s'
    · refine put_out _ _ _ _ _ (2 : Fin 3) ?_
      have : ¬ (g.val = g'.val ∧ j.val = j'.val) := fun e => h ⟨hs, Fin.ext e.1, Fin.ext e.2⟩
      simp [ix3, S1x128x128]; omega
    · refine put_out _ _ _ _ _ (1 : Fin 3) ?_
      have := mt Fin.ext hs
      simp [ix3, S1x128x128]; omega

theorem put8 (a7 : S1x256x4096.Idx → Elt Ideal .bf16) (o0 o1 o2 o3 p0 p1 p2 p3 : Fin 3 → ℕ) (u0 u1 : FVec Ideal S128x512 .f32) (t : Fin 8)
    (h0 : o0 = ![0, 0, 512 * t.val + 128 * 0]) (h1 : o1 = ![0, 0, 512 * t.val + 128 * 1]) (h2 : o2 = ![0, 0, 512 * t.val + 128 * 2])
    (h3 : o3 = ![0, 0, 512 * t.val + 128 * 3]) (k0 : p0 = ![0, 128, 512 * t.val + 128 * 0]) (k1 : p1 = ![0, 128, 512 * t.val + 128 * 1])
    (k2 : p2 = ![0, 128, 512 * t.val + 128 * 2]) (k3 : p3 = ![0, 128, 512 * t.val + 128 * 3])
    (s : Fin 2) (g : Fin 8) (j : Fin 4) (x d : Fin 128) :
    VecWindow.put (VecWindow.put (VecWindow.put (VecWindow.put (VecWindow.put (VecWindow.put (VecWindow.put (VecWindow.put a7
      o0 S1x128x128.size (tile u0 0 slices_S128x512_o0_0_S128x128)) o1 S1x128x128.size (tile u0 128 slices_S128x512_o0_128_S128x128))
      o2 S1x128x128.size (tile u0 256 slices_S128x512_o0_256_S128x128)) o3 S1x128x128.size (tile u0 384 slices_S128x512_o0_384_S128x128))
      p0 S1x128x128.size (tile u1 0 slices_S128x512_o0_0_S128x128)) p1 S1x128x128.size (tile u1 128 slices_S128x512_o0_128_S128x128))
      p2 S1x128x128.size (tile u1 256 slices_S128x512_o0_256_S128x128)) p3 S1x128x128.size (tile u1 384 slices_S128x512_o0_384_S128x128)
      (ix3 0 (qrow s x) (hcol g j d)) = if g = t then (if s = 0 then u0 else u1) (ix2 d (qcl j x)) else a7 (ix3 0 (qrow s x) (hcol g j d)) := by
  rw [put_tile _ p3 _ 1 t 3 k3, put_tile _ p2 _ 1 t 2 k2, put_tile _ p1 _ 1 t 1 k1, put_tile _ p0 _ 1 t 0 k0,
    put_tile _ o3 _ 0 t 3 h3, put_tile _ o2 _ 0 t 2 h2, put_tile _ o1 _ 0 t 1 h1, put_tile _ o0 _ 0 t 0 h0]
  have e00 : tile u0 0 slices_S128x512_o0_0_S128x128 (ix3 0 x d) = u0 (ix2 d (qcl 0 x)) := tile_apply u0 0 _ x d
  have e01 : tile u0 128 slices_S128x512_o0_128_S128x128 (ix3 0 x d) = u0 (ix2 d (qcl 1 x)) := tile_apply u0 1 _ x d
  have e02 : tile u0 256 slices_S128x512_o0_256_S128x128 (ix3 0 x d) = u0 (ix2 d (qcl 2 x)) := tile_apply u0 2 _ x d
  have e03 : tile u0 384 slices_S128x512_o0_384_S128x128 (ix3 0 x d) = u0 (ix2 d (qcl 3 x)) := tile_apply u0 3 _ x d
  have e10 : tile u1 0 slices_S128x512_o0_0_S128x128 (ix3 0 x d) = u1 (ix2 d (qcl 0 x)) := tile_apply u1 0 _ x d
  have e11 : tile u1 128 slices_S128x512_o0_128_S128x128 (ix3 0 x d) = u1 (ix2 d (qcl 1 x)) := tile_apply u1 1 _ x d
  have e12 : tile u1 256 slices_S128x512_o0_256_S128x128 (ix3 0 x d) = u1 (ix2 d (qcl 2 x)) := tile_apply u1 2 _ x d
  have e13 : tile u1 384 slices_S128x512_o0_384_S128x128 (ix3 0 x d) = u1 (ix2 d (qcl 3 x)) := tile_apply u1 3 _ x d
  rw [e00, e01, e02, e03, e10, e11, e12, e13]
  by_cases hg : g = t
  · fin_cases s <;> fin_cases j <;> simp [hg]
  · simp [hg]

end Cert.KernelIdeal.Run

end
-- ==== Proof.PI.StC.lean ====
/-
  A trip of each attention loop as two units' tiles written into the result's block: first what each stretch computes,
  in the units' own terms, then the trip.
-/
module

public import proofs.«01_k».proof.Proof.PI.Unit

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
theorem tr10_tc (arg1 : BitVec 32) (L1 : Vec F S1x128x128 .fp8e4m3) (L2 : Vec F S1x128x128 .fp8e4m3) (L3 : Vec F S1x128x128 .fp8e4m3) (L4 : Vec F S1x128x128 .fp8e4m3) (L6 : Vec F S1x128x128 .fp8e4m3) (L7 : Vec F S1x128x128 .f32) (L8 : Vec F S1x128x128 .fp8e4m3) (L9 : Vec F S1x128x128 .f32)  :
    (k0_pay7 (k0_pay5 arg1 k0_pay597 (k0_pay3 L1 L2 L3 L4) L6 L7 L8 L9)) = (shapeCast S1x128x512 (select k0_pay597 (sc128 (k0_pay112 L1 L2 L3 L4) L6 L7) (msk (Scalar.cmpi .sge (Scalar.addi arg1 0#32) 4#32) (sc128 (k0_pay112 L1 L2 L3 L4) L8 L9))) shapeCasts_S128x512_S1x128x512) := by
  rfl
set_option maxRecDepth 20000 in
theorem tr10_ts (arg1 : BitVec 32) (L1 : Vec F S1x128x128 .fp8e4m3) (L2 : Vec F S1x128x128 .fp8e4m3) (L3 : Vec F S1x128x128 .fp8e4m3) (L4 : Vec F S1x128x128 .fp8e4m3) (L10 : Vec F S1x128x128 .fp8e4m3) (L11 : Vec F S1x128x128 .f32)  :
    (k0_pay9 arg1 (k0_pay3 L1 L2 L3 L4) L10 L11) = (shapeCast S1x128x512 (msk (Scalar.cmpi .sge (Scalar.addi arg1 0#32) 4#32) (sc128 (k0_pay112 L1 L2 L3 L4) L10 L11)) shapeCasts_S128x512_S1x128x512) := by
  rfl
set_option maxRecDepth 20000 in
theorem tr10_ta (arg1 : BitVec 32) (L1 : Vec F S1x128x128 .fp8e4m3) (L2 : Vec F S1x128x128 .fp8e4m3) (L3 : Vec F S1x128x128 .fp8e4m3) (L4 : Vec F S1x128x128 .fp8e4m3) (L12 : Vec F S1x256x128 .fp8e4m3) (L13 : Vec F S1x256x128 .f32)  :
    (k0_pay12 arg1 (k0_pay3 L1 L2 L3 L4) L12 L13) = (shapeCast S1x256x512 (msk (Scalar.cmpi .sge (Scalar.addi arg1 1#32) 4#32) (sc256 (k0_pay112 L1 L2 L3 L4) L12 L13)) shapeCasts_S256x512_S1x256x512) := by
  rfl
set_option maxRecDepth 20000 in
theorem tr10_tb (arg1 : BitVec 32) (L1 : Vec F S1x128x128 .fp8e4m3) (L2 : Vec F S1x128x128 .fp8e4m3) (L3 : Vec F S1x128x128 .fp8e4m3) (L4 : Vec F S1x128x128 .fp8e4m3) (L14 : Vec F S1x256x128 .fp8e4m3) (L15 : Vec F S1x256x128 .f32)  :
    (k0_pay16 arg1 (k0_pay14 (k0_pay3 L1 L2 L3 L4) L14) L15) = (shapeCast S1x256x512 (msk (Scalar.cmpi .sge (Scalar.addi arg1 2#32) 4#32) (sc256 (k0_pay112 L1 L2 L3 L4) L14 L15)) shapeCasts_S256x512_S1x256x512) := by
  rfl
set_option maxRecDepth 20000 in
theorem tr10_td (arg1 : BitVec 32) (L1 : Vec F S1x128x128 .fp8e4m3) (L2 : Vec F S1x128x128 .fp8e4m3) (L3 : Vec F S1x128x128 .fp8e4m3) (L4 : Vec F S1x128x128 .fp8e4m3) (L16 : Vec F S1x256x128 .fp8e4m3) (L17 : Vec F S1x256x128 .f32)  :
    (k0_pay19 (k0_pay18 arg1 (k0_pay3 L1 L2 L3 L4) L16 L17)) = (shapeCast S1x256x512 (msk (Scalar.cmpi .sge (Scalar.addi arg1 3#32) 4#32) (sc256 (k0_pay112 L1 L2 L3 L4) L16 L17)) shapeCasts_S256x512_S1x256x512) := by
  rfl
set_option maxRecDepth 20000 in
theorem tr10_m (arg1 : BitVec 32) (L1 : Vec F S1x128x128 .fp8e4m3) (L2 : Vec F S1x128x128 .fp8e4m3) (L3 : Vec F S1x128x128 .fp8e4m3) (L4 : Vec F S1x128x128 .fp8e4m3) (L5 : Vec F S1x1x8x512 .f32) (L6 : Vec F S1x128x128 .fp8e4m3) (L7 : Vec F S1x128x128 .f32) (L8 : Vec F S1x128x128 .fp8e4m3) (L9 : Vec F S1x128x128 .f32) (L10 : Vec F S1x128x128 .fp8e4m3) (L11 : Vec F S1x128x128 .f32) (L12 : Vec F S1x256x128 .fp8e4m3) (L13 : Vec F S1x256x128 .f32) (L14 : Vec F S1x256x128 .fp8e4m3) (L15 : Vec F S1x256x128 .f32) (L16 : Vec F S1x256x128 .fp8e4m3) (L17 : Vec F S1x256x128 .f32) (L18 : Vec F S1x8x512 .f32)  :
    (k0_pay22 (k0_pay4 L5) (k0_pay17 arg1 (k0_pay13 arg1 (k0_pay3 L1 L2 L3 L4) (k0_pay10 arg1 (k0_pay3 L1 L2 L3 L4) (k0_pay6 arg1 k0_pay597 (k0_pay3 L1 L2 L3 L4) L6 L7 L8 L9) L10 L11) L12 L13) (k0_pay14 (k0_pay3 L1 L2 L3 L4) L14) L15) (k0_pay18 arg1 (k0_pay3 L1 L2 L3 L4) L16 L17) L18) = (maximumf (mulf (mAll0 (select k0_pay597 (sc128 (k0_pay112 L1 L2 L3 L4) L6 L7) (msk (Scalar.cmpi .sge (Scalar.addi arg1 0#32) 4#32) (sc128 (k0_pay112 L1 L2 L3 L4) L8 L9))) (msk (Scalar.cmpi .sge (Scalar.addi arg1 0#32) 4#32) (sc128 (k0_pay112 L1 L2 L3 L4) L10 L11)) (msk (Scalar.cmpi .sge (Scalar.addi arg1 1#32) 4#32) (sc256 (k0_pay112 L1 L2 L3 L4) L12 L13)) (msk (Scalar.cmpi .sge (Scalar.addi arg1 2#32) 4#32) (sc256 (k0_pay112 L1 L2 L3 L4) L14 L15)) (msk (Scalar.cmpi .sge (Scalar.addi arg1 3#32) 4#32) (sc256 (k0_pay112 L1 L2 L3 L4) L16 L17))) (k0_pay113 L5)) (k0_pay128 L18)) := by
  rfl
set_option maxRecDepth 20000 in
theorem tr10_y24 (arg1 : BitVec 32) (L1 : Vec F S1x128x128 .fp8e4m3) (L2 : Vec F S1x128x128 .fp8e4m3) (L3 : Vec F S1x128x128 .fp8e4m3) (L4 : Vec F S1x128x128 .fp8e4m3) (L5 : Vec F S1x1x8x512 .f32) (L6 : Vec F S1x128x128 .fp8e4m3) (L7 : Vec F S1x128x128 .f32) (L8 : Vec F S1x128x128 .fp8e4m3) (L9 : Vec F S1x128x128 .f32) (L10 : Vec F S1x128x128 .fp8e4m3) (L11 : Vec F S1x128x128 .f32) (L12 : Vec F S1x256x128 .fp8e4m3) (L13 : Vec F S1x256x128 .f32) (L14 : Vec F S1x256x128 .fp8e4m3) (L15 : Vec F S1x256x128 .f32) (L16 : Vec F S1x256x128 .fp8e4m3) (L17 : Vec F S1x256x128 .f32) (L18 : Vec F S1x8x512 .f32)  :
    (k0_pay24 (k0_pay4 L5) (k0_pay17 arg1 (k0_pay13 arg1 (k0_pay3 L1 L2 L3 L4) (k0_pay10 arg1 (k0_pay3 L1 L2 L3 L4) (k0_pay6 arg1 k0_pay597 (k0_pay3 L1 L2 L3 L4) L6 L7 L8 L9) L10 L11) L12 L13) (k0_pay14 (k0_pay3 L1 L2 L3 L4) L14) L15) (k0_pay18 arg1 (k0_pay3 L1 L2 L3 L4) L16 L17) L18) = (psOf (yOf (mulf (mAll0 (select k0_pay597 (sc128 (k0_pay112 L1 L2 L3 L4) L6 L7) (msk (Scalar.cmpi .sge (Scalar.addi arg1 0#32) 4#32) (sc128 (k0_pay112 L1 L2 L3 L4) L8 L9))) (msk (Scalar.cmpi .sge (Scalar.addi arg1 0#32) 4#32) (sc128 (k0_pay112 L1 L2 L3 L4) L10 L11)) (msk (Scalar.cmpi .sge (Scalar.addi arg1 1#32) 4#32) (sc256 (k0_pay112 L1 L2 L3 L4) L12 L13)) (msk (Scalar.cmpi .sge (Scalar.addi arg1 2#32) 4#32) (sc256 (k0_pay112 L1 L2 L3 L4) L14 L15)) (msk (Scalar.cmpi .sge (Scalar.addi arg1 3#32) 4#32) (sc256 (k0_pay112 L1 L2 L3 L4) L16 L17))) (k0_pay113 L5)) (maximumf (mulf (mAll0 (select k0_pay597 (sc128 (k0_pay112 L1 L2 L3 L4) L6 L7) (msk (Scalar.cmpi .sge (Scalar.addi arg1 0#32) 4#32) (sc128 (k0_pay112 L1 L2 L3 L4) L8 L9))) (msk (Scalar.cmpi .sge (Scalar.addi arg1 0#32) 4#32) (sc128 (k0_pay112 L1 L2 L3 L4) L10 L11)) (msk (Scalar.cmpi .sge (Scalar.addi arg1 1#32) 4#32) (sc256 (k0_pay112 L1 L2 L3 L4) L12 L13)) (msk (Scalar.cmpi .sge (Scalar.addi arg1 2#32) 4#32) (sc256 (k0_pay112 L1 L2 L3 L4) L14 L15)) (msk (Scalar.cmpi .sge (Scalar.addi arg1 3#32) 4#32) (sc256 (k0_pay112 L1 L2 L3 L4) L16 L17))) (k0_pay113 L5)) (k0_pay128 L18)))) := by
  rfl
set_option maxRecDepth 20000 in
theorem tr10_y25 (arg1 : BitVec 32) (L1 : Vec F S1x128x128 .fp8e4m3) (L2 : Vec F S1x128x128 .fp8e4m3) (L3 : Vec F S1x128x128 .fp8e4m3) (L4 : Vec F S1x128x128 .fp8e4m3) (L5 : Vec F S1x1x8x512 .f32) (L6 : Vec F S1x128x128 .fp8e4m3) (L7 : Vec F S1x128x128 .f32) (L8 : Vec F S1x128x128 .fp8e4m3) (L9 : Vec F S1x128x128 .f32) (L10 : Vec F S1x128x128 .fp8e4m3) (L11 : Vec F S1x128x128 .f32) (L12 : Vec F S1x256x128 .fp8e4m3) (L13 : Vec F S1x256x128 .f32) (L14 : Vec F S1x256x128 .fp8e4m3) (L15 : Vec F S1x256x128 .f32) (L16 : Vec F S1x256x128 .fp8e4m3) (L17 : Vec F S1x256x128 .f32) (L18 : Vec F S1x8x512 .f32)  :
    (k0_pay25 (k0_pay4 L5) (k0_pay17 arg1 (k0_pay13 arg1 (k0_pay3 L1 L2 L3 L4) (k0_pay10 arg1 (k0_pay3 L1 L2 L3 L4) (k0_pay6 arg1 k0_pay597 (k0_pay3 L1 L2 L3 L4) L6 L7 L8 L9) L10 L11) L12 L13) (k0_pay14 (k0_pay3 L1 L2 L3 L4) L14) L15) (k0_pay18 arg1 (k0_pay3 L1 L2 L3 L4) L16 L17) L18) = (seOf (yOf (mulf (mAll0 (select k0_pay597 (sc128 (k0_pay112 L1 L2 L3 L4) L6 L7) (msk (Scalar.cmpi .sge (Scalar.addi arg1 0#32) 4#32) (sc128 (k0_pay112 L1 L2 L3 L4) L8 L9))) (msk (Scalar.cmpi .sge (Scalar.addi arg1 0#32) 4#32) (sc128 (k0_pay112 L1 L2 L3 L4) L10 L11)) (msk (Scalar.cmpi .sge (Scalar.addi arg1 1#32) 4#32) (sc256 (k0_pay112 L1 L2 L3 L4) L12 L13)) (msk (Scalar.cmpi .sge (Scalar.addi arg1 2#32) 4#32) (sc256 (k0_pay112 L1 L2 L3 L4) L14 L15)) (msk (Scalar.cmpi .sge (Scalar.addi arg1 3#32) 4#32) (sc256 (k0_pay112 L1 L2 L3 L4) L16 L17))) (k0_pay113 L5)) (maximumf (mulf (mAll0 (select k0_pay597 (sc128 (k0_pay112 L1 L2 L3 L4) L6 L7) (msk (Scalar.cmpi .sge (Scalar.addi arg1 0#32) 4#32) (sc128 (k0_pay112 L1 L2 L3 L4) L8 L9))) (msk (Scalar.cmpi .sge (Scalar.addi arg1 0#32) 4#32) (sc128 (k0_pay112 L1 L2 L3 L4) L10 L11)) (msk (Scalar.cmpi .sge (Scalar.addi arg1 1#32) 4#32) (sc256 (k0_pay112 L1 L2 L3 L4) L12 L13)) (msk (Scalar.cmpi .sge (Scalar.addi arg1 2#32) 4#32) (sc256 (k0_pay112 L1 L2 L3 L4) L14 L15)) (msk (Scalar.cmpi .sge (Scalar.addi arg1 3#32) 4#32) (sc256 (k0_pay112 L1 L2 L3 L4) L16 L17))) (k0_pay113 L5)) (k0_pay128 L18)))) := by
  rfl
set_option maxRecDepth 20000 in
theorem tr10_p000 (L5 : Vec F S1x1x8x512 .f32) (m2 : FVec F S8x512 .f32) (y : FVec F S8x512 .f32) (tc : FVec F S128x512 .f32) :
    (k0_pay30 k0_pay597 (k0_pay4 L5) m2 (seOf y) (shapeCast S1x128x512 tc shapeCasts_S128x512_S1x128x512)) = pOld k0_pay597 (pr128 (k0_pay113 L5) (shOf m2 y) tc) := by
  rfl
set_option maxRecDepth 20000 in
theorem tr10_p400 (L5 : Vec F S1x1x8x512 .f32) (m2 : FVec F S8x512 .f32) (y : FVec F S8x512 .f32) (tc : FVec F S128x512 .f32) :
    (k0_pay31 k0_pay597 (k0_pay4 L5) m2 (seOf y) (shapeCast S1x128x512 tc shapeCasts_S128x512_S1x128x512)) = pNew k0_pay597 (pr128 (k0_pay113 L5) (shOf m2 y) tc) := by
  rfl
set_option maxRecDepth 20000 in
theorem tr10_p01280 (L5 : Vec F S1x1x8x512 .f32) (m2 : FVec F S8x512 .f32) (y : FVec F S8x512 .f32) (ts : FVec F S128x512 .f32) :
    (k0_pay34 (k0_pay32 (k0_pay4 L5) m2 (seOf y) (shapeCast S1x128x512 ts shapeCasts_S128x512_S1x128x512))) = pAll128 (pr128 (k0_pay113 L5) (shOf m2 y) ts) := by
  rfl
set_option maxRecDepth 20000 in
theorem tr10_p100 (L5 : Vec F S1x1x8x512 .f32) (m2 : FVec F S8x512 .f32) (y : FVec F S8x512 .f32) (ta : FVec F S256x512 .f32) :
    (k0_pay36 (k0_pay4 L5) (k0_pay26 m2 (seOf y)) (shapeCast S1x256x512 ta shapeCasts_S256x512_S1x256x512)) = pAll256 (pr256 (k0_pay113 L5) (shOf m2 y) ta) := by
  rfl
set_option maxRecDepth 20000 in
theorem tr10_p200 (L5 : Vec F S1x1x8x512 .f32) (m2 : FVec F S8x512 .f32) (y : FVec F S8x512 .f32) (tb : FVec F S256x512 .f32) :
    (k0_pay40 (k0_pay39 (k0_pay4 L5) (k0_pay26 m2 (seOf y)) (shapeCast S1x256x512 tb shapeCasts_S256x512_S1x256x512))) = pAll256 (pr256 (k0_pay113 L5) (shOf m2 y) tb) := by
  rfl
set_option maxRecDepth 20000 in
theorem tr10_p300 (L5 : Vec F S1x1x8x512 .f32) (m2 : FVec F S8x512 .f32) (y : FVec F S8x512 .f32) (td : FVec F S256x512 .f32) :
    (k0_pay42 (k0_pay4 L5) (k0_pay26 m2 (seOf y)) (shapeCast S1x256x512 td shapeCasts_S256x512_S1x256x512)) = pAll256 (pr256 (k0_pay113 L5) (shOf m2 y) td) := by
  rfl
set_option maxRecDepth 20000 in
theorem tr10_p41280   :
    (k0_pay43 (F := F)) = pNone (F := F) := by
  rfl
set_option maxRecDepth 20000 in
theorem tr10_fac (L5 : Vec F S1x1x8x512 .f32) (L18 : Vec F S1x8x512 .f32) (L26 : Vec F S1x1x8x128 .f32) (m2 : FVec F S8x512 .f32) (y : FVec F S8x512 .f32) (tc : FVec F S128x512 .f32) (ts : FVec F S128x512 .f32) (ta : FVec F S256x512 .f32) (tb : FVec F S256x512 .f32) (td : FVec F S256x512 .f32) :
    (k0_pay46 (k0_pay44 (k0_pay4 L5) (k0_pay20 L18) m2 (psOf y) (k0_pay26 m2 (seOf y)) (k0_pay38 (k0_pay4 L5) (k0_pay26 m2 (seOf y)) (k0_pay28 (k0_pay4 L5) m2 (seOf y) (shapeCast S1x128x512 tc shapeCasts_S128x512_S1x128x512)) (k0_pay33 (k0_pay4 L5) m2 (seOf y) (shapeCast S1x128x512 ts shapeCasts_S128x512_S1x128x512)) (shapeCast S1x256x512 ta shapeCasts_S256x512_S1x256x512) (shapeCast S1x256x512 tb shapeCasts_S256x512_S1x256x512)) (shapeCast S1x256x512 td shapeCasts_S256x512_S1x256x512)) (k0_pay45 (psOf y) L26)) = k0_pay155 (k0_pay128 L18) m2 (psOf y) (lAll0 tc ts ta tb td (k0_pay113 L5) (shOf m2 y)) L26 := by
  rfl
set_option maxRecDepth 20000 in
theorem tr10_o0 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay52 fac (k0_pay47 L27) (k0_pay48 L28) (k0_pay49 L29) (k0_pay50 L30) L31 L32) = tile (k0_pay158 fac (k0_pay156 L27) (k0_pay157 L28) L29 L30 L31 L32) 0 slices_S128x512_o0_0_S128x128 := by
  rfl
set_option maxRecDepth 20000 in
theorem tr10_o1 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay53 fac (k0_pay47 L27) (k0_pay48 L28) (k0_pay49 L29) (k0_pay50 L30) L31 L32) = tile (k0_pay158 fac (k0_pay156 L27) (k0_pay157 L28) L29 L30 L31 L32) 128 slices_S128x512_o0_128_S128x128 := by
  rfl
set_option maxRecDepth 20000 in
theorem tr10_o2 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay55 (k0_pay54 fac (k0_pay47 L27) (k0_pay48 L28) (k0_pay49 L29) (k0_pay50 L30) L31 L32)) = tile (k0_pay158 fac (k0_pay156 L27) (k0_pay157 L28) L29 L30 L31 L32) 256 slices_S128x512_o0_256_S128x128 := by
  rfl
set_option maxRecDepth 20000 in
theorem tr10_o3 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay56 (k0_pay51 fac (k0_pay47 L27) (k0_pay48 L28) (k0_pay49 L29) (k0_pay50 L30) L31 L32)) = tile (k0_pay158 fac (k0_pay156 L27) (k0_pay157 L28) L29 L30 L31 L32) 384 slices_S128x512_o0_384_S128x128 := by
  rfl
end Cert.KernelIdeal.Run

end
-- ==== Proof.PI.StD.lean ====
/-
  A trip of each attention loop as two units' tiles written into the result's block: first what each stretch computes,
  in the units' own terms, then the trip.
-/
module

public import proofs.«01_k».proof.Proof.PI.Unit

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
theorem tr11_tc (arg1 : BitVec 32) (L37 : Vec F S1x128x128 .fp8e4m3) (L38 : Vec F S1x128x128 .fp8e4m3) (L39 : Vec F S1x128x128 .fp8e4m3) (L40 : Vec F S1x128x128 .fp8e4m3) (L42 : Vec F S1x128x128 .fp8e4m3) (L43 : Vec F S1x128x128 .f32) (L44 : Vec F S1x128x128 .fp8e4m3) (L45 : Vec F S1x128x128 .f32)  :
    (k0_pay66 arg1 k0_pay597 (k0_pay60 (k0_pay57 L37) (k0_pay58 L38) (k0_pay59 L39) L40) (k0_pay62 (k0_pay57 L37) (k0_pay58 L38) (k0_pay59 L39) L40 L42 L43) (k0_pay63 L44) L45) = (shapeCast S1x128x512 (select k0_pay597 (sc128 (k0_pay112 L37 L38 L39 L40) L42 L43) (msk (Scalar.cmpi .sge (Scalar.addi arg1 0#32) 4#32) (sc128 (k0_pay112 L37 L38 L39 L40) L44 L45))) shapeCasts_S128x512_S1x128x512) := by
  rfl
set_option maxRecDepth 20000 in
theorem tr11_ta (arg1 : BitVec 32) (L37 : Vec F S1x128x128 .fp8e4m3) (L38 : Vec F S1x128x128 .fp8e4m3) (L39 : Vec F S1x128x128 .fp8e4m3) (L40 : Vec F S1x128x128 .fp8e4m3) (L46 : Vec F S1x256x128 .fp8e4m3) (L47 : Vec F S1x256x128 .f32)  :
    (k0_pay69 (k0_pay67 (k0_pay60 (k0_pay57 L37) (k0_pay58 L38) (k0_pay59 L39) L40) L46 L47) (Scalar.cmpi .sge (Scalar.addi arg1 1#32) 4#32)) = (shapeCast S1x256x512 (msk (Scalar.cmpi .sge (Scalar.addi arg1 1#32) 4#32) (sc256 (k0_pay112 L37 L38 L39 L40) L46 L47)) shapeCasts_S256x512_S1x256x512) := by
  rfl
set_option maxRecDepth 20000 in
theorem tr11_tb (arg1 : BitVec 32) (L37 : Vec F S1x128x128 .fp8e4m3) (L38 : Vec F S1x128x128 .fp8e4m3) (L39 : Vec F S1x128x128 .fp8e4m3) (L40 : Vec F S1x128x128 .fp8e4m3) (L48 : Vec F S1x256x128 .fp8e4m3) (L49 : Vec F S1x256x128 .f32)  :
    (k0_pay71 arg1 (k0_pay60 (k0_pay57 L37) (k0_pay58 L38) (k0_pay59 L39) L40) L48 L49) = (shapeCast S1x256x512 (msk (Scalar.cmpi .sge (Scalar.addi arg1 2#32) 4#32) (sc256 (k0_pay112 L37 L38 L39 L40) L48 L49)) shapeCasts_S256x512_S1x256x512) := by
  rfl
set_option maxRecDepth 20000 in
theorem tr11_td (arg1 : BitVec 32) (L37 : Vec F S1x128x128 .fp8e4m3) (L38 : Vec F S1x128x128 .fp8e4m3) (L39 : Vec F S1x128x128 .fp8e4m3) (L40 : Vec F S1x128x128 .fp8e4m3) (L50 : Vec F S1x256x128 .fp8e4m3) (L51 : Vec F S1x256x128 .f32)  :
    (k0_pay74 arg1 (k0_pay60 (k0_pay57 L37) (k0_pay58 L38) (k0_pay59 L39) L40) L50 L51) = (shapeCast S1x256x512 (msk (Scalar.cmpi .sge (Scalar.addi arg1 3#32) 4#32) (sc256 (k0_pay112 L37 L38 L39 L40) L50 L51)) shapeCasts_S256x512_S1x256x512) := by
  rfl
set_option maxRecDepth 20000 in
theorem tr11_ts (L37 : Vec F S1x128x128 .fp8e4m3) (L38 : Vec F S1x128x128 .fp8e4m3) (L39 : Vec F S1x128x128 .fp8e4m3) (L40 : Vec F S1x128x128 .fp8e4m3) (L52 : Vec F S1x128x128 .fp8e4m3) (L53 : Vec F S1x128x128 .f32)  :
    (k0_pay78 (k0_pay60 (k0_pay57 L37) (k0_pay58 L38) (k0_pay59 L39) L40) (k0_pay76 L52) L53) = (shapeCast S1x128x512 (sc128 (k0_pay112 L37 L38 L39 L40) L52 L53) shapeCasts_S128x512_S1x128x512) := by
  rfl
set_option maxRecDepth 20000 in
theorem tr11_m (arg1 : BitVec 32) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay81 (k0_pay60 (k0_pay57 L37) (k0_pay58 L38) (k0_pay59 L39) L40) (k0_pay61 L41) (k0_pay75 arg1 (k0_pay60 (k0_pay57 L37) (k0_pay58 L38) (k0_pay59 L39) L40) (k0_pay72 arg1 (k0_pay60 (k0_pay57 L37) (k0_pay58 L38) (k0_pay59 L39) L40) (k0_pay65 arg1 k0_pay597 (k0_pay60 (k0_pay57 L37) (k0_pay58 L38) (k0_pay59 L39) L40) (k0_pay62 (k0_pay57 L37) (k0_pay58 L38) (k0_pay59 L39) L40 L42 L43) (k0_pay63 L44) L45) (k0_pay67 (k0_pay60 (k0_pay57 L37) (k0_pay58 L38) (k0_pay59 L39) L40) L46 L47) (Scalar.cmpi .sge (Scalar.addi arg1 1#32) 4#32) L48 L49) L50 L51) (k0_pay76 L52) L53 L54) = (maximumf (mulf (mAll1 (select k0_pay597 (sc128 (k0_pay112 L37 L38 L39 L40) L42 L43) (msk (Scalar.cmpi .sge (Scalar.addi arg1 0#32) 4#32) (sc128 (k0_pay112 L37 L38 L39 L40) L44 L45))) (sc128 (k0_pay112 L37 L38 L39 L40) L52 L53) (msk (Scalar.cmpi .sge (Scalar.addi arg1 1#32) 4#32) (sc256 (k0_pay112 L37 L38 L39 L40) L46 L47)) (msk (Scalar.cmpi .sge (Scalar.addi arg1 2#32) 4#32) (sc256 (k0_pay112 L37 L38 L39 L40) L48 L49)) (msk (Scalar.cmpi .sge (Scalar.addi arg1 3#32) 4#32) (sc256 (k0_pay112 L37 L38 L39 L40) L50 L51))) (k0_pay113 L41)) (k0_pay128 L54)) := by
  rfl
set_option maxRecDepth 20000 in
theorem tr11_y82 (arg1 : BitVec 32) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay82 (k0_pay60 (k0_pay57 L37) (k0_pay58 L38) (k0_pay59 L39) L40) (k0_pay61 L41) (k0_pay75 arg1 (k0_pay60 (k0_pay57 L37) (k0_pay58 L38) (k0_pay59 L39) L40) (k0_pay72 arg1 (k0_pay60 (k0_pay57 L37) (k0_pay58 L38) (k0_pay59 L39) L40) (k0_pay65 arg1 k0_pay597 (k0_pay60 (k0_pay57 L37) (k0_pay58 L38) (k0_pay59 L39) L40) (k0_pay62 (k0_pay57 L37) (k0_pay58 L38) (k0_pay59 L39) L40 L42 L43) (k0_pay63 L44) L45) (k0_pay67 (k0_pay60 (k0_pay57 L37) (k0_pay58 L38) (k0_pay59 L39) L40) L46 L47) (Scalar.cmpi .sge (Scalar.addi arg1 1#32) 4#32) L48 L49) L50 L51) (k0_pay76 L52) L53 L54) = (cntOf (yOf (mulf (mAll1 (select k0_pay597 (sc128 (k0_pay112 L37 L38 L39 L40) L42 L43) (msk (Scalar.cmpi .sge (Scalar.addi arg1 0#32) 4#32) (sc128 (k0_pay112 L37 L38 L39 L40) L44 L45))) (sc128 (k0_pay112 L37 L38 L39 L40) L52 L53) (msk (Scalar.cmpi .sge (Scalar.addi arg1 1#32) 4#32) (sc256 (k0_pay112 L37 L38 L39 L40) L46 L47)) (msk (Scalar.cmpi .sge (Scalar.addi arg1 2#32) 4#32) (sc256 (k0_pay112 L37 L38 L39 L40) L48 L49)) (msk (Scalar.cmpi .sge (Scalar.addi arg1 3#32) 4#32) (sc256 (k0_pay112 L37 L38 L39 L40) L50 L51))) (k0_pay113 L41)) (maximumf (mulf (mAll1 (select k0_pay597 (sc128 (k0_pay112 L37 L38 L39 L40) L42 L43) (msk (Scalar.cmpi .sge (Scalar.addi arg1 0#32) 4#32) (sc128 (k0_pay112 L37 L38 L39 L40) L44 L45))) (sc128 (k0_pay112 L37 L38 L39 L40) L52 L53) (msk (Scalar.cmpi .sge (Scalar.addi arg1 1#32) 4#32) (sc256 (k0_pay112 L37 L38 L39 L40) L46 L47)) (msk (Scalar.cmpi .sge (Scalar.addi arg1 2#32) 4#32) (sc256 (k0_pay112 L37 L38 L39 L40) L48 L49)) (msk (Scalar.cmpi .sge (Scalar.addi arg1 3#32) 4#32) (sc256 (k0_pay112 L37 L38 L39 L40) L50 L51))) (k0_pay113 L41)) (k0_pay128 L54)))) := by
  rfl
set_option maxRecDepth 20000 in
theorem tr11_y83 (arg1 : BitVec 32) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay83 (k0_pay60 (k0_pay57 L37) (k0_pay58 L38) (k0_pay59 L39) L40) (k0_pay61 L41) (k0_pay75 arg1 (k0_pay60 (k0_pay57 L37) (k0_pay58 L38) (k0_pay59 L39) L40) (k0_pay72 arg1 (k0_pay60 (k0_pay57 L37) (k0_pay58 L38) (k0_pay59 L39) L40) (k0_pay65 arg1 k0_pay597 (k0_pay60 (k0_pay57 L37) (k0_pay58 L38) (k0_pay59 L39) L40) (k0_pay62 (k0_pay57 L37) (k0_pay58 L38) (k0_pay59 L39) L40 L42 L43) (k0_pay63 L44) L45) (k0_pay67 (k0_pay60 (k0_pay57 L37) (k0_pay58 L38) (k0_pay59 L39) L40) L46 L47) (Scalar.cmpi .sge (Scalar.addi arg1 1#32) 4#32) L48 L49) L50 L51) (k0_pay76 L52) L53 L54) = (eqW (yOf (mulf (mAll1 (select k0_pay597 (sc128 (k0_pay112 L37 L38 L39 L40) L42 L43) (msk (Scalar.cmpi .sge (Scalar.addi arg1 0#32) 4#32) (sc128 (k0_pay112 L37 L38 L39 L40) L44 L45))) (sc128 (k0_pay112 L37 L38 L39 L40) L52 L53) (msk (Scalar.cmpi .sge (Scalar.addi arg1 1#32) 4#32) (sc256 (k0_pay112 L37 L38 L39 L40) L46 L47)) (msk (Scalar.cmpi .sge (Scalar.addi arg1 2#32) 4#32) (sc256 (k0_pay112 L37 L38 L39 L40) L48 L49)) (msk (Scalar.cmpi .sge (Scalar.addi arg1 3#32) 4#32) (sc256 (k0_pay112 L37 L38 L39 L40) L50 L51))) (k0_pay113 L41)) (maximumf (mulf (mAll1 (select k0_pay597 (sc128 (k0_pay112 L37 L38 L39 L40) L42 L43) (msk (Scalar.cmpi .sge (Scalar.addi arg1 0#32) 4#32) (sc128 (k0_pay112 L37 L38 L39 L40) L44 L45))) (sc128 (k0_pay112 L37 L38 L39 L40) L52 L53) (msk (Scalar.cmpi .sge (Scalar.addi arg1 1#32) 4#32) (sc256 (k0_pay112 L37 L38 L39 L40) L46 L47)) (msk (Scalar.cmpi .sge (Scalar.addi arg1 2#32) 4#32) (sc256 (k0_pay112 L37 L38 L39 L40) L48 L49)) (msk (Scalar.cmpi .sge (Scalar.addi arg1 3#32) 4#32) (sc256 (k0_pay112 L37 L38 L39 L40) L50 L51))) (k0_pay113 L41)) (k0_pay128 L54)))) := by
  rfl
set_option maxRecDepth 20000 in
theorem tr11_p01280 (L41 : Vec F S1x1x8x512 .f32) (m2 : FVec F S8x512 .f32) (y : FVec F S8x512 .f32) (tc : FVec F S128x512 .f32) :
    (k0_pay90 k0_pay597 (k0_pay61 L41) m2 (cntOf y) (eqW y) (shapeCast S1x128x512 tc shapeCasts_S128x512_S1x128x512)) = pOld k0_pay597 (pr128 (k0_pay113 L41) (shOf m2 y) tc) := by
  rfl
set_option maxRecDepth 20000 in
theorem tr11_p41280 (L41 : Vec F S1x1x8x512 .f32) (m2 : FVec F S8x512 .f32) (y : FVec F S8x512 .f32) (tc : FVec F S128x512 .f32) :
    (k0_pay91 k0_pay597 (k0_pay61 L41) m2 (cntOf y) (eqW y) (shapeCast S1x128x512 tc shapeCasts_S128x512_S1x128x512)) = pNew k0_pay597 (pr128 (k0_pay113 L41) (shOf m2 y) tc) := by
  rfl
set_option maxRecDepth 20000 in
theorem tr11_p100 (L41 : Vec F S1x1x8x512 .f32) (m2 : FVec F S8x512 .f32) (y : FVec F S8x512 .f32) (ta : FVec F S256x512 .f32) :
    (k0_pay93 (k0_pay61 L41) (k0_pay86 m2 (cntOf y) (eqW y)) ((shapeCast S1x256x512 ta shapeCasts_S256x512_S1x256x512))) = pAll256 (pr256 (k0_pay113 L41) (shOf m2 y) ta) := by
  rfl
set_option maxRecDepth 20000 in
theorem tr11_p200 (L41 : Vec F S1x1x8x512 .f32) (m2 : FVec F S8x512 .f32) (y : FVec F S8x512 .f32) (tb : FVec F S256x512 .f32) :
    (k0_pay96 (k0_pay61 L41) (k0_pay86 m2 (cntOf y) (eqW y)) (shapeCast S1x256x512 tb shapeCasts_S256x512_S1x256x512)) = pAll256 (pr256 (k0_pay113 L41) (shOf m2 y) tb) := by
  rfl
set_option maxRecDepth 20000 in
theorem tr11_p300 (L41 : Vec F S1x1x8x512 .f32) (m2 : FVec F S8x512 .f32) (y : FVec F S8x512 .f32) (td : FVec F S256x512 .f32) :
    (k0_pay100 (k0_pay86 m2 (cntOf y) (eqW y)) (k0_pay97 (shapeCast S1x256x512 td shapeCasts_S256x512_S1x256x512)) (k0_pay98 (k0_pay61 L41))) = pAll256 (pr256 (k0_pay113 L41) (shOf m2 y) td) := by
  rfl
set_option maxRecDepth 20000 in
theorem tr11_p400 (L41 : Vec F S1x1x8x512 .f32) (m2 : FVec F S8x512 .f32) (y : FVec F S8x512 .f32) (ts : FVec F S128x512 .f32) :
    (k0_pay102 (k0_pay61 L41) (k0_pay86 m2 (cntOf y) (eqW y)) (shapeCast S1x128x512 ts shapeCasts_S128x512_S1x128x512)) = pAll128 (pr128 (k0_pay113 L41) (shOf m2 y) ts) := by
  rfl
set_option maxRecDepth 20000 in
theorem tr11_p000   :
    (k0_pay103 (F := F)) = pNone (F := F) := by
  rfl
set_option maxRecDepth 20000 in
theorem tr11_fac (L41 : Vec F S1x1x8x512 .f32) (L54 : Vec F S1x8x512 .f32) (L62 : Vec F S1x1x8x128 .f32) (m2 : FVec F S8x512 .f32) (y : FVec F S8x512 .f32) (tc : FVec F S128x512 .f32) (ts : FVec F S128x512 .f32) (ta : FVec F S256x512 .f32) (tb : FVec F S256x512 .f32) (td : FVec F S256x512 .f32) :
    (k0_pay105 (k0_pay79 L54) m2 (k0_pay85 (F := F) (cntOf y) (eqW y)) (k0_pay104 (k0_pay61 L41) (k0_pay86 m2 (cntOf y) (eqW y)) (k0_pay95 (k0_pay61 L41) (k0_pay86 m2 (cntOf y) (eqW y)) (k0_pay88 (k0_pay61 L41) m2 (cntOf y) (eqW y) (shapeCast S1x128x512 tc shapeCasts_S128x512_S1x128x512)) ((shapeCast S1x256x512 ta shapeCasts_S256x512_S1x256x512)) (shapeCast S1x256x512 tb shapeCasts_S256x512_S1x256x512)) (k0_pay97 (shapeCast S1x256x512 td shapeCasts_S256x512_S1x256x512)) (k0_pay98 (k0_pay61 L41)) (shapeCast S1x128x512 ts shapeCasts_S128x512_S1x128x512)) L62) = k0_pay155 (k0_pay128 L54) m2 (psOf y) (lAll1 tc ts ta tb td (k0_pay113 L41) (shOf m2 y)) L62 := by
  rfl
set_option maxRecDepth 20000 in
theorem tr11_o0 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay110 fac (k0_pay106 L63) (k0_pay107 L64) (k0_pay108 L65) L66 L67 L68) = tile (k0_pay158 fac (k0_pay156 L63) (k0_pay157 L64) L65 L66 L67 L68) 0 slices_S128x512_o0_0_S128x128 := by
  rfl
set_option maxRecDepth 20000 in
theorem tr11_o1 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay598 (k0_pay111 fac (k0_pay106 L63) (k0_pay107 L64) (k0_pay108 L65) L66 L67 L68)) = tile (k0_pay158 fac (k0_pay156 L63) (k0_pay157 L64) L65 L66 L67 L68) 128 slices_S128x512_o0_128_S128x128 := by
  rfl
set_option maxRecDepth 20000 in
theorem tr11_o2 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay599 (k0_pay109 fac (k0_pay106 L63) (k0_pay107 L64) (k0_pay108 L65) L66 L67 L68)) = tile (k0_pay158 fac (k0_pay156 L63) (k0_pay157 L64) L65 L66 L67 L68) 256 slices_S128x512_o0_256_S128x128 := by
  rfl
set_option maxRecDepth 20000 in
theorem tr11_o3 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay600 (k0_pay109 fac (k0_pay106 L63) (k0_pay107 L64) (k0_pay108 L65) L66 L67 L68)) = tile (k0_pay158 fac (k0_pay156 L63) (k0_pay157 L64) L65 L66 L67 L68) 384 slices_S128x512_o0_384_S128x128 := by
  rfl
end Cert.KernelIdeal.Run

end
-- ==== Proof.PI.Trip1.lean ====
/-
  A trip of each attention loop as two units' tiles written into the result's block: first what each stretch computes,
  in the units' own terms, then the trip.
-/
module

public import proofs.«01_k».proof.Proof.PI.StC
public import proofs.«01_k».proof.Proof.PI.StD

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
set_option maxHeartbeats 4000000 in
/-- A trip of loop 1: the first unit's tiles, then the second's. -/
theorem trip1 (I : In F) (i : grid0.Coords) (arg1 : BitVec 32) (v2264 : FVec F S32x256 .f32) (v2621 : FVec F S8x128 .f32) (v2622 : Vec F S1x1x8x128 .f32) (k0_h2 : k0_cond2 i = 1#1) (k0_t1 : Fin k0_t1_loop.trips) (a7 : S1x256x4096.Idx → Elt F .bf16) (a8 : S1x256x4096.Idx → Elt F .fp8e4m3) (a9 : S1x256x32.Idx → Elt F .f32) (a10 : S1x256x1024.Idx → Elt F .fp8e4m3) (a11 : S1x256x8.Idx → Elt F .f32) (a12 : S1x256x1024.Idx → Elt F .fp8e4m3) (a13 : S8x1280x128.Idx → Elt F .fp8e4m3) (a14 : S8x1280x128.Idx → Elt F .f32) (a15 : S8x5x128x256.Idx → Elt F .fp8e4m3) (a16 : S2x8x8x512.Idx → Elt F .f32) (a17 : S5x256x512.Idx → Elt F .f32) (a18 : S5x256x512.Idx → Elt F .fp8e4m3) : ∃ x,
    (s_t1_body I i arg1 v2264 v2621 v2622 k0_h2 k0_t1 ⟨a7, a8, a9, a10, a11, a12, a13, a14, a15, a16, a17, a18⟩).2.a7 =
      (VecWindow.put (VecWindow.put (VecWindow.put (VecWindow.put (VecWindow.put (VecWindow.put (VecWindow.put (VecWindow.put a7 (k0_off17 k0_t1 0#32) S1x128x128.size (tile (unit0 k0_pay597 (select k0_pay597 (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0))))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1)))) (msk (Scalar.cmpi .sge (Scalar.addi arg1 1#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off18 k0_t1) S1x1x8x512.size (k0_off18_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) a18) 0 slices_S128x512_o0_0_S128x128)) (k0_off17 k0_t1 1#32) S1x128x128.size (tile (unit0 k0_pay597 (select k0_pay597 (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0))))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1)))) (msk (Scalar.cmpi .sge (Scalar.addi arg1 1#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off18 k0_t1) S1x1x8x512.size (k0_off18_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) a18) 128 slices_S128x512_o0_128_S128x128)) (k0_off17 k0_t1 2#32) S1x128x128.size (tile (unit0 k0_pay597 (select k0_pay597 (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0))))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1)))) (msk (Scalar.cmpi .sge (Scalar.addi arg1 1#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off18 k0_t1) S1x1x8x512.size (k0_off18_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) a18) 256 slices_S128x512_o0_256_S128x128)) (k0_off17 k0_t1 3#32) S1x128x128.size (tile (unit0 k0_pay597 (select k0_pay597 (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 0#32) S1x128x128.size (k0_off19_inb i k0_t1 k0_h2 0 0)) (VecWindow.window a14 (k0_off19 i k0_t1 0#32 0#32) S1x128x128.size (k0_off19_inb i k0_t1 k0_h2 0 0))))) (msk (Scalar.cmpi .sge (Scalar.addi arg1 0#32) 4#32) (sc128 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1)))) (msk (Scalar.cmpi .sge (Scalar.addi arg1 1#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off17 k0_t1 0#32) S1x128x128.size (k0_off17_inb i k0_t1 k0_h2 0)) (VecWindow.window a8 (k0_off17 k0_t1 1#32) S1x128x128.size (k0_off17_inb i k0_t1 k0_h2 1)) (VecWindow.window a8 (k0_off17 k0_t1 2#32) S1x128x128.size (k0_off17_inb i k0_t1 k0_h2 2)) (VecWindow.window a8 (k0_off17 k0_t1 3#32) S1x128x128.size (k0_off17_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off18 k0_t1) S1x1x8x512.size (k0_off18_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) a18) 384 slices_S128x512_o0_384_S128x128)) (k0_off24 k0_t1 0#32) S1x128x128.size (tile (unit1 k0_pay597 (select k0_pay597 (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 128#32) S1x128x128.size (k0_off19_inb i k0_t1 k0_h2 1 1)) (VecWindow.window a14 (k0_off19 i k0_t1 4#32 128#32) S1x128x128.size (k0_off19_inb i k0_t1 k0_h2 1 1))) (msk (Scalar.cmpi .sge (Scalar.addi arg1 0#32) 4#32) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1))))) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 1#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off25 k0_t1) S1x1x8x512.size (k0_off25_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) x) 0 slices_S128x512_o0_0_S128x128)) (k0_off24 k0_t1 1#32) S1x128x128.size (tile (unit1 k0_pay597 (select k0_pay597 (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 128#32) S1x128x128.size (k0_off19_inb i k0_t1 k0_h2 1 1)) (VecWindow.window a14 (k0_off19 i k0_t1 4#32 128#32) S1x128x128.size (k0_off19_inb i k0_t1 k0_h2 1 1))) (msk (Scalar.cmpi .sge (Scalar.addi arg1 0#32) 4#32) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1))))) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 1#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off25 k0_t1) S1x1x8x512.size (k0_off25_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) x) 128 slices_S128x512_o0_128_S128x128)) (k0_off24 k0_t1 2#32) S1x128x128.size (tile (unit1 k0_pay597 (select k0_pay597 (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 128#32) S1x128x128.size (k0_off19_inb i k0_t1 k0_h2 1 1)) (VecWindow.window a14 (k0_off19 i k0_t1 4#32 128#32) S1x128x128.size (k0_off19_inb i k0_t1 k0_h2 1 1))) (msk (Scalar.cmpi .sge (Scalar.addi arg1 0#32) 4#32) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1))))) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 1#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off25 k0_t1) S1x1x8x512.size (k0_off25_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) x) 256 slices_S128x512_o0_256_S128x128)) (k0_off24 k0_t1 3#32) S1x128x128.size (tile (unit1 k0_pay597 (select k0_pay597 (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 128#32) S1x128x128.size (k0_off19_inb i k0_t1 k0_h2 1 1)) (VecWindow.window a14 (k0_off19 i k0_t1 4#32 128#32) S1x128x128.size (k0_off19_inb i k0_t1 k0_h2 1 1))) (msk (Scalar.cmpi .sge (Scalar.addi arg1 0#32) 4#32) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 0#32 128#32) S1x128x128.size (k0_off19_inb i k0_t1 k0_h2 0 1)) (VecWindow.window a14 (k0_off19 i k0_t1 0#32 128#32) S1x128x128.size (k0_off19_inb i k0_t1 k0_h2 0 1))))) (sc128 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off19 i k0_t1 4#32 0#32) S1x128x128.size (k0_off19_inb i k0_t1 k0_h2 1 0)) (VecWindow.window a14 (k0_off19 i k0_t1 4#32 0#32) S1x128x128.size (k0_off19_inb i k0_t1 k0_h2 1 0))) (msk (Scalar.cmpi .sge (Scalar.addi arg1 1#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 1#32) S1x256x128.size (k0_off20_inb i k0_t1 k0_h2 0)) (VecWindow.window a14 (k0_off20 i k0_t1 1#32) S1x256x128.size (k0_off20_inb i k0_t1 k0_h2 0)))) (msk (Scalar.cmpi .sge (Scalar.addi arg1 2#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 2#32) S1x256x128.size (k0_off20_inb i k0_t1 k0_h2 1)) (VecWindow.window a14 (k0_off20 i k0_t1 2#32) S1x256x128.size (k0_off20_inb i k0_t1 k0_h2 1)))) (msk (Scalar.cmpi .sge (Scalar.addi arg1 3#32) 4#32) (sc256 (k0_pay112 (VecWindow.window a8 (k0_off24 k0_t1 0#32) S1x128x128.size (k0_off24_inb i k0_t1 k0_h2 0)) (VecWindow.window a8 (k0_off24 k0_t1 1#32) S1x128x128.size (k0_off24_inb i k0_t1 k0_h2 1)) (VecWindow.window a8 (k0_off24 k0_t1 2#32) S1x128x128.size (k0_off24_inb i k0_t1 k0_h2 2)) (VecWindow.window a8 (k0_off24 k0_t1 3#32) S1x128x128.size (k0_off24_inb i k0_t1 k0_h2 3))) (VecWindow.window a13 (k0_off20 i k0_t1 3#32) S1x256x128.size (k0_off20_inb i k0_t1 k0_h2 2)) (VecWindow.window a14 (k0_off20 i k0_t1 3#32) S1x256x128.size (k0_off20_inb i k0_t1 k0_h2 2)))) (k0_pay113 (VecWindow.window a16 (k0_off25 k0_t1) S1x1x8x512.size (k0_off25_inb i k0_t1 k0_h2))) (VecWindow.window I.a6 (k0_off21 k0_t1) S1x8x512.size (k0_off21_inb i k0_t1 k0_h2)) (VecWindow.window I.a5 (k0_off22 k0_t1) S1x1x8x128.size (k0_off22_inb i k0_t1 k0_h2)) (VecWindow.window a15 (k0_off23 i k0_t1 0#32) S1x1x128x256.size (k0_off23_inb i k0_t1 k0_h2 0)) (VecWindow.window a15 (k0_off23 i k0_t1 1#32) S1x1x128x256.size (k0_off23_inb i k0_t1 k0_h2 1)) (VecWindow.window a15 (k0_off23 i k0_t1 2#32) S1x1x128x256.size (k0_off23_inb i k0_t1 k0_h2 2)) (VecWindow.window a15 (k0_off23 i k0_t1 3#32) S1x1x128x256.size (k0_off23_inb i k0_t1 k0_h2 3)) (VecWindow.window a15 (k0_off23 i k0_t1 4#32) S1x1x128x256.size (k0_off23_inb i k0_t1 k0_h2 4)) x) 384 slices_S128x512_o0_384_S128x128)) := by
  refine ⟨?_, ?_⟩
  rotate_left
  · simp only [s_t1_body, PM.bind_apply, PM.pure_apply, e_part1, e_part2, e_part3, e_part4, e_part5, e_part6, e_part7, e_part8, e_part9, e_part10, e_part11, e_part12, e_part13, e_part14, e_part15, e_part16, e_part17, e_part18, e_part19, e_part20, e_part21, e_part22]
    simp only [st7, ld7, PM.bind_apply, PM.pure_apply]
    simp -index only [VecWindow.window_put_same, winAB, winAC, winAD, winAE, winAG, winBA, winBC, winBD, winBE, winBG, winCA, winCB, winCD, winCE, winCG, winDA, winDB, winDC, winDE, winDG, winEA, winEB, winEC, winED, winEG, winGA, winGB, winGC, winGD, winGE]
    simp only [tr10_tc, tr10_ts, tr10_ta, tr10_tb, tr10_td, tr11_tc, tr11_ta, tr11_tb, tr11_td, tr11_ts]
    simp only [tr10_m, tr10_y24, tr10_y25, tr11_m, tr11_y82, tr11_y83]
    simp only [tr10_p000, tr10_p400, tr10_p01280, tr10_p100, tr10_p200, tr10_p300, tr10_p41280, tr10_fac, tr11_p01280, tr11_p41280, tr11_p100, tr11_p200, tr11_p300, tr11_p400, tr11_p000, tr11_fac]
    simp only [tr10_o0, tr10_o1, tr10_o2, tr10_o3, tr11_o0, tr11_o1, tr11_o2, tr11_o3]
    simp only [unit0, unit1, fin, pBuf0, pBuf1]
    rfl

end Cert.KernelIdeal.Run

end
-- ==== Proof.PI.TripAt1.lean ====
/-
  A trip of the first attention loop at an index of the result: the attention of the trip's head there, nothing elsewhere.
-/
module

public import proofs.«01_k».proof.Proof.PI.Pieces
public import proofs.«01_k».proof.Proof.PI.Trip1

@[expose] public section

set_option maxRecDepth 10000

noncomputable section

namespace Cert.KernelIdeal.Run

open Cert.KernelIdeal Cert.KernelIdeal.Gen
open Idealize.ShloMosaic Idealize.SL.Sem Cert.Spec

/-- The trip's number. -/
abbrev t1n (t : Fin k0_t1_loop.trips) : Fin 8 := ⟨t.val, lt_of_lt_of_le t.isLt k0_t1_abs.2.1⟩

theorem present_iff (i : grid0.Coords) : ∀ p : Fin 4, Scalar.cmpi .sge (Scalar.addi (BitVec.ofNat 32 (i 1).val) (BitVec.ofNat 32 p.val)) 4#32 = 1#1 ↔ 4 ≤ (i 1).val + p.val :=
  (by decide +kernel : ∀ (m : Fin 64) (p : Fin 4), Scalar.cmpi .sge (Scalar.addi (BitVec.ofNat 32 m.val) (BitVec.ofNat 32 p.val)) 4#32 = 1#1 ↔ 4 ≤ m.val + p.val) (i 1)

theorem trip1_at (I : In Ideal) (i : grid0.Coords) (v2264 : FVec Ideal S32x256 .f32) (v2621 : FVec Ideal S8x128 .f32) (v2622 : Vec Ideal S1x1x8x128 .f32) (hc : k0_cond2 i = 1#1) (t : Fin k0_t1_loop.trips) (σ : St Ideal)
    (s : Fin 2) (g : Fin 8) (j : Fin 4) (x d : Fin 128) (a : ℝ) (ha : 0 < a) (sk w : EReal)
    (hA : ∀ u, σ.a16 (ix4 s (t1n t) u (qcl j x)) = (a : EReal)) (hk : ∀ u, I.a6 (ix3 (t1n t) u (qcl j x)) = sk)
    (hw : ∀ u, I.a5 (ix4 0 (t1n t) u x) = w) :
    (s_t1_body I i (BitVec.ofNat 32 (i 1).val) v2264 v2621 v2622 hc t σ).2.a7 (ix3 0 (qrow s x) (hcol g j d)) = if g = t1n t then
      uVal (valOf σ.a15 (i 1).val (t1n t) d) (scOf (i 1).val s x fun p r =>
        rawOf σ.a13 σ.a14 (fun e => σ.a8 (ix3 0 (qrow s x) (hcol (t1n t) j e))) (t1n t) x (slot (i 1).val p) r) a sk w
      else σ.a7 (ix3 0 (qrow s x) (hcol g j d)) := by
  obtain ⟨a7, a8, a9, a10, a11, a12, a13, a14, a15, a16, a17, a18⟩ := σ
  obtain ⟨xx, e⟩ := trip1 I i (BitVec.ofNat 32 (i 1).val) v2264 v2621 v2622 hc t a7 a8 a9 a10 a11 a12 a13 a14 a15 a16 a17 a18
  refine (congrFun e _).trans ?_
  refine (put8 a7 _ _ _ _ _ _ _ _ _ _ (t1n t) (k0_off17_eq t 0) (k0_off17_eq t 1) (k0_off17_eq t 2) (k0_off17_eq t 3)
    (k0_off24_eq t 0) (k0_off24_eq t 1) (k0_off24_eq t 2) (k0_off24_eq t 3) s g j x d).trans ?_
  clear e
  refine if_congr Iff.rfl ?_ rfl
  rcases (by omega : s = 0 ∨ s = 1) with rfl | rfl
  · have hq : ∀ e, k0_pay112 (VecWindow.window a8 (k0_off17 t 0#32) S1x128x128.size (k0_off17_inb i t hc 0)) (VecWindow.window a8 (k0_off17 t 1#32) S1x128x128.size (k0_off17_inb i t hc 1))
        (VecWindow.window a8 (k0_off17 t 2#32) S1x128x128.size (k0_off17_inb i t hc 2)) (VecWindow.window a8 (k0_off17 t 3#32) S1x128x128.size (k0_off17_inb i t hc 3)) (ix2 (qcl j x) e)
          = a8 (ix3 0 (qrow 0 x) (hcol (t1n t) j e)) := fun e => by
      rw [pay112_apply]
      fin_cases j
      · exact q_win a8 _ _ 0 (t1n t) 0 (k0_off17_eq t 0) x e
      · exact q_win a8 _ _ 0 (t1n t) 1 (k0_off17_eq t 1) x e
      · exact q_win a8 _ _ 0 (t1n t) 2 (k0_off17_eq t 2) x e
      · exact q_win a8 _ _ 0 (t1n t) 3 (k0_off17_eq t 3) x e
    refine (unit0_apply (S := scOf (i 1).val 0 x fun p r => rawOf a13 a14 (fun e => a8 (ix3 0 (qrow 0 x) (hcol (t1n t) j e))) (t1n t) x (slot (i 1).val p) r)
      _ _ _ _ _ _ _ _ _ j x d (blk0 (fun x' => pay597_iff x' x j) (fun x' h => ?_) (fun x' h => ?_) (fun x' => ?_) (fun r => ?_) (fun r => ?_) (fun r => ?_)) a ha sk w (fun u => ?_) (fun u => ?_) (fun u => ?_)).trans ?_
    · rw [select_apply, if_pos h]
      exact sc128_win _ a13 a14 _ _ _ (t1n t) (slot (i 1).val 4) 0 (k0_off19_eq i t 1 0) j x _ _ (by simp) _ hq
    · rw [select_apply, if_neg h]
      exact (msk_apply _ _ _).trans (if_congr (present_iff i 0) (sc128_win _ a13 a14 _ _ _ (t1n t) (slot (i 1).val 0) 0 (k0_off19_eq i t 0 0) j x _ _ (by simp) _ hq) rfl)
    · exact (msk_apply _ _ _).trans (if_congr (present_iff i 0) (sc128_win _ a13 a14 _ _ _ (t1n t) (slot (i 1).val 0) 128 (k0_off19_eq i t 0 1) j x _ _ (by simp) _ hq) rfl)
    · exact (msk_apply _ _ _).trans (if_congr (present_iff i 1) (sc256_win _ a13 a14 _ _ _ (t1n t) (slot (i 1).val 1) (k0_off20_eq i t 0) j x _ _ hq) rfl)
    · exact (msk_apply _ _ _).trans (if_congr (present_iff i 2) (sc256_win _ a13 a14 _ _ _ (t1n t) (slot (i 1).val 2) (k0_off20_eq i t 1) j x _ _ hq) rfl)
    · exact (msk_apply _ _ _).trans (if_congr (present_iff i 3) (sc256_win _ a13 a14 _ _ _ (t1n t) (slot (i 1).val 3) (k0_off20_eq i t 2) j x _ _ hq) rfl)
    · refine (pay113_apply _ _ _).trans (Eq.trans ?_ (hA u))
      exact win_at a16 _ _ _ (k0_off18_eq t) _ _ (ix4 0 (t1n t) u (qcl j x)) fun b => by fin_cases b <;> simp [ix4]
    · refine Eq.trans ?_ (hk u)
      exact win_at I.a6 _ _ _ (k0_off21_eq t) _ _ (ix3 (t1n t) u (qcl j x)) fun b => by fin_cases b <;> simp [ix3]
    · refine Eq.trans ?_ (hw u)
      exact win_at I.a5 _ _ _ (k0_off22_eq t) _ _ (ix4 0 (t1n t) u x) fun b => by fin_cases b <;> simp [ix4]
    · refine congrArg (fun V => uVal V _ _ _ _) (funext fun p => funext fun r => ?_)
      fin_cases p
      · exact v_win a15 _ _ (t1n t) (slot (i 1).val 0) (k0_off23_eq i t 0) d r
      · exact v_win a15 _ _ (t1n t) (slot (i 1).val 1) (k0_off23_eq i t 1) d r
      · exact v_win a15 _ _ (t1n t) (slot (i 1).val 2) (k0_off23_eq i t 2) d r
      · exact v_win a15 _ _ (t1n t) (slot (i 1).val 3) (k0_off23_eq i t 3) d r
      · exact v_win a15 _ _ (t1n t) (slot (i 1).val 4) (k0_off23_eq i t 4) d r
  · have hq : ∀ e, k0_pay112 (VecWindow.window a8 (k0_off24 t 0#32) S1x128x128.size (k0_off24_inb i t hc 0)) (VecWindow.window a8 (k0_off24 t 1#32) S1x128x128.size (k0_off24_inb i t hc 1))
        (VecWindow.window a8 (k0_off24 t 2#32) S1x128x128.size (k0_off24_inb i t hc 2)) (VecWindow.window a8 (k0_off24 t 3#32) S1x128x128.size (k0_off24_inb i t hc 3)) (ix2 (qcl j x) e)
          = a8 (ix3 0 (qrow 1 x) (hcol (t1n t) j e)) := fun e => by
      rw [pay112_apply]
      fin_cases j
      · exact q_win a8 _ _ 1 (t1n t) 0 (k0_off24_eq t 0) x e
      · exact q_win a8 _ _ 1 (t1n t) 1 (k0_off24_eq t 1) x e
      · exact q_win a8 _ _ 1 (t1n t) 2 (k0_off24_eq t 2) x e
      · exact q_win a8 _ _ 1 (t1n t) 3 (k0_off24_eq t 3) x e
    refine (unit1_apply (S := scOf (i 1).val 1 x fun p r => rawOf a13 a14 (fun e => a8 (ix3 0 (qrow 1 x) (hcol (t1n t) j e))) (t1n t) x (slot (i 1).val p) r)
      _ _ _ _ _ _ _ _ _ j x d (blk1 (fun x' => pay597_iff x' x j) (fun x' h => ?_) (fun x' h => ?_) (fun x' => ?_) (fun r => ?_) (fun r => ?_) (fun r => ?_)) a ha sk w (fun u => ?_) (fun u => ?_) (fun u => ?_)).trans ?_
    · rw [select_apply, if_pos h]
      exact sc128_win _ a13 a14 _ _ _ (t1n t) (slot (i 1).val 4) 128 (k0_off19_eq i t 1 1) j x _ _ (by simp) _ hq
    · rw [select_apply, if_neg h]
      exact (msk_apply _ _ _).trans (if_congr (present_iff i 0) (sc128_win _ a13 a14 _ _ _ (t1n t) (slot (i 1).val 0) 128 (k0_off19_eq i t 0 1) j x _ _ (by simp) _ hq) rfl)
    · exact sc128_win _ a13 a14 _ _ _ (t1n t) (slot (i 1).val 4) 0 (k0_off19_eq i t 1 0) j x _ _ (by simp) _ hq
    · exact (msk_apply _ _ _).trans (if_congr (present_iff i 1) (sc256_win _ a13 a14 _ _ _ (t1n t) (slot (i 1).val 1) (k0_off20_eq i t 0) j x _ _ hq) rfl)
    · exact (msk_apply _ _ _).trans (if_congr (present_iff i 2) (sc256_win _ a13 a14 _ _ _ (t1n t) (slot (i 1).val 2) (k0_off20_eq i t 1) j x _ _ hq) rfl)
    · exact (msk_apply _ _ _).trans (if_congr (present_iff i 3) (sc256_win _ a13 a14 _ _ _ (t1n t) (slot (i 1).val 3) (k0_off20_eq i t 2) j x _ _ hq) rfl)
    · refine (pay113_apply _ _ _).trans (Eq.trans ?_ (hA u))
      exact win_at a16 _ _ _ (k0_off25_eq t) _ _ (ix4 1 (t1n t) u (qcl j x)) fun b => by fin_cases b <;> simp [ix4]
    · refine Eq.trans ?_ (hk u)
      exact win_at I.a6 _ _ _ (k0_off21_eq t) _ _ (ix3 (t1n t) u (qcl j x)) fun b => by fin_cases b <;> simp [ix3]
    · refine Eq.trans ?_ (hw u)
      exact win_at I.a5 _ _ _ (k0_off22_eq t) _ _ (ix4 0 (t1n t) u x) fun b => by fin_cases b <;> simp [ix4]
    · refine congrArg (fun V => uVal V _ _ _ _) (funext fun p => funext fun r => ?_)
      fin_cases p
      · exact v_win a15 _ _ (t1n t) (slot (i 1).val 0) (k0_off23_eq i t 0) d r
      · exact v_win a15 _ _ (t1n t) (slot (i 1).val 1) (k0_off23_eq i t 1) d r
      · exact v_win a15 _ _ (t1n t) (slot (i 1).val 2) (k0_off23_eq i t 2) d r
      · exact v_win a15 _ _ (t1n t) (slot (i 1).val 3) (k0_off23_eq i t 3) d r
      · exact v_win a15 _ _ (t1n t) (slot (i 1).val 4) (k0_off23_eq i t 4) d r

theorem trip1_off (I : In Ideal) (i : grid0.Coords) (v2264 : FVec Ideal S32x256 .f32) (v2621 : FVec Ideal S8x128 .f32) (v2622 : Vec Ideal S1x1x8x128 .f32) (hc : k0_cond2 i = 1#1) (t : Fin k0_t1_loop.trips) (σ : St Ideal)
    (s : Fin 2) (g : Fin 8) (j : Fin 4) (x d : Fin 128) (hg : g ≠ t1n t) :
    (s_t1_body I i (BitVec.ofNat 32 (i 1).val) v2264 v2621 v2622 hc t σ).2.a7 (ix3 0 (qrow s x) (hcol g j d)) = σ.a7 (ix3 0 (qrow s x) (hcol g j d)) := by
  obtain ⟨a7, a8, a9, a10, a11, a12, a13, a14, a15, a16, a17, a18⟩ := σ
  obtain ⟨xx, e⟩ := trip1 I i (BitVec.ofNat 32 (i 1).val) v2264 v2621 v2622 hc t a7 a8 a9 a10 a11 a12 a13 a14 a15 a16 a17 a18
  refine (congrFun e _).trans ?_
  exact (put8 a7 _ _ _ _ _ _ _ _ _ _ (t1n t) (k0_off17_eq t 0) (k0_off17_eq t 1) (k0_off17_eq t 2) (k0_off17_eq t 3)
    (k0_off24_eq t 0) (k0_off24_eq t 1) (k0_off24_eq t 2) (k0_off24_eq t 3) s g j x d).trans (if_neg hg)

end Cert.KernelIdeal.Run

end
-- ==== Proof.PI.StA.lean ====
/-
  A trip of each attention loop as two units' tiles written into the result's block: first what each stretch computes,
  in the units' own terms, then the trip.
-/
module

public import proofs.«01_k».proof.Proof.PI.Unit

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
theorem tr20_tc (v2653 : IVec S128x512 1) (L1 : Vec F S1x128x128 .fp8e4m3) (L2 : Vec F S1x128x128 .fp8e4m3) (L3 : Vec F S1x128x128 .fp8e4m3) (L4 : Vec F S1x128x128 .fp8e4m3) (L6 : Vec F S1x128x128 .fp8e4m3) (L7 : Vec F S1x128x128 .f32) (L8 : Vec F S1x128x128 .fp8e4m3) (L9 : Vec F S1x128x128 .f32)  :
    (k0_pay116 v2653 (k0_pay112 L1 L2 L3 L4) L6 L7 L8 L9) = (shapeCast S1x128x512 (select v2653 (sc128 (k0_pay112 L1 L2 L3 L4) L6 L7) (sc128 (k0_pay112 L1 L2 L3 L4) L8 L9)) shapeCasts_S128x512_S1x128x512) := by
  rfl
set_option maxRecDepth 20000 in
theorem tr20_ts (L1 : Vec F S1x128x128 .fp8e4m3) (L2 : Vec F S1x128x128 .fp8e4m3) (L3 : Vec F S1x128x128 .fp8e4m3) (L4 : Vec F S1x128x128 .fp8e4m3) (L10 : Vec F S1x128x128 .fp8e4m3) (L11 : Vec F S1x128x128 .f32)  :
    (k0_pay118 (k0_pay112 L1 L2 L3 L4) L10 L11) = (shapeCast S1x128x512 (sc128 (k0_pay112 L1 L2 L3 L4) L10 L11) shapeCasts_S128x512_S1x128x512) := by
  rfl
set_option maxRecDepth 20000 in
theorem tr20_ta (L1 : Vec F S1x128x128 .fp8e4m3) (L2 : Vec F S1x128x128 .fp8e4m3) (L3 : Vec F S1x128x128 .fp8e4m3) (L4 : Vec F S1x128x128 .fp8e4m3) (L12 : Vec F S1x256x128 .fp8e4m3) (L13 : Vec F S1x256x128 .f32)  :
    (k0_pay122 (k0_pay120 (k0_pay112 L1 L2 L3 L4) L12) L13) = (shapeCast S1x256x512 (sc256 (k0_pay112 L1 L2 L3 L4) L12 L13) shapeCasts_S256x512_S1x256x512) := by
  rfl
set_option maxRecDepth 20000 in
theorem tr20_tb (L1 : Vec F S1x128x128 .fp8e4m3) (L2 : Vec F S1x128x128 .fp8e4m3) (L3 : Vec F S1x128x128 .fp8e4m3) (L4 : Vec F S1x128x128 .fp8e4m3) (L14 : Vec F S1x256x128 .fp8e4m3) (L15 : Vec F S1x256x128 .f32)  :
    (k0_pay124 (k0_pay112 L1 L2 L3 L4) L14 L15) = (shapeCast S1x256x512 (sc256 (k0_pay112 L1 L2 L3 L4) L14 L15) shapeCasts_S256x512_S1x256x512) := by
  rfl
set_option maxRecDepth 20000 in
theorem tr20_td (L1 : Vec F S1x128x128 .fp8e4m3) (L2 : Vec F S1x128x128 .fp8e4m3) (L3 : Vec F S1x128x128 .fp8e4m3) (L4 : Vec F S1x128x128 .fp8e4m3) (L16 : Vec F S1x256x128 .fp8e4m3) (L17 : Vec F S1x256x128 .f32)  :
    (k0_pay127 (k0_pay112 L1 L2 L3 L4) L16 L17) = (shapeCast S1x256x512 (sc256 (k0_pay112 L1 L2 L3 L4) L16 L17) shapeCasts_S256x512_S1x256x512) := by
  rfl
set_option maxRecDepth 20000 in
theorem tr20_m (v2653 : IVec S128x512 1) (L1 : Vec F S1x128x128 .fp8e4m3) (L2 : Vec F S1x128x128 .fp8e4m3) (L3 : Vec F S1x128x128 .fp8e4m3) (L4 : Vec F S1x128x128 .fp8e4m3) (L5 : Vec F S1x1x8x512 .f32) (L6 : Vec F S1x128x128 .fp8e4m3) (L7 : Vec F S1x128x128 .f32) (L8 : Vec F S1x128x128 .fp8e4m3) (L9 : Vec F S1x128x128 .f32) (L10 : Vec F S1x128x128 .fp8e4m3) (L11 : Vec F S1x128x128 .f32) (L12 : Vec F S1x256x128 .fp8e4m3) (L13 : Vec F S1x256x128 .f32) (L14 : Vec F S1x256x128 .fp8e4m3) (L15 : Vec F S1x256x128 .f32) (L16 : Vec F S1x256x128 .fp8e4m3) (L17 : Vec F S1x256x128 .f32) (L18 : Vec F S1x8x512 .f32)  :
    (k0_pay130 (k0_pay112 L1 L2 L3 L4) (k0_pay113 L5) (k0_pay125 (k0_pay112 L1 L2 L3 L4) (k0_pay119 (k0_pay112 L1 L2 L3 L4) (k0_pay115 v2653 (k0_pay112 L1 L2 L3 L4) L6 L7 L8 L9) L10 L11) (k0_pay120 (k0_pay112 L1 L2 L3 L4) L12) L13 L14 L15) L16 L17 L18) = (maximumf (mulf (mAll0 (select v2653 (sc128 (k0_pay112 L1 L2 L3 L4) L6 L7) (sc128 (k0_pay112 L1 L2 L3 L4) L8 L9)) (sc128 (k0_pay112 L1 L2 L3 L4) L10 L11) (sc256 (k0_pay112 L1 L2 L3 L4) L12 L13) (sc256 (k0_pay112 L1 L2 L3 L4) L14 L15) (sc256 (k0_pay112 L1 L2 L3 L4) L16 L17)) (k0_pay113 L5)) (k0_pay128 L18)) := by
  rfl
set_option maxRecDepth 20000 in
theorem tr20_y131 (v2653 : IVec S128x512 1) (L1 : Vec F S1x128x128 .fp8e4m3) (L2 : Vec F S1x128x128 .fp8e4m3) (L3 : Vec F S1x128x128 .fp8e4m3) (L4 : Vec F S1x128x128 .fp8e4m3) (L5 : Vec F S1x1x8x512 .f32) (L6 : Vec F S1x128x128 .fp8e4m3) (L7 : Vec F S1x128x128 .f32) (L8 : Vec F S1x128x128 .fp8e4m3) (L9 : Vec F S1x128x128 .f32) (L10 : Vec F S1x128x128 .fp8e4m3) (L11 : Vec F S1x128x128 .f32) (L12 : Vec F S1x256x128 .fp8e4m3) (L13 : Vec F S1x256x128 .f32) (L14 : Vec F S1x256x128 .fp8e4m3) (L15 : Vec F S1x256x128 .f32) (L16 : Vec F S1x256x128 .fp8e4m3) (L17 : Vec F S1x256x128 .f32) (L18 : Vec F S1x8x512 .f32)  :
    (k0_pay131 (k0_pay112 L1 L2 L3 L4) (k0_pay113 L5) (k0_pay125 (k0_pay112 L1 L2 L3 L4) (k0_pay119 (k0_pay112 L1 L2 L3 L4) (k0_pay115 v2653 (k0_pay112 L1 L2 L3 L4) L6 L7 L8 L9) L10 L11) (k0_pay120 (k0_pay112 L1 L2 L3 L4) L12) L13 L14 L15) L16 L17 L18) = (yOf (mulf (mAll0 (select v2653 (sc128 (k0_pay112 L1 L2 L3 L4) L6 L7) (sc128 (k0_pay112 L1 L2 L3 L4) L8 L9)) (sc128 (k0_pay112 L1 L2 L3 L4) L10 L11) (sc256 (k0_pay112 L1 L2 L3 L4) L12 L13) (sc256 (k0_pay112 L1 L2 L3 L4) L14 L15) (sc256 (k0_pay112 L1 L2 L3 L4) L16 L17)) (k0_pay113 L5)) (maximumf (mulf (mAll0 (select v2653 (sc128 (k0_pay112 L1 L2 L3 L4) L6 L7) (sc128 (k0_pay112 L1 L2 L3 L4) L8 L9)) (sc128 (k0_pay112 L1 L2 L3 L4) L10 L11) (sc256 (k0_pay112 L1 L2 L3 L4) L12 L13) (sc256 (k0_pay112 L1 L2 L3 L4) L14 L15) (sc256 (k0_pay112 L1 L2 L3 L4) L16 L17)) (k0_pay113 L5)) (k0_pay128 L18))) := by
  rfl
set_option maxRecDepth 20000 in
theorem tr20_p000 (v2653 : IVec S128x512 1) (L5 : Vec F S1x1x8x512 .f32) (m2 : FVec F S8x512 .f32) (y : FVec F S8x512 .f32) (tc : FVec F S128x512 .f32) :
    (k0_pay140 v2653 (k0_pay113 L5) m2 y (iota .tc S8x512x256 32 [2] iota_S8x512x256_d2_w32) (k0_pay132 (F := F)) k0_pay133 (shapeCast S1x128x512 tc shapeCasts_S128x512_S1x128x512)) = pOld v2653 (pr128 (k0_pay113 L5) (shOf m2 y) tc) := by
  rfl
set_option maxRecDepth 20000 in
theorem tr20_p400 (v2653 : IVec S128x512 1) (L5 : Vec F S1x1x8x512 .f32) (m2 : FVec F S8x512 .f32) (y : FVec F S8x512 .f32) (tc : FVec F S128x512 .f32) :
    (k0_pay142 (k0_pay141 v2653 (k0_pay113 L5) m2 y (iota .tc S8x512x256 32 [2] iota_S8x512x256_d2_w32) (k0_pay132 (F := F)) k0_pay133 (shapeCast S1x128x512 tc shapeCasts_S128x512_S1x128x512))) = pNew v2653 (pr128 (k0_pay113 L5) (shOf m2 y) tc) := by
  rfl
set_option maxRecDepth 20000 in
theorem tr20_p01280 (L5 : Vec F S1x1x8x512 .f32) (m2 : FVec F S8x512 .f32) (y : FVec F S8x512 .f32) (tc : FVec F S128x512 .f32) (ts : FVec F S128x512 .f32) :
    (k0_pay144 (k0_pay113 L5) (k0_pay136 m2 y (iota .tc S8x512x256 32 [2] iota_S8x512x256_d2_w32) (k0_pay132 (F := F)) k0_pay133) (shapeCast S1x128x512 ts shapeCasts_S128x512_S1x128x512)) = pAll128 (pr128 (k0_pay113 L5) (shOf m2 y) ts) := by
  rfl
set_option maxRecDepth 20000 in
theorem tr20_p100 (L5 : Vec F S1x1x8x512 .f32) (m2 : FVec F S8x512 .f32) (y : FVec F S8x512 .f32) (tc : FVec F S128x512 .f32) (ta : FVec F S256x512 .f32) :
    (k0_pay148 (k0_pay147 (k0_pay113 L5) (k0_pay136 m2 y (iota .tc S8x512x256 32 [2] iota_S8x512x256_d2_w32) (k0_pay132 (F := F)) k0_pay133) (shapeCast S1x256x512 ta shapeCasts_S256x512_S1x256x512))) = pAll256 (pr256 (k0_pay113 L5) (shOf m2 y) ta) := by
  rfl
set_option maxRecDepth 20000 in
theorem tr20_p200 (L5 : Vec F S1x1x8x512 .f32) (m2 : FVec F S8x512 .f32) (y : FVec F S8x512 .f32) (tc : FVec F S128x512 .f32) (tb : FVec F S256x512 .f32) :
    (k0_pay150 (k0_pay113 L5) (k0_pay136 m2 y (iota .tc S8x512x256 32 [2] iota_S8x512x256_d2_w32) (k0_pay132 (F := F)) k0_pay133) (shapeCast S1x256x512 tb shapeCasts_S256x512_S1x256x512)) = pAll256 (pr256 (k0_pay113 L5) (shOf m2 y) tb) := by
  rfl
set_option maxRecDepth 20000 in
theorem tr20_p300 (L5 : Vec F S1x1x8x512 .f32) (m2 : FVec F S8x512 .f32) (y : FVec F S8x512 .f32) (tc : FVec F S128x512 .f32) (td : FVec F S256x512 .f32) :
    (k0_pay153 (k0_pay113 L5) (k0_pay136 m2 y (iota .tc S8x512x256 32 [2] iota_S8x512x256_d2_w32) (k0_pay132 (F := F)) k0_pay133) (shapeCast S1x256x512 td shapeCasts_S256x512_S1x256x512)) = pAll256 (pr256 (k0_pay113 L5) (shOf m2 y) td) := by
  rfl
set_option maxRecDepth 20000 in
theorem tr20_p41280   :
    (k0_pay154 (Scalar.ofBits .fp8e4m3 0x00#8)) = pNone (F := F) := by
  rfl
set_option maxRecDepth 20000 in
theorem tr20_fac (L5 : Vec F S1x1x8x512 .f32) (L18 : Vec F S1x8x512 .f32) (L26 : Vec F S1x1x8x128 .f32) (m2 : FVec F S8x512 .f32) (y : FVec F S8x512 .f32) (tc : FVec F S128x512 .f32) (ts : FVec F S128x512 .f32) (ta : FVec F S256x512 .f32) (tb : FVec F S256x512 .f32) (td : FVec F S256x512 .f32) :
    (k0_pay155 (k0_pay128 L18) m2 (k0_pay135 y (iota .tc S8x512x256 32 [2] iota_S8x512x256_d2_w32) (k0_pay132 (F := F)) k0_pay133) (k0_pay152 (k0_pay113 L5) (k0_pay136 m2 y (iota .tc S8x512x256 32 [2] iota_S8x512x256_d2_w32) (k0_pay132 (F := F)) k0_pay133) (k0_pay146 (k0_pay113 L5) (k0_pay136 m2 y (iota .tc S8x512x256 32 [2] iota_S8x512x256_d2_w32) (k0_pay132 (F := F)) k0_pay133) (k0_pay138 (k0_pay113 L5) m2 y (iota .tc S8x512x256 32 [2] iota_S8x512x256_d2_w32) (k0_pay132 (F := F)) k0_pay133 (shapeCast S1x128x512 tc shapeCasts_S128x512_S1x128x512)) (shapeCast S1x128x512 ts shapeCasts_S128x512_S1x128x512) (shapeCast S1x256x512 ta shapeCasts_S256x512_S1x256x512)) (shapeCast S1x256x512 tb shapeCasts_S256x512_S1x256x512) (shapeCast S1x256x512 td shapeCasts_S256x512_S1x256x512)) L26) = k0_pay155 (k0_pay128 L18) m2 (psOf y) (lAll0 tc ts ta tb td (k0_pay113 L5) (shOf m2 y)) L26 := by
  rfl
set_option maxRecDepth 20000 in
theorem tr20_o0 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay159 fac (k0_pay156 L27) (k0_pay157 L28) L29 L30 L31 L32) = tile (k0_pay158 fac (k0_pay156 L27) (k0_pay157 L28) L29 L30 L31 L32) 0 slices_S128x512_o0_0_S128x128 := by
  rfl
set_option maxRecDepth 20000 in
theorem tr20_o1 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay160 (k0_pay158 fac (k0_pay156 L27) (k0_pay157 L28) L29 L30 L31 L32)) = tile (k0_pay158 fac (k0_pay156 L27) (k0_pay157 L28) L29 L30 L31 L32) 128 slices_S128x512_o0_128_S128x128 := by
  rfl
set_option maxRecDepth 20000 in
theorem tr20_o2 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay161 (k0_pay158 fac (k0_pay156 L27) (k0_pay157 L28) L29 L30 L31 L32)) = tile (k0_pay158 fac (k0_pay156 L27) (k0_pay157 L28) L29 L30 L31 L32) 256 slices_S128x512_o0_256_S128x128 := by
  rfl
set_option maxRecDepth 20000 in
theorem tr20_o3 (L27 : Vec F S1x1x128x256 .fp8e4m3) (L28 : Vec F S1x1x128x256 .fp8e4m3) (L29 : Vec F S1x1x128x256 .fp8e4m3) (L30 : Vec F S1x1x128x256 .fp8e4m3) (L31 : Vec F S1x1x128x256 .fp8e4m3) (L32 : Vec F S5x256x512 .fp8e4m3) (fac : FVec F S8x512 .f32) :
    (k0_pay162 (k0_pay158 fac (k0_pay156 L27) (k0_pay157 L28) L29 L30 L31 L32)) = tile (k0_pay158 fac (k0_pay156 L27) (k0_pay157 L28) L29 L30 L31 L32) 384 slices_S128x512_o0_384_S128x128 := by
  rfl
end Cert.KernelIdeal.Run

end
-- ==== Proof.PI.StB.lean ====
/-
  A trip of each attention loop as two units' tiles written into the result's block: first what each stretch computes,
  in the units' own terms, then the trip.
-/
module

public import proofs.«01_k».proof.Proof.PI.Unit

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
theorem tr21_tc (v2653 : IVec S128x512 1) (L37 : Vec F S1x128x128 .fp8e4m3) (L38 : Vec F S1x128x128 .fp8e4m3) (L39 : Vec F S1x128x128 .fp8e4m3) (L40 : Vec F S1x128x128 .fp8e4m3) (L42 : Vec F S1x128x128 .fp8e4m3) (L43 : Vec F S1x128x128 .f32) (L44 : Vec F S1x128x128 .fp8e4m3) (L45 : Vec F S1x128x128 .f32)  :
    (k0_pay169 v2653 (k0_pay164 (k0_pay163 L37) L38 L39 L40) (k0_pay166 (k0_pay163 L37) L38 L39 L40 L42) L43 L44 L45) = (shapeCast S1x128x512 (select v2653 (sc128 (k0_pay112 L37 L38 L39 L40) L42 L43) (sc128 (k0_pay112 L37 L38 L39 L40) L44 L45)) shapeCasts_S128x512_S1x128x512) := by
  rfl
set_option maxRecDepth 20000 in
theorem tr21_ta (L37 : Vec F S1x128x128 .fp8e4m3) (L38 : Vec F S1x128x128 .fp8e4m3) (L39 : Vec F S1x128x128 .fp8e4m3) (L40 : Vec F S1x128x128 .fp8e4m3) (L46 : Vec F S1x256x128 .fp8e4m3) (L47 : Vec F S1x256x128 .f32)  :
    (k0_pay171 (k0_pay164 (k0_pay163 L37) L38 L39 L40) L46 L47) = (shapeCast S1x256x512 (sc256 (k0_pay112 L37 L38 L39 L40) L46 L47) shapeCasts_S256x512_S1x256x512) := by
  rfl
set_option maxRecDepth 20000 in
theorem tr21_tb (L37 : Vec F S1x128x128 .fp8e4m3) (L38 : Vec F S1x128x128 .fp8e4m3) (L39 : Vec F S1x128x128 .fp8e4m3) (L40 : Vec F S1x128x128 .fp8e4m3) (L48 : Vec F S1x256x128 .fp8e4m3) (L49 : Vec F S1x256x128 .f32)  :
    (k0_pay174 (k0_pay164 (k0_pay163 L37) L38 L39 L40) L48 L49) = (shapeCast S1x256x512 (sc256 (k0_pay112 L37 L38 L39 L40) L48 L49) shapeCasts_S256x512_S1x256x512) := by
  rfl
set_option maxRecDepth 20000 in
theorem tr21_td (L37 : Vec F S1x128x128 .fp8e4m3) (L38 : Vec F S1x128x128 .fp8e4m3) (L39 : Vec F S1x128x128 .fp8e4m3) (L40 : Vec F S1x128x128 .fp8e4m3) (L50 : Vec F S1x256x128 .fp8e4m3) (L51 : Vec F S1x256x128 .f32)  :
    (k0_pay177 (k0_pay164 (k0_pay163 L37) L38 L39 L40) L50 L51) = (shapeCast S1x256x512 (sc256 (k0_pay112 L37 L38 L39 L40) L50 L51) shapeCasts_S256x512_S1x256x512) := by
  rfl
set_option maxRecDepth 20000 in
theorem tr21_ts (L37 : Vec F S1x128x128 .fp8e4m3) (L38 : Vec F S1x128x128 .fp8e4m3) (L39 : Vec F S1x128x128 .fp8e4m3) (L40 : Vec F S1x128x128 .fp8e4m3) (L52 : Vec F S1x128x128 .fp8e4m3) (L53 : Vec F S1x128x128 .f32)  :
    (k0_pay181 (k0_pay179 (k0_pay164 (k0_pay163 L37) L38 L39 L40) L52) L53) = (shapeCast S1x128x512 (sc128 (k0_pay112 L37 L38 L39 L40) L52 L53) shapeCasts_S128x512_S1x128x512) := by
  rfl
set_option maxRecDepth 20000 in
theorem tr21_m (v2653 : IVec S128x512 1) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay184 (k0_pay165 L41) (k0_pay178 (k0_pay164 (k0_pay163 L37) L38 L39 L40) (k0_pay172 (k0_pay164 (k0_pay163 L37) L38 L39 L40) (k0_pay168 v2653 (k0_pay164 (k0_pay163 L37) L38 L39 L40) (k0_pay166 (k0_pay163 L37) L38 L39 L40 L42) L43 L44 L45) L46 L47) (k0_pay175 (k0_pay164 (k0_pay163 L37) L38 L39 L40) L48 L49) L50 L51) (k0_pay179 (k0_pay164 (k0_pay163 L37) L38 L39 L40) L52) L53 L54) = (maximumf (mulf (mAll1 (select v2653 (sc128 (k0_pay112 L37 L38 L39 L40) L42 L43) (sc128 (k0_pay112 L37 L38 L39 L40) L44 L45)) (sc128 (k0_pay112 L37 L38 L39 L40) L52 L53) (sc256 (k0_pay112 L37 L38 L39 L40) L46 L47) (sc256 (k0_pay112 L37 L38 L39 L40) L48 L49) (sc256 (k0_pay112 L37 L38 L39 L40) L50 L51)) (k0_pay113 L41)) (k0_pay128 L54)) := by
  rfl
set_option maxRecDepth 20000 in
theorem tr21_y186 (v2653 : IVec S128x512 1) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay186 (k0_pay165 L41) (k0_pay178 (k0_pay164 (k0_pay163 L37) L38 L39 L40) (k0_pay172 (k0_pay164 (k0_pay163 L37) L38 L39 L40) (k0_pay168 v2653 (k0_pay164 (k0_pay163 L37) L38 L39 L40) (k0_pay166 (k0_pay163 L37) L38 L39 L40 L42) L43 L44 L45) L46 L47) (k0_pay175 (k0_pay164 (k0_pay163 L37) L38 L39 L40) L48 L49) L50 L51) (k0_pay179 (k0_pay164 (k0_pay163 L37) L38 L39 L40) L52) L53 L54) = (eqW (yOf (mulf (mAll1 (select v2653 (sc128 (k0_pay112 L37 L38 L39 L40) L42 L43) (sc128 (k0_pay112 L37 L38 L39 L40) L44 L45)) (sc128 (k0_pay112 L37 L38 L39 L40) L52 L53) (sc256 (k0_pay112 L37 L38 L39 L40) L46 L47) (sc256 (k0_pay112 L37 L38 L39 L40) L48 L49) (sc256 (k0_pay112 L37 L38 L39 L40) L50 L51)) (k0_pay113 L41)) (maximumf (mulf (mAll1 (select v2653 (sc128 (k0_pay112 L37 L38 L39 L40) L42 L43) (sc128 (k0_pay112 L37 L38 L39 L40) L44 L45)) (sc128 (k0_pay112 L37 L38 L39 L40) L52 L53) (sc256 (k0_pay112 L37 L38 L39 L40) L46 L47) (sc256 (k0_pay112 L37 L38 L39 L40) L48 L49) (sc256 (k0_pay112 L37 L38 L39 L40) L50 L51)) (k0_pay113 L41)) (k0_pay128 L54)))) := by
  rfl
set_option maxRecDepth 20000 in
theorem tr21_y187 (v2653 : IVec S128x512 1) (L37 : Vec F S1x128x128 .fp8e4m3) (L38 : Vec F S1x128x128 .fp8e4m3) (L39 : Vec F S1x128x128 .fp8e4m3) (L40 : Vec F S1x128x128 .fp8e4m3) (L41 : Vec F S1x1x8x512 .f32) (L42 : Vec F S1x128x128 .fp8e4m3) (L43 : Vec F S1x128x128 .f32) (L44 : Vec F S1x128x128 .fp8e4m3) (L45 : Vec F S1x128x128 .f32) (L46 : Vec F S1x256x128 .fp8e4m3) (L47 : Vec F S1x256x128 .f32) (L48 : Vec F S1x256x128 .fp8e4m3) (L49 : Vec F S1x256x128 .f32) (L50 : Vec F S1x256x128 .fp8e4m3) (L51 : Vec F S1x256x128 .f32) (L52 : Vec F S1x128x128 .fp8e4m3) (L53 : Vec F S1x128x128 .f32) (L54 : Vec F S1x8x512 .f32)  :
    (k0_pay187 (k0_pay165 L41) (k0_pay178 (k0_pay164 (k0_pay163 L37) L38 L39 L40) (k0_pay172 (k0_pay164 (k0_pay163 L37) L38 L39 L40) (k0_pay168 v2653 (k0_pay164 (k0_pay163 L37) L38 L39 L40) (k0_pay166 (k0_pay163 L37) L38 L39 L40 L42) L43 L44 L45) L46 L47) (k0_pay175 (k0_pay164 (k0_pay163 L37) L38 L39 L40) L48 L49) L50 L51) (k0_pay179 (k0_pay164 (k0_pay163 L37) L38 L39 L40) L52) L53 L54) = (subW (yOf (mulf (mAll1 (select v2653 (sc128 (k0_pay112 L37 L38 L39 L40) L42 L43) (sc128 (k0_pay112 L37 L38 L39 L40) L44 L45)) (sc128 (k0_pay112 L37 L38 L39 L40) L52 L53) (sc256 (k0_pay112 L37 L38 L39 L40) L46 L47) (sc256 (k0_pay112 L37 L38 L39 L40) L48 L49) (sc256 (k0_pay112 L37 L38 L39 L40) L50 L51)) (k0_pay113 L41)) (maximumf (mulf (mAll1 (select v2653 (sc128 (k0_pay112 L37 L38 L39 L40) L42 L43) (sc128 (k0_pay112 L37 L38 L39 L40) L44 L45)) (sc128 (k0_pay112 L37 L38 L39 L40) L52 L53) (sc256 (k0_pay112 L37 L38 L39 L40) L46 L47) (sc256 (k0_pay112 L37 L38 L39 L40) L48 L49) (sc256 (k0_pay112 L37 L38 L39 L40) L50 L51)) (k0_pay113 L41)) (k0_pay128 L54)))) := by
  rfl
set_option maxRecDepth 20000 in
theorem tr21_p01280 (v2653 : IVec S128x512 1) (L41 : Vec F S1x1x8x512 .f32) (m2 : FVec F S8x512 .f32) (y : FVec F S8x512 .f32) (tc : FVec F S128x512 .f32) :
    (k0_pay194 v2653 (k0_pay165 L41) m2 (eqW y) (subW y) (shapeCast S1x128x512 tc shapeCasts_S128x512_S1x128x512)) = pOld v2653 (pr128 (k0_pay113 L41) (shOf m2 y) tc) := by
  rfl
set_option maxRecDepth 20000 in
theorem tr21_p41280 (v2653 : IVec S128x512 1) (L41 : Vec F S1x1x8x512 .f32) (m2 : FVec F S8x512 .f32) (y : FVec F S8x512 .f32) (tc : FVec F S128x512 .f32) :
    (k0_pay195 v2653 (k0_pay165 L41) m2 (eqW y) (subW y) (shapeCast S1x128x512 tc shapeCasts_S128x512_S1x128x512)) = pNew v2653 (pr128 (k0_pay113 L41) (shOf m2 y) tc) := by
  rfl
set_option maxRecDepth 20000 in
theorem tr21_p100 (L41 : Vec F S1x1x8x512 .f32) (m2 : FVec F S8x512 .f32) (y : FVec F S8x512 .f32) (ta : FVec F S256x512 .f32) :
    (k0_pay199 (k0_pay190 m2 (eqW y) (subW y)) (k0_pay196 (shapeCast S1x256x512 ta shapeCasts_S256x512_S1x256x512)) (k0_pay197 (k0_pay165 L41))) = pAll256 (pr256 (k0_pay113 L41) (shOf m2 y) ta) := by
  rfl
set_option maxRecDepth 20000 in
theorem tr21_p200 (L41 : Vec F S1x1x8x512 .f32) (m2 : FVec F S8x512 .f32) (y : FVec F S8x512 .f32) (tb : FVec F S256x512 .f32) :
    (k0_pay202 (k0_pay165 L41) (k0_pay190 m2 (eqW y) (subW y)) (shapeCast S1x256x512 tb shapeCasts_S256x512_S1x256x512)) = pAll256 (pr256 (k0_pay113 L41) (shOf m2 y) tb) := by
  rfl
set_option maxRecDepth 20000 in
theorem tr21_p300 (L41 : Vec F S1x1x8x512 .f32) (m2 : FVec F S8x512 .f32) (y : FVec F S8x512 .f32) (td : FVec F S256x512 .f32) :
    (k0_pay206 (k0_pay203 (k0_pay165 L41) (shapeCast S1x256x512 td shapeCasts_S256x512_S1x256x512)) (k0_pay204 (k0_pay190 m2 (eqW y) (subW y)))) = pAll256 (pr256 (k0_pay113 L41) (shOf m2 y) td) := by
  rfl
set_option maxRecDepth 20000 in
theorem tr21_p400 (L41 : Vec F S1x1x8x512 .f32) (m2 : FVec F S8x512 .f32) (y : FVec F S8x512 .f32) (ts : FVec F S128x512 .f32) :
    (k0_pay208 (k0_pay165 L41) (k0_pay190 m2 (eqW y) (subW y)) (shapeCast S1x128x512 ts shapeCasts_S128x512_S1x128x512)) = pAll128 (pr128 (k0_pay113 L41) (shOf m2 y) ts) := by
  rfl
set_option maxRecDepth 20000 in
theorem tr21_p000   :
    (k0_pay209 (F := F)) = pNone (F := F) := by
  rfl
set_option maxRecDepth 20000 in
theorem tr21_fac (L41 : Vec F S1x1x8x512 .f32) (L54 : Vec F S1x8x512 .f32) (L62 : Vec F S1x1x8x128 .f32) (m2 : FVec F S8x512 .f32) (y : FVec F S8x512 .f32) (tc : FVec F S128x512 .f32) (ts : FVec F S128x512 .f32) (ta : FVec F S256x512 .f32) (tb : FVec F S256x512 .f32) (td : FVec F S256x512 .f32) :
    (k0_pay211 (k0_pay182 L54) m2 (k0_pay189 (F := F) (eqW y) (subW y)) (k0_pay210 (k0_pay165 L41) (k0_pay189 (F := F) (eqW y) (subW y)) (k0_pay190 m2 (eqW y) (subW y)) (k0_pay201 (k0_pay165 L41) (k0_pay190 m2 (eqW y) (subW y)) (k0_pay192 (k0_pay165 L41) m2 (eqW y) (subW y) (shapeCast S1x128x512 tc shapeCasts_S128x512_S1x128x512)) (k0_pay196 (shapeCast S1x256x512 ta shapeCasts_S256x512_S1x256x512)) (k0_pay197 (k0_pay165 L41)) (shapeCast S1x256x512 tb shapeCasts_S256x512_S1x256x512)) (k0_pay203 (k0_pay165 L41) (shapeCast S1x256x512 td shapeCasts_S256x512_S1x256x512)) (k0_pay204 (k0_pay190 m2 (eqW y) (subW y))) (shapeCast S1x128x512 ts shapeCasts_S128x512_S1x128x512)) L62) = k0_pay155 (k0_pay128 L54) m2 (psOf y) (lAll1 tc ts ta tb td (k0_pay113 L41) (shOf m2 y)) L62 := by
  rfl
set_option maxRecDepth 20000 in
theorem tr21_o0 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay217 fac (k0_pay212 L63) (k0_pay213 L64) (k0_pay214 L65) (k0_pay215 L66) L67 L68) = tile (k0_pay158 fac (k0_pay156 L63) (k0_pay157 L64) L65 L66 L67 L68) 0 slices_S128x512_o0_0_S128x128 := by
  rfl
set_option maxRecDepth 20000 in
theorem tr21_o1 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay218 fac (k0_pay212 L63) (k0_pay213 L64) (k0_pay214 L65) (k0_pay215 L66) L67 L68) = tile (k0_pay158 fac (k0_pay156 L63) (k0_pay157 L64) L65 L66 L67 L68) 128 slices_S128x512_o0_128_S128x128 := by
  rfl
set_option maxRecDepth 20000 in
theorem tr21_o2 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay1 (k0_pay216 fac (k0_pay212 L63) (k0_pay213 L64) (k0_pay214 L65) (k0_pay215 L66) L67 L68)) = tile (k0_pay158 fac (k0_pay156 L63) (k0_pay157 L64) L65 L66 L67 L68) 256 slices_S128x512_o0_256_S128x128 := by
  rfl
set_option maxRecDepth 20000 in
theorem tr21_o3 (L63 : Vec F S1x1x128x256 .fp8e4m3) (L64 : Vec F S1x1x128x256 .fp8e4m3) (L65 : Vec F S1x1x128x256 .fp8e4m3) (L66 : Vec F S1x1x128x256 .fp8e4m3) (L67 : Vec F S1x1x128x256 .fp8e4m3) (L68 : Vec F S5x256x512 .fp8e4m3) (fac : FVec F S8x512 .f32) :
    (k0_pay2 (k0_pay216 fac (k0_pay212 L63) (k0_pay213 L64) (k0_pay214 L65) (k0_pay215 L66) L67 L68)) = tile (k0_pay158 fac (k0_pay156 L63) (k0_pay157 L64) L65 L66 L67 L68) 384 slices_S128x512_o0_384_S128x128 := by
  rfl
end Cert.KernelIdeal.Run

end
-- ==== Proof.PI.Trip2.lean ====
/-
  A trip of each attention loop as two units' tiles written into the result's block: first what each stretch computes,
  in the units' own terms, then the trip.
-/
module

public import proofs.«01_k».proof.Proof.PI.StA
public import proofs.«01_k».proof.Proof.PI.StB

@[expose] public section

noncomputable section

namespace Cert.KernelIdeal.Run

open Cert.KernelIdeal Cert.KernelIdeal.Gen
open Idealize.ShloMosaic Idealize.SL.Sem

variable {F : FTy → Type} [FloatOps F] [Named F]

set_option maxRecDepth 20000 in
set_option maxHeartbeats 4000000 in
/-- A trip of loop 2: the first unit's tiles, then the second's. -/
theorem trip2 (I : In F) (i : grid0.Coords) (arg1 : BitVec 32) (v2653 : IVec S128x512 1) (k0_h3 : k0_cond3 i = 1#1) (k0_t2 : Fin k0_t2_loop.trips) (a7 : S1x256x4096.Idx → Elt F .bf16) (a8 : S1x256x4096.Idx → Elt F .fp8e4m3) (a9 : S1x256x32.Idx → Elt F .f32) (a10 : S1x256x1024.Idx → Elt F .fp8e4m3) (a11 : S1x256x8.Idx → Elt F .f32) (a12 : S1x256x1024.Idx → Elt F .fp8e4m3) (a13 : S8x1280x128.Idx → Elt F .fp8e4m3) (a14 : S8x1280x128.Idx → Elt F .f32) (a15 : S8x5x128x256.Idx → Elt F .fp8e4m3) (a16 : S2x8x8x512.Idx → Elt F .f32) (a17 : S5x256x512.Idx → Elt F .f32) (a18 : S5x256x512.Idx → Elt F .fp8e4m3) : ∃ x,
    (s_t2_body I i arg1 v2653 k0_h3 k0_t2 ⟨a7, a8, a9, a10, a11, a12, a13, a14, a15, a16, a17, a18⟩).2.a7 =
      (VecWindow.put (VecWindow.put (VecWindow.put (VecWindow.put (VecWindow.put (VecWindow.put (VecWindow.put (VecWindow.put a7 (k0_off26 k0_t2 0#32) S1x128x128.size (tile (unit0 v2653 (select v2653 (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0)))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off27 k0_t2) S1x1x8x512.size (k0_off27_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) a18) 0 slices_S128x512_o0_0_S128x128)) (k0_off26 k0_t2 1#32) S1x128x128.size (tile (unit0 v2653 (select v2653 (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0)))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off27 k0_t2) S1x1x8x512.size (k0_off27_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) a18) 128 slices_S128x512_o0_128_S128x128)) (k0_off26 k0_t2 2#32) S1x128x128.size (tile (unit0 v2653 (select v2653 (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0)))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off27 k0_t2) S1x1x8x512.size (k0_off27_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) a18) 256 slices_S128x512_o0_256_S128x128)) (k0_off26 k0_t2 3#32) S1x128x128.size (tile (unit0 v2653 (select v2653 (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 0#32) S1x128x128.size (k0_off28_inb i k0_t2 k0_h3 0 0)) (VecWindow.window a14 (k0_off28 i k0_t2 0#32 0#32) S1x128x128.size (k0_off28_inb i k0_t2 k0_h3 0 0)))) (sc128 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off26 k0_t2 0#32) S1x128x128.size (k0_off26_inb i k0_t2 k0_h3 0)) (VecWindow.window a8 (k0_off26 k0_t2 1#32) S1x128x128.size (k0_off26_inb i k0_t2 k0_h3 1)) (VecWindow.window a8 (k0_off26 k0_t2 2#32) S1x128x128.size (k0_off26_inb i k0_t2 k0_h3 2)) (VecWindow.window a8 (k0_off26 k0_t2 3#32) S1x128x128.size (k0_off26_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off27 k0_t2) S1x1x8x512.size (k0_off27_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) a18) 384 slices_S128x512_o0_384_S128x128)) (k0_off33 k0_t2 0#32) S1x128x128.size (tile (unit1 v2653 (select v2653 (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 128#32) S1x128x128.size (k0_off28_inb i k0_t2 k0_h3 1 1)) (VecWindow.window a14 (k0_off28 i k0_t2 4#32 128#32) S1x128x128.size (k0_off28_inb i k0_t2 k0_h3 1 1))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off34 k0_t2) S1x1x8x512.size (k0_off34_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) x) 0 slices_S128x512_o0_0_S128x128)) (k0_off33 k0_t2 1#32) S1x128x128.size (tile (unit1 v2653 (select v2653 (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 128#32) S1x128x128.size (k0_off28_inb i k0_t2 k0_h3 1 1)) (VecWindow.window a14 (k0_off28 i k0_t2 4#32 128#32) S1x128x128.size (k0_off28_inb i k0_t2 k0_h3 1 1))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off34 k0_t2) S1x1x8x512.size (k0_off34_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) x) 128 slices_S128x512_o0_128_S128x128)) (k0_off33 k0_t2 2#32) S1x128x128.size (tile (unit1 v2653 (select v2653 (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 128#32) S1x128x128.size (k0_off28_inb i k0_t2 k0_h3 1 1)) (VecWindow.window a14 (k0_off28 i k0_t2 4#32 128#32) S1x128x128.size (k0_off28_inb i k0_t2 k0_h3 1 1))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off34 k0_t2) S1x1x8x512.size (k0_off34_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) x) 256 slices_S128x512_o0_256_S128x128)) (k0_off33 k0_t2 3#32) S1x128x128.size (tile (unit1 v2653 (select v2653 (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 128#32) S1x128x128.size (k0_off28_inb i k0_t2 k0_h3 1 1)) (VecWindow.window a14 (k0_off28 i k0_t2 4#32 128#32) S1x128x128.size (k0_off28_inb i k0_t2 k0_h3 1 1))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 0#32 128#32) S1x128x128.size (k0_off28_inb i k0_t2 k0_h3 0 1)) (VecWindow.window a14 (k0_off28 i k0_t2 0#32 128#32) S1x128x128.size (k0_off28_inb i k0_t2 k0_h3 0 1)))) (sc128 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off28 i k0_t2 4#32 0#32) S1x128x128.size (k0_off28_inb i k0_t2 k0_h3 1 0)) (VecWindow.window a14 (k0_off28 i k0_t2 4#32 0#32) S1x128x128.size (k0_off28_inb i k0_t2 k0_h3 1 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 1#32) S1x256x128.size (k0_off29_inb i k0_t2 k0_h3 0)) (VecWindow.window a14 (k0_off29 i k0_t2 1#32) S1x256x128.size (k0_off29_inb i k0_t2 k0_h3 0))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 2#32) S1x256x128.size (k0_off29_inb i k0_t2 k0_h3 1)) (VecWindow.window a14 (k0_off29 i k0_t2 2#32) S1x256x128.size (k0_off29_inb i k0_t2 k0_h3 1))) (sc256 (k0_pay112 (VecWindow.window a8 (k0_off33 k0_t2 0#32) S1x128x128.size (k0_off33_inb i k0_t2 k0_h3 0)) (VecWindow.window a8 (k0_off33 k0_t2 1#32) S1x128x128.size (k0_off33_inb i k0_t2 k0_h3 1)) (VecWindow.window a8 (k0_off33 k0_t2 2#32) S1x128x128.size (k0_off33_inb i k0_t2 k0_h3 2)) (VecWindow.window a8 (k0_off33 k0_t2 3#32) S1x128x128.size (k0_off33_inb i k0_t2 k0_h3 3))) (VecWindow.window a13 (k0_off29 i k0_t2 3#32) S1x256x128.size (k0_off29_inb i k0_t2 k0_h3 2)) (VecWindow.window a14 (k0_off29 i k0_t2 3#32) S1x256x128.size (k0_off29_inb i k0_t2 k0_h3 2))) (k0_pay113 (VecWindow.window a16 (k0_off34 k0_t2) S1x1x8x512.size (k0_off34_inb i k0_t2 k0_h3))) (VecWindow.window I.a6 (k0_off30 k0_t2) S1x8x512.size (k0_off30_inb i k0_t2 k0_h3)) (VecWindow.window I.a5 (k0_off31 k0_t2) S1x1x8x128.size (k0_off31_inb i k0_t2 k0_h3)) (VecWindow.window a15 (k0_off32 i k0_t2 0#32) S1x1x128x256.size (k0_off32_inb i k0_t2 k0_h3 0)) (VecWindow.window a15 (k0_off32 i k0_t2 1#32) S1x1x128x256.size (k0_off32_inb i k0_t2 k0_h3 1)) (VecWindow.window a15 (k0_off32 i k0_t2 2#32) S1x1x128x256.size (k0_off32_inb i k0_t2 k0_h3 2)) (VecWindow.window a15 (k0_off32 i k0_t2 3#32) S1x1x128x256.size (k0_off32_inb i k0_t2 k0_h3 3)) (VecWindow.window a15 (k0_off32 i k0_t2 4#32) S1x1x128x256.size (k0_off32_inb i k0_t2 k0_h3 4)) x) 384 slices_S128x512_o0_384_S128x128)) := by
  refine ⟨?_, ?_⟩
  rotate_left
  · simp only [s_t2_body, PM.bind_apply, PM.pure_apply, e_part23, e_part24, e_part25, e_part26, e_part27, e_part28, e_part29, e_part30, e_part31, e_part32, e_part33, e_part34, e_part35, e_part36, e_part37, e_part38, e_part39, e_part40, e_part41, e_part42, e_part43]
    simp only [st7, ld7, PM.bind_apply, PM.pure_apply]
    simp -index only [VecWindow.window_put_same, winAB, winAC, winAD, winAE, winAG, winBA, winBC, winBD, winBE, winBG, winCA, winCB, winCD, winCE, winCG, winDA, winDB, winDC, winDE, winDG, winEA, winEB, winEC, winED, winEG, winGA, winGB, winGC, winGD, winGE]
    simp only [tr20_tc, tr20_ts, tr20_ta, tr20_tb, tr20_td, tr21_tc, tr21_ta, tr21_tb, tr21_td, tr21_ts]
    simp only [tr20_m, tr20_y131, tr21_m, tr21_y186, tr21_y187]
    simp only [tr20_p000, tr20_p400, tr20_p01280, tr20_p100, tr20_p200, tr20_p300, tr20_p41280, tr20_fac, tr21_p01280, tr21_p41280, tr21_p100, tr21_p200, tr21_p300, tr21_p400, tr21_p000, tr21_fac]
    simp only [tr20_o0, tr20_o1, tr20_o2, tr20_o3, tr21_o0, tr21_o1, tr21_o2, tr21_o3]
    simp only [unit0, unit1, fin, pBuf0, pBuf1]
    rfl

end Cert.KernelIdeal.Run

end
-- ==== Proof.PI.TripAt2.lean ====
/-
  A trip of the second attention loop at an index of the result: the attention of the trip's head there, nothing elsewhere.
-/
module

public import proofs.«01_k».proof.Proof.PI.Pieces
public import proofs.«01_k».proof.Proof.PI.Trip2

@[expose] public section

set_option maxRecDepth 10000

noncomputable section

namespace Cert.KernelIdeal.Run

open Cert.KernelIdeal Cert.KernelIdeal.Gen
open Idealize.ShloMosaic Idealize.SL.Sem Cert.Spec

/-- The trip's number. -/
abbrev t2n (t : Fin k0_t2_loop.trips) : Fin 8 := ⟨t.val, lt_of_lt_of_le t.isLt k0_t2_abs.2.1⟩

theorem trip2_at (I : In Ideal) (i : grid0.Coords) (hc : k0_cond3 i = 1#1) (t : Fin k0_t2_loop.trips) (hm : 4 ≤ (i 1).val) (σ : St Ideal)
    (s : Fin 2) (g : Fin 8) (j : Fin 4) (x d : Fin 128) (a : ℝ) (ha : 0 < a) (sk w : EReal)
    (hA : ∀ u, σ.a16 (ix4 s (t2n t) u (qcl j x)) = (a : EReal)) (hk : ∀ u, I.a6 (ix3 (t2n t) u (qcl j x)) = sk)
    (hw : ∀ u, I.a5 (ix4 0 (t2n t) u x) = w) :
    (s_t2_body I i (BitVec.ofNat 32 (i 1).val) k0_pay597 hc t σ).2.a7 (ix3 0 (qrow s x) (hcol g j d)) = if g = t2n t then
      uVal (valOf σ.a15 (i 1).val (t2n t) d) (scOf (i 1).val s x fun p r =>
        rawOf σ.a13 σ.a14 (fun e => σ.a8 (ix3 0 (qrow s x) (hcol (t2n t) j e))) (t2n t) x (slot (i 1).val p) r) a sk w
      else σ.a7 (ix3 0 (qrow s x) (hcol g j d)) := by
  obtain ⟨a7, a8, a9, a10, a11, a12, a13, a14, a15, a16, a17, a18⟩ := σ
  obtain ⟨xx, e⟩ := trip2 I i (BitVec.ofNat 32 (i 1).val) k0_pay597 hc t a7 a8 a9 a10 a11 a12 a13 a14 a15 a16 a17 a18
  refine (congrFun e _).trans ?_
  refine (put8 a7 _ _ _ _ _ _ _ _ _ _ (t2n t) (k0_off26_eq t 0) (k0_off26_eq t 1) (k0_off26_eq t 2) (k0_off26_eq t 3)
    (k0_off33_eq t 0) (k0_off33_eq t 1) (k0_off33_eq t 2) (k0_off33_eq t 3) s g j x d).trans ?_
  clear e
  refine if_congr Iff.rfl ?_ rfl
  rcases (by omega : s = 0 ∨ s = 1) with rfl | rfl
  · have hq : ∀ e, k0_pay112 (VecWindow.window a8 (k0_off26 t 0#32) S1x128x128.size (k0_off26_inb i t hc 0)) (VecWindow.window a8 (k0_off26 t 1#32) S1x128x128.size (k0_off26_inb i t hc 1))
        (VecWindow.window a8 (k0_off26 t 2#32) S1x128x128.size (k0_off26_inb i t hc 2)) (VecWindow.window a8 (k0_off26 t 3#32) S1x128x128.size (k0_off26_inb i t hc 3)) (ix2 (qcl j x) e)
          = a8 (ix3 0 (qrow 0 x) (hcol (t2n t) j e)) := fun e => by
      rw [pay112_apply]
      fin_cases j
      · exact q_win a8 _ _ 0 (t2n t) 0 (k0_off26_eq t 0) x e
      · exact q_win a8 _ _ 0 (t2n t) 1 (k0_off26_eq t 1) x e
      · exact q_win a8 _ _ 0 (t2n t) 2 (k0_off26_eq t 2) x e
      · exact q_win a8 _ _ 0 (t2n t) 3 (k0_off26_eq t 3) x e
    refine (unit0_apply (S := scOf (i 1).val 0 x fun p r => rawOf a13 a14 (fun e => a8 (ix3 0 (qrow 0 x) (hcol (t2n t) j e))) (t2n t) x (slot (i 1).val p) r)
      _ _ _ _ _ _ _ _ _ j x d (blk0 (fun x' => pay597_iff x' x j) (fun x' h => ?_) (fun x' h => ?_) (fun x' => ?_) (fun r => ?_) (fun r => ?_) (fun r => ?_)) a ha sk w (fun u => ?_) (fun u => ?_) (fun u => ?_)).trans ?_
    · rw [select_apply, if_pos h]
      exact sc128_win _ a13 a14 _ _ _ (t2n t) (slot (i 1).val 4) 0 (k0_off28_eq i t 1 0) j x _ _ (by simp) _ hq
    · rw [select_apply, if_neg h]
      exact by rw [if_pos (by omega)]; exact sc128_win _ a13 a14 _ _ _ (t2n t) (slot (i 1).val 0) 0 (k0_off28_eq i t 0 0) j x _ _ (by simp) _ hq
    · exact by rw [if_pos (by omega)]; exact sc128_win _ a13 a14 _ _ _ (t2n t) (slot (i 1).val 0) 128 (k0_off28_eq i t 0 1) j x _ _ (by simp) _ hq
    · exact by rw [if_pos (by omega)]; exact sc256_win _ a13 a14 _ _ _ (t2n t) (slot (i 1).val 1) (k0_off29_eq i t 0) j x _ _ hq
    · exact by rw [if_pos (by omega)]; exact sc256_win _ a13 a14 _ _ _ (t2n t) (slot (i 1).val 2) (k0_off29_eq i t 1) j x _ _ hq
    · exact by rw [if_pos (by omega)]; exact sc256_win _ a13 a14 _ _ _ (t2n t) (slot (i 1).val 3) (k0_off29_eq i t 2) j x _ _ hq
    · refine (pay113_apply _ _ _).trans (Eq.trans ?_ (hA u))
      exact win_at a16 _ _ _ (k0_off27_eq t) _ _ (ix4 0 (t2n t) u (qcl j x)) fun b => by fin_cases b <;> simp [ix4]
    · refine Eq.trans ?_ (hk u)
      exact win_at I.a6 _ _ _ (k0_off30_eq t) _ _ (ix3 (t2n t) u (qcl j x)) fun b => by fin_cases b <;> simp [ix3]
    · refine Eq.trans ?_ (hw u)
      exact win_at I.a5 _ _ _ (k0_off31_eq t) _ _ (ix4 0 (t2n t) u x) fun b => by fin_cases b <;> simp [ix4]
    · refine congrArg (fun V => uVal V _ _ _ _) (funext fun p => funext fun r => ?_)
      fin_cases p
      · exact v_win a15 _ _ (t2n t) (slot (i 1).val 0) (k0_off32_eq i t 0) d r
      · exact v_win a15 _ _ (t2n t) (slot (i 1).val 1) (k0_off32_eq i t 1) d r
      · exact v_win a15 _ _ (t2n t) (slot (i 1).val 2) (k0_off32_eq i t 2) d r
      · exact v_win a15 _ _ (t2n t) (slot (i 1).val 3) (k0_off32_eq i t 3) d r
      · exact v_win a15 _ _ (t2n t) (slot (i 1).val 4) (k0_off32_eq i t 4) d r
  · have hq : ∀ e, k0_pay112 (VecWindow.window a8 (k0_off33 t 0#32) S1x128x128.size (k0_off33_inb i t hc 0)) (VecWindow.window a8 (k0_off33 t 1#32) S1x128x128.size (k0_off33_inb i t hc 1))
        (VecWindow.window a8 (k0_off33 t 2#32) S1x128x128.size (k0_off33_inb i t hc 2)) (VecWindow.window a8 (k0_off33 t 3#32) S1x128x128.size (k0_off33_inb i t hc 3)) (ix2 (qcl j x) e)
          = a8 (ix3 0 (qrow 1 x) (hcol (t2n t) j e)) := fun e => by
      rw [pay112_apply]
      fin_cases j
      · exact q_win a8 _ _ 1 (t2n t) 0 (k0_off33_eq t 0) x e
      · exact q_win a8 _ _ 1 (t2n t) 1 (k0_off33_eq t 1) x e
      · exact q_win a8 _ _ 1 (t2n t) 2 (k0_off33_eq t 2) x e
      · exact q_win a8 _ _ 1 (t2n t) 3 (k0_off33_eq t 3) x e
    refine (unit1_apply (S := scOf (i 1).val 1 x fun p r => rawOf a13 a14 (fun e => a8 (ix3 0 (qrow 1 x) (hcol (t2n t) j e))) (t2n t) x (slot (i 1).val p) r)
      _ _ _ _ _ _ _ _ _ j x d (blk1 (fun x' => pay597_iff x' x j) (fun x' h => ?_) (fun x' h => ?_) (fun x' => ?_) (fun r => ?_) (fun r => ?_) (fun r => ?_)) a ha sk w (fun u => ?_) (fun u => ?_) (fun u => ?_)).trans ?_
    · rw [select_apply, if_pos h]
      exact sc128_win _ a13 a14 _ _ _ (t2n t) (slot (i 1).val 4) 128 (k0_off28_eq i t 1 1) j x _ _ (by simp) _ hq
    · rw [select_apply, if_neg h]
      exact by rw [if_pos (by omega)]; exact sc128_win _ a13 a14 _ _ _ (t2n t) (slot (i 1).val 0) 128 (k0_off28_eq i t 0 1) j x _ _ (by simp) _ hq
    · exact sc128_win _ a13 a14 _ _ _ (t2n t) (slot (i 1).val 4) 0 (k0_off28_eq i t 1 0) j x _ _ (by simp) _ hq
    · exact by rw [if_pos (by omega)]; exact sc256_win _ a13 a14 _ _ _ (t2n t) (slot (i 1).val 1) (k0_off29_eq i t 0) j x _ _ hq
    · exact by rw [if_pos (by omega)]; exact sc256_win _ a13 a14 _ _ _ (t2n t) (slot (i 1).val 2) (k0_off29_eq i t 1) j x _ _ hq
    · exact by rw [if_pos (by omega)]; exact sc256_win _ a13 a14 _ _ _ (t2n t) (slot (i 1).val 3) (k0_off29_eq i t 2) j x _ _ hq
    · refine (pay113_apply _ _ _).trans (Eq.trans ?_ (hA u))
      exact win_at a16 _ _ _ (k0_off34_eq t) _ _ (ix4 1 (t2n t) u (qcl j x)) fun b => by fin_cases b <;> simp [ix4]
    · refine Eq.trans ?_ (hk u)
      exact win_at I.a6 _ _ _ (k0_off30_eq t) _ _ (ix3 (t2n t) u (qcl j x)) fun b => by fin_cases b <;> simp [ix3]
    · refine Eq.trans ?_ (hw u)
      exact win_at I.a5 _ _ _ (k0_off31_eq t) _ _ (ix4 0 (t2n t) u x) fun b => by fin_cases b <;> simp [ix4]
    · refine congrArg (fun V => uVal V _ _ _ _) (funext fun p => funext fun r => ?_)
      fin_cases p
      · exact v_win a15 _ _ (t2n t) (slot (i 1).val 0) (k0_off32_eq i t 0) d r
      · exact v_win a15 _ _ (t2n t) (slot (i 1).val 1) (k0_off32_eq i t 1) d r
      · exact v_win a15 _ _ (t2n t) (slot (i 1).val 2) (k0_off32_eq i t 2) d r
      · exact v_win a15 _ _ (t2n t) (slot (i 1).val 3) (k0_off32_eq i t 3) d r
      · exact v_win a15 _ _ (t2n t) (slot (i 1).val 4) (k0_off32_eq i t 4) d r

theorem trip2_off (I : In Ideal) (i : grid0.Coords) (hc : k0_cond3 i = 1#1) (t : Fin k0_t2_loop.trips) (σ : St Ideal)
    (s : Fin 2) (g : Fin 8) (j : Fin 4) (x d : Fin 128) (hg : g ≠ t2n t) :
    (s_t2_body I i (BitVec.ofNat 32 (i 1).val) k0_pay597 hc t σ).2.a7 (ix3 0 (qrow s x) (hcol g j d)) = σ.a7 (ix3 0 (qrow s x) (hcol g j d)) := by
  obtain ⟨a7, a8, a9, a10, a11, a12, a13, a14, a15, a16, a17, a18⟩ := σ
  obtain ⟨xx, e⟩ := trip2 I i (BitVec.ofNat 32 (i 1).val) k0_pay597 hc t a7 a8 a9 a10 a11 a12 a13 a14 a15 a16 a17 a18
  refine (congrFun e _).trans ?_
  exact (put8 a7 _ _ _ _ _ _ _ _ _ _ (t2n t) (k0_off26_eq t 0) (k0_off26_eq t 1) (k0_off26_eq t 2) (k0_off26_eq t 3)
    (k0_off33_eq t 0) (k0_off33_eq t 1) (k0_off33_eq t 2) (k0_off33_eq t 3) s g j x d).trans (if_neg hg)

end Cert.KernelIdeal.Run

end
-- ==== Proof.PI.Loops.lean ====
/-
  The two attention loops at an index of the result: the attention of its head, from the rings and codes of the state
  before the loops.
-/
module

public import proofs.«01_k».proof.Proof.PI.TripAt1
public import proofs.«01_k».proof.Proof.PI.TripAt2
public import proofs.«01_k».proof.Proof.PI.Kept

@[expose] public section

noncomputable section

namespace Cert.KernelIdeal.Run

open Cert.KernelIdeal Cert.KernelIdeal.Gen
open Idealize.ShloMosaic Idealize.SL.Sem Cert.Spec

theorem cond2_iff : ∀ t : Fin grid0.N, k0_cond2 (grid0.coords t) = 1#1 ↔ (grid0.coords t 1).val < 4 := by decide +kernel
theorem cond3_iff : ∀ t : Fin grid0.N, k0_cond3 (grid0.coords t) = 1#1 ↔ 4 ≤ (grid0.coords t 1).val := by decide +kernel
theorem trips1 : k0_t1_loop.trips = 8 := by decide +kernel
theorem trips2 : k0_t2_loop.trips = 8 := by decide +kernel

/-- A sequence of trips of which one gives the value and the others leave it. -/
theorem seq_read {n : ℕ} (b : Fin n → PM Ideal Unit) (hb : ∀ k, Keeps (b k)) (f : St Ideal → EReal) (σ0 : St Ideal) (v : EReal) (P : Fin n → Prop)
    (h : ∀ k σ, kept σ = kept σ0 → (P k ∧ f (b k σ).2 = v) ∨ (¬ P k ∧ f (b k σ).2 = f σ)) (l : List (Fin n)) :
    ∀ σ, kept σ = kept σ0 → (∃ k ∈ l, P k) ∨ f σ = v → f (PM.seq b l σ).2 = v := by
  induction l with
  | nil =>
    rintro σ _ (⟨k, hk, _⟩ | h')
    · cases hk
    · exact h'
  | cons k l ih =>
    intro σ hσ h'
    refine ih (b k σ).2 ((hb k σ).trans hσ) ?_
    rcases h k σ hσ with ⟨hp, e⟩ | ⟨hp, e⟩
    · exact .inr e
    · rcases h' with ⟨k', hk, hp'⟩ | h'
      · rcases List.mem_cons.1 hk with rfl | hk
        · exact absurd hp' hp
        · exact .inl ⟨k', hk, hp'⟩
      · exact .inr (e.trans h')

/-- What the loops leave at row `x` of half `s` and column `d` of head `4 g + j`. -/
def attnAt (m : ℕ) (σ : St Ideal) (s : Fin 2) (g : Fin 8) (j : Fin 4) (x d : Fin 128) (a : ℝ) (sk w : EReal) : EReal :=
  uVal (valOf σ.a15 m g d) (scOf m s x fun p r => rawOf σ.a13 σ.a14 (fun e => σ.a8 (ix3 0 (qrow s x) (hcol g j e))) g x (slot m p) r) a sk w

theorem attnAt_kept (m : ℕ) (σ σ' : St Ideal) (h : kept σ = kept σ') (s : Fin 2) (g : Fin 8) (j : Fin 4) (x d : Fin 128) (a : ℝ) (sk w : EReal) :
    attnAt m σ s g j x d a sk w = attnAt m σ' s g j x d a sk w := by
  have h8 : σ.a8 = σ'.a8 := congrArg (fun q => q.1) h
  have h13 : σ.a13 = σ'.a13 := congrArg (fun q => q.2.2.2.2.2.1) h
  have h14 : σ.a14 = σ'.a14 := congrArg (fun q => q.2.2.2.2.2.2.1) h
  have h15 : σ.a15 = σ'.a15 := congrArg (fun q => q.2.2.2.2.2.2.2.1) h
  unfold attnAt
  rw [h8, h13, h14, h15]

theorem loops_at (I : In Ideal) (t : Fin grid0.N) (σ : St Ideal) (s : Fin 2) (g : Fin 8) (j : Fin 4) (x d : Fin 128) (a : ℝ) (ha : 0 < a) (sk w : EReal)
    (hA : ∀ u, σ.a16 (ix4 s g u (qcl j x)) = (a : EReal)) (hk : ∀ u, I.a6 (ix3 g u (qcl j x)) = sk) (hw : ∀ u, I.a5 (ix4 0 g u x) = w) :
    (loop2 I (grid0.coords t) (loop1 I (grid0.coords t) σ).2).2.a7 (ix3 0 (qrow s x) (hcol g j d)) = attnAt (grid0.coords t 1).val σ s g j x d a sk w := by
  have hA' : ∀ σ', kept σ' = kept σ → ∀ u, σ'.a16 (ix4 s g u (qcl j x)) = (a : EReal) := fun σ' h u => by
    have h16 : σ'.a16 = σ.a16 := congrArg (fun q => q.2.2.2.2.2.2.2.2) h
    rw [h16]; exact hA u
  by_cases hm : 4 ≤ (grid0.coords t 1).val
  · have h1 : (loop1 I (grid0.coords t) σ).2 = σ := by
      unfold loop1; rw [dif_neg (fun h => absurd ((cond2_iff t).1 h) (by omega))]; rfl
    rw [h1]
    unfold loop2
    rw [dif_pos ((cond3_iff t).2 hm)]
    refine seq_read _ (fun k => keeps_t2 I _ _ _ _ k) (fun σ => σ.a7 (ix3 0 (qrow s x) (hcol g j d))) σ _ (fun k => g = t2n k) (fun k σ' h => ?_) _ σ rfl
      (.inl ⟨⟨g.val, by rw [trips2]; exact g.isLt⟩, List.mem_finRange _, rfl⟩)
    by_cases hg : g = t2n k
    · refine .inl ⟨hg, ?_⟩
      refine (trip2_at I (grid0.coords t) _ k hm σ' s g j x d a ha sk w (by rw [← hg]; exact hA' σ' h) (by rw [← hg]; exact hk) (by rw [← hg]; exact hw)).trans ?_
      rw [if_pos hg, ← hg, ← attnAt_kept _ σ' σ h]
      rfl
    · exact .inr ⟨hg, trip2_off I (grid0.coords t) _ k σ' s g j x d hg⟩
  · have h2 : ∀ σ', (loop2 I (grid0.coords t) σ').2 = σ' := fun σ' => by
      unfold loop2; rw [dif_neg (fun h => hm ((cond3_iff t).1 h))]; rfl
    rw [h2]
    unfold loop1
    rw [dif_pos ((cond2_iff t).2 (by omega))]
    refine seq_read _ (fun k => keeps_t1 I _ _ _ _ _ _ k) (fun σ => σ.a7 (ix3 0 (qrow s x) (hcol g j d))) σ _ (fun k => g = t1n k) (fun k σ' h => ?_) _ σ rfl
      (.inl ⟨⟨g.val, by rw [trips1]; exact g.isLt⟩, List.mem_finRange _, rfl⟩)
    by_cases hg : g = t1n k
    · refine .inl ⟨hg, ?_⟩
      refine (trip1_at I (grid0.coords t) _ _ _ _ k σ' s g j x d a ha sk w (by rw [← hg]; exact hA' σ' h) (by rw [← hg]; exact hk) (by rw [← hg]; exact hw)).trans ?_
      rw [if_pos hg, ← hg, ← attnAt_kept _ σ' σ h]
      rfl
    · exact .inr ⟨hg, trip1_off I (grid0.coords t) _ _ _ _ k σ' s g j x d hg⟩

end Cert.KernelIdeal.Run

end
-- ==== Proof.PI.Attn.lean ====
/-
  One query's attention, in the extended reals: what a unit computes over five blocks of 256 keys, some of them not of
  the window, is the softmax with a sink over all keys, its probabilities stored in eight bits with one scale.
-/
module

public import proofs.«01_k».proof.Proof.PI.UnitVal
public import proofs.«01_k».proof.Proof.Spec.Real

@[expose] public section

noncomputable section

namespace Cert.KernelIdeal.Run

open Idealize.ShloMosaic
open Cert.Spec

/-- The largest logit, the sink's among them. -/
def aM {n : ℕ} (s : Fin n → EReal) (sk : EReal) : EReal := max (⨆ i, s i) sk
/-- A probability, not yet divided by their sum. -/
def aP {n : ℕ} (s : Fin n → EReal) (sk : EReal) (i : Fin n) : EReal := Ideal.exp (s i - aM s sk)
/-- The output: the stored probabilities times the values' codes, the two scales, and the sum divided out. -/
def aVal {n : ℕ} (s vc : Fin n → EReal) (sk w : EReal) : EReal :=
  Ideal.div ((∑ i, clip (aP s sk i * Spec.inv (top (aP s sk))) * vc i) * scl (top (aP s sk)) * w)
    ((∑ i, aP s sk i) + Ideal.exp (sk - aM s sk))

theorem exp2_log (x : ℝ) : Ideal.exp2 ((x * (Real.log 2)⁻¹ : ℝ) : EReal) = ((Real.exp x : ℝ) : EReal) := by
  have h : Real.log 2 ≠ 0 := (Real.log_pos (by norm_num)).ne'
  show ((Real.rpow 2 (x * (Real.log 2)⁻¹) : ℝ) : EReal) = _
  have : Real.rpow 2 (x * (Real.log 2)⁻¹) = Real.exp x := by
    show (2 : ℝ) ^ (x * (Real.log 2)⁻¹) = _
    rw [Real.rpow_def_of_pos (by norm_num)]
    congr 1; field_simp
  rw [this]

theorem exp2_log_sub (x : ℝ) (e : ℤ) : Ideal.exp2 ((x * (Real.log 2)⁻¹ - e : ℝ) : EReal) = ((Real.exp x * (2 : ℝ) ^ (-e) : ℝ) : EReal) := by
  have h : Real.log 2 ≠ 0 := (Real.log_pos (by norm_num)).ne'
  show ((Real.rpow 2 (x * (Real.log 2)⁻¹ - e) : ℝ) : EReal) = _
  have : Real.rpow 2 (x * (Real.log 2)⁻¹ - e) = Real.exp x * (2 : ℝ) ^ (-e) := by
    show (2 : ℝ) ^ (x * (Real.log 2)⁻¹ - (e : ℝ)) = _
    rw [sub_eq_add_neg, Real.rpow_add (by norm_num), ← Int.cast_neg, Real.rpow_intCast]
    congr 1
    rw [Real.rpow_def_of_pos (by norm_num)]
    congr 1; field_simp
  rw [this]

theorem sumReal {α : Type} (s : Finset α) (f : α → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A number below its power of two. -/
theorem lt_expo (y : ℝ) (h0 : 0 < y) : y * (2 : ℝ) ^ (-expo y) ≤ 1 := by
  unfold expo
  split_ifs with h
  · simp only [neg_zero, zpow_zero, mul_one]
    exact h.le.trans (by norm_num)
  · have h2 : 0 < Real.log 2 := Real.log_pos (by norm_num)
    have h3 : Real.log y / Real.log 2 < (⌊Real.log y / Real.log 2⌋ + 1 : ℤ) := by push_cast; exact Int.lt_floor_add_one _
    rw [zpow_neg, ← div_eq_mul_inv, div_le_one (by positivity)]
    have h4 : Real.log y < ((⌊Real.log y / Real.log 2⌋ + 1 : ℤ) : ℝ) * Real.log 2 := (div_lt_iff₀ h2).1 h3
    have h5 : Real.log ((2 : ℝ) ^ (⌊Real.log y / Real.log 2⌋ + 1)) = ((⌊Real.log y / Real.log 2⌋ + 1 : ℤ) : ℝ) * Real.log 2 := Real.log_zpow _ _
    exact ((Real.log_lt_log_iff h0 (by positivity)).1 (by rw [h5]; exact h4)).le

variable {n : ℕ} (V S : Fin 5 → Fin 256 → EReal) (a : ℝ) (sk w : EReal) (s vc : Fin n → EReal)
  (act : Fin 5 → Fin 256 → Prop) (key : Fin 5 → Fin 256 → Fin n)

/-- The unit's blocks hold the scores and values of the window's keys, each once. -/
structure Covers : Prop where
  pos : 0 < a
  sink : sk < ⊤
  inj : ∀ p r p' r', act p r → act p' r' → key p r = key p' r' → p = p' ∧ r = r'
  score : ∀ p r, act p r → ∃ t u : ℝ, s (key p r) = (t : EReal) ∧ S p r = (u : EReal) ∧ u * a = t * (Real.log 2)⁻¹
  value : ∀ p r, act p r → V p r = vc (key p r)
  out : ∀ p r, ¬ act p r → S p r = ⊥
  all : ∀ i, s i ≠ ⊥ → ∃ p r, act p r ∧ key p r = i
  some : ∃ p r, act p r

variable {V S a sk w s vc act key}

theorem uVal_eq (h : Covers V S a sk s vc act key) : uVal V S a sk w = aVal s vc sk w := by
  have hl2 : 0 < Real.log 2 := Real.log_pos (by norm_num)
  have hc : 0 < (Real.log 2)⁻¹ := inv_pos.2 hl2
  -- the largest score is a real
  obtain ⟨p1, r1, h1⟩ := h.some
  haveI : Nonempty (Fin n) := ⟨key p1 r1⟩
  obtain ⟨i0, hi0⟩ := Finite.exists_max s
  have hb : s i0 ≠ ⊥ := fun e => by
    obtain ⟨t, u, e1, -, -⟩ := h.score p1 r1 h1
    have := hi0 (key p1 r1)
    rw [e, e1] at this
    simp at this
  obtain ⟨p0, r0, h0, k0⟩ := h.all i0 hb
  obtain ⟨t0, u0, et0, eu0, hu0⟩ := h.score p0 r0 h0
  rw [k0] at et0
  have hs : ⨆ i, s i = (t0 : EReal) := le_antisymm (iSup_le fun i => et0 ▸ hi0 i) (et0 ▸ le_iSup s i0)
  have hle : ∀ p r (t u : ℝ), act p r → s (key p r) = (t : EReal) → u * a = t * (Real.log 2)⁻¹ → t ≤ t0 ∧ u ≤ u0 := fun p r t u _ e1 e2 => by
    have e3 : t ≤ t0 := by have := hi0 (key p r); rw [e1, et0] at this; exact_mod_cast this
    refine ⟨e3, le_of_mul_le_mul_right (b := u) (c := u0) (a := a) ?_ h.pos⟩
    rw [e2, hu0]
    exact mul_le_mul_of_nonneg_right e3 hc.le
  have hS : uMax S (a : EReal) = ((t0 * (Real.log 2)⁻¹ : ℝ) : EReal) := by
    have : ⨆ p, ⨆ r, S p r = (u0 : EReal) := by
      refine le_antisymm (iSup_le fun p => iSup_le fun r => ?_) (eu0 ▸ le_iSup_of_le p0 (le_iSup (S p0) r0))
      by_cases hp : act p r
      · obtain ⟨t, u, e1, e2, e3⟩ := h.score p r hp
        rw [e2]; exact_mod_cast (hle p r t u hp e1 e3).2
      · rw [h.out p r hp]; exact bot_le
    unfold uMax
    rw [this, ← EReal.coe_mul, hu0]
  -- and so is the largest with the sink
  obtain ⟨μ, hμ, hμ2, hμ0, lsk, hls, hls2, hls0⟩ : ∃ μ : ℝ, aM s sk = (μ : EReal) ∧ uM S a sk = ((μ * (Real.log 2)⁻¹ : ℝ) : EReal) ∧ t0 ≤ μ ∧
      ∃ z : ℝ, Ideal.exp (sk - (μ : EReal)) = (z : EReal) ∧ Ideal.exp2 (uSink sk - ((μ * (Real.log 2)⁻¹ : ℝ) : EReal)) = (z : EReal) ∧ 0 ≤ z := by
    unfold aM uM uSink
    rw [hs, hS]
    induction sk using EReal.rec with
    | bot =>
      refine ⟨t0, by simp, ?_, le_refl _, 0, ?_, ?_, le_refl _⟩
      · rw [EReal.bot_mul_coe_of_pos hc]; simp
      · rw [EReal.bot_sub]; rfl
      · rw [EReal.bot_mul_coe_of_pos hc, EReal.bot_sub]; rfl
    | top => exact absurd h.sink (lt_irrefl _)
    | coe k =>
      refine ⟨max t0 k, (EReal.coe_strictMono.monotone.map_max).symm, ?_, le_max_left _ _, Real.exp (k - max t0 k), ?_, ?_, (Real.exp_pos _).le⟩
      · rw [← EReal.coe_mul, ← EReal.coe_strictMono.monotone.map_max, max_mul_of_nonneg _ _ hc.le]
      · rw [← EReal.coe_sub]; rfl
      · rw [← EReal.coe_mul, ← EReal.coe_sub, ← sub_mul, exp2_log]
  -- the probabilities
  have hP : ∀ i, (s i = ⊥ ∧ aP s sk i = 0) ∨ ∃ t : ℝ, t ≤ t0 ∧ s i = (t : EReal) ∧ aP s sk i = ((Real.exp (t - μ) : ℝ) : EReal) := fun i => by
    by_cases hi : s i = ⊥
    · refine .inl ⟨hi, ?_⟩
      unfold aP; rw [hi, EReal.bot_sub]; rfl
    · obtain ⟨p, r, hp, rfl⟩ := h.all i hi
      obtain ⟨t, u, e1, e2, e3⟩ := h.score p r hp
      refine .inr ⟨t, (hle p r t u hp e1 e3).1, e1, ?_⟩
      unfold aP; rw [e1, hμ, ← EReal.coe_sub]; rfl
  have hA : amax (aP s sk) = ((Real.exp (t0 - μ) : ℝ) : EReal) := by
    have hneg : ∀ z : ℝ, 0 ≤ z → max (z : EReal) (-(z : EReal)) = (z : EReal) := fun z hz => by
      rw [← EReal.coe_neg]; exact max_eq_left (by exact_mod_cast (neg_le_self hz))
    refine le_antisymm (amax_le _ _ fun i => ?_) ?_
    · rcases hP i with ⟨-, e⟩ | ⟨t, ht, -, e⟩
      · rw [e]; simp only [neg_zero, max_self]; exact_mod_cast (Real.exp_pos _).le
      · rw [e, hneg _ (Real.exp_pos _).le]
        exact_mod_cast Real.exp_le_exp.2 (by linarith)
    · refine le_trans (le_of_eq ?_) (le_amax (aP s sk) i0)
      have e : aP s sk i0 = ((Real.exp (t0 - μ) : ℝ) : EReal) := by unfold aP; rw [et0, hμ, ← EReal.coe_sub]; rfl
      rw [e, hneg _ (Real.exp_pos _).le]
  set y : ℝ := Real.exp (t0 - μ) * litR with hy
  have hy0 : 0 < y := mul_pos (Real.exp_pos _) litR_pos
  have htop : top (aP s sk) = (y : EReal) := by unfold top; rw [hA, lit_eq, ← EReal.coe_mul]
  have hY : uY S a sk = (y : EReal) := by
    unfold uY; rw [hS, hμ2, ← EReal.coe_sub, ← sub_mul, exp2_log, lit_eq, ← EReal.coe_mul]
  have hylt : y < (2 : ℝ) ^ (126 : ℤ) := by
    have e1 : Real.exp (t0 - μ) ≤ 1 := Real.exp_le_one_iff.2 (by linarith)
    have := litR_lt; have := litR_pos
    calc y ≤ 1 * litR := mul_le_mul_of_nonneg_right e1 litR_pos.le
      _ < (2 : ℝ) ^ (126 : ℤ) := by rw [one_mul]; refine litR_lt.trans ?_; norm_num
  obtain ⟨c1, c2, c3⟩ := count y hylt
  set e : ℤ := expo y
  have he : 0 < (2 : ℝ) ^ (-e) := by positivity
  have h448 : ∀ t : ℝ, t ≤ t0 → Real.exp (t - μ) * (2 : ℝ) ^ (-e) ≤ 448 := fun t ht => by
    have e1 : Real.exp (t - μ) ≤ Real.exp (t0 - μ) := Real.exp_le_exp.2 (by linarith)
    have e2 : y * (2 : ℝ) ^ (-e) ≤ 1 := lt_expo y hy0
    have e3 : Real.exp (t0 - μ) ≤ y * 448 := by
      have := mul_le_mul_of_nonneg_left litR_ge (Real.exp_pos (t0 - μ)).le
      rw [hy]; linarith
    calc Real.exp (t - μ) * (2 : ℝ) ^ (-e) ≤ (y * 448) * (2 : ℝ) ^ (-e) := mul_le_mul_of_nonneg_right (e1.trans e3) he.le
      _ = (y * (2 : ℝ) ^ (-e)) * 448 := by ring
      _ ≤ 448 := by linarith
  -- the stored probabilities, as reals
  let g : Fin n → ℝ := fun i => if s i = ⊥ then 0 else Real.exp ((s i).toReal - μ) * (2 : ℝ) ^ (-e)
  have hg0 : ∀ i, 0 ≤ g i := fun i => by
    show 0 ≤ ite _ _ _
    split_ifs
    · exact le_refl _
    · positivity
  have hgt : ∀ i (t : ℝ), s i = (t : EReal) → g i = Real.exp (t - μ) * (2 : ℝ) ^ (-e) := fun i t ht => by
    show ite _ _ _ = _
    rw [if_neg (by rw [ht]; exact EReal.coe_ne_bot t), ht, EReal.toReal_coe]
  have hclip : ∀ i, clip (aP s sk i * Spec.inv (top (aP s sk))) = (g i : EReal) := fun i => by
    rw [htop, c2]
    unfold clip
    rw [ofBits_448, ofBits_n448]
    have e1 : aP s sk i * (((2 : ℝ) ^ (-e) : ℝ) : EReal) = (g i : EReal) ∧ g i ≤ 448 := by
      rcases hP i with ⟨hb, e1⟩ | ⟨t, ht, e0, e1⟩
      · have : g i = 0 := if_pos hb
        rw [e1, this]; simp
      · rw [e1, hgt i t e0, ← EReal.coe_mul]; exact ⟨rfl, h448 t ht⟩
    rw [e1.1, max_eq_right (by exact_mod_cast (by linarith [hg0 i] : (-448 : ℝ) ≤ g i)), min_eq_right (by exact_mod_cast e1.2)]
  have hprob : ∀ i, aP s sk i = (((2 : ℝ) ^ e * g i : ℝ) : EReal) := fun i => by
    rcases hP i with ⟨hb, e1⟩ | ⟨t, ht, e0, e1⟩
    · have : g i = 0 := if_pos hb
      rw [e1, this]; simp
    · rw [e1, hgt i t e0, zpow_neg]
      congr 1
      have : (2 : ℝ) ^ e ≠ 0 := by positivity
      field_simp
  have hprf : ∀ p r, (act p r → prf a (uSh S a sk) (S p r) = (g (key p r) : EReal)) ∧ (¬ act p r → prf a (uSh S a sk) (S p r) = 0) := fun p r => by
    refine ⟨fun hp => ?_, fun hp => by rw [h.out p r hp]; exact prf_bot a h.pos _⟩
    obtain ⟨t, u, e1, e2, e3⟩ := h.score p r hp
    unfold prf uSh shf
    rw [hμ2, hY]
    have : (expWord (y : EReal)).toInt = e := c3
    rw [this, e2, ofBits_448, ← EReal.coe_mul, e3, ← EReal.coe_add, ← EReal.coe_sub, hgt _ t e1]
    have e4 : t * (Real.log 2)⁻¹ - (μ * (Real.log 2)⁻¹ + (e : ℝ)) = (t - μ) * (Real.log 2)⁻¹ - e := by ring
    rw [e4, exp2_log_sub]
    exact min_eq_left (by exact_mod_cast h448 t (hle p r t u hp e1 e3).1)
  -- sums over the blocks are sums over the keys
  have hsum : ∀ f : Fin 5 × Fin 256 → EReal, ∀ f' : Fin n → EReal, (∀ p r, act p r → f (p, r) = f' (key p r)) → (∀ p r, ¬ act p r → f (p, r) = 0)
      → (∀ i, s i = ⊥ → f' i = 0) → ∑ p, ∑ r, f (p, r) = ∑ i, f' i := fun f f' h1 h2 h3 => by
    rw [← Fintype.sum_prod_type (f := f)]
    have hact : ∀ z : Fin 5 × Fin 256, f z ≠ 0 → act z.1 z.2 := fun z hz => by
      by_contra hn; exact hz (h2 z.1 z.2 hn)
    refine Finset.sum_bij_ne_zero (fun z _ _ => key z.1 z.2) (fun _ _ _ => Finset.mem_univ _) (fun z _ hz z' _ hz' hk => ?_) (fun i _ hi => ?_) (fun z _ hz => h1 z.1 z.2 (hact z hz))
    · have := h.inj _ _ _ _ (hact z hz) (hact z' hz') hk
      exact Prod.ext this.1 this.2
    · obtain ⟨p, r, hp, rfl⟩ := h.all i fun hb => hi (h3 i hb)
      exact ⟨(p, r), Finset.mem_univ _, by rw [h1 p r hp]; exact hi, rfl⟩
  have hgb : ∀ i, s i = ⊥ → (g i : EReal) = 0 := fun i hi => by
    have : g i = 0 := if_pos hi
    rw [this]; rfl
  have hs1 : ∑ p, ∑ r, prf a (uSh S a sk) (S p r) = ((∑ i, g i : ℝ) : EReal) := by
    rw [← sumReal]
    exact hsum (fun z => prf a (uSh S a sk) (S z.1 z.2)) (fun i => (g i : EReal)) (fun p r hp => (hprf p r).1 hp) (fun p r hp => (hprf p r).2 hp) hgb
  have hs2 : ∑ p, ∑ r, V p r * prf a (uSh S a sk) (S p r) = ∑ i, (g i : EReal) * vc i :=
    hsum (fun z => V z.1 z.2 * prf a (uSh S a sk) (S z.1 z.2)) (fun i => (g i : EReal) * vc i)
      (fun p r hp => by show V p r * prf a (uSh S a sk) (S p r) = _; rw [(hprf p r).1 hp, h.value p r hp, mul_comm])
      (fun p r hp => by show V p r * prf a (uSh S a sk) (S p r) = _; rw [(hprf p r).2 hp, mul_zero]) (fun i hi => by rw [hgb i hi, zero_mul])
  have hs3 : ∑ i, aP s sk i = (((2 : ℝ) ^ e * ∑ i, g i : ℝ) : EReal) := by
    rw [Finset.sum_congr rfl fun i _ => hprob i, sumReal, Finset.mul_sum]
  have hs4 : ∑ i, clip (aP s sk i * Spec.inv (top (aP s sk))) * vc i = ∑ i, (g i : EReal) * vc i :=
    Finset.sum_congr rfl fun i _ => by rw [hclip i]
  have hpos : 0 < (2 : ℝ) ^ e * ∑ i, g i + lsk := by
    have : 0 < ∑ i, g i := Finset.sum_pos' (fun i _ => hg0 i) ⟨i0, Finset.mem_univ _, by rw [hgt i0 t0 et0]; positivity⟩
    have : 0 < (2 : ℝ) ^ e := by positivity
    positivity
  unfold uVal aVal
  rw [hs1, hs2, hs3, hs4, htop, hY, hμ2, hμ, hls, hls2, c1, ← EReal.coe_mul, ← EReal.coe_add]
  have hne : (((2 : ℝ) ^ e * ∑ i, g i + lsk : ℝ) : EReal) ≠ 0 := by exact_mod_cast hpos.ne'
  unfold Ideal.div
  rw [if_neg hne, if_neg hne]
  simp only [mul_assoc]

end Cert.KernelIdeal.Run
-- ==== Proof.PI.WantOut.lean ====
/-
  The result of the attention, element by element, of the arguments; and that a point's rings cover its window.
-/
module

public import proofs.«01_k».proof.Proof.PI.Attn
public import proofs.«01_k».proof.Proof.PI.Pieces
public import proofs.«01_k».proof.Proof.PI.Want

@[expose] public section

noncomputable section

namespace Cert.KernelIdeal.Run

open Cert.KernelIdeal Cert.KernelIdeal.Gen
open Idealize.ShloMosaic Idealize.SL.Sem Cert.Spec

/-- The head of the keys of a query head. -/
abbrev kvh (h : Fin 32) : Fin 8 := ⟨h.val / 4, by omega⟩
/-- One over the root of the head dimension. -/
def rsD : EReal := (((Real.sqrt 128)⁻¹ : ℝ) : EReal)
/-- The score of query `n` and key `n'`, -∞ off the window. -/
def sC (X : S2x16384x4096.Idx → EReal) (K : S2x16384x1024.Idx → EReal) (b : Fin 2) (n : Fin 16384) (h : Fin 32) (n' : Fin 16384) : EReal :=
  if n'.val ≤ n.val ∧ n.val < n'.val + 1024 then
    (∑ d, kC K b n' (kvh h) d * qC X b n h d) * (qS X b n h * rsD) * kS K b n' (kvh h)
  else ⊥
/-- The attention's result. -/
def oC (X : S2x16384x4096.Idx → EReal) (K V : S2x16384x1024.Idx → EReal) (u : S2x8.Idx → EReal) (S : S32.Idx → EReal)
    (b : Fin 2) (n : Fin 16384) (h : Fin 32) (d : Fin 128) : EReal :=
  aVal (sC X K b n h) (fun n' => vC V u b n' (kvh h) d) (S (ix1 h)) (u (ix2 b (kvh h)))

theorem clip_real (x : EReal) : ∃ r : ℝ, clip x = (r : EReal) := by
  have h1 : clip x ≤ ((448 : ℝ) : EReal) := by unfold clip; rw [ofBits_448]; exact min_le_left _ _
  have h2 : ((-448 : ℝ) : EReal) ≤ clip x := by
    unfold clip; rw [ofBits_448, ofBits_n448]
    exact le_min (by exact_mod_cast (by norm_num : (-448 : ℝ) ≤ 448)) (le_max_left _ _)
  refine ⟨(clip x).toReal, (EReal.coe_toReal (fun e => ?_) (fun e => ?_)).symm⟩
  · rw [e] at h1; exact absurd h1 (by simp)
  · rw [e] at h2; exact absurd h2 (by simp)

theorem scl_real {k : ℕ} (hk : 0 < k) (f : Fin k → EReal) (h : ∀ d, max (f d) (-(f d)) ≤ big) : ∃ r : ℝ, 0 < r ∧ scl (top f) = (r : EReal) := by
  obtain ⟨y, e, hy⟩ := top_fin hk f h
  exact ⟨(2 : ℝ) ^ expo y, by positivity, by rw [e]; exact (count y hy).1⟩

/-- The position of row `r` of block `p` of the window of point `m`. -/
def keyOf (m : ℕ) (hm : m < 64) (p : Fin 5) (r : Fin 256) : Fin 16384 :=
  if h : 4 ≤ m + p.val then ⟨256 * (m + p.val - 4) + r.val, by have := p.isLt; omega⟩ else ⟨0, by omega⟩

/-- Blocks that hold the codes and scales of the window's keys cover it. -/
theorem covers (X : S2x16384x4096.Idx → EReal) (K W : S2x16384x1024.Idx → EReal) (u : S2x8.Idx → EReal) (S : S32.Idx → EReal)
    (hX : ∀ i, max (X i) (-(X i)) ≤ big) (hK : ∀ i, max (K i) (-(K i)) ≤ big) (hS : ∀ i, S i < ⊤)
    (b : Fin 2) (m : ℕ) (hm : m < 64) (s : Fin 2) (x : Fin 128) (n : Fin 16384) (hn : n.val = 256 * m + 128 * s.val + x.val) (h : Fin 32) (d : Fin 128)
    (V : Fin 5 → Fin 256 → EReal) (raw : Fin 5 → Fin 256 → EReal)
    (hV : ∀ p r, 4 ≤ m + p.val → V p r = vC W u b (keyOf m hm p r) (kvh h) d)
    (hraw : ∀ p r, 4 ≤ m + p.val → raw p r = (∑ d, kC K b (keyOf m hm p r) (kvh h) d * qC X b n h d) * kS K b (keyOf m hm p r) (kvh h))
    (a : ℝ) (ha : (a : EReal) = qS X b n h * smLog2e) :
    0 < a ∧ uVal V (scOf m s x raw) a (S (ix1 h)) (u (ix2 b (kvh h))) = oC X K W u S b n h d := by
  obtain ⟨q, hq0, hq⟩ := scl_real (by decide) (fun d => X (ix3 b n (qcol h d))) fun d => hX _
  have hqS : qS X b n h = (q : EReal) := hq
  have hs2 : 0 < Real.log 2 := Real.log_pos (by norm_num)
  have hs : 0 < Real.sqrt 128 := Real.sqrt_pos.2 (by norm_num)
  have ha' : a = q * ((Real.sqrt 128)⁻¹ * (Real.log 2)⁻¹) := by
    rw [hqS] at ha; unfold smLog2e at ha; rw [← EReal.coe_mul] at ha; exact_mod_cast ha
  have ha0 : 0 < a := by rw [ha']; positivity
  refine ⟨ha0, uVal_eq (act := Act m s x) (key := keyOf m hm) ⟨ha0, hS _, ?_, ?_, ?_, ?_, ?_, ?_⟩⟩
  · rintro p r p' r' ⟨h1, -, -⟩ ⟨h2, -, -⟩ e
    have e' := congrArg Fin.val e
    unfold keyOf at e'
    rw [dif_pos h1, dif_pos h2] at e'
    have := r.isLt; have := r'.isLt
    simp only at e'
    exact ⟨Fin.ext (by omega), Fin.ext (by omega)⟩
  · rintro p r hp
    obtain ⟨k, hk0, hk⟩ := scl_real (by decide) (fun d => K (ix3 b (keyOf m hm p r) (kcol (kvh h) d))) fun d => hK _
    have hkS : kS K b (keyOf m hm p r) (kvh h) = (k : EReal) := hk
    choose kc hkc using fun d => clip_real (K (ix3 b (keyOf m hm p r) (kcol (kvh h) d)) * Spec.inv (top fun d => K (ix3 b (keyOf m hm p r) (kcol (kvh h) d))))
    choose qc hqc using fun d => clip_real (X (ix3 b n (qcol h d)) * Spec.inv (top fun d => X (ix3 b n (qcol h d))))
    have hd : (∑ d, kC K b (keyOf m hm p r) (kvh h) d * qC X b n h d) = ((∑ d, kc d * qc d : ℝ) : EReal) := by
      rw [← sumReal]
      refine Finset.sum_congr rfl fun d _ => ?_
      rw [EReal.coe_mul]
      exact congrArg₂ (fun u v : EReal => u * v) (hkc d) (hqc d)
    have hpp := hp
    obtain ⟨h1, h2, h3⟩ := hp
    refine ⟨(∑ d, kc d * qc d) * (q * (Real.sqrt 128)⁻¹) * k, (∑ d, kc d * qc d) * k, ?_, ?_, ?_⟩
    · unfold sC
      have hkey : (keyOf m hm p r).val = 256 * (m + p.val - 4) + r.val := by unfold keyOf; rw [dif_pos h1]
      rw [if_pos ⟨by omega, by omega⟩, hd, hqS, hkS]
      unfold rsD
      rw [← EReal.coe_mul, ← EReal.coe_mul, ← EReal.coe_mul]
    · unfold scOf
      rw [if_pos hpp, hraw p r h1, hd, hkS, ← EReal.coe_mul]
    · rw [ha']; ring
  · rintro p r ⟨h1, -, -⟩
    exact hV p r h1
  · intro p r hp
    exact if_neg hp
  · intro i hi
    have hw : i.val ≤ n.val ∧ n.val < i.val + 1024 := by
      by_contra hw
      exact hi (if_neg hw)
    refine ⟨⟨i.val / 256 + 4 - m, by omega⟩, ⟨i.val % 256, Nat.mod_lt _ (by decide)⟩, ⟨?_, ?_, ?_⟩, Fin.ext ?_⟩
    · show 4 ≤ m + (i.val / 256 + 4 - m); omega
    · show 256 * (i.val / 256 + 4 - m) + i.val % 256 ≤ _; omega
    · show _ < 256 * (i.val / 256 + 4 - m) + i.val % 256; omega
    · unfold keyOf
      rw [dif_pos (show 4 ≤ m + (i.val / 256 + 4 - m) by omega)]
      show 256 * (m + (i.val / 256 + 4 - m) - 4) + i.val % 256 = i.val
      omega
  · refine ⟨4, qrow s x, ?_, ?_, ?_⟩
    · show 4 ≤ m + 4; omega
    · show 256 * 4 + (128 * s.val + x.val) ≤ _; omega
    · show _ < 256 * 4 + (128 * s.val + x.val); omega

end Cert.KernelIdeal.Run

end
-- ==== Proof.PI.OutPoint.lean ====
/-
  What a point leaves in its block of the attention's result.
-/
module

public import proofs.«01_k».proof.Proof.PI.Carry
public import proofs.«01_k».proof.Proof.PI.Loops
public import proofs.«01_k».proof.Proof.PI.WantOut

@[expose] public section

noncomputable section

namespace Cert.KernelIdeal.Launch

open Cert.KernelIdeal Cert.KernelIdeal.Gen Cert.KernelIdeal.Run Cert.Spec
open Idealize.ShloMosaic Idealize.ShloMosaic.TcCoe Idealize.ShloMosaic.Tactic Idealize.SL.Sem

variable (m : (ℓ : Loc nD τ sig) → Buf (Elt Ideal) ℓ)

/-- The attention's result as an array. -/
def G5 (X : S2x16384x4096.Idx → EReal) (K V : S2x16384x1024.Idx → EReal) (u : S2x8.Idx → EReal) (S : S32.Idx → EReal) : S2x16384x4096.Idx → EReal := fun y =>
  oC X K V u S (y 0) (y 1) ⟨(y 2).val / 128, by have := (y 2).isLt; simp only [S2x16384x4096] at this; simp at this; omega⟩ ⟨(y 2).val % 128, Nat.mod_lt _ (by decide)⟩

/-- What point `t` leaves in the block of the result. -/
@[irreducible] def left7 (c : Dev nD) (t : Fin cfg0.N) : S1x256x4096.Idx → EReal := fun y =>
  G5 (aX m c) (aK m c) (aV m c) (aU m c) (aS m c) (ix3 (bt t) (pos t (y 1)) (y 2))

/-- Finite queries and keys, and no sink at +∞. -/
def Bounded (c : Dev nD) : Prop :=
  (∀ i, max (aX m c i) (-(aX m c i)) ≤ big) ∧ (∀ i, max (aK m c i) (-(aK m c i)) ≤ big) ∧ ∀ i, aS m c i < ⊤

/-- After a point the rings hold the codes and scales of the keys of its window. -/
theorem ring_at (c : Dev nD) (t : Fin cfg0.N) (a13 a14 a15) (hr : Ring m c (t.val + 1) a13 a14 a15) (p : Fin 5) (hm : (grid0.coords t 1).val < 64)
    (hp : 4 ≤ (grid0.coords t 1).val + p.val) (g : Fin 8) (r : Fin 256) (d : Fin 128) :
    a13 (ix3 g (rrow (slot (grid0.coords t 1).val p) r) d) = kC (aK m c) (bt t) (keyOf (grid0.coords t 1).val hm p r) g d
      ∧ a14 (ix3 g (rrow (slot (grid0.coords t 1).val p) r) d) = kS (aK m c) (bt t) (keyOf (grid0.coords t 1).val hm p r) g
      ∧ a15 (ix4 g (slot (grid0.coords t 1).val p) d r) = vC (aV m c) (aU m c) (bt t) (keyOf (grid0.coords t 1).val hm p r) g d := by
  have ht := coords_eq t
  have hp5 := p.isLt
  have htl := t.isLt
  obtain ⟨u, hu⟩ : ∃ u : Fin cfg0.N, u.val = t.val + p.val - 4 := ⟨⟨t.val + p.val - 4, by omega⟩, rfl⟩
  have hu' := coords_eq u
  have hu1 : (grid0.coords u 1).val < 64 := (grid0.coords u 1).isLt
  have hb : (grid0.coords u 0).val = (grid0.coords t 0).val := by omega
  have hm' : (grid0.coords u 1).val = (grid0.coords t 1).val + p.val - 4 := by omega
  have e1 : bt u = bt t := Fin.ext hb
  have e2 : cur u = slot (grid0.coords t 1).val p := Fin.ext (by show (grid0.coords u 1).val % 5 = ((grid0.coords t 1).val + p.val + 1) % 5; omega)
  have e3 : pos u r = keyOf (grid0.coords t 1).val hm p r := Fin.ext (by
    unfold keyOf; rw [dif_pos hp]; show 256 * (grid0.coords u 1).val + r.val = 256 * ((grid0.coords t 1).val + p.val - 4) + r.val; rw [hm'])
  have hbu : (bt u).val = (grid0.coords u 0).val := rfl
  have := hr u (by omega) (by omega) (by omega) g r d
  rw [e1, e2, e3] at this
  exact this

/-- An element of the block, by head and place in the head. -/
theorem left7_at (c : Dev nD) (t : Fin cfg0.N) (r : Fin 256) (y : Fin 4096) (h : Fin 32) (d : Fin 128) (hy : y.val = 128 * h.val + d.val) :
    left7 m c t (ix3 0 r y) = oC (aX m c) (aK m c) (aV m c) (aU m c) (aS m c) (bt t) (pos t r) h d := by
  have i1 : ∀ hlt, (⟨y.val / 128, hlt⟩ : Fin 32) = h := fun _ => Fin.ext (by show y.val / 128 = h.val; omega)
  have i2 : ∀ hlt, (⟨y.val % 128, hlt⟩ : Fin 128) = d := fun _ => Fin.ext (by show y.val % 128 = d.val; omega)
  unfold left7 G5
  exact congrArg₂ (oC (aX m c) (aK m c) (aV m c) (aU m c) (aS m c) (bt t) (pos t r)) (i1 _) (i2 _)

/-- The body leaves the attention's result in the block. -/
theorem attn_left (c : Dev nD) (hf : Bounded m c) (t : Fin cfg0.N) (s : St Ideal) (hr : Ring m c t.val s.a13 s.a14 s.a15) :
    (s_attn (inAt m c t) (grid0.coords t) s).2.a7 = left7 m c t := funext fun y => by
  idx_vars y
  obtain rfl : y0 = 0 := Subsingleton.elim _ _
  have hm : (grid0.coords t 1).val < 64 := (grid0.coords t 1).isLt
  rw [s_attn_eq]
  obtain ⟨σ, hσ⟩ : ∃ σ, σ = before (inAt m c t) (grid0.coords t) s := ⟨_, rfl⟩
  have hring : Ring m c (t.val + 1) σ.a13 σ.a14 σ.a15 := by rw [hσ]; exact ring_step m c t _ _ _ hr
  have h8 : σ.a8 = left8 m c t := by rw [hσ]; exact wr8_left m c t _
  have h16 : ∀ (b : Fin 2) (g u : Fin 8) (j : Fin 4) (x : Fin 128) (h : Fin 32) (hh : h.val = 4 * g.val + j.val) (r : Fin 256) (hr : r.val = 128 * b.val + x.val),
      σ.a16 (ix4 b g u (qcl j x)) = qS (aX m c) (bt t) (pos t r) h * smLog2e := fun b g u j x h hh r hr => by
    rw [hσ]
    refine (wr16_apply (inAt m c t) s.a9 s.a16 b g u j x h hh).trans ?_
    simp only [in_a2]
    have e : ∀ hlt, (⟨128 * b.val + x.val, hlt⟩ : Fin 256) = r := fun _ => Fin.ext hr.symm
    rw [e]
    rfl
  rw [← hσ]
  obtain ⟨b, x, hb⟩ : ∃ (b : Fin 2) (x : Fin 128), y1 = qrow b x := ⟨⟨y1.val / 128, by omega⟩, ⟨y1.val % 128, Nat.mod_lt _ (by decide)⟩, Fin.ext (by show y1.val = 128 * (y1.val / 128) + y1.val % 128; omega)⟩
  obtain ⟨g, j, d, hd⟩ : ∃ (g : Fin 8) (j : Fin 4) (d : Fin 128), y2 = hcol g j d :=
    ⟨⟨y2.val / 512, by omega⟩, ⟨y2.val / 128 % 4, Nat.mod_lt _ (by decide)⟩, ⟨y2.val % 128, Nat.mod_lt _ (by decide)⟩,
      Fin.ext (by show y2.val = 512 * (y2.val / 512) + 128 * (y2.val / 128 % 4) + y2.val % 128; omega)⟩
  obtain ⟨h, hh⟩ : ∃ h : Fin 32, h.val = 4 * g.val + j.val := ⟨⟨4 * g.val + j.val, by omega⟩, rfl⟩
  have hg : kvh h = g := Fin.ext (by show h.val / 4 = g.val; omega)
  have hcol' : ∀ e : Fin 128, hcol g j e = qcol h e := fun e => Fin.ext (by simp [qcol, hh]; omega)
  obtain ⟨q, hq0, hq⟩ := scl_real (by decide) (fun d => aX m c (ix3 (bt t) (pos t y1) (qcol h d))) fun d => hf.1 _
  obtain ⟨a, ha⟩ : ∃ a : ℝ, (a : EReal) = qS (aX m c) (bt t) (pos t y1) h * smLog2e := by
    refine ⟨q * ((Real.sqrt 128)⁻¹ * (Real.log 2)⁻¹), ?_⟩
    have hqS : qS (aX m c) (bt t) (pos t y1) h = (q : EReal) := hq
    rw [hqS]; unfold smLog2e; rw [← EReal.coe_mul]
  have hcov := covers (aX m c) (aK m c) (aV m c) (aU m c) (aS m c) hf.1 hf.2.1 hf.2.2 (bt t) (grid0.coords t 1).val hm b x (pos t y1)
    (by rw [hb]; show 256 * (grid0.coords t 1).val + (128 * b.val + x.val) = _; omega) h d
    (valOf σ.a15 (grid0.coords t 1).val g d) (fun p r => rawOf σ.a13 σ.a14 (fun e => σ.a8 (ix3 0 (qrow b x) (hcol g j e))) g x (slot (grid0.coords t 1).val p) r)
    (fun p r hp => by rw [hg]; exact (ring_at m c t _ _ _ hring p hm hp g r d).2.2)
    (fun p r hp => by
      unfold rawOf
      rw [hg, (ring_at m c t _ _ _ hring p hm hp g r x).2.1, ← hb]
      refine congrArg (fun z : EReal => z * _) (Finset.sum_congr rfl fun e _ => ?_)
      rw [(ring_at m c t _ _ _ hring p hm hp g r e).1, h8]
      show _ * left8 m c t (ix3 0 y1 (hcol g j e)) = _
      rw [hcol']
      refine congrArg (fun z : EReal => kC (aK m c) (bt t) (keyOf (grid0.coords t 1).val hm p r) g e * z) ?_
      show G6 (aX m c) (ix3 (bt t) (pos t y1) (qcol h e)) = _
      show qC (aX m c) (bt t) (pos t y1) ⟨(qcol h e).val / 128, _⟩ ⟨(qcol h e).val % 128, _⟩ = _
      have i1 : (⟨(qcol h e).val / 128, by have := (qcol h e).isLt; omega⟩ : Fin 32) = h := Fin.ext (by simp [qcol]; omega)
      have i2 : (⟨(qcol h e).val % 128, Nat.mod_lt _ (by decide)⟩ : Fin 128) = e := Fin.ext (by simp [qcol])
      rw [i1, i2]) a ha
  have hL := loops_at (inAt m c t) t σ b g j x d a hcov.1 (aS m c (ix1 h)) (aU m c (ix2 (bt t) g))
    (fun u => by rw [ha]; exact h16 b g u j x h hh y1 (by rw [hb])) (fun u => in_a6 m c t g u j x h hh) (fun u => in_a5 m c t g u x)
  rw [hb, hd, hL]
  unfold attnAt
  rw [hg] at hcov
  rw [hcov.2, hb]
  exact (left7_at m c t (qrow b x) (hcol g j d) h d (by show 512 * g.val + 128 * j.val + d.val = _; omega)).symm

end Cert.KernelIdeal.Launch

end
-- ==== Proof.PI.Launch.lean ====
/-
  The run of the program with its codes and scales named: the rings carried from point to point, the body obligation,
  the launch, and what the run leaves in the results.
-/
module

public import proofs.«01_k».proof.Proof.PI.OutPoint

@[expose] public section

noncomputable section

namespace Cert.KernelIdeal.Launch

open Cert.KernelIdeal Cert.KernelIdeal.Gen Cert.KernelIdeal.Run Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- No array is forgotten. -/
def forgets0 : Fin 11 → Bool := fun _ => false

/-- The rings as the points leave them, the other scratch at some contents, and the generator register. -/
def Carried (c : Dev nD) (n : ℕ) : sProp 𝕄 :=
  iprop((∃ (d13 : S8x1280x128.Idx → EReal) (d14 : S8x1280x128.Idx → EReal) (d15 : S8x5x128x256.Idx → EReal), ⌜Ring m c n d13 d14 d15⌝
      ∗ owns (c : Thread nD τ) (Memref.whole cc0_scratch0) fullShare d13 ∗ owns (c : Thread nD τ) (Memref.whole cc0_scratch1) fullShare d14
      ∗ owns (c : Thread nD τ) (Memref.whole cc0_scratch2) fullShare d15)
    ∗ (∃ d, owns (c : Thread nD τ) (Memref.whole cc0_scratch3) fullShare d) ∗ (∃ d, owns (c : Thread nD τ) (Memref.whole cc0_scratch4) fullShare d)
    ∗ (∃ d, owns (c : Thread nD τ) (Memref.whole cc0_scratch5) fullShare d) ∗ (∃ r, prngReg c r))

/-- The proof data on core `c`: the arrays as the region finds them, the inputs' blocks unchanged, the codes and scales
    named, and the rings carried. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left7 m c t
    | ⟨6, _⟩ => left8 m c t
    | ⟨7, _⟩ => left9 m c t
    | ⟨8, _⟩ => left10 m c t
    | ⟨9, _⟩ => left11 m c t
    | ⟨10, _⟩ => left12 m c t
    | w => Pipeline.Dat.unnamed (cfg := cfg0) w t
  Φ n := Carried m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = left7 m c t := rfl
theorem after_6 (c : Dev nD) (t : Fin cfg0.N) : (dats m 0 c).after 6 t = left8 m c t := rfl
theorem after_7 (c : Dev nD) (t : Fin cfg0.N) : (dats m 0 c).after 7 t = left9 m c t := rfl
theorem after_8 (c : Dev nD) (t : Fin cfg0.N) : (dats m 0 c).after 8 t = left10 m c t := rfl
theorem after_9 (c : Dev nD) (t : Fin cfg0.N) : (dats m 0 c).after 9 t = left11 m c t := rfl
theorem after_10 (c : Dev nD) (t : Fin cfg0.N) : (dats m 0 c).after 10 t = left12 m c t := rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (memAt t).a2 fullShare ((dats m 0 c).before 0 t d))
    ∗ (∃ d, owns (c : Thread nD τ) (memAt t).a3 fullShare ((dats m 0 c).before 1 t d))
    ∗ (∃ d, owns (c : Thread nD τ) (memAt t).a4 fullShare ((dats m 0 c).before 2 t d))
    ∗ (∃ d, owns (c : Thread nD τ) (memAt t).a5 fullShare ((dats m 0 c).before 3 t d))
    ∗ (∃ d, owns (c : Thread nD τ) (memAt t).a6 fullShare ((dats m 0 c).before 4 t d))
    ∗ (∃ d, owns (c : Thread nD τ) (memAt t).a7 fullShare ((dats m 0 c).before 5 t d))
    ∗ (∃ d, owns (c : Thread nD τ) (memAt t).a8 fullShare ((dats m 0 c).before 6 t d))
    ∗ (∃ d, owns (c : Thread nD τ) (memAt t).a9 fullShare ((dats m 0 c).before 7 t d))
    ∗ (∃ d, owns (c : Thread nD τ) (memAt t).a10 fullShare ((dats m 0 c).before 8 t d))
    ∗ (∃ d, owns (c : Thread nD τ) (memAt t).a11 fullShare ((dats m 0 c).before 9 t d))
    ∗ (∃ d, owns (c : Thread nD τ) (memAt t).a12 fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (memAt t).a2 fullShare ((dats m 0 c).after 0 t)
    ∗ owns (c : Thread nD τ) (memAt t).a3 fullShare ((dats m 0 c).after 1 t)
    ∗ owns (c : Thread nD τ) (memAt t).a4 fullShare ((dats m 0 c).after 2 t)
    ∗ owns (c : Thread nD τ) (memAt t).a5 fullShare ((dats m 0 c).after 3 t)
    ∗ owns (c : Thread nD τ) (memAt t).a6 fullShare ((dats m 0 c).after 4 t)
    ∗ owns (c : Thread nD τ) (memAt t).a7 fullShare ((dats m 0 c).after 5 t)
    ∗ owns (c : Thread nD τ) (memAt t).a8 fullShare ((dats m 0 c).after 6 t)
    ∗ owns (c : Thread nD τ) (memAt t).a9 fullShare ((dats m 0 c).after 7 t)
    ∗ owns (c : Thread nD τ) (memAt t).a10 fullShare ((dats m 0 c).after 8 t)
    ∗ owns (c : Thread nD τ) (memAt t).a11 fullShare ((dats m 0 c).after 9 t)
    ∗ owns (c : Thread nD τ) (memAt t).a12 fullShare ((dats m 0 c).after 10 t))

/-- The body at the point: the buffers gathered into a state, the run, and the buffers handed back. -/
theorem sound_body (c : Dev nD) (hf : Bounded m c) (t : Fin cfg0.N) :
    bodyPre m c t ⊢ wpB c (bodyAt0 t) (fun _ => bodyPost m c t) := by
  unfold bodyPre bodyPost
  rw [show (dats m 0 c).Φ t.succ = Carried m c (t.val + 1) from rfl,
    show (dats m 0 c).owesAt () t.succ = (dats m 0 c).owesAt () t.castSucc from rfl,
    show (dats m 0 c).Φ t.castSucc = Carried m c t.val from rfl]
  unfold Carried
  simp only [before0_0_of m (dats m 0 c) (A_eq m c 0) (fun t => after_0 m c t), before0_1_of m (dats m 0 c) (A_eq m c 1) (fun t => after_1 m c t), before0_2_of m (dats m 0 c) (A_eq m c 2) (fun t => after_2 m c t), before0_3_of m (dats m 0 c) (A_eq m c 3) (fun t => after_3 m c t), before0_4_of m (dats m 0 c) (A_eq m c 4) (fun t => after_4 m c t)]
  iintro ⟨⟨⟨%d13, %d14, %d15, %hr, H13, H14, H15⟩, ⟨%d16, H16⟩, ⟨%d17, H17⟩, ⟨%d18, H18⟩, Hg⟩, HO, ⟨%e2, H2⟩, ⟨%e3, H3⟩, ⟨%e4, H4⟩, ⟨%e5, H5⟩, ⟨%e6, H6⟩, ⟨%d7, H7⟩, ⟨%d8, H8⟩, ⟨%d9, H9⟩, ⟨%d10, H10⟩, ⟨%d11, H11⟩, ⟨%d12, H12⟩⟩
  obtain ⟨s, hs⟩ : ∃ s : St Ideal, s = ⟨(dats m 0 c).before 5 t d7, (dats m 0 c).before 6 t d8, (dats m 0 c).before 7 t d9, (dats m 0 c).before 8 t d10, (dats m 0 c).before 9 t d11, (dats m 0 c).before 10 t d12, d13, d14, d15, d16, d17, d18⟩ := ⟨_, rfl⟩
  have hk := kept_attn (inAt m c t) (grid0.coords t) s
  obtain ⟨u, hu⟩ : ∃ u : St Ideal, u = (s_attn (inAt m c t) (grid0.coords t) s).2 := ⟨_, rfl⟩
  rw [← hu] at hk
  have h7 : u.a7 = left7 m c t := by rw [hu]; exact attn_left m c hf t s (by rw [hs]; exact hr)
  have h8 : u.a8 = left8 m c t := (congrArg (fun q => q.1) hk).trans (wr8_left m c t _)
  have h9 : u.a9 = left9 m c t := (congrArg (fun q => q.2.1) hk).trans (wr9_left m c t _)
  have h10 : u.a10 = left10 m c t := (congrArg (fun q => q.2.2.1) hk).trans (wr10_left m c t _)
  have h11 : u.a11 = left11 m c t := (congrArg (fun q => q.2.2.2.1) hk).trans (wr11_left m c t _)
  have h12 : u.a12 = left12 m c t := (congrArg (fun q => q.2.2.2.2.1) hk).trans (wr12_left m c t _)
  have h13 : u.a13 = wr13 (inAt m c t) (grid0.coords t) d13 := (congrArg (fun q => q.2.2.2.2.2.1) hk).trans (by rw [hs]; rfl)
  have h14 : u.a14 = wr14 (inAt m c t) (grid0.coords t) d14 := (congrArg (fun q => q.2.2.2.2.2.2.1) hk).trans (by rw [hs]; rfl)
  have h15 : u.a15 = wr15 (inAt m c t) (grid0.coords t) d15 := (congrArg (fun q => q.2.2.2.2.2.2.2.1) hk).trans (by rw [hs]; rfl)
  have hr' : Ring m c (t.val + 1) u.a13 u.a14 u.a15 := by rw [h13, h14, h15]; exact ring_step m c t _ _ _ hr
  ihave HW := point_run c t (inAt m c t) s (iprop((∃ r, prngReg c r) ∗ (dats m 0 c).owesAt () t.castSucc)) $$ [H2 H3 H4 H5 H6 H7 H8 H9 H10 H11 H12 H13 H14 H15 H16 H17 H18 Hg HO]
  · rw [hs]
    unfold Own
    isplitr [Hg HO]; swap
    · isplitl [Hg] <;> iassumption
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  rw [after_5, after_6, after_7, after_8, after_9, after_10, ← h7, ← h8, ← h9, ← h10, ← h11, ← h12]
  iapply (wp_wand_r _ _ _)
  isplitl [HW]; · iexact HW
  iintro %v ⟨HS, Hg, HO⟩
  unfold Own
  rw [← hu]
  icases HS with ⟨H2, H3, H4, H5, H6, H7, H8, H9, H10, H11, H12, H13, H14, H15, H16, H17, H18⟩
  isplitl [Hg H13 H14 H15 H16 H17 H18]
  · isplitl [H13 H14 H15]
    · iexists _, _, _
      isplitr; · ipureintro; exact hr'
      isplitl [H13]; · iexact H13
      isplitl [H14]; · iexact H14
      iexact H15
    isplitl [H16]; · iexists _; iexact H16
    isplitl [H17]; · iexists _; iexact H17
    isplitl [H18]; · iexists _; iexact H18
    iexact Hg
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- Every point writes the block of the result. -/
theorem live5 : ∀ t : Fin cfg0.N, cfg0.idle 5 (cfg0.grid.coords t) = false := by decide +kernel

theorem body_obligation (c : Dev nD) (hf : Bounded m c) :
    BodyObligation (dats m 0 c) (defs₀ (F := Ideal)) Variants.none () Set.univ forgets0 := fun t => by
  rw [bigSep_W0, bigSep_W0, defs₀_row]
  rw [live5 t]
  exact triple_restated (sound_body m c hf t) rfl .rfl fun _ => .rfl

theorem carried_in (c : Dev nD) : (Pipeline.ΦA spec0 c : sProp 𝕄) ⊢ Carried m c 0 := by
  rw [PhiA_eq c (⟨0, (by decide : 0 < grid0.N)⟩ : Fin grid0.N)]
  unfold Carried
  iintro ⟨⟨⟨%d13, H13⟩, ⟨%d14, H14⟩, ⟨%d15, H15⟩, H16, H17, H18⟩, Hg⟩
  isplitl [H13 H14 H15]
  · iexists d13, d14, d15
    isplitr; · ipureintro; exact ring_zero m c _ _ _
    isplitl [H13]; · iexact H13
    isplitl [H14]; · iexact H14
    iexact H15
  isplitl [H16]; · iexact H16
  isplitl [H17]; · iexact H17
  isplitl [H18]; · iexact H18
  iexact Hg

theorem carried_out (c : Dev nD) (n : ℕ) : Carried m c n ⊢ (Pipeline.ΦA spec0 c : sProp 𝕄) := by
  rw [PhiA_eq c (⟨0, (by decide : 0 < grid0.N)⟩ : Fin grid0.N)]
  unfold Carried
  iintro ⟨⟨%d13, %d14, %d15, %hr, H13, H14, H15⟩, H16, H17, H18, Hg⟩
  isplitr [Hg]; swap; · iexact Hg
  isplitl [H13]; · iexists _; iexact H13
  isplitl [H14]; · iexists _; iexact H14
  isplitl [H15]; · iexists _; iexact H15
  isplitl [H16]; · iexact H16
  isplitl [H17]; · iexact H17
  iexact H18

-- the launch theorem's implicit arguments are found by unifying its conclusion with this statement
set_option backward.isDefEq.respectTransparency.types false in
/-- From any memory with zero counters every execution terminates; at the end the arrays hold what the proof data says
    and every counter is zero. -/
theorem run_main (hf : ∀ c, Bounded m c) :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c (hf c)).loose) (hshare := fun c => (dats m 0 c).share_full fun _ => rfl)
    (howed := fun _ _ => rfl) (V := V m) (hmain := hmain m Variants.none) (hA := A_eq m)
    (hin := fun c => carried_in m c) (hout := fun c => carried_out m c _)

theorem idx5 : ∀ t : Fin cfg0.N, win0_5.index t = ![(grid0.coords t 0).val, (grid0.coords t 1).val, 0] := (by decide +kernel : ∀ t : Fin grid0.N, _)
theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, (grid0.coords t 1).val, 0] := (by decide +kernel : ∀ t : Fin grid0.N, _)
theorem idx8 : ∀ t : Fin cfg0.N, win0_8.index t = ![(grid0.coords t 0).val, (grid0.coords t 1).val, 0] := (by decide +kernel : ∀ t : Fin grid0.N, _)
theorem idx9 : ∀ t : Fin cfg0.N, win0_9.index t = ![(grid0.coords t 0).val, (grid0.coords t 1).val, 0] := (by decide +kernel : ∀ t : Fin grid0.N, _)
theorem idx10 : ∀ t : Fin cfg0.N, win0_10.index t = ![(grid0.coords t 0).val, (grid0.coords t 1).val, 0] := (by decide +kernel : ∀ t : Fin grid0.N, _)

/-- At the end the array of the result is the attention's. -/
theorem final5 (c : Dev nD) : (dats m 0 c).arrAt 5 cfg0.N = G5 (aX m c) (aK m c) (aV m c) (aU m c) (aS m c) := by
  refine (dats m 0 c).arrAt_eq_of_covers 5 (G5 (aX m c) (aK m c) (aV m c) (aU m c) (aS m c)) (by decide +kernel) fun t hf y => ?_
  blk_simp
  rw [after_5]
  unfold left7
  refine congrArg (G5 (aX m c) (aK m c) (aV m c) (aU m c) (aS m c)) (funext fun a => Fin.ext ?_)
  blk_simp [idx5 t]
  idx_vars y
  fin_cases a <;> simp [ix3, bt, pos] <;> omega
theorem final6 (c : Dev nD) : (dats m 0 c).arrAt 6 cfg0.N = G6 (aX m c) := by
  refine (dats m 0 c).arrAt_eq_of_covers 6 (G6 (aX m c)) (by decide +kernel) fun t hf y => ?_
  blk_simp
  rw [after_6]
  refine congrArg (G6 (aX m c)) (funext fun a => Fin.ext ?_)
  blk_simp [idx6 t]
  idx_vars y
  fin_cases a <;> simp [ix3, bt, pos] <;> omega
theorem final7 (c : Dev nD) : (dats m 0 c).arrAt 7 cfg0.N = G7 (aX m c) := by
  refine (dats m 0 c).arrAt_eq_of_covers 7 (G7 (aX m c)) (by decide +kernel) fun t hf y => ?_
  blk_simp
  rw [after_7]
  refine congrArg (G7 (aX m c)) (funext fun a => Fin.ext ?_)
  blk_simp [idx7 t]
  idx_vars y
  fin_cases a <;> simp [ix3, bt, pos] <;> omega
theorem final8 (c : Dev nD) : (dats m 0 c).arrAt 8 cfg0.N = G8 (aK m c) := by
  refine (dats m 0 c).arrAt_eq_of_covers 8 (G8 (aK m c)) (by decide +kernel) fun t hf y => ?_
  blk_simp
  rw [after_8]
  refine congrArg (G8 (aK m c)) (funext fun a => Fin.ext ?_)
  blk_simp [idx8 t]
  idx_vars y
  fin_cases a <;> simp [ix3, bt, pos] <;> omega
theorem final9 (c : Dev nD) : (dats m 0 c).arrAt 9 cfg0.N = G9 (aK m c) := by
  refine (dats m 0 c).arrAt_eq_of_covers 9 (G9 (aK m c)) (by decide +kernel) fun t hf y => ?_
  blk_simp
  rw [after_9]
  refine congrArg (G9 (aK m c)) (funext fun a => Fin.ext ?_)
  blk_simp [idx9 t]
  idx_vars y
  fin_cases a <;> simp [ix3, bt, pos] <;> omega
theorem final10 (c : Dev nD) : (dats m 0 c).arrAt 10 cfg0.N = G10 (aV m c) (aU m c) := by
  refine (dats m 0 c).arrAt_eq_of_covers 10 (G10 (aV m c) (aU m c)) (by decide +kernel) fun t hf y => ?_
  blk_simp
  rw [after_10]
  refine congrArg (G10 (aV m c) (aU m c)) (funext fun a => Fin.ext ?_)
  blk_simp [idx10 t]
  idx_vars y
  fin_cases a <;> simp [ix3, bt, pos] <;> omega

end Cert.KernelIdeal.Launch

end
-- ==== Proof.RI.Codes.lean ====
/-
  The reference's codes and scales, element by element: those the kernel's counting gives, where the rows are finite.
-/
module

public import proofs.«01_k».proof.Proof.Gen.ReferenceIdeal.Run
public import proofs.«01_k».proof.Proof.Spec.Real
public import proofs.«01_k».proof.Proof.PI.Want
public import Idealize.ShloMosaic.Lib.Pipeline.Value

@[expose] public section

noncomputable section

namespace Cert.ReferenceIdeal.Codes

open Cert.ReferenceIdeal Cert.ReferenceIdeal.Gen Cert.ReferenceIdeal.Value Cert.Spec
open Cert.KernelIdeal.Run (qcol kcol qC qS kC kS vC)
open Idealize.ShloMosaic

variable (V0 : Valuation τ sig (Elt Ideal))

/-- The arguments and the named steps of the reference, read as arrays of extended reals. -/
abbrev X0 : S2x16384x4096.Idx → EReal := V0 (Proc.devRef .tc main_arg0)
abbrev X1 : S2x16384x1024.Idx → EReal := V0 (Proc.devRef .tc main_arg1)
abbrev X2 : S2x16384x1024.Idx → EReal := V0 (Proc.devRef .tc main_arg2)
abbrev X3 : S2x8.Idx → EReal := V0 (Proc.devRef .tc main_arg3)
abbrev X4 : S32.Idx → EReal := V0 (Proc.devRef .tc main_arg4)
abbrev r1 : S2x16384x32x128.Idx → EReal := res_main_v1 V0
abbrev r6 : S2x16384x32x1.Idx → EReal := res_main_v6 V0
abbrev r17 : S2x16384x32x1.Idx → EReal := res_main_v17 V0
abbrev r25 : S2x16384x32x128.Idx → EReal := res_main_v25 V0
abbrev r32 : S2x16384x8x128.Idx → EReal := res_main_v32 V0
abbrev r37 : S2x16384x8x1.Idx → EReal := res_main_v37 V0
abbrev r48 : S2x16384x8x1.Idx → EReal := res_main_v48 V0
abbrev r56 : S2x16384x8x128.Idx → EReal := res_main_v56 V0
abbrev r69 : S2x16384x8x128.Idx → EReal := res_main_v69 V0

theorem v1_apply (b : Fin 2) (n : Fin 16384) (h : Fin 32) (d : Fin 128) :
    r1 V0 (ix4 b n h d) = X0 V0 (ix3 b n (qcol h d)) := by
  pointwise [r1, res_main_v1]
  exact congrArg (fun y => X0 V0 (ix3 b n y)) (Fin.ext (by show h.val * 128 + d.val = 128 * h.val + d.val; omega))

theorem top32 (x : FVec Ideal S2x16384x32x128 .f32) (b : Fin 2) (n : Fin 16384) (h : Fin 32) :
    Host.reduce FloatOps.maximumf (Host.absf x) (constant S_ .f32 0xFF800000#32) reducesTo_S2x16384x32x128_S2x16384x32_d3 h_S_ (ix3 b n h)
      = amax fun d : Fin 128 => x (ix4 b n h d) := by
  have hr : S2x16384x32x128.Reduces [3] S2x16384x32 := by decide
  rw [Host.reduce_eq_fold_single (a := 3) FloatOps.maximumf _ _ _ hr]
  unfold amax
  refine congrArg (fun f => Finset.fold max (Ideal.ofBits .f32 0xFF800000#32) f Finset.univ) (funext fun d => ?_)
  have e : hr.lift (ix3 b n h) d = ix4 b n h d := funext fun a => Fin.ext (by fin_cases a <;> rfl)
  show FloatOps.absf (x (hr.lift (ix3 b n h) d)) = _
  rw [e]
  rfl

theorem v6_of (z : FVec Ideal S2x16384x32 .f32) (b : Fin 2) (n : Fin 16384) (h : Fin 32) :
    mulf (broadcastInDim S2x16384x32x1 ![0, 1, 2] bcast_S2x16384x32_S2x16384x32x1_0_1_2 z)
      (broadcastInDim S2x16384x32x1 ![] bcast_S_S2x16384x32x1 (constant S_ .f32 0x3B124925#32)) (ix4 b n h 0) = z (ix3 b n h) * lit := by
  pointwise []
  rfl

theorem drop32 (z : FVec Ideal S2x16384x32x1 .f32) (b : Fin 2) (n : Fin 16384) (h : Fin 32) :
    shapeCast S2x16384x32 z shapeCasts_S2x16384x32x1_S2x16384x32 (ix3 b n h) = z (ix4 b n h 0) := by
  refine Idealize.ShloMosaic.shapeCast_apply _ _ _ _ ?_
  simp only [Shape.rowMajor_val_four, Shape.rowMajor_val_three]
  simp [ix3, ix4]

theorem exp32_of (z : FVec Ideal S2x16384x32x1 .f32) (b : Fin 2) (n : Fin 16384) (h : Fin 32) :
    select (cmpf .olt z (broadcastInDim S2x16384x32x1 ![] bcast_S_S2x16384x32x1 (constant S_ .f32 0x00800000#32))) (broadcastInDim S2x16384x32x1 ![] bcast_S_S2x16384x32x1 (constant S_ .f32 0x00000000#32)) (addf (Host.floor (Host.divf (Host.log z) (Host.log (broadcastInDim S2x16384x32x1 ![] bcast_S_S2x16384x32x1 (constant S_ .f32 0x40000000#32))))) (broadcastInDim S2x16384x32x1 ![] bcast_S_S2x16384x32x1 (constant S_ .f32 0x3F800000#32))) (ix4 b n h 0)
      = (if (z (ix4 b n h 0) : EReal) < Ideal.ofBits FTy.f32 8388608#32 then 0
          else Ideal.liftRound Int.floor (Ideal.div (Ideal.log (z (ix4 b n h 0))) (Ideal.log (Ideal.ofBits FTy.f32 1073741824#32))) + 1 : EReal) := by
  pointwise []

theorem code32_of (x : FVec Ideal S2x16384x32x128 .f32) (z : FVec Ideal S2x16384x32x1 .f32) (b : Fin 2) (n : Fin 16384) (h : Fin 32) (d : Fin 128) :
    minimumf (broadcastInDim S2x16384x32x128 ![] bcast_S_S2x16384x32x128 (id (constant S_ .f32 0x43E00000#32))) (maximumf (broadcastInDim S2x16384x32x128 ![] bcast_S_S2x16384x32x128 (id (constant S_ .f32 0xC3E00000#32))) (mulf x (broadcastInDim S2x16384x32x128 ![0, 1, 2, 3] bcast_S2x16384x32x1_S2x16384x32x128_0_1_2_3 (Host.exp (mulf (Host.negf z) (Host.log (broadcastInDim S2x16384x32x1 ![] bcast_S_S2x16384x32x1 (constant S_ .f32 0x40000000#32)))))))) (ix4 b n h d)
      = clip ((x (ix4 b n h d) : EReal) * Ideal.exp (-(z (ix4 b n h 0) : EReal) * Ideal.log (Ideal.ofBits FTy.f32 1073741824#32))) := by
  pointwise []
  rfl

theorem scale32_of (z : FVec Ideal S2x16384x32x1 .f32) (b : Fin 2) (n : Fin 16384) (h : Fin 32) :
    Host.exp (mulf z (Host.log (broadcastInDim S2x16384x32x1 ![] bcast_S_S2x16384x32x1 (constant (F := Ideal) S_ .f32 0x40000000#32)))) (ix4 b n h 0)
      = Ideal.exp ((z (ix4 b n h 0) : EReal) * Ideal.log (Ideal.ofBits FTy.f32 1073741824#32)) := by
  pointwise []

theorem v6_apply (b : Fin 2) (n : Fin 16384) (h : Fin 32) :
    r6 V0 (ix4 b n h 0) = top fun d => X0 V0 (ix3 b n (qcol h d)) := by
  unfold r6 res_main_v6
  rw [v6_of, top32]
  simp only [v1_apply]
  rfl

theorem v17_apply (b : Fin 2) (n : Fin 16384) (h : Fin 32) (y : ℝ)
    (hy : (top fun d => X0 V0 (ix3 b n (qcol h d))) = (y : EReal)) :
    r17 V0 (ix4 b n h 0) = ((expo y : ℝ) : EReal) := by
  have e : r17 V0 (ix4 b n h 0) = (if r6 V0 (ix4 b n h 0) < Ideal.ofBits FTy.f32 8388608#32 then 0
    else Ideal.liftRound Int.floor (Ideal.div (Ideal.log (r6 V0 (ix4 b n h 0))) (Ideal.log (Ideal.ofBits FTy.f32 1073741824#32))) + 1) := by
    exact exp32_of (res_main_v6 V0) b n h
  rw [e, v6_apply, hy, ofBits_min, ofBits_two]
  exact sel_lexp y

theorem v25_apply (b : Fin 2) (n : Fin 16384) (h : Fin 32) (d : Fin 128)
    (hb : ∀ d, max (X0 V0 (ix3 b n (qcol h d)) : EReal) (-(X0 V0 (ix3 b n (qcol h d)) : EReal)) ≤ big) :
    r25 V0 (ix4 b n h d) = qC (X0 V0) b n h d := by
  obtain ⟨y, hy, hlt⟩ := top_fin (by decide) (fun d : Fin 128 => (X0 V0 (ix3 b n (qcol h d)) : EReal)) hb
  have e : r25 V0 (ix4 b n h d) = clip (r1 V0 (ix4 b n h d) *
          Ideal.exp (-r17 V0 (ix4 b n h 0) * Ideal.log (Ideal.ofBits FTy.f32 1073741824#32))) := by
    exact code32_of (res_main_v1 V0) (res_main_v17 V0) b n h d
  rw [e, v1_apply, v17_apply V0 b n h y hy, ofBits_two, log_two]
  unfold qC
  rw [hy, (count y hlt).2.1, ← exp_log_two]
  push_cast
  rfl

/-- The reference's scales. -/
theorem scale32 (hb : ∀ b n h d, max (X0 V0 (ix3 b n (qcol h d)) : EReal) (-(X0 V0 (ix3 b n (qcol h d)) : EReal)) ≤ big) :
    shapeCast S2x16384x32 (Host.exp (mulf (r17 V0) (Host.log (broadcastInDim S2x16384x32x1 ![] bcast_S_S2x16384x32x1 (constant (F := Ideal) S_ .f32 0x40000000#32))))) shapeCasts_S2x16384x32x1_S2x16384x32
      = (fun y => qS (X0 V0) (y 0) (y 1) (y 2) : S2x16384x32.Idx → EReal) := by
  funext y
  idx_vars y
  rw [drop32]
  refine (scale32_of (res_main_v17 V0) y0 y1 y2).trans ?_
  show Ideal.exp (r17 V0 (ix4 y0 y1 y2 0) * Ideal.log (Ideal.ofBits .f32 0x40000000#32)) = qS (X0 V0) y0 y1 y2
  obtain ⟨y, hy, hlt⟩ := top_fin (by decide) (fun d : Fin 128 => (X0 V0 (ix3 y0 y1 (qcol y2 d)) : EReal)) (hb y0 y1 y2)
  rw [v17_apply V0 y0 y1 y2 y hy, ofBits_two, log_two, exp_log_two]
  unfold qS
  rw [hy, (count y hlt).1]

/-- The reference's codes. -/
theorem codes32 (hb : ∀ b n h d, max (X0 V0 (ix3 b n (qcol h d)) : EReal) (-(X0 V0 (ix3 b n (qcol h d)) : EReal)) ≤ big) :
    (Host.convertf (φ := .f32) .fp8e4m3 (shapeCast S2x16384x4096 (r25 V0) shapeCasts_S2x16384x32x128_S2x16384x4096) : FVec Ideal _ _)
      = (Cert.KernelIdeal.Run.G6 (X0 V0) : S2x16384x4096.Idx → EReal) := by
  funext y
  idx_vars y
  have e : (Host.convertf (φ := .f32) .fp8e4m3 (shapeCast S2x16384x4096 (r25 V0) shapeCasts_S2x16384x32x128_S2x16384x4096) : FVec Ideal _ _) (ix3 y0 y1 y2)
      = r25 V0 (ix4 y0 y1 ⟨y2.val / 128, by omega⟩ ⟨y2.val % 128, Nat.mod_lt _ (by decide)⟩) := by
    pointwise []
  rw [e, v25_apply V0 _ _ _ _ (hb _ _ _)]
  rfl

theorem v32_apply (b : Fin 2) (n : Fin 16384) (h : Fin 8) (d : Fin 128) :
    r32 V0 (ix4 b n h d) = X1 V0 (ix3 b n (kcol h d)) := by
  pointwise [r32, res_main_v32]
  exact congrArg (fun y => X1 V0 (ix3 b n y)) (Fin.ext (by show h.val * 128 + d.val = 128 * h.val + d.val; omega))

theorem top8 (x : FVec Ideal S2x16384x8x128 .f32) (b : Fin 2) (n : Fin 16384) (h : Fin 8) :
    Host.reduce FloatOps.maximumf (Host.absf x) (constant S_ .f32 0xFF800000#32) reducesTo_S2x16384x8x128_S2x16384x8_d3 h_S_ (ix3 b n h)
      = amax fun d : Fin 128 => x (ix4 b n h d) := by
  have hr : S2x16384x8x128.Reduces [3] S2x16384x8 := by decide
  rw [Host.reduce_eq_fold_single (a := 3) FloatOps.maximumf _ _ _ hr]
  unfold amax
  refine congrArg (fun f => Finset.fold max (Ideal.ofBits .f32 0xFF800000#32) f Finset.univ) (funext fun d => ?_)
  have e : hr.lift (ix3 b n h) d = ix4 b n h d := funext fun a => Fin.ext (by fin_cases a <;> rfl)
  show FloatOps.absf (x (hr.lift (ix3 b n h) d)) = _
  rw [e]
  rfl

theorem v37_of (z : FVec Ideal S2x16384x8 .f32) (b : Fin 2) (n : Fin 16384) (h : Fin 8) :
    mulf (broadcastInDim S2x16384x8x1 ![0, 1, 2] bcast_S2x16384x8_S2x16384x8x1_0_1_2 z)
      (broadcastInDim S2x16384x8x1 ![] bcast_S_S2x16384x8x1 (constant S_ .f32 0x3B124925#32)) (ix4 b n h 0) = z (ix3 b n h) * lit := by
  pointwise []
  rfl

theorem drop8 (z : FVec Ideal S2x16384x8x1 .f32) (b : Fin 2) (n : Fin 16384) (h : Fin 8) :
    shapeCast S2x16384x8 z shapeCasts_S2x16384x8x1_S2x16384x8 (ix3 b n h) = z (ix4 b n h 0) := by
  refine Idealize.ShloMosaic.shapeCast_apply _ _ _ _ ?_
  simp only [Shape.rowMajor_val_four, Shape.rowMajor_val_three]
  simp [ix3, ix4]

theorem exp8_of (z : FVec Ideal S2x16384x8x1 .f32) (b : Fin 2) (n : Fin 16384) (h : Fin 8) :
    select (cmpf .olt z (broadcastInDim S2x16384x8x1 ![] bcast_S_S2x16384x8x1 (constant S_ .f32 0x00800000#32))) (broadcastInDim S2x16384x8x1 ![] bcast_S_S2x16384x8x1 (constant S_ .f32 0x00000000#32)) (addf (Host.floor (Host.divf (Host.log z) (Host.log (broadcastInDim S2x16384x8x1 ![] bcast_S_S2x16384x8x1 (constant S_ .f32 0x40000000#32))))) (broadcastInDim S2x16384x8x1 ![] bcast_S_S2x16384x8x1 (constant S_ .f32 0x3F800000#32))) (ix4 b n h 0)
      = (if (z (ix4 b n h 0) : EReal) < Ideal.ofBits FTy.f32 8388608#32 then 0
          else Ideal.liftRound Int.floor (Ideal.div (Ideal.log (z (ix4 b n h 0))) (Ideal.log (Ideal.ofBits FTy.f32 1073741824#32))) + 1 : EReal) := by
  pointwise []

theorem code8_of (x : FVec Ideal S2x16384x8x128 .f32) (z : FVec Ideal S2x16384x8x1 .f32) (b : Fin 2) (n : Fin 16384) (h : Fin 8) (d : Fin 128) :
    minimumf (broadcastInDim S2x16384x8x128 ![] bcast_S_S2x16384x8x128 (id (constant S_ .f32 0x43E00000#32))) (maximumf (broadcastInDim S2x16384x8x128 ![] bcast_S_S2x16384x8x128 (id (constant S_ .f32 0xC3E00000#32))) (mulf x (broadcastInDim S2x16384x8x128 ![0, 1, 2, 3] bcast_S2x16384x8x1_S2x16384x8x128_0_1_2_3 (Host.exp (mulf (Host.negf z) (Host.log (broadcastInDim S2x16384x8x1 ![] bcast_S_S2x16384x8x1 (constant S_ .f32 0x40000000#32)))))))) (ix4 b n h d)
      = clip ((x (ix4 b n h d) : EReal) * Ideal.exp (-(z (ix4 b n h 0) : EReal) * Ideal.log (Ideal.ofBits FTy.f32 1073741824#32))) := by
  pointwise []
  rfl

theorem scale8_of (z : FVec Ideal S2x16384x8x1 .f32) (b : Fin 2) (n : Fin 16384) (h : Fin 8) :
    Host.exp (mulf z (Host.log (broadcastInDim S2x16384x8x1 ![] bcast_S_S2x16384x8x1 (constant (F := Ideal) S_ .f32 0x40000000#32)))) (ix4 b n h 0)
      = Ideal.exp ((z (ix4 b n h 0) : EReal) * Ideal.log (Ideal.ofBits FTy.f32 1073741824#32)) := by
  pointwise []

theorem v37_apply (b : Fin 2) (n : Fin 16384) (h : Fin 8) :
    r37 V0 (ix4 b n h 0) = top fun d => X1 V0 (ix3 b n (kcol h d)) := by
  unfold r37 res_main_v37
  rw [v37_of, top8]
  simp only [v32_apply]
  rfl

theorem v48_apply (b : Fin 2) (n : Fin 16384) (h : Fin 8) (y : ℝ)
    (hy : (top fun d => X1 V0 (ix3 b n (kcol h d))) = (y : EReal)) :
    r48 V0 (ix4 b n h 0) = ((expo y : ℝ) : EReal) := by
  have e : r48 V0 (ix4 b n h 0) = (if r37 V0 (ix4 b n h 0) < Ideal.ofBits FTy.f32 8388608#32 then 0
    else Ideal.liftRound Int.floor (Ideal.div (Ideal.log (r37 V0 (ix4 b n h 0))) (Ideal.log (Ideal.ofBits FTy.f32 1073741824#32))) + 1) := by
    exact exp8_of (res_main_v37 V0) b n h
  rw [e, v37_apply, hy, ofBits_min, ofBits_two]
  exact sel_lexp y

theorem v56_apply (b : Fin 2) (n : Fin 16384) (h : Fin 8) (d : Fin 128)
    (hb : ∀ d, max (X1 V0 (ix3 b n (kcol h d)) : EReal) (-(X1 V0 (ix3 b n (kcol h d)) : EReal)) ≤ big) :
    r56 V0 (ix4 b n h d) = kC (X1 V0) b n h d := by
  obtain ⟨y, hy, hlt⟩ := top_fin (by decide) (fun d : Fin 128 => (X1 V0 (ix3 b n (kcol h d)) : EReal)) hb
  have e : r56 V0 (ix4 b n h d) = clip (r32 V0 (ix4 b n h d) *
          Ideal.exp (-r48 V0 (ix4 b n h 0) * Ideal.log (Ideal.ofBits FTy.f32 1073741824#32))) := by
    exact code8_of (res_main_v32 V0) (res_main_v48 V0) b n h d
  rw [e, v32_apply, v48_apply V0 b n h y hy, ofBits_two, log_two]
  unfold kC
  rw [hy, (count y hlt).2.1, ← exp_log_two]
  push_cast
  rfl

/-- The reference's scales. -/
theorem scale8 (hb : ∀ b n h d, max (X1 V0 (ix3 b n (kcol h d)) : EReal) (-(X1 V0 (ix3 b n (kcol h d)) : EReal)) ≤ big) :
    shapeCast S2x16384x8 (Host.exp (mulf (r48 V0) (Host.log (broadcastInDim S2x16384x8x1 ![] bcast_S_S2x16384x8x1 (constant (F := Ideal) S_ .f32 0x40000000#32))))) shapeCasts_S2x16384x8x1_S2x16384x8
      = (fun y => kS (X1 V0) (y 0) (y 1) (y 2) : S2x16384x8.Idx → EReal) := by
  funext y
  idx_vars y
  rw [drop8]
  refine (scale8_of (res_main_v48 V0) y0 y1 y2).trans ?_
  show Ideal.exp (r48 V0 (ix4 y0 y1 y2 0) * Ideal.log (Ideal.ofBits .f32 0x40000000#32)) = kS (X1 V0) y0 y1 y2
  obtain ⟨y, hy, hlt⟩ := top_fin (by decide) (fun d : Fin 128 => (X1 V0 (ix3 y0 y1 (kcol y2 d)) : EReal)) (hb y0 y1 y2)
  rw [v48_apply V0 y0 y1 y2 y hy, ofBits_two, log_two, exp_log_two]
  unfold kS
  rw [hy, (count y hlt).1]

/-- The reference's codes. -/
theorem codes8 (hb : ∀ b n h d, max (X1 V0 (ix3 b n (kcol h d)) : EReal) (-(X1 V0 (ix3 b n (kcol h d)) : EReal)) ≤ big) :
    (Host.convertf (φ := .f32) .fp8e4m3 (shapeCast S2x16384x1024 (r56 V0) shapeCasts_S2x16384x8x128_S2x16384x1024) : FVec Ideal _ _)
      = (Cert.KernelIdeal.Run.G8 (X1 V0) : S2x16384x1024.Idx → EReal) := by
  funext y
  idx_vars y
  have e : (Host.convertf (φ := .f32) .fp8e4m3 (shapeCast S2x16384x1024 (r56 V0) shapeCasts_S2x16384x8x128_S2x16384x1024) : FVec Ideal _ _) (ix3 y0 y1 y2)
      = r56 V0 (ix4 y0 y1 ⟨y2.val / 128, by omega⟩ ⟨y2.val % 128, Nat.mod_lt _ (by decide)⟩) := by
    pointwise []
  rw [e, v56_apply V0 _ _ _ _ (hb _ _ _)]
  rfl

theorem v69_apply (b : Fin 2) (n : Fin 16384) (h : Fin 8) (d : Fin 128) :
    r69 V0 (ix4 b n h d) = vC (X2 V0) (X3 V0) b n h d := by
  have e : r69 V0 (ix4 b n h d) = clip (X2 V0 (ix3 b n ⟨h.val * 128 + d.val, by omega⟩) *
          Ideal.div 1 (X3 V0 (ix2 b h))) := by
    pointwise [r69, res_main_v69]
    rfl
  rw [e]
  unfold vC
  rw [show (⟨h.val * 128 + d.val, by omega⟩ : Fin 1024) = kcol h d from Fin.ext (by show h.val * 128 + d.val = 128 * h.val + d.val; omega)]

/-- The reference's value codes. -/
theorem vcodes :
    (Host.convertf (φ := .f32) .fp8e4m3 (shapeCast S2x16384x1024 (r69 V0) shapeCasts_S2x16384x8x128_S2x16384x1024) : FVec Ideal _ _)
      = (Cert.KernelIdeal.Run.G10 (X2 V0) (X3 V0) : S2x16384x1024.Idx → EReal) := by
  funext y
  idx_vars y
  have e : (Host.convertf (φ := .f32) .fp8e4m3 (shapeCast S2x16384x1024 (r69 V0) shapeCasts_S2x16384x8x128_S2x16384x1024) : FVec Ideal _ _) (ix3 y0 y1 y2)
      = r69 V0 (ix4 y0 y1 ⟨y2.val / 128, by omega⟩ ⟨y2.val % 128, Nat.mod_lt _ (by decide)⟩) := by
    pointwise []
  rw [e, v69_apply]
  rfl

end Cert.ReferenceIdeal.Codes

end
-- ==== Proof.RI.Out.lean ====
/-
  The reference's attention, element by element.
-/
module

public import proofs.«01_k».proof.Proof.RI.Codes
public import proofs.«01_k».proof.Proof.PI.WantOut

@[expose] public section

noncomputable section

namespace Cert.ReferenceIdeal.Out

open Cert.ReferenceIdeal Cert.ReferenceIdeal.Gen Cert.ReferenceIdeal.Value Cert.ReferenceIdeal.Codes Cert.Spec
open Cert.KernelIdeal.Run (qcol kcol qC qS kC kS vC)
open Idealize.ShloMosaic

/-- The query head of key head `g` and place `j` in its group. -/
abbrev hd (g : Fin 8) (j : Fin 4) : Fin 32 := ⟨g.val * 4 + j.val, by omega⟩

/-- The window's mask: key `n'` is at most `n` and above `n - 1024`. -/
theorem mask_at (n n' : Fin 16384) (V0 : Valuation τ sig (Elt Ideal)) :
    andi (cmpi .sle (broadcastInDim S16384x16384 ![0, 1] bcast_S1x16384_S16384x16384_0_1 (res_main_v88 V0)) (broadcastInDim S16384x16384 ![0, 1] bcast_S16384x1_S16384x16384_0_1 (res_main_v86 V0))) (cmpi .sgt (broadcastInDim S16384x16384 ![0, 1] bcast_S1x16384_S16384x16384_0_1 (res_main_v88 V0)) (broadcastInDim S16384x16384 ![0, 1] bcast_S16384x1_S16384x16384_0_1 (subi (res_main_v86 V0) (broadcastInDim S16384x1 ![] bcast_S_S16384x1 (constantI S_ 32 1024#32))))) (ix2 n n')
     = if n'.val ≤ n.val ∧ n.val < n'.val + 1024 then 1#1 else 0#1 := by
  pointwise [res_main_v88, res_main_v86]
  have h1 := n.isLt; have h2 := n'.isLt
  have e1 : (BitVec.ofNat 32 n'.val).toInt = n'.val := by rw [BitVec.toInt_eq_toNat_of_lt] <;> simp <;> omega
  have e2 : (BitVec.ofNat 32 n.val).toInt = n.val := by rw [BitVec.toInt_eq_toNat_of_lt] <;> simp <;> omega
  have e3 : (BitVec.ofNat 32 n.val - 1024#32).toInt = (n.val : ℤ) - 1024 := by
    rw [BitVec.toInt_sub, e2]; simp [Int.bmod]; omega
  show BitVec.ofBool ((BitVec.ofNat 32 n'.val).sle (BitVec.ofNat 32 n.val)) &&& BitVec.ofBool ((BitVec.ofNat 32 n.val - 1024#32).slt (BitVec.ofNat 32 n'.val)) = _
  simp only [BitVec.sle_eq_decide, BitVec.slt_eq_decide, e1, e2, e3]
  by_cases a : n'.val ≤ n.val <;> by_cases b : n.val < n'.val + 1024
  · have a' : (n'.val : ℤ) ≤ n.val := by omega
    have b' : (n.val : ℤ) - 1024 < n'.val := by omega
    simp [a, b, a', b']
  · have b' : ¬ (n.val : ℤ) - 1024 < n'.val := by omega
    simp [a, b, b']
  · have a' : ¬ (n'.val : ℤ) ≤ n.val := by omega
    simp [a, a']
  · have a' : ¬ (n'.val : ℤ) ≤ n.val := by omega
    simp [a, a']

/-- The unscaled scores: the product of a query's and a key's codes. -/
theorem raw_of (k : FVec Ideal S2x16384x8x128 .f32) (q : FVec Ideal S2x16384x32x128 .f32) (b : Fin 2) (g : Fin 8) (j : Fin 4) (n n' : Fin 16384) :
    transpose S2x8x4x16384x16384 [0, 1, 4, 3, 2] (Host.dotGeneral dot_S2x16384x8x128_S2x16384x8x4x128_S2x8x16384x16384x4_3_4_1_13_02_02 none k (shapeCast _ q shapeCasts_S2x16384x32x128_S2x16384x8x4x128)) transposes_S2x8x16384x16384x4_S2x8x4x16384x16384_0_1_4_3_2 (ix5 b g j n n')
      = (∑ d : Fin 128, (k (ix4 b n' g d) : EReal) * q (ix4 b n (hd g j) d) : EReal) := by
  pointwise []

/-- The queries' scales over the root of the head dimension. -/
theorem qs_of (z : FVec Ideal S2x16384x32 .f32) (b : Fin 2) (g : Fin 8) (j : Fin 4) (n : Fin 16384) :
    Host.divf (broadcastInDim S2x8x4x16384x1 ![0, 1, 2, 3] bcast_S2x8x4x16384_S2x8x4x16384x1_0_1_2_3 (transpose S2x8x4x16384 [0, 2, 3, 1] (shapeCast _ z shapeCasts_S2x16384x32_S2x16384x8x4) transposes_S2x16384x8x4_S2x8x4x16384_0_2_3_1)) (Host.sqrt (broadcastInDim S2x8x4x16384x1 ![] bcast_S_S2x8x4x16384x1 (constant S_ .f32 0x43000000#32))) (ix5 b g j n 0)
      = Ideal.div (z (ix3 b n (hd g j))) (Ideal.sqrt (Ideal.ofBits .f32 0x43000000#32)) := by
  pointwise []

/-- The scores, scaled and masked. -/
theorem v98_of (M : IVec S16384x16384 1) (R : FVec Ideal S2x8x4x16384x16384 .f32) (Q : FVec Ideal S2x8x4x16384x1 .f32) (K : FVec Ideal S2x16384x8 .f32) (b : Fin 2) (g : Fin 8) (j : Fin 4) (n n' : Fin 16384) :
    select (broadcastInDim S2x8x4x16384x16384 ![3, 4] bcast_S16384x16384_S2x8x4x16384x16384_3_4 M) (mulf (mulf R (broadcastInDim S2x8x4x16384x16384 ![0, 1, 2, 3, 4] bcast_S2x8x4x16384x1_S2x8x4x16384x16384_0_1_2_3_4 Q)) (broadcastInDim S2x8x4x16384x16384 ![0, 1, 2, 3, 4] bcast_S2x8x1x1x16384_S2x8x4x16384x16384_0_1_2_3_4 (broadcastInDim S2x8x1x1x16384 ![0, 1, 4] bcast_S2x8x16384_S2x8x1x1x16384_0_1_4 (transpose S2x8x16384 [0, 2, 1] K transposes_S2x16384x8_S2x8x16384_0_2_1)))) (broadcastInDim S2x8x4x16384x16384 ![] bcast_S_S2x8x4x16384x16384 (id (constant S_ .f32 0xFF800000#32))) (ix5 b g j n n')
      = (if M (ix2 n n') = 1#1 then (R (ix5 b g j n n') : EReal) * Q (ix5 b g j n 0) * K (ix3 b n' g) else Ideal.ofBits .f32 0xFF800000#32 : EReal) := by
  pointwise []
  by_cases h : M (ix2 n n') = 1#1
  · rw [if_pos h, h]; rfl
  · have h' : ¬ M (ix2 n n') = 1 := h
    rw [if_neg h]
    unfold Scalar.select
    rw [if_neg h']
    rfl

/-- The larger of the scores' maximum and the sink. -/
theorem v104_of (z : FVec Ideal S2x8x4x16384 .f32) (s : FVec Ideal S1x8x4x1x1 .f32) (b : Fin 2) (g : Fin 8) (j : Fin 4) (n : Fin 16384) :
   maximumf (broadcastInDim S2x8x4x16384x1 ![0, 1, 2, 3] bcast_S2x8x4x16384_S2x8x4x16384x1_0_1_2_3 z) (broadcastInDim S2x8x4x16384x1 ![0, 1, 2, 3, 4] bcast_S1x8x4x1x1_S2x8x4x16384x1_0_1_2_3_4 s) (ix5 b g j n 0)
     = max (z (ix4 b g j n) : EReal) (s (ix5 0 g j 0 0)) := by
  pointwise []

/-- The sinks by key head and place in the group. -/
theorem v100_of (z : FVec Ideal S32 .f32) (g : Fin 8) (j : Fin 4) :
    broadcastInDim S1x8x4x1x1 ![1, 2] bcast_S8x4_S1x8x4x1x1_1_2 (shapeCast _ z shapeCasts_S32_S8x4) (ix5 0 g j 0 0) = z (ix1 (hd g j)) := by
  pointwise []

/-- The probabilities, not yet divided by their sum. -/
theorem v107_of (z : FVec Ideal S2x8x4x16384x16384 .f32) (w : FVec Ideal S2x8x4x16384x1 .f32) (b : Fin 2) (g : Fin 8) (j : Fin 4) (n n' : Fin 16384) :
    Host.exp (subf z (broadcastInDim S2x8x4x16384x16384 ![0, 1, 2, 3, 4] bcast_S2x8x4x16384x1_S2x8x4x16384x16384_0_1_2_3_4 w)) (ix5 b g j n n')
      = Ideal.exp ((z (ix5 b g j n n') : EReal) - w (ix5 b g j n 0)) := by
  pointwise []

/-- What the probabilities' exponent is taken from. -/
theorem v118_of (z : FVec Ideal S2x8x4x16384 .f32) (b : Fin 2) (g : Fin 8) (j : Fin 4) (n : Fin 16384) :
    mulf (broadcastInDim S2x8x4x16384x1 ![0, 1, 2, 3] bcast_S2x8x4x16384_S2x8x4x16384x1_0_1_2_3 z) (broadcastInDim S2x8x4x16384x1 ![] bcast_S_S2x8x4x16384x1 (constant S_ .f32 0x3B124925#32)) (ix5 b g j n 0) = z (ix4 b g j n) * lit := by
  pointwise []
  rfl

/-- The probabilities' exponent. -/
theorem v129_of (z : FVec Ideal S2x8x4x16384x1 .f32) (b : Fin 2) (g : Fin 8) (j : Fin 4) (n : Fin 16384) :
    select (cmpf .olt z (broadcastInDim S2x8x4x16384x1 ![] bcast_S_S2x8x4x16384x1 (constant S_ .f32 0x00800000#32))) (broadcastInDim S2x8x4x16384x1 ![] bcast_S_S2x8x4x16384x1 (constant S_ .f32 0x00000000#32)) (addf (Host.floor (Host.divf (Host.log z) (Host.log (broadcastInDim S2x8x4x16384x1 ![] bcast_S_S2x8x4x16384x1 (constant S_ .f32 0x40000000#32))))) (broadcastInDim S2x8x4x16384x1 ![] bcast_S_S2x8x4x16384x1 (constant S_ .f32 0x3F800000#32))) (ix5 b g j n 0)
      = (if (z (ix5 b g j n 0) : EReal) < Ideal.ofBits FTy.f32 8388608#32 then 0
          else Ideal.liftRound Int.floor (Ideal.div (Ideal.log (z (ix5 b g j n 0))) (Ideal.log (Ideal.ofBits FTy.f32 1073741824#32))) + 1 : EReal) := by
  pointwise []

/-- The probabilities' codes. -/
theorem pcode_of (x : FVec Ideal S2x8x4x16384x16384 .f32) (z : FVec Ideal S2x8x4x16384x1 .f32) (b : Fin 2) (g : Fin 8) (j : Fin 4) (n n' : Fin 16384) :
    minimumf (broadcastInDim S2x8x4x16384x16384 ![] bcast_S_S2x8x4x16384x16384 (id (constant S_ .f32 0x43E00000#32))) (maximumf (broadcastInDim S2x8x4x16384x16384 ![] bcast_S_S2x8x4x16384x16384 (id (constant S_ .f32 0xC3E00000#32))) (mulf x (broadcastInDim S2x8x4x16384x16384 ![0, 1, 2, 3, 4] bcast_S2x8x4x16384x1_S2x8x4x16384x16384_0_1_2_3_4 (Host.exp (mulf (Host.negf z) (Host.log (broadcastInDim S2x8x4x16384x1 ![] bcast_S_S2x8x4x16384x1 (constant S_ .f32 0x40000000#32)))))))) (ix5 b g j n n')
      = clip ((x (ix5 b g j n n') : EReal) * Ideal.exp (-(z (ix5 b g j n 0) : EReal) * Ideal.log (Ideal.ofBits FTy.f32 1073741824#32))) := by
  pointwise []
  rfl

/-- The probabilities' scales. -/
theorem pscale_of (z : FVec Ideal S2x8x4x16384x1 .f32) (b : Fin 2) (g : Fin 8) (j : Fin 4) (n : Fin 16384) :
    shapeCast S2x8x4x16384 (Host.exp (mulf z (Host.log (broadcastInDim S2x8x4x16384x1 ![] bcast_S_S2x8x4x16384x1 (constant (F := Ideal) S_ .f32 0x40000000#32))))) shapeCasts_S2x8x4x16384x1_S2x8x4x16384 (ix4 b g j n)
      = Ideal.exp ((z (ix5 b g j n 0) : EReal) * Ideal.log (Ideal.ofBits FTy.f32 1073741824#32)) := by
  pointwise []

/-- The product of the probabilities' and the values' codes. -/
theorem pv_of (p : FVec Ideal S2x8x4x16384x16384 .f32) (v : FVec Ideal S2x16384x8x128 .f32) (b : Fin 2) (g : Fin 8) (j : Fin 4) (n : Fin 16384) (d : Fin 128) :
    Host.dotGeneral dot_S2x8x4x16384x16384_S2x16384x8x128_S2x8x4x16384x128_4_1_23_3_01_02 none p v (ix5 b g j n d)
      = (∑ n' : Fin 16384, (p (ix5 b g j n n') : EReal) * v (ix4 b n' g d) : EReal) := by
  pointwise []

/-- The sum of the probabilities. -/
theorem sum_of (p : FVec Ideal S2x8x4x16384x16384 .f32) (b : Fin 2) (g : Fin 8) (j : Fin 4) (n : Fin 16384) :
    Host.reduceAdd p (constant S_ .f32 0x00000000#32) reducesTo_S2x8x4x16384x16384_S2x8x4x16384_d4 h_S_ (ix4 b g j n) = (∑ n' : Fin 16384, (p (ix5 b g j n n') : EReal) : EReal) := by
  pointwise []

/-- The product with its two scales, divided by the sum, at a column of the result. -/
theorem out_of (P : FVec Ideal S2x8x4x16384x128 .f32) (C : FVec Ideal S2x8x4x16384 .f32) (u : FVec Ideal S2x8 .f32) (L : FVec Ideal S2x8x4x16384 .f32) (s : FVec Ideal S1x8x4x1x1 .f32) (w : FVec Ideal S2x8x4x16384x1 .f32)
    (b : Fin 2) (n : Fin 16384) (y : Fin 4096) (g : Fin 8) (j : Fin 4) (d : Fin 128) (hy : y.val = 512 * g.val + 128 * j.val + d.val) :
    truncf .bf16 (shapeCast S2x16384x4096 (transpose S2x16384x8x4x128 [0, 3, 1, 2, 4] (Host.divf (mulf (mulf P (broadcastInDim S2x8x4x16384x128 ![0, 1, 2, 3, 4] bcast_S2x8x4x16384x1_S2x8x4x16384x128_0_1_2_3_4 (broadcastInDim S2x8x4x16384x1 ![0, 1, 2, 3] bcast_S2x8x4x16384_S2x8x4x16384x1_0_1_2_3 C))) (broadcastInDim S2x8x4x16384x128 ![0, 1, 2, 3, 4] bcast_S2x8x1x1x1_S2x8x4x16384x128_0_1_2_3_4 (broadcastInDim S2x8x1x1x1 ![0, 1] bcast_S2x8_S2x8x1x1x1_0_1 u))) (broadcastInDim S2x8x4x16384x128 ![0, 1, 2, 3, 4] bcast_S2x8x4x16384x1_S2x8x4x16384x128_0_1_2_3_4 (addf (broadcastInDim S2x8x4x16384x1 ![0, 1, 2, 3] bcast_S2x8x4x16384_S2x8x4x16384x1_0_1_2_3 L) (Host.exp (subf (broadcastInDim S2x8x4x16384x1 ![0, 1, 2, 3, 4] bcast_S1x8x4x1x1_S2x8x4x16384x1_0_1_2_3_4 s) w))))) transposes_S2x8x4x16384x128_S2x16384x8x4x128_0_3_1_2_4) shapeCasts_S2x16384x8x4x128_S2x16384x4096) bitsLt_bf16_f32 (ix3 b n y)
      = (Ideal.div ((P (ix5 b g j n d) : EReal) * C (ix4 b g j n) * u (ix2 b g)) ((L (ix4 b g j n) : EReal) + Ideal.exp ((s (ix5 0 g j 0 0) : EReal) - w (ix5 b g j n 0))) : EReal) := by
  have i1 : ∀ hlt, (⟨y.val / 512, hlt⟩ : Fin 8) = g := fun _ => Fin.ext (by show y.val / 512 = g.val; omega)
  have i2 : ∀ hlt, (⟨y.val / 128 % 4, hlt⟩ : Fin 4) = j := fun _ => Fin.ext (by show y.val / 128 % 4 = j.val; omega)
  have i3 : ∀ hlt, (⟨y.val % 128, hlt⟩ : Fin 128) = d := fun _ => Fin.ext (by show y.val % 128 = d.val; omega)
  pointwise []
  simp only [i1, i2, i3]

end Cert.ReferenceIdeal.Out

end
-- ==== Proof.RI.OutVal.lean ====
/-
  The reference's attention is the softmax with a sink over each query's window.
-/
module

public import proofs.«01_k».proof.Proof.RI.Out
public import proofs.«01_k».proof.Proof.PI.OutPoint

@[expose] public section

noncomputable section

namespace Cert.ReferenceIdeal.Out

open Cert.ReferenceIdeal Cert.ReferenceIdeal.Gen Cert.ReferenceIdeal.Value Cert.ReferenceIdeal.Codes Cert.Spec
open Cert.KernelIdeal.Run (qcol kcol qC qS kC kS vC kvh rsD sC oC aM aP aVal)
open Idealize.ShloMosaic

variable (V0 : Valuation τ sig (Elt Ideal))

/-- The named steps of the reference, read as arrays of extended reals. -/
abbrev r98 : S2x8x4x16384x16384.Idx → EReal := res_main_v98 V0
abbrev r104 : S2x8x4x16384x1.Idx → EReal := res_main_v104 V0
abbrev r107 : S2x8x4x16384x16384.Idx → EReal := res_main_v107 V0
abbrev r118 : S2x8x4x16384x1.Idx → EReal := res_main_v118 V0
abbrev r129 : S2x8x4x16384x1.Idx → EReal := res_main_v129 V0

/-- The finite queries and keys. -/
def FinX : Prop := ∀ i, max (X0 V0 i) (-(X0 V0 i)) ≤ big
def FinK : Prop := ∀ i, max (X1 V0 i) (-(X1 V0 i)) ≤ big

/-- The key head of a query head. -/
theorem kvh_hd (g : Fin 8) (j : Fin 4) : kvh (hd g j) = g := Fin.ext (by show (g.val * 4 + j.val) / 4 = g.val; omega)

theorem ofBits_128 : Ideal.ofBits .f32 0x43000000#32 = ((128 : ℝ) : EReal) := by
  show Ideal.ieee 8 23 0x43000000#32 = _
  have b1 : ((0x43000000#32 : BitVec 32).extractLsb' (8 + 23) 1 == 1#1) = false := by decide
  have b2 : ((0x43000000#32 : BitVec 32).extractLsb' 23 8).toNat = 134 := by decide
  have b3 : ((0x43000000#32 : BitVec 32).extractLsb' 0 23).toNat = 0 := by decide
  simp only [Ideal.ieee, b1, b2, b3]
  norm_num

/-- Dividing by the root of 128 is multiplying by its inverse. -/
theorem div_root (x : EReal) : Ideal.div x (Ideal.sqrt (Ideal.ofBits .f32 0x43000000#32)) = x * rsD := by
  have h : 0 < Real.sqrt 128 := Real.sqrt_pos.2 (by norm_num)
  have e : Ideal.sqrt ((128 : ℝ) : EReal) = ((Real.sqrt 128 : ℝ) : EReal) := by
    show (if (128 : ℝ) < 0 then ⊥ else ((Real.sqrt 128 : ℝ) : EReal)) = _
    rw [if_neg (by norm_num)]
  rw [ofBits_128, e]
  unfold Ideal.div rsD
  rw [if_neg (by exact_mod_cast h.ne'), EReal.coe_inv]

/-- The reference's scores. -/
theorem r98_apply (hX : FinX V0) (hK : FinK V0) (b : Fin 2) (g : Fin 8) (j : Fin 4) (n n' : Fin 16384) :
    r98 V0 (ix5 b g j n n') = sC (X0 V0) (X1 V0) b n (hd g j) n' := by
  unfold r98 res_main_v98
  rw [v98_of, mask_at, raw_of, qs_of, div_root]
  unfold sC
  rw [kvh_hd]
  by_cases h : n'.val ≤ n.val ∧ n.val < n'.val + 1024
  · rw [if_pos h, if_pos rfl, if_pos h]
    refine congrArg₂ (fun u v : EReal => u * v) (congrArg₂ (fun u v : EReal => u * v) (Finset.sum_congr rfl fun d _ => congrArg₂ (fun u v : EReal => u * v) (v56_apply V0 b n' g d fun d => hK _) (v25_apply V0 b n (hd g j) d fun d => hX _)) ?_) ?_
    · exact congrArg (fun u : EReal => u * rsD) (congrFun (scale32 V0 fun b n h d => hX _) (ix3 b n (hd g j)))
    · exact congrFun (scale8 V0 fun b n h d => hK _) (ix3 b n' g)
  · rw [if_neg h, if_neg (by decide), if_neg h, ofBits_ninf]

/-- A maximum from -∞ is a supremum. -/
theorem fold_sup {k : ℕ} (f : Fin k → EReal) : Finset.fold max (Ideal.ofBits .f32 0xFF800000#32) f Finset.univ = ⨆ i, f i := by
  rw [ofBits_ninf]
  refine eq_of_forall_ge_iff fun c => ?_
  rw [Finset.fold_max_le, iSup_le_iff]
  simp

/-- The maximum over the keys. -/
theorem max_of (z : FVec Ideal S2x8x4x16384x16384 .f32) (b : Fin 2) (g : Fin 8) (j : Fin 4) (n : Fin 16384) :
    Host.reduce FloatOps.maximumf z (constant S_ .f32 0xFF800000#32) reducesTo_S2x8x4x16384x16384_S2x8x4x16384_d4 h_S_ (ix4 b g j n)
      = (⨆ n' : Fin 16384, (z (ix5 b g j n n') : EReal) : EReal) := by
  have hr : S2x8x4x16384x16384.Reduces [4] S2x8x4x16384 := by decide
  rw [Host.reduce_eq_fold_single (a := 4) FloatOps.maximumf _ _ _ hr]
  have e : ∀ n', hr.lift (ix4 b g j n) n' = ix5 b g j n n' := fun n' => funext fun a => Fin.ext (by fin_cases a <;> rfl)
  refine Eq.trans ?_ (fold_sup fun n' : Fin 16384 => (z (ix5 b g j n n') : EReal))
  refine congrArg (fun f => Finset.fold max (Ideal.ofBits .f32 0xFF800000#32) f Finset.univ) (funext fun d => ?_)
  exact congrArg z (e d)

/-- The largest magnitude over the keys. -/
theorem amax_of (z : FVec Ideal S2x8x4x16384x16384 .f32) (b : Fin 2) (g : Fin 8) (j : Fin 4) (n : Fin 16384) :
    Host.reduce FloatOps.maximumf (Host.absf z) (constant S_ .f32 0xFF800000#32) reducesTo_S2x8x4x16384x16384_S2x8x4x16384_d4 h_S_ (ix4 b g j n)
      = amax fun n' : Fin 16384 => z (ix5 b g j n n') := by
  have hr : S2x8x4x16384x16384.Reduces [4] S2x8x4x16384 := by decide
  rw [Host.reduce_eq_fold_single (a := 4) FloatOps.maximumf _ _ _ hr]
  unfold amax
  refine congrArg (fun f => Finset.fold max (Ideal.ofBits .f32 0xFF800000#32) f Finset.univ) (funext fun d => ?_)
  have e : hr.lift (ix4 b g j n) d = ix5 b g j n d := funext fun a => Fin.ext (by fin_cases a <;> rfl)
  show FloatOps.absf (z (hr.lift (ix4 b g j n) d)) = _
  rw [e]
  rfl

/-- The largest logit, the sink's among them. -/
theorem r104_apply (hX : FinX V0) (hK : FinK V0) (b : Fin 2) (g : Fin 8) (j : Fin 4) (n : Fin 16384) :
    r104 V0 (ix5 b g j n 0) = aM (sC (X0 V0) (X1 V0) b n (hd g j)) (X4 V0 (ix1 (hd g j))) := by
  unfold r104 res_main_v104
  rw [v104_of, max_of]
  unfold aM
  refine congrArg₂ (fun u v : EReal => max u v) (congrArg (fun f : Fin 16384 → EReal => ⨆ i, f i) (funext fun n' => r98_apply V0 hX hK b g j n n')) ?_
  unfold res_main_v100
  exact v100_of (V0 (Proc.devRef .tc main_arg4)) g j

/-- The reference's probabilities. -/
theorem r107_apply (hX : FinX V0) (hK : FinK V0) (b : Fin 2) (g : Fin 8) (j : Fin 4) (n n' : Fin 16384) :
    r107 V0 (ix5 b g j n n') = aP (sC (X0 V0) (X1 V0) b n (hd g j)) (X4 V0 (ix1 (hd g j))) n' := by
  unfold r107 res_main_v107
  rw [v107_of]
  unfold aP
  exact congrArg Ideal.exp (congrArg₂ (fun u v : EReal => u - v) (r98_apply V0 hX hK b g j n n') (r104_apply V0 hX hK b g j n))

/-- The exponential of a number that is not positive. -/
theorem exp_le_one (x : EReal) (h : x ≤ 0) : 0 ≤ Ideal.exp x ∧ Ideal.exp x ≤ 1 := by
  induction x using EReal.rec with
  | bot => exact ⟨le_refl _, zero_le_one⟩
  | top => simp at h
  | coe r =>
    have h' : r ≤ 0 := by exact_mod_cast h
    exact ⟨show (0 : EReal) ≤ ((Real.exp r : ℝ) : EReal) by exact_mod_cast (Real.exp_pos r).le,
      show ((Real.exp r : ℝ) : EReal) ≤ 1 by exact_mod_cast Real.exp_le_one_iff.2 h'⟩

/-- A probability is at most one. -/
theorem aP_le {k : ℕ} (s : Fin k → EReal) (sk : EReal) (i : Fin k) : max (aP s sk i) (-(aP s sk i)) ≤ big := by
  have h : s i - aM s sk ≤ 0 := EReal.sub_nonpos.2 ((le_iSup s i).trans (le_max_left _ _))
  obtain ⟨h0, h1⟩ := exp_le_one _ h
  have hb : (1 : EReal) ≤ big := by rw [big_eq]; exact_mod_cast (by norm_num : (1 : ℝ) ≤ 2 ^ 128 - 2 ^ 120)
  refine max_le (h1.trans hb) (le_trans ?_ (zero_le_one.trans hb))
  rw [EReal.neg_le_zero]
  exact h0

/-- What the reference takes the probabilities' exponent from. -/
theorem r118_apply (hX : FinX V0) (hK : FinK V0) (b : Fin 2) (g : Fin 8) (j : Fin 4) (n : Fin 16384) :
    r118 V0 (ix5 b g j n 0) = top (aP (sC (X0 V0) (X1 V0) b n (hd g j)) (X4 V0 (ix1 (hd g j)))) := by
  unfold r118 res_main_v118
  rw [v118_of, amax_of]
  unfold top
  exact congrArg (fun f : Fin 16384 → EReal => amax f * lit) (funext fun n' => r107_apply V0 hX hK b g j n n')

/-- The reference's exponent of the probabilities. -/
theorem r129_apply (hX : FinX V0) (hK : FinK V0) (b : Fin 2) (g : Fin 8) (j : Fin 4) (n : Fin 16384) (y : ℝ)
    (hy : top (aP (sC (X0 V0) (X1 V0) b n (hd g j)) (X4 V0 (ix1 (hd g j)))) = (y : EReal)) :
    r129 V0 (ix5 b g j n 0) = ((expo y : ℝ) : EReal) := by
  have e : r129 V0 (ix5 b g j n 0) = (if r118 V0 (ix5 b g j n 0) < Ideal.ofBits FTy.f32 8388608#32 then 0
    else Ideal.liftRound Int.floor (Ideal.div (Ideal.log (r118 V0 (ix5 b g j n 0))) (Ideal.log (Ideal.ofBits FTy.f32 1073741824#32))) + 1) := by
    exact v129_of (res_main_v118 V0) b g j n
  rw [e, r118_apply V0 hX hK, hy, ofBits_min, ofBits_two]
  exact sel_lexp y

/-- The reference's attention. -/
theorem out_apply (hX : FinX V0) (hK : FinK V0) :
    truncf .bf16 (shapeCast S2x16384x4096 (transpose S2x16384x8x4x128 [0, 3, 1, 2, 4] (Host.divf (mulf (mulf (Host.dotGeneral (φ₁ := .f32) (φ₂ := .f32) dot_S2x8x4x16384x16384_S2x16384x8x128_S2x8x4x16384x128_4_1_23_3_01_02 none (minimumf (broadcastInDim S2x8x4x16384x16384 ![] bcast_S_S2x8x4x16384x16384 (id (constant S_ .f32 0x43E00000#32))) (maximumf (broadcastInDim S2x8x4x16384x16384 ![] bcast_S_S2x8x4x16384x16384 (id (constant S_ .f32 0xC3E00000#32))) (mulf (res_main_v107 V0) (broadcastInDim S2x8x4x16384x16384 ![0, 1, 2, 3, 4] bcast_S2x8x4x16384x1_S2x8x4x16384x16384_0_1_2_3_4 (Host.exp (mulf (Host.negf (res_main_v129 V0)) (Host.log (broadcastInDim S2x8x4x16384x1 ![] bcast_S_S2x8x4x16384x1 (constant S_ .f32 0x40000000#32))))))))) (res_main_v69 V0)) (broadcastInDim S2x8x4x16384x128 ![0, 1, 2, 3, 4] bcast_S2x8x4x16384x1_S2x8x4x16384x128_0_1_2_3_4 (broadcastInDim S2x8x4x16384x1 ![0, 1, 2, 3] bcast_S2x8x4x16384_S2x8x4x16384x1_0_1_2_3 (shapeCast _ (Host.exp (mulf (res_main_v129 V0) (Host.log (broadcastInDim S2x8x4x16384x1 ![] bcast_S_S2x8x4x16384x1 (constant S_ .f32 0x40000000#32))))) shapeCasts_S2x8x4x16384x1_S2x8x4x16384)))) (broadcastInDim S2x8x4x16384x128 ![0, 1, 2, 3, 4] bcast_S2x8x1x1x1_S2x8x4x16384x128_0_1_2_3_4 (broadcastInDim S2x8x1x1x1 ![0, 1] bcast_S2x8_S2x8x1x1x1_0_1 (V0 (Proc.devRef .tc main_arg3))))) (broadcastInDim S2x8x4x16384x128 ![0, 1, 2, 3, 4] bcast_S2x8x4x16384x1_S2x8x4x16384x128_0_1_2_3_4 (addf (broadcastInDim S2x8x4x16384x1 ![0, 1, 2, 3] bcast_S2x8x4x16384_S2x8x4x16384x1_0_1_2_3 (Host.reduceAdd (res_main_v107 V0) (constant S_ .f32 0x00000000#32) reducesTo_S2x8x4x16384x16384_S2x8x4x16384_d4 h_S_)) (Host.exp (subf (broadcastInDim S2x8x4x16384x1 ![0, 1, 2, 3, 4] bcast_S1x8x4x1x1_S2x8x4x16384x1_0_1_2_3_4 (res_main_v100 V0)) (res_main_v104 V0)))))) transposes_S2x8x4x16384x128_S2x16384x8x4x128_0_3_1_2_4) shapeCasts_S2x16384x8x4x128_S2x16384x4096) bitsLt_bf16_f32
      = (Cert.KernelIdeal.Launch.G5 (X0 V0) (X1 V0) (X2 V0) (X3 V0) (X4 V0) : S2x16384x4096.Idx → EReal) := by
  funext y
  idx_vars y
  obtain ⟨g, hg⟩ : ∃ g : Fin 8, g.val = y2.val / 512 := ⟨⟨y2.val / 512, by omega⟩, rfl⟩
  obtain ⟨j, hj⟩ : ∃ j : Fin 4, j.val = y2.val / 128 % 4 := ⟨⟨y2.val / 128 % 4, by omega⟩, rfl⟩
  obtain ⟨d, hd'⟩ : ∃ d : Fin 128, d.val = y2.val % 128 := ⟨⟨y2.val % 128, by omega⟩, rfl⟩
  rw [out_of _ _ _ _ _ _ y0 y1 y2 g j d (by omega), pv_of, pscale_of, sum_of]
  have i1 : ∀ hlt, (⟨y2.val / 128, hlt⟩ : Fin 32) = hd g j := fun _ => Fin.ext (by show y2.val / 128 = g.val * 4 + j.val; omega)
  have i2 : ∀ hlt, (⟨y2.val % 128, hlt⟩ : Fin 128) = d := fun _ => Fin.ext hd'.symm
  have hG : Cert.KernelIdeal.Launch.G5 (X0 V0) (X1 V0) (X2 V0) (X3 V0) (X4 V0) (ix3 y0 y1 y2) = oC (X0 V0) (X1 V0) (X2 V0) (X3 V0) (X4 V0) y0 y1 (hd g j) d := by
    unfold Cert.KernelIdeal.Launch.G5
    exact congrArg₂ (oC (X0 V0) (X1 V0) (X2 V0) (X3 V0) (X4 V0) y0 y1) (i1 _) (i2 _)
  rw [hG]
  unfold oC aVal
  rw [kvh_hd]
  obtain ⟨s, hs⟩ : ∃ s, s = sC (X0 V0) (X1 V0) y0 y1 (hd g j) := ⟨_, rfl⟩
  obtain ⟨sk, hsk⟩ : ∃ sk, sk = X4 V0 (ix1 (hd g j)) := ⟨_, rfl⟩
  obtain ⟨y, hy, hlt⟩ := top_fin (by decide) (aP s sk) fun i => aP_le s sk i
  have h129 : r129 V0 (ix5 y0 g j y1 0) = ((expo y : ℝ) : EReal) := r129_apply V0 hX hK y0 g j y1 y (by rw [← hs, ← hsk]; exact hy)
  have h107 : ∀ n', r107 V0 (ix5 y0 g j y1 n') = aP s sk n' := fun n' => by rw [hs, hsk]; exact r107_apply V0 hX hK y0 g j y1 n'
  have h104 : r104 V0 (ix5 y0 g j y1 0) = aM s sk := by rw [hs, hsk]; exact r104_apply V0 hX hK y0 g j y1
  have h100 : (res_main_v100 V0 : S1x8x4x1x1.Idx → EReal) (ix5 0 g j 0 0) = sk := by
    rw [hsk]; unfold res_main_v100; exact v100_of (V0 (Proc.devRef .tc main_arg4)) g j
  rw [← hs, ← hsk]
  refine congrArg₂ Ideal.div (congrArg₂ (fun u v : EReal => u * v) (congrArg₂ (fun u v : EReal => u * v) (Finset.sum_congr rfl fun n' _ => congrArg₂ (fun u v : EReal => u * v) ?_ (v69_apply V0 y0 n' g d)) ?_) rfl)
    (congrArg₂ (fun u v : EReal => u + v) (Finset.sum_congr rfl fun n' _ => h107 n') (congrArg Ideal.exp (congrArg₂ (fun u v : EReal => u - v) h100 h104)))
  · refine (pcode_of (res_main_v107 V0) (res_main_v129 V0) y0 g j y1 n').trans ?_
    show clip (r107 V0 (ix5 y0 g j y1 n') * Ideal.exp (-(r129 V0 (ix5 y0 g j y1 0)) * Ideal.log (Ideal.ofBits FTy.f32 1073741824#32))) = _
    rw [h107, h129, hy, (count y hlt).2.1, ofBits_two, log_two, ← exp_log_two]
    push_cast
    rfl
  · show Ideal.exp (r129 V0 (ix5 y0 g j y1 0) * Ideal.log (Ideal.ofBits FTy.f32 1073741824#32)) = _
    rw [h129, ofBits_two, log_two, exp_log_two, hy, (count y hlt).1]

end Cert.ReferenceIdeal.Out

end
-- ==== Proof.Pre.lean ====
/-
  What the precondition says of the arguments: the queries and keys are finite, no sink is +∞.
-/
module

public import proofs.«01_k».proof.Defs
public import proofs.«01_k».proof.Proof.Spec.Real
public import Idealize.ShloMosaic.Lib.ReduceAll
public import Idealize.ShloMosaic.Lib.Exec
public import Idealize.ShloMosaic.Lib.Pipeline.Value

@[expose] public section

noncomputable section

namespace Cert.Finite

open Idealize.ShloMosaic Cert.Spec Cert.Pre_finite

/-- The side conditions of the precondition. -/
instance facts : Cert.Pre_finite.Facts where
  bitsLt_bf16_f32 := by decide
  bcast_S_S2x16384x4096 := by decide
  reducesTo_S2x16384x4096_S_d0_1_2 := by decide
  h_S_ := by decide
  bcast_S_S2x16384x1024 := by decide
  reducesTo_S2x16384x1024_S_d0_1_2 := by decide
  bcast_S_S32 := by decide
  reducesTo_S32_S_d0 := by decide

theorem and_split (a b : BitVec 1) (h : a &&& b = 1#1) : a = 1#1 ∧ b = 1#1 := by
  revert h; revert a b; decide

theorem le_of (S : Shape) (x y : FVec Ideal S .f32) (i : S.Idx) (h : cmpf .ole x y i = 1#1) : (x i : EReal) ≤ (y i : EReal) := by
  have h2 : (BitVec.ofBool (decide ((x i : EReal) ≤ (y i : EReal)))) = 1#1 := h
  by_contra hn
  rw [decide_eq_false hn] at h2
  exact absurd h2 (by decide)

theorem lt_of (S : Shape) (x y : FVec Ideal S .f32) (i : S.Idx) (h : cmpf .olt x y i = 1#1) : (x i : EReal) < (y i : EReal) := by
  have h2 : (BitVec.ofBool (decide ((x i : EReal) < (y i : EReal)))) = 1#1 := h
  by_contra hn
  rw [decide_eq_false hn] at h2
  exact absurd h2 (by decide)

instance : Subsingleton S_.Idx := ⟨fun a b => funext fun i => i.elim0⟩

variable (x0 : FVec Ideal S2x16384x4096 .bf16) (x1 x2 : FVec Ideal S2x16384x1024 .bf16) (x3 : FVec Ideal S2x8 .f32) (x4 : FVec Ideal S32 .f32)

/-- Under the precondition every query and key element is at most the largest bf16 in absolute value, and every sink is below +∞. -/
theorem bounds (h : fn (F := Ideal) x0 x1 x2 x3 x4 = fun _ => 1#1) :
    (∀ i, max (x0 i : EReal) (-(x0 i : EReal)) ≤ big) ∧ (∀ i, max (x1 i : EReal) (-(x1 i : EReal)) ≤ big) ∧ (∀ i, (x4 i : EReal) < ⊤) := by
  have h0 := congrFun h (fun i => i.elim0)
  obtain ⟨h1, h4⟩ := and_split _ _ h0
  obtain ⟨ha, hb⟩ := and_split _ _ h1
  refine ⟨fun i => ?_, fun i => ?_, fun i => ?_⟩
  · exact le_of _ _ _ i (Host.reduce_andi_all _ _ _ _ _ ha i)
  · exact le_of _ _ _ i (Host.reduce_andi_all _ _ _ _ _ hb i)
  · rw [← ofBits_inf]
    exact lt_of _ _ _ i (Host.reduce_andi_all _ _ _ _ _ h4 i)

end Cert.Finite

end
-- ==== Proof.lean ====
/-
  The proof of the claims: the frames of the kernel and of its idealization (`P.Frame`, `PI.Frame`), the reference's
  frame (its run), the constants the idealization names, and the equality of the results: the attention, the codes and
  the scales of the kernel (`PI.Launch`) and of the reference (`RI.OutVal`, `RI.Codes`) are the same arrays of the
  arguments.
-/
module

public import proofs.«01_k».proof.Defs
public import proofs.«01_k».proof.Proof.Gen.Kernel
public import proofs.«01_k».proof.Proof.Gen.KernelIdeal
public import proofs.«01_k».proof.Proof.P.Frame
public import proofs.«01_k».proof.Proof.PI.Frame
public import proofs.«01_k».proof.Proof.PI.Launch
public import proofs.«01_k».proof.Proof.RI.OutVal
public import proofs.«01_k».proof.Proof.Pre
public import proofs.«01_k».proof.Proof.Gen.ReferenceIdeal.Run

@[expose] public section

noncomputable section

namespace Cert.Proof

open Idealize.ShloMosaic Idealize.ShloMosaic.StableHlo Idealize.SL.Sem
open Cert.KernelIdeal.Run (G6 G7 G8 G9 G10 aX aK aV aU aS)
open Cert.KernelIdeal.Launch (G5)

/-- The reference ends with its arguments unchanged; it declares no semaphore. -/
theorem quiescent_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The attention's result, the codes and the scales of the kernel are the reference's. -/
theorem algebraic : Cert.algebraic_KernelIdeal_ReferenceIdeal_pre_finite := by
  intro m g m' g' hpre hagree
  have hb : ∀ c, Cert.KernelIdeal.Launch.Bounded m c := fun c => Cert.Finite.bounds _ _ _ _ _ (hpre c)
  refine ⟨fun c => G5 (aX m c) (aK m c) (aV m c) (aU m c) (aS m c),
    fun c => G6 (aX m c), fun c => G7 (aX m c), fun c => G8 (aK m c), fun c => G9 (aK m c), fun c => G10 (aV m c) (aU m c), ?_, ?_⟩
  · refine (θ_run Cert.KernelIdeal.defs _ _).mono (fun r h c => ?_) (Cert.KernelIdeal.Launch.run_main m g hb)
    refine ⟨?_, ?_, ?_, ?_, ?_, ?_, ?_⟩
    · exact ((((Cert.KernelIdeal.Launch.dats m 0 c).toRForget_arrAt_iff (w := 5) rfl _ _).1 ((h.1 c).1 5))).trans (Cert.KernelIdeal.Launch.final5 m c)
    · exact (((((Cert.KernelIdeal.Launch.dats m 0 c).toRForget_arrAt_iff (w := 6) rfl _ _).1 ((h.1 c).1 6))).trans (Cert.KernelIdeal.Launch.final6 m c))
    · exact (((((Cert.KernelIdeal.Launch.dats m 0 c).toRForget_arrAt_iff (w := 7) rfl _ _).1 ((h.1 c).1 7))).trans (Cert.KernelIdeal.Launch.final7 m c))
    · exact (((((Cert.KernelIdeal.Launch.dats m 0 c).toRForget_arrAt_iff (w := 8) rfl _ _).1 ((h.1 c).1 8))).trans (Cert.KernelIdeal.Launch.final8 m c))
    · exact (((((Cert.KernelIdeal.Launch.dats m 0 c).toRForget_arrAt_iff (w := 9) rfl _ _).1 ((h.1 c).1 9))).trans (Cert.KernelIdeal.Launch.final9 m c))
    · exact (((((Cert.KernelIdeal.Launch.dats m 0 c).toRForget_arrAt_iff (w := 10) rfl _ _).1 ((h.1 c).1 10))).trans (Cert.KernelIdeal.Launch.final10 m c))
    · exact ⟨(h.1.arr_in c 0 rfl).trans (Cert.KernelIdeal.Gen.V_main_arg0 m c), (h.1.arr_in c 1 rfl).trans (Cert.KernelIdeal.Gen.V_main_arg1 m c),
        (h.1.arr_in c 2 rfl).trans (Cert.KernelIdeal.Gen.V_main_arg2 m c),
        ((h.1 c).2 Cert.KernelIdeal.main_arg3 (Pipeline.mem_restRefs_of Cert.KernelIdeal.main_arg3 (by decide) (by decide))).trans (Cert.KernelIdeal.Gen.V_main_arg3 m c),
        ((h.1 c).2 Cert.KernelIdeal.main_arg4 (Pipeline.mem_restRefs_of Cert.KernelIdeal.main_arg4 (by decide) (by decide))).trans (Cert.KernelIdeal.Gen.V_main_arg4 m c)⟩
  · refine (θ_run Cert.ReferenceIdeal.defs _ _).mono (fun r h c => ?_) (Cert.ReferenceIdeal.Value.run (F := Ideal) m' g')
    obtain ⟨e0, e1, e2, e3, e4⟩ := hagree c
    obtain ⟨b0, b1, -⟩ := Cert.Finite.bounds _ _ _ _ _ (hpre c)
    have q0 : Cert.ReferenceIdeal.Codes.X0 (launchContents m' c) = aX m c := e0
    have q1 : Cert.ReferenceIdeal.Codes.X1 (launchContents m' c) = aK m c := e1
    have q2 : Cert.ReferenceIdeal.Codes.X2 (launchContents m' c) = aV m c := e2
    have q3 : Cert.ReferenceIdeal.Codes.X3 (launchContents m' c) = aU m c := e3
    have q4 : Cert.ReferenceIdeal.Codes.X4 (launchContents m' c) = aS m c := e4
    refine ⟨?_, ?_, ?_, ?_, ?_, ?_, (h c).2.2.2.2.2.2⟩
    · refine (h c).1.trans ((Cert.ReferenceIdeal.Out.out_apply (launchContents m' c) ?_ ?_).trans (by rw [q0, q1, q2, q3, q4]))
      · unfold Cert.ReferenceIdeal.Out.FinX; rw [q0]; exact b0
      · unfold Cert.ReferenceIdeal.Out.FinK; rw [q1]; exact b1
    · refine (h c).2.1.trans ((Cert.ReferenceIdeal.Codes.codes32 (launchContents m' c) ?_).trans (by rw [q0]))
      rw [q0]; exact fun b n hh d => b0 _
    · refine (h c).2.2.1.trans ((Cert.ReferenceIdeal.Codes.scale32 (launchContents m' c) ?_).trans (congrArg G7 q0))
      rw [q0]; exact fun b n hh d => b0 _
    · refine (h c).2.2.2.1.trans ((Cert.ReferenceIdeal.Codes.codes8 (launchContents m' c) ?_).trans (by rw [q1]))
      rw [q1]; exact fun b n hh d => b1 _
    · refine (h c).2.2.2.2.1.trans ((Cert.ReferenceIdeal.Codes.scale8 (launchContents m' c) ?_).trans (congrArg G9 q1))
      rw [q1]; exact fun b n hh d => b1 _
    · exact (h c).2.2.2.2.2.1.trans ((Cert.ReferenceIdeal.Codes.vcodes (launchContents m' c)).trans (by rw [q2, q3]))

theorem claim : Cert.Claim := ⟨Cert.Kernel.Gen.facts, Cert.KernelIdeal.Gen.facts, Cert.ReferenceIdeal.Gen.facts, Cert.Finite.facts,
  fun m g _ => Cert.Kernel.Run.quiescent m g,
  fun m g _ => Cert.KernelIdeal.Run.quiescent m g,
  fun m g _ => Cert.KernelIdeal.Run.quiescent m g,
  fun m g _ => quiescent_ref m g,
  fun m g _ => quiescent_ref m g,
  ⟨IdealRules.named_const.statement Cert.KernelIdeal.κ "sm_log2e" .f32 0x3E0293EE#32 _ rfl,
  IdealRules.named_const.statement Cert.KernelIdeal.κ "log2e" .f32 0x3FB8AA3B#32 _ rfl⟩,
  algebraic⟩

end Cert.Proof

end
